-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Kernel10Ideal_finite [hPre_finite : Cert.Pre_finite.Facts] (m : (ℓ : Loc Cert.Kernel10Ideal.nD Cert.Kernel10Ideal.τ Cert.Kernel10Ideal.sig) → Buf (Elt Ideal) ℓ) : Prop :=
  ∀ c : Dev Cert.Kernel10Ideal.nD,
    (Cert.Pre_finite.fn (F := Ideal) (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg1)) (m ((c.tc : Thread Cert.Kernel10Ideal.nD Cert.Kernel10Ideal.τ).loc Cert.Kernel10Ideal.main_arg2)) (m ((c.tc : Thread Cert.Kernel10Ideal.nD Cert.Kernel10Ideal.τ).loc Cert.Kernel10Ideal.main_arg3)) (m ((c.tc : Thread Cert.Kernel10Ideal.nD Cert.Kernel10Ideal.τ).loc Cert.Kernel10Ideal.main_arg4)) (m ((c.tc : Thread Cert.Kernel10Ideal.nD Cert.Kernel10Ideal.τ).loc Cert.Kernel10Ideal.main_arg5))).1 = (fun _ => 1#1)
    ∧ (Cert.Pre_finite.fn (F := Ideal) (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg1)) (m ((c.tc : Thread Cert.Kernel10Ideal.nD Cert.Kernel10Ideal.τ).loc Cert.Kernel10Ideal.main_arg2)) (m ((c.tc : Thread Cert.Kernel10Ideal.nD Cert.Kernel10Ideal.τ).loc Cert.Kernel10Ideal.main_arg3)) (m ((c.tc : Thread Cert.Kernel10Ideal.nD Cert.Kernel10Ideal.τ).loc Cert.Kernel10Ideal.main_arg4)) (m ((c.tc : Thread Cert.Kernel10Ideal.nD Cert.Kernel10Ideal.τ).loc Cert.Kernel10Ideal.main_arg5))).2.1 = (fun _ => 1#1)
    ∧ (Cert.Pre_finite.fn (F := Ideal) (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg1)) (m ((c.tc : Thread Cert.Kernel10Ideal.nD Cert.Kernel10Ideal.τ).loc Cert.Kernel10Ideal.main_arg2)) (m ((c.tc : Thread Cert.Kernel10Ideal.nD Cert.Kernel10Ideal.τ).loc Cert.Kernel10Ideal.main_arg3)) (m ((c.tc : Thread Cert.Kernel10Ideal.nD Cert.Kernel10Ideal.τ).loc Cert.Kernel10Ideal.main_arg4)) (m ((c.tc : Thread Cert.Kernel10Ideal.nD Cert.Kernel10Ideal.τ).loc Cert.Kernel10Ideal.main_arg5))).2.2 = (fun _ => 1#1)

def Pre_Reference10Ideal (m : (ℓ : Loc Cert.Reference10Ideal.nD Cert.Reference10Ideal.τ Cert.Reference10Ideal.sig) → Buf (Elt Ideal) ℓ) : Prop :=
  True

def Pre_Reference10Ideal_finite [hPre_finite : Cert.Pre_finite.Facts] (m : (ℓ : Loc Cert.Reference10Ideal.nD Cert.Reference10Ideal.τ Cert.Reference10Ideal.sig) → Buf (Elt Ideal) ℓ) : Prop :=
  ∀ c : Dev Cert.Reference10Ideal.nD,
    (Cert.Pre_finite.fn (F := Ideal) (m ((c.tc : Thread Cert.Reference10Ideal.nD Cert.Reference10Ideal.τ).loc Cert.Reference10Ideal.main_arg0)) (m ((c.tc : Thread Cert.Reference10Ideal.nD Cert.Reference10Ideal.τ).loc Cert.Reference10Ideal.main_arg1)) (m ((c.tc : Thread Cert.Reference10Ideal.nD Cert.Reference10Ideal.τ).loc Cert.Reference10Ideal.main_arg2)) (m ((c.tc : Thread Cert.Reference10Ideal.nD Cert.Reference10Ideal.τ).loc Cert.Reference10Ideal.main_arg3)) (m ((c.tc : Thread Cert.Reference10Ideal.nD Cert.Reference10Ideal.τ).loc Cert.Reference10Ideal.main_arg4)) (m ((c.tc : Thread Cert.Reference10Ideal.nD Cert.Reference10Ideal.τ).loc Cert.Reference10Ideal.main_arg5))).1 = (fun _ => 1#1)
    ∧ (Cert.Pre_finite.fn (F := Ideal) (m ((c.tc : Thread Cert.Reference10Ideal.nD Cert.Reference10Ideal.τ).loc Cert.Reference10Ideal.main_arg0)) (m ((c.tc : Thread Cert.Reference10Ideal.nD Cert.Reference10Ideal.τ).loc Cert.Reference10Ideal.main_arg1)) (m ((c.tc : Thread Cert.Reference10Ideal.nD Cert.Reference10Ideal.τ).loc Cert.Reference10Ideal.main_arg2)) (m ((c.tc : Thread Cert.Reference10Ideal.nD Cert.Reference10Ideal.τ).loc Cert.Reference10Ideal.main_arg3)) (m ((c.tc : Thread Cert.Reference10Ideal.nD Cert.Reference10Ideal.τ).loc Cert.Reference10Ideal.main_arg4)) (m ((c.tc : Thread Cert.Reference10Ideal.nD Cert.Reference10Ideal.τ).loc Cert.Reference10Ideal.main_arg5))).2.1 = (fun _ => 1#1)
    ∧ (Cert.Pre_finite.fn (F := Ideal) (m ((c.tc : Thread Cert.Reference10Ideal.nD Cert.Reference10Ideal.τ).loc Cert.Reference10Ideal.main_arg0)) (m ((c.tc : Thread Cert.Reference10Ideal.nD Cert.Reference10Ideal.τ).loc Cert.Reference10Ideal.main_arg1)) (m ((c.tc : Thread Cert.Reference10Ideal.nD Cert.Reference10Ideal.τ).loc Cert.Reference10Ideal.main_arg2)) (m ((c.tc : Thread Cert.Reference10Ideal.nD Cert.Reference10Ideal.τ).loc Cert.Reference10Ideal.main_arg3)) (m ((c.tc : Thread Cert.Reference10Ideal.nD Cert.Reference10Ideal.τ).loc Cert.Reference10Ideal.main_arg4)) (m ((c.tc : Thread Cert.Reference10Ideal.nD Cert.Reference10Ideal.τ).loc Cert.Reference10Ideal.main_arg5))).2.2 = (fun _ => 1#1)

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5)
      ∧ r.2.mem ((c.tc : Thread Cert.Kernel7.nD Cert.Kernel7.τ).loc Cert.Kernel7.main_arg6) = m ((c.tc : Thread Cert.Kernel7.nD Cert.Kernel7.τ).loc Cert.Kernel7.main_arg6)
      ∧ r.2.mem ((c.tc : Thread Cert.Kernel7.nD Cert.Kernel7.τ).loc Cert.Kernel7.main_arg7) = m ((c.tc : Thread Cert.Kernel7.nD Cert.Kernel7.τ).loc Cert.Kernel7.main_arg7)
      ∧ r.2.mem ((c.tc : Thread Cert.Kernel7.nD Cert.Kernel7.τ).loc Cert.Kernel7.main_arg8) = m ((c.tc : Thread Cert.Kernel7.nD Cert.Kernel7.τ).loc Cert.Kernel7.main_arg8)
      ∧ r.2.mem ((c.tc : Thread Cert.Kernel7.nD Cert.Kernel7.τ).loc Cert.Kernel7.main_arg9) = m ((c.tc : Thread Cert.Kernel7.nD Cert.Kernel7.τ).loc Cert.Kernel7.main_arg9))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
      ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7)
      ∧ r.2.mem ((c.tc : Thread Cert.Kernel7Ideal.nD Cert.Kernel7Ideal.τ).loc Cert.Kernel7Ideal.main_arg8) = m ((c.tc : Thread Cert.Kernel7Ideal.nD Cert.Kernel7Ideal.τ).loc Cert.Kernel7Ideal.main_arg8)
      ∧ r.2.mem ((c.tc : Thread Cert.Kernel7Ideal.nD Cert.Kernel7Ideal.τ).loc Cert.Kernel7Ideal.main_arg9) = m ((c.tc : Thread Cert.Kernel7Ideal.nD Cert.Kernel7Ideal.τ).loc Cert.Kernel7Ideal.main_arg9))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6)
      ∧ r.2.mem ((c.tc : Thread Cert.Reference7Ideal.nD Cert.Reference7Ideal.τ).loc Cert.Reference7Ideal.main_arg7) = m ((c.tc : Thread Cert.Reference7Ideal.nD Cert.Reference7Ideal.τ).loc Cert.Reference7Ideal.main_arg7)
      ∧ r.2.mem ((c.tc : Thread Cert.Reference7Ideal.nD Cert.Reference7Ideal.τ).loc Cert.Reference7Ideal.main_arg8) = m ((c.tc : Thread Cert.Reference7Ideal.nD Cert.Reference7Ideal.τ).loc Cert.Reference7Ideal.main_arg8)
      ∧ r.2.mem ((c.tc : Thread Cert.Reference7Ideal.nD Cert.Reference7Ideal.τ).loc Cert.Reference7Ideal.main_arg9) = m ((c.tc : Thread Cert.Reference7Ideal.nD Cert.Reference7Ideal.τ).loc Cert.Reference7Ideal.main_arg9))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4)
      ∧ r.2.mem ((c.tc : Thread Cert.Kernel8.nD Cert.Kernel8.τ).loc Cert.Kernel8.main_arg5) = m ((c.tc : Thread Cert.Kernel8.nD Cert.Kernel8.τ).loc Cert.Kernel8.main_arg5))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3)
      ∧ r.2.mem ((c.tc : Thread Cert.Kernel10.nD Cert.Kernel10.τ).loc Cert.Kernel10.main_arg4) = m ((c.tc : Thread Cert.Kernel10.nD Cert.Kernel10.τ).loc Cert.Kernel10.main_arg4)
      ∧ r.2.mem ((c.tc : Thread Cert.Kernel10.nD Cert.Kernel10.τ).loc Cert.Kernel10.main_arg5) = m ((c.tc : Thread Cert.Kernel10.nD Cert.Kernel10.τ).loc Cert.Kernel10.main_arg5))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
      ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5))
      ∧ r.2.sem = fun _ => 0)

def quiescent_Kernel10Ideal_pre_finite [hKernel10Ideal : Cert.Kernel10Ideal.Facts] [hPre_finite : Cert.Pre_finite.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal_finite m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
      ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4)
      ∧ r.2.mem ((c.tc : Thread Cert.Reference10Ideal.nD Cert.Reference10Ideal.τ).loc Cert.Reference10Ideal.main_arg5) = m ((c.tc : Thread Cert.Reference10Ideal.nD Cert.Reference10Ideal.τ).loc Cert.Reference10Ideal.main_arg5))
      ∧ r.2.sem = fun _ => 0)

def quiescent_Reference10Ideal_pre_finite [hReference10Ideal : Cert.Reference10Ideal.Facts] [hPre_finite : Cert.Pre_finite.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal_finite m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4)
      ∧ r.2.mem ((c.tc : Thread Cert.Reference10Ideal.nD Cert.Reference10Ideal.τ).loc Cert.Reference10Ideal.main_arg5) = m ((c.tc : Thread Cert.Reference10Ideal.nD Cert.Reference10Ideal.τ).loc Cert.Reference10Ideal.main_arg5))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2)
      ∧ r.2.mem ((c.tc : Thread Cert.Kernel16.nD Cert.Kernel16.τ).loc Cert.Kernel16.main_arg3) = m ((c.tc : Thread Cert.Kernel16.nD Cert.Kernel16.τ).loc Cert.Kernel16.main_arg3)
      ∧ r.2.mem ((c.tc : Thread Cert.Kernel16.nD Cert.Kernel16.τ).loc Cert.Kernel16.main_arg4) = m ((c.tc : Thread Cert.Kernel16.nD Cert.Kernel16.τ).loc Cert.Kernel16.main_arg4)
      ∧ r.2.mem ((c.tc : Thread Cert.Kernel16.nD Cert.Kernel16.τ).loc Cert.Kernel16.main_arg5) = m ((c.tc : Thread Cert.Kernel16.nD Cert.Kernel16.τ).loc Cert.Kernel16.main_arg5)
      ∧ r.2.mem ((c.tc : Thread Cert.Kernel16.nD Cert.Kernel16.τ).loc Cert.Kernel16.main_arg6) = m ((c.tc : Thread Cert.Kernel16.nD Cert.Kernel16.τ).loc Cert.Kernel16.main_arg6)
      ∧ r.2.mem ((c.tc : Thread Cert.Kernel16.nD Cert.Kernel16.τ).loc Cert.Kernel16.main_arg7) = m ((c.tc : Thread Cert.Kernel16.nD Cert.Kernel16.τ).loc Cert.Kernel16.main_arg7))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3)
      ∧ r.2.mem ((c.tc : Thread Cert.Kernel16Ideal.nD Cert.Kernel16Ideal.τ).loc Cert.Kernel16Ideal.main_arg4) = m ((c.tc : Thread Cert.Kernel16Ideal.nD Cert.Kernel16Ideal.τ).loc Cert.Kernel16Ideal.main_arg4)
      ∧ r.2.mem ((c.tc : Thread Cert.Kernel16Ideal.nD Cert.Kernel16Ideal.τ).loc Cert.Kernel16Ideal.main_arg5) = m ((c.tc : Thread Cert.Kernel16Ideal.nD Cert.Kernel16Ideal.τ).loc Cert.Kernel16Ideal.main_arg5)
      ∧ r.2.mem ((c.tc : Thread Cert.Kernel16Ideal.nD Cert.Kernel16Ideal.τ).loc Cert.Kernel16Ideal.main_arg6) = m ((c.tc : Thread Cert.Kernel16Ideal.nD Cert.Kernel16Ideal.τ).loc Cert.Kernel16Ideal.main_arg6)
      ∧ r.2.mem ((c.tc : Thread Cert.Kernel16Ideal.nD Cert.Kernel16Ideal.τ).loc Cert.Kernel16Ideal.main_arg7) = m ((c.tc : Thread Cert.Kernel16Ideal.nD Cert.Kernel16Ideal.τ).loc Cert.Kernel16Ideal.main_arg7))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3)
      ∧ r.2.mem ((c.tc : Thread Cert.Reference16Ideal.nD Cert.Reference16Ideal.τ).loc Cert.Reference16Ideal.main_arg4) = m ((c.tc : Thread Cert.Reference16Ideal.nD Cert.Reference16Ideal.τ).loc Cert.Reference16Ideal.main_arg4)
      ∧ r.2.mem ((c.tc : Thread Cert.Reference16Ideal.nD Cert.Reference16Ideal.τ).loc Cert.Reference16Ideal.main_arg5) = m ((c.tc : Thread Cert.Reference16Ideal.nD Cert.Reference16Ideal.τ).loc Cert.Reference16Ideal.main_arg5)
      ∧ r.2.mem ((c.tc : Thread Cert.Reference16Ideal.nD Cert.Reference16Ideal.τ).loc Cert.Reference16Ideal.main_arg6) = m ((c.tc : Thread Cert.Reference16Ideal.nD Cert.Reference16Ideal.τ).loc Cert.Reference16Ideal.main_arg6)
      ∧ r.2.mem ((c.tc : Thread Cert.Reference16Ideal.nD Cert.Reference16Ideal.τ).loc Cert.Reference16Ideal.main_arg7) = m ((c.tc : Thread Cert.Reference16Ideal.nD Cert.Reference16Ideal.τ).loc Cert.Reference16Ideal.main_arg7))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)) (v4 : (c : Dev Cert.KernelIdeal.nD) → Buf (Elt Ideal) ((c.tc : Thread Cert.KernelIdeal.nD Cert.KernelIdeal.τ).loc Cert.KernelIdeal.main_v0_4)) (v5 : (c : Dev Cert.KernelIdeal.nD) → Buf (Elt Ideal) ((c.tc : Thread Cert.KernelIdeal.nD Cert.KernelIdeal.τ).loc Cert.KernelIdeal.main_v0_5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_v0_3) = v3 c
          ∧ r.2.mem ((c.tc : Thread Cert.KernelIdeal.nD Cert.KernelIdeal.τ).loc Cert.KernelIdeal.main_v0_4) = v4 c
          ∧ r.2.mem ((c.tc : Thread Cert.KernelIdeal.nD Cert.KernelIdeal.τ).loc Cert.KernelIdeal.main_v0_5) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_v37) = v1 c
          ∧ r.2.mem ((c.tc : Thread Cert.ReferenceIdeal.nD Cert.ReferenceIdeal.τ).loc Cert.ReferenceIdeal.main_v39) = v2 c
          ∧ r.2.mem ((c.tc : Thread Cert.ReferenceIdeal.nD Cert.ReferenceIdeal.τ).loc Cert.ReferenceIdeal.main_v41) = v3 c
          ∧ r.2.mem ((c.tc : Thread Cert.ReferenceIdeal.nD Cert.ReferenceIdeal.τ).loc Cert.ReferenceIdeal.main_v44) = v4 c
          ∧ r.2.mem ((c.tc : Thread Cert.ReferenceIdeal.nD Cert.ReferenceIdeal.τ).loc Cert.ReferenceIdeal.main_v33) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v1)) (v1 : (c : Dev Cert.Kernel2Ideal.nD) → Buf (Elt Ideal) ((c.tc : Thread Cert.Kernel2Ideal.nD Cert.Kernel2Ideal.τ).loc Cert.Kernel2Ideal.main_v3)) (v2 : (c : Dev Cert.Kernel2Ideal.nD) → Buf (Elt Ideal) ((c.tc : Thread Cert.Kernel2Ideal.nD Cert.Kernel2Ideal.τ).loc Cert.Kernel2Ideal.main_v2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v1) = v0 c
          ∧ r.2.mem ((c.tc : Thread Cert.Kernel2Ideal.nD Cert.Kernel2Ideal.τ).loc Cert.Kernel2Ideal.main_v3) = v1 c
          ∧ r.2.mem ((c.tc : Thread Cert.Kernel2Ideal.nD Cert.Kernel2Ideal.τ).loc Cert.Kernel2Ideal.main_v2) = v2 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v18) = v0 c
          ∧ r.2.mem ((c.tc : Thread Cert.Reference2Ideal.nD Cert.Reference2Ideal.τ).loc Cert.Reference2Ideal.main_v20) = v1 c
          ∧ r.2.mem ((c.tc : Thread Cert.Reference2Ideal.nD Cert.Reference2Ideal.τ).loc Cert.Reference2Ideal.main_v13) = v2 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v4) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)) →
    ∃ (v0 : (c : Dev Cert.Kernel4Ideal.nD) → Buf (Elt Ideal) ((c.tc : Thread Cert.Kernel4Ideal.nD Cert.Kernel4Ideal.τ).loc Cert.Kernel4Ideal.main_v0)) (v1 : (c : Dev Cert.Kernel4Ideal.nD) → Buf (Elt Ideal) ((c.tc : Thread Cert.Kernel4Ideal.nD Cert.Kernel4Ideal.τ).loc Cert.Kernel4Ideal.main_v1)) (v2 : (c : Dev Cert.Kernel4Ideal.nD) → Buf (Elt Ideal) ((c.tc : Thread Cert.Kernel4Ideal.nD Cert.Kernel4Ideal.τ).loc Cert.Kernel4Ideal.main_v2)) (v3 : (c : Dev Cert.Kernel4Ideal.nD) → Buf (Elt Ideal) ((c.tc : Thread Cert.Kernel4Ideal.nD Cert.Kernel4Ideal.τ).loc Cert.Kernel4Ideal.main_v3)) (v4 : (c : Dev Cert.Kernel4Ideal.nD) → Buf (Elt Ideal) ((c.tc : Thread Cert.Kernel4Ideal.nD Cert.Kernel4Ideal.τ).loc Cert.Kernel4Ideal.main_v4)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_v1) = v1 c
          ∧ r.2.mem ((c.tc : Thread Cert.Kernel4Ideal.nD Cert.Kernel4Ideal.τ).loc Cert.Kernel4Ideal.main_v2) = v2 c
          ∧ r.2.mem ((c.tc : Thread Cert.Kernel4Ideal.nD Cert.Kernel4Ideal.τ).loc Cert.Kernel4Ideal.main_v3) = v3 c
          ∧ r.2.mem ((c.tc : Thread Cert.Kernel4Ideal.nD Cert.Kernel4Ideal.τ).loc Cert.Kernel4Ideal.main_v4) = v4 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v2) = v0 c
          ∧ r.2.mem ((c.tc : Thread Cert.Reference4Ideal.nD Cert.Reference4Ideal.τ).loc Cert.Reference4Ideal.main_v6) = v1 c
          ∧ r.2.mem ((c.tc : Thread Cert.Reference4Ideal.nD Cert.Reference4Ideal.τ).loc Cert.Reference4Ideal.main_v10) = v2 c
          ∧ r.2.mem ((c.tc : Thread Cert.Reference4Ideal.nD Cert.Reference4Ideal.τ).loc Cert.Reference4Ideal.main_v8) = v3 c
          ∧ r.2.mem ((c.tc : Thread Cert.Reference4Ideal.nD Cert.Reference4Ideal.τ).loc Cert.Reference4Ideal.main_v13) = v4 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v4) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v3) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)
      ∧ m' ((c.tc : Thread Cert.Reference7Ideal.nD Cert.Reference7Ideal.τ).loc Cert.Reference7Ideal.main_arg6) = m ((c.tc : Thread Cert.Kernel7Ideal.nD Cert.Kernel7Ideal.τ).loc Cert.Kernel7Ideal.main_arg6)
      ∧ m' ((c.tc : Thread Cert.Reference7Ideal.nD Cert.Reference7Ideal.τ).loc Cert.Reference7Ideal.main_arg7) = m ((c.tc : Thread Cert.Kernel7Ideal.nD Cert.Kernel7Ideal.τ).loc Cert.Kernel7Ideal.main_arg7)
      ∧ m' ((c.tc : Thread Cert.Reference7Ideal.nD Cert.Reference7Ideal.τ).loc Cert.Reference7Ideal.main_arg8) = m ((c.tc : Thread Cert.Kernel7Ideal.nD Cert.Kernel7Ideal.τ).loc Cert.Kernel7Ideal.main_arg8)
      ∧ m' ((c.tc : Thread Cert.Reference7Ideal.nD Cert.Reference7Ideal.τ).loc Cert.Reference7Ideal.main_arg9) = m ((c.tc : Thread Cert.Kernel7Ideal.nD Cert.Kernel7Ideal.τ).loc Cert.Kernel7Ideal.main_arg9)) →
    ∃ (v0 : (c : Dev Cert.Kernel7Ideal.nD) → Buf (Elt Ideal) ((c.tc : Thread Cert.Kernel7Ideal.nD Cert.Kernel7Ideal.τ).loc Cert.Kernel7Ideal.main_v0_0)) (v1 : (c : Dev Cert.Kernel7Ideal.nD) → Buf (Elt Ideal) ((c.tc : Thread Cert.Kernel7Ideal.nD Cert.Kernel7Ideal.τ).loc Cert.Kernel7Ideal.main_v0_1)) (v2 : (c : Dev Cert.Kernel7Ideal.nD) → Buf (Elt Ideal) ((c.tc : Thread Cert.Kernel7Ideal.nD Cert.Kernel7Ideal.τ).loc Cert.Kernel7Ideal.main_v0_2)) (v3 : (c : Dev Cert.Kernel7Ideal.nD) → Buf (Elt Ideal) ((c.tc : Thread Cert.Kernel7Ideal.nD Cert.Kernel7Ideal.τ).loc Cert.Kernel7Ideal.main_v0_3)) (v4 : (c : Dev Cert.Kernel7Ideal.nD) → Buf (Elt Ideal) ((c.tc : Thread Cert.Kernel7Ideal.nD Cert.Kernel7Ideal.τ).loc Cert.Kernel7Ideal.main_v0_4)) (v5 : (c : Dev Cert.Kernel7Ideal.nD) → Buf (Elt Ideal) ((c.tc : Thread Cert.Kernel7Ideal.nD Cert.Kernel7Ideal.τ).loc Cert.Kernel7Ideal.main_v0_5)) (v6 : (c : Dev Cert.Kernel7Ideal.nD) → Buf (Elt Ideal) ((c.tc : Thread Cert.Kernel7Ideal.nD Cert.Kernel7Ideal.τ).loc Cert.Kernel7Ideal.main_v0_6)) (v7 : (c : Dev Cert.Kernel7Ideal.nD) → Buf (Elt Ideal) ((c.tc : Thread Cert.Kernel7Ideal.nD Cert.Kernel7Ideal.τ).loc Cert.Kernel7Ideal.main_v0_7)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0_0) = v0 c
          ∧ r.2.mem ((c.tc : Thread Cert.Kernel7Ideal.nD Cert.Kernel7Ideal.τ).loc Cert.Kernel7Ideal.main_v0_1) = v1 c
          ∧ r.2.mem ((c.tc : Thread Cert.Kernel7Ideal.nD Cert.Kernel7Ideal.τ).loc Cert.Kernel7Ideal.main_v0_2) = v2 c
          ∧ r.2.mem ((c.tc : Thread Cert.Kernel7Ideal.nD Cert.Kernel7Ideal.τ).loc Cert.Kernel7Ideal.main_v0_3) = v3 c
          ∧ r.2.mem ((c.tc : Thread Cert.Kernel7Ideal.nD Cert.Kernel7Ideal.τ).loc Cert.Kernel7Ideal.main_v0_4) = v4 c
          ∧ r.2.mem ((c.tc : Thread Cert.Kernel7Ideal.nD Cert.Kernel7Ideal.τ).loc Cert.Kernel7Ideal.main_v0_5) = v5 c
          ∧ r.2.mem ((c.tc : Thread Cert.Kernel7Ideal.nD Cert.Kernel7Ideal.τ).loc Cert.Kernel7Ideal.main_v0_6) = v6 c
          ∧ r.2.mem ((c.tc : Thread Cert.Kernel7Ideal.nD Cert.Kernel7Ideal.τ).loc Cert.Kernel7Ideal.main_v0_7) = v7 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
          ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
          ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7)
          ∧ r.2.mem ((c.tc : Thread Cert.Kernel7Ideal.nD Cert.Kernel7Ideal.τ).loc Cert.Kernel7Ideal.main_arg8) = m ((c.tc : Thread Cert.Kernel7Ideal.nD Cert.Kernel7Ideal.τ).loc Cert.Kernel7Ideal.main_arg8)
          ∧ r.2.mem ((c.tc : Thread Cert.Kernel7Ideal.nD Cert.Kernel7Ideal.τ).loc Cert.Kernel7Ideal.main_arg9) = m ((c.tc : Thread Cert.Kernel7Ideal.nD Cert.Kernel7Ideal.τ).loc Cert.Kernel7Ideal.main_arg9))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v30) = v0 c
          ∧ r.2.mem ((c.tc : Thread Cert.Reference7Ideal.nD Cert.Reference7Ideal.τ).loc Cert.Reference7Ideal.main_v32) = v1 c
          ∧ r.2.mem ((c.tc : Thread Cert.Reference7Ideal.nD Cert.Reference7Ideal.τ).loc Cert.Reference7Ideal.main_v34) = v2 c
          ∧ r.2.mem ((c.tc : Thread Cert.Reference7Ideal.nD Cert.Reference7Ideal.τ).loc Cert.Reference7Ideal.main_v36) = v3 c
          ∧ r.2.mem ((c.tc : Thread Cert.Reference7Ideal.nD Cert.Reference7Ideal.τ).loc Cert.Reference7Ideal.main_v38) = v4 c
          ∧ r.2.mem ((c.tc : Thread Cert.Reference7Ideal.nD Cert.Reference7Ideal.τ).loc Cert.Reference7Ideal.main_v28) = v5 c
          ∧ r.2.mem ((c.tc : Thread Cert.Reference7Ideal.nD Cert.Reference7Ideal.τ).loc Cert.Reference7Ideal.main_v41) = v6 c
          ∧ r.2.mem ((c.tc : Thread Cert.Reference7Ideal.nD Cert.Reference7Ideal.τ).loc Cert.Reference7Ideal.main_v42) = v7 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5)
          ∧ r.2.mem ((c.tc : Thread Cert.Reference7Ideal.nD Cert.Reference7Ideal.τ).loc Cert.Reference7Ideal.main_arg6) = m' ((c.tc : Thread Cert.Reference7Ideal.nD Cert.Reference7Ideal.τ).loc Cert.Reference7Ideal.main_arg6)
          ∧ r.2.mem ((c.tc : Thread Cert.Reference7Ideal.nD Cert.Reference7Ideal.τ).loc Cert.Reference7Ideal.main_arg7) = m' ((c.tc : Thread Cert.Reference7Ideal.nD Cert.Reference7Ideal.τ).loc Cert.Reference7Ideal.main_arg7)
          ∧ r.2.mem ((c.tc : Thread Cert.Reference7Ideal.nD Cert.Reference7Ideal.τ).loc Cert.Reference7Ideal.main_arg8) = m' ((c.tc : Thread Cert.Reference7Ideal.nD Cert.Reference7Ideal.τ).loc Cert.Reference7Ideal.main_arg8)
          ∧ r.2.mem ((c.tc : Thread Cert.Reference7Ideal.nD Cert.Reference7Ideal.τ).loc Cert.Reference7Ideal.main_arg9) = m' ((c.tc : Thread Cert.Reference7Ideal.nD Cert.Reference7Ideal.τ).loc Cert.Reference7Ideal.main_arg9))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)
      ∧ m' ((c.tc : Thread Cert.Reference8Ideal.nD Cert.Reference8Ideal.τ).loc Cert.Reference8Ideal.main_arg5) = m ((c.tc : Thread Cert.Kernel8Ideal.nD Cert.Kernel8Ideal.τ).loc Cert.Kernel8Ideal.main_arg5)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
          ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v22) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4)
          ∧ r.2.mem ((c.tc : Thread Cert.Reference8Ideal.nD Cert.Reference8Ideal.τ).loc Cert.Reference8Ideal.main_arg5) = m' ((c.tc : Thread Cert.Reference8Ideal.nD Cert.Reference8Ideal.τ).loc Cert.Reference8Ideal.main_arg5))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v38) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4))

def preserves_Kernel10_Kernel10Ideal : Prop :=
  True

def algebraic_Kernel10Ideal_Reference10Ideal_pre_finite [hKernel10Ideal : Cert.Kernel10Ideal.Facts] [hReference10Ideal : Cert.Reference10Ideal.Facts] [hPre_finite : Cert.Pre_finite.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal_finite m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)
      ∧ m' ((c.tc : Thread Cert.Reference10Ideal.nD Cert.Reference10Ideal.τ).loc Cert.Reference10Ideal.main_arg4) = m ((c.tc : Thread Cert.Kernel10Ideal.nD Cert.Kernel10Ideal.τ).loc Cert.Kernel10Ideal.main_arg4)
      ∧ m' ((c.tc : Thread Cert.Reference10Ideal.nD Cert.Reference10Ideal.τ).loc Cert.Reference10Ideal.main_arg5) = m ((c.tc : Thread Cert.Kernel10Ideal.nD Cert.Kernel10Ideal.τ).loc Cert.Kernel10Ideal.main_arg5)) →
    ∃ (v0 : (c : Dev Cert.Kernel10Ideal.nD) → Buf (Elt Ideal) ((c.tc : Thread Cert.Kernel10Ideal.nD Cert.Kernel10Ideal.τ).loc Cert.Kernel10Ideal.main_v0_0)) (v1 : (c : Dev Cert.Kernel10Ideal.nD) → Buf (Elt Ideal) ((c.tc : Thread Cert.Kernel10Ideal.nD Cert.Kernel10Ideal.τ).loc Cert.Kernel10Ideal.main_v0_1)) (v2 : (c : Dev Cert.Kernel10Ideal.nD) → Buf (Elt Ideal) ((c.tc : Thread Cert.Kernel10Ideal.nD Cert.Kernel10Ideal.τ).loc Cert.Kernel10Ideal.main_v0_2)) (v3 : (c : Dev Cert.Kernel10Ideal.nD) → Buf (Elt Ideal) ((c.tc : Thread Cert.Kernel10Ideal.nD Cert.Kernel10Ideal.τ).loc Cert.Kernel10Ideal.main_v0_3)) (v4 : (c : Dev Cert.Kernel10Ideal.nD) → Buf (Elt Ideal) ((c.tc : Thread Cert.Kernel10Ideal.nD Cert.Kernel10Ideal.τ).loc Cert.Kernel10Ideal.main_v0_4)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0_0) = v0 c
          ∧ r.2.mem ((c.tc : Thread Cert.Kernel10Ideal.nD Cert.Kernel10Ideal.τ).loc Cert.Kernel10Ideal.main_v0_1) = v1 c
          ∧ r.2.mem ((c.tc : Thread Cert.Kernel10Ideal.nD Cert.Kernel10Ideal.τ).loc Cert.Kernel10Ideal.main_v0_2) = v2 c
          ∧ r.2.mem ((c.tc : Thread Cert.Kernel10Ideal.nD Cert.Kernel10Ideal.τ).loc Cert.Kernel10Ideal.main_v0_3) = v3 c
          ∧ r.2.mem ((c.tc : Thread Cert.Kernel10Ideal.nD Cert.Kernel10Ideal.τ).loc Cert.Kernel10Ideal.main_v0_4) = v4 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
          ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
          ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v112) = v0 c
          ∧ r.2.mem ((c.tc : Thread Cert.Reference10Ideal.nD Cert.Reference10Ideal.τ).loc Cert.Reference10Ideal.main_v88) = v1 c
          ∧ r.2.mem ((c.tc : Thread Cert.Reference10Ideal.nD Cert.Reference10Ideal.τ).loc Cert.Reference10Ideal.main_v95) = v2 c
          ∧ r.2.mem ((c.tc : Thread Cert.Reference10Ideal.nD Cert.Reference10Ideal.τ).loc Cert.Reference10Ideal.main_v91) = v3 c
          ∧ r.2.mem ((c.tc : Thread Cert.Reference10Ideal.nD Cert.Reference10Ideal.τ).loc Cert.Reference10Ideal.main_v61) = v4 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3)
          ∧ r.2.mem ((c.tc : Thread Cert.Reference10Ideal.nD Cert.Reference10Ideal.τ).loc Cert.Reference10Ideal.main_arg4) = m' ((c.tc : Thread Cert.Reference10Ideal.nD Cert.Reference10Ideal.τ).loc Cert.Reference10Ideal.main_arg4)
          ∧ r.2.mem ((c.tc : Thread Cert.Reference10Ideal.nD Cert.Reference10Ideal.τ).loc Cert.Reference10Ideal.main_arg5) = m' ((c.tc : Thread Cert.Reference10Ideal.nD Cert.Reference10Ideal.τ).loc Cert.Reference10Ideal.main_arg5))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v13) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)) →
    ∃ (v0 : (c : Dev Cert.Kernel12Ideal.nD) → Buf (Elt Ideal) ((c.tc : Thread Cert.Kernel12Ideal.nD Cert.Kernel12Ideal.τ).loc Cert.Kernel12Ideal.main_v0_0)) (v1 : (c : Dev Cert.Kernel12Ideal.nD) → Buf (Elt Ideal) ((c.tc : Thread Cert.Kernel12Ideal.nD Cert.Kernel12Ideal.τ).loc Cert.Kernel12Ideal.main_v0_1)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0_0) = v0 c
          ∧ r.2.mem ((c.tc : Thread Cert.Kernel12Ideal.nD Cert.Kernel12Ideal.τ).loc Cert.Kernel12Ideal.main_v0_1) = v1 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v19) = v0 c
          ∧ r.2.mem ((c.tc : Thread Cert.Reference12Ideal.nD Cert.Reference12Ideal.τ).loc Cert.Reference12Ideal.main_v15) = v1 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v0)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v12) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)) →
    ∃ (v0 : (c : Dev Cert.Kernel14Ideal.nD) → Buf (Elt Ideal) ((c.tc : Thread Cert.Kernel14Ideal.nD Cert.Kernel14Ideal.τ).loc Cert.Kernel14Ideal.main_v0_0)) (v1 : (c : Dev Cert.Kernel14Ideal.nD) → Buf (Elt Ideal) ((c.tc : Thread Cert.Kernel14Ideal.nD Cert.Kernel14Ideal.τ).loc Cert.Kernel14Ideal.main_v0_1)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0_0) = v0 c
          ∧ r.2.mem ((c.tc : Thread Cert.Kernel14Ideal.nD Cert.Kernel14Ideal.τ).loc Cert.Kernel14Ideal.main_v0_1) = v1 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v34) = v0 c
          ∧ r.2.mem ((c.tc : Thread Cert.Reference14Ideal.nD Cert.Reference14Ideal.τ).loc Cert.Reference14Ideal.main_v17) = v1 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)) →
    ∃ (v0 : (c : Dev Cert.Kernel15Ideal.nD) → Buf (Elt Ideal) ((c.tc : Thread Cert.Kernel15Ideal.nD Cert.Kernel15Ideal.τ).loc Cert.Kernel15Ideal.main_v0_0)) (v1 : (c : Dev Cert.Kernel15Ideal.nD) → Buf (Elt Ideal) ((c.tc : Thread Cert.Kernel15Ideal.nD Cert.Kernel15Ideal.τ).loc Cert.Kernel15Ideal.main_v0_1)) (v2 : (c : Dev Cert.Kernel15Ideal.nD) → Buf (Elt Ideal) ((c.tc : Thread Cert.Kernel15Ideal.nD Cert.Kernel15Ideal.τ).loc Cert.Kernel15Ideal.main_v0_2)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0_0) = v0 c
          ∧ r.2.mem ((c.tc : Thread Cert.Kernel15Ideal.nD Cert.Kernel15Ideal.τ).loc Cert.Kernel15Ideal.main_v0_1) = v1 c
          ∧ r.2.mem ((c.tc : Thread Cert.Kernel15Ideal.nD Cert.Kernel15Ideal.τ).loc Cert.Kernel15Ideal.main_v0_2) = v2 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v49) = v0 c
          ∧ r.2.mem ((c.tc : Thread Cert.Reference15Ideal.nD Cert.Reference15Ideal.τ).loc Cert.Reference15Ideal.main_v48) = v1 c
          ∧ r.2.mem ((c.tc : Thread Cert.Reference15Ideal.nD Cert.Reference15Ideal.τ).loc Cert.Reference15Ideal.main_v32) = v2 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)
      ∧ m' ((c.tc : Thread Cert.Reference16Ideal.nD Cert.Reference16Ideal.τ).loc Cert.Reference16Ideal.main_arg3) = m ((c.tc : Thread Cert.Kernel16Ideal.nD Cert.Kernel16Ideal.τ).loc Cert.Kernel16Ideal.main_arg3)
      ∧ m' ((c.tc : Thread Cert.Reference16Ideal.nD Cert.Reference16Ideal.τ).loc Cert.Reference16Ideal.main_arg4) = m ((c.tc : Thread Cert.Kernel16Ideal.nD Cert.Kernel16Ideal.τ).loc Cert.Kernel16Ideal.main_arg4)
      ∧ m' ((c.tc : Thread Cert.Reference16Ideal.nD Cert.Reference16Ideal.τ).loc Cert.Reference16Ideal.main_arg5) = m ((c.tc : Thread Cert.Kernel16Ideal.nD Cert.Kernel16Ideal.τ).loc Cert.Kernel16Ideal.main_arg5)
      ∧ m' ((c.tc : Thread Cert.Reference16Ideal.nD Cert.Reference16Ideal.τ).loc Cert.Reference16Ideal.main_arg6) = m ((c.tc : Thread Cert.Kernel16Ideal.nD Cert.Kernel16Ideal.τ).loc Cert.Kernel16Ideal.main_arg6)
      ∧ m' ((c.tc : Thread Cert.Reference16Ideal.nD Cert.Reference16Ideal.τ).loc Cert.Reference16Ideal.main_arg7) = m ((c.tc : Thread Cert.Kernel16Ideal.nD Cert.Kernel16Ideal.τ).loc Cert.Kernel16Ideal.main_arg7)) →
    ∃ (v0 : (c : Dev Cert.Kernel16Ideal.nD) → Buf (Elt Ideal) ((c.tc : Thread Cert.Kernel16Ideal.nD Cert.Kernel16Ideal.τ).loc Cert.Kernel16Ideal.main_v0_0)) (v1 : (c : Dev Cert.Kernel16Ideal.nD) → Buf (Elt Ideal) ((c.tc : Thread Cert.Kernel16Ideal.nD Cert.Kernel16Ideal.τ).loc Cert.Kernel16Ideal.main_v0_1)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0_0) = v0 c
          ∧ r.2.mem ((c.tc : Thread Cert.Kernel16Ideal.nD Cert.Kernel16Ideal.τ).loc Cert.Kernel16Ideal.main_v0_1) = v1 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
          ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3)
          ∧ r.2.mem ((c.tc : Thread Cert.Kernel16Ideal.nD Cert.Kernel16Ideal.τ).loc Cert.Kernel16Ideal.main_arg4) = m ((c.tc : Thread Cert.Kernel16Ideal.nD Cert.Kernel16Ideal.τ).loc Cert.Kernel16Ideal.main_arg4)
          ∧ r.2.mem ((c.tc : Thread Cert.Kernel16Ideal.nD Cert.Kernel16Ideal.τ).loc Cert.Kernel16Ideal.main_arg5) = m ((c.tc : Thread Cert.Kernel16Ideal.nD Cert.Kernel16Ideal.τ).loc Cert.Kernel16Ideal.main_arg5)
          ∧ r.2.mem ((c.tc : Thread Cert.Kernel16Ideal.nD Cert.Kernel16Ideal.τ).loc Cert.Kernel16Ideal.main_arg6) = m ((c.tc : Thread Cert.Kernel16Ideal.nD Cert.Kernel16Ideal.τ).loc Cert.Kernel16Ideal.main_arg6)
          ∧ r.2.mem ((c.tc : Thread Cert.Kernel16Ideal.nD Cert.Kernel16Ideal.τ).loc Cert.Kernel16Ideal.main_arg7) = m ((c.tc : Thread Cert.Kernel16Ideal.nD Cert.Kernel16Ideal.τ).loc Cert.Kernel16Ideal.main_arg7))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v21) = v0 c
          ∧ r.2.mem ((c.tc : Thread Cert.Reference16Ideal.nD Cert.Reference16Ideal.τ).loc Cert.Reference16Ideal.main_v18_11) = v1 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2)
          ∧ r.2.mem ((c.tc : Thread Cert.Reference16Ideal.nD Cert.Reference16Ideal.τ).loc Cert.Reference16Ideal.main_arg3) = m' ((c.tc : Thread Cert.Reference16Ideal.nD Cert.Reference16Ideal.τ).loc Cert.Reference16Ideal.main_arg3)
          ∧ r.2.mem ((c.tc : Thread Cert.Reference16Ideal.nD Cert.Reference16Ideal.τ).loc Cert.Reference16Ideal.main_arg4) = m' ((c.tc : Thread Cert.Reference16Ideal.nD Cert.Reference16Ideal.τ).loc Cert.Reference16Ideal.main_arg4)
          ∧ r.2.mem ((c.tc : Thread Cert.Reference16Ideal.nD Cert.Reference16Ideal.τ).loc Cert.Reference16Ideal.main_arg5) = m' ((c.tc : Thread Cert.Reference16Ideal.nD Cert.Reference16Ideal.τ).loc Cert.Reference16Ideal.main_arg5)
          ∧ r.2.mem ((c.tc : Thread Cert.Reference16Ideal.nD Cert.Reference16Ideal.τ).loc Cert.Reference16Ideal.main_arg6) = m' ((c.tc : Thread Cert.Reference16Ideal.nD Cert.Reference16Ideal.τ).loc Cert.Reference16Ideal.main_arg6)
          ∧ r.2.mem ((c.tc : Thread Cert.Reference16Ideal.nD Cert.Reference16Ideal.τ).loc Cert.Reference16Ideal.main_arg7) = m' ((c.tc : Thread Cert.Reference16Ideal.nD Cert.Reference16Ideal.τ).loc Cert.Reference16Ideal.main_arg7))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hPre_finite : Cert.Pre_finite.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Kernel10Ideal_pre_finite (hKernel10Ideal := hKernel10Ideal) (hPre_finite := hPre_finite)
    ∧ quiescent_Reference10Ideal (hReference10Ideal := hReference10Ideal)
    ∧ quiescent_Reference10Ideal_pre_finite (hReference10Ideal := hReference10Ideal) (hPre_finite := hPre_finite)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal_pre_finite (hKernel10Ideal := hKernel10Ideal) (hReference10Ideal := hReference10Ideal) (hPre_finite := hPre_finite)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
-- ==== Pre_finite.lean ====
abbrev S4096x1024 : Shape := ⟨2, ![4096, 1024]⟩
abbrev S256x2048 : Shape := ⟨2, ![256, 2048]⟩
abbrev S1x1024 : Shape := ⟨2, ![1, 1024]⟩
abbrev S1024x1024 : Shape := ⟨2, ![1024, 1024]⟩
abbrev S256x1024 : Shape := ⟨2, ![256, 1024]⟩
abbrev S_ : Shape := ⟨0, ![]⟩

class Facts : Prop where
  slices_S256x2048_S256x1024_0_1024 : S256x2048.Slices ![0, 1024] S256x1024
  bcast_S_S256x1024 : S_.BroadcastsInDim S256x1024 (![] : Fin 0 → Fin S256x1024.rank)
  bitsLt_bf16_f32 : FTy.bits .bf16 < FTy.bits .f32
  bcast_S_S1024x1024 : S_.BroadcastsInDim S1024x1024 (![] : Fin 0 → Fin S1024x1024.rank)
  bcast_S_S4096x1024 : S_.BroadcastsInDim S4096x1024 (![] : Fin 0 → Fin S4096x1024.rank)

variable [Facts]

def fn {F : FTy → Type} [FloatOps F] (main_arg0 : FVec F S4096x1024 .f32) (main_arg1 : FVec F S256x2048 .f32) (main_arg2 : FVec F S1x1024 .f32) (main_arg3 : FVec F S1024x1024 .bf16) (main_arg4 : FVec F S1024x1024 .bf16) (main_arg5 : FVec F S4096x1024 .f32) : IVec S256x1024 1 × IVec S1024x1024 1 × IVec S4096x1024 1 :=
  let main_v0 : FVec F S256x1024 .f32 := (extractStridedSlice S256x1024 ![0, 1024] · slices_S256x2048_S256x1024_0_1024) main_arg1
  let main_v1 : FVec F S256x1024 .f32 := Host.absf main_v0
  let main_cst : FVec F S_ .f32 := constant S_ .f32 0x7F800000#32
  let main_v2 : FVec F S256x1024 .f32 := broadcastInDim S256x1024 ![] bcast_S_S256x1024 main_cst
  let main_v3 : IVec S256x1024 1 := cmpf .olt main_v1 main_v2
  let main_v4 : FVec F S1024x1024 .f32 := (extf .f32 · bitsLt_bf16_f32) main_arg4
  let main_v5 : FVec F S1024x1024 .f32 := Host.absf main_v4
  let main_cst_0 : FVec F S_ .f32 := constant S_ .f32 0x7F800000#32
  let main_v6 : FVec F S1024x1024 .f32 := broadcastInDim S1024x1024 ![] bcast_S_S1024x1024 main_cst_0
  let main_v7 : IVec S1024x1024 1 := cmpf .olt main_v5 main_v6
  let main_v8 : FVec F S4096x1024 .f32 := Host.absf main_arg5
  let main_cst_1 : FVec F S_ .f32 := constant S_ .f32 0x7F800000#32
  let main_v9 : FVec F S4096x1024 .f32 := broadcastInDim S4096x1024 ![] bcast_S_S4096x1024 main_cst_1
  let main_v10 : IVec S4096x1024 1 := cmpf .olt main_v8 main_v9
  (main_v3, main_v7, main_v10)
-- ==== Kernel.lean ====
abbrev S4096x512 : Shape := ⟨2, ![4096, 512]⟩
abbrev S4096x8832 : Shape := ⟨2, ![4096, 8832]⟩
abbrev S4x512x1024 : Shape := ⟨3, ![4, 512, 1024]⟩
abbrev S4096x1024 : Shape := ⟨2, ![4096, 1024]⟩
abbrev S4096x4096 : Shape := ⟨2, ![4096, 4096]⟩
abbrev S256x512 : Shape := ⟨2, ![256, 512]⟩
abbrev S256x4096 : Shape := ⟨2, ![256, 4096]⟩
abbrev S256x1024 : Shape := ⟨2, ![256, 1024]⟩
abbrev S1x512x1024 : Shape := ⟨3, ![1, 512, 1024]⟩
abbrev S512x1024 : Shape := ⟨2, ![512, 1024]⟩
abbrev S256x3072 : Shape := ⟨2, ![256, 3072]⟩
abbrev S256x2048 : Shape := ⟨2, ![256, 2048]⟩
abbrev S3x512x1024 : Shape := ⟨3, ![3, 512, 1024]⟩
abbrev S2x512x1024 : Shape := ⟨3, ![2, 512, 1024]⟩

abbrev nBuf : Space → Nat
  | .hbm => 13
  | .vmem => 24
  | .smem => 0
  | _ => 0

abbrev bufTy : (tb : Table) → Fin (tcTables nBuf tb) → BufTy
  | .hbm, ⟨0, _⟩ => ⟨S4096x512, .bf16⟩
  | .hbm, ⟨1, _⟩ => ⟨S4096x512, .bf16⟩
  | .hbm, ⟨2, _⟩ => ⟨S4096x512, .bf16⟩
  | .hbm, ⟨3, _⟩ => ⟨S4096x512, .bf16⟩
  | .hbm, ⟨4, _⟩ => ⟨S4096x8832, .f32⟩
  | .hbm, ⟨5, _⟩ => ⟨S4x512x1024, .bf16⟩
  | .hbm, ⟨6, _⟩ => ⟨S4096x1024, .bf16⟩
  | .hbm, ⟨7, _⟩ => ⟨S4096x512, .f32⟩
  | .hbm, ⟨8, _⟩ => ⟨S4096x512, .f32⟩
  | .hbm, ⟨9, _⟩ => ⟨S4096x512, .f32⟩
  | .hbm, ⟨10, _⟩ => ⟨S4096x512, .f32⟩
  | .hbm, ⟨11, _⟩ => ⟨S4096x4096, .bf16⟩
  | .hbm, ⟨12, _⟩ => ⟨S4x512x1024, .f32⟩
  | .local _ .vmem, ⟨0, _⟩ => ⟨S256x512, .bf16⟩
  | .local _ .vmem, ⟨1, _⟩ => ⟨S256x512, .bf16⟩
  | .local _ .vmem, ⟨2, _⟩ => ⟨S256x512, .bf16⟩
  | .local _ .vmem, ⟨3, _⟩ => ⟨S256x512, .bf16⟩
  | .local _ .vmem, ⟨4, _⟩ => ⟨S256x512, .bf16⟩
  | .local _ .vmem, ⟨5, _⟩ => ⟨S256x512, .bf16⟩
  | .local _ .vmem, ⟨6, _⟩ => ⟨S256x512, .bf16⟩
  | .local _ .vmem, ⟨7, _⟩ => ⟨S256x512, .bf16⟩
  | .local _ .vmem, ⟨8, _⟩ => ⟨S256x4096, .f32⟩
  | .local _ .vmem, ⟨9, _⟩ => ⟨S256x4096, .f32⟩
  | .local _ .vmem, ⟨10, _⟩ => ⟨S4x512x1024, .bf16⟩
  | .local _ .vmem, ⟨11, _⟩ => ⟨S256x1024, .bf16⟩
  | .local _ .vmem, ⟨12, _⟩ => ⟨S256x1024, .bf16⟩
  | .local _ .vmem, ⟨13, _⟩ => ⟨S256x512, .f32⟩
  | .local _ .vmem, ⟨14, _⟩ => ⟨S256x512, .f32⟩
  | .local _ .vmem, ⟨15, _⟩ => ⟨S256x512, .f32⟩
  | .local _ .vmem, ⟨16, _⟩ => ⟨S256x512, .f32⟩
  | .local _ .vmem, ⟨17, _⟩ => ⟨S256x512, .f32⟩
  | .local _ .vmem, ⟨18, _⟩ => ⟨S256x512, .f32⟩
  | .local _ .vmem, ⟨19, _⟩ => ⟨S256x512, .f32⟩
  | .local _ .vmem, ⟨20, _⟩ => ⟨S256x512, .f32⟩
  | .local _ .vmem, ⟨21, _⟩ => ⟨S256x4096, .bf16⟩
  | .local _ .vmem, ⟨22, _⟩ => ⟨S256x4096, .bf16⟩
  | .local _ .vmem, ⟨23, _⟩ => ⟨S4x512x1024, .f32⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev main_v0_4 : Ref sig .tc := ⟨.hbm, 11, rfl⟩
abbrev main_v0_5 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_stg12_0 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v172 : BitVec 1 := Scalar.cmpi .eq arg0 c0_i32
  let v173 : BitVec 32 := Scalar.extui v172
  let c0_i32_71 : BitVec 32 := 0#32
  let v174 : BitVec 1 := Scalar.cmpi .ne v173 c0_i32_71
  v174

def k0_cond2 (i : grid0.Coords) : BitVec 1 :=
  let arg0 : BitVec 32 := BitVec.ofNat 32 (i 0).val
  let c0_i32 : BitVec 32 := 0#32
  let v172 : BitVec 1 := Scalar.cmpi .eq arg0 c0_i32
  let v_true : BitVec 1 := 1#1
  let v175 : BitVec 1 := Scalar.xori v172 v_true
  let v176 : BitVec 32 := Scalar.extui v175
  let c0_i32_72 : BitVec 32 := 0#32
  let v177 : BitVec 1 := Scalar.cmpi .ne v176 c0_i32_72
  v177

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S4x512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x4096 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S4x512x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== ReferenceIdeal.lean ====
abbrev S4096x512 : Shape := ⟨2, ![4096, 512]⟩
abbrev S4096x8832 : Shape := ⟨2, ![4096, 8832]⟩
abbrev S4x512x1024 : Shape := ⟨3, ![4, 512, 1024]⟩
abbrev S4096x1024 : Shape := ⟨2, ![4096, 1024]⟩
abbrev S4096x4096 : Shape := ⟨2, ![4096, 4096]⟩
abbrev S_ : Shape := ⟨0, ![]⟩
abbrev S4096x4x1024 : Shape := ⟨3, ![4096, 4, 1024]⟩
abbrev S4096x1x512 : Shape := ⟨3, ![4096, 1, 512]⟩
abbrev S4096x4x512 : Shape := ⟨3, ![4096, 4, 512]⟩
abbrev S4x1024x4096 : Shape := ⟨3, ![4, 1024, 4096]⟩
abbrev S4x4096x512 : Shape := ⟨3, ![4, 4096, 512]⟩
abbrev S4x1024x512 : Shape := ⟨3, ![4, 1024, 512]⟩

abbrev nBuf : Space → Nat
  | .hbm => 56
  | .vmem => 0
  | .smem => 0
  | _ => 0

abbrev bufTy : (tb : Table) → Fin (tcTables nBuf tb) → BufTy
  | .hbm, ⟨0, _⟩ => ⟨S4096x512, .bf16⟩
  | .hbm, ⟨1, _⟩ => ⟨S4096x512, .bf16⟩
  | .hbm, ⟨2, _⟩ => ⟨S4096x512, .bf16⟩
  | .hbm, ⟨3, _⟩ => ⟨S4096x512, .bf16⟩
  | .hbm, ⟨4, _⟩ => ⟨S4096x8832, .f32⟩
  | .hbm, ⟨5, _⟩ => ⟨S4x512x1024, .bf16⟩
  | .hbm, ⟨6, _⟩ => ⟨S4096x1024, .bf16⟩
  | .hbm, ⟨7, _⟩ => ⟨S4096x4096, .f32⟩
  | .hbm, ⟨8, _⟩ => ⟨S4096x512, .f32⟩
  | .hbm, ⟨9, _⟩ => ⟨S4096x512, .f32⟩
  | .hbm, ⟨10, _⟩ => ⟨S4096x512, .f32⟩
  | .hbm, ⟨11, _⟩ => ⟨S4096x512, .f32⟩
  | .hbm, ⟨12, _⟩ => ⟨S4x512x1024, .f32⟩
  | .hbm, ⟨13, _⟩ => ⟨S4096x4096, .f32⟩
  | .hbm, ⟨14, _⟩ => ⟨S4096x4096, .f32⟩
  | .hbm, ⟨15, _⟩ => ⟨S_, .f32⟩
  | .hbm, ⟨16, _⟩ => ⟨S4096x4096, .f32⟩
  | .hbm, ⟨17, _⟩ => ⟨S4096x4096, .f32⟩
  | .hbm, ⟨18, _⟩ => ⟨S_, .f32⟩
  | .hbm, ⟨19, _⟩ => ⟨S4096x4096, .f32⟩
  | .hbm, ⟨20, _⟩ => ⟨S4096x4096, .f32⟩
  | .hbm, ⟨21, _⟩ => ⟨S_, .f32⟩
  | .hbm, ⟨22, _⟩ => ⟨S4096x4096, .f32⟩
  | .hbm, ⟨23, _⟩ => ⟨S4096x4096, .f32⟩
  | .hbm, ⟨24, _⟩ => ⟨S4096x4096, .f32⟩
  | .hbm, ⟨25, _⟩ => ⟨S4096x4x1024, .f32⟩
  | .hbm, ⟨26, _⟩ => ⟨S4096x1x512, .f32⟩
  | .hbm, ⟨27, _⟩ => ⟨S4096x1x512, .f32⟩
  | .hbm, ⟨28, _⟩ => ⟨S4096x1x512, .f32⟩
  | .hbm, ⟨29, _⟩ => ⟨S4096x1x512, .f32⟩
  | .hbm, ⟨30, _⟩ => ⟨S4096x4x512, .f32⟩
  | .hbm, ⟨31, _⟩ => ⟨S4x1024x4096, .f32⟩
  | .hbm, ⟨32, _⟩ => ⟨S4096x4x1024, .f32⟩
  | .hbm, ⟨33, _⟩ => ⟨S4096x4x1024, .f32⟩
  | .hbm, ⟨34, _⟩ => ⟨S_, .f32⟩
  | .hbm, ⟨35, _⟩ => ⟨S4096x1024, .f32⟩
  | .hbm, ⟨36, _⟩ => ⟨S4096x1024, .f32⟩
  | .hbm, ⟨37, _⟩ => ⟨S4096x4x1024, .f32⟩
  | .hbm, ⟨38, _⟩ => ⟨S4096x4x1024, .f32⟩
  | .hbm, ⟨39, _⟩ => ⟨S4096x4x1024, .f32⟩
  | .hbm, ⟨40, _⟩ => ⟨S4x1024x4096, .f32⟩
  | .hbm, ⟨41, _⟩ => ⟨S4x4096x512, .f32⟩
  | .hbm, ⟨42, _⟩ => ⟨S4096x4x512, .f32⟩
  | .hbm, ⟨43, _⟩ => ⟨S4x1024x512, .f32⟩
  | .hbm, ⟨44, _⟩ => ⟨S4x512x1024, .f32⟩
  | .hbm, ⟨45, _⟩ => ⟨S4096x1x512, .f32⟩
  | .hbm, ⟨46, _⟩ => ⟨S4096x512, .f32⟩
  | .hbm, ⟨47, _⟩ => ⟨S4096x1x512, .f32⟩
  | .hbm, ⟨48, _⟩ => ⟨S4096x512, .f32⟩
  | .hbm, ⟨49, _⟩ => ⟨S4096x1x512, .f32⟩
  | .hbm, ⟨50, _⟩ => ⟨S4096x512, .f32⟩
  | .hbm, ⟨51, _⟩ => ⟨S4096x1x512, .f32⟩
  | .hbm, ⟨52, _⟩ => ⟨S4096x512, .f32⟩
  | .hbm, ⟨53, _⟩ => ⟨S4096x4096, .f32⟩
  | .hbm, ⟨54, _⟩ => ⟨S4096x4096, .f32⟩
  | .hbm, ⟨55, _⟩ => ⟨S4096x4096, .bf16⟩
  | _, _ => ⟨S4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_v9 : Ref sig .tc := ⟨.hbm, 17, rfl⟩
abbrev main_cst_0 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_2 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩

abbrev nD : Nat := 1
abbrev τ : Topo := Topo.v7x

variable {F : FTy → Type} [FloatOps F]
-- ==== Kernel2.lean ====
abbrev S4096x1024 : Shape := ⟨2, ![4096, 1024]⟩
abbrev S1024x4096 : Shape := ⟨2, ![1024, 4096]⟩
abbrev S4096x4096 : Shape := ⟨2, ![4096, 4096]⟩
abbrev S1024x1024 : Shape := ⟨2, ![1024, 1024]⟩
abbrev S1024x512 : Shape := ⟨2, ![1024, 512]⟩
abbrev S512x1024 : Shape := ⟨2, ![512, 1024]⟩
abbrev S4096x512 : Shape := ⟨2, ![4096, 512]⟩
abbrev S512x512 : Shape := ⟨2, ![512, 512]⟩

abbrev nBuf : Space → Nat
  | .hbm => 9
  | .vmem => 28
  | .smem => 0
  | _ => 0

abbrev bufTy : (tb : Table) → Fin (tcTables nBuf tb) → BufTy
  | .hbm, ⟨0, _⟩ => ⟨S4096x1024, .bf16⟩
  | .hbm, ⟨1, _⟩ => ⟨S1024x4096, .bf16⟩
  | .hbm, ⟨2, _⟩ => ⟨S4096x1024, .bf16⟩
  | .hbm, ⟨3, _⟩ => ⟨S4096x1024, .f32⟩
  | .hbm, ⟨4, _⟩ => ⟨S4096x4096, .f32⟩
  | .hbm, ⟨5, _⟩ => ⟨S4096x4096, .bf16⟩
  | .hbm, ⟨6, _⟩ => ⟨S4096x4096, .bf16⟩
  | .hbm, ⟨7, _⟩ => ⟨S4096x1024, .f32⟩
  | .hbm, ⟨8, _⟩ => ⟨S1024x4096, .f32⟩
  | .local _ .vmem, ⟨0, _⟩ => ⟨S1024x1024, .bf16⟩
  | .local _ .vmem, ⟨1, _⟩ => ⟨S1024x1024, .bf16⟩
  | .local _ .vmem, ⟨2, _⟩ => ⟨S1024x512, .bf16⟩
  | .local _ .vmem, ⟨3, _⟩ => ⟨S1024x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .bf16⟩
  | .local _ .vmem, ⟨7, _⟩ => ⟨S1024x512, .bf16⟩
  | .local _ .vmem, ⟨8, _⟩ => ⟨S1024x1024, .f32⟩
  | .local _ .vmem, ⟨9, _⟩ => ⟨S1024x1024, .f32⟩
  | .local _ .vmem, ⟨10, _⟩ => ⟨S512x1024, .bf16⟩
  | .local _ .vmem, ⟨11, _⟩ => ⟨S512x1024, .bf16⟩
  | .local _ .vmem, ⟨12, _⟩ => ⟨S1024x512, .f32⟩
  | .local _ .vmem, ⟨13, _⟩ => ⟨S1024x512, .f32⟩
  | .local _ .vmem, ⟨14, _⟩ => ⟨S1024x512, .bf16⟩
  | .local _ .vmem, ⟨15, _⟩ => ⟨S1024x512, .bf16⟩
  | .local _ .vmem, ⟨16, _⟩ => ⟨S4096x512, .bf16⟩
  | .local _ .vmem, ⟨17, _⟩ => ⟨S4096x512, .bf16⟩
  | .local _ .vmem, ⟨18, _⟩ => ⟨S4096x512, .f32⟩
  | .local _ .vmem, ⟨19, _⟩ => ⟨S4096x512, .f32⟩
  | .local _ .vmem, ⟨20, _⟩ => ⟨S512x512, .f32⟩
  | .local _ .vmem, ⟨21, _⟩ => ⟨S512x512, .f32⟩
  | .local _ .vmem, ⟨22, _⟩ => ⟨S4096x512, .bf16⟩
  | .local _ .vmem, ⟨23, _⟩ => ⟨S4096x512, .bf16⟩
  | .local _ .vmem, ⟨24, _⟩ => ⟨S4096x512, .bf16⟩
  | .local _ .vmem, ⟨25, _⟩ => ⟨S4096x512, .bf16⟩
  | .local _ .vmem, ⟨26, _⟩ => ⟨S512x512, .f32⟩
  | .local _ .vmem, ⟨27, _⟩ => ⟨S512x512, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg2_1 : Ref sig .tc := ⟨.vmem, 21, rfl⟩
abbrev cc3_stg0_0 : Ref sig .tc := ⟨.vmem, 22, rfl⟩
abbrev cc3_stg0_1 : Ref sig .tc := ⟨.vmem, 23, rfl⟩
abbrev cc3_stg1_0 : Ref sig .tc := ⟨.vmem, 24, rfl⟩
abbrev cc3_stg1_1 : Ref sig .tc := ⟨.vmem, 25, rfl⟩
abbrev cc3_stg2_0 : Ref sig .tc := ⟨.vmem, 26, rfl⟩
abbrev cc3_stg2_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem2_1 : DmaSem sig := 21
abbrev cc3_sem0_0 : DmaSem sig := 22
abbrev cc3_sem0_1 : DmaSem sig := 23
abbrev cc3_sem1_0 : DmaSem sig := 24
abbrev cc3_sem1_1 : DmaSem sig := 25
abbrev cc3_sem2_0 : DmaSem sig := 26
abbrev cc3_sem2_1 : DmaSem sig := 27

abbrev nD : Nat := 1
abbrev τ : Topo := Topo.v7x

variable {F : FTy → Type} [FloatOps F]

abbrev grid0 : Pipeline.Grid := ⟨3, ![4, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev grid1 : Pipeline.Grid := ⟨3, ![4, 8, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1024x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S512x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1024x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev stage1_3 : Fin 2 → Memref sig .tc .vmem S1024x512 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

abbrev grid2 : Pipeline.Grid := ⟨3, ![2, 8, 1], ![false, false, false]⟩

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage2_0 : Fin 2 → Memref sig .tc .vmem S4096x512 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![false, true, true]

abbrev stage2_1 : Fin 2 → Memref sig .tc .vmem S4096x512 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, false, true]

abbrev stage2_2 : Fin 2 → Memref sig .tc .vmem S512x512 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, false]

abbrev grid3 : Pipeline.Grid := ⟨3, ![2, 8, 1], ![false, false, false]⟩

def cc3_transform_0 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc3_transform_1 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc3_transform_2 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage3_0 : Fin 2 → Memref sig .tc .vmem S4096x512 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false, true]

abbrev stage3_1 : Fin 2 → Memref sig .tc .vmem S4096x512 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true, true]

abbrev stage3_2 : Fin 2 → Memref sig .tc .vmem S512x512 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true, false]
-- ==== Reference2Ideal.lean ====
abbrev S4096x1024 : Shape := ⟨2, ![4096, 1024]⟩
abbrev S1024x4096 : Shape := ⟨2, ![1024, 4096]⟩
abbrev S4096x4096 : Shape := ⟨2, ![4096, 4096]⟩
abbrev S_ : Shape := ⟨0, ![]⟩

abbrev nBuf : Space → Nat
  | .hbm => 32
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x4096, .bf16⟩
  | .hbm, ⟨2, _⟩ => ⟨S4096x1024, .bf16⟩
  | .hbm, ⟨3, _⟩ => ⟨S4096x1024, .f32⟩
  | .hbm, ⟨4, _⟩ => ⟨S4096x1024, .f32⟩
  | .hbm, ⟨5, _⟩ => ⟨S1024x4096, .f32⟩
  | .hbm, ⟨6, _⟩ => ⟨S4096x4096, .f32⟩
  | .hbm, ⟨7, _⟩ => ⟨S4096x1024, .f32⟩
  | .hbm, ⟨8, _⟩ => ⟨S_, .f32⟩
  | .hbm, ⟨9, _⟩ => ⟨S4096x4096, .f32⟩
  | .hbm, ⟨10, _⟩ => ⟨S4096x4096, .f32⟩
  | .hbm, ⟨11, _⟩ => ⟨S_, .f32⟩
  | .hbm, ⟨12, _⟩ => ⟨S4096x4096, .f32⟩
  | .hbm, ⟨13, _⟩ => ⟨S4096x4096, .i1⟩
  | .hbm, ⟨14, _⟩ => ⟨S_, .f32⟩
  | .hbm, ⟨15, _⟩ => ⟨S4096x4096, .f32⟩
  | .hbm, ⟨16, _⟩ => ⟨S4096x4096, .f32⟩
  | .hbm, ⟨17, _⟩ => ⟨S_, .f32⟩
  | .hbm, ⟨18, _⟩ => ⟨S4096x4096, .f32⟩
  | .hbm, ⟨19, _⟩ => ⟨S4096x4096, .f32⟩
  | .hbm, ⟨20, _⟩ => ⟨S4096x1024, .f32⟩
  | .hbm, ⟨21, _⟩ => ⟨S1024x4096, .f32⟩
  | .hbm, ⟨22, _⟩ => ⟨S4096x1024, .f32⟩
  | .hbm, ⟨23, _⟩ => ⟨S4096x4096, .f32⟩
  | .hbm, ⟨24, _⟩ => ⟨S4096x4096, .f32⟩
  | .hbm, ⟨25, _⟩ => ⟨S_, .f32⟩
  | .hbm, ⟨26, _⟩ => ⟨S4096x4096, .f32⟩
  | .hbm, ⟨27, _⟩ => ⟨S4096x4096, .f32⟩
  | .hbm, ⟨28, _⟩ => ⟨S4096x4096, .bf16⟩
  | .hbm, ⟨29, _⟩ => ⟨S4096x1024, .f32⟩
  | .hbm, ⟨30, _⟩ => ⟨S1024x4096, .f32⟩
  | .hbm, ⟨31, _⟩ => ⟨S4096x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_call0_cst : Ref sig .tc := ⟨.hbm, 8, rfl⟩
abbrev main_call0_v0 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_2 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩

abbrev nD : Nat := 1
abbrev τ : Topo := Topo.v7x

variable {F : FTy → Type} [FloatOps F]
-- ==== Kernel3.lean ====
abbrev S4096x4096 : Shape := ⟨2, ![4096, 4096]⟩
abbrev S1024x4096 : Shape := ⟨2, ![1024, 4096]⟩
abbrev S4096x1024 : Shape := ⟨2, ![4096, 1024]⟩
abbrev S1024x2048 : Shape := ⟨2, ![1024, 2048]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x4096, .bf16⟩
  | .hbm, ⟨1, _⟩ => ⟨S1024x4096, .bf16⟩
  | .hbm, ⟨2, _⟩ => ⟨S4096x1024, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S4096x4096 : Shape := ⟨2, ![4096, 4096]⟩
abbrev S1024x4096 : Shape := ⟨2, ![1024, 4096]⟩
abbrev S_ : Shape := ⟨0, ![]⟩
abbrev S4096x1024 : Shape := ⟨2, ![4096, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S1024x4096, .bf16⟩
  | .hbm, ⟨2, _⟩ => ⟨S_, .f32⟩
  | .hbm, ⟨3, _⟩ => ⟨S4096x1024, .f32⟩
  | .hbm, ⟨4, _⟩ => ⟨S1024x4096, .f32⟩
  | .hbm, ⟨5, _⟩ => ⟨S4096x4096, .f32⟩
  | .hbm, ⟨6, _⟩ => ⟨S4096x4096, .f32⟩
  | .hbm, ⟨7, _⟩ => ⟨S4096x1024, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel4.lean ====
abbrev S4096x1024 : Shape := ⟨2, ![4096, 1024]⟩
abbrev S1024x8832 : Shape := ⟨2, ![1024, 8832]⟩
abbrev S1024x1024 : Shape := ⟨2, ![1024, 1024]⟩
abbrev S4096x8832 : Shape := ⟨2, ![4096, 8832]⟩
abbrev S512x1024 : Shape := ⟨2, ![512, 1024]⟩
abbrev S1024x2944 : Shape := ⟨2, ![1024, 2944]⟩
abbrev S512x2944 : Shape := ⟨2, ![512, 2944]⟩
abbrev S1024x512 : Shape := ⟨2, ![1024, 512]⟩
abbrev S4096x512 : Shape := ⟨2, ![4096, 512]⟩
abbrev S512x512 : Shape := ⟨2, ![512, 512]⟩
abbrev S4096x384 : Shape := ⟨2, ![4096, 384]⟩
abbrev S512x384 : Shape := ⟨2, ![512, 384]⟩

abbrev nBuf : Space → Nat
  | .hbm => 12
  | .vmem => 32
  | .smem => 0
  | _ => 0

abbrev bufTy : (tb : Table) → Fin (tcTables nBuf tb) → BufTy
  | .hbm, ⟨0, _⟩ => ⟨S4096x1024, .f32⟩
  | .hbm, ⟨1, _⟩ => ⟨S4096x1024, .bf16⟩
  | .hbm, ⟨2, _⟩ => ⟨S4096x1024, .bf16⟩
  | .hbm, ⟨3, _⟩ => ⟨S1024x8832, .bf16⟩
  | .hbm, ⟨4, _⟩ => ⟨S1024x1024, .bf16⟩
  | .hbm, ⟨5, _⟩ => ⟨S4096x1024, .f32⟩
  | .hbm, ⟨6, _⟩ => ⟨S4096x8832, .bf16⟩
  | .hbm, ⟨7, _⟩ => ⟨S4096x8832, .f32⟩
  | .hbm, ⟨8, _⟩ => ⟨S4096x1024, .f32⟩
  | .hbm, ⟨9, _⟩ => ⟨S4096x1024, .bf16⟩
  | .hbm, ⟨10, _⟩ => ⟨S1024x1024, .f32⟩
  | .hbm, ⟨11, _⟩ => ⟨S1024x8832, .f32⟩
  | .local _ .vmem, ⟨0, _⟩ => ⟨S512x1024, .bf16⟩
  | .local _ .vmem, ⟨1, _⟩ => ⟨S512x1024, .bf16⟩
  | .local _ .vmem, ⟨2, _⟩ => ⟨S1024x2944, .bf16⟩
  | .local _ .vmem, ⟨3, _⟩ => ⟨S1024x2944, .bf16⟩
  | .local _ .vmem, ⟨4, _⟩ => ⟨S512x2944, .f32⟩
  | .local _ .vmem, ⟨5, _⟩ => ⟨S512x2944, .f32⟩
  | .local _ .vmem, ⟨6, _⟩ => ⟨S1024x1024, .bf16⟩
  | .local _ .vmem, ⟨7, _⟩ => ⟨S1024x1024, .bf16⟩
  | .local _ .vmem, ⟨8, _⟩ => ⟨S1024x512, .bf16⟩
  | .local _ .vmem, ⟨9, _⟩ => ⟨S1024x512, .bf16⟩
  | .local _ .vmem, ⟨10, _⟩ => ⟨S1024x512, .f32⟩
  | .local _ .vmem, ⟨11, _⟩ => ⟨S1024x512, .f32⟩
  | .local _ .vmem, ⟨12, _⟩ => ⟨S1024x512, .f32⟩
  | .local _ .vmem, ⟨13, _⟩ => ⟨S1024x512, .f32⟩
  | .local _ .vmem, ⟨14, _⟩ => ⟨S1024x1024, .f32⟩
  | .local _ .vmem, ⟨15, _⟩ => ⟨S1024x1024, .f32⟩
  | .local _ .vmem, ⟨16, _⟩ => ⟨S512x1024, .bf16⟩
  | .local _ .vmem, ⟨17, _⟩ => ⟨S512x1024, .bf16⟩
  | .local _ .vmem, ⟨18, _⟩ => ⟨S1024x512, .bf16⟩
  | .local _ .vmem, ⟨19, _⟩ => ⟨S1024x512, .bf16⟩
  | .local _ .vmem, ⟨20, _⟩ => ⟨S4096x512, .bf16⟩
  | .local _ .vmem, ⟨21, _⟩ => ⟨S4096x512, .bf16⟩
  | .local _ .vmem, ⟨22, _⟩ => ⟨S4096x512, .f32⟩
  | .local _ .vmem, ⟨23, _⟩ => ⟨S4096x512, .f32⟩
  | .local _ .vmem, ⟨24, _⟩ => ⟨S512x512, .f32⟩
  | .local _ .vmem, ⟨25, _⟩ => ⟨S512x512, .f32⟩
  | .local _ .vmem, ⟨26, _⟩ => ⟨S4096x512, .bf16⟩
  | .local _ .vmem, ⟨27, _⟩ => ⟨S4096x512, .bf16⟩
  | .local _ .vmem, ⟨28, _⟩ => ⟨S4096x384, .bf16⟩
  | .local _ .vmem, ⟨29, _⟩ => ⟨S4096x384, .bf16⟩
  | .local _ .vmem, ⟨30, _⟩ => ⟨S512x384, .f32⟩
  | .local _ .vmem, ⟨31, _⟩ => ⟨S512x384, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg2_1 : Ref sig .tc := ⟨.vmem, 19, rfl⟩
abbrev cc3_stg0_0 : Ref sig .tc := ⟨.vmem, 20, rfl⟩
abbrev cc3_stg0_1 : Ref sig .tc := ⟨.vmem, 21, rfl⟩
abbrev cc3_stg1_0 : Ref sig .tc := ⟨.vmem, 22, rfl⟩
abbrev cc3_stg1_1 : Ref sig .tc := ⟨.vmem, 23, rfl⟩
abbrev cc3_stg2_0 : Ref sig .tc := ⟨.vmem, 24, rfl⟩
abbrev cc3_stg2_1 : Ref sig .tc := ⟨.vmem, 25, rfl⟩
abbrev cc4_stg0_0 : Ref sig .tc := ⟨.vmem, 26, rfl⟩
abbrev cc4_stg0_1 : Ref sig .tc := ⟨.vmem, 27, rfl⟩
abbrev cc4_stg1_0 : Ref sig .tc := ⟨.vmem, 28, rfl⟩
abbrev cc4_stg1_1 : Ref sig .tc := ⟨.vmem, 29, rfl⟩
abbrev cc4_stg2_0 : Ref sig .tc := ⟨.vmem, 30, rfl⟩
abbrev cc4_stg2_1 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem2_1 : DmaSem sig := 19
abbrev cc3_sem0_0 : DmaSem sig := 20
abbrev cc3_sem0_1 : DmaSem sig := 21
abbrev cc3_sem1_0 : DmaSem sig := 22
abbrev cc3_sem1_1 : DmaSem sig := 23
abbrev cc3_sem2_0 : DmaSem sig := 24
abbrev cc3_sem2_1 : DmaSem sig := 25
abbrev cc4_sem0_0 : DmaSem sig := 26
abbrev cc4_sem0_1 : DmaSem sig := 27
abbrev cc4_sem1_0 : DmaSem sig := 28
abbrev cc4_sem1_1 : DmaSem sig := 29
abbrev cc4_sem2_0 : DmaSem sig := 30
abbrev cc4_sem2_1 : DmaSem sig := 31

abbrev nD : Nat := 1
abbrev τ : Topo := Topo.v7x

variable {F : FTy → Type} [FloatOps F]

abbrev grid0 : Pipeline.Grid := ⟨3, ![3, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1024x2944 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S512x2944 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev grid1 : Pipeline.Grid := ⟨3, ![4, 2, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1024x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S1024x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1024x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev stage1_3 : Fin 2 → Memref sig .tc .vmem S1024x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

abbrev grid2 : Pipeline.Grid := ⟨3, ![4, 2, 1], ![false, false, false]⟩

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 2 → Memref sig .tc .vmem S1024x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false, true]

abbrev stage2_1 : Fin 2 → Memref sig .tc .vmem S512x1024 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true, true]

abbrev stage2_2 : Fin 2 → Memref sig .tc .vmem S1024x512 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, false]

abbrev grid3 : Pipeline.Grid := ⟨3, ![2, 2, 1], ![false, false, false]⟩

def cc3_transform_0 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc3_transform_1 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc3_transform_2 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage3_0 : Fin 2 → Memref sig .tc .vmem S4096x512 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![false, true, true]

abbrev stage3_1 : Fin 2 → Memref sig .tc .vmem S4096x512 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, false, true]

abbrev stage3_2 : Fin 2 → Memref sig .tc .vmem S512x512 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true, false]

abbrev grid4 : Pipeline.Grid := ⟨3, ![2, 23, 1], ![false, false, false]⟩

def cc4_transform_0 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc4_transform_1 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc4_transform_2 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage4_0 : Fin 2 → Memref sig .tc .vmem S4096x512 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, false, true]

abbrev stage4_1 : Fin 2 → Memref sig .tc .vmem S4096x384 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![false, true, true]

abbrev stage4_2 : Fin 2 → Memref sig .tc .vmem S512x384 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true, false]
-- ==== Reference4Ideal.lean ====
abbrev S4096x1024 : Shape := ⟨2, ![4096, 1024]⟩
abbrev S1024x8832 : Shape := ⟨2, ![1024, 8832]⟩
abbrev S1024x1024 : Shape := ⟨2, ![1024, 1024]⟩
abbrev S4096x8832 : Shape := ⟨2, ![4096, 8832]⟩
abbrev S8832x1024 : Shape := ⟨2, ![8832, 1024]⟩

abbrev nBuf : Space → Nat
  | .hbm => 21
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .bf16⟩
  | .hbm, ⟨2, _⟩ => ⟨S4096x1024, .bf16⟩
  | .hbm, ⟨3, _⟩ => ⟨S1024x8832, .bf16⟩
  | .hbm, ⟨4, _⟩ => ⟨S1024x1024, .bf16⟩
  | .hbm, ⟨5, _⟩ => ⟨S4096x1024, .f32⟩
  | .hbm, ⟨6, _⟩ => ⟨S4096x8832, .bf16⟩
  | .hbm, ⟨7, _⟩ => ⟨S1024x8832, .f32⟩
  | .hbm, ⟨8, _⟩ => ⟨S4096x1024, .f32⟩
  | .hbm, ⟨9, _⟩ => ⟨S4096x8832, .f32⟩
  | .hbm, ⟨10, _⟩ => ⟨S4096x1024, .f32⟩
  | .hbm, ⟨11, _⟩ => ⟨S1024x1024, .f32⟩
  | .hbm, ⟨12, _⟩ => ⟨S4096x1024, .f32⟩
  | .hbm, ⟨13, _⟩ => ⟨S4096x1024, .f32⟩
  | .hbm, ⟨14, _⟩ => ⟨S1024x1024, .f32⟩
  | .hbm, ⟨15, _⟩ => ⟨S1024x1024, .f32⟩
  | .hbm, ⟨16, _⟩ => ⟨S4096x1024, .f32⟩
  | .hbm, ⟨17, _⟩ => ⟨S4096x1024, .bf16⟩
  | .hbm, ⟨18, _⟩ => ⟨S4096x8832, .f32⟩
  | .hbm, ⟨19, _⟩ => ⟨S8832x1024, .f32⟩
  | .hbm, ⟨20, _⟩ => ⟨S1024x8832, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩

abbrev nD : Nat := 1
abbrev τ : Topo := Topo.v7x

variable {F : FTy → Type} [FloatOps F]
-- ==== Kernel5.lean ====
abbrev S4096x8832 : Shape := ⟨2, ![4096, 8832]⟩
abbrev S1024x8832 : Shape := ⟨2, ![1024, 8832]⟩
abbrev S4096x1024 : Shape := ⟨2, ![4096, 1024]⟩
abbrev S1024x2944 : Shape := ⟨2, ![1024, 2944]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x8832, .bf16⟩
  | .hbm, ⟨1, _⟩ => ⟨S1024x8832, .bf16⟩
  | .hbm, ⟨2, _⟩ => ⟨S4096x1024, .f32⟩
  | .local _ .vmem, ⟨0, _⟩ => ⟨S1024x2944, .bf16⟩
  | .local _ .vmem, ⟨1, _⟩ => ⟨S1024x2944, .bf16⟩
  | .local _ .vmem, ⟨2, _⟩ => ⟨S1024x2944, .bf16⟩
  | .local _ .vmem, ⟨3, _⟩ => ⟨S1024x2944, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x8832, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 3], ![false, false, false]⟩

def k0_cond3 (i : grid0.Coords) : BitVec 1 :=
  let arg2 : BitVec 32 := BitVec.ofNat 32 (i 2).val
  let c2_i32 : BitVec 32 := 2#32
  let v9 : BitVec 1 := Scalar.cmpi .eq arg2 c2_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x2944 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1024x2944 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S4096x8832 : Shape := ⟨2, ![4096, 8832]⟩
abbrev S1024x8832 : Shape := ⟨2, ![1024, 8832]⟩
abbrev S_ : Shape := ⟨0, ![]⟩
abbrev S4096x1024 : Shape := ⟨2, ![4096, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4096x8832, .bf16⟩
  | .hbm, ⟨1, _⟩ => ⟨S1024x8832, .bf16⟩
  | .hbm, ⟨2, _⟩ => ⟨S_, .f32⟩
  | .hbm, ⟨3, _⟩ => ⟨S4096x1024, .f32⟩
  | .hbm, ⟨4, _⟩ => ⟨S1024x8832, .f32⟩
  | .hbm, ⟨5, _⟩ => ⟨S4096x8832, .f32⟩
  | .hbm, ⟨6, _⟩ => ⟨S4096x8832, .f32⟩
  | .hbm, ⟨7, _⟩ => ⟨S4096x1024, .f32⟩
  | _, _ => ⟨S4096x8832, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel6.lean ====
abbrev S4096x4096 : Shape := ⟨2, ![4096, 4096]⟩
abbrev S4096x1024 : Shape := ⟨2, ![4096, 1024]⟩
abbrev S1024x2048 : Shape := ⟨2, ![1024, 2048]⟩
abbrev S2048x512 : Shape := ⟨2, ![2048, 512]⟩
abbrev S1024x512 : Shape := ⟨2, ![1024, 512]⟩

abbrev nBuf : Space → Nat
  | .hbm => 4
  | .vmem => 9
  | .smem => 0
  | _ => 0

abbrev bufTy : (tb : Table) → Fin (tcTables nBuf tb) → BufTy
  | .hbm, ⟨0, _⟩ => ⟨S4096x4096, .bf16⟩
  | .hbm, ⟨1, _⟩ => ⟨S4096x1024, .bf16⟩
  | .hbm, ⟨2, _⟩ => ⟨S4096x1024, .f32⟩
  | .hbm, ⟨3, _⟩ => ⟨S4096x1024, .f32⟩
  | .local _ .vmem, ⟨0, _⟩ => ⟨S1024x2048, .bf16⟩
  | .local _ .vmem, ⟨1, _⟩ => ⟨S1024x2048, .bf16⟩
  | .local _ .vmem, ⟨2, _⟩ => ⟨S2048x512, .bf16⟩
  | .local _ .vmem, ⟨3, _⟩ => ⟨S2048x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | .local _ .vmem, ⟨8, _⟩ => ⟨S1024x512, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 2, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference6Ideal.lean ====
abbrev S4096x4096 : Shape := ⟨2, ![4096, 4096]⟩
abbrev S4096x1024 : Shape := ⟨2, ![4096, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x1024, .bf16⟩
  | .hbm, ⟨2, _⟩ => ⟨S4096x1024, .f32⟩
  | .hbm, ⟨3, _⟩ => ⟨S4096x4096, .f32⟩
  | .hbm, ⟨4, _⟩ => ⟨S4096x1024, .f32⟩
  | .hbm, ⟨5, _⟩ => ⟨S4096x1024, .f32⟩
  | .hbm, ⟨6, _⟩ => ⟨S4096x1024, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel7.lean ====
abbrev S4096x512 : Shape := ⟨2, ![4096, 512]⟩
abbrev S4x4096x64 : Shape := ⟨3, ![4, 4096, 64]⟩
abbrev S4096x8832 : Shape := ⟨2, ![4096, 8832]⟩
abbrev S1x128 : Shape := ⟨2, ![1, 128]⟩
abbrev S64x4x128x128 : Shape := ⟨4, ![64, 4, 128, 128]⟩
abbrev S64x512 : Shape := ⟨2, ![64, 512]⟩
abbrev S4x64x64 : Shape := ⟨3, ![4, 64, 64]⟩
abbrev S1x4x128x128 : Shape := ⟨4, ![1, 4, 128, 128]⟩
abbrev S4x128x128 : Shape := ⟨3, ![4, 128, 128]⟩
abbrev S1x1x128x128 : Shape := ⟨4, ![1, 1, 128, 128]⟩
abbrev S128x128 : Shape := ⟨2, ![128, 128]⟩
abbrev S1x64x64 : Shape := ⟨3, ![1, 64, 64]⟩
abbrev S64x64 : Shape := ⟨2, ![64, 64]⟩
abbrev S64x128 : Shape := ⟨2, ![64, 128]⟩
abbrev S64 : Shape := ⟨1, ![64]⟩
abbrev S64x1 : Shape := ⟨2, ![64, 1]⟩
abbrev S1x128x128 : Shape := ⟨3, ![1, 128, 128]⟩
abbrev S128 : Shape := ⟨1, ![128]⟩
abbrev S64x384 : Shape := ⟨2, ![64, 384]⟩
abbrev S64x256 : Shape := ⟨2, ![64, 256]⟩

abbrev nBuf : Space → Nat
  | .hbm => 18
  | .vmem => 35
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S4096x512, .f32⟩
  | .hbm, ⟨3, _⟩ => ⟨S4096x512, .f32⟩
  | .hbm, ⟨4, _⟩ => ⟨S4096x512, .f32⟩
  | .hbm, ⟨5, _⟩ => ⟨S4x4096x64, .f32⟩
  | .hbm, ⟨6, _⟩ => ⟨S4096x8832, .f32⟩
  | .hbm, ⟨7, _⟩ => ⟨S1x128, .f32⟩
  | .hbm, ⟨8, _⟩ => ⟨S64x4x128x128, .f32⟩
  | .hbm, ⟨9, _⟩ => ⟨S4096x512, .f32⟩
  | .hbm, ⟨10, _⟩ => ⟨S4096x512, .f32⟩
  | .hbm, ⟨11, _⟩ => ⟨S4096x512, .f32⟩
  | .hbm, ⟨12, _⟩ => ⟨S4096x512, .f32⟩
  | .hbm, ⟨13, _⟩ => ⟨S4096x512, .f32⟩
  | .hbm, ⟨14, _⟩ => ⟨S4096x512, .f32⟩
  | .hbm, ⟨15, _⟩ => ⟨S4x4096x64, .f32⟩
  | .hbm, ⟨16, _⟩ => ⟨S4096x512, .bf16⟩
  | .hbm, ⟨17, _⟩ => ⟨S1x128, .f32⟩
  | .local _ .vmem, ⟨0, _⟩ => ⟨S64x512, .f32⟩
  | .local _ .vmem, ⟨1, _⟩ => ⟨S64x512, .f32⟩
  | .local _ .vmem, ⟨2, _⟩ => ⟨S64x512, .f32⟩
  | .local _ .vmem, ⟨3, _⟩ => ⟨S64x512, .f32⟩
  | .local _ .vmem, ⟨4, _⟩ => ⟨S64x512, .f32⟩
  | .local _ .vmem, ⟨5, _⟩ => ⟨S64x512, .f32⟩
  | .local _ .vmem, ⟨6, _⟩ => ⟨S64x512, .f32⟩
  | .local _ .vmem, ⟨7, _⟩ => ⟨S64x512, .f32⟩
  | .local _ .vmem, ⟨8, _⟩ => ⟨S64x512, .f32⟩
  | .local _ .vmem, ⟨9, _⟩ => ⟨S64x512, .f32⟩
  | .local _ .vmem, ⟨10, _⟩ => ⟨S4x64x64, .f32⟩
  | .local _ .vmem, ⟨11, _⟩ => ⟨S4x64x64, .f32⟩
  | .local _ .vmem, ⟨12, _⟩ => ⟨S64x512, .f32⟩
  | .local _ .vmem, ⟨13, _⟩ => ⟨S64x512, .f32⟩
  | .local _ .vmem, ⟨14, _⟩ => ⟨S1x128, .f32⟩
  | .local _ .vmem, ⟨15, _⟩ => ⟨S1x4x128x128, .f32⟩
  | .local _ .vmem, ⟨16, _⟩ => ⟨S1x4x128x128, .f32⟩
  | .local _ .vmem, ⟨17, _⟩ => ⟨S64x512, .f32⟩
  | .local _ .vmem, ⟨18, _⟩ => ⟨S64x512, .f32⟩
  | .local _ .vmem, ⟨19, _⟩ => ⟨S64x512, .f32⟩
  | .local _ .vmem, ⟨20, _⟩ => ⟨S64x512, .f32⟩
  | .local _ .vmem, ⟨21, _⟩ => ⟨S64x512, .f32⟩
  | .local _ .vmem, ⟨22, _⟩ => ⟨S64x512, .f32⟩
  | .local _ .vmem, ⟨23, _⟩ => ⟨S64x512, .f32⟩
  | .local _ .vmem, ⟨24, _⟩ => ⟨S64x512, .f32⟩
  | .local _ .vmem, ⟨25, _⟩ => ⟨S64x512, .f32⟩
  | .local _ .vmem, ⟨26, _⟩ => ⟨S64x512, .f32⟩
  | .local _ .vmem, ⟨27, _⟩ => ⟨S64x512, .f32⟩
  | .local _ .vmem, ⟨28, _⟩ => ⟨S64x512, .f32⟩
  | .local _ .vmem, ⟨29, _⟩ => ⟨S4x64x64, .f32⟩
  | .local _ .vmem, ⟨30, _⟩ => ⟨S4x64x64, .f32⟩
  | .local _ .vmem, ⟨31, _⟩ => ⟨S64x512, .bf16⟩
  | .local _ .vmem, ⟨32, _⟩ => ⟨S64x512, .bf16⟩
  | .local _ .vmem, ⟨33, _⟩ => ⟨S1x128, .f32⟩
  | .local _ .vmem, ⟨34, _⟩ => ⟨S4x128x128, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0_0 : Ref sig .tc := ⟨.hbm, 10, rfl⟩
abbrev main_v0_1 : Ref sig .tc := ⟨.hbm, 11, rfl⟩
abbrev main_v0_2 : Ref sig .tc := ⟨.hbm, 12, rfl⟩
abbrev main_v0_3 : Ref sig .tc := ⟨.hbm, 13, rfl⟩
abbrev main_v0_4 : Ref sig .tc := ⟨.hbm, 14, rfl⟩
abbrev main_v0_5 : Ref sig .tc := ⟨.hbm, 15, rfl⟩
abbrev main_v0_6 : Ref sig .tc := ⟨.hbm, 16, rfl⟩
abbrev main_v0_7 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_stg12_0 : Ref sig .tc := ⟨.vmem, 23, rfl⟩
abbrev cc0_stg12_1 : Ref sig .tc := ⟨.vmem, 24, rfl⟩
abbrev cc0_stg13_0 : Ref sig .tc := ⟨.vmem, 25, rfl⟩
abbrev cc0_stg13_1 : Ref sig .tc := ⟨.vmem, 26, rfl⟩
abbrev cc0_stg14_0 : Ref sig .tc := ⟨.vmem, 27, rfl⟩
abbrev cc0_stg14_1 : Ref sig .tc := ⟨.vmem, 28, rfl⟩
abbrev cc0_stg15_0 : Ref sig .tc := ⟨.vmem, 29, rfl⟩
abbrev cc0_stg15_1 : Ref sig .tc := ⟨.vmem, 30, rfl⟩
abbrev cc0_stg16_0 : Ref sig .tc := ⟨.vmem, 31, rfl⟩
abbrev cc0_stg16_1 : Ref sig .tc := ⟨.vmem, 32, rfl⟩
abbrev cc0_stg17_0 : Ref sig .tc := ⟨.vmem, 33, rfl⟩
abbrev cc0_scratch0 : Ref sig .tc := ⟨.vmem, 34, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem12_1 : DmaSem sig := 24
abbrev cc0_sem13_0 : DmaSem sig := 25
abbrev cc0_sem13_1 : DmaSem sig := 26
abbrev cc0_sem14_0 : DmaSem sig := 27
abbrev cc0_sem14_1 : DmaSem sig := 28
abbrev cc0_sem15_0 : DmaSem sig := 29
abbrev cc0_sem15_1 : DmaSem sig := 30
abbrev cc0_sem16_0 : DmaSem sig := 31
abbrev cc0_sem16_1 : DmaSem sig := 32
abbrev cc0_sem17_0 : DmaSem sig := 33

abbrev nD : Nat := 1
abbrev τ : Topo := Topo.v7x

variable {F : FTy → Type} [FloatOps F]

abbrev grid0 : Pipeline.Grid := ⟨1, ![64], ![false]⟩

def k0_cond2 (i : grid0.Coords) : BitVec 1 :=
  let arg0 : BitVec 32 := BitVec.ofNat 32 (i 0).val
  let c0_i32 : BitVec 32 := 0#32
  let v0 : BitVec 1 := Scalar.cmpi .eq arg0 c0_i32
  let v615 : BitVec 32 := Scalar.extui v0
  let c0_i32_216 : BitVec 32 := 0#32
  let v616 : BitVec 1 := Scalar.cmpi .ne v615 c0_i32_216
  v616

def k0_cond3 (i : grid0.Coords) : BitVec 1 :=
  let arg0 : BitVec 32 := BitVec.ofNat 32 (i 0).val
  let c0_i32 : BitVec 32 := 0#32
  let v0 : BitVec 1 := Scalar.cmpi .eq arg0 c0_i32
  let v_true : BitVec 1 := 1#1
  let v617 : BitVec 1 := Scalar.xori v0 v_true
  let v618 : BitVec 32 := Scalar.extui v617
  let c0_i32_217 : BitVec 32 := 0#32
  let v619 : BitVec 1 := Scalar.cmpi .ne v618 c0_i32_217
  v619

def cc0_transform_0 (i : grid0.Coords) : Fin 2 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  ![v0.toNat, c0_i32.toNat]

def cc0_transform_5 (i : grid0.Coords) : Fin 3 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  let c0_i32_1 : BitVec 32 := 0#32
  ![c0_i32.toNat, v0.toNat, c0_i32_0.toNat]

def cc0_transform_6 (i : grid0.Coords) : Fin 2 → Nat :=
  let arg0 : BitVec 32 := BitVec.ofNat 32 (i 0).val
  let c63_i32 : BitVec 32 := 63#32
  let v0 : BitVec 32 := Scalar.subi c63_i32 arg0
  let c13_i32 : BitVec 32 := 13#32
  let c0_i32 : BitVec 32 := 0#32
  ![v0.toNat, c13_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 4 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  let c0_i32_1 : BitVec 32 := 0#32
  let c0_i32_2 : BitVec 32 := 0#32
  ![v0.toNat, c0_i32.toNat, c0_i32_0.toNat, c0_i32_1.toNat]

def cc0_transform_9 (i : grid0.Coords) : Fin 2 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  ![v0.toNat, c0_i32.toNat]

def cc0_transform_10 (i : grid0.Coords) : Fin 2 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  ![v0.toNat, c0_i32.toNat]

def cc0_transform_11 (i : grid0.Coords) : Fin 2 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  ![v0.toNat, c0_i32.toNat]

def cc0_transform_12 (i : grid0.Coords) : Fin 2 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  ![v0.toNat, c0_i32.toNat]

def cc0_transform_13 (i : grid0.Coords) : Fin 2 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  ![v0.toNat, c0_i32.toNat]

def cc0_transform_14 (i : grid0.Coords) : Fin 2 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  ![v0.toNat, c0_i32.toNat]

def cc0_transform_15 (i : grid0.Coords) : Fin 3 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  let c0_i32_1 : BitVec 32 := 0#32
  ![c0_i32.toNat, v0.toNat, c0_i32_0.toNat]

def cc0_transform_16 (i : grid0.Coords) : Fin 2 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  ![v0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S64x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4x64x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1x4x128x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S64x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S64x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S64x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S64x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S64x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S64x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S4x64x64 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S64x512 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 1 → Memref sig .tc .vmem S1x128 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]
-- ==== Reference7Ideal.lean ====
abbrev S4096x512 : Shape := ⟨2, ![4096, 512]⟩
abbrev S4x4096x64 : Shape := ⟨3, ![4, 4096, 64]⟩
abbrev S4096x8832 : Shape := ⟨2, ![4096, 8832]⟩
abbrev S1x128 : Shape := ⟨2, ![1, 128]⟩
abbrev S64x4x128x128 : Shape := ⟨4, ![64, 4, 128, 128]⟩
abbrev S4x64x64x64 : Shape := ⟨4, ![4, 64, 64, 64]⟩
abbrev S64x4x64x64 : Shape := ⟨4, ![64, 4, 64, 64]⟩
abbrev S64x64x4x128 : Shape := ⟨4, ![64, 64, 4, 128]⟩
abbrev S64x4x64x128 : Shape := ⟨4, ![64, 4, 64, 128]⟩
abbrev S_ : Shape := ⟨0, ![]⟩
abbrev S4x128x128 : Shape := ⟨3, ![4, 128, 128]⟩
abbrev S64x1x128 : Shape := ⟨3, ![64, 1, 128]⟩
abbrev S1x4x128x128 : Shape := ⟨4, ![1, 4, 128, 128]⟩
abbrev S1x4x64x128 : Shape := ⟨4, ![1, 4, 64, 128]⟩
abbrev S4x64x128 : Shape := ⟨3, ![4, 64, 128]⟩
abbrev S1x4x64x64 : Shape := ⟨4, ![1, 4, 64, 64]⟩
abbrev S4x64x64 : Shape := ⟨3, ![4, 64, 64]⟩
abbrev S4x64 : Shape := ⟨2, ![4, 64]⟩
abbrev S4x64x1 : Shape := ⟨3, ![4, 64, 1]⟩
abbrev S1x1x128 : Shape := ⟨3, ![1, 1, 128]⟩
abbrev S128 : Shape := ⟨1, ![128]⟩
abbrev S4x128x64 : Shape := ⟨3, ![4, 128, 64]⟩

abbrev nBuf : Space → Nat
  | .hbm => 272
  | .vmem => 0
  | .smem => 0
  | _ => 0

abbrev hbmTy0_0 (i : Nat) : BufTy := match i % 128 with
  | 0 => ⟨S4096x512, .f32⟩
  | 1 => ⟨S4096x512, .f32⟩
  | 2 => ⟨S4096x512, .f32⟩
  | 3 => ⟨S4096x512, .f32⟩
  | 4 => ⟨S4096x512, .f32⟩
  | 5 => ⟨S4x4096x64, .f32⟩
  | 6 => ⟨S4096x8832, .f32⟩
  | 7 => ⟨S1x128, .f32⟩
  | 8 => ⟨S64x4x128x128, .f32⟩
  | 9 => ⟨S4096x512, .f32⟩
  | 10 => ⟨S4x64x64x64, .f32⟩
  | 11 => ⟨S64x4x64x64, .f32⟩
  | 12 => ⟨S4096x512, .f32⟩
  | 13 => ⟨S64x64x4x128, .f32⟩
  | 14 => ⟨S64x4x64x128, .f32⟩
  | 15 => ⟨S64x64x4x128, .f32⟩
  | 16 => ⟨S64x4x64x128, .f32⟩
  | 17 => ⟨S64x64x4x128, .f32⟩
  | 18 => ⟨S64x4x64x128, .f32⟩
  | 19 => ⟨S64x64x4x128, .f32⟩
  | 20 => ⟨S64x4x64x128, .f32⟩
  | 21 => ⟨S64x64x4x128, .f32⟩
  | 22 => ⟨S64x4x64x128, .f32⟩
  | 23 => ⟨S64x64x4x128, .f32⟩
  | 24 => ⟨S64x4x64x128, .f32⟩
  | 25 => ⟨S64x64x4x128, .f32⟩
  | 26 => ⟨S64x4x64x128, .f32⟩
  | 27 => ⟨S_, .f32⟩
  | 28 => ⟨S4x128x128, .f32⟩
  | 29 => ⟨S_, .f32⟩
  | 30 => ⟨S64x4x64x128, .f32⟩
  | 31 => ⟨S_, .f32⟩
  | 32 => ⟨S64x4x64x128, .f32⟩
  | 33 => ⟨S_, .f32⟩
  | 34 => ⟨S64x4x64x128, .f32⟩
  | 35 => ⟨S_, .f32⟩
  | 36 => ⟨S64x4x64x128, .f32⟩
  | 37 => ⟨S_, .f32⟩
  | 38 => ⟨S64x4x64x128, .f32⟩
  | 39 => ⟨S_, .f32⟩
  | 40 => ⟨S64x4x64x64, .f32⟩
  | 41 => ⟨S_, .f32⟩
  | 42 => ⟨S64x4x64x128, .f32⟩
  | 43 => ⟨S_, .f32⟩
  | 44 => ⟨S64x1x128, .f32⟩
  | 45 => ⟨S_, .i32⟩
  | 46 => ⟨S64x4x128x128, .f32⟩
  | 47 => ⟨S64x4x64x128, .f32⟩
  | 48 => ⟨S64x4x64x128, .f32⟩
  | 49 => ⟨S64x4x64x128, .f32⟩
  | 50 => ⟨S64x4x64x128, .f32⟩
  | 51 => ⟨S64x4x64x128, .f32⟩
  | 52 => ⟨S64x4x64x64, .f32⟩
  | 53 => ⟨S64x4x64x128, .f32⟩
  | 54 => ⟨S64x4x64x128, .f32⟩
  | 55 => ⟨S1x128, .f32⟩
  | 56 => ⟨S_, .i32⟩
  | 57 => ⟨S4x128x128, .f32⟩
  | 58 => ⟨S64x4x64x128, .f32⟩
  | 59 => ⟨S64x4x64x128, .f32⟩
  | 60 => ⟨S64x4x64x128, .f32⟩
  | 61 => ⟨S64x4x64x128, .f32⟩
  | 62 => ⟨S64x4x64x128, .f32⟩
  | 63 => ⟨S64x4x64x64, .f32⟩
  | 64 => ⟨S64x4x64x128, .f32⟩
  | 65 => ⟨S64x1x128, .f32⟩
  | 66 => ⟨S_, .i32⟩
  | 67 => ⟨S_, .i1⟩
  | 68 => ⟨S_, .i32⟩
  | 69 => ⟨S_, .i32⟩
  | 70 => ⟨S_, .i32⟩
  | 71 => ⟨S_, .i32⟩
  | 72 => ⟨S_, .i32⟩
  | 73 => ⟨S_, .i32⟩
  | 74 => ⟨S_, .i32⟩
  | 75 => ⟨S1x4x128x128, .f32⟩
  | 76 => ⟨S4x128x128, .f32⟩
  | 77 => ⟨S_, .i32⟩
  | 78 => ⟨S_, .i32⟩
  | 79 => ⟨S_, .i32⟩
  | 80 => ⟨S1x4x64x128, .f32⟩
  | 81 => ⟨S4x64x128, .f32⟩
  | 82 => ⟨S_, .i32⟩
  | 83 => ⟨S_, .i32⟩
  | 84 => ⟨S_, .i32⟩
  | 85 => ⟨S1x4x64x128, .f32⟩
  | 86 => ⟨S4x64x128, .f32⟩
  | 87 => ⟨S_, .i32⟩
  | 88 => ⟨S_, .i32⟩
  | 89 => ⟨S_, .i32⟩
  | 90 => ⟨S1x4x64x128, .f32⟩
  | 91 => ⟨S4x64x128, .f32⟩
  | 92 => ⟨S_, .i32⟩
  | 93 => ⟨S_, .i32⟩
  | 94 => ⟨S_, .i32⟩
  | 95 => ⟨S1x4x64x128, .f32⟩
  | 96 => ⟨S4x64x128, .f32⟩
  | 97 => ⟨S_, .i32⟩
  | 98 => ⟨S_, .i32⟩
  | 99 => ⟨S_, .i32⟩
  | 100 => ⟨S1x4x64x128, .f32⟩
  | 101 => ⟨S4x64x128, .f32⟩
  | 102 => ⟨S_, .i32⟩
  | 103 => ⟨S_, .i32⟩
  | 104 => ⟨S_, .i32⟩
  | 105 => ⟨S1x4x64x64, .f32⟩
  | 106 => ⟨S4x64x64, .f32⟩
  | 107 => ⟨S_, .i32⟩
  | 108 => ⟨S_, .i32⟩
  | 109 => ⟨S_, .i32⟩
  | 110 => ⟨S1x4x64x128, .f32⟩
  | 111 => ⟨S4x64x128, .f32⟩
  | 112 => ⟨S_, .i32⟩
  | 113 => ⟨S_, .i32⟩
  | 114 => ⟨S_, .i32⟩
  | 115 => ⟨S1x4x64x128, .f32⟩
  | 116 => ⟨S4x64x128, .f32⟩
  | 117 => ⟨S4x64x128, .f32⟩
  | 118 => ⟨S4x64x128, .f32⟩
  | 119 => ⟨S4x64x128, .f32⟩
  | 120 => ⟨S4x64x128, .f32⟩
  | 121 => ⟨S4x64x128, .f32⟩
  | 122 => ⟨S4x128x128, .f32⟩
  | 123 => ⟨S4x128x128, .f32⟩
  | 124 => ⟨S4x128x128, .f32⟩
  | 125 => ⟨S4x128x128, .f32⟩
  | 126 => ⟨S4x64x128, .f32⟩
  | 127 => ⟨S_, .f32⟩
  | _ => ⟨S4096x512, .f32⟩

abbrev hbmTy0_1 (i : Nat) : BufTy := match i % 128 with
  | 0 => ⟨S4x64, .f32⟩
  | 1 => ⟨S4x64x1, .f32⟩
  | 2 => ⟨S_, .f32⟩
  | 3 => ⟨S4x64x1, .f32⟩
  | 4 => ⟨S4x64x1, .f32⟩
  | 5 => ⟨S_, .f32⟩
  | 6 => ⟨S4x64x1, .f32⟩
  | 7 => ⟨S4x64x1, .f32⟩
  | 8 => ⟨S4x64x1, .f32⟩
  | 9 => ⟨S4x64x1, .f32⟩
  | 10 => ⟨S_, .f32⟩
  | 11 => ⟨S4x64x1, .f32⟩
  | 12 => ⟨S4x64x1, .f32⟩
  | 13 => ⟨S4x64x128, .f32⟩
  | 14 => ⟨S4x64x128, .f32⟩
  | 15 => ⟨S1x1x128, .f32⟩
  | 16 => ⟨S4x64x128, .f32⟩
  | 17 => ⟨S4x64x128, .f32⟩
  | 18 => ⟨S4x64x128, .f32⟩
  | 19 => ⟨S4x64x128, .f32⟩
  | 20 => ⟨S_, .f32⟩
  | 21 => ⟨S4x64x128, .f32⟩
  | 22 => ⟨S4x64x128, .f32⟩
  | 23 => ⟨S_, .f32⟩
  | 24 => ⟨S4x64x128, .f32⟩
  | 25 => ⟨S4x64x128, .f32⟩
  | 26 => ⟨S_, .f32⟩
  | 27 => ⟨S4x64x128, .f32⟩
  | 28 => ⟨S4x64x128, .f32⟩
  | 29 => ⟨S4x64x128, .f32⟩
  | 30 => ⟨S4x64x128, .f32⟩
  | 31 => ⟨S4x64x128, .f32⟩
  | 32 => ⟨S4x64x128, .f32⟩
  | 33 => ⟨S4x64x128, .f32⟩
  | 34 => ⟨S4x64x128, .f32⟩
  | 35 => ⟨S4x64x128, .f32⟩
  | 36 => ⟨S4x64x128, .f32⟩
  | 37 => ⟨S4x64x128, .f32⟩
  | 38 => ⟨S4x64x128, .f32⟩
  | 39 => ⟨S_, .f32⟩
  | 40 => ⟨S128, .f32⟩
  | 41 => ⟨S1x1x128, .f32⟩
  | 42 => ⟨S4x64x128, .f32⟩
  | 43 => ⟨S4x64x128, .f32⟩
  | 44 => ⟨S_, .f32⟩
  | 45 => ⟨S128, .f32⟩
  | 46 => ⟨S1x128, .f32⟩
  | 47 => ⟨S4x64x128, .f32⟩
  | 48 => ⟨S_, .f32⟩
  | 49 => ⟨S4x64, .f32⟩
  | 50 => ⟨S4x64x1, .f32⟩
  | 51 => ⟨S4x64x128, .f32⟩
  | 52 => ⟨S4x64x128, .f32⟩
  | 53 => ⟨S4x64x1, .f32⟩
  | 54 => ⟨S_, .f32⟩
  | 55 => ⟨S4x64x1, .f32⟩
  | 56 => ⟨S4x64x1, .f32⟩
  | 57 => ⟨S_, .f32⟩
  | 58 => ⟨S4x64, .f32⟩
  | 59 => ⟨S4x64x128, .f32⟩
  | 60 => ⟨S4x64x128, .f32⟩
  | 61 => ⟨S4x64x128, .f32⟩
  | 62 => ⟨S4x64x128, .f32⟩
  | 63 => ⟨S4x64x128, .f32⟩
  | 64 => ⟨S4x128x64, .f32⟩
  | 65 => ⟨S4x64x128, .f32⟩
  | 66 => ⟨S4x128x64, .f32⟩
  | 67 => ⟨S4x64x128, .f32⟩
  | 68 => ⟨S4x128x128, .f32⟩
  | 69 => ⟨S4x128x128, .f32⟩
  | 70 => ⟨S4x64x128, .f32⟩
  | 71 => ⟨S4x64x128, .f32⟩
  | 72 => ⟨S4x64x128, .f32⟩
  | 73 => ⟨S4x128x64, .f32⟩
  | 74 => ⟨S4x64x128, .f32⟩
  | 75 => ⟨S4x64x128, .f32⟩
  | 76 => ⟨S4x64x64, .f32⟩
  | 77 => ⟨S4x128x128, .f32⟩
  | 78 => ⟨S4x128x128, .f32⟩
  | 79 => ⟨S4x128x128, .f32⟩
  | 80 => ⟨S4x64x128, .f32⟩
  | 81 => ⟨S4x64x128, .f32⟩
  | 82 => ⟨S4x128x128, .f32⟩
  | 83 => ⟨S4x128x128, .f32⟩
  | 84 => ⟨S4x128x128, .f32⟩
  | 85 => ⟨S4x64x128, .f32⟩
  | 86 => ⟨S1x4x64x128, .f32⟩
  | 87 => ⟨S_, .i32⟩
  | 88 => ⟨S_, .i32⟩
  | 89 => ⟨S_, .i32⟩
  | 90 => ⟨S64x4x64x128, .f32⟩
  | 91 => ⟨S1x4x64x128, .f32⟩
  | 92 => ⟨S_, .i32⟩
  | 93 => ⟨S_, .i32⟩
  | 94 => ⟨S_, .i32⟩
  | 95 => ⟨S64x4x64x128, .f32⟩
  | 96 => ⟨S1x4x64x128, .f32⟩
  | 97 => ⟨S_, .i32⟩
  | 98 => ⟨S_, .i32⟩
  | 99 => ⟨S_, .i32⟩
  | 100 => ⟨S64x4x64x128, .f32⟩
  | 101 => ⟨S1x4x64x128, .f32⟩
  | 102 => ⟨S_, .i32⟩
  | 103 => ⟨S_, .i32⟩
  | 104 => ⟨S_, .i32⟩
  | 105 => ⟨S64x4x64x128, .f32⟩
  | 106 => ⟨S1x4x64x128, .f32⟩
  | 107 => ⟨S_, .i32⟩
  | 108 => ⟨S_, .i32⟩
  | 109 => ⟨S_, .i32⟩
  | 110 => ⟨S64x4x64x128, .f32⟩
  | 111 => ⟨S1x4x64x64, .f32⟩
  | 112 => ⟨S_, .i32⟩
  | 113 => ⟨S_, .i32⟩
  | 114 => ⟨S_, .i32⟩
  | 115 => ⟨S64x4x64x64, .f32⟩
  | 116 => ⟨S1x4x64x128, .f32⟩
  | 117 => ⟨S_, .i32⟩
  | 118 => ⟨S_, .i32⟩
  | 119 => ⟨S_, .i32⟩
  | 120 => ⟨S64x4x64x128, .f32⟩
  | 121 => ⟨S1x1x128, .f32⟩
  | 122 => ⟨S_, .i32⟩
  | 123 => ⟨S_, .i32⟩
  | 124 => ⟨S64x1x128, .f32⟩
  | 125 => ⟨S_, .i32⟩
  | 126 => ⟨S_, .i32⟩
  | 127 => ⟨S4x64x64x64, .f32⟩
  | _ => ⟨S4096x512, .f32⟩

abbrev hbmTy0_2 (i : Nat) : BufTy := match i % 128 with
  | 0 => ⟨S4x4096x64, .f32⟩
  | 1 => ⟨S64x64x4x128, .f32⟩
  | 2 => ⟨S4096x512, .f32⟩
  | 3 => ⟨S64x64x4x128, .f32⟩
  | 4 => ⟨S4096x512, .f32⟩
  | 5 => ⟨S64x64x4x128, .f32⟩
  | 6 => ⟨S4096x512, .f32⟩
  | 7 => ⟨S64x64x4x128, .f32⟩
  | 8 => ⟨S4096x512, .f32⟩
  | 9 => ⟨S64x64x4x128, .f32⟩
  | 10 => ⟨S4096x512, .f32⟩
  | 11 => ⟨S64x64x4x128, .f32⟩
  | 12 => ⟨S4096x512, .f32⟩
  | 13 => ⟨S4096x512, .bf16⟩
  | 14 => ⟨S_, .f32⟩
  | 15 => ⟨S1x128, .f32⟩
  | _ => ⟨S4096x512, .f32⟩

abbrev hbmTy (i : Nat) : BufTy := match i / 128 with
  | 0 => hbmTy0_0 i
  | 1 => hbmTy0_1 i
  | 2 => hbmTy0_2 i
  | _ => ⟨S4096x512, .f32⟩

abbrev bufTy : (tb : Table) → Fin (tcTables nBuf tb) → BufTy
  | .hbm, ⟨i, _⟩ => hbmTy i
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst : Ref sig .tc := ⟨.hbm, 27, rfl⟩
abbrev main_v17 : Ref sig .tc := ⟨.hbm, 28, rfl⟩
abbrev main_cst_0 : Ref sig .tc := ⟨.hbm, 29, rfl⟩
abbrev main_v18 : Ref sig .tc := ⟨.hbm, 30, rfl⟩
abbrev main_cst_1 : Ref sig .tc := ⟨.hbm, 31, rfl⟩
abbrev main_v19 : Ref sig .tc := ⟨.hbm, 32, rfl⟩
abbrev main_cst_2 : Ref sig .tc := ⟨.hbm, 33, rfl⟩
abbrev main_v20 : Ref sig .tc := ⟨.hbm, 34, rfl⟩
abbrev main_cst_3 : Ref sig .tc := ⟨.hbm, 35, rfl⟩
abbrev main_v21 : Ref sig .tc := ⟨.hbm, 36, rfl⟩
abbrev main_cst_4 : Ref sig .tc := ⟨.hbm, 37, rfl⟩
abbrev main_v22 : Ref sig .tc := ⟨.hbm, 38, rfl⟩
abbrev main_cst_5 : Ref sig .tc := ⟨.hbm, 39, rfl⟩
abbrev main_v23 : Ref sig .tc := ⟨.hbm, 40, rfl⟩
abbrev main_cst_6 : Ref sig .tc := ⟨.hbm, 41, rfl⟩
abbrev main_v24 : Ref sig .tc := ⟨.hbm, 42, rfl⟩
abbrev main_cst_7 : Ref sig .tc := ⟨.hbm, 43, rfl⟩
abbrev main_v25 : Ref sig .tc := ⟨.hbm, 44, rfl⟩
abbrev main_c : Ref sig .tc := ⟨.hbm, 45, rfl⟩
abbrev main_v26_0 : Ref sig .tc := ⟨.hbm, 46, rfl⟩
abbrev main_v26_1 : Ref sig .tc := ⟨.hbm, 47, rfl⟩
abbrev main_v26_2 : Ref sig .tc := ⟨.hbm, 48, rfl⟩
abbrev main_v26_3 : Ref sig .tc := ⟨.hbm, 49, rfl⟩
abbrev main_v26_4 : Ref sig .tc := ⟨.hbm, 50, rfl⟩
abbrev main_v26_5 : Ref sig .tc := ⟨.hbm, 51, rfl⟩
abbrev main_v26_6 : Ref sig .tc := ⟨.hbm, 52, rfl⟩
abbrev main_v26_7 : Ref sig .tc := ⟨.hbm, 53, rfl⟩
abbrev main_v26_8 : Ref sig .tc := ⟨.hbm, 54, rfl⟩
abbrev main_v26_9 : Ref sig .tc := ⟨.hbm, 55, rfl⟩
abbrev main_v26_10 : Ref sig .tc := ⟨.hbm, 56, rfl⟩
abbrev main_v26_11 : Ref sig .tc := ⟨.hbm, 57, rfl⟩
abbrev main_v26_12 : Ref sig .tc := ⟨.hbm, 58, rfl⟩
abbrev main_v26_13 : Ref sig .tc := ⟨.hbm, 59, rfl⟩
abbrev main_v26_14 : Ref sig .tc := ⟨.hbm, 60, rfl⟩
abbrev main_v26_15 : Ref sig .tc := ⟨.hbm, 61, rfl⟩
abbrev main_v26_16 : Ref sig .tc := ⟨.hbm, 62, rfl⟩
abbrev main_v26_17 : Ref sig .tc := ⟨.hbm, 63, rfl⟩
abbrev main_v26_18 : Ref sig .tc := ⟨.hbm, 64, rfl⟩
abbrev main_v26_19 : Ref sig .tc := ⟨.hbm, 65, rfl⟩
abbrev main_while0c_c_28 : Ref sig .tc := ⟨.hbm, 66, rfl⟩
abbrev main_while0c_v43 : Ref sig .tc := ⟨.hbm, 67, rfl⟩
abbrev main_while0b_c_28 : Ref sig .tc := ⟨.hbm, 68, rfl⟩
abbrev main_while0b_v43 : Ref sig .tc := ⟨.hbm, 69, rfl⟩
abbrev main_while0b_c_29 : Ref sig .tc := ⟨.hbm, 70, rfl⟩
abbrev main_while0b_v44 : Ref sig .tc := ⟨.hbm, 71, rfl⟩
abbrev main_while0b_call0_c : Ref sig .tc := ⟨.hbm, 72, rfl⟩
abbrev main_while0b_call0_c_0 : Ref sig .tc := ⟨.hbm, 73, rfl⟩
abbrev main_while0b_call0_c_1 : Ref sig .tc := ⟨.hbm, 74, rfl⟩
abbrev main_while0b_call0_v0 : Ref sig .tc := ⟨.hbm, 75, rfl⟩
abbrev main_while0b_v45 : Ref sig .tc := ⟨.hbm, 76, rfl⟩
abbrev main_while0b_call1_c : Ref sig .tc := ⟨.hbm, 77, rfl⟩
abbrev main_while0b_call1_c_0 : Ref sig .tc := ⟨.hbm, 78, rfl⟩
abbrev main_while0b_call1_c_1 : Ref sig .tc := ⟨.hbm, 79, rfl⟩
abbrev main_while0b_call1_v0 : Ref sig .tc := ⟨.hbm, 80, rfl⟩
abbrev main_while0b_v46 : Ref sig .tc := ⟨.hbm, 81, rfl⟩
abbrev main_while0b_call2_c : Ref sig .tc := ⟨.hbm, 82, rfl⟩
abbrev main_while0b_call2_c_0 : Ref sig .tc := ⟨.hbm, 83, rfl⟩
abbrev main_while0b_call2_c_1 : Ref sig .tc := ⟨.hbm, 84, rfl⟩
abbrev main_while0b_call2_v0 : Ref sig .tc := ⟨.hbm, 85, rfl⟩
abbrev main_while0b_v47 : Ref sig .tc := ⟨.hbm, 86, rfl⟩
abbrev main_while0b_call3_c : Ref sig .tc := ⟨.hbm, 87, rfl⟩
abbrev main_while0b_call3_c_0 : Ref sig .tc := ⟨.hbm, 88, rfl⟩
abbrev main_while0b_call3_c_1 : Ref sig .tc := ⟨.hbm, 89, rfl⟩
abbrev main_while0b_call3_v0 : Ref sig .tc := ⟨.hbm, 90, rfl⟩
abbrev main_while0b_v48 : Ref sig .tc := ⟨.hbm, 91, rfl⟩
abbrev main_while0b_call4_c : Ref sig .tc := ⟨.hbm, 92, rfl⟩
abbrev main_while0b_call4_c_0 : Ref sig .tc := ⟨.hbm, 93, rfl⟩
abbrev main_while0b_call4_c_1 : Ref sig .tc := ⟨.hbm, 94, rfl⟩
abbrev main_while0b_call4_v0 : Ref sig .tc := ⟨.hbm, 95, rfl⟩
abbrev main_while0b_v49 : Ref sig .tc := ⟨.hbm, 96, rfl⟩
abbrev main_while0b_call5_c : Ref sig .tc := ⟨.hbm, 97, rfl⟩
abbrev main_while0b_call5_c_0 : Ref sig .tc := ⟨.hbm, 98, rfl⟩
abbrev main_while0b_call5_c_1 : Ref sig .tc := ⟨.hbm, 99, rfl⟩
abbrev main_while0b_call5_v0 : Ref sig .tc := ⟨.hbm, 100, rfl⟩
abbrev main_while0b_v50 : Ref sig .tc := ⟨.hbm, 101, rfl⟩
abbrev main_while0b_call6_c : Ref sig .tc := ⟨.hbm, 102, rfl⟩
abbrev main_while0b_call6_c_0 : Ref sig .tc := ⟨.hbm, 103, rfl⟩
abbrev main_while0b_call6_c_1 : Ref sig .tc := ⟨.hbm, 104, rfl⟩
abbrev main_while0b_call6_v0 : Ref sig .tc := ⟨.hbm, 105, rfl⟩
abbrev main_while0b_v51 : Ref sig .tc := ⟨.hbm, 106, rfl⟩
abbrev main_while0b_call7_c : Ref sig .tc := ⟨.hbm, 107, rfl⟩
abbrev main_while0b_call7_c_0 : Ref sig .tc := ⟨.hbm, 108, rfl⟩
abbrev main_while0b_call7_c_1 : Ref sig .tc := ⟨.hbm, 109, rfl⟩
abbrev main_while0b_call7_v0 : Ref sig .tc := ⟨.hbm, 110, rfl⟩
abbrev main_while0b_v52 : Ref sig .tc := ⟨.hbm, 111, rfl⟩
abbrev main_while0b_call8_c : Ref sig .tc := ⟨.hbm, 112, rfl⟩
abbrev main_while0b_call8_c_0 : Ref sig .tc := ⟨.hbm, 113, rfl⟩
abbrev main_while0b_call8_c_1 : Ref sig .tc := ⟨.hbm, 114, rfl⟩
abbrev main_while0b_call8_v0 : Ref sig .tc := ⟨.hbm, 115, rfl⟩
abbrev main_while0b_v53 : Ref sig .tc := ⟨.hbm, 116, rfl⟩
abbrev main_while0b_v54 : Ref sig .tc := ⟨.hbm, 117, rfl⟩
abbrev main_while0b_v55 : Ref sig .tc := ⟨.hbm, 118, rfl⟩
abbrev main_while0b_v56 : Ref sig .tc := ⟨.hbm, 119, rfl⟩
abbrev main_while0b_v57 : Ref sig .tc := ⟨.hbm, 120, rfl⟩
abbrev main_while0b_v58 : Ref sig .tc := ⟨.hbm, 121, rfl⟩
abbrev main_while0b_v59 : Ref sig .tc := ⟨.hbm, 122, rfl⟩
abbrev main_while0b_v60 : Ref sig .tc := ⟨.hbm, 123, rfl⟩
abbrev main_while0b_v61 : Ref sig .tc := ⟨.hbm, 124, rfl⟩
abbrev main_while0b_v62 : Ref sig .tc := ⟨.hbm, 125, rfl⟩
abbrev main_while0b_v63 : Ref sig .tc := ⟨.hbm, 126, rfl⟩
abbrev main_while0b_cst_30 : Ref sig .tc := ⟨.hbm, 127, rfl⟩
abbrev main_while0b_v64 : Ref sig .tc := ⟨.hbm, 128, rfl⟩
abbrev main_while0b_v65 : Ref sig .tc := ⟨.hbm, 129, rfl⟩
abbrev main_while0b_cst_31 : Ref sig .tc := ⟨.hbm, 130, rfl⟩
abbrev main_while0b_v66 : Ref sig .tc := ⟨.hbm, 131, rfl⟩
abbrev main_while0b_v67 : Ref sig .tc := ⟨.hbm, 132, rfl⟩
abbrev main_while0b_cst_32 : Ref sig .tc := ⟨.hbm, 133, rfl⟩
abbrev main_while0b_v68 : Ref sig .tc := ⟨.hbm, 134, rfl⟩
abbrev main_while0b_v69 : Ref sig .tc := ⟨.hbm, 135, rfl⟩
abbrev main_while0b_v70 : Ref sig .tc := ⟨.hbm, 136, rfl⟩
abbrev main_while0b_v71 : Ref sig .tc := ⟨.hbm, 137, rfl⟩
abbrev main_while0b_cst_33 : Ref sig .tc := ⟨.hbm, 138, rfl⟩
abbrev main_while0b_v72 : Ref sig .tc := ⟨.hbm, 139, rfl⟩
abbrev main_while0b_v73 : Ref sig .tc := ⟨.hbm, 140, rfl⟩
abbrev main_while0b_v74 : Ref sig .tc := ⟨.hbm, 141, rfl⟩
abbrev main_while0b_v75 : Ref sig .tc := ⟨.hbm, 142, rfl⟩
abbrev main_while0b_v76 : Ref sig .tc := ⟨.hbm, 143, rfl⟩
abbrev main_while0b_v77 : Ref sig .tc := ⟨.hbm, 144, rfl⟩
abbrev main_while0b_v78 : Ref sig .tc := ⟨.hbm, 145, rfl⟩
abbrev main_while0b_call9_v0 : Ref sig .tc := ⟨.hbm, 146, rfl⟩
abbrev main_while0b_call9_v1 : Ref sig .tc := ⟨.hbm, 147, rfl⟩
abbrev main_while0b_call9_cst : Ref sig .tc := ⟨.hbm, 148, rfl⟩
abbrev main_while0b_call9_v2 : Ref sig .tc := ⟨.hbm, 149, rfl⟩
abbrev main_while0b_call9_v3 : Ref sig .tc := ⟨.hbm, 150, rfl⟩
abbrev main_while0b_call9_cst_0 : Ref sig .tc := ⟨.hbm, 151, rfl⟩
abbrev main_while0b_call9_v4 : Ref sig .tc := ⟨.hbm, 152, rfl⟩
abbrev main_while0b_v79_2 : Ref sig .tc := ⟨.hbm, 153, rfl⟩
abbrev main_while0b_call9_cst_1 : Ref sig .tc := ⟨.hbm, 154, rfl⟩
abbrev main_while0b_call9_v6 : Ref sig .tc := ⟨.hbm, 155, rfl⟩
abbrev main_while0b_call9_v7 : Ref sig .tc := ⟨.hbm, 156, rfl⟩
abbrev main_while0b_v79_1 : Ref sig .tc := ⟨.hbm, 157, rfl⟩
abbrev main_while0b_v79_0 : Ref sig .tc := ⟨.hbm, 158, rfl⟩
abbrev main_while0b_v80 : Ref sig .tc := ⟨.hbm, 159, rfl⟩
abbrev main_while0b_v81 : Ref sig .tc := ⟨.hbm, 160, rfl⟩
abbrev main_while0b_v82 : Ref sig .tc := ⟨.hbm, 161, rfl⟩
abbrev main_while0b_call10_v0 : Ref sig .tc := ⟨.hbm, 162, rfl⟩
abbrev main_while0b_call10_v1 : Ref sig .tc := ⟨.hbm, 163, rfl⟩
abbrev main_while0b_call10_v2 : Ref sig .tc := ⟨.hbm, 164, rfl⟩
abbrev main_while0b_v83 : Ref sig .tc := ⟨.hbm, 165, rfl⟩
abbrev main_while0b_v84 : Ref sig .tc := ⟨.hbm, 166, rfl⟩
abbrev main_while0b_cst_34 : Ref sig .tc := ⟨.hbm, 167, rfl⟩
abbrev main_while0b_v85 : Ref sig .tc := ⟨.hbm, 168, rfl⟩
abbrev main_while0b_v86 : Ref sig .tc := ⟨.hbm, 169, rfl⟩
abbrev main_while0b_v87 : Ref sig .tc := ⟨.hbm, 170, rfl⟩
abbrev main_while0b_v88 : Ref sig .tc := ⟨.hbm, 171, rfl⟩
abbrev main_while0b_cst_35 : Ref sig .tc := ⟨.hbm, 172, rfl⟩
abbrev main_while0b_v89 : Ref sig .tc := ⟨.hbm, 173, rfl⟩
abbrev main_while0b_v90 : Ref sig .tc := ⟨.hbm, 174, rfl⟩
abbrev main_while0b_v91 : Ref sig .tc := ⟨.hbm, 175, rfl⟩
abbrev main_while0b_cst_36 : Ref sig .tc := ⟨.hbm, 176, rfl⟩
abbrev main_while0b_v92 : Ref sig .tc := ⟨.hbm, 177, rfl⟩
abbrev main_while0b_v93 : Ref sig .tc := ⟨.hbm, 178, rfl⟩
abbrev main_while0b_v94 : Ref sig .tc := ⟨.hbm, 179, rfl⟩
abbrev main_while0b_v95 : Ref sig .tc := ⟨.hbm, 180, rfl⟩
abbrev main_while0b_v96 : Ref sig .tc := ⟨.hbm, 181, rfl⟩
abbrev main_while0b_cst_37 : Ref sig .tc := ⟨.hbm, 182, rfl⟩
abbrev main_while0b_v97 : Ref sig .tc := ⟨.hbm, 183, rfl⟩
abbrev main_while0b_v98 : Ref sig .tc := ⟨.hbm, 184, rfl⟩
abbrev main_while0b_cst_38 : Ref sig .tc := ⟨.hbm, 185, rfl⟩
abbrev main_while0b_v99 : Ref sig .tc := ⟨.hbm, 186, rfl⟩
abbrev main_while0b_v100 : Ref sig .tc := ⟨.hbm, 187, rfl⟩
abbrev main_while0b_v101 : Ref sig .tc := ⟨.hbm, 188, rfl⟩
abbrev main_while0b_v102 : Ref sig .tc := ⟨.hbm, 189, rfl⟩
abbrev main_while0b_v103 : Ref sig .tc := ⟨.hbm, 190, rfl⟩
abbrev main_while0b_v104 : Ref sig .tc := ⟨.hbm, 191, rfl⟩
abbrev main_while0b_v105 : Ref sig .tc := ⟨.hbm, 192, rfl⟩
abbrev main_while0b_v106 : Ref sig .tc := ⟨.hbm, 193, rfl⟩
abbrev main_while0b_v107 : Ref sig .tc := ⟨.hbm, 194, rfl⟩
abbrev main_while0b_v108 : Ref sig .tc := ⟨.hbm, 195, rfl⟩
abbrev main_while0b_v109 : Ref sig .tc := ⟨.hbm, 196, rfl⟩
abbrev main_while0b_v110 : Ref sig .tc := ⟨.hbm, 197, rfl⟩
abbrev main_while0b_v111 : Ref sig .tc := ⟨.hbm, 198, rfl⟩
abbrev main_while0b_v112 : Ref sig .tc := ⟨.hbm, 199, rfl⟩
abbrev main_while0b_v113 : Ref sig .tc := ⟨.hbm, 200, rfl⟩
abbrev main_while0b_v114 : Ref sig .tc := ⟨.hbm, 201, rfl⟩
abbrev main_while0b_v115 : Ref sig .tc := ⟨.hbm, 202, rfl⟩
abbrev main_while0b_v116 : Ref sig .tc := ⟨.hbm, 203, rfl⟩
abbrev main_while0b_v117 : Ref sig .tc := ⟨.hbm, 204, rfl⟩
abbrev main_while0b_v118 : Ref sig .tc := ⟨.hbm, 205, rfl⟩
abbrev main_while0b_v119 : Ref sig .tc := ⟨.hbm, 206, rfl⟩
abbrev main_while0b_v120 : Ref sig .tc := ⟨.hbm, 207, rfl⟩
abbrev main_while0b_v121 : Ref sig .tc := ⟨.hbm, 208, rfl⟩
abbrev main_while0b_v122 : Ref sig .tc := ⟨.hbm, 209, rfl⟩
abbrev main_while0b_v123 : Ref sig .tc := ⟨.hbm, 210, rfl⟩
abbrev main_while0b_v124 : Ref sig .tc := ⟨.hbm, 211, rfl⟩
abbrev main_while0b_v125 : Ref sig .tc := ⟨.hbm, 212, rfl⟩
abbrev main_while0b_v126 : Ref sig .tc := ⟨.hbm, 213, rfl⟩
abbrev main_while0b_call11_v0 : Ref sig .tc := ⟨.hbm, 214, rfl⟩
abbrev main_while0b_call11_c : Ref sig .tc := ⟨.hbm, 215, rfl⟩
abbrev main_while0b_call11_c_0 : Ref sig .tc := ⟨.hbm, 216, rfl⟩
abbrev main_while0b_call11_c_1 : Ref sig .tc := ⟨.hbm, 217, rfl⟩
abbrev main_while0b_v127 : Ref sig .tc := ⟨.hbm, 218, rfl⟩
abbrev main_while0b_call12_v0 : Ref sig .tc := ⟨.hbm, 219, rfl⟩
abbrev main_while0b_call12_c : Ref sig .tc := ⟨.hbm, 220, rfl⟩
abbrev main_while0b_call12_c_0 : Ref sig .tc := ⟨.hbm, 221, rfl⟩
abbrev main_while0b_call12_c_1 : Ref sig .tc := ⟨.hbm, 222, rfl⟩
abbrev main_while0b_v128 : Ref sig .tc := ⟨.hbm, 223, rfl⟩
abbrev main_while0b_call13_v0 : Ref sig .tc := ⟨.hbm, 224, rfl⟩
abbrev main_while0b_call13_c : Ref sig .tc := ⟨.hbm, 225, rfl⟩
abbrev main_while0b_call13_c_0 : Ref sig .tc := ⟨.hbm, 226, rfl⟩
abbrev main_while0b_call13_c_1 : Ref sig .tc := ⟨.hbm, 227, rfl⟩
abbrev main_while0b_v129 : Ref sig .tc := ⟨.hbm, 228, rfl⟩
abbrev main_while0b_call14_v0 : Ref sig .tc := ⟨.hbm, 229, rfl⟩
abbrev main_while0b_call14_c : Ref sig .tc := ⟨.hbm, 230, rfl⟩
abbrev main_while0b_call14_c_0 : Ref sig .tc := ⟨.hbm, 231, rfl⟩
abbrev main_while0b_call14_c_1 : Ref sig .tc := ⟨.hbm, 232, rfl⟩
abbrev main_while0b_v130 : Ref sig .tc := ⟨.hbm, 233, rfl⟩
abbrev main_while0b_call15_v0 : Ref sig .tc := ⟨.hbm, 234, rfl⟩
abbrev main_while0b_call15_c : Ref sig .tc := ⟨.hbm, 235, rfl⟩
abbrev main_while0b_call15_c_0 : Ref sig .tc := ⟨.hbm, 236, rfl⟩
abbrev main_while0b_call15_c_1 : Ref sig .tc := ⟨.hbm, 237, rfl⟩
abbrev main_while0b_v131 : Ref sig .tc := ⟨.hbm, 238, rfl⟩
abbrev main_while0b_call16_v0 : Ref sig .tc := ⟨.hbm, 239, rfl⟩
abbrev main_while0b_call16_c : Ref sig .tc := ⟨.hbm, 240, rfl⟩
abbrev main_while0b_call16_c_0 : Ref sig .tc := ⟨.hbm, 241, rfl⟩
abbrev main_while0b_call16_c_1 : Ref sig .tc := ⟨.hbm, 242, rfl⟩
abbrev main_while0b_v132 : Ref sig .tc := ⟨.hbm, 243, rfl⟩
abbrev main_while0b_call17_v0 : Ref sig .tc := ⟨.hbm, 244, rfl⟩
abbrev main_while0b_call17_c : Ref sig .tc := ⟨.hbm, 245, rfl⟩
abbrev main_while0b_call17_c_0 : Ref sig .tc := ⟨.hbm, 246, rfl⟩
abbrev main_while0b_call17_c_1 : Ref sig .tc := ⟨.hbm, 247, rfl⟩
abbrev main_while0b_v133 : Ref sig .tc := ⟨.hbm, 248, rfl⟩
abbrev main_while0b_call18_v0 : Ref sig .tc := ⟨.hbm, 249, rfl⟩
abbrev main_while0b_call18_c : Ref sig .tc := ⟨.hbm, 250, rfl⟩
abbrev main_while0b_call18_c_0 : Ref sig .tc := ⟨.hbm, 251, rfl⟩
abbrev main_while0b_v134 : Ref sig .tc := ⟨.hbm, 252, rfl⟩
abbrev main_while0b_c_39 : Ref sig .tc := ⟨.hbm, 253, rfl⟩
abbrev main_while0b_v135 : Ref sig .tc := ⟨.hbm, 254, rfl⟩
abbrev main_v27 : Ref sig .tc := ⟨.hbm, 255, rfl⟩
abbrev main_v28 : Ref sig .tc := ⟨.hbm, 256, rfl⟩
abbrev main_v29 : Ref sig .tc := ⟨.hbm, 257, rfl⟩
abbrev main_v30 : Ref sig .tc := ⟨.hbm, 258, rfl⟩
abbrev main_v31 : Ref sig .tc := ⟨.hbm, 259, rfl⟩
abbrev main_v32 : Ref sig .tc := ⟨.hbm, 260, rfl⟩
abbrev main_v33 : Ref sig .tc := ⟨.hbm, 261, rfl⟩
abbrev main_v34 : Ref sig .tc := ⟨.hbm, 262, rfl⟩
abbrev main_v35 : Ref sig .tc := ⟨.hbm, 263, rfl⟩
abbrev main_v36 : Ref sig .tc := ⟨.hbm, 264, rfl⟩
abbrev main_v37 : Ref sig .tc := ⟨.hbm, 265, rfl⟩
abbrev main_v38 : Ref sig .tc := ⟨.hbm, 266, rfl⟩
abbrev main_v39 : Ref sig .tc := ⟨.hbm, 267, rfl⟩
abbrev main_v40 : Ref sig .tc := ⟨.hbm, 268, rfl⟩
abbrev main_v41 : Ref sig .tc := ⟨.hbm, 269, rfl⟩
abbrev main_cst_8 : Ref sig .tc := ⟨.hbm, 270, rfl⟩
abbrev main_v42 : Ref sig .tc := ⟨.hbm, 271, rfl⟩

abbrev nD : Nat := 1
abbrev τ : Topo := Topo.v7x

variable {F : FTy → Type} [FloatOps F]

abbrev main_while0_count : Scf.Loop 32 := ⟨0#32, 64#32, 1#32⟩
-- ==== Kernel8.lean ====
abbrev S4096x512 : Shape := ⟨2, ![4096, 512]⟩
abbrev S4096x8832 : Shape := ⟨2, ![4096, 8832]⟩
abbrev S4x512x1024 : Shape := ⟨3, ![4, 512, 1024]⟩
abbrev S4096x1024 : Shape := ⟨2, ![4096, 1024]⟩
abbrev S256x512 : Shape := ⟨2, ![256, 512]⟩
abbrev S256x4096 : Shape := ⟨2, ![256, 4096]⟩
abbrev S256x1024 : Shape := ⟨2, ![256, 1024]⟩
abbrev S1x512x1024 : Shape := ⟨3, ![1, 512, 1024]⟩
abbrev S512x1024 : Shape := ⟨2, ![512, 1024]⟩

abbrev nBuf : Space → Nat
  | .hbm => 7
  | .vmem => 13
  | .smem => 0
  | _ => 0

abbrev bufTy : (tb : Table) → Fin (tcTables nBuf tb) → BufTy
  | .hbm, ⟨0, _⟩ => ⟨S4096x512, .bf16⟩
  | .hbm, ⟨1, _⟩ => ⟨S4096x512, .bf16⟩
  | .hbm, ⟨2, _⟩ => ⟨S4096x512, .bf16⟩
  | .hbm, ⟨3, _⟩ => ⟨S4096x512, .bf16⟩
  | .hbm, ⟨4, _⟩ => ⟨S4096x8832, .f32⟩
  | .hbm, ⟨5, _⟩ => ⟨S4x512x1024, .bf16⟩
  | .hbm, ⟨6, _⟩ => ⟨S4096x1024, .bf16⟩
  | .local _ .vmem, ⟨0, _⟩ => ⟨S256x512, .bf16⟩
  | .local _ .vmem, ⟨1, _⟩ => ⟨S256x512, .bf16⟩
  | .local _ .vmem, ⟨2, _⟩ => ⟨S256x512, .bf16⟩
  | .local _ .vmem, ⟨3, _⟩ => ⟨S256x512, .bf16⟩
  | .local _ .vmem, ⟨4, _⟩ => ⟨S256x512, .bf16⟩
  | .local _ .vmem, ⟨5, _⟩ => ⟨S256x512, .bf16⟩
  | .local _ .vmem, ⟨6, _⟩ => ⟨S256x512, .bf16⟩
  | .local _ .vmem, ⟨7, _⟩ => ⟨S256x512, .bf16⟩
  | .local _ .vmem, ⟨8, _⟩ => ⟨S256x4096, .f32⟩
  | .local _ .vmem, ⟨9, _⟩ => ⟨S256x4096, .f32⟩
  | .local _ .vmem, ⟨10, _⟩ => ⟨S4x512x1024, .bf16⟩
  | .local _ .vmem, ⟨11, _⟩ => ⟨S256x1024, .bf16⟩
  | .local _ .vmem, ⟨12, _⟩ => ⟨S256x1024, .bf16⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S4x512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference8Ideal.lean ====
abbrev S4096x512 : Shape := ⟨2, ![4096, 512]⟩
abbrev S4096x8832 : Shape := ⟨2, ![4096, 8832]⟩
abbrev S4x512x1024 : Shape := ⟨3, ![4, 512, 1024]⟩
abbrev S4096x4096 : Shape := ⟨2, ![4096, 4096]⟩
abbrev S_ : Shape := ⟨0, ![]⟩
abbrev S4096x4x1024 : Shape := ⟨3, ![4096, 4, 1024]⟩
abbrev S4096x1x512 : Shape := ⟨3, ![4096, 1, 512]⟩
abbrev S4096x4x512 : Shape := ⟨3, ![4096, 4, 512]⟩
abbrev S4x1024x4096 : Shape := ⟨3, ![4, 1024, 4096]⟩
abbrev S4096x1024 : Shape := ⟨2, ![4096, 1024]⟩

abbrev nBuf : Space → Nat
  | .hbm => 32
  | .vmem => 0
  | .smem => 0
  | _ => 0

abbrev bufTy : (tb : Table) → Fin (tcTables nBuf tb) → BufTy
  | .hbm, ⟨0, _⟩ => ⟨S4096x512, .bf16⟩
  | .hbm, ⟨1, _⟩ => ⟨S4096x512, .bf16⟩
  | .hbm, ⟨2, _⟩ => ⟨S4096x512, .bf16⟩
  | .hbm, ⟨3, _⟩ => ⟨S4096x512, .bf16⟩
  | .hbm, ⟨4, _⟩ => ⟨S4096x8832, .f32⟩
  | .hbm, ⟨5, _⟩ => ⟨S4x512x1024, .bf16⟩
  | .hbm, ⟨6, _⟩ => ⟨S4096x512, .f32⟩
  | .hbm, ⟨7, _⟩ => ⟨S4096x512, .f32⟩
  | .hbm, ⟨8, _⟩ => ⟨S4096x512, .f32⟩
  | .hbm, ⟨9, _⟩ => ⟨S4096x512, .f32⟩
  | .hbm, ⟨10, _⟩ => ⟨S4096x4096, .f32⟩
  | .hbm, ⟨11, _⟩ => ⟨S4x512x1024, .f32⟩
  | .hbm, ⟨12, _⟩ => ⟨S4096x4096, .f32⟩
  | .hbm, ⟨13, _⟩ => ⟨S4096x4096, .f32⟩
  | .hbm, ⟨14, _⟩ => ⟨S_, .f32⟩
  | .hbm, ⟨15, _⟩ => ⟨S4096x4096, .f32⟩
  | .hbm, ⟨16, _⟩ => ⟨S4096x4096, .f32⟩
  | .hbm, ⟨17, _⟩ => ⟨S_, .f32⟩
  | .hbm, ⟨18, _⟩ => ⟨S4096x4096, .f32⟩
  | .hbm, ⟨19, _⟩ => ⟨S4096x4096, .f32⟩
  | .hbm, ⟨20, _⟩ => ⟨S4096x4x1024, .f32⟩
  | .hbm, ⟨21, _⟩ => ⟨S4096x1x512, .f32⟩
  | .hbm, ⟨22, _⟩ => ⟨S4096x1x512, .f32⟩
  | .hbm, ⟨23, _⟩ => ⟨S4096x1x512, .f32⟩
  | .hbm, ⟨24, _⟩ => ⟨S4096x1x512, .f32⟩
  | .hbm, ⟨25, _⟩ => ⟨S4096x4x512, .f32⟩
  | .hbm, ⟨26, _⟩ => ⟨S4x1024x4096, .f32⟩
  | .hbm, ⟨27, _⟩ => ⟨S4096x4x1024, .f32⟩
  | .hbm, ⟨28, _⟩ => ⟨S4096x4x1024, .f32⟩
  | .hbm, ⟨29, _⟩ => ⟨S_, .f32⟩
  | .hbm, ⟨30, _⟩ => ⟨S4096x1024, .f32⟩
  | .hbm, ⟨31, _⟩ => ⟨S4096x1024, .bf16⟩
  | _, _ => ⟨S4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_v9 : Ref sig .tc := ⟨.hbm, 16, rfl⟩
abbrev main_cst_0 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_1 : Ref sig .tc := ⟨.hbm, 29, rfl⟩
abbrev main_v21 : Ref sig .tc := ⟨.hbm, 30, rfl⟩
abbrev main_v22 : Ref sig .tc := ⟨.hbm, 31, rfl⟩

abbrev nD : Nat := 1
abbrev τ : Topo := Topo.v7x

variable {F : FTy → Type} [FloatOps F]
-- ==== Kernel9.lean ====
abbrev S4096x1024 : Shape := ⟨2, ![4096, 1024]⟩
abbrev S256x2048 : Shape := ⟨2, ![256, 2048]⟩
abbrev S1x1024 : Shape := ⟨2, ![1, 1024]⟩
abbrev S1024x1024 : Shape := ⟨2, ![1024, 1024]⟩
abbrev S256x1024 : Shape := ⟨2, ![256, 1024]⟩
abbrev S256 : Shape := ⟨1, ![256]⟩
abbrev S256x1 : Shape := ⟨2, ![256, 1]⟩
abbrev S256x256 : Shape := ⟨2, ![256, 256]⟩

abbrev nBuf : Space → Nat
  | .hbm => 6
  | .vmem => 8
  | .smem => 0
  | _ => 0

abbrev bufTy : (tb : Table) → Fin (tcTables nBuf tb) → BufTy
  | .hbm, ⟨0, _⟩ => ⟨S4096x1024, .f32⟩
  | .hbm, ⟨1, _⟩ => ⟨S256x2048, .f32⟩
  | .hbm, ⟨2, _⟩ => ⟨S1x1024, .f32⟩
  | .hbm, ⟨3, _⟩ => ⟨S1024x1024, .bf16⟩
  | .hbm, ⟨4, _⟩ => ⟨S1024x1024, .bf16⟩
  | .hbm, ⟨5, _⟩ => ⟨S4096x1024, .f32⟩
  | .local _ .vmem, ⟨0, _⟩ => ⟨S256x1024, .f32⟩
  | .local _ .vmem, ⟨1, _⟩ => ⟨S256x1024, .f32⟩
  | .local _ .vmem, ⟨2, _⟩ => ⟨S256x2048, .f32⟩
  | .local _ .vmem, ⟨3, _⟩ => ⟨S1x1024, .f32⟩
  | .local _ .vmem, ⟨4, _⟩ => ⟨S1024x1024, .bf16⟩
  | .local _ .vmem, ⟨5, _⟩ => ⟨S1024x1024, .bf16⟩
  | .local _ .vmem, ⟨6, _⟩ => ⟨S256x1024, .f32⟩
  | .local _ .vmem, ⟨7, _⟩ => ⟨S256x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference9Ideal.lean ====
abbrev S4096x1024 : Shape := ⟨2, ![4096, 1024]⟩
abbrev S256x2048 : Shape := ⟨2, ![256, 2048]⟩
abbrev S1x1024 : Shape := ⟨2, ![1, 1024]⟩
abbrev S1024x1024 : Shape := ⟨2, ![1024, 1024]⟩
abbrev S_ : Shape := ⟨0, ![]⟩
abbrev S4096 : Shape := ⟨1, ![4096]⟩
abbrev S4096x1 : Shape := ⟨2, ![4096, 1]⟩
abbrev S4096x4x256 : Shape := ⟨3, ![4096, 4, 256]⟩
abbrev S256x1024 : Shape := ⟨2, ![256, 1024]⟩
abbrev S256x4x256 : Shape := ⟨3, ![256, 4, 256]⟩
abbrev S4x4096x256 : Shape := ⟨3, ![4, 4096, 256]⟩
abbrev S4x4096 : Shape := ⟨2, ![4, 4096]⟩
abbrev S4x4096x1 : Shape := ⟨3, ![4, 4096, 1]⟩
abbrev S4x256x4096 : Shape := ⟨3, ![4, 256, 4096]⟩

abbrev nBuf : Space → Nat
  | .hbm => 51
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S256x2048, .f32⟩
  | .hbm, ⟨2, _⟩ => ⟨S1x1024, .f32⟩
  | .hbm, ⟨3, _⟩ => ⟨S1024x1024, .bf16⟩
  | .hbm, ⟨4, _⟩ => ⟨S1024x1024, .bf16⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S1024x1024, .f32⟩
  | .hbm, ⟨21, _⟩ => ⟨S4096x1024, .f32⟩
  | .hbm, ⟨22, _⟩ => ⟨S4096x4x256, .f32⟩
  | .hbm, ⟨23, _⟩ => ⟨S256x1024, .f32⟩
  | .hbm, ⟨24, _⟩ => ⟨S256x1024, .f32⟩
  | .hbm, ⟨25, _⟩ => ⟨S256x4x256, .f32⟩
  | .hbm, ⟨26, _⟩ => ⟨S256x4x256, .f32⟩
  | .hbm, ⟨27, _⟩ => ⟨S4x4096x256, .f32⟩
  | .hbm, ⟨28, _⟩ => ⟨S_, .f32⟩
  | .hbm, ⟨29, _⟩ => ⟨S4x4096x256, .f32⟩
  | .hbm, ⟨30, _⟩ => ⟨S4x4096x256, .f32⟩
  | .hbm, ⟨31, _⟩ => ⟨S_, .f32⟩
  | .hbm, ⟨32, _⟩ => ⟨S4x4096, .f32⟩
  | .hbm, ⟨33, _⟩ => ⟨S_, .f32⟩
  | .hbm, ⟨34, _⟩ => ⟨S4x4096, .f32⟩
  | .hbm, ⟨35, _⟩ => ⟨S4x4096, .f32⟩
  | .hbm, ⟨36, _⟩ => ⟨S4x4096x1, .f32⟩
  | .hbm, ⟨37, _⟩ => ⟨S4x4096x256, .f32⟩
  | .hbm, ⟨38, _⟩ => ⟨S4x4096x256, .f32⟩
  | .hbm, ⟨39, _⟩ => ⟨S4x4096x256, .f32⟩
  | .hbm, ⟨40, _⟩ => ⟨S_, .f32⟩
  | .hbm, ⟨41, _⟩ => ⟨S4x4096, .f32⟩
  | .hbm, ⟨42, _⟩ => ⟨S4x4096x1, .f32⟩
  | .hbm, ⟨43, _⟩ => ⟨S4x4096x256, .f32⟩
  | .hbm, ⟨44, _⟩ => ⟨S4x4096x256, .f32⟩
  | .hbm, ⟨45, _⟩ => ⟨S4x256x4096, .f32⟩
  | .hbm, ⟨46, _⟩ => ⟨S4096x4x256, .f32⟩
  | .hbm, ⟨47, _⟩ => ⟨S4096x1024, .f32⟩
  | .hbm, ⟨48, _⟩ => ⟨S1024x1024, .f32⟩
  | .hbm, ⟨49, _⟩ => ⟨S4096x1024, .f32⟩
  | .hbm, ⟨50, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_2 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_5 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩

abbrev nD : Nat := 1
abbrev τ : Topo := Topo.v7x

variable {F : FTy → Type} [FloatOps F]
-- ==== Kernel10.lean ====
abbrev S4096x1024 : Shape := ⟨2, ![4096, 1024]⟩
abbrev S256x2048 : Shape := ⟨2, ![256, 2048]⟩
abbrev S1x1024 : Shape := ⟨2, ![1, 1024]⟩
abbrev S1024x1024 : Shape := ⟨2, ![1024, 1024]⟩
abbrev S256x1024 : Shape := ⟨2, ![256, 1024]⟩
abbrev S256 : Shape := ⟨1, ![256]⟩
abbrev S256x1 : Shape := ⟨2, ![256, 1]⟩
abbrev S256x256 : Shape := ⟨2, ![256, 256]⟩
abbrev S256x1792 : Shape := ⟨2, ![256, 1792]⟩
abbrev S256x1536 : Shape := ⟨2, ![256, 1536]⟩
abbrev S256x1280 : Shape := ⟨2, ![256, 1280]⟩
abbrev S256x512 : Shape := ⟨2, ![256, 512]⟩
abbrev S256x768 : Shape := ⟨2, ![256, 768]⟩
abbrev S1024 : Shape := ⟨1, ![1024]⟩

abbrev nBuf : Space → Nat
  | .hbm => 11
  | .vmem => 14
  | .smem => 0
  | _ => 0

abbrev bufTy : (tb : Table) → Fin (tcTables nBuf tb) → BufTy
  | .hbm, ⟨0, _⟩ => ⟨S4096x1024, .f32⟩
  | .hbm, ⟨1, _⟩ => ⟨S256x2048, .f32⟩
  | .hbm, ⟨2, _⟩ => ⟨S1x1024, .f32⟩
  | .hbm, ⟨3, _⟩ => ⟨S1024x1024, .bf16⟩
  | .hbm, ⟨4, _⟩ => ⟨S1024x1024, .bf16⟩
  | .hbm, ⟨5, _⟩ => ⟨S4096x1024, .f32⟩
  | .hbm, ⟨6, _⟩ => ⟨S4096x1024, .f32⟩
  | .hbm, ⟨7, _⟩ => ⟨S256x2048, .f32⟩
  | .hbm, ⟨8, _⟩ => ⟨S1x1024, .f32⟩
  | .hbm, ⟨9, _⟩ => ⟨S1024x1024, .f32⟩
  | .hbm, ⟨10, _⟩ => ⟨S1024x1024, .f32⟩
  | .local _ .vmem, ⟨0, _⟩ => ⟨S256x1024, .f32⟩
  | .local _ .vmem, ⟨1, _⟩ => ⟨S256x1024, .f32⟩
  | .local _ .vmem, ⟨2, _⟩ => ⟨S256x2048, .f32⟩
  | .local _ .vmem, ⟨3, _⟩ => ⟨S1x1024, .f32⟩
  | .local _ .vmem, ⟨4, _⟩ => ⟨S1024x1024, .bf16⟩
  | .local _ .vmem, ⟨5, _⟩ => ⟨S1024x1024, .bf16⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x2048, .f32⟩
  | .local _ .vmem, ⟨11, _⟩ => ⟨S1x1024, .f32⟩
  | .local _ .vmem, ⟨12, _⟩ => ⟨S1024x1024, .f32⟩
  | .local _ .vmem, ⟨13, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev main_v0_4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem8_0 : DmaSem sig := 11
abbrev cc0_sem9_0 : DmaSem sig := 12
abbrev cc0_sem10_0 : DmaSem sig := 13

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v379 : BitVec 1 := Scalar.cmpi .eq arg0 c0_i32
  let v380 : BitVec 32 := Scalar.extui v379
  let c0_i32_109 : BitVec 32 := 0#32
  let v381 : BitVec 1 := Scalar.cmpi .ne v380 c0_i32_109
  v381

def k0_cond2 (i : grid0.Coords) : BitVec 1 :=
  let arg0 : BitVec 32 := BitVec.ofNat 32 (i 0).val
  let c0_i32 : BitVec 32 := 0#32
  let v379 : BitVec 1 := Scalar.cmpi .eq arg0 c0_i32
  let v_true : BitVec 1 := 1#1
  let v382 : BitVec 1 := Scalar.xori v379 v_true
  let v383 : BitVec 32 := Scalar.extui v382
  let c0_i32_110 : BitVec 32 := 0#32
  let v384 : BitVec 1 := Scalar.cmpi .ne v383 c0_i32_110
  v384

def k0_cond3 (i : grid0.Coords) : BitVec 1 :=
  let arg0 : BitVec 32 := BitVec.ofNat 32 (i 0).val
  let c0_i32 : BitVec 32 := 0#32
  let v379 : BitVec 1 := Scalar.cmpi .eq arg0 c0_i32
  let v385 : BitVec 32 := Scalar.extui v379
  let c0_i32_111 : BitVec 32 := 0#32
  let v386 : BitVec 1 := Scalar.cmpi .ne v385 c0_i32_111
  v386

def k0_cond4 (i : grid0.Coords) : BitVec 1 :=
  let arg0 : BitVec 32 := BitVec.ofNat 32 (i 0).val
  let c0_i32 : BitVec 32 := 0#32
  let v379 : BitVec 1 := Scalar.cmpi .eq arg0 c0_i32
  let true_112 : BitVec 1 := 1#1
  let v387 : BitVec 1 := Scalar.xori v379 true_112
  let v388 : BitVec 32 := Scalar.extui v387
  let c0_i32_113 : BitVec 32 := 0#32
  let v389 : BitVec 1 := Scalar.cmpi .ne v388 c0_i32_113
  v389

def k0_cond5 (i : grid0.Coords) : BitVec 1 :=
  let arg0 : BitVec 32 := BitVec.ofNat 32 (i 0).val
  let c0_i32 : BitVec 32 := 0#32
  let v379 : BitVec 1 := Scalar.cmpi .eq arg0 c0_i32
  let v390 : BitVec 32 := Scalar.extui v379
  let c0_i32_114 : BitVec 32 := 0#32
  let v391 : BitVec 1 := Scalar.cmpi .ne v390 c0_i32_114
  v391

def k0_cond6 (i : grid0.Coords) : BitVec 1 :=
  let arg0 : BitVec 32 := BitVec.ofNat 32 (i 0).val
  let c0_i32 : BitVec 32 := 0#32
  let v379 : BitVec 1 := Scalar.cmpi .eq arg0 c0_i32
  let true_115 : BitVec 1 := 1#1
  let v392 : BitVec 1 := Scalar.xori v379 true_115
  let v393 : BitVec 32 := Scalar.extui v392
  let c0_i32_116 : BitVec 32 := 0#32
  let v394 : BitVec 1 := Scalar.cmpi .ne v393 c0_i32_116
  v394

def k0_cond7 (i : grid0.Coords) : BitVec 1 :=
  let arg0 : BitVec 32 := BitVec.ofNat 32 (i 0).val
  let c0_i32 : BitVec 32 := 0#32
  let v379 : BitVec 1 := Scalar.cmpi .eq arg0 c0_i32
  let v395 : BitVec 32 := Scalar.extui v379
  let c0_i32_117 : BitVec 32 := 0#32
  let v396 : BitVec 1 := Scalar.cmpi .ne v395 c0_i32_117
  v396

def k0_cond8 (i : grid0.Coords) : BitVec 1 :=
  let arg0 : BitVec 32 := BitVec.ofNat 32 (i 0).val
  let c0_i32 : BitVec 32 := 0#32
  let v379 : BitVec 1 := Scalar.cmpi .eq arg0 c0_i32
  let true_118 : BitVec 1 := 1#1
  let v397 : BitVec 1 := Scalar.xori v379 true_118
  let v398 : BitVec 32 := Scalar.extui v397
  let c0_i32_119 : BitVec 32 := 0#32
  let v399 : BitVec 1 := Scalar.cmpi .ne v398 c0_i32_119
  v399

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S256x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== Reference10Ideal.lean ====
abbrev S4096x1024 : Shape := ⟨2, ![4096, 1024]⟩
abbrev S256x2048 : Shape := ⟨2, ![256, 2048]⟩
abbrev S1x1024 : Shape := ⟨2, ![1, 1024]⟩
abbrev S1024x1024 : Shape := ⟨2, ![1024, 1024]⟩
abbrev S_ : Shape := ⟨0, ![]⟩
abbrev S4096 : Shape := ⟨1, ![4096]⟩
abbrev S4096x1 : Shape := ⟨2, ![4096, 1]⟩
abbrev S4096x4x256 : Shape := ⟨3, ![4096, 4, 256]⟩
abbrev S256x1024 : Shape := ⟨2, ![256, 1024]⟩
abbrev S256x4x256 : Shape := ⟨3, ![256, 4, 256]⟩
abbrev S4x4096x256 : Shape := ⟨3, ![4, 4096, 256]⟩
abbrev S4x4096 : Shape := ⟨2, ![4, 4096]⟩
abbrev S4x4096x1 : Shape := ⟨3, ![4, 4096, 1]⟩
abbrev S4x256x4096 : Shape := ⟨3, ![4, 256, 4096]⟩
abbrev S4x256x256 : Shape := ⟨3, ![4, 256, 256]⟩
abbrev S1024 : Shape := ⟨1, ![1024]⟩

abbrev nBuf : Space → Nat
  | .hbm => 141
  | .vmem => 0
  | .smem => 0
  | _ => 0

abbrev hbmTy0_0 (i : Nat) : BufTy := match i % 128 with
  | 0 => ⟨S4096x1024, .f32⟩
  | 1 => ⟨S256x2048, .f32⟩
  | 2 => ⟨S1x1024, .f32⟩
  | 3 => ⟨S1024x1024, .bf16⟩
  | 4 => ⟨S1024x1024, .bf16⟩
  | 5 => ⟨S4096x1024, .f32⟩
  | 6 => ⟨S1024x1024, .f32⟩
  | 7 => ⟨S1024x1024, .f32⟩
  | 8 => ⟨S4096x1024, .f32⟩
  | 9 => ⟨S_, .f32⟩
  | 10 => ⟨S4096, .f32⟩
  | 11 => ⟨S4096x1, .f32⟩
  | 12 => ⟨S_, .f32⟩
  | 13 => ⟨S4096x1, .f32⟩
  | 14 => ⟨S4096x1, .f32⟩
  | 15 => ⟨S_, .f32⟩
  | 16 => ⟨S4096x1, .f32⟩
  | 17 => ⟨S4096x1, .f32⟩
  | 18 => ⟨S4096x1, .f32⟩
  | 19 => ⟨S4096x1, .f32⟩
  | 20 => ⟨S_, .f32⟩
  | 21 => ⟨S4096x1, .f32⟩
  | 22 => ⟨S4096x1, .f32⟩
  | 23 => ⟨S4096x1024, .f32⟩
  | 24 => ⟨S4096x1024, .f32⟩
  | 25 => ⟨S4096x1024, .f32⟩
  | 26 => ⟨S4096x1024, .f32⟩
  | 27 => ⟨S4096x1024, .f32⟩
  | 28 => ⟨S4096x4x256, .f32⟩
  | 29 => ⟨S256x1024, .f32⟩
  | 30 => ⟨S256x1024, .f32⟩
  | 31 => ⟨S256x4x256, .f32⟩
  | 32 => ⟨S256x4x256, .f32⟩
  | 33 => ⟨S4x4096x256, .f32⟩
  | 34 => ⟨S_, .f32⟩
  | 35 => ⟨S4x4096x256, .f32⟩
  | 36 => ⟨S4x4096x256, .f32⟩
  | 37 => ⟨S_, .f32⟩
  | 38 => ⟨S4x4096, .f32⟩
  | 39 => ⟨S4x4096x1, .f32⟩
  | 40 => ⟨S4x4096x256, .f32⟩
  | 41 => ⟨S4x4096x256, .i1⟩
  | 42 => ⟨S4x4096x256, .f32⟩
  | 43 => ⟨S_, .f32⟩
  | 44 => ⟨S4x4096, .f32⟩
  | 45 => ⟨S_, .f32⟩
  | 46 => ⟨S4x4096, .f32⟩
  | 47 => ⟨S4x4096, .f32⟩
  | 48 => ⟨S_, .f32⟩
  | 49 => ⟨S4x4096, .f32⟩
  | 50 => ⟨S4x4096, .i1⟩
  | 51 => ⟨S_, .f32⟩
  | 52 => ⟨S4x4096, .f32⟩
  | 53 => ⟨S4x4096, .i1⟩
  | 54 => ⟨S_, .f32⟩
  | 55 => ⟨S4x4096, .f32⟩
  | 56 => ⟨S_, .f32⟩
  | 57 => ⟨S4x4096, .f32⟩
  | 58 => ⟨S_, .f32⟩
  | 59 => ⟨S4x4096, .f32⟩
  | 60 => ⟨S4x4096, .f32⟩
  | 61 => ⟨S4x4096, .f32⟩
  | 62 => ⟨S4x4096x1, .f32⟩
  | 63 => ⟨S4x4096x256, .f32⟩
  | 64 => ⟨S4x4096x256, .f32⟩
  | 65 => ⟨S4x4096x256, .f32⟩
  | 66 => ⟨S_, .f32⟩
  | 67 => ⟨S4x4096, .f32⟩
  | 68 => ⟨S4x4096x1, .f32⟩
  | 69 => ⟨S4x4096x256, .f32⟩
  | 70 => ⟨S4x4096x256, .f32⟩
  | 71 => ⟨S4x4096x1, .f32⟩
  | 72 => ⟨S_, .f32⟩
  | 73 => ⟨S4x4096x1, .f32⟩
  | 74 => ⟨S4x4096x1, .f32⟩
  | 75 => ⟨S4x256x4096, .f32⟩
  | 76 => ⟨S4096x4x256, .f32⟩
  | 77 => ⟨S4096x1024, .f32⟩
  | 78 => ⟨S4096x1024, .f32⟩
  | 79 => ⟨S4096x1024, .f32⟩
  | 80 => ⟨S4096x1024, .f32⟩
  | 81 => ⟨S1024x1024, .f32⟩
  | 82 => ⟨S1024x1024, .f32⟩
  | 83 => ⟨S4096x1024, .f32⟩
  | 84 => ⟨S4096x4x256, .f32⟩
  | 85 => ⟨S4x256x4096, .f32⟩
  | 86 => ⟨S4x4096x256, .f32⟩
  | 87 => ⟨S4x256x256, .f32⟩
  | 88 => ⟨S256x4x256, .f32⟩
  | 89 => ⟨S4x4096x256, .f32⟩
  | 90 => ⟨S4x4096x256, .f32⟩
  | 91 => ⟨S4x4096x256, .f32⟩
  | 92 => ⟨S_, .f32⟩
  | 93 => ⟨S4x4096, .f32⟩
  | 94 => ⟨S4x4096x1, .f32⟩
  | 95 => ⟨S4x4096x1, .f32⟩
  | 96 => ⟨S4x4096x256, .f32⟩
  | 97 => ⟨S4x4096x256, .f32⟩
  | 98 => ⟨S_, .f32⟩
  | 99 => ⟨S4x4096, .f32⟩
  | 100 => ⟨S4x4096x256, .f32⟩
  | 101 => ⟨S4x4096x256, .f32⟩
  | 102 => ⟨S4x4096x256, .f32⟩
  | 103 => ⟨S_, .f32⟩
  | 104 => ⟨S4x4096x256, .f32⟩
  | 105 => ⟨S4x4096x256, .f32⟩
  | 106 => ⟨S4x256x256, .f32⟩
  | 107 => ⟨S256x4x256, .f32⟩
  | 108 => ⟨S4x4096x256, .f32⟩
  | 109 => ⟨S4096x4x256, .f32⟩
  | 110 => ⟨S256x1024, .f32⟩
  | 111 => ⟨S256x1024, .f32⟩
  | 112 => ⟨S256x2048, .f32⟩
  | 113 => ⟨S4096x1024, .f32⟩
  | 114 => ⟨S1024x1024, .f32⟩
  | 115 => ⟨S1024x1024, .f32⟩
  | 116 => ⟨S4096x1024, .f32⟩
  | 117 => ⟨S4096x1024, .f32⟩
  | 118 => ⟨S_, .f32⟩
  | 119 => ⟨S1024, .f32⟩
  | 120 => ⟨S1x1024, .f32⟩
  | 121 => ⟨S4096x1024, .f32⟩
  | 122 => ⟨S4096x1024, .f32⟩
  | 123 => ⟨S4096x1024, .f32⟩
  | 124 => ⟨S_, .f32⟩
  | 125 => ⟨S4096, .f32⟩
  | 126 => ⟨S4096x1, .f32⟩
  | 127 => ⟨S4096x1024, .f32⟩
  | _ => ⟨S4096x1024, .f32⟩

abbrev hbmTy0_1 (i : Nat) : BufTy := match i % 128 with
  | 0 => ⟨S4096x1024, .f32⟩
  | 1 => ⟨S4096x1024, .f32⟩
  | 2 => ⟨S4096x1, .f32⟩
  | 3 => ⟨S_, .f32⟩
  | 4 => ⟨S4096x1, .f32⟩
  | 5 => ⟨S4096x1, .f32⟩
  | 6 => ⟨S_, .f32⟩
  | 7 => ⟨S4096, .f32⟩
  | 8 => ⟨S4096x1024, .f32⟩
  | 9 => ⟨S4096x1024, .f32⟩
  | 10 => ⟨S4096x1024, .f32⟩
  | 11 => ⟨S4096x1024, .f32⟩
  | 12 => ⟨S4096x1024, .f32⟩
  | _ => ⟨S4096x1024, .f32⟩

abbrev hbmTy (i : Nat) : BufTy := match i / 128 with
  | 0 => hbmTy0_0 i
  | 1 => hbmTy0_1 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_3 : Ref sig .tc := ⟨.hbm, 34, rfl⟩
abbrev main_v24 : Ref sig .tc := ⟨.hbm, 35, rfl⟩
abbrev main_v25 : Ref sig .tc := ⟨.hbm, 36, rfl⟩
abbrev main_cst_4 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_5 : Ref sig .tc := ⟨.hbm, 43, rfl⟩
abbrev main_v31 : Ref sig .tc := ⟨.hbm, 44, rfl⟩
abbrev main_cst_6 : Ref sig .tc := ⟨.hbm, 45, rfl⟩
abbrev main_v32 : Ref sig .tc := ⟨.hbm, 46, rfl⟩
abbrev main_v33 : Ref sig .tc := ⟨.hbm, 47, rfl⟩
abbrev main_cst_7 : Ref sig .tc := ⟨.hbm, 48, rfl⟩
abbrev main_v34 : Ref sig .tc := ⟨.hbm, 49, rfl⟩
abbrev main_v35 : Ref sig .tc := ⟨.hbm, 50, rfl⟩
abbrev main_cst_8 : Ref sig .tc := ⟨.hbm, 51, rfl⟩
abbrev main_v36 : Ref sig .tc := ⟨.hbm, 52, rfl⟩
abbrev main_v37 : Ref sig .tc := ⟨.hbm, 53, rfl⟩
abbrev main_cst_9 : Ref sig .tc := ⟨.hbm, 54, rfl⟩
abbrev main_v38 : Ref sig .tc := ⟨.hbm, 55, rfl⟩
abbrev main_cst_10 : Ref sig .tc := ⟨.hbm, 56, rfl⟩
abbrev main_v39 : Ref sig .tc := ⟨.hbm, 57, rfl⟩
abbrev main_cst_11 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_cst_12 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_cst_13 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_cst_14 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_cst_15 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_cst_16 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_v89 : Ref sig .tc := ⟨.hbm, 113, rfl⟩
abbrev main_v90 : Ref sig .tc := ⟨.hbm, 114, rfl⟩
abbrev main_v91 : Ref sig .tc := ⟨.hbm, 115, rfl⟩
abbrev main_v92 : Ref sig .tc := ⟨.hbm, 116, rfl⟩
abbrev main_v93 : Ref sig .tc := ⟨.hbm, 117, rfl⟩
abbrev main_cst_17 : Ref sig .tc := ⟨.hbm, 118, rfl⟩
abbrev main_v94 : Ref sig .tc := ⟨.hbm, 119, rfl⟩
abbrev main_v95 : Ref sig .tc := ⟨.hbm, 120, rfl⟩
abbrev main_v96 : Ref sig .tc := ⟨.hbm, 121, rfl⟩
abbrev main_v97 : Ref sig .tc := ⟨.hbm, 122, rfl⟩
abbrev main_v98 : Ref sig .tc := ⟨.hbm, 123, rfl⟩
abbrev main_cst_18 : Ref sig .tc := ⟨.hbm, 124, rfl⟩
abbrev main_v99 : Ref sig .tc := ⟨.hbm, 125, rfl⟩
abbrev main_v100 : Ref sig .tc := ⟨.hbm, 126, rfl⟩
abbrev main_v101 : Ref sig .tc := ⟨.hbm, 127, rfl⟩
abbrev main_v102 : Ref sig .tc := ⟨.hbm, 128, rfl⟩
abbrev main_v103 : Ref sig .tc := ⟨.hbm, 129, rfl⟩
abbrev main_v104 : Ref sig .tc := ⟨.hbm, 130, rfl⟩
abbrev main_cst_19 : Ref sig .tc := ⟨.hbm, 131, rfl⟩
abbrev main_v105 : Ref sig .tc := ⟨.hbm, 132, rfl⟩
abbrev main_v106 : Ref sig .tc := ⟨.hbm, 133, rfl⟩
abbrev main_cst_20 : Ref sig .tc := ⟨.hbm, 134, rfl⟩
abbrev main_v107 : Ref sig .tc := ⟨.hbm, 135, rfl⟩
abbrev main_v108 : Ref sig .tc := ⟨.hbm, 136, rfl⟩
abbrev main_v109 : Ref sig .tc := ⟨.hbm, 137, rfl⟩
abbrev main_v110 : Ref sig .tc := ⟨.hbm, 138, rfl⟩
abbrev main_v111 : Ref sig .tc := ⟨.hbm, 139, rfl⟩
abbrev main_v112 : Ref sig .tc := ⟨.hbm, 140, rfl⟩

abbrev nD : Nat := 1
abbrev τ : Topo := Topo.v7x

variable {F : FTy → Type} [FloatOps F]
-- ==== Kernel11.lean ====
abbrev S256x1024 : Shape := ⟨2, ![256, 1024]⟩
abbrev S1x1024 : Shape := ⟨2, ![1, 1024]⟩
abbrev S1024x2048 : Shape := ⟨2, ![1024, 2048]⟩
abbrev S256x2048 : Shape := ⟨2, ![256, 2048]⟩
abbrev S256 : Shape := ⟨1, ![256]⟩
abbrev S256x1 : Shape := ⟨2, ![256, 1]⟩

abbrev nBuf : Space → Nat
  | .hbm => 4
  | .vmem => 4
  | .smem => 0
  | _ => 0

abbrev bufTy : (tb : Table) → Fin (tcTables nBuf tb) → BufTy
  | .hbm, ⟨0, _⟩ => ⟨S256x1024, .f32⟩
  | .hbm, ⟨1, _⟩ => ⟨S1x1024, .f32⟩
  | .hbm, ⟨2, _⟩ => ⟨S1024x2048, .bf16⟩
  | .hbm, ⟨3, _⟩ => ⟨S256x2048, .f32⟩
  | .local _ .vmem, ⟨0, _⟩ => ⟨S256x1024, .f32⟩
  | .local _ .vmem, ⟨1, _⟩ => ⟨S1x1024, .f32⟩
  | .local _ .vmem, ⟨2, _⟩ => ⟨S1024x2048, .bf16⟩
  | .local _ .vmem, ⟨3, _⟩ => ⟨S256x2048, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]
-- ==== Reference11Ideal.lean ====
abbrev S256x1024 : Shape := ⟨2, ![256, 1024]⟩
abbrev S1x1024 : Shape := ⟨2, ![1, 1024]⟩
abbrev S1024x2048 : Shape := ⟨2, ![1024, 2048]⟩
abbrev S_ : Shape := ⟨0, ![]⟩
abbrev S256 : Shape := ⟨1, ![256]⟩
abbrev S256x1 : Shape := ⟨2, ![256, 1]⟩
abbrev S256x2048 : Shape := ⟨2, ![256, 2048]⟩

abbrev nBuf : Space → Nat
  | .hbm => 20
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S1x1024, .f32⟩
  | .hbm, ⟨2, _⟩ => ⟨S1024x2048, .bf16⟩
  | .hbm, ⟨3, _⟩ => ⟨S256x1024, .f32⟩
  | .hbm, ⟨4, _⟩ => ⟨S_, .f32⟩
  | .hbm, ⟨5, _⟩ => ⟨S256, .f32⟩
  | .hbm, ⟨6, _⟩ => ⟨S256x1, .f32⟩
  | .hbm, ⟨7, _⟩ => ⟨S_, .f32⟩
  | .hbm, ⟨8, _⟩ => ⟨S256x1, .f32⟩
  | .hbm, ⟨9, _⟩ => ⟨S256x1, .f32⟩
  | .hbm, ⟨10, _⟩ => ⟨S_, .f32⟩
  | .hbm, ⟨11, _⟩ => ⟨S256x1, .f32⟩
  | .hbm, ⟨12, _⟩ => ⟨S256x1, .f32⟩
  | .hbm, ⟨13, _⟩ => ⟨S256x1, .f32⟩
  | .hbm, ⟨14, _⟩ => ⟨S256x1024, .f32⟩
  | .hbm, ⟨15, _⟩ => ⟨S256x1024, .f32⟩
  | .hbm, ⟨16, _⟩ => ⟨S256x1024, .f32⟩
  | .hbm, ⟨17, _⟩ => ⟨S256x1024, .f32⟩
  | .hbm, ⟨18, _⟩ => ⟨S1024x2048, .f32⟩
  | .hbm, ⟨19, _⟩ => ⟨S256x2048, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== Kernel12.lean ====
abbrev S256x1024 : Shape := ⟨2, ![256, 1024]⟩
abbrev S1x1024 : Shape := ⟨2, ![1, 1024]⟩
abbrev S1024x2048 : Shape := ⟨2, ![1024, 2048]⟩
abbrev S256x2048 : Shape := ⟨2, ![256, 2048]⟩
abbrev S256 : Shape := ⟨1, ![256]⟩
abbrev S256x1 : Shape := ⟨2, ![256, 1]⟩
abbrev S1024 : Shape := ⟨1, ![1024]⟩

abbrev nBuf : Space → Nat
  | .hbm => 6
  | .vmem => 6
  | .smem => 0
  | _ => 0

abbrev bufTy : (tb : Table) → Fin (tcTables nBuf tb) → BufTy
  | .hbm, ⟨0, _⟩ => ⟨S256x1024, .f32⟩
  | .hbm, ⟨1, _⟩ => ⟨S1x1024, .f32⟩
  | .hbm, ⟨2, _⟩ => ⟨S1024x2048, .bf16⟩
  | .hbm, ⟨3, _⟩ => ⟨S256x2048, .f32⟩
  | .hbm, ⟨4, _⟩ => ⟨S1x1024, .f32⟩
  | .hbm, ⟨5, _⟩ => ⟨S1024x2048, .f32⟩
  | .local _ .vmem, ⟨0, _⟩ => ⟨S256x1024, .f32⟩
  | .local _ .vmem, ⟨1, _⟩ => ⟨S1x1024, .f32⟩
  | .local _ .vmem, ⟨2, _⟩ => ⟨S1024x2048, .bf16⟩
  | .local _ .vmem, ⟨3, _⟩ => ⟨S256x2048, .f32⟩
  | .local _ .vmem, ⟨4, _⟩ => ⟨S1x1024, .f32⟩
  | .local _ .vmem, ⟨5, _⟩ => ⟨S1024x2048, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := ⟨1, ![1], ![false]⟩

def k0_cond1 (i : grid0.Coords) : BitVec 1 :=
  let arg0 : BitVec 32 := BitVec.ofNat 32 (i 0).val
  let c0_i32 : BitVec 32 := 0#32
  let v24 : BitVec 1 := Scalar.cmpi .eq arg0 c0_i32
  let v25 : BitVec 32 := Scalar.extui v24
  let c0_i32_12 : BitVec 32 := 0#32
  let v26 : BitVec 1 := Scalar.cmpi .ne v25 c0_i32_12
  v26

def k0_cond2 (i : grid0.Coords) : BitVec 1 :=
  let arg0 : BitVec 32 := BitVec.ofNat 32 (i 0).val
  let c0_i32 : BitVec 32 := 0#32
  let v24 : BitVec 1 := Scalar.cmpi .eq arg0 c0_i32
  let v_true : BitVec 1 := 1#1
  let v27 : BitVec 1 := Scalar.xori v24 v_true
  let v28 : BitVec 32 := Scalar.extui v27
  let c0_i32_13 : BitVec 32 := 0#32
  let v29 : BitVec 1 := Scalar.cmpi .ne v28 c0_i32_13
  v29

def k0_cond3 (i : grid0.Coords) : BitVec 1 :=
  let arg0 : BitVec 32 := BitVec.ofNat 32 (i 0).val
  let c0_i32 : BitVec 32 := 0#32
  let v24 : BitVec 1 := Scalar.cmpi .eq arg0 c0_i32
  let v30 : BitVec 32 := Scalar.extui v24
  let c0_i32_14 : BitVec 32 := 0#32
  let v31 : BitVec 1 := Scalar.cmpi .ne v30 c0_i32_14
  v31

def k0_cond4 (i : grid0.Coords) : BitVec 1 :=
  let arg0 : BitVec 32 := BitVec.ofNat 32 (i 0).val
  let c0_i32 : BitVec 32 := 0#32
  let v24 : BitVec 1 := Scalar.cmpi .eq arg0 c0_i32
  let true_15 : BitVec 1 := 1#1
  let v32 : BitVec 1 := Scalar.xori v24 true_15
  let v33 : BitVec 32 := Scalar.extui v32
  let c0_i32_16 : BitVec 32 := 0#32
  let v34 : BitVec 1 := Scalar.cmpi .ne v33 c0_i32_16
  v34

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== Reference12Ideal.lean ====
abbrev S256x1024 : Shape := ⟨2, ![256, 1024]⟩
abbrev S1x1024 : Shape := ⟨2, ![1, 1024]⟩
abbrev S1024x2048 : Shape := ⟨2, ![1024, 2048]⟩
abbrev S256x2048 : Shape := ⟨2, ![256, 2048]⟩
abbrev S_ : Shape := ⟨0, ![]⟩
abbrev S256 : Shape := ⟨1, ![256]⟩
abbrev S256x1 : Shape := ⟨2, ![256, 1]⟩
abbrev S2048x1024 : Shape := ⟨2, ![2048, 1024]⟩
abbrev S1024 : Shape := ⟨1, ![1024]⟩

abbrev nBuf : Space → Nat
  | .hbm => 28
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S1x1024, .f32⟩
  | .hbm, ⟨2, _⟩ => ⟨S1024x2048, .bf16⟩
  | .hbm, ⟨3, _⟩ => ⟨S256x2048, .f32⟩
  | .hbm, ⟨4, _⟩ => ⟨S1024x2048, .f32⟩
  | .hbm, ⟨5, _⟩ => ⟨S256x1024, .f32⟩
  | .hbm, ⟨6, _⟩ => ⟨S_, .f32⟩
  | .hbm, ⟨7, _⟩ => ⟨S256, .f32⟩
  | .hbm, ⟨8, _⟩ => ⟨S256x1, .f32⟩
  | .hbm, ⟨9, _⟩ => ⟨S_, .f32⟩
  | .hbm, ⟨10, _⟩ => ⟨S256x1, .f32⟩
  | .hbm, ⟨11, _⟩ => ⟨S256x1, .f32⟩
  | .hbm, ⟨12, _⟩ => ⟨S_, .f32⟩
  | .hbm, ⟨13, _⟩ => ⟨S256x1, .f32⟩
  | .hbm, ⟨14, _⟩ => ⟨S256x1, .f32⟩
  | .hbm, ⟨15, _⟩ => ⟨S256x1, .f32⟩
  | .hbm, ⟨16, _⟩ => ⟨S256x1024, .f32⟩
  | .hbm, ⟨17, _⟩ => ⟨S256x1024, .f32⟩
  | .hbm, ⟨18, _⟩ => ⟨S256x1024, .f32⟩
  | .hbm, ⟨19, _⟩ => ⟨S256x1024, .f32⟩
  | .hbm, ⟨20, _⟩ => ⟨S256x2048, .f32⟩
  | .hbm, ⟨21, _⟩ => ⟨S2048x1024, .f32⟩
  | .hbm, ⟨22, _⟩ => ⟨S1024x2048, .f32⟩
  | .hbm, ⟨23, _⟩ => ⟨S256x1024, .f32⟩
  | .hbm, ⟨24, _⟩ => ⟨S256x1024, .f32⟩
  | .hbm, ⟨25, _⟩ => ⟨S_, .f32⟩
  | .hbm, ⟨26, _⟩ => ⟨S1024, .f32⟩
  | .hbm, ⟨27, _⟩ => ⟨S1x1024, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_2 : Ref sig .tc := ⟨.hbm, 25, rfl⟩
abbrev main_v18 : Ref sig .tc := ⟨.hbm, 26, rfl⟩
abbrev main_v19 : Ref sig .tc := ⟨.hbm, 27, rfl⟩

abbrev nD : Nat := 1
abbrev τ : Topo := Topo.v7x

variable {F : FTy → Type} [FloatOps F]
-- ==== Kernel13.lean ====
abbrev S4096x1024 : Shape := ⟨2, ![4096, 1024]⟩
abbrev S1x1024 : Shape := ⟨2, ![1, 1024]⟩
abbrev S256x1024 : Shape := ⟨2, ![256, 1024]⟩
abbrev S256 : Shape := ⟨1, ![256]⟩
abbrev S256x1 : Shape := ⟨2, ![256, 1]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x1024, .bf16⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S256x1024, .bf16⟩
  | .local _ .vmem, ⟨4, _⟩ => ⟨S256x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference13Ideal.lean ====
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩

abbrev nBuf : Space → Nat
  | .hbm => 18
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x1024, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S_, .f32⟩
  | .hbm, ⟨7, _⟩ => ⟨S4096x1, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S4096x1, .f32⟩
  | .hbm, ⟨13, _⟩ => ⟨S4096x1024, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Kernel14.lean ====
abbrev S4096x1024 : Shape := ⟨2, ![4096, 1024]⟩
abbrev S1x1024 : Shape := ⟨2, ![1, 1024]⟩
abbrev S256x1024 : Shape := ⟨2, ![256, 1024]⟩
abbrev S256 : Shape := ⟨1, ![256]⟩
abbrev S256x1 : Shape := ⟨2, ![256, 1]⟩
abbrev S1024 : Shape := ⟨1, ![1024]⟩

abbrev nBuf : Space → Nat
  | .hbm => 6
  | .vmem => 10
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x1024, .f32⟩
  | .hbm, ⟨3, _⟩ => ⟨S4096x1024, .f32⟩
  | .hbm, ⟨4, _⟩ => ⟨S4096x1024, .f32⟩
  | .hbm, ⟨5, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v39 : BitVec 1 := Scalar.cmpi .eq arg0 c0_i32
  let v40 : BitVec 32 := Scalar.extui v39
  let c0_i32_16 : BitVec 32 := 0#32
  let v41 : BitVec 1 := Scalar.cmpi .ne v40 c0_i32_16
  v41

def k0_cond2 (i : grid0.Coords) : BitVec 1 :=
  let arg0 : BitVec 32 := BitVec.ofNat 32 (i 0).val
  let c0_i32 : BitVec 32 := 0#32
  let v39 : BitVec 1 := Scalar.cmpi .eq arg0 c0_i32
  let v_true : BitVec 1 := 1#1
  let v42 : BitVec 1 := Scalar.xori v39 v_true
  let v43 : BitVec 32 := Scalar.extui v42
  let c0_i32_17 : BitVec 32 := 0#32
  let v44 : BitVec 1 := Scalar.cmpi .ne v43 c0_i32_17
  v44

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== Reference14Ideal.lean ====
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 47
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x1024, .f32⟩
  | .hbm, ⟨3, _⟩ => ⟨S4096x1024, .f32⟩
  | .hbm, ⟨4, _⟩ => ⟨S4096x1024, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S_, .f32⟩
  | .hbm, ⟨25, _⟩ => ⟨S1024, .f32⟩
  | .hbm, ⟨26, _⟩ => ⟨S1x1024, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S_, .f32⟩
  | .hbm, ⟨31, _⟩ => ⟨S4096, .f32⟩
  | .hbm, ⟨32, _⟩ => ⟨S4096x1, .f32⟩
  | .hbm, ⟨33, _⟩ => ⟨S4096x1024, .f32⟩
  | .hbm, ⟨34, _⟩ => ⟨S4096x1024, .f32⟩
  | .hbm, ⟨35, _⟩ => ⟨S4096x1024, .f32⟩
  | .hbm, ⟨36, _⟩ => ⟨S4096x1, .f32⟩
  | .hbm, ⟨37, _⟩ => ⟨S_, .f32⟩
  | .hbm, ⟨38, _⟩ => ⟨S4096x1, .f32⟩
  | .hbm, ⟨39, _⟩ => ⟨S4096x1, .f32⟩
  | .hbm, ⟨40, _⟩ => ⟨S_, .f32⟩
  | .hbm, ⟨41, _⟩ => ⟨S4096, .f32⟩
  | .hbm, ⟨42, _⟩ => ⟨S4096x1024, .f32⟩
  | .hbm, ⟨43, _⟩ => ⟨S4096x1024, .f32⟩
  | .hbm, ⟨44, _⟩ => ⟨S4096x1024, .f32⟩
  | .hbm, ⟨45, _⟩ => ⟨S4096x1024, .f32⟩
  | .hbm, ⟨46, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_5 : Ref sig .tc := ⟨.hbm, 37, rfl⟩
abbrev main_v27 : Ref sig .tc := ⟨.hbm, 38, rfl⟩
abbrev main_v28 : Ref sig .tc := ⟨.hbm, 39, rfl⟩
abbrev main_cst_6 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩

abbrev nD : Nat := 1
abbrev τ : Topo := Topo.v7x

variable {F : FTy → Type} [FloatOps F]
-- ==== Kernel15.lean ====
abbrev S4096x1024 : Shape := ⟨2, ![4096, 1024]⟩
abbrev S1x1024 : Shape := ⟨2, ![1, 1024]⟩
abbrev S1x128 : Shape := ⟨2, ![1, 128]⟩
abbrev S256x1024 : Shape := ⟨2, ![256, 1024]⟩
abbrev S256 : Shape := ⟨1, ![256]⟩
abbrev S256x1 : Shape := ⟨2, ![256, 1]⟩
abbrev S1 : Shape := ⟨1, ![1]⟩
abbrev S1x1 : Shape := ⟨2, ![1, 1]⟩
abbrev S1x1x1 : Shape := ⟨3, ![1, 1, 1]⟩
abbrev S1024 : Shape := ⟨1, ![1024]⟩

abbrev nBuf : Space → Nat
  | .hbm => 6
  | .vmem => 9
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S1x128, .f32⟩
  | .hbm, ⟨4, _⟩ => ⟨S4096x1024, .f32⟩
  | .hbm, ⟨5, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1x1024, .f32⟩
  | .local _ .vmem, ⟨5, _⟩ => ⟨S1x128, .f32⟩
  | .local _ .vmem, ⟨6, _⟩ => ⟨S256x1024, .f32⟩
  | .local _ .vmem, ⟨7, _⟩ => ⟨S256x1024, .f32⟩
  | .local _ .vmem, ⟨8, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v67 : BitVec 1 := Scalar.cmpi .eq arg0 c0_i32
  let v70 : BitVec 32 := Scalar.extui v67
  let c0_i32_23 : BitVec 32 := 0#32
  let v71 : BitVec 1 := Scalar.cmpi .ne v70 c0_i32_23
  v71

def k0_cond2 (i : grid0.Coords) : BitVec 1 :=
  let arg0 : BitVec 32 := BitVec.ofNat 32 (i 0).val
  let c0_i32 : BitVec 32 := 0#32
  let v67 : BitVec 1 := Scalar.cmpi .eq arg0 c0_i32
  let v_true : BitVec 1 := 1#1
  let v72 : BitVec 1 := Scalar.xori v67 v_true
  let v73 : BitVec 32 := Scalar.extui v72
  let c0_i32_24 : BitVec 32 := 0#32
  let v74 : BitVec 1 := Scalar.cmpi .ne v73 c0_i32_24
  v74

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== Reference15Ideal.lean ====
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024 : Shape := ⟨1, ![1024]⟩
abbrev S1x128 : Shape := ⟨2, ![1, 128]⟩

abbrev nBuf : Space → Nat
  | .hbm => 69
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S_, .f32⟩
  | .hbm, ⟨25, _⟩ => ⟨S4096x1024, .f32⟩
  | .hbm, ⟨26, _⟩ => ⟨S4096x1024, .f32⟩
  | .hbm, ⟨27, _⟩ => ⟨S_, .f32⟩
  | .hbm, ⟨28, _⟩ => ⟨S4096, .f32⟩
  | .hbm, ⟨29, _⟩ => ⟨S_, .f32⟩
  | .hbm, ⟨30, _⟩ => ⟨S4096, .f32⟩
  | .hbm, ⟨31, _⟩ => ⟨S4096, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S4096, .f32⟩
  | .hbm, ⟨40, _⟩ => ⟨S_, .f32⟩
  | .hbm, ⟨41, _⟩ => ⟨S4096, .f32⟩
  | .hbm, ⟨42, _⟩ => ⟨S4096, .f32⟩
  | .hbm, ⟨43, _⟩ => ⟨S4096x1024, .f32⟩
  | .hbm, ⟨44, _⟩ => ⟨S4096x1024, .f32⟩
  | .hbm, ⟨45, _⟩ => ⟨S4096x1024, .f32⟩
  | .hbm, ⟨46, _⟩ => ⟨S_, .f32⟩
  | .hbm, ⟨47, _⟩ => ⟨S1024, .f32⟩
  | .hbm, ⟨48, _⟩ => ⟨S1x1024, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S_, .f32⟩
  | .hbm, ⟨53, _⟩ => ⟨S4096, .f32⟩
  | .hbm, ⟨54, _⟩ => ⟨S4096x1, .f32⟩
  | .hbm, ⟨55, _⟩ => ⟨S4096x1024, .f32⟩
  | .hbm, ⟨56, _⟩ => ⟨S4096x1024, .f32⟩
  | .hbm, ⟨57, _⟩ => ⟨S4096x1, .f32⟩
  | .hbm, ⟨58, _⟩ => ⟨S_, .f32⟩
  | .hbm, ⟨59, _⟩ => ⟨S4096x1, .f32⟩
  | .hbm, ⟨60, _⟩ => ⟨S4096x1, .f32⟩
  | .hbm, ⟨61, _⟩ => ⟨S_, .f32⟩
  | .hbm, ⟨62, _⟩ => ⟨S4096, .f32⟩
  | .hbm, ⟨63, _⟩ => ⟨S4096x1024, .f32⟩
  | .hbm, ⟨64, _⟩ => ⟨S4096x1024, .f32⟩
  | .hbm, ⟨65, _⟩ => ⟨S4096x1024, .f32⟩
  | .hbm, ⟨66, _⟩ => ⟨S4096x1024, .f32⟩
  | .hbm, ⟨67, _⟩ => ⟨S4096x1024, .f32⟩
  | .hbm, ⟨68, _⟩ => ⟨S1x128, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_cst_4 : Ref sig .tc := ⟨.hbm, 27, rfl⟩
abbrev main_v19 : Ref sig .tc := ⟨.hbm, 28, rfl⟩
abbrev main_cst_5 : Ref sig .tc := ⟨.hbm, 29, rfl⟩
abbrev main_v20 : Ref sig .tc := ⟨.hbm, 30, rfl⟩
abbrev main_v21 : Ref sig .tc := ⟨.hbm, 31, rfl⟩
abbrev main_cst_6 : Ref sig .tc := ⟨.hbm, 32, rfl⟩
abbrev main_v22 : Ref sig .tc := ⟨.hbm, 33, rfl⟩
abbrev main_cst_7 : Ref sig .tc := ⟨.hbm, 34, rfl⟩
abbrev main_v23 : Ref sig .tc := ⟨.hbm, 35, rfl⟩
abbrev main_cst_8 : Ref sig .tc := ⟨.hbm, 36, rfl⟩
abbrev main_cst_9 : Ref sig .tc := ⟨.hbm, 37, rfl⟩
abbrev main_v24 : Ref sig .tc := ⟨.hbm, 38, rfl⟩
abbrev main_v25 : Ref sig .tc := ⟨.hbm, 39, rfl⟩
abbrev main_cst_10 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_11 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_12 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_13 : Ref sig .tc := ⟨.hbm, 58, rfl⟩
abbrev main_v41 : Ref sig .tc := ⟨.hbm, 59, rfl⟩
abbrev main_v42 : Ref sig .tc := ⟨.hbm, 60, rfl⟩
abbrev main_cst_14 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩

abbrev nD : Nat := 1
abbrev τ : Topo := Topo.v7x

variable {F : FTy → Type} [FloatOps F]
-- ==== Kernel16.lean ====
abbrev S4096x512 : Shape := ⟨2, ![4096, 512]⟩
abbrev S4x4096x64 : Shape := ⟨3, ![4, 4096, 64]⟩
abbrev S4096x8832 : Shape := ⟨2, ![4096, 8832]⟩
abbrev S1x128 : Shape := ⟨2, ![1, 128]⟩
abbrev S64x4x128x128 : Shape := ⟨4, ![64, 4, 128, 128]⟩
abbrev S64x512 : Shape := ⟨2, ![64, 512]⟩
abbrev S4x64x64 : Shape := ⟨3, ![4, 64, 64]⟩
abbrev S1x4x128x128 : Shape := ⟨4, ![1, 4, 128, 128]⟩
abbrev S4x128x128 : Shape := ⟨3, ![4, 128, 128]⟩
abbrev S1x128x128 : Shape := ⟨3, ![1, 128, 128]⟩
abbrev S128x128 : Shape := ⟨2, ![128, 128]⟩
abbrev S1x1x128x128 : Shape := ⟨4, ![1, 1, 128, 128]⟩
abbrev S1x64x64 : Shape := ⟨3, ![1, 64, 64]⟩
abbrev S64x64 : Shape := ⟨2, ![64, 64]⟩
abbrev S64x128 : Shape := ⟨2, ![64, 128]⟩
abbrev S64 : Shape := ⟨1, ![64]⟩
abbrev S64x1 : Shape := ⟨2, ![64, 1]⟩

abbrev nBuf : Space → Nat
  | .hbm => 10
  | .vmem => 20
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S4096x512, .f32⟩
  | .hbm, ⟨3, _⟩ => ⟨S4096x512, .f32⟩
  | .hbm, ⟨4, _⟩ => ⟨S4096x512, .f32⟩
  | .hbm, ⟨5, _⟩ => ⟨S4x4096x64, .f32⟩
  | .hbm, ⟨6, _⟩ => ⟨S4096x8832, .f32⟩
  | .hbm, ⟨7, _⟩ => ⟨S1x128, .f32⟩
  | .hbm, ⟨8, _⟩ => ⟨S4096x512, .bf16⟩
  | .hbm, ⟨9, _⟩ => ⟨S64x4x128x128, .f32⟩
  | .local _ .vmem, ⟨0, _⟩ => ⟨S64x512, .f32⟩
  | .local _ .vmem, ⟨1, _⟩ => ⟨S64x512, .f32⟩
  | .local _ .vmem, ⟨2, _⟩ => ⟨S64x512, .f32⟩
  | .local _ .vmem, ⟨3, _⟩ => ⟨S64x512, .f32⟩
  | .local _ .vmem, ⟨4, _⟩ => ⟨S64x512, .f32⟩
  | .local _ .vmem, ⟨5, _⟩ => ⟨S64x512, .f32⟩
  | .local _ .vmem, ⟨6, _⟩ => ⟨S64x512, .f32⟩
  | .local _ .vmem, ⟨7, _⟩ => ⟨S64x512, .f32⟩
  | .local _ .vmem, ⟨8, _⟩ => ⟨S64x512, .f32⟩
  | .local _ .vmem, ⟨9, _⟩ => ⟨S64x512, .f32⟩
  | .local _ .vmem, ⟨10, _⟩ => ⟨S4x64x64, .f32⟩
  | .local _ .vmem, ⟨11, _⟩ => ⟨S4x64x64, .f32⟩
  | .local _ .vmem, ⟨12, _⟩ => ⟨S64x512, .f32⟩
  | .local _ .vmem, ⟨13, _⟩ => ⟨S64x512, .f32⟩
  | .local _ .vmem, ⟨14, _⟩ => ⟨S1x128, .f32⟩
  | .local _ .vmem, ⟨15, _⟩ => ⟨S64x512, .bf16⟩
  | .local _ .vmem, ⟨16, _⟩ => ⟨S64x512, .bf16⟩
  | .local _ .vmem, ⟨17, _⟩ => ⟨S1x4x128x128, .f32⟩
  | .local _ .vmem, ⟨18, _⟩ => ⟨S1x4x128x128, .f32⟩
  | .local _ .vmem, ⟨19, _⟩ => ⟨S4x128x128, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_scratch0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem8_1 : DmaSem sig := 16
abbrev cc0_sem9_0 : DmaSem sig := 17
abbrev cc0_sem9_1 : DmaSem sig := 18

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 2 → Nat :=
  let arg0 : BitVec 32 := BitVec.ofNat 32 (i 0).val
  let c13_i32 : BitVec 32 := 13#32
  let c0_i32 : BitVec 32 := 0#32
  ![arg0.toNat, c13_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S64x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4x64x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S64x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x4x128x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference16Ideal.lean ====
abbrev S4096x512 : Shape := ⟨2, ![4096, 512]⟩
abbrev S4x4096x64 : Shape := ⟨3, ![4, 4096, 64]⟩
abbrev S4096x8832 : Shape := ⟨2, ![4096, 8832]⟩
abbrev S1x128 : Shape := ⟨2, ![1, 128]⟩
abbrev S4x64x64x64 : Shape := ⟨4, ![4, 64, 64, 64]⟩
abbrev S64x4x64x64 : Shape := ⟨4, ![64, 4, 64, 64]⟩
abbrev S64x64x4x128 : Shape := ⟨4, ![64, 64, 4, 128]⟩
abbrev S64x4x64x128 : Shape := ⟨4, ![64, 4, 64, 128]⟩
abbrev S_ : Shape := ⟨0, ![]⟩
abbrev S4x128x128 : Shape := ⟨3, ![4, 128, 128]⟩
abbrev S64x4x128x128 : Shape := ⟨4, ![64, 4, 128, 128]⟩
abbrev S1x4x64x128 : Shape := ⟨4, ![1, 4, 64, 128]⟩
abbrev S4x64x128 : Shape := ⟨3, ![4, 64, 128]⟩
abbrev S1x4x64x64 : Shape := ⟨4, ![1, 4, 64, 64]⟩
abbrev S4x64x64 : Shape := ⟨3, ![4, 64, 64]⟩
abbrev S4x64 : Shape := ⟨2, ![4, 64]⟩
abbrev S4x64x1 : Shape := ⟨3, ![4, 64, 1]⟩
abbrev S1x1x128 : Shape := ⟨3, ![1, 1, 128]⟩
abbrev S1x4x128x128 : Shape := ⟨4, ![1, 4, 128, 128]⟩

abbrev nBuf : Space → Nat
  | .hbm => 129
  | .vmem => 0
  | .smem => 0
  | _ => 0

abbrev hbmTy0_0 (i : Nat) : BufTy := match i % 128 with
  | 0 => ⟨S4096x512, .f32⟩
  | 1 => ⟨S4096x512, .f32⟩
  | 2 => ⟨S4096x512, .f32⟩
  | 3 => ⟨S4096x512, .f32⟩
  | 4 => ⟨S4096x512, .f32⟩
  | 5 => ⟨S4x4096x64, .f32⟩
  | 6 => ⟨S4096x8832, .f32⟩
  | 7 => ⟨S1x128, .f32⟩
  | 8 => ⟨S4x64x64x64, .f32⟩
  | 9 => ⟨S64x4x64x64, .f32⟩
  | 10 => ⟨S4096x512, .f32⟩
  | 11 => ⟨S64x64x4x128, .f32⟩
  | 12 => ⟨S64x4x64x128, .f32⟩
  | 13 => ⟨S64x64x4x128, .f32⟩
  | 14 => ⟨S64x4x64x128, .f32⟩
  | 15 => ⟨S64x64x4x128, .f32⟩
  | 16 => ⟨S64x4x64x128, .f32⟩
  | 17 => ⟨S64x64x4x128, .f32⟩
  | 18 => ⟨S64x4x64x128, .f32⟩
  | 19 => ⟨S64x64x4x128, .f32⟩
  | 20 => ⟨S64x4x64x128, .f32⟩
  | 21 => ⟨S64x64x4x128, .f32⟩
  | 22 => ⟨S64x4x64x128, .f32⟩
  | 23 => ⟨S_, .f32⟩
  | 24 => ⟨S4x128x128, .f32⟩
  | 25 => ⟨S_, .f32⟩
  | 26 => ⟨S64x4x64x128, .f32⟩
  | 27 => ⟨S_, .f32⟩
  | 28 => ⟨S64x4x128x128, .f32⟩
  | 29 => ⟨S_, .i32⟩
  | 30 => ⟨S64x4x64x128, .f32⟩
  | 31 => ⟨S64x4x64x128, .f32⟩
  | 32 => ⟨S64x4x64x128, .f32⟩
  | 33 => ⟨S64x4x64x128, .f32⟩
  | 34 => ⟨S64x4x64x128, .f32⟩
  | 35 => ⟨S64x4x64x64, .f32⟩
  | 36 => ⟨S64x4x64x128, .f32⟩
  | 37 => ⟨S1x128, .f32⟩
  | 38 => ⟨S_, .i32⟩
  | 39 => ⟨S4x128x128, .f32⟩
  | 40 => ⟨S64x4x64x128, .f32⟩
  | 41 => ⟨S64x4x128x128, .f32⟩
  | 42 => ⟨S_, .i32⟩
  | 43 => ⟨S_, .i1⟩
  | 44 => ⟨S_, .i32⟩
  | 45 => ⟨S_, .i32⟩
  | 46 => ⟨S_, .i32⟩
  | 47 => ⟨S1x4x64x128, .f32⟩
  | 48 => ⟨S4x64x128, .f32⟩
  | 49 => ⟨S_, .i32⟩
  | 50 => ⟨S_, .i32⟩
  | 51 => ⟨S_, .i32⟩
  | 52 => ⟨S1x4x64x128, .f32⟩
  | 53 => ⟨S4x64x128, .f32⟩
  | 54 => ⟨S_, .i32⟩
  | 55 => ⟨S_, .i32⟩
  | 56 => ⟨S_, .i32⟩
  | 57 => ⟨S1x4x64x128, .f32⟩
  | 58 => ⟨S4x64x128, .f32⟩
  | 59 => ⟨S_, .i32⟩
  | 60 => ⟨S_, .i32⟩
  | 61 => ⟨S_, .i32⟩
  | 62 => ⟨S1x4x64x128, .f32⟩
  | 63 => ⟨S4x64x128, .f32⟩
  | 64 => ⟨S_, .i32⟩
  | 65 => ⟨S_, .i32⟩
  | 66 => ⟨S_, .i32⟩
  | 67 => ⟨S1x4x64x128, .f32⟩
  | 68 => ⟨S4x64x128, .f32⟩
  | 69 => ⟨S_, .i32⟩
  | 70 => ⟨S_, .i32⟩
  | 71 => ⟨S_, .i32⟩
  | 72 => ⟨S1x4x64x64, .f32⟩
  | 73 => ⟨S4x64x64, .f32⟩
  | 74 => ⟨S_, .i32⟩
  | 75 => ⟨S_, .i32⟩
  | 76 => ⟨S_, .i32⟩
  | 77 => ⟨S1x4x64x128, .f32⟩
  | 78 => ⟨S4x64x128, .f32⟩
  | 79 => ⟨S4x64x128, .f32⟩
  | 80 => ⟨S4x64x128, .f32⟩
  | 81 => ⟨S4x64x128, .f32⟩
  | 82 => ⟨S4x64x128, .f32⟩
  | 83 => ⟨S4x64x128, .f32⟩
  | 84 => ⟨S4x128x128, .f32⟩
  | 85 => ⟨S4x128x128, .f32⟩
  | 86 => ⟨S4x128x128, .f32⟩
  | 87 => ⟨S4x128x128, .f32⟩
  | 88 => ⟨S4x64x128, .f32⟩
  | 89 => ⟨S_, .f32⟩
  | 90 => ⟨S4x64, .f32⟩
  | 91 => ⟨S4x64x1, .f32⟩
  | 92 => ⟨S_, .f32⟩
  | 93 => ⟨S4x64x1, .f32⟩
  | 94 => ⟨S4x64x1, .f32⟩
  | 95 => ⟨S_, .f32⟩
  | 96 => ⟨S4x64x1, .f32⟩
  | 97 => ⟨S4x64x1, .f32⟩
  | 98 => ⟨S4x64x1, .f32⟩
  | 99 => ⟨S4x64x128, .f32⟩
  | 100 => ⟨S4x64x128, .f32⟩
  | 101 => ⟨S1x1x128, .f32⟩
  | 102 => ⟨S4x64x128, .f32⟩
  | 103 => ⟨S4x64x128, .f32⟩
  | 104 => ⟨S4x64x128, .f32⟩
  | 105 => ⟨S4x64x128, .f32⟩
  | 106 => ⟨S_, .f32⟩
  | 107 => ⟨S4x64x128, .f32⟩
  | 108 => ⟨S4x64x128, .f32⟩
  | 109 => ⟨S_, .f32⟩
  | 110 => ⟨S4x64x128, .f32⟩
  | 111 => ⟨S4x64x128, .f32⟩
  | 112 => ⟨S4x64x128, .f32⟩
  | 113 => ⟨S4x64x128, .f32⟩
  | 114 => ⟨S1x4x64x128, .f32⟩
  | 115 => ⟨S_, .i32⟩
  | 116 => ⟨S_, .i32⟩
  | 117 => ⟨S_, .i32⟩
  | 118 => ⟨S64x4x64x128, .f32⟩
  | 119 => ⟨S1x4x128x128, .f32⟩
  | 120 => ⟨S_, .i32⟩
  | 121 => ⟨S_, .i32⟩
  | 122 => ⟨S_, .i32⟩
  | 123 => ⟨S64x4x128x128, .f32⟩
  | 124 => ⟨S_, .i32⟩
  | 125 => ⟨S_, .i32⟩
  | 126 => ⟨S64x64x4x128, .f32⟩
  | 127 => ⟨S4096x512, .f32⟩
  | _ => ⟨S4096x512, .f32⟩

abbrev hbmTy0_1 (i : Nat) : BufTy := match i % 128 with
  | 0 => ⟨S4096x512, .bf16⟩
  | _ => ⟨S4096x512, .f32⟩

abbrev hbmTy (i : Nat) : BufTy := match i / 128 with
  | 0 => hbmTy0_0 i
  | 1 => hbmTy0_1 i
  | _ => ⟨S4096x512, .f32⟩

abbrev bufTy : (tb : Table) → Fin (tcTables nBuf tb) → BufTy
  | .hbm, ⟨i, _⟩ => hbmTy i
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst : Ref sig .tc := ⟨.hbm, 23, rfl⟩
abbrev main_v15 : Ref sig .tc := ⟨.hbm, 24, rfl⟩
abbrev main_cst_0 : Ref sig .tc := ⟨.hbm, 25, rfl⟩
abbrev main_v16 : Ref sig .tc := ⟨.hbm, 26, rfl⟩
abbrev main_cst_1 : Ref sig .tc := ⟨.hbm, 27, rfl⟩
abbrev main_v17 : Ref sig .tc := ⟨.hbm, 28, rfl⟩
abbrev main_c : Ref sig .tc := ⟨.hbm, 29, rfl⟩
abbrev main_v18_0 : Ref sig .tc := ⟨.hbm, 30, rfl⟩
abbrev main_v18_1 : Ref sig .tc := ⟨.hbm, 31, rfl⟩
abbrev main_v18_2 : Ref sig .tc := ⟨.hbm, 32, rfl⟩
abbrev main_v18_3 : Ref sig .tc := ⟨.hbm, 33, rfl⟩
abbrev main_v18_4 : Ref sig .tc := ⟨.hbm, 34, rfl⟩
abbrev main_v18_5 : Ref sig .tc := ⟨.hbm, 35, rfl⟩
abbrev main_v18_6 : Ref sig .tc := ⟨.hbm, 36, rfl⟩
abbrev main_v18_7 : Ref sig .tc := ⟨.hbm, 37, rfl⟩
abbrev main_v18_8 : Ref sig .tc := ⟨.hbm, 38, rfl⟩
abbrev main_v18_9 : Ref sig .tc := ⟨.hbm, 39, rfl⟩
abbrev main_v18_10 : Ref sig .tc := ⟨.hbm, 40, rfl⟩
abbrev main_v18_11 : Ref sig .tc := ⟨.hbm, 41, rfl⟩
abbrev main_while0c_c_13 : Ref sig .tc := ⟨.hbm, 42, rfl⟩
abbrev main_while0c_v22 : Ref sig .tc := ⟨.hbm, 43, rfl⟩
abbrev main_while0b_call0_c : Ref sig .tc := ⟨.hbm, 44, rfl⟩
abbrev main_while0b_call0_c_0 : Ref sig .tc := ⟨.hbm, 45, rfl⟩
abbrev main_while0b_call0_c_1 : Ref sig .tc := ⟨.hbm, 46, rfl⟩
abbrev main_while0b_call0_v0 : Ref sig .tc := ⟨.hbm, 47, rfl⟩
abbrev main_while0b_v22 : Ref sig .tc := ⟨.hbm, 48, rfl⟩
abbrev main_while0b_call1_c : Ref sig .tc := ⟨.hbm, 49, rfl⟩
abbrev main_while0b_call1_c_0 : Ref sig .tc := ⟨.hbm, 50, rfl⟩
abbrev main_while0b_call1_c_1 : Ref sig .tc := ⟨.hbm, 51, rfl⟩
abbrev main_while0b_call1_v0 : Ref sig .tc := ⟨.hbm, 52, rfl⟩
abbrev main_while0b_v23 : Ref sig .tc := ⟨.hbm, 53, rfl⟩
abbrev main_while0b_call2_c : Ref sig .tc := ⟨.hbm, 54, rfl⟩
abbrev main_while0b_call2_c_0 : Ref sig .tc := ⟨.hbm, 55, rfl⟩
abbrev main_while0b_call2_c_1 : Ref sig .tc := ⟨.hbm, 56, rfl⟩
abbrev main_while0b_call2_v0 : Ref sig .tc := ⟨.hbm, 57, rfl⟩
abbrev main_while0b_v24 : Ref sig .tc := ⟨.hbm, 58, rfl⟩
abbrev main_while0b_call3_c : Ref sig .tc := ⟨.hbm, 59, rfl⟩
abbrev main_while0b_call3_c_0 : Ref sig .tc := ⟨.hbm, 60, rfl⟩
abbrev main_while0b_call3_c_1 : Ref sig .tc := ⟨.hbm, 61, rfl⟩
abbrev main_while0b_call3_v0 : Ref sig .tc := ⟨.hbm, 62, rfl⟩
abbrev main_while0b_v25 : Ref sig .tc := ⟨.hbm, 63, rfl⟩
abbrev main_while0b_call4_c : Ref sig .tc := ⟨.hbm, 64, rfl⟩
abbrev main_while0b_call4_c_0 : Ref sig .tc := ⟨.hbm, 65, rfl⟩
abbrev main_while0b_call4_c_1 : Ref sig .tc := ⟨.hbm, 66, rfl⟩
abbrev main_while0b_call4_v0 : Ref sig .tc := ⟨.hbm, 67, rfl⟩
abbrev main_while0b_v26 : Ref sig .tc := ⟨.hbm, 68, rfl⟩
abbrev main_while0b_call5_c : Ref sig .tc := ⟨.hbm, 69, rfl⟩
abbrev main_while0b_call5_c_0 : Ref sig .tc := ⟨.hbm, 70, rfl⟩
abbrev main_while0b_call5_c_1 : Ref sig .tc := ⟨.hbm, 71, rfl⟩
abbrev main_while0b_call5_v0 : Ref sig .tc := ⟨.hbm, 72, rfl⟩
abbrev main_while0b_v27 : Ref sig .tc := ⟨.hbm, 73, rfl⟩
abbrev main_while0b_call6_c : Ref sig .tc := ⟨.hbm, 74, rfl⟩
abbrev main_while0b_call6_c_0 : Ref sig .tc := ⟨.hbm, 75, rfl⟩
abbrev main_while0b_call6_c_1 : Ref sig .tc := ⟨.hbm, 76, rfl⟩
abbrev main_while0b_call6_v0 : Ref sig .tc := ⟨.hbm, 77, rfl⟩
abbrev main_while0b_v28 : Ref sig .tc := ⟨.hbm, 78, rfl⟩
abbrev main_while0b_v29 : Ref sig .tc := ⟨.hbm, 79, rfl⟩
abbrev main_while0b_v30 : Ref sig .tc := ⟨.hbm, 80, rfl⟩
abbrev main_while0b_v31 : Ref sig .tc := ⟨.hbm, 81, rfl⟩
abbrev main_while0b_v32 : Ref sig .tc := ⟨.hbm, 82, rfl⟩
abbrev main_while0b_v33 : Ref sig .tc := ⟨.hbm, 83, rfl⟩
abbrev main_while0b_v34 : Ref sig .tc := ⟨.hbm, 84, rfl⟩
abbrev main_while0b_v35 : Ref sig .tc := ⟨.hbm, 85, rfl⟩
abbrev main_while0b_v36 : Ref sig .tc := ⟨.hbm, 86, rfl⟩
abbrev main_while0b_v37 : Ref sig .tc := ⟨.hbm, 87, rfl⟩
abbrev main_while0b_v38 : Ref sig .tc := ⟨.hbm, 88, rfl⟩
abbrev main_while0b_cst_13 : Ref sig .tc := ⟨.hbm, 89, rfl⟩
abbrev main_while0b_v39 : Ref sig .tc := ⟨.hbm, 90, rfl⟩
abbrev main_while0b_v40 : Ref sig .tc := ⟨.hbm, 91, rfl⟩
abbrev main_while0b_cst_14 : Ref sig .tc := ⟨.hbm, 92, rfl⟩
abbrev main_while0b_v41 : Ref sig .tc := ⟨.hbm, 93, rfl⟩
abbrev main_while0b_v42 : Ref sig .tc := ⟨.hbm, 94, rfl⟩
abbrev main_while0b_cst_15 : Ref sig .tc := ⟨.hbm, 95, rfl⟩
abbrev main_while0b_v43 : Ref sig .tc := ⟨.hbm, 96, rfl⟩
abbrev main_while0b_v44 : Ref sig .tc := ⟨.hbm, 97, rfl⟩
abbrev main_while0b_v45 : Ref sig .tc := ⟨.hbm, 98, rfl⟩
abbrev main_while0b_v46 : Ref sig .tc := ⟨.hbm, 99, rfl⟩
abbrev main_while0b_v47 : Ref sig .tc := ⟨.hbm, 100, rfl⟩
abbrev main_while0b_v48 : Ref sig .tc := ⟨.hbm, 101, rfl⟩
abbrev main_while0b_v49 : Ref sig .tc := ⟨.hbm, 102, rfl⟩
abbrev main_while0b_v50 : Ref sig .tc := ⟨.hbm, 103, rfl⟩
abbrev main_while0b_call7_v0 : Ref sig .tc := ⟨.hbm, 104, rfl⟩
abbrev main_while0b_call7_v1 : Ref sig .tc := ⟨.hbm, 105, rfl⟩
abbrev main_while0b_call7_cst : Ref sig .tc := ⟨.hbm, 106, rfl⟩
abbrev main_while0b_call7_v2 : Ref sig .tc := ⟨.hbm, 107, rfl⟩
abbrev main_while0b_call7_v3 : Ref sig .tc := ⟨.hbm, 108, rfl⟩
abbrev main_while0b_call7_cst_0 : Ref sig .tc := ⟨.hbm, 109, rfl⟩
abbrev main_while0b_call7_v4 : Ref sig .tc := ⟨.hbm, 110, rfl⟩
abbrev main_while0b_call7_v5 : Ref sig .tc := ⟨.hbm, 111, rfl⟩
abbrev main_while0b_v51 : Ref sig .tc := ⟨.hbm, 112, rfl⟩
abbrev main_while0b_v52 : Ref sig .tc := ⟨.hbm, 113, rfl⟩
abbrev main_while0b_call8_v0 : Ref sig .tc := ⟨.hbm, 114, rfl⟩
abbrev main_while0b_call8_c : Ref sig .tc := ⟨.hbm, 115, rfl⟩
abbrev main_while0b_call8_c_0 : Ref sig .tc := ⟨.hbm, 116, rfl⟩
abbrev main_while0b_call8_c_1 : Ref sig .tc := ⟨.hbm, 117, rfl⟩
abbrev main_while0b_v53 : Ref sig .tc := ⟨.hbm, 118, rfl⟩
abbrev main_while0b_call9_v0 : Ref sig .tc := ⟨.hbm, 119, rfl⟩
abbrev main_while0b_call9_c : Ref sig .tc := ⟨.hbm, 120, rfl⟩
abbrev main_while0b_call9_c_0 : Ref sig .tc := ⟨.hbm, 121, rfl⟩
abbrev main_while0b_call9_c_1 : Ref sig .tc := ⟨.hbm, 122, rfl⟩
abbrev main_while0b_v54 : Ref sig .tc := ⟨.hbm, 123, rfl⟩
abbrev main_while0b_c_16 : Ref sig .tc := ⟨.hbm, 124, rfl⟩
abbrev main_while0b_v55 : Ref sig .tc := ⟨.hbm, 125, rfl⟩
abbrev main_v19 : Ref sig .tc := ⟨.hbm, 126, rfl⟩
abbrev main_v20 : Ref sig .tc := ⟨.hbm, 127, rfl⟩
abbrev main_v21 : Ref sig .tc := ⟨.hbm, 128, rfl⟩

abbrev nD : Nat := 1
abbrev τ : Topo := Topo.v7x

variable {F : FTy → Type} [FloatOps F]

abbrev main_while0_count : Scf.Loop 32 := ⟨0#32, 64#32, 1#32⟩
-- ==== Proof.Opened.lean ====
/-
  What one grid point of the merge's backward call leaves in its six output buffers, as the body's own
  expressions over the input blocks. The point's case (first point or not) only matters for the last
  output, the weight gradient: the first point stores its tile, a later point adds its tile to what the
  buffer holds.
-/
module

public import proofs.«01_k».proof.Proof.Gen.KernelIdeal.Frame
public import Idealize.ShloMosaic.Lib.Pipeline.Value

@[expose] public section

set_option maxRecDepth 16384
set_option maxHeartbeats 1000000

noncomputable section

open Idealize.ShloMosaic Idealize.ShloMosaic.TcCoe Idealize.SL.Sem

namespace Cert.KernelIdeal.Value

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- The gradient of the gate inputs on one tile of 256 rows: from the four branches' tiles, the gate
    inputs, the branch weights and the cotangent. -/
def gateTile (a o p q : Vec F S256x512 .bf16) (x : Vec F S256x4096 .f32) (w : Vec F S4x512x1024 .bf16)
    (g : Vec F S256x1024 .bf16) : FVec F S256x4096 .bf16 :=
  k0_pay1 (k0_pay37 (k0_pay7 g) (k0_pay9 a w) (k0_pay11 o w) (k0_pay13 p w) (k0_pay16 x)
    (k0_pay20 (k0_pay19 x)) (k0_pay21 x) (k0_pay24 x) (k0_pay25 x) (k0_pay28 x)
    (k0_pay32 x (k0_pay7 g) (k0_pay15 q w)) k0_pay33)

/-- The gradient of the branch weights that one tile of 256 rows contributes. -/
def weightTile (a o p q : Vec F S256x512 .bf16) (x : Vec F S256x4096 .f32) (g : Vec F S256x1024 .bf16) :
    FVec F S4x512x1024 .f32 :=
  k0_pay43 (k0_pay3 a) (k0_pay4 o) (k0_pay5 p) (k0_pay6 q) (k0_pay31 x (k0_pay7 g))
    (k0_pay34 (k0_pay7 g) (k0_pay27 x)) (k0_pay35 (k0_pay7 g) (k0_pay23 x)) (k0_pay36 (k0_pay7 g) (k0_pay18 x))

variable (m : (ℓ : Loc nD τ sig) → Buf (Elt F) ℓ)

theorem lt_N (t : Fin cfg0.N) : t.val < 16 := lt_of_lt_of_eq t.isLt N_0

/-- The point's own weight tile. -/
abbrev tileAt (c : Dev nD) (t : Fin cfg0.N) : FVec F S4x512x1024 .f32 :=
  weightTile (iblk m c 0 t) (iblk m c 1 t) (iblk m c 2 t) (iblk m c 3 t) (X0_4 m c t) (iblk m c 6 t)

/-- The six buffers after a point, over what the last one comes to hold. -/
abbrev leaves (c : Dev nD) (t : Fin cfg0.N) (acc : FVec F S4x512x1024 .f32) :
    Vec F S256x512 .f32 × Vec F S256x512 .f32 × Vec F S256x512 .f32 × Vec F S256x512 .f32 ×
      Vec F S256x4096 .bf16 × Vec F S4x512x1024 .f32 :=
  (k0_pay42 (k0_pay8 (iblk m c 5 t)) (k0_pay36 (k0_pay7 (iblk m c 6 t)) (k0_pay18 (X0_4 m c t))),
   k0_pay41 (k0_pay10 (iblk m c 5 t)) (k0_pay35 (k0_pay7 (iblk m c 6 t)) (k0_pay23 (X0_4 m c t))),
   k0_pay40 (k0_pay12 (iblk m c 5 t)) (k0_pay34 (k0_pay7 (iblk m c 6 t)) (k0_pay27 (X0_4 m c t))),
   k0_pay39 (k0_pay14 (iblk m c 5 t)) (k0_pay38 (k0_pay31 (X0_4 m c t) (k0_pay7 (iblk m c 6 t)))),
   gateTile (iblk m c 0 t) (iblk m c 1 t) (iblk m c 2 t) (iblk m c 3 t) (X0_4 m c t) (iblk m c 5 t) (iblk m c 6 t),
   acc)

/-- The first point: the last buffer holds the point's tile. -/
theorem outs_first (c : Dev nD) (t : Fin cfg0.N) (h : t.val = 0) :
    outsAt0 m c t.val t.isLt = leaves m c t (tileAt m c t) := by
  rw [outsAt0_A m c t (by omega) (by omega)]
  refine congrArg₂ Prod.mk ((View.read_writes_eq_canon _ _ _ fun y => cover0_A_7 _ _ _ _ _ _ _ _ _ _ _ _ _ _ _ _ _ _ _ _ _ _ _ _ _ _ _ _ _ _ _ _ _ _ _ _ _ y).trans ?_)
    (congrArg₂ Prod.mk ((View.read_writes_eq_canon _ _ _ fun y => cover0_A_8 _ _ _ _ _ _ _ _ _ _ _ _ _ _ _ _ _ _ _ _ _ _ _ _ _ _ _ _ _ _ _ _ _ _ _ _ _ y).trans ?_)
    (congrArg₂ Prod.mk ((View.read_writes_eq_canon _ _ _ fun y => cover0_A_9 _ _ _ _ _ _ _ _ _ _ _ _ _ _ _ _ _ _ _ _ _ _ _ _ _ _ _ _ _ _ _ _ _ _ _ _ _ y).trans ?_)
    (congrArg₂ Prod.mk ((View.read_writes_eq_canon _ _ _ fun y => cover0_A_10 _ _ _ _ _ _ _ _ _ _ _ _ _ _ _ _ _ _ _ _ _ _ _ _ _ _ _ _ _ _ _ _ _ _ _ _ _ y).trans ?_)
    (congrArg₂ Prod.mk ((View.read_writes_eq_canon _ _ _ fun y => cover0_A_11 _ _ _ _ _ _ _ _ _ _ _ _ _ _ _ _ _ _ _ _ _ _ _ _ _ _ _ _ _ _ _ _ _ _ _ _ _ y).trans ?_)
    ((View.read_writes_eq_canon _ _ _ fun y => cover0_A_12 _ _ _ _ _ _ _ _ _ _ _ _ _ _ _ _ _ _ _ _ _ _ _ _ _ _ _ _ _ _ _ _ _ _ _ _ _ y).trans ?_)))))
  all_goals
    unfold kernelRun0_A
    dsimp only
    sl_unfold_words
    simp only [gateTile, weightTile, View.canon_unit_zero (S := S256x512) hz2, View.canon_unit_zero (S := S256x4096) hz2, View.canon_unit_zero (S := S4x512x1024) hz3, View.readAt_eq_ld, (hs0_0 t).read_unread, (hs0_1 t).read_unread,
      (hs0_2 t).read_unread, (hs0_3 t).read_unread, (hs0_4 t).read_unread, (hs0_5 t).read_unread, (hs0_6 t).read_unread,
      View.ld_unit_zero (S := S256x512) hz2, View.ld_unit_zero (S := S256x4096) hz2, View.ld_unit_zero (S := S256x1024) hz2,
      View.ld_unit_zero (S := S4x512x1024) hz3]

/-- A later point: the last buffer holds what it held, plus the point's tile. -/
theorem outs_later (c : Dev nD) (t : Fin cfg0.N) (h : t.val ≠ 0) :
    outsAt0 m c t.val t.isLt = leaves m c t (k0_pay2 (tileAt m c t)
      (outsAt0 m c (t.val - 1) (Nat.lt_of_le_of_lt (Nat.sub_le _ _) t.isLt)).2.2.2.2.2) := by
  have hN := lt_N t
  rw [outsAt0_B m c t (by omega) (by omega)]
  refine congrArg₂ Prod.mk ((View.read_writes_eq_canon _ _ _ fun y => cover0_B_7 _ _ _ _ _ _ _ _ _ _ _ _ _ _ _ _ _ _ _ _ _ _ _ _ _ _ _ _ _ _ _ _ _ _ _ _ _ _ y).trans ?_)
    (congrArg₂ Prod.mk ((View.read_writes_eq_canon _ _ _ fun y => cover0_B_8 _ _ _ _ _ _ _ _ _ _ _ _ _ _ _ _ _ _ _ _ _ _ _ _ _ _ _ _ _ _ _ _ _ _ _ _ _ _ y).trans ?_)
    (congrArg₂ Prod.mk ((View.read_writes_eq_canon _ _ _ fun y => cover0_B_9 _ _ _ _ _ _ _ _ _ _ _ _ _ _ _ _ _ _ _ _ _ _ _ _ _ _ _ _ _ _ _ _ _ _ _ _ _ _ y).trans ?_)
    (congrArg₂ Prod.mk ((View.read_writes_eq_canon _ _ _ fun y => cover0_B_10 _ _ _ _ _ _ _ _ _ _ _ _ _ _ _ _ _ _ _ _ _ _ _ _ _ _ _ _ _ _ _ _ _ _ _ _ _ _ y).trans ?_)
    (congrArg₂ Prod.mk ((View.read_writes_eq_canon _ _ _ fun y => cover0_B_11 _ _ _ _ _ _ _ _ _ _ _ _ _ _ _ _ _ _ _ _ _ _ _ _ _ _ _ _ _ _ _ _ _ _ _ _ _ _ y).trans ?_)
    ((View.read_writes_eq_canon _ _ _ fun y => cover0_B_12 _ _ _ _ _ _ _ _ _ _ _ _ _ _ _ _ _ _ _ _ _ _ _ _ _ _ _ _ _ _ _ _ _ _ _ _ _ _ y).trans ?_)))))
  all_goals
    unfold kernelRun0_B
    dsimp only
    sl_unfold_words
    simp only [gateTile, weightTile, View.canon_unit_zero (S := S256x512) hz2, View.canon_unit_zero (S := S256x4096) hz2, View.canon_unit_zero (S := S4x512x1024) hz3, View.readAt_eq_ld, (hs0_0 t).read_unread, (hs0_1 t).read_unread,
      (hs0_2 t).read_unread, (hs0_3 t).read_unread, (hs0_4 t).read_unread, (hs0_5 t).read_unread, (hs0_6 t).read_unread, (hs0_12 t).read_unread,
      View.ld_unit_zero (S := S256x512) hz2, View.ld_unit_zero (S := S256x4096) hz2, View.ld_unit_zero (S := S256x1024) hz2,
      View.ld_unit_zero (S := S4x512x1024) hz3]

end Cert.KernelIdeal.Value
-- ==== Proof.Products.lean ====
/-
  A kernel's three kinds of matrix product, read at an entry over the extended reals, for any extents:
  rows by columns, rows by rows, columns by columns, each accumulated onto zero.
-/
module

public import Idealize.ShloMosaic.PureOps.Ideal.Laws
public import Idealize.ShloMosaic.Lib.ValueIdxCore

@[expose] public section

noncomputable section

open Idealize.ShloMosaic Idealize.ShloMosaic.ValueIdx
open scoped BigOperators

namespace Cert.Products

/-- A product with one contracted axis of extent `n`, accumulated onto zero: the sum over that axis, the two
    operands' indices given as functions of the contracted coordinate. -/
theorem one_axis {sl sr so : Shape} {φ₁ φ₂ : FTy} (d : DotDims sl sr so) (n : ℕ) (hr : d.contr.rank = 1)
    (hs : d.contr.size ⟨0, by omega⟩ = n) (lhs : FVec Ideal sl φ₁) (rhs : FVec Ideal sr φ₂) (j : so.Idx)
    (L : Fin n → sl.Idx) (R : Fin n → sr.Idx)
    (hL : ∀ q : d.contr.Idx, d.lhsIdx j q = L (contrEquiv1 d n hr hs q))
    (hR : ∀ q : d.contr.Idx, d.rhsIdx j q = R (contrEquiv1 d n hr hs q)) :
    FloatOps.matmul d none lhs rhs (constant so .f32 0x00000000#32) j = ∑ k : Fin n, lhs (L k) * rhs (R k) := by
  rw [Ideal.matmul_constant_zero_apply, ← Equiv.sum_comp (contrEquiv1 d n hr hs)]
  exact Finset.sum_congr rfl fun q _ => by rw [hL q, hR q]

/-- Rows by columns: `Σ k, lhs[r, k] · rhs[k, c]`. -/
theorem rows_cols {M K N : ℕ} {φ₁ φ₂ : FTy} (wf : DotDims.WF ⟨2, ![M, K]⟩ ⟨2, ![K, N]⟩ ⟨2, ![M, N]⟩ [1] [0] [0] [1] [] [])
    (lhs : FVec Ideal ⟨2, ![M, K]⟩ φ₁) (rhs : FVec Ideal ⟨2, ![K, N]⟩ φ₂) (r : Fin M) (c : Fin N) :
    FloatOps.matmul (φ₁ := φ₁) (φ₂ := φ₂) (⟨[1], [0], [0], [1], [], [], wf⟩ : DotDims ⟨2, ![M, K]⟩ ⟨2, ![K, N]⟩ ⟨2, ![M, N]⟩) none lhs rhs
      (constant ⟨2, ![M, N]⟩ .f32 0x00000000#32) (ix2 r c) = ∑ k : Fin K, lhs (ix2 r k) * rhs (ix2 k c) :=
  one_axis _ K rfl rfl lhs rhs _ _ _
    (fun q => funext fun a => Fin.ext (match a with | ⟨0, _⟩ => rfl | ⟨1, _⟩ => rfl))
    (fun q => funext fun a => Fin.ext (match a with | ⟨0, _⟩ => rfl | ⟨1, _⟩ => rfl))

/-- Rows by rows: `Σ k, lhs[r, k] · rhs[c, k]`. -/
theorem rows_rows {M K N : ℕ} {φ₁ φ₂ : FTy} (wf : DotDims.WF ⟨2, ![M, K]⟩ ⟨2, ![N, K]⟩ ⟨2, ![M, N]⟩ [1] [1] [0] [0] [] [])
    (lhs : FVec Ideal ⟨2, ![M, K]⟩ φ₁) (rhs : FVec Ideal ⟨2, ![N, K]⟩ φ₂) (r : Fin M) (c : Fin N) :
    FloatOps.matmul (φ₁ := φ₁) (φ₂ := φ₂) (⟨[1], [1], [0], [0], [], [], wf⟩ : DotDims ⟨2, ![M, K]⟩ ⟨2, ![N, K]⟩ ⟨2, ![M, N]⟩) none lhs rhs
      (constant ⟨2, ![M, N]⟩ .f32 0x00000000#32) (ix2 r c) = ∑ k : Fin K, lhs (ix2 r k) * rhs (ix2 c k) :=
  one_axis _ K rfl rfl lhs rhs _ _ _
    (fun q => funext fun a => Fin.ext (match a with | ⟨0, _⟩ => rfl | ⟨1, _⟩ => rfl))
    (fun q => funext fun a => Fin.ext (match a with | ⟨0, _⟩ => rfl | ⟨1, _⟩ => rfl))

/-- Columns by columns: `Σ k, lhs[k, r] · rhs[k, c]`. -/
theorem cols_cols {M K N : ℕ} {φ₁ φ₂ : FTy} (wf : DotDims.WF ⟨2, ![K, M]⟩ ⟨2, ![K, N]⟩ ⟨2, ![M, N]⟩ [0] [0] [1] [1] [] [])
    (lhs : FVec Ideal ⟨2, ![K, M]⟩ φ₁) (rhs : FVec Ideal ⟨2, ![K, N]⟩ φ₂) (r : Fin M) (c : Fin N) :
    FloatOps.matmul (φ₁ := φ₁) (φ₂ := φ₂) (⟨[0], [0], [1], [1], [], [], wf⟩ : DotDims ⟨2, ![K, M]⟩ ⟨2, ![K, N]⟩ ⟨2, ![M, N]⟩) none lhs rhs
      (constant ⟨2, ![M, N]⟩ .f32 0x00000000#32) (ix2 r c) = ∑ k : Fin K, lhs (ix2 k r) * rhs (ix2 k c) :=
  one_axis _ K rfl rfl lhs rhs _ _ _
    (fun q => funext fun a => Fin.ext (match a with | ⟨0, _⟩ => rfl | ⟨1, _⟩ => rfl))
    (fun q => funext fun a => Fin.ext (match a with | ⟨0, _⟩ => rfl | ⟨1, _⟩ => rfl))

end Cert.Products
-- ==== Proof.Padded.lean ====
/-
  Four pieces set side by side by adding four padded arrays. The body forms the gradient of the gate inputs
  (four column blocks) and of the stacked weights (four layers) as a sum of four arrays, each holding one piece
  at its place and zeros elsewhere. Over the extended reals the sum holds each piece at its place.
-/
module

public import proofs.«01_k».proof.Proof.Gen.KernelIdeal.Skeleton
public import Idealize.ShloMosaic.Lib.ValueIdx
public import Idealize.ShloMosaic.Lib.Pipeline.Value
public import Idealize.ShloMosaic.PureOps.Ideal.Laws

@[expose] public section

set_option maxRecDepth 16384

noncomputable section

open Idealize.ShloMosaic Idealize.ShloMosaic.ValueIdx

namespace Cert.Padded

/-! ## One padded array -/

section Columns
variable {α : Type} {R A B T : ℕ}

/-- `A` columns of padding, then an array of `B` columns. -/
theorem cols_lead (z : α) (v : (⟨2, ![R, B]⟩ : Shape).Idx → α)
    (h : Shape.Concatenates [⟨2, ![R, A]⟩, ⟨2, ![R, B]⟩] ⟨2, ![R, T]⟩ 1) (hT : T = A + B) (r : Fin R) (c : Fin T) :
    concatenate ⟨2, ![R, T]⟩ 1 [⟨⟨2, ![R, A]⟩, broadcast ⟨2, ![R, A]⟩ z⟩, ⟨⟨2, ![R, B]⟩, v⟩] h (ix2 r c)
      = if hc : A ≤ c.val then v (ix2 r ⟨c.val - A, by have := c.isLt; omega⟩) else z := by
  split
  · next hc =>
    refine concatenate_pair_apply_right 1 _ v h (ix2 r c) rfl rfl _ (fun b hb => ?_) ?_
    · match b, hb with
      | ⟨0, _⟩, _ => rfl
      | ⟨1, _⟩, hb => exact absurd rfl hb
    · show c.val - A + A = c.val; omega
  · next hc =>
    refine (concatenate_pair_apply_left 1 _ v h (ix2 r c) rfl (ix2 r ⟨c.val, by omega⟩) fun b => ?_).trans (broadcast_apply _ _)
    match b with
    | ⟨0, _⟩ => rfl
    | ⟨1, _⟩ => rfl

/-- An array of `A` columns, then `B` columns of padding. -/
theorem cols_trail (z : α) (v : (⟨2, ![R, A]⟩ : Shape).Idx → α)
    (h : Shape.Concatenates [⟨2, ![R, A]⟩, ⟨2, ![R, B]⟩] ⟨2, ![R, T]⟩ 1) (hT : T = A + B) (r : Fin R) (c : Fin T) :
    concatenate ⟨2, ![R, T]⟩ 1 [⟨⟨2, ![R, A]⟩, v⟩, ⟨⟨2, ![R, B]⟩, broadcast ⟨2, ![R, B]⟩ z⟩] h (ix2 r c)
      = if hc : c.val < A then v (ix2 r ⟨c.val, hc⟩) else z := by
  split
  · next hc =>
    refine concatenate_pair_apply_left 1 v _ h (ix2 r c) rfl (ix2 r ⟨c.val, hc⟩) fun b => ?_
    match b with
    | ⟨0, _⟩ => rfl
    | ⟨1, _⟩ => rfl
  · next hc =>
    refine (concatenate_pair_apply_right 1 v _ h (ix2 r c) rfl rfl (ix2 r ⟨c.val - A, by have := c.isLt; omega⟩)
      (fun b hb => ?_) ?_).trans (broadcast_apply _ _)
    · match b, hb with
      | ⟨0, _⟩, _ => rfl
      | ⟨1, _⟩, hb => exact absurd rfl hb
    · show c.val - A + A = c.val; omega
end Columns

section Layers
variable {α : Type} {K D A B T : ℕ}

/-- `A` layers of padding, then `B` layers. -/
theorem layers_lead (z : α) (v : (⟨3, ![B, K, D]⟩ : Shape).Idx → α)
    (h : Shape.Concatenates [⟨3, ![A, K, D]⟩, ⟨3, ![B, K, D]⟩] ⟨3, ![T, K, D]⟩ 0) (hT : T = A + B) (n : Fin T) (k : Fin K) (d : Fin D) :
    concatenate ⟨3, ![T, K, D]⟩ 0 [⟨⟨3, ![A, K, D]⟩, broadcast ⟨3, ![A, K, D]⟩ z⟩, ⟨⟨3, ![B, K, D]⟩, v⟩] h (ix3 n k d)
      = if hc : A ≤ n.val then v (ix3 ⟨n.val - A, by have := n.isLt; omega⟩ k d) else z := by
  split
  · next hc =>
    refine concatenate_pair_apply_right 0 _ v h (ix3 n k d) rfl rfl _ (fun b hb => ?_) ?_
    · match b, hb with
      | ⟨0, _⟩, hb => exact absurd rfl hb
      | ⟨1, _⟩, _ => rfl
      | ⟨2, _⟩, _ => rfl
    · show n.val - A + A = n.val; omega
  · next hc =>
    refine (concatenate_pair_apply_left 0 _ v h (ix3 n k d) rfl (ix3 ⟨n.val, by omega⟩ k d) fun b => ?_).trans (broadcast_apply _ _)
    match b with
    | ⟨0, _⟩ => rfl
    | ⟨1, _⟩ => rfl
    | ⟨2, _⟩ => rfl

/-- `A` layers, then `B` layers of padding. -/
theorem layers_trail (z : α) (v : (⟨3, ![A, K, D]⟩ : Shape).Idx → α)
    (h : Shape.Concatenates [⟨3, ![A, K, D]⟩, ⟨3, ![B, K, D]⟩] ⟨3, ![T, K, D]⟩ 0) (hT : T = A + B) (n : Fin T) (k : Fin K) (d : Fin D) :
    concatenate ⟨3, ![T, K, D]⟩ 0 [⟨⟨3, ![A, K, D]⟩, v⟩, ⟨⟨3, ![B, K, D]⟩, broadcast ⟨3, ![B, K, D]⟩ z⟩] h (ix3 n k d)
      = if hc : n.val < A then v (ix3 ⟨n.val, hc⟩ k d) else z := by
  split
  · next hc =>
    refine concatenate_pair_apply_left 0 v _ h (ix3 n k d) rfl (ix3 ⟨n.val, hc⟩ k d) fun b => ?_
    match b with
    | ⟨0, _⟩ => rfl
    | ⟨1, _⟩ => rfl
    | ⟨2, _⟩ => rfl
  · next hc =>
    refine (concatenate_pair_apply_right 0 v _ h (ix3 n k d) rfl rfl (ix3 ⟨n.val - A, by have := n.isLt; omega⟩ k d)
      (fun b hb => ?_) ?_).trans (broadcast_apply _ _)
    · match b, hb with
      | ⟨0, _⟩, hb => exact absurd rfl hb
      | ⟨1, _⟩, _ => rfl
      | ⟨2, _⟩, _ => rfl
    · show n.val - A + A = n.val; omega
end Layers

end Cert.Padded

namespace Cert.KernelIdeal.Value

open Cert.KernelIdeal Cert.KernelIdeal.Gen Cert.Padded

theorem ofBits_zero : (Scalar.ofBits .f32 0x00000000#32 : Ideal .f32) = 0 := Ideal.ofBits_zero_f32

theorem word_zero : (FloatOps.ofBits .f32 0x00000000#32 : Ideal .f32) = 0 := Ideal.ofBits_zero_f32

/-! ## The body's two sums of padded arrays -/

/-- Four blocks of 1024 columns. -/
theorem side_by_side (u : Fin 4 → FVec Ideal S256x1024 .f32) (r : Fin 256) (n : Fin 4) (d : Fin 1024) (c : Fin 4096)
    (hc : c.val = n.val * 1024 + d.val) :
    addf (addf (addf
      (concatenate S256x4096 1 [⟨S256x3072, broadcast S256x3072 (Scalar.ofBits .f32 0x00000000#32 : Ideal .f32)⟩, ⟨S256x1024, u 3⟩] concatenates_S256x3072_S256x1024_S256x4096_d1)
      (concatenate S256x4096 1 [⟨S256x3072, concatenate S256x3072 1 [⟨S256x2048, broadcast S256x2048 (Scalar.ofBits .f32 0x00000000#32 : Ideal .f32)⟩, ⟨S256x1024, u 2⟩] concatenates_S256x2048_S256x1024_S256x3072_d1⟩, ⟨S256x1024, broadcast S256x1024 (Scalar.ofBits .f32 0x00000000#32 : Ideal .f32)⟩] concatenates_S256x3072_S256x1024_S256x4096_d1))
      (concatenate S256x4096 1 [⟨S256x2048, concatenate S256x2048 1 [⟨S256x1024, broadcast S256x1024 (Scalar.ofBits .f32 0x00000000#32 : Ideal .f32)⟩, ⟨S256x1024, u 1⟩] concatenates_S256x1024_S256x1024_S256x2048_d1⟩, ⟨S256x2048, broadcast S256x2048 (Scalar.ofBits .f32 0x00000000#32 : Ideal .f32)⟩] concatenates_S256x2048_S256x2048_S256x4096_d1))
      (concatenate S256x4096 1 [⟨S256x1024, u 0⟩, ⟨S256x3072, broadcast S256x3072 (Scalar.ofBits .f32 0x00000000#32 : Ideal .f32)⟩] concatenates_S256x1024_S256x3072_S256x4096_d1)
      (ix2 r c) = u n (ix2 r d) := by
  have hd := d.isLt
  have hn := n.isLt
  simp only [addf_apply, ofBits_zero]
  rw [cols_lead (A := 3072) (B := 1024) _ _ _ rfl, cols_trail (A := 3072) (B := 1024) _ _ _ rfl,
    cols_trail (A := 2048) (B := 2048) _ _ _ rfl, cols_trail (A := 1024) (B := 3072) _ _ _ rfl]
  simp only [cols_lead (R := 256) (A := 2048) (B := 1024) (T := 3072) _ _ _ rfl, cols_lead (R := 256) (A := 1024) (B := 1024) (T := 2048) _ _ _ rfl]
  have at_ : ∀ e : Fin 1024, e.val = d.val → e = d := fun e h => Fin.ext h
  obtain ⟨n, hn'⟩ := n
  interval_cases n <;> dsimp only at hc
  · rw [dif_neg (by omega), dif_pos (by omega), dif_neg (by omega), dif_pos (by omega), dif_neg (by omega), dif_pos (by omega)]
    simp only [word_zero, zero_add]; exact congrArg (fun e => u 0 (ix2 r e)) (at_ _ (by dsimp only; omega))
  · rw [dif_neg (by omega), dif_pos (by omega), dif_neg (by omega), dif_pos (by omega), dif_pos (by omega), dif_neg (by omega)]
    simp only [word_zero, zero_add, add_zero]; exact congrArg (fun e => u 1 (ix2 r e)) (at_ _ (by dsimp only; omega))
  · rw [dif_neg (by omega), dif_pos (by omega), dif_pos (by omega), dif_neg (by omega), dif_neg (by omega)]
    rw [zero_add, add_zero, add_zero]; exact congrArg (fun e => u 2 (ix2 r e)) (at_ _ (by dsimp only; omega))
  · rw [dif_pos (by omega), dif_neg (by omega), dif_neg (by omega), dif_neg (by omega)]
    rw [add_zero, add_zero, add_zero]; exact congrArg (fun e => u 3 (ix2 r e)) (at_ _ (by dsimp only; omega))

/-- Four layers. -/
theorem stacked (u : Fin 4 → FVec Ideal S512x1024 .f32) (n : Fin 4) (k : Fin 512) (d : Fin 1024) :
    addf (addf (addf
      (concatenate S4x512x1024 0 [⟨S3x512x1024, broadcast S3x512x1024 (Scalar.ofBits .f32 0x00000000#32 : Ideal .f32)⟩, ⟨S1x512x1024, shapeCast S1x512x1024 (u 3) shapeCasts_S512x1024_S1x512x1024⟩] concatenates_S3x512x1024_S1x512x1024_S4x512x1024_d0)
      (concatenate S4x512x1024 0 [⟨S3x512x1024, concatenate S3x512x1024 0 [⟨S2x512x1024, broadcast S2x512x1024 (Scalar.ofBits .f32 0x00000000#32 : Ideal .f32)⟩, ⟨S1x512x1024, shapeCast S1x512x1024 (u 2) shapeCasts_S512x1024_S1x512x1024⟩] concatenates_S2x512x1024_S1x512x1024_S3x512x1024_d0⟩, ⟨S1x512x1024, broadcast S1x512x1024 (Scalar.ofBits .f32 0x00000000#32 : Ideal .f32)⟩] concatenates_S3x512x1024_S1x512x1024_S4x512x1024_d0))
      (concatenate S4x512x1024 0 [⟨S2x512x1024, concatenate S2x512x1024 0 [⟨S1x512x1024, broadcast S1x512x1024 (Scalar.ofBits .f32 0x00000000#32 : Ideal .f32)⟩, ⟨S1x512x1024, shapeCast S1x512x1024 (u 1) shapeCasts_S512x1024_S1x512x1024⟩] concatenates_S1x512x1024_S1x512x1024_S2x512x1024_d0⟩, ⟨S2x512x1024, broadcast S2x512x1024 (Scalar.ofBits .f32 0x00000000#32 : Ideal .f32)⟩] concatenates_S2x512x1024_S2x512x1024_S4x512x1024_d0))
      (concatenate S4x512x1024 0 [⟨S1x512x1024, shapeCast S1x512x1024 (u 0) shapeCasts_S512x1024_S1x512x1024⟩, ⟨S3x512x1024, broadcast S3x512x1024 (Scalar.ofBits .f32 0x00000000#32 : Ideal .f32)⟩] concatenates_S1x512x1024_S3x512x1024_S4x512x1024_d0)
      (ix3 n k d) = u n (ix2 k d) := by
  have layer : ∀ (v : FVec Ideal S512x1024 .f32) (e : Fin 1), shapeCast S1x512x1024 v shapeCasts_S512x1024_S1x512x1024 (ix3 e k d) = v (ix2 k d) :=
    fun v e => (shapeCast_addUnit_apply ![512, 1024] v _ (ix3 e k d)).trans (congrArg v (funext fun a => match a with
      | ⟨0, _⟩ => rfl
      | ⟨1, _⟩ => rfl))
  simp only [addf_apply, ofBits_zero]
  rw [layers_lead (A := 3) (B := 1) _ _ _ rfl, layers_trail (A := 3) (B := 1) _ _ _ rfl,
    layers_trail (A := 2) (B := 2) _ _ _ rfl, layers_trail (A := 1) (B := 3) _ _ _ rfl]
  simp only [layers_lead (K := 512) (D := 1024) (A := 2) (B := 1) (T := 3) _ _ _ rfl, layers_lead (K := 512) (D := 1024) (A := 1) (B := 1) (T := 2) _ _ _ rfl, layer]
  fin_cases n <;> simp

end Cert.KernelIdeal.Value
-- ==== Proof.GateMath.lean ====
/-
  The gated merge's gradient, as plain mathematics over the extended reals.

  Row `r` of branch `n` is `br n r`; the branch's weight is `w n`; its gate input on row `r` is `x r n`; `g r`
  is the cotangent of the merged row. The merge is `Σ n, sigmoid (x r n d) · (Σ k, br n r k · w n k d)`.
  Here are its four gradients, entry by entry, for any type of rows, and the one identity of the gate's
  derivative that the kernel and the reference write differently.
-/
module

public import Idealize.ShloMosaic.PureOps.Ideal.Laws

@[expose] public section

noncomputable section

open Idealize.ShloMosaic
open scoped BigOperators

namespace Cert.Merge

/-- The logistic function as the quotient `1 / (1 + e^(-x))`. -/
def gate (x : EReal) : EReal := Ideal.div 1 (1 + Ideal.exp (-x))

variable {ι : Type}

/-- Row `r` of branch `n` times the branch's weight. -/
def proj (br : Fin 4 → ι → Fin 512 → EReal) (w : Fin 4 → Fin 512 → Fin 1024 → EReal) (n : Fin 4) (r : ι) (d : Fin 1024) : EReal :=
  ∑ k, br n r k * w n k d

/-- The cotangent of that product: the gate times the merged row's cotangent. -/
def share (x : ι → Fin 4 → Fin 1024 → EReal) (g : ι → Fin 1024 → EReal) (n : Fin 4) (r : ι) (d : Fin 1024) : EReal :=
  gate (x r n d) * g r d

/-- The gradient of branch `n`. -/
def dBranch (x : ι → Fin 4 → Fin 1024 → EReal) (w : Fin 4 → Fin 512 → Fin 1024 → EReal) (g : ι → Fin 1024 → EReal)
    (n : Fin 4) (r : ι) (k : Fin 512) : EReal :=
  ∑ d, share x g n r d * w n k d

/-- The gradient of the gate inputs. -/
def dGate (br : Fin 4 → ι → Fin 512 → EReal) (x : ι → Fin 4 → Fin 1024 → EReal) (w : Fin 4 → Fin 512 → Fin 1024 → EReal)
    (g : ι → Fin 1024 → EReal) (r : ι) (n : Fin 4) (d : Fin 1024) : EReal :=
  g r d * proj br w n r d * (gate (x r n d) * (1 - gate (x r n d)))

/-- The gradient of branch `n`'s weight: a sum over all rows. -/
def dWeight [Fintype ι] (br : Fin 4 → ι → Fin 512 → EReal) (x : ι → Fin 4 → Fin 1024 → EReal) (g : ι → Fin 1024 → EReal)
    (n : Fin 4) (k : Fin 512) (d : Fin 1024) : EReal :=
  ∑ r, br n r k * share x g n r d

/-- The gate's derivative, as differentiating the quotient gives it: `e · 1/(1+e)²` with `e = e^(-x)`. It is
    `s · (1 - s)` for every extended real, the two infinities included. -/
theorem slope (x : EReal) :
    Ideal.div 1 ((1 + Ideal.exp (-x)) * (1 + Ideal.exp (-x))) * Ideal.exp (-x) = gate x * (1 - gate x) := by
  unfold gate
  induction x using EReal.rec with
  | bot =>
    have e : Ideal.exp (-⊥) = ⊤ := rfl
    have d : Ideal.div 1 ⊤ = 0 := by unfold Ideal.div; rw [if_neg (by decide), EReal.inv_top, mul_zero]
    rw [e, EReal.add_top_of_ne_bot (by decide), EReal.top_mul_top, d, zero_mul, zero_mul]
  | top =>
    have e : Ideal.exp (-⊤) = 0 := rfl
    have d : Ideal.div 1 1 = 1 := by unfold Ideal.div; rw [if_neg one_ne_zero, inv_one, mul_one]
    have z : (1 : EReal) - 1 = 0 := by rw [← EReal.coe_one, ← EReal.coe_sub, sub_self, EReal.coe_zero]
    rw [e, add_zero, mul_one, d, mul_zero, z, mul_zero]
  | coe r =>
    have he : 0 < Real.exp (-r) := Real.exp_pos _
    have e1 : Ideal.exp (-(r : EReal)) = ((Real.exp (-r) : ℝ) : EReal) := by
      rw [← EReal.coe_neg]; rfl
    have hd : ∀ y : ℝ, 0 < y → Ideal.div 1 (y : EReal) = ((1 / y : ℝ) : EReal) := fun y hy => by
      unfold Ideal.div
      rw [if_neg (by exact_mod_cast hy.ne'), ← EReal.coe_inv, one_div, one_mul]
    rw [e1, ← EReal.coe_one, ← EReal.coe_add, ← EReal.coe_mul, EReal.coe_one, hd _ (by positivity), hd _ (by positivity),
      ← EReal.coe_one, ← EReal.coe_sub, ← EReal.coe_mul, ← EReal.coe_mul]
    congr 1
    field_simp
    ring

/-- The gate's gradient as the kernel's chain of operations leaves it. -/
theorem chain (p x : EReal) :
    0 - (0 - p * Ideal.div 1 ((1 + Ideal.exp (0 - x)) * (1 + Ideal.exp (0 - x))) * 1) * Ideal.exp (0 - x)
      = p * (gate x * (1 - gate x)) := by
  rw [← slope]
  simp only [zero_sub, mul_one, neg_mul, neg_neg, mul_assoc]

end Cert.Merge
-- ==== Proof.Tile.lean ====
/-
  What the merge's backward body computes on one tile of 256 rows, entry by entry over the extended reals:
  the gradients of `GateMath.lean` of the tile's own rows.
-/
module

public import proofs.«01_k».proof.Proof.Opened
public import proofs.«01_k».proof.Proof.Products
public import proofs.«01_k».proof.Proof.Padded
public import proofs.«01_k».proof.Proof.GateMath
public import Idealize.ShloMosaic.Lib.ValueIdx
public import Idealize.ShloMosaic.Lib.Pipeline.Value

@[expose] public section

set_option maxRecDepth 16384

noncomputable section

open Idealize.ShloMosaic Idealize.ShloMosaic.ValueIdx
open scoped BigOperators

namespace Cert.Merge

/-! ## Arrays as families of entries -/

/-- The four branches' arrays of `R` rows as one family. -/
def brs {R : ℕ} (a o p q : (⟨2, ![R, 512]⟩ : Shape).Idx → EReal) : Fin 4 → Fin R → Fin 512 → EReal :=
  ![fun r k => a (ix2 r k), fun r k => o (ix2 r k), fun r k => p (ix2 r k), fun r k => q (ix2 r k)]

/-- Column `d` of gate `n` in an array whose first 4096 columns hold the four gates side by side. -/
def gcol {C : ℕ} (h : 4096 ≤ C) (n : Fin 4) (d : Fin 1024) : Fin C :=
  ⟨n.val * 1024 + d.val, by have := n.isLt; have := d.isLt; omega⟩

/-- The gate inputs. -/
def xs {R C : ℕ} (h : 4096 ≤ C) (x : (⟨2, ![R, C]⟩ : Shape).Idx → EReal) : Fin R → Fin 4 → Fin 1024 → EReal :=
  fun r n d => x (ix2 r (gcol h n d))

/-- The branch weights. -/
def ws (w : (⟨3, ![4, 512, 1024]⟩ : Shape).Idx → EReal) : Fin 4 → Fin 512 → Fin 1024 → EReal :=
  fun n k d => w (ix3 n k d)

/-- The merged rows' cotangent. -/
def gs {R : ℕ} (g : (⟨2, ![R, 1024]⟩ : Shape).Idx → EReal) : Fin R → Fin 1024 → EReal :=
  fun r d => g (ix2 r d)

theorem one_f32 : Ideal.ofBits .f32 0x3F800000#32 = 1 := by
  simp [Ideal.ofBits, Ideal.ieee, -EReal.coe_mul]; norm_num

end Cert.Merge

namespace Cert.KernelIdeal.Value

open Cert.KernelIdeal Cert.KernelIdeal.Gen Cert.Merge Cert.Products

/-! ## The body's layout operations -/

/-- The weight of branch `n`, cut out of the stack. -/
theorem weight_read (w : S4x512x1024.Idx → EReal) (n : Fin 4) (h : S4x512x1024.Slices ![n.val, 0, 0] S1x512x1024)
    (h' : S1x512x1024.ShapeCasts S512x1024) (k : Fin 512) (d : Fin 1024) :
    shapeCast S512x1024 (extractStridedSlice S1x512x1024 ![n.val, 0, 0] w h) h' (ix2 k d) = ws w n k d := by
  rw [shapeCast_dropUnit_apply ![512, 1024] _ h' (ix2 k d)]
  refine extractStridedSlice_apply _ w h _ (ix3 n k d) fun a => ?_
  match a with
  | ⟨0, _⟩ => rfl
  | ⟨1, _⟩ => show k.val = 0 + k.val; omega
  | ⟨2, _⟩ => show d.val = 0 + d.val; omega

/-- The gate inputs of branch `n`, cut out of the row. -/
theorem gate_read (x : S256x4096.Idx → EReal) (n : Fin 4) (o : ℕ) (ho : o = n.val * 1024)
    (h : S256x4096.Slices ![0, o] S256x1024) (r : Fin 256) (d : Fin 1024) :
    extractStridedSlice S256x1024 ![0, o] x h (ix2 r d) = xs (le_refl 4096) x r n d := by
  subst ho
  refine extractStridedSlice_apply _ x h _ (ix2 r (gcol (le_refl 4096) n d)) fun a => ?_
  match a with
  | ⟨0, _⟩ => show r.val = 0 + r.val; omega
  | ⟨1, _⟩ => rfl

theorem exp_apply {s : Shape} (a : FVec Ideal s .f32) (i : s.Idx) : exp a i = Ideal.exp (a i) := rfl
theorem ofBits_one : (Scalar.ofBits .f32 0x3F800000#32 : Ideal .f32) = 1 := one_f32

section Shares
variable (x : Vec Ideal S256x4096 .f32) (g : Vec Ideal S256x1024 .bf16) (r : Fin 256) (d : Fin 1024)

theorem share0 : k0_pay36 (k0_pay7 g) (k0_pay18 x) (ix2 r d) = share (xs (le_refl 4096) x) (gs g) 0 r d := by
  unfold k0_pay36 k0_pay7 k0_pay18 k0_pay17 k0_pay16
  simp only [mulf_apply, divf_apply, addf_apply, subf_apply, extf_apply, broadcast_apply, exp_apply, ofBits_zero, ofBits_one]
  rw [gate_read x 0 0 rfl _ r d, zero_sub]; rfl

theorem share1 : k0_pay35 (k0_pay7 g) (k0_pay23 x) (ix2 r d) = share (xs (le_refl 4096) x) (gs g) 1 r d := by
  unfold k0_pay35 k0_pay7 k0_pay23 k0_pay22 k0_pay21
  simp only [mulf_apply, divf_apply, addf_apply, subf_apply, extf_apply, broadcast_apply, exp_apply, ofBits_zero, ofBits_one]
  rw [gate_read x 1 1024 rfl _ r d, zero_sub]; rfl

theorem share2 : k0_pay34 (k0_pay7 g) (k0_pay27 x) (ix2 r d) = share (xs (le_refl 4096) x) (gs g) 2 r d := by
  unfold k0_pay34 k0_pay7 k0_pay27 k0_pay26 k0_pay25
  simp only [mulf_apply, divf_apply, addf_apply, subf_apply, extf_apply, broadcast_apply, exp_apply, ofBits_zero, ofBits_one]
  rw [gate_read x 2 2048 rfl _ r d, zero_sub]; rfl

theorem share3 : k0_pay31 x (k0_pay7 g) (ix2 r d) = share (xs (le_refl 4096) x) (gs g) 3 r d := by
  unfold k0_pay31 k0_pay7 k0_pay30 k0_pay29
  simp only [mulf_apply, divf_apply, addf_apply, subf_apply, extf_apply, broadcast_apply, exp_apply, ofBits_zero, ofBits_one]
  rw [gate_read x 3 3072 rfl _ r d, zero_sub]; rfl
end Shares

/-! ## The branches' gradients -/

section Branches
variable (x : Vec Ideal S256x4096 .f32) (w : Vec Ideal S4x512x1024 .bf16) (g : Vec Ideal S256x1024 .bf16) (r : Fin 256) (k : Fin 512)

theorem branch0 : k0_pay42 (k0_pay8 w) (k0_pay36 (k0_pay7 g) (k0_pay18 x)) (ix2 r k)
    = dBranch (xs (le_refl 4096) x) (ws w) (gs g) 0 r k :=
  (rows_rows _ _ _ r k).trans (Finset.sum_congr rfl fun d _ => congrArg₂ (· * ·) (share0 x g r d) (weight_read w 0 _ _ k d))

theorem branch1 : k0_pay41 (k0_pay10 w) (k0_pay35 (k0_pay7 g) (k0_pay23 x)) (ix2 r k)
    = dBranch (xs (le_refl 4096) x) (ws w) (gs g) 1 r k :=
  (rows_rows _ _ _ r k).trans (Finset.sum_congr rfl fun d _ => congrArg₂ (· * ·) (share1 x g r d) (weight_read w 1 _ _ k d))

theorem branch2 : k0_pay40 (k0_pay12 w) (k0_pay34 (k0_pay7 g) (k0_pay27 x)) (ix2 r k)
    = dBranch (xs (le_refl 4096) x) (ws w) (gs g) 2 r k :=
  (rows_rows _ _ _ r k).trans (Finset.sum_congr rfl fun d _ => congrArg₂ (· * ·) (share2 x g r d) (weight_read w 2 _ _ k d))

theorem branch3 : k0_pay39 (k0_pay14 w) (k0_pay38 (k0_pay31 x (k0_pay7 g))) (ix2 r k)
    = dBranch (xs (le_refl 4096) x) (ws w) (gs g) 3 r k :=
  (rows_rows _ _ _ r k).trans (Finset.sum_congr rfl fun d _ => congrArg₂ (· * ·) (share3 x g r d) (weight_read w 3 _ _ k d))
end Branches

/-! ## The gate inputs' gradient and the weights' gradient -/

section Rest
variable (a o p q : Vec Ideal S256x512 .bf16) (x : Vec Ideal S256x4096 .f32) (w : Vec Ideal S4x512x1024 .bf16)
  (g : Vec Ideal S256x1024 .bf16)

theorem gateTile_apply (r : Fin 256) (n : Fin 4) (d : Fin 1024) :
    gateTile a o p q x w g (ix2 r (gcol (le_refl 4096) n d))
      = dGate (brs a o p q) (xs (le_refl 4096) x) (ws w) (gs g) r n d := by
  unfold gateTile k0_pay1 k0_pay37
  refine (side_by_side ![_, _, _, _] r n d _ rfl).trans ?_
  have piece : ∀ (n : Fin 4) (y : EReal) (P : EReal), y = xs (le_refl 4096) x r n d → P = proj (brs a o p q) (ws w) n r d →
      0 - (0 - g (ix2 r d) * P * Ideal.div 1 ((1 + Ideal.exp (0 - y)) * (1 + Ideal.exp (0 - y))) * 1) * Ideal.exp (0 - y)
        = dGate (brs a o p q) (xs (le_refl 4096) x) (ws w) (gs g) r n d := by
    rintro n _ _ rfl rfl
    exact chain _ _
  fin_cases n
  · dsimp only [Fin.zero_eta, Matrix.cons_val_zero]
    unfold k0_pay7 k0_pay20 k0_pay19 k0_pay17 k0_pay16
    simp only [mulf_apply, divf_apply, addf_apply, subf_apply, extf_apply, broadcast_apply, exp_apply, ofBits_zero, ofBits_one]
    exact piece 0 _ _ (gate_read x 0 0 rfl _ r d)
      ((rows_cols _ _ _ r d).trans (Finset.sum_congr rfl fun k _ => congrArg (a (ix2 r k) * ·) (weight_read w 0 _ _ k d)))
  · dsimp only [Fin.mk_one, Fin.reduceFinMk, Matrix.cons_val]
    unfold k0_pay7 k0_pay24 k0_pay22 k0_pay21
    simp only [mulf_apply, divf_apply, addf_apply, subf_apply, extf_apply, broadcast_apply, exp_apply, ofBits_zero, ofBits_one]
    exact piece 1 _ _ (gate_read x 1 1024 rfl _ r d)
      ((rows_cols _ _ _ r d).trans (Finset.sum_congr rfl fun k _ => congrArg (o (ix2 r k) * ·) (weight_read w 1 _ _ k d)))
  · dsimp only [Fin.mk_one, Fin.reduceFinMk, Matrix.cons_val]
    unfold k0_pay7 k0_pay28 k0_pay26 k0_pay25
    simp only [mulf_apply, divf_apply, addf_apply, subf_apply, extf_apply, broadcast_apply, exp_apply, ofBits_zero, ofBits_one]
    exact piece 2 _ _ (gate_read x 2 2048 rfl _ r d)
      ((rows_cols _ _ _ r d).trans (Finset.sum_congr rfl fun k _ => congrArg (p (ix2 r k) * ·) (weight_read w 2 _ _ k d)))
  · dsimp only [Fin.mk_one, Fin.reduceFinMk, Matrix.cons_val]
    unfold k0_pay33 k0_pay32 k0_pay7 k0_pay30 k0_pay29
    simp only [mulf_apply, divf_apply, addf_apply, subf_apply, extf_apply, broadcast_apply, exp_apply, ofBits_zero, ofBits_one]
    exact piece 3 _ _ (gate_read x 3 3072 rfl _ r d)
      ((rows_cols _ _ _ r d).trans (Finset.sum_congr rfl fun k _ => congrArg (q (ix2 r k) * ·) (weight_read w 3 _ _ k d)))

theorem weightTile_apply (n : Fin 4) (k : Fin 512) (d : Fin 1024) :
    weightTile a o p q x g (ix3 n k d) = dWeight (brs a o p q) (xs (le_refl 4096) x) (gs g) n k d := by
  unfold weightTile k0_pay43
  refine (stacked ![_, _, _, _] n k d).trans ?_
  fin_cases n
  · exact (cols_cols _ _ _ k d).trans (Finset.sum_congr rfl fun r _ => congrArg (a (ix2 r k) * ·) (share0 x g r d))
  · exact (cols_cols _ _ _ k d).trans (Finset.sum_congr rfl fun r _ => congrArg (o (ix2 r k) * ·) (share1 x g r d))
  · exact (cols_cols _ _ _ k d).trans (Finset.sum_congr rfl fun r _ => congrArg (p (ix2 r k) * ·) (share2 x g r d))
  · exact (cols_cols _ _ _ k d).trans (Finset.sum_congr rfl fun r _ => congrArg (q (ix2 r k) * ·) (share3 x g r d))
end Rest

end Cert.KernelIdeal.Value
-- ==== Proof.Arrays.lean ====
/-
  The merge's backward call over its whole arrays: the sixteen tiles of 256 rows put together. The five row
  results hold, row by row, the gradients of `GateMath.lean`; the weight gradient, which every point adds its
  tile to, ends as the sum over all 4096 rows.
-/
module

public import proofs.«01_k».proof.Proof.Tile
public import proofs.«01_k».proof.Proof.Gen.KernelIdeal.Value
public import Idealize.ShloMosaic.Lib.Pipeline.ValueKit.Geometry

@[expose] public section

set_option maxRecDepth 16384

noncomputable section

open Idealize.ShloMosaic Idealize.ShloMosaic.TcCoe Idealize.ShloMosaic.ValueIdx Idealize.SL.Sem
open Idealize.ShloMosaic.Pipeline (Dat Window)
open scoped BigOperators

namespace Cert.Merge

/-- Row `r` of tile `t`. -/
def row (t : ℕ) (ht : t < 16) (r : Fin 256) : Fin 4096 := ⟨t * 256 + r.val, by have := r.isLt; omega⟩

/-- The sum of the first `n` tiles' rows. -/
def upTo (f : Fin 4096 → EReal) (n : ℕ) : EReal :=
  ∑ t ∈ Finset.range n, if h : t < 16 then ∑ r, f (row t h r) else 0

theorem upTo_succ (f : Fin 4096 → EReal) (n : ℕ) (h : n < 16) : upTo f (n + 1) = upTo f n + ∑ r, f (row n h r) := by
  unfold upTo
  rw [Finset.sum_range_succ, dif_pos h]

/-- All sixteen tiles: the sum over all rows. -/
theorem upTo_all (f : Fin 4096 → EReal) : upTo f 16 = ∑ i, f i := by
  unfold upTo
  rw [Finset.sum_range, ← Equiv.sum_comp (finProdFinEquiv (m := 16) (n := 256)), Fintype.sum_prod_type]
  refine Finset.sum_congr rfl fun t _ => ?_
  rw [dif_pos t.isLt]
  refine Finset.sum_congr rfl fun r _ => congrArg f (Fin.ext ?_)
  show t.val * 256 + r.val = r.val + 256 * t.val
  omega

end Cert.Merge

namespace Cert.KernelIdeal.Value

open Cert.KernelIdeal Cert.KernelIdeal.Gen Cert.Merge

variable (m : (ℓ : Loc nD τ sig) → Buf (Elt Ideal) ℓ)

/-! ## The blocks of the argument arrays -/

/-- Where each window's block lies: block `t` of rows, or the whole array. -/
theorem places : ∀ t : Fin grid0.N,
    ((win0_0.index t 0 = t.val ∧ win0_0.index t 1 = 0) ∧ (win0_1.index t 0 = t.val ∧ win0_1.index t 1 = 0)
    ∧ (win0_2.index t 0 = t.val ∧ win0_2.index t 1 = 0) ∧ (win0_3.index t 0 = t.val ∧ win0_3.index t 1 = 0)
    ∧ (win0_4.index t 0 = t.val ∧ win0_4.index t 1 = 0) ∧ (win0_6.index t 0 = t.val ∧ win0_6.index t 1 = 0))
    ∧ (win0_5.index t 0 = 0 ∧ win0_5.index t 1 = 0 ∧ win0_5.index t 2 = 0)
    ∧ ((win0_7.index t 0 = t.val ∧ win0_7.index t 1 = 0) ∧ (win0_8.index t 0 = t.val ∧ win0_8.index t 1 = 0)
    ∧ (win0_9.index t 0 = t.val ∧ win0_9.index t 1 = 0) ∧ (win0_10.index t 0 = t.val ∧ win0_10.index t 1 = 0)
    ∧ (win0_11.index t 0 = t.val ∧ win0_11.index t 1 = 0))
    ∧ (win0_12.index t 0 = 0 ∧ win0_12.index t 1 = 0 ∧ win0_12.index t 2 = 0) := by decide +kernel

/-- An index with row `t * 256 + r` and column `k` is that row's. -/
theorem at_row {C : ℕ} (t : ℕ) (ht : t < 16) (i : (⟨2, ![4096, C]⟩ : Shape).Idx) (r : Fin 256) (k : Fin C)
    (h0 : (i 0).val = t * 256 + r.val) (h1 : (i 1).val = k.val) : i = ix2 (row t ht r) k := by
  funext a
  match a with
  | ⟨0, _⟩ => exact Fin.ext h0
  | ⟨1, _⟩ => exact Fin.ext h1

section Blocks
variable (c : Dev nD) (t : Fin cfg0.N)

theorem blk_a (r : Fin 256) (k : Fin 512) :
    iblk m c 0 t (ix2 r k) = m ((c : Thread nD τ).loc main_arg0) (ix2 (row t.val (lt_N t) r) k) := by
  refine congrArg (m ((c : Thread nD τ).loc main_arg0)) (at_row t.val (lt_N t) _ r k ?_ ?_)
  · exact (win0_0.rect_emb_val t (ix2 r k) 0).trans (by rw [(places t).1.1.1]; rfl)
  · exact win0_0.rect_emb_val_of_index_zero t 1 (places t).1.1.2 (ix2 r k)

theorem blk_o (r : Fin 256) (k : Fin 512) :
    iblk m c 1 t (ix2 r k) = m ((c : Thread nD τ).loc main_arg1) (ix2 (row t.val (lt_N t) r) k) := by
  refine congrArg (m ((c : Thread nD τ).loc main_arg1)) (at_row t.val (lt_N t) _ r k ?_ ?_)
  · exact (win0_1.rect_emb_val t (ix2 r k) 0).trans (by rw [(places t).1.2.1.1]; rfl)
  · exact win0_1.rect_emb_val_of_index_zero t 1 (places t).1.2.1.2 (ix2 r k)

theorem blk_c (r : Fin 256) (k : Fin 512) :
    iblk m c 2 t (ix2 r k) = m ((c : Thread nD τ).loc main_arg2) (ix2 (row t.val (lt_N t) r) k) := by
  refine congrArg (m ((c : Thread nD τ).loc main_arg2)) (at_row t.val (lt_N t) _ r k ?_ ?_)
  · exact (win0_2.rect_emb_val t (ix2 r k) 0).trans (by rw [(places t).1.2.2.1.1]; rfl)
  · exact win0_2.rect_emb_val_of_index_zero t 1 (places t).1.2.2.1.2 (ix2 r k)

theorem blk_p (r : Fin 256) (k : Fin 512) :
    iblk m c 3 t (ix2 r k) = m ((c : Thread nD τ).loc main_arg3) (ix2 (row t.val (lt_N t) r) k) := by
  refine congrArg (m ((c : Thread nD τ).loc main_arg3)) (at_row t.val (lt_N t) _ r k ?_ ?_)
  · exact (win0_3.rect_emb_val t (ix2 r k) 0).trans (by rw [(places t).1.2.2.2.1.1]; rfl)
  · exact win0_3.rect_emb_val_of_index_zero t 1 (places t).1.2.2.2.1.2 (ix2 r k)

theorem blk_g (r : Fin 256) (k : Fin 1024) :
    iblk m c 6 t (ix2 r k) = m ((c : Thread nD τ).loc main_arg6) (ix2 (row t.val (lt_N t) r) k) := by
  refine congrArg (m ((c : Thread nD τ).loc main_arg6)) (at_row t.val (lt_N t) _ r k ?_ ?_)
  · exact (win0_6.rect_emb_val t (ix2 r k) 0).trans (by rw [(places t).1.2.2.2.2.2.1]; rfl)
  · exact win0_6.rect_emb_val_of_index_zero t 1 (places t).1.2.2.2.2.2.2 (ix2 r k)

theorem blk_w (n : Fin 4) (k : Fin 512) (d : Fin 1024) :
    iblk m c 5 t (ix3 n k d) = m ((c : Thread nD τ).loc main_arg5) (ix3 n k d) := by
  refine congrArg (m ((c : Thread nD τ).loc main_arg5)) (funext fun a => Fin.ext ?_)
  match a with
  | ⟨0, _⟩ => exact win0_5.rect_emb_val_of_index_zero t 0 (places t).2.1.1 (ix3 n k d)
  | ⟨1, _⟩ => exact win0_5.rect_emb_val_of_index_zero t 1 (places t).2.1.2.1 (ix3 n k d)
  | ⟨2, _⟩ => exact win0_5.rect_emb_val_of_index_zero t 2 (places t).2.1.2.2 (ix3 n k d)

/-- The window over the gate inputs takes the first 4096 columns of the wider array. -/
theorem blk_x (r : Fin 256) (n : Fin 4) (d : Fin 1024) :
    X0_4 m c t (ix2 r (gcol (le_refl 4096) n d))
      = m ((c : Thread nD τ).loc main_arg4) (ix2 (row t.val (lt_N t) r) (gcol (by decide : 4096 ≤ 8832) n d)) := by
  unfold X0_4 Pipeline.Window.fill
  rw [dif_pos (moved0_4 t _)]
  refine congrArg (m ((c : Thread nD τ).loc main_arg4)) (at_row t.val (lt_N t) _ r _ ?_ ?_)
  · exact (win0_4.rect_emb_val t _ 0).trans (by rw [(places t).1.2.2.2.2.1.1]; rfl)
  · exact win0_4.rect_emb_val_of_index_zero t 1 (places t).1.2.2.2.2.1.2 _

end Blocks

/-! ## The arguments as families of entries, and a tile's share of them -/

section Families
variable (c : Dev nD)

abbrev argBr : Fin 4 → Fin 4096 → Fin 512 → EReal :=
  brs (m ((c : Thread nD τ).loc main_arg0)) (m ((c : Thread nD τ).loc main_arg1))
    (m ((c : Thread nD τ).loc main_arg2)) (m ((c : Thread nD τ).loc main_arg3))
abbrev argX : Fin 4096 → Fin 4 → Fin 1024 → EReal := xs (by decide : 4096 ≤ 8832) (m ((c : Thread nD τ).loc main_arg4))
abbrev argW : Fin 4 → Fin 512 → Fin 1024 → EReal := ws (m ((c : Thread nD τ).loc main_arg5))
abbrev argG : Fin 4096 → Fin 1024 → EReal := gs (m ((c : Thread nD τ).loc main_arg6))

variable (t : Fin cfg0.N)

theorem tile_br : brs (iblk m c 0 t) (iblk m c 1 t) (iblk m c 2 t) (iblk m c 3 t)
    = fun n r => argBr m c n (row t.val (lt_N t) r) := by
  funext n r k
  fin_cases n
  · exact blk_a m c t r k
  · exact blk_o m c t r k
  · exact blk_c m c t r k
  · exact blk_p m c t r k

theorem tile_x : xs (le_refl 4096) (X0_4 m c t) = fun r => argX m c (row t.val (lt_N t) r) := by
  funext r n d
  exact blk_x m c t r n d

theorem tile_w : ws (iblk m c 5 t) = argW m c := by
  funext n k d
  exact blk_w m c t n k d

theorem tile_g : gs (iblk m c 6 t) = fun r => argG m c (row t.val (lt_N t) r) := by
  funext r d
  exact blk_g m c t r d

end Families

/-! ## The five row results -/

/-- What the body leaves in the row windows does not depend on what it carries. -/
theorem outs_rows (c : Dev nD) (t : Fin cfg0.N) : ∃ acc, outsAt0 m c t.val t.isLt = leaves m c t acc := by
  by_cases h : t.val = 0
  · exact ⟨_, outs_first m c t h⟩
  · exact ⟨_, outs_later m c t h⟩

theorem final_a (c : Dev nD) : (dats m 0 c).arrAt 7 cfg0.N
    = fun i : S4096x512.Idx => dBranch (argX m c) (argW m c) (argG m c) 0 (i 0) (i 1) := by
  refine (dats m 0 c).arrAt_eq_of_covers 7 _ (by decide +kernel) fun t hf y => ?_
  obtain ⟨acc, e⟩ := outs_rows m c t
  obtain ⟨r, k, rfl⟩ : ∃ (r : Fin 256) (k : Fin 512), y = ix2 r k := ⟨_, _, eq_ix2 (n0 := 256) (n1 := 512) y⟩
  have hi : ((cfg0.win 7).blk t).view.emb (ix2 r k) = ix2 (row t.val (lt_N t) r) k :=
    at_row t.val (lt_N t) _ r k
      ((win0_7.rect_emb_val t (ix2 r k) 0).trans (by rw [(places t).2.2.1.1.1]; rfl))
      (win0_7.rect_emb_val_of_index_zero t 1 (places t).2.2.1.1.2 (ix2 r k))
  have hv : (dats m 0 c).after 7 t = (leaves m c t acc).1 := by rw [after0_7, e]
  rw [hi]
  refine (congrFun hv (ix2 r k)).trans ((branch0 (X0_4 m c t) (iblk m c 5 t) (iblk m c 6 t) r k).trans ?_)
  rw [tile_x, tile_w, tile_g]
  rfl

theorem final_o (c : Dev nD) : (dats m 0 c).arrAt 8 cfg0.N
    = fun i : S4096x512.Idx => dBranch (argX m c) (argW m c) (argG m c) 1 (i 0) (i 1) := by
  refine (dats m 0 c).arrAt_eq_of_covers 8 _ (by decide +kernel) fun t hf y => ?_
  obtain ⟨acc, e⟩ := outs_rows m c t
  obtain ⟨r, k, rfl⟩ : ∃ (r : Fin 256) (k : Fin 512), y = ix2 r k := ⟨_, _, eq_ix2 (n0 := 256) (n1 := 512) y⟩
  have hi : ((cfg0.win 8).blk t).view.emb (ix2 r k) = ix2 (row t.val (lt_N t) r) k :=
    at_row t.val (lt_N t) _ r k
      ((win0_8.rect_emb_val t (ix2 r k) 0).trans (by rw [(places t).2.2.1.2.1.1]; rfl))
      (win0_8.rect_emb_val_of_index_zero t 1 (places t).2.2.1.2.1.2 (ix2 r k))
  have hv : (dats m 0 c).after 8 t = (leaves m c t acc).2.1 := by rw [after0_8, e]
  rw [hi]
  refine (congrFun hv (ix2 r k)).trans ((branch1 (X0_4 m c t) (iblk m c 5 t) (iblk m c 6 t) r k).trans ?_)
  rw [tile_x, tile_w, tile_g]
  rfl

theorem final_c (c : Dev nD) : (dats m 0 c).arrAt 9 cfg0.N
    = fun i : S4096x512.Idx => dBranch (argX m c) (argW m c) (argG m c) 2 (i 0) (i 1) := by
  refine (dats m 0 c).arrAt_eq_of_covers 9 _ (by decide +kernel) fun t hf y => ?_
  obtain ⟨acc, e⟩ := outs_rows m c t
  obtain ⟨r, k, rfl⟩ : ∃ (r : Fin 256) (k : Fin 512), y = ix2 r k := ⟨_, _, eq_ix2 (n0 := 256) (n1 := 512) y⟩
  have hi : ((cfg0.win 9).blk t).view.emb (ix2 r k) = ix2 (row t.val (lt_N t) r) k :=
    at_row t.val (lt_N t) _ r k
      ((win0_9.rect_emb_val t (ix2 r k) 0).trans (by rw [(places t).2.2.1.2.2.1.1]; rfl))
      (win0_9.rect_emb_val_of_index_zero t 1 (places t).2.2.1.2.2.1.2 (ix2 r k))
  have hv : (dats m 0 c).after 9 t = (leaves m c t acc).2.2.1 := by rw [after0_9, e]
  rw [hi]
  refine (congrFun hv (ix2 r k)).trans ((branch2 (X0_4 m c t) (iblk m c 5 t) (iblk m c 6 t) r k).trans ?_)
  rw [tile_x, tile_w, tile_g]
  rfl

theorem final_p (c : Dev nD) : (dats m 0 c).arrAt 10 cfg0.N
    = fun i : S4096x512.Idx => dBranch (argX m c) (argW m c) (argG m c) 3 (i 0) (i 1) := by
  refine (dats m 0 c).arrAt_eq_of_covers 10 _ (by decide +kernel) fun t hf y => ?_
  obtain ⟨acc, e⟩ := outs_rows m c t
  obtain ⟨r, k, rfl⟩ : ∃ (r : Fin 256) (k : Fin 512), y = ix2 r k := ⟨_, _, eq_ix2 (n0 := 256) (n1 := 512) y⟩
  have hi : ((cfg0.win 10).blk t).view.emb (ix2 r k) = ix2 (row t.val (lt_N t) r) k :=
    at_row t.val (lt_N t) _ r k
      ((win0_10.rect_emb_val t (ix2 r k) 0).trans (by rw [(places t).2.2.1.2.2.2.1.1]; rfl))
      (win0_10.rect_emb_val_of_index_zero t 1 (places t).2.2.1.2.2.2.1.2 (ix2 r k))
  have hv : (dats m 0 c).after 10 t = (leaves m c t acc).2.2.2.1 := by rw [after0_10, e]
  rw [hi]
  refine (congrFun hv (ix2 r k)).trans ((branch3 (X0_4 m c t) (iblk m c 5 t) (iblk m c 6 t) r k).trans ?_)
  rw [tile_x, tile_w, tile_g]
  rfl

/-- The branch and the position a column of the gate inputs' gradient belongs to. -/
theorem exists_gcol (j : Fin 4096) : ∃ (n : Fin 4) (d : Fin 1024), j = gcol (le_refl 4096) n d :=
  ⟨⟨j.val / 1024, by have := j.isLt; omega⟩, ⟨j.val % 1024, Nat.mod_lt _ (by decide)⟩,
    Fin.ext (by show j.val = j.val / 1024 * 1024 + j.val % 1024; omega)⟩

/-- The gate inputs' gradient, its columns split into branch and position. -/
theorem final_gate (c : Dev nD) (G : S4096x4096.Idx → EReal)
    (hG : ∀ s n d, G (ix2 s (gcol (le_refl 4096) n d)) = dGate (argBr m c) (argX m c) (argW m c) (argG m c) s n d) :
    (dats m 0 c).arrAt 11 cfg0.N = G := by
  refine (dats m 0 c).arrAt_eq_of_covers 11 _ (by decide +kernel) fun t hf y => ?_
  obtain ⟨acc, e⟩ := outs_rows m c t
  obtain ⟨r, j, rfl⟩ : ∃ (r : Fin 256) (j : Fin 4096), y = ix2 r j := ⟨_, _, eq_ix2 (n0 := 256) (n1 := 4096) y⟩
  obtain ⟨n, d, rfl⟩ := exists_gcol j
  have hi : ((cfg0.win 11).blk t).view.emb (ix2 r (gcol (le_refl 4096) n d)) = ix2 (row t.val (lt_N t) r) (gcol (le_refl 4096) n d) :=
    at_row t.val (lt_N t) _ r _
      ((win0_11.rect_emb_val t (ix2 r (gcol (le_refl 4096) n d)) 0).trans (by rw [(places t).2.2.1.2.2.2.2.1]; rfl))
      (win0_11.rect_emb_val_of_index_zero t 1 (places t).2.2.1.2.2.2.2.2 (ix2 r (gcol (le_refl 4096) n d)))
  have hv : (dats m 0 c).after 11 t = (leaves m c t acc).2.2.2.2.1 := by rw [after0_11, e]
  rw [hi, hG]
  refine (congrFun hv (ix2 r (gcol (le_refl 4096) n d))).trans ((gateTile_apply _ _ _ _ (X0_4 m c t) (iblk m c 5 t) (iblk m c 6 t) r n d).trans ?_)
  rw [tile_br, tile_x, tile_w, tile_g]
  rfl

/-! ## The weight gradient, summed over the tiles -/

/-- One row's product in the weight gradient. -/
def rowTerm (c : Dev nD) (n : Fin 4) (k : Fin 512) (d : Fin 1024) (s : Fin 4096) : EReal :=
  argBr m c n s k * share (argX m c) (argG m c) n s d

theorem tile_weight (c : Dev nD) (t : Fin cfg0.N) (n : Fin 4) (k : Fin 512) (d : Fin 1024) :
    tileAt m c t (ix3 n k d) = ∑ r, rowTerm m c n k d (row t.val (lt_N t) r) := by
  refine (weightTile_apply _ _ _ _ (X0_4 m c t) (iblk m c 6 t) n k d).trans ?_
  rw [tile_br, tile_x, tile_g]
  rfl

/-- After point `t` the weight gradient's buffer holds the sum over the rows of the tiles so far. -/
theorem carried (c : Dev nD) (n : Fin 4) (k : Fin 512) (d : Fin 1024) : ∀ (t : ℕ) (ht : t < cfg0.N),
    (outsAt0 m c t ht).2.2.2.2.2 (ix3 n k d) = upTo (rowTerm m c n k d) (t + 1)
  | 0, ht => by
    rw [upTo_succ _ 0 (by decide)]
    have e := outs_first m c ⟨0, ht⟩ rfl
    refine (congrFun (congrArg (fun q => q.2.2.2.2.2) e) (ix3 n k d)).trans ((tile_weight m c ⟨0, ht⟩ n k d).trans ?_)
    exact (zero_add _).symm
  | t + 1, ht => by
    rw [upTo_succ _ (t + 1) (lt_N ⟨t + 1, ht⟩)]
    have e := outs_later m c ⟨t + 1, ht⟩ (Nat.succ_ne_zero t)
    refine (congrFun (congrArg (fun q => q.2.2.2.2.2) e) (ix3 n k d)).trans ?_
    show k0_pay2 (tileAt m c ⟨t + 1, ht⟩) (outsAt0 m c t _).2.2.2.2.2 (ix3 n k d) = _
    unfold k0_pay2
    rw [shapeCast_self, addf_apply]
    exact congrArg₂ (· + ·) (carried c n k d t _) (tile_weight m c ⟨t + 1, ht⟩ n k d)

theorem final_w (c : Dev nD) : (dats m 0 c).arrAt 12 cfg0.N
    = fun i : S4x512x1024.Idx => dWeight (argBr m c) (argX m c) (argG m c) (i 0) (i 1) (i 2) := by
  refine (dats m 0 c).arrAt_eq_of_covers 12 _ (by decide +kernel) fun t hf y => ?_
  have h15 : t.val = 15 := by
    have := (flush0_12 t).mp hf
    have := lt_N t
    omega
  obtain ⟨n, k, d, rfl⟩ : ∃ (n : Fin 4) (k : Fin 512) (d : Fin 1024), y = ix3 n k d :=
    ⟨_, _, _, eq_ix3 (n0 := 4) (n1 := 512) (n2 := 1024) y⟩
  have hi : ((cfg0.win 12).blk t).view.emb (ix3 n k d) = ix3 n k d := funext fun a => Fin.ext (by
    match a with
    | ⟨0, _⟩ => exact win0_12.rect_emb_val_of_index_zero t 0 (places t).2.2.2.1 (ix3 n k d)
    | ⟨1, _⟩ => exact win0_12.rect_emb_val_of_index_zero t 1 (places t).2.2.2.2.1 (ix3 n k d)
    | ⟨2, _⟩ => exact win0_12.rect_emb_val_of_index_zero t 2 (places t).2.2.2.2.2 (ix3 n k d))
  have hv : (dats m 0 c).after 12 t = (outsAt0 m c t.val t.isLt).2.2.2.2.2 := by rw [after0_12]
  rw [hi]
  refine (congrFun hv (ix3 n k d)).trans ((carried m c n k d t.val t.isLt).trans ?_)
  rw [h15, upTo_all]
  rfl

end Cert.KernelIdeal.Value
-- ==== Proof.Plain.lean ====
/-
  The plain program of the merge, differentiated: its six results read entry by entry over the extended reals are
  the gradients of `GateMath.lean`.
-/
module

public import proofs.«01_k».proof.Proof.Tile
public import proofs.«01_k».proof.Proof.Gen.ReferenceIdeal.Read

@[expose] public section

set_option maxRecDepth 16384

noncomputable section

open Idealize.ShloMosaic Idealize.ShloMosaic.ValueIdx
open scoped BigOperators

namespace Cert.ReferenceIdeal.Read

open Cert.ReferenceIdeal Cert.Merge

variable (x0 x1 x2 x3 : FVec Ideal S4096x512 .bf16) (x4 : FVec Ideal S4096x8832 .f32) (x5 : FVec Ideal S4x512x1024 .bf16)
  (x6 : FVec Ideal S4096x1024 .bf16)

abbrev X : Fin 4096 → Fin 4 → Fin 1024 → EReal := xs (by decide : 4096 ≤ 8832) x4

/-- The stack of the four branches. -/
theorem stack_at (s : Fin 4096) (n : Fin 4) (k : Fin 512) :
    val_main_v20 (F := Ideal) x0 x1 x2 x3 (ix3 s n k) = brs x0 x1 x2 x3 n s k := by
  have side : ∀ b : Fin 3, b ≠ 1 → ((ix3 s (0 : Fin 1) k : S4096x1x512.Idx) b).val = ((ix3 s n k : S4096x4x512.Idx) b).val := by
    intro b hb
    match b with
    | ⟨0, _⟩ => rfl
    | ⟨1, _⟩ => exact absurd rfl hb
    | ⟨2, _⟩ => rfl
  have piece : ∀ (n' : ℕ) (y : FVec Ideal S4096x1x512 .f32) (hn : n' = n.val) (hl : n' < 4)
      (hy : [⟨S4096x1x512, val_main_v16 (F := Ideal) x0⟩, ⟨S4096x1x512, val_main_v17 (F := Ideal) x1⟩,
        ⟨S4096x1x512, val_main_v18 (F := Ideal) x2⟩, (⟨S4096x1x512, val_main_v19 (F := Ideal) x3⟩ : (s : Shape) × (s.Idx → EReal))][n']'hl
          = ⟨S4096x1x512, y⟩),
      val_main_v20 (F := Ideal) x0 x1 x2 x3 (ix3 s n k) = y (ix3 s 0 k) := by
    intro n' y hn hl hy
    unfold val_main_v20
    refine concatenate_apply_piece (t := S4096x4x512) 1 [⟨S4096x1x512, val_main_v16 (F := Ideal) x0⟩, ⟨S4096x1x512, val_main_v17 (F := Ideal) x1⟩,
      ⟨S4096x1x512, val_main_v18 (F := Ideal) x2⟩, ⟨S4096x1x512, val_main_v19 (F := Ideal) x3⟩] _ (ix3 s n k) n' hl S4096x1x512 y hy rfl n' ?_ (ix3 s 0 k) side ?_
    · interval_cases n' <;> rfl
    · exact hn
  fin_cases n
  · exact (piece 0 _ rfl (by decide) rfl).trans ((val_main_v16_apply (F := Ideal) x0 (ix3 s 0 k)).trans (congrArg x0 (eq_ix2 (idx_main_v16 (ix3 s 0 k)))))
  · exact (piece 1 _ rfl (by decide) rfl).trans ((val_main_v17_apply (F := Ideal) x1 (ix3 s 0 k)).trans (congrArg x1 (eq_ix2 (idx_main_v17 (ix3 s 0 k)))))
  · exact (piece 2 _ rfl (by decide) rfl).trans ((val_main_v18_apply (F := Ideal) x2 (ix3 s 0 k)).trans (congrArg x2 (eq_ix2 (idx_main_v18 (ix3 s 0 k)))))
  · exact (piece 3 _ rfl (by decide) rfl).trans ((val_main_v19_apply (F := Ideal) x3 (ix3 s 0 k)).trans (congrArg x3 (eq_ix2 (idx_main_v19 (ix3 s 0 k)))))

/-- The gate, in the gate inputs' layout. -/
theorem gate_at (s : Fin 4096) (n : Fin 4) (d : Fin 1024) :
    val_main_v11 (F := Ideal) x4 (ix2 s (gcol (le_refl 4096) n d)) = gate (X x4 s n d) := by
  have e : idx_main_v0 (ix2 s (gcol (le_refl 4096) n d)) = ix2 s (gcol (by decide : 4096 ≤ 8832) n d) := eq_ix2 _
  simp only [val_main_v11_apply, val_main_v10_apply, val_main_v9_apply, val_main_v8_apply, val_main_v7_apply, val_main_v6_apply,
    val_main_v0_apply, val_main_cst_apply, val_main_cst_0_apply, e]
  show Ideal.div (Ideal.ofBits .f32 0x3F800000#32) (Ideal.ofBits .f32 0x3F800000#32 + Ideal.exp (-x4 _)) = _
  rw [one_f32]
  rfl

/-- The gate, with the branch an axis of its own. -/
theorem gate_split (s : Fin 4096) (n : Fin 4) (d : Fin 1024) :
    val_main_v15 (F := Ideal) x4 (ix3 s n d) = gate (X x4 s n d) := by
  have e : idx_main_v15 (ix3 s n d) = ix2 s (gcol (le_refl 4096) n d) := by
    have hs := s.isLt; have hn := n.isLt; have hd := d.isLt
    funext a
    match a with
    | ⟨0, _⟩ => exact Fin.ext (by show ((s.val * 4 + n.val) * 1024 + d.val) / 4096 = s.val; omega)
    | ⟨1, _⟩ => exact Fin.ext (by show ((s.val * 4 + n.val) * 1024 + d.val) % 4096 = n.val * 1024 + d.val; omega)
  rw [val_main_v15_apply, e, gate_at]

/-- A row's cotangent, repeated for each branch. -/
theorem cot_at (s : Fin 4096) (n : Fin 4) (d : Fin 1024) : val_main_v26 (F := Ideal) x6 (ix3 s n d) = gs x6 s d := by
  rw [val_main_v26_apply]
  exact congrArg x6 (eq_ix2 _)

/-- A branch's product with its weight. -/
theorem proj_at (s : Fin 4096) (n : Fin 4) (d : Fin 1024) :
    val_main_v22 (F := Ideal) x0 x1 x2 x3 x5 (ix3 s n d) = proj (brs x0 x1 x2 x3) (ws x5) n s d := by
  rw [val_main_v22_apply, val_main_v21_apply]
  refine Finset.sum_congr rfl fun k _ => ?_
  have el : lidx_main_v21 (idx_main_v22 (ix3 s n d)) k = ix3 n k d := eq_ix3 _
  have er : ridx_main_v21 (idx_main_v22 (ix3 s n d)) k = ix3 s n k := eq_ix3 _
  rw [el, er, stack_at]
  exact mul_comm (ws x5 n k d) _

/-- The cotangent that reaches a branch's product. -/
theorem share_at (n : Fin 4) (d : Fin 1024) (s : Fin 4096) :
    val_main_v29 (F := Ideal) x4 x6 (ix3 n d s) = share (X x4) (gs x6) n s d := by
  have e : idx_main_v29 (ix3 n d s) = ix3 s n d := eq_ix3 _
  rw [val_main_v29_apply, e, val_main_v27_apply, gate_split, cot_at]
  rfl

/-- All branches' gradients. -/
theorem branches_at (s : Fin 4096) (n : Fin 4) (k : Fin 512) :
    val_main_v31 (F := Ideal) x4 x5 x6 (ix3 s n k) = dBranch (X x4) (ws x5) (gs x6) n s k := by
  rw [val_main_v31_apply, val_main_v30_apply]
  refine Finset.sum_congr rfl fun d _ => ?_
  have el : lidx_main_v30 (idx_main_v31 (ix3 s n k)) d = ix3 n d s := eq_ix3 _
  have er : ridx_main_v30 (idx_main_v31 (ix3 s n k)) d = ix3 n k d := eq_ix3 _
  rw [el, er, share_at]
  rfl

/-- Splitting a row-major position of a 4096 × 512 array. -/
theorem unflat (s : Fin 4096) (n : Fin 4) (k : Fin 512) (i : S4096x4x512.Idx) (h0 : (i 0).val = (s.val * 512 + k.val) / 512)
    (h1 : (i 1).val = n.val) (h2 : (i 2).val = (s.val * 512 + k.val) % 512) : i = ix3 s n k := by
  have hs := s.isLt; have hk := k.isLt
  funext a
  match a with
  | ⟨0, _⟩ => exact Fin.ext (h0.trans (by show (s.val * 512 + k.val) / 512 = s.val; omega))
  | ⟨1, _⟩ => exact Fin.ext h1
  | ⟨2, _⟩ => exact Fin.ext (h2.trans (by show (s.val * 512 + k.val) % 512 = k.val; omega))

theorem at_a (s : Fin 4096) (k : Fin 512) :
    val_main_v35 (F := Ideal) x4 x5 x6 (ix2 s k) = dBranch (X x4) (ws x5) (gs x6) 0 s k := by
  have e : idx_main_v34 (idx_main_v35 (ix2 s k)) = ix3 s 0 k := unflat s 0 k _ rfl rfl rfl
  rw [val_main_v35_apply, val_main_v34_apply, e, branches_at]

theorem at_o (s : Fin 4096) (k : Fin 512) :
    val_main_v37 (F := Ideal) x4 x5 x6 (ix2 s k) = dBranch (X x4) (ws x5) (gs x6) 1 s k := by
  have e : idx_main_v36 (idx_main_v37 (ix2 s k)) = ix3 s 1 k := unflat s 1 k _ rfl rfl rfl
  rw [val_main_v37_apply, val_main_v36_apply, e, branches_at]

theorem at_c (s : Fin 4096) (k : Fin 512) :
    val_main_v39 (F := Ideal) x4 x5 x6 (ix2 s k) = dBranch (X x4) (ws x5) (gs x6) 2 s k := by
  have e : idx_main_v38 (idx_main_v39 (ix2 s k)) = ix3 s 2 k := unflat s 2 k _ rfl rfl rfl
  rw [val_main_v39_apply, val_main_v38_apply, e, branches_at]

theorem at_p (s : Fin 4096) (k : Fin 512) :
    val_main_v41 (F := Ideal) x4 x5 x6 (ix2 s k) = dBranch (X x4) (ws x5) (gs x6) 3 s k := by
  have e : idx_main_v40 (idx_main_v41 (ix2 s k)) = ix3 s 3 k := unflat s 3 k _ rfl rfl rfl
  rw [val_main_v41_apply, val_main_v40_apply, e, branches_at]

theorem result_a : val_main_v35 (F := Ideal) x4 x5 x6 = fun i => dBranch (X x4) (ws x5) (gs x6) 0 (i 0) (i 1) :=
  funext fun i => (congrArg _ (eq_ix2 i)).trans (at_a x4 x5 x6 (i 0) (i 1))

theorem result_o : val_main_v37 (F := Ideal) x4 x5 x6 = fun i => dBranch (X x4) (ws x5) (gs x6) 1 (i 0) (i 1) :=
  funext fun i => (congrArg _ (eq_ix2 i)).trans (at_o x4 x5 x6 (i 0) (i 1))

theorem result_c : val_main_v39 (F := Ideal) x4 x5 x6 = fun i => dBranch (X x4) (ws x5) (gs x6) 2 (i 0) (i 1) :=
  funext fun i => (congrArg _ (eq_ix2 i)).trans (at_c x4 x5 x6 (i 0) (i 1))

theorem result_p : val_main_v41 (F := Ideal) x4 x5 x6 = fun i => dBranch (X x4) (ws x5) (gs x6) 3 (i 0) (i 1) :=
  funext fun i => (congrArg _ (eq_ix2 i)).trans (at_p x4 x5 x6 (i 0) (i 1))

/-- The gate inputs' gradient. -/
theorem result_gate (s : Fin 4096) (n : Fin 4) (d : Fin 1024) :
    val_main_v44 (F := Ideal) x0 x1 x2 x3 x4 x5 x6 (ix2 s (gcol (le_refl 4096) n d))
      = dGate (brs x0 x1 x2 x3) (X x4) (ws x5) (gs x6) s n d := by
  have e : idx_main_v42 (ix2 s (gcol (le_refl 4096) n d)) = ix3 s n d := by
    have hs := s.isLt; have hn := n.isLt; have hd := d.isLt
    funext a
    match a with
    | ⟨0, _⟩ => exact Fin.ext (by show (s.val * 4096 + (n.val * 1024 + d.val)) / 4096 = s.val; omega)
    | ⟨1, _⟩ => exact Fin.ext (by show (s.val * 4096 + (n.val * 1024 + d.val)) / 1024 % 4 = n.val; omega)
    | ⟨2, _⟩ => exact Fin.ext (by show (s.val * 4096 + (n.val * 1024 + d.val)) % 1024 = d.val; omega)
  rw [val_main_v44_apply, val_main_v43_apply, val_main_v42_apply, e, val_main_v28_apply, cot_at, proj_at, val_main_v14_apply,
    val_main_v13_apply, val_main_v12_apply, val_main_cst_1_apply, gate_at]
  show gs x6 s d * _ * (gate _ * (Ideal.ofBits .f32 0x3F800000#32 - gate _)) = _
  rw [one_f32]
  rfl

/-- The weights' gradient. -/
theorem result_w : val_main_v33 (F := Ideal) x0 x1 x2 x3 x4 x6
    = fun i => dWeight (brs x0 x1 x2 x3) (X x4) (gs x6) (i 0) (i 1) (i 2) := by
  funext i
  obtain ⟨n, k, d, rfl⟩ : ∃ (n : Fin 4) (k : Fin 512) (d : Fin 1024), i = ix3 n k d :=
    ⟨_, _, _, eq_ix3 (n0 := 4) (n1 := 512) (n2 := 1024) i⟩
  rw [val_main_v33_apply, val_main_v32_apply]
  refine Finset.sum_congr rfl fun s _ => ?_
  have el : lidx_main_v32 (idx_main_v33 (ix3 n k d)) s = ix3 n d s := eq_ix3 _
  have er : ridx_main_v32 (idx_main_v33 (ix3 n k d)) s = ix3 s n k := eq_ix3 _
  rw [el, er, share_at, stack_at]
  exact mul_comm (share (X x4) (gs x6) n s d) _

end Cert.ReferenceIdeal.Read
-- ==== Proof.Dense.lean ====
/-
  Whole matrix products over the extended reals, in the three forms the dense layers use, and how a tile of one
  is the product of the tiles of its operands.
-/
module

public import proofs.«01_k».proof.Proof.Products
public import Idealize.ShloMosaic.Lib.ValueIdx
public import Idealize.ShloMosaic.Lib.Pipeline.Value

@[expose] public section

noncomputable section

open Idealize.ShloMosaic Idealize.ShloMosaic.ValueIdx
open scoped BigOperators

namespace Cert.Dense

/-- An `M` by `N` array of extended reals. -/
abbrev Mat (M N : ℕ) := (⟨2, ![M, N]⟩ : Shape).Idx → EReal

variable {M N K M' N' K' : ℕ}

/-- Rows by columns. -/
def nn (A : Mat M K) (B : Mat K N) : Mat M N := fun e => ∑ k : Fin K, A (ix2 (e 0) k) * B (ix2 k (e 1))

/-- Rows by rows. -/
def nt (A : Mat M K) (B : Mat N K) : Mat M N := fun e => ∑ k : Fin K, A (ix2 (e 0) k) * B (ix2 (e 1) k)

/-- Columns by columns. -/
def tn (A : Mat K M) (B : Mat K N) : Mat M N := fun e => ∑ k : Fin K, A (ix2 k (e 0)) * B (ix2 k (e 1))

/-- One array with another added. -/
def plus (A B : Mat M N) : Mat M N := fun e => A e + B e

/-! ## A kernel's product onto zero -/

section Kernel
variable {φ₁ φ₂ : FTy}

theorem matmul_nn (wf : DotDims.WF ⟨2, ![M, K]⟩ ⟨2, ![K, N]⟩ ⟨2, ![M, N]⟩ [1] [0] [0] [1] [] [])
    (A : FVec Ideal ⟨2, ![M, K]⟩ φ₁) (B : FVec Ideal ⟨2, ![K, N]⟩ φ₂) :
    FloatOps.matmul (φ₁ := φ₁) (φ₂ := φ₂) (⟨[1], [0], [0], [1], [], [], wf⟩ : DotDims ⟨2, ![M, K]⟩ ⟨2, ![K, N]⟩ ⟨2, ![M, N]⟩) none A B
      (constant ⟨2, ![M, N]⟩ .f32 0x00000000#32) = nn A B :=
  funext fun y => (congrArg _ (eq_ix2 y)).trans (Products.rows_cols wf A B (y 0) (y 1))

theorem matmul_nt (wf : DotDims.WF ⟨2, ![M, K]⟩ ⟨2, ![N, K]⟩ ⟨2, ![M, N]⟩ [1] [1] [0] [0] [] [])
    (A : FVec Ideal ⟨2, ![M, K]⟩ φ₁) (B : FVec Ideal ⟨2, ![N, K]⟩ φ₂) :
    FloatOps.matmul (φ₁ := φ₁) (φ₂ := φ₂) (⟨[1], [1], [0], [0], [], [], wf⟩ : DotDims ⟨2, ![M, K]⟩ ⟨2, ![N, K]⟩ ⟨2, ![M, N]⟩) none A B
      (constant ⟨2, ![M, N]⟩ .f32 0x00000000#32) = nt A B :=
  funext fun y => (congrArg _ (eq_ix2 y)).trans (Products.rows_rows wf A B (y 0) (y 1))

theorem matmul_tn (wf : DotDims.WF ⟨2, ![K, M]⟩ ⟨2, ![K, N]⟩ ⟨2, ![M, N]⟩ [0] [0] [1] [1] [] [])
    (A : FVec Ideal ⟨2, ![K, M]⟩ φ₁) (B : FVec Ideal ⟨2, ![K, N]⟩ φ₂) :
    FloatOps.matmul (φ₁ := φ₁) (φ₂ := φ₂) (⟨[0], [0], [1], [1], [], [], wf⟩ : DotDims ⟨2, ![K, M]⟩ ⟨2, ![K, N]⟩ ⟨2, ![M, N]⟩) none A B
      (constant ⟨2, ![M, N]⟩ .f32 0x00000000#32) = tn A B :=
  funext fun y => (congrArg _ (eq_ix2 y)).trans (Products.cols_cols wf A B (y 0) (y 1))

end Kernel

/-! ## The host's product, and its transpose -/

section Host
variable {φ₁ φ₂ : FTy}

/-- The host's product is the kernel's onto zero. -/
theorem dot_eq_matmul {sl sr so : Shape} (d : DotDims sl sr so) (A : FVec Ideal sl φ₁) (B : FVec Ideal sr φ₂) :
    (Host.dotGeneral d none A B : FVec Ideal so .f32) = FloatOps.matmul d none A B (constant so .f32 0x00000000#32) := by
  funext j
  simp only [Host.dotGeneral]
  rw [Ideal.dotGeneral_apply, Ideal.matmul_constant_zero_apply]

/-- The transpose of `Σ k, A[k, ·] · B[k, ·]` has its operands exchanged. -/
theorem transpose_tn (A : Mat K M) (B : Mat K N) (h : (⟨2, ![M, N]⟩ : Shape).Transposes [1, 0] ⟨2, ![N, M]⟩) :
    transpose ⟨2, ![N, M]⟩ [1, 0] (tn A B) h = tn B A := by
  funext e
  refine (transpose_apply [1, 0] (tn A B) h e (ix2 (e 1) (e 0)) fun b => ?_).trans
    (Finset.sum_congr rfl fun k _ => mul_comm _ _)
  match b with
  | ⟨0, _⟩ => rfl
  | ⟨1, _⟩ => rfl

end Host

/-! ## Tiles -/

/-- Tiles `a` and `b` of `A` and `B` whose rows and columns lie where the tile's entry `y` lies in the whole at `e`. -/
theorem nn_tile {a : Mat M' K} {b : Mat K N'} {A : Mat M K} {B : Mat K N} {y : (⟨2, ![M', N']⟩ : Shape).Idx}
    {e : (⟨2, ![M, N]⟩ : Shape).Idx} (ha : ∀ k, a (ix2 (y 0) k) = A (ix2 (e 0) k)) (hb : ∀ k, b (ix2 k (y 1)) = B (ix2 k (e 1))) :
    nn a b y = nn A B e :=
  Finset.sum_congr rfl fun k _ => congrArg₂ (· * ·) (ha k) (hb k)

theorem nt_tile {a : Mat M' K} {b : Mat N' K} {A : Mat M K} {B : Mat N K} {y : (⟨2, ![M', N']⟩ : Shape).Idx}
    {e : (⟨2, ![M, N]⟩ : Shape).Idx} (ha : ∀ k, a (ix2 (y 0) k) = A (ix2 (e 0) k)) (hb : ∀ k, b (ix2 (y 1) k) = B (ix2 (e 1) k)) :
    nt a b y = nt A B e :=
  Finset.sum_congr rfl fun k _ => congrArg₂ (· * ·) (ha k) (hb k)

theorem tn_tile {a : Mat K M'} {b : Mat K N'} {A : Mat K M} {B : Mat K N} {y : (⟨2, ![M', N']⟩ : Shape).Idx}
    {e : (⟨2, ![M, N]⟩ : Shape).Idx} (ha : ∀ k, a (ix2 k (y 0)) = A (ix2 k (e 0))) (hb : ∀ k, b (ix2 k (y 1)) = B (ix2 k (e 1))) :
    tn a b y = tn A B e :=
  Finset.sum_congr rfl fun k _ => congrArg₂ (· * ·) (ha k) (hb k)

/-! ## Sums taken a stretch at a time -/

/-- The sum of `f`'s first `n` terms. -/
def upTo (f : Fin K → EReal) (n : ℕ) : EReal := ∑ i ∈ Finset.range n, if h : i < K then f ⟨i, h⟩ else 0

theorem upTo_zero (f : Fin K → EReal) : upTo f 0 = 0 := rfl

/-- The next `L` terms. -/
theorem upTo_add (f : Fin K → EReal) (n L : ℕ) (g : Fin L → EReal)
    (h : ∀ k : Fin L, ∃ hk : n + k.val < K, g k = f ⟨n + k.val, hk⟩) : upTo f (n + L) = upTo f n + ∑ k : Fin L, g k := by
  unfold upTo
  rw [Finset.sum_range_add]
  refine congrArg₂ (· + ·) rfl ((Finset.sum_range _).trans (Finset.sum_congr rfl fun k _ => ?_))
  obtain ⟨hk, e⟩ := h k
  rw [dif_pos hk, e]

/-- All the terms. -/
theorem upTo_all (f : Fin K → EReal) : upTo f K = ∑ k : Fin K, f k := by
  unfold upTo
  refine (Finset.sum_range _).trans (Finset.sum_congr rfl fun k _ => ?_)
  rw [dif_pos k.isLt]

/-! ## Indices by their coordinates -/

/-- Two indices of a matrix with the same two coordinates. -/
theorem idx_ext {s : Fin 2 → ℕ} {i j : (⟨2, s⟩ : Shape).Idx} (h0 : (i 0).val = (j 0).val) (h1 : (i 1).val = (j 1).val) : i = j := by
  funext a
  match a with
  | ⟨0, _⟩ => exact Fin.ext h0
  | ⟨1, _⟩ => exact Fin.ext h1

/-- Coordinates of two windows whose block numbers and places within the block agree. -/
theorem same_place {i j p q b x : ℕ} (hi : i = p * b + x) (hj : j = q * b + x) (h : p = q) : i = j := by
  rw [hi, hj, h]

/-- A whole two-axis buffer is read and written from its origin. -/
theorem origin2 : ∀ a : Fin 2, (![0, 0] : Fin 2 → ℕ) a = 0 := by decide

/-! ## The squared rectifier -/

/-- `max(x, 0)²`. -/
def relu2 (x : EReal) : EReal := max x 0 * max x 0

/-- Two, as the constant of both programs. -/
def two : EReal := Ideal.ofBits .f32 0x40000000#32

/-- The cotangent `g` through the squared rectifier at `x`: `g · (2 · max(x, 0))`. -/
def drelu2 (g x : EReal) : EReal := g * (two * max x 0)

/-- Masked to zero where `x` is not positive it is the same, the factor being zero there. -/
theorem masked_drelu2 (g x : EReal) : Scalar.select (Ideal.cmp .ogt x 0) (drelu2 g x) 0 = drelu2 g x := by
  by_cases h : 0 < x
  · simp [Scalar.select, Ideal.cmp, h]
  · have : max x 0 = 0 := max_eq_right (not_lt.mp h)
    simp [Scalar.select, Ideal.cmp, h, drelu2, this]

end Cert.Dense
-- ==== Proof.MlpArrays.lean ====
/-
  The feed-forward layer's backward calls over their whole arrays: each call's tiles put together into one matrix
  product of the arrays the call reads, whatever those hold.
-/
module

public import proofs.«01_k».proof.Proof.Dense
public import proofs.«01_k».proof.Proof.Gen.Kernel2Ideal.Frame
public import Idealize.ShloMosaic.Lib.Pipeline.ValueKit.Geometry

@[expose] public section

set_option maxRecDepth 16384

noncomputable section

open Idealize.ShloMosaic Idealize.ShloMosaic.TcCoe Idealize.ShloMosaic.ValueIdx Idealize.SL.Sem
open Idealize.ShloMosaic.Pipeline (Dat Window)
open scoped BigOperators

namespace Cert.Kernel2Ideal.Value

open Cert.Kernel2Ideal Cert.Kernel2Ideal.Gen Cert.Dense

/-! ## What a body leaves in its output buffers, from its blocks -/

theorem zero_f32 : (Scalar.ofBits .f32 0x00000000#32 : Ideal .f32) = 0 := Ideal.ofBits_zero_f32

theorem leaves_pre (a : Vec Ideal S1024x1024 .bf16) (b : Vec Ideal S1024x512 .bf16) : out0_2 a b = nn a b := by
  unfold out0_2
  rw [View.canon_cons_unit_lit (h := origin2), View.ld_unit_lit (h := origin2), View.ld_unit_lit (h := origin2)]
  exact matmul_nn _ _ _

theorem leaves_r (a : Vec Ideal S1024x1024 .bf16) (b : Vec Ideal S1024x512 .bf16) :
    out0_3 a b = fun y => relu2 (nn a b y) := by
  unfold out0_3
  rw [View.canon_cons_unit_lit (h := origin2), View.ld_unit_lit (h := origin2), View.ld_unit_lit (h := origin2)]
  funext y
  unfold k0_pay2
  simp only [truncf_apply, mulf_apply, maximumf_apply, broadcast_apply, zero_f32]
  rw [show k0_pay1 a b = nn a b from matmul_nn _ _ _]
  rfl

theorem leaves_da (g : Vec Ideal S1024x1024 .f32) (w : Vec Ideal S512x1024 .bf16) (x : Vec Ideal S1024x512 .f32) :
    out1_3 g w x = fun y => drelu2 (nt g w y) (x y) := by
  unfold out1_3
  rw [View.canon_cons_unit_lit (h := origin2), View.ld_unit_lit (h := origin2), View.ld_unit_lit (h := origin2),
    View.ld_unit_lit (h := origin2)]
  funext y
  unfold k1_pay1
  simp only [truncf_apply, mulf_apply, maximumf_apply, broadcast_apply, zero_f32, shapeCast_self]
  exact congrArg (fun q => drelu2 q (x y)) (congrFun (matmul_nt _ _ _) y)

theorem leaves_g2 (a : Vec Ideal S4096x512 .bf16) (b : Vec Ideal S4096x512 .f32) : out2_2 a b = tn a b := by
  unfold out2_2
  rw [View.canon_cons_unit_lit (h := origin2), View.ld_unit_lit (h := origin2), View.ld_unit_lit (h := origin2)]
  unfold k2_pay1
  rw [shapeCast_self]
  exact matmul_tn _ _ _

theorem leaves_g1 (a : Vec Ideal S4096x512 .bf16) (b : Vec Ideal S4096x512 .bf16) : out3_2 a b = tn a b := by
  unfold out3_2
  rw [View.canon_cons_unit_lit (h := origin2), View.ld_unit_lit (h := origin2), View.ld_unit_lit (h := origin2)]
  unfold k3_pay1
  rw [shapeCast_self]
  exact matmul_tn _ _ _

/-! ## Where the blocks lie -/

theorem places0 : ∀ t : Fin grid0.N,
    (win0_0.index t 0 = win0_2.index t 0 ∧ win0_0.index t 1 = 0) ∧ (win0_1.index t 0 = 0 ∧ win0_1.index t 1 = win0_2.index t 1)
    ∧ win0_3.index t 0 = win0_2.index t 0 ∧ win0_3.index t 1 = win0_2.index t 1 := by decide +kernel

theorem places1 : ∀ t : Fin grid1.N,
    (win1_0.index t 0 = win1_3.index t 0 ∧ win1_0.index t 1 = 0) ∧ (win1_1.index t 0 = win1_3.index t 1 ∧ win1_1.index t 1 = 0)
    ∧ win1_2.index t 0 = win1_3.index t 0 ∧ win1_2.index t 1 = win1_3.index t 1 := by decide +kernel

theorem places2 : ∀ t : Fin grid2.N,
    (win2_0.index t 0 = 0 ∧ win2_0.index t 1 = win2_2.index t 0) ∧ win2_1.index t 0 = 0 ∧ win2_1.index t 1 = win2_2.index t 1 := by
  decide +kernel

theorem places3 : ∀ t : Fin grid3.N,
    (win3_0.index t 0 = 0 ∧ win3_0.index t 1 = win3_2.index t 0) ∧ win3_1.index t 0 = 0 ∧ win3_1.index t 1 = win3_2.index t 1 := by
  decide +kernel

/-! ## The tiles of each product -/

section Tiles
variable (V : (c : Dev nD) → (b : Ref sig .tc) → Buf (Elt Ideal) ((c : Thread nD τ).loc b)) (c : Dev nD)

/-- Call 0's tile of the first product, at the place its first result's block lies. -/
theorem tile0 (t : Fin cfg0.N) (y : S1024x512.Idx) : nn (iblk0 V c 0 t) (iblk0 V c 1 t) y
    = nn (V c main_arg0) (V c main_arg1) (((cfg0.win 2).blk t).view.emb y) := by
  have h := places0 t
  refine nn_tile (fun k => congrArg (V c main_arg0) (idx_ext ?_ ?_)) fun k => congrArg (V c main_arg1) (idx_ext ?_ ?_)
  · exact same_place (win0_0.rect_emb_val t (ix2 (y 0) k) 0) (win0_2.rect_emb_val t y 0) h.1.1
  · exact win0_0.rect_emb_val_of_index_zero t 1 h.1.2 (ix2 (y 0) k)
  · exact win0_1.rect_emb_val_of_index_zero t 0 h.2.1.1 (ix2 k (y 1))
  · exact same_place (win0_1.rect_emb_val t (ix2 k (y 1)) 1) (win0_2.rect_emb_val t y 1) h.2.1.2

/-- Its two results' blocks lie at the same place. -/
theorem same0 (t : Fin cfg0.N) (y : S1024x512.Idx) : (((cfg0.win 3).blk t).view.emb y : S4096x4096.Idx) = ((cfg0.win 2).blk t).view.emb y :=
  idx_ext (same_place (win0_3.rect_emb_val t y 0) (win0_2.rect_emb_val t y 0) (places0 t).2.2.1)
    (same_place (win0_3.rect_emb_val t y 1) (win0_2.rect_emb_val t y 1) (places0 t).2.2.2)

/-- Call 0 leaves the first product in its first result, -/
theorem final_pre : (dat0 V c).arrAt 2 cfg0.N = nn (V c main_arg0) (V c main_arg1) := by
  refine (dat0 V c).arrAt_eq_of_covers 2 _ (by decide +kernel) fun t hf y => ?_
  exact (congrFun ((after0_2 V c t).trans (leaves_pre _ _)) y).trans (tile0 V c t y)

/-- and its squared rectifier in the second. -/
theorem final_r : (dat0 V c).arrAt 3 cfg0.N = fun e => relu2 (nn (V c main_arg0) (V c main_arg1) e) := by
  refine (dat0 V c).arrAt_eq_of_covers 3 _ (by decide +kernel) fun t hf y => ?_
  refine (congrFun ((after0_3 V c t).trans (leaves_r _ _)) y).trans (congrArg relu2 ((tile0 V c t y).trans ?_))
  exact congrArg (nn _ _) (same0 t y).symm

theorem tile1 (t : Fin cfg1.N) (y : S1024x512.Idx) : nt (iblk1 V c 0 t) (iblk1 V c 1 t) y
    = nt (V c main_arg3) (V c main_arg2) (((cfg1.win 3).blk t).view.emb y) := by
  have h := places1 t
  refine nt_tile (fun k => congrArg (V c main_arg3) (idx_ext ?_ ?_)) fun k => congrArg (V c main_arg2) (idx_ext ?_ ?_)
  · exact same_place (win1_0.rect_emb_val t (ix2 (y 0) k) 0) (win1_3.rect_emb_val t y 0) h.1.1
  · exact win1_0.rect_emb_val_of_index_zero t 1 h.1.2 (ix2 (y 0) k)
  · exact same_place (win1_1.rect_emb_val t (ix2 (y 1) k) 0) (win1_3.rect_emb_val t y 1) h.2.1.1
  · exact win1_1.rect_emb_val_of_index_zero t 1 h.2.1.2 (ix2 (y 1) k)

/-- The block of the first product that call 1 reads lies where its result's block lies. -/
theorem gate1 (t : Fin cfg1.N) (y : S1024x512.Idx) : iblk1 V c 2 t y = V c main_v0_0 (((cfg1.win 3).blk t).view.emb y) :=
  congrArg (V c main_v0_0) (idx_ext (same_place (win1_2.rect_emb_val t y 0) (win1_3.rect_emb_val t y 0) (places1 t).2.2.1)
    (same_place (win1_2.rect_emb_val t y 1) (win1_3.rect_emb_val t y 1) (places1 t).2.2.2))

/-- Call 1 leaves the cotangent of the first product. -/
theorem final_da : (dat1 V c).arrAt 3 cfg1.N = fun e => drelu2 (nt (V c main_arg3) (V c main_arg2) e) (V c main_v0_0 e) := by
  refine (dat1 V c).arrAt_eq_of_covers 3 _ (by decide +kernel) fun t hf y => ?_
  exact (congrFun ((after1_3 V c t).trans (leaves_da _ _ _)) y).trans (congrArg₂ drelu2 (tile1 V c t y) (gate1 V c t y))

/-- Call 2 leaves the second weight's gradient. -/
theorem final_g2 : (dat2 V c).arrAt 2 cfg2.N = tn (V c main_v0_1) (V c main_arg3) := by
  refine (dat2 V c).arrAt_eq_of_covers 2 _ (by decide +kernel) fun t hf y => ?_
  have h := places2 t
  refine (congrFun ((after2_2 V c t).trans (leaves_g2 _ _)) y).trans
    (tn_tile (fun k => congrArg (V c main_v0_1) (idx_ext ?_ ?_)) fun k => congrArg (V c main_arg3) (idx_ext ?_ ?_))
  · exact win2_0.rect_emb_val_of_index_zero t 0 h.1.1 (ix2 k (y 0))
  · exact same_place (win2_0.rect_emb_val t (ix2 k (y 0)) 1) (win2_2.rect_emb_val t y 0) h.1.2
  · exact win2_1.rect_emb_val_of_index_zero t 0 h.2.1 (ix2 k (y 1))
  · exact same_place (win2_1.rect_emb_val t (ix2 k (y 1)) 1) (win2_2.rect_emb_val t y 1) h.2.2

/-- Call 3 leaves the first weight's gradient. -/
theorem final_g1 : (dat3 V c).arrAt 2 cfg3.N = tn (V c main_arg0) (V c main_v1) := by
  refine (dat3 V c).arrAt_eq_of_covers 2 _ (by decide +kernel) fun t hf y => ?_
  have h := places3 t
  refine (congrFun ((after3_2 V c t).trans (leaves_g1 _ _)) y).trans
    (tn_tile (fun k => congrArg (V c main_arg0) (idx_ext ?_ ?_)) fun k => congrArg (V c main_v1) (idx_ext ?_ ?_))
  · exact win3_0.rect_emb_val_of_index_zero t 0 h.1.1 (ix2 k (y 0))
  · exact same_place (win3_0.rect_emb_val t (ix2 k (y 0)) 1) (win3_2.rect_emb_val t y 0) h.1.2
  · exact win3_1.rect_emb_val_of_index_zero t 0 h.2.1 (ix2 k (y 1))
  · exact same_place (win3_1.rect_emb_val t (ix2 k (y 1)) 1) (win3_2.rect_emb_val t y 1) h.2.2

end Tiles

end Cert.Kernel2Ideal.Value
-- ==== Proof.MlpRun.lean ====
/-
  The feed-forward layer's backward run: the four calls one after another, and what the three results hold at its
  end in terms of the arguments alone.
-/
module

public import proofs.«01_k».proof.Proof.MlpArrays

@[expose] public section

set_option maxRecDepth 16384

noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

namespace Cert.Kernel2Ideal.Value

open Cert.Kernel2Ideal Cert.Kernel2Ideal.Gen Cert.Dense

variable (m : (ℓ : Loc nD τ sig) → Buf (Elt Ideal) ℓ) (ρ : Dev nD → PrngReg)

set_option backward.isDefEq.respectTransparency.types false in
/-- Every run ends with each of the program's arrays at the contents the last call leaves. -/
theorem run_all : θ_run defs (onTc (τ := τ) (main (F := Ideal))) ⟨m, fun _ => 0, ρ⟩ (fun r => ∀ (c : Dev nD) (b : Ref sig .tc),
      ¬ (Proc.devRef .tc b : DevRef τ sig).isScoped → r.2.mem ((c.tc : Thread nD τ).loc b) = W4 m ρ c (Proc.devRef .tc b)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt Ideal) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt Ideal) ℕ (UR sig nD τ) ℕ)) ⊢ bigSep Finset.univ (fun _ : Dev nD => (BI.emp : sProp (MT nD τ sig Unit (Elt Ideal) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h hz c b hb => h c _ (mem_uc b hb))

/-! ## The results, the calls' outputs followed back to the arguments -/

section Results
variable (c : Dev nD)

/-- An argument as launched. -/
abbrev arg (b : Ref sig .tc) : Buf (Elt Ideal) ((c : Thread nD τ).loc b) := m ((c : Thread nD τ).loc b)

/-- The first product. -/
abbrev pre : Mat 4096 4096 := nn (arg m c main_arg0) (arg m c main_arg1)

/-- Its cotangent. -/
abbrev dpre : Mat 4096 4096 := fun e => drelu2 (nt (arg m c main_arg3) (arg m c main_arg2) e) (pre m c e)

theorem W1_pre : W1 m ρ c (Proc.devRef .tc main_v0_0) = pre m c :=
  (W1_arr m ρ c 2).trans (final_pre (V0 m ρ) c)

theorem W2_r : W2 m ρ c (Proc.devRef .tc main_v0_1) = fun e => relu2 (pre m c e) :=
  (W2_of m ρ c main_v0_1 (by decide)).trans ((W1_arr m ρ c 3).trans (final_r (V0 m ρ) c))

theorem W2_da : W2 m ρ c (Proc.devRef .tc main_v1) = dpre m c := by
  refine (W2_arr m ρ c 3).trans ((final_da (V1 m ρ) c).trans ?_)
  have h3 : V1 m ρ c main_arg3 = arg m c main_arg3 := W1_args m ρ c main_arg3 (by decide)
  have h2 : V1 m ρ c main_arg2 = arg m c main_arg2 := W1_args m ρ c main_arg2 (by decide)
  have hp : V1 m ρ c main_v0_0 = pre m c := W1_pre m ρ c
  rw [h3, h2, hp]

theorem W3_da : W3 m ρ c (Proc.devRef .tc main_v1) = dpre m c :=
  (W3_of m ρ c main_v1 (by decide)).trans (W2_da m ρ c)

theorem result_da : W4 m ρ c (Proc.devRef .tc main_v1) = dpre m c :=
  (W4_of m ρ c main_v1 (by decide)).trans (W3_da m ρ c)

theorem result_g2 : W4 m ρ c (Proc.devRef .tc main_v2) = tn (fun e => relu2 (pre m c e)) (arg m c main_arg3) := by
  refine (W4_of m ρ c main_v2 (by decide)).trans ((W3_arr m ρ c 2).trans ((final_g2 (V2 m ρ) c).trans ?_))
  have h3 : V2 m ρ c main_arg3 = arg m c main_arg3 := W2_args m ρ c main_arg3 (by decide)
  have hr : V2 m ρ c main_v0_1 = fun e => relu2 (pre m c e) := W2_r m ρ c
  rw [h3, hr]

theorem result_g1 : W4 m ρ c (Proc.devRef .tc main_v3) = tn (arg m c main_arg0) (dpre m c) := by
  refine (W4_arr m ρ c 2).trans ((final_g1 (V3 m ρ) c).trans ?_)
  have h0 : V3 m ρ c main_arg0 = arg m c main_arg0 := W3_args m ρ c main_arg0 (by decide)
  have hd : V3 m ρ c main_v1 = dpre m c := W3_da m ρ c
  rw [h0, hd]

end Results

end Cert.Kernel2Ideal.Value
-- ==== Proof.MlpPlain.lean ====
/-
  The plain feed-forward layer's gradients as the same matrix products.
-/
module

public import proofs.«01_k».proof.Proof.Dense
public import proofs.«01_k».proof.Proof.Gen.Reference2Ideal.Read

@[expose] public section

set_option maxRecDepth 16384

noncomputable section

open Idealize.ShloMosaic Idealize.ShloMosaic.ValueIdx

namespace Cert.Reference2Ideal.Read

open Cert.Reference2Ideal Cert.Dense

variable (h : (⟨S4096x1024, .bf16⟩ : BufTy).Contents (Elt Ideal)) (w1 : (⟨S1024x4096, .bf16⟩ : BufTy).Contents (Elt Ideal))
  (w2 : (⟨S4096x1024, .bf16⟩ : BufTy).Contents (Elt Ideal)) (g : (⟨S4096x1024, .f32⟩ : BufTy).Contents (Elt Ideal))

theorem word_zero : (FloatOps.ofBits .f32 0x00000000#32 : Ideal .f32) = 0 := Ideal.ofBits_zero_f32

theorem product : val_main_v2 (F := Ideal) h w1 = nn h w1 := (dot_eq_matmul _ _ _).trans (matmul_nn _ _ _)

theorem rectified (e : S4096x4096.Idx) : val_main_v4 (F := Ideal) h w1 e = max (nn h w1 e) 0 := by
  rw [val_main_v4_apply, val_main_call0_v0_apply, val_main_call0_cst_apply, word_zero, product]
  rfl

theorem squared : val_main_v8 (F := Ideal) h w1 = fun e => relu2 (nn h w1 e) := by
  funext e
  rw [val_main_v8_apply, rectified]
  rfl

theorem result_g2 : val_main_v13 (F := Ideal) h w1 g = tn (fun e => relu2 (nn h w1 e)) g := by
  unfold val_main_v13 val_main_v12
  rw [dot_eq_matmul, squared]
  exact (congrArg (fun q => transpose S4096x1024 [1, 0] q _) (matmul_tn _ _ _)).trans (transpose_tn _ _ _)

/-- The first product's cotangent. -/
theorem cotangent : val_main_v17 (F := Ideal) h w1 w2 g = fun e => drelu2 (nt g w2 e) (nn h w1 e) := by
  funext e
  have hd : val_main_v14 (F := Ideal) w2 g = nt g w2 := (dot_eq_matmul _ _ _).trans (matmul_nt _ _ _)
  rw [val_main_v17_apply, val_main_v15_apply, val_main_v16_apply, val_main_v10_apply, val_main_v9_apply, val_main_v6_apply,
    val_main_v5_apply, val_main_cst_apply, val_main_cst_1_apply, val_main_cst_2_apply, word_zero, rectified, product, hd]
  exact masked_drelu2 (nt g w2 e) (nn h w1 e)

theorem result_da : val_main_v18 (F := Ideal) h w1 w2 g = fun e => drelu2 (nt g w2 e) (nn h w1 e) :=
  cotangent h w1 w2 g

theorem result_g1 : val_main_v20 (F := Ideal) h w1 w2 g = tn h (fun e => drelu2 (nt g w2 e) (nn h w1 e)) := by
  unfold val_main_v20 val_main_v19
  rw [dot_eq_matmul, cotangent]
  exact (congrArg (fun q => transpose S1024x4096 [1, 0] q _) (matmul_tn _ _ _)).trans (transpose_tn _ _ _)

end Cert.Reference2Ideal.Read
-- ==== Proof.Contracted.lean ====
/-
  The feed-forward layer's last backward call, whose contraction is cut into two stretches: the first is kept in the
  call's own buffer, the second is added to it and the sum is the result's tile.
-/
module

public import proofs.«01_k».proof.Proof.Dense
public import proofs.«01_k».proof.Proof.Gen.Kernel3Ideal.Value
public import proofs.«01_k».proof.Proof.Gen.Reference3Ideal.Read
public import Idealize.ShloMosaic.Lib.Pipeline.ValueKit.Geometry
public import Idealize.ShloMosaic.Lib.Pipeline.ValueKit.Acc

@[expose] public section

set_option maxRecDepth 16384

noncomputable section

open Idealize.ShloMosaic Idealize.ShloMosaic.TcCoe Idealize.ShloMosaic.ValueIdx Idealize.SL.Sem
open Idealize.ShloMosaic.Pipeline (Dat Window)
open scoped BigOperators

namespace Cert.Kernel3Ideal.Value

open Cert.Kernel3Ideal Cert.Kernel3Ideal.Gen Cert.Dense

variable (m : (ℓ : Loc nD τ sig) → Buf (Elt Ideal) ℓ) (c : Dev nD)

theorem part (a b : Vec Ideal S1024x2048 .bf16) : k0_pay1 a b = nt a b := matmul_nt _ _ _

/-- A run's first point keeps its product, -/
theorem kept_first (t : Fin cfg0.N) (h : t.val % 2 = 0) :
    (outsAt0 m c t.val t.isLt).2 = nt (iblk m c 0 t) (iblk m c 1 t) := by
  rw [outsAt0_A m c t h (by omega) (by omega)]
  frame_out
  unfold k0_pay2
  rw [shapeCast_self, part]

/-- and its last adds its own and stores the sum. -/
theorem stored_last (t : Fin cfg0.N) (h : t.val % 2 = 1) (y : S1024x1024.Idx) :
    (outsAt0 m c t.val t.isLt).1 y
      = (outsAt0 m c (t.val - 1) (Nat.lt_of_le_of_lt (Nat.sub_le _ _) t.isLt)).2 y + nt (iblk m c 0 t) (iblk m c 1 t) y := by
  rw [outsAt0_B m c t (by omega) h h]
  frame_out
  unfold k0_pay3
  rw [shapeCast_self, part, addf_apply]
  exact congrArg (· + _) (congrFun ((Memref.isWhole_whole cc0_scratch0).read_unread _) y)

theorem places : ∀ t : Fin grid0.N,
    (win0_0.index t 0 = win0_2.index t 0 ∧ win0_0.index t 1 = t.val % 2)
    ∧ win0_1.index t 0 = win0_2.index t 1 ∧ win0_1.index t 1 = t.val % 2 := by decide +kernel

/-- The two points of a run have the same block of the result. -/
theorem same_run : ∀ t : Fin grid0.N, t.val % 2 = 1 → ∀ h : t.val - 1 < grid0.N,
    win0_2.index ⟨t.val - 1, h⟩ 0 = win0_2.index t 0 ∧ win0_2.index ⟨t.val - 1, h⟩ 1 = win0_2.index t 1 := by decide +kernel

/-- The arrays the call reads. -/
abbrev left : Mat 4096 4096 := V m c main_arg0
abbrev right : Mat 1024 4096 := V m c main_arg1

/-- The terms of the result's entry `e`. -/
abbrev terms (e : S4096x1024.Idx) (k : Fin 4096) : EReal := left m c (ix2 (e 0) k) * right m c (ix2 (e 1) k)

/-- A point's product is its stretch of the terms of the entry where the tile's entry lies. -/
theorem stretch (t : Fin cfg0.N) (y : S1024x1024.Idx) (e : S4096x1024.Idx) (he : e = ((cfg0.win 2).blk t).view.emb y) :
    upTo (terms m c e) (t.val % 2 * 2048 + 2048) = upTo (terms m c e) (t.val % 2 * 2048) + nt (iblk m c 0 t) (iblk m c 1 t) y := by
  subst he
  have h := places t
  refine upTo_add _ _ _ _ fun k => ⟨by have := k.isLt; omega, congrArg₂ (· * ·) ?_ ?_⟩
  · refine congrArg (V m c main_arg0) (idx_ext ?_ ?_)
    · exact same_place (win0_0.rect_emb_val t (ix2 (y 0) k) 0) (win0_2.rect_emb_val t y 0) h.1.1
    · exact (win0_0.rect_emb_val t (ix2 (y 0) k) 1).trans (congrArg (· * 2048 + k.val) h.1.2)
  · refine congrArg (V m c main_arg1) (idx_ext ?_ ?_)
    · exact same_place (win0_1.rect_emb_val t (ix2 (y 1) k) 0) (win0_2.rect_emb_val t y 1) h.2.1
    · exact (win0_1.rect_emb_val t (ix2 (y 1) k) 1).trans (congrArg (· * 2048 + k.val) h.2.2)

/-- The call leaves the whole product. -/
theorem final : (dats m 0 c).arrAt 2 cfg0.N = nt (left m c) (right m c) := by
  refine (dats m 0 c).arrAt_eq_of_covers 2 _ (by decide +kernel) fun t hf y => ?_
  have ht : t.val % 2 = 1 := (flush0_2 t).mp hf
  have hlt : t.val - 1 < cfg0.N := Nat.lt_of_le_of_lt (Nat.sub_le _ _) t.isLt
  have h0 : (t.val - 1) % 2 = 0 := by omega
  have hs := same_run t ht hlt
  have e : ((cfg0.win 2).blk t).view.emb y = ((cfg0.win 2).blk ⟨t.val - 1, hlt⟩).view.emb y :=
    idx_ext (same_place (win0_2.rect_emb_val t y 0) (win0_2.rect_emb_val ⟨t.val - 1, hlt⟩ y 0) hs.1.symm)
      (same_place (win0_2.rect_emb_val t y 1) (win0_2.rect_emb_val ⟨t.val - 1, hlt⟩ y 1) hs.2.symm)
  have s0 := stretch m c ⟨t.val - 1, hlt⟩ y _ e
  have s1 := stretch m c t y _ rfl
  refine (congrFun (after0_2 m c t) y).trans ((stored_last m c t ht y).trans ?_)
  rw [kept_first m c ⟨t.val - 1, hlt⟩ h0]
  simp only [h0, ht, Nat.zero_mul, Nat.zero_add, upTo_zero, zero_add, Nat.one_mul] at s0 s1
  rw [← s0, ← s1]
  exact upTo_all _

end Cert.Kernel3Ideal.Value

namespace Cert.Reference3Ideal.Read

open Cert.Reference3Ideal Cert.Dense

theorem result (g : (⟨S4096x4096, .bf16⟩ : BufTy).Contents (Elt Ideal)) (w : (⟨S1024x4096, .bf16⟩ : BufTy).Contents (Elt Ideal)) :
    val_main_v4 (F := Ideal) g w = nt g w :=
  (dot_eq_matmul _ _ _).trans (matmul_nt _ _ _)

end Cert.Reference3Ideal.Read
-- ==== Proof.MlpClaim.lean ====
/-
  The claims about the feed-forward layer's backward calls: the four that run one after another, and the last, which
  contracts in two stretches.
-/
module

public import proofs.«01_k».proof.Defs
public import proofs.«01_k».proof.Proof.MlpRun
public import proofs.«01_k».proof.Proof.MlpPlain
public import proofs.«01_k».proof.Proof.Contracted
public import proofs.«01_k».proof.Proof.Gen.Kernel2.Frame
public import proofs.«01_k».proof.Proof.Gen.Reference2Ideal.Run
public import proofs.«01_k».proof.Proof.Gen.Kernel3.Frame
public import proofs.«01_k».proof.Proof.Gen.Reference3Ideal.Run
public import Idealize.ShloMosaic.Adequacy
public import Idealize.ShloMosaic.Init

@[expose] public section

noncomputable section

namespace Cert.Mlp

open Idealize.ShloMosaic Idealize.ShloMosaic.ValueIdx Idealize.SL.Sem

theorem kernel_frame : Cert.quiescent_Kernel2 (hKernel2 := Cert.Kernel2.Gen.facts) := fun m ρ _ => Cert.Kernel2.Gen.frame m ρ

theorem ideal_frame : Cert.quiescent_Kernel2Ideal (hKernel2Ideal := Cert.Kernel2Ideal.Gen.facts) :=
  fun m ρ _ => Cert.Kernel2Ideal.Gen.frame m ρ

theorem reference_frame : Cert.quiescent_Reference2Ideal (hReference2Ideal := Cert.Reference2Ideal.Gen.facts) := fun m ρ _ =>
  (θ_run Cert.Reference2Ideal.defs _ _).mono (fun r h => ⟨fun c => (h c).2.2.2, sem_eq_zero_of_no_sems (by decide) r.2⟩)
    (Cert.Reference2Ideal.Value.run (F := Ideal) m ρ)

theorem same_results : Cert.algebraic_Kernel2Ideal_Reference2Ideal (hKernel2Ideal := Cert.Kernel2Ideal.Gen.facts)
    (hReference2Ideal := Cert.Reference2Ideal.Gen.facts) := by
  intro m ρ m' ρ' _ hagree
  refine ⟨_, _, _, (θ_run Cert.Kernel2Ideal.defs _ _).mono (fun r h c => ⟨
      (h c Cert.Kernel2Ideal.main_v1 (by decide)).trans (Cert.Kernel2Ideal.Value.result_da m ρ c),
      (h c Cert.Kernel2Ideal.main_v3 (by decide)).trans (Cert.Kernel2Ideal.Value.result_g1 m ρ c),
      (h c Cert.Kernel2Ideal.main_v2 (by decide)).trans (Cert.Kernel2Ideal.Value.result_g2 m ρ c),
      (h c Cert.Kernel2Ideal.main_arg0 (by decide)).trans (Cert.Kernel2Ideal.Gen.W4_main_arg0 m ρ c),
      (h c Cert.Kernel2Ideal.main_arg1 (by decide)).trans (Cert.Kernel2Ideal.Gen.W4_main_arg1 m ρ c),
      (h c Cert.Kernel2Ideal.main_arg2 (by decide)).trans (Cert.Kernel2Ideal.Gen.W4_main_arg2 m ρ c),
      (h c Cert.Kernel2Ideal.main_arg3 (by decide)).trans (Cert.Kernel2Ideal.Gen.W4_main_arg3 m ρ c)⟩)
    (Cert.Kernel2Ideal.Value.run_all m ρ), ?_⟩
  refine (θ_run Cert.Reference2Ideal.defs _ _).mono (fun _ h c => ?_) (Cert.Reference2Ideal.Value.run (F := Ideal) m' ρ')
  obtain ⟨ha, h1, h2, hargs⟩ := h c
  obtain ⟨e0, e1, e2, e3⟩ := hagree c
  refine ⟨ha.trans ?_, h1.trans ?_, h2.trans ?_, hargs⟩
  · rw [Cert.Reference2Ideal.Read.val_main_v18_eq, e0, e1, e2, e3]
    exact Cert.Reference2Ideal.Read.result_da _ _ _ _
  · rw [Cert.Reference2Ideal.Read.val_main_v20_eq, e0, e1, e2, e3]
    exact Cert.Reference2Ideal.Read.result_g1 _ _ _ _
  · rw [Cert.Reference2Ideal.Read.val_main_v13_eq, e0, e1, e3]
    exact Cert.Reference2Ideal.Read.result_g2 _ _ _

theorem kernel_frame3 : Cert.quiescent_Kernel3 (hKernel3 := Cert.Kernel3.Gen.facts) := fun m ρ _ => Cert.Kernel3.Gen.frame m ρ

theorem ideal_frame3 : Cert.quiescent_Kernel3Ideal (hKernel3Ideal := Cert.Kernel3Ideal.Gen.facts) :=
  fun m ρ _ => Cert.Kernel3Ideal.Gen.frame m ρ

theorem reference_frame3 : Cert.quiescent_Reference3Ideal (hReference3Ideal := Cert.Reference3Ideal.Gen.facts) := fun m ρ _ =>
  (θ_run Cert.Reference3Ideal.defs _ _).mono (fun r h => ⟨fun c => (h c).2, sem_eq_zero_of_no_sems (by decide) r.2⟩)
    (Cert.Reference3Ideal.Value.run (F := Ideal) m ρ)

theorem same_results3 : Cert.algebraic_Kernel3Ideal_Reference3Ideal (hKernel3Ideal := Cert.Kernel3Ideal.Gen.facts)
    (hReference3Ideal := Cert.Reference3Ideal.Gen.facts) := by
  intro m ρ m' ρ' _ hagree
  refine ⟨_, Cert.Kernel3Ideal.Value.run_blocks (F := Ideal) m ρ, ?_⟩
  refine (θ_run Cert.Reference3Ideal.defs _ _).mono (fun _ h c => ?_) (Cert.Reference3Ideal.Value.run (F := Ideal) m' ρ')
  obtain ⟨hd, hargs⟩ := h c
  obtain ⟨e0, e1⟩ := hagree c
  refine ⟨hd.trans ?_, hargs⟩
  rw [Cert.Reference3Ideal.Read.val_main_v4_eq, e0, e1, Cert.Kernel3Ideal.Value.final m c]
  exact Cert.Reference3Ideal.Read.result _ _

end Cert.Mlp

end
-- ==== Proof.ProjArrays.lean ====
/-
  The projections' calls over their whole arrays: each call's tiles put together into one matrix product of the arrays
  the call reads, whatever those hold.
-/
module

public import proofs.«01_k».proof.Proof.Dense
public import proofs.«01_k».proof.Proof.Gen.Kernel4Ideal.Frame
public import Idealize.ShloMosaic.Lib.Pipeline.ValueKit.Geometry

@[expose] public section

set_option maxRecDepth 16384

noncomputable section

open Idealize.ShloMosaic Idealize.ShloMosaic.TcCoe Idealize.ShloMosaic.ValueIdx Idealize.SL.Sem
open Idealize.ShloMosaic.Pipeline (Dat Window)
open scoped BigOperators

namespace Cert.Kernel4Ideal.Value

open Cert.Kernel4Ideal Cert.Kernel4Ideal.Gen Cert.Dense

/-! ## What a body leaves in its output buffer, from its blocks -/

theorem leaves_z (a : Vec Ideal S512x1024 .bf16) (b : Vec Ideal S1024x2944 .bf16) : out0_2 a b = nn a b := by
  unfold out0_2
  rw [View.canon_cons_unit_lit (h := origin2), View.ld_unit_lit (h := origin2), View.ld_unit_lit (h := origin2)]
  exact matmul_nn _ _ _

theorem leaves_x1 (a : Vec Ideal S1024x1024 .bf16) (b : Vec Ideal S1024x512 .bf16) (x : Vec Ideal S1024x512 .f32) :
    out1_3 a b x = plus x (nn a b) := by
  unfold out1_3
  rw [View.canon_cons_unit_lit (h := origin2), View.ld_unit_lit (h := origin2), View.ld_unit_lit (h := origin2),
    View.ld_unit_lit (h := origin2)]
  funext y
  unfold k1_pay1
  rw [addf_apply, add_comm]
  exact congrArg (x y + ·) (congrFun (matmul_nn _ _ _) y)

theorem leaves_dmerged (a : Vec Ideal S1024x1024 .f32) (b : Vec Ideal S512x1024 .bf16) : out2_2 a b = nt a b := by
  unfold out2_2
  rw [View.canon_cons_unit_lit (h := origin2), View.ld_unit_lit (h := origin2), View.ld_unit_lit (h := origin2)]
  funext y
  unfold k2_pay1
  rw [truncf_apply]
  exact congrFun (matmul_nt _ _ _) y

theorem leaves_gout (a : Vec Ideal S4096x512 .bf16) (b : Vec Ideal S4096x512 .f32) : out3_2 a b = tn a b := by
  unfold out3_2
  rw [View.canon_cons_unit_lit (h := origin2), View.ld_unit_lit (h := origin2), View.ld_unit_lit (h := origin2)]
  exact matmul_tn _ _ _

theorem leaves_gin (a : Vec Ideal S4096x512 .bf16) (b : Vec Ideal S4096x384 .bf16) : out4_2 a b = tn a b := by
  unfold out4_2
  rw [View.canon_cons_unit_lit (h := origin2), View.ld_unit_lit (h := origin2), View.ld_unit_lit (h := origin2)]
  exact matmul_tn _ _ _

/-! ## Where the blocks lie -/

theorem places0 : ∀ t : Fin grid0.N,
    (win0_0.index t 0 = win0_2.index t 0 ∧ win0_0.index t 1 = 0) ∧ win0_1.index t 0 = 0 ∧ win0_1.index t 1 = win0_2.index t 1 := by
  decide +kernel

theorem places1 : ∀ t : Fin grid1.N,
    (win1_0.index t 0 = win1_3.index t 0 ∧ win1_0.index t 1 = 0) ∧ (win1_1.index t 0 = 0 ∧ win1_1.index t 1 = win1_3.index t 1)
    ∧ win1_2.index t 0 = win1_3.index t 0 ∧ win1_2.index t 1 = win1_3.index t 1 := by decide +kernel

theorem places2 : ∀ t : Fin grid2.N,
    (win2_0.index t 0 = win2_2.index t 0 ∧ win2_0.index t 1 = 0) ∧ win2_1.index t 0 = win2_2.index t 1 ∧ win2_1.index t 1 = 0 := by
  decide +kernel

theorem places3 : ∀ t : Fin grid3.N,
    (win3_0.index t 0 = 0 ∧ win3_0.index t 1 = win3_2.index t 0) ∧ win3_1.index t 0 = 0 ∧ win3_1.index t 1 = win3_2.index t 1 := by
  decide +kernel

theorem places4 : ∀ t : Fin grid4.N,
    (win4_0.index t 0 = 0 ∧ win4_0.index t 1 = win4_2.index t 0) ∧ win4_1.index t 0 = 0 ∧ win4_1.index t 1 = win4_2.index t 1 := by
  decide +kernel

/-! ## The tiles of each product -/

section Tiles
variable (V : (c : Dev nD) → (b : Ref sig .tc) → Buf (Elt Ideal) ((c : Thread nD τ).loc b)) (c : Dev nD)

/-- The input projection. -/
theorem final_z : (dat0 V c).arrAt 2 cfg0.N = nn (V c main_arg1) (V c main_arg3) := by
  refine (dat0 V c).arrAt_eq_of_covers 2 _ (by decide +kernel) fun t hf y => ?_
  have h := places0 t
  refine (congrFun ((after0_2 V c t).trans (leaves_z _ _)) y).trans
    (nn_tile (fun k => congrArg (V c main_arg1) (idx_ext ?_ ?_)) fun k => congrArg (V c main_arg3) (idx_ext ?_ ?_))
  · exact same_place (win0_0.rect_emb_val t (ix2 (y 0) k) 0) (win0_2.rect_emb_val t y 0) h.1.1
  · exact win0_0.rect_emb_val_of_index_zero t 1 h.1.2 (ix2 (y 0) k)
  · exact win0_1.rect_emb_val_of_index_zero t 0 h.2.1 (ix2 k (y 1))
  · exact same_place (win0_1.rect_emb_val t (ix2 k (y 1)) 1) (win0_2.rect_emb_val t y 1) h.2.2

/-- The output projection's product at a tile's place, -/
theorem tile1 (t : Fin cfg1.N) (y : S1024x512.Idx) : nn (iblk1 V c 0 t) (iblk1 V c 1 t) y
    = nn (V c main_arg2) (V c main_arg4) (((cfg1.win 3).blk t).view.emb y) := by
  have h := places1 t
  refine nn_tile (fun k => congrArg (V c main_arg2) (idx_ext ?_ ?_)) fun k => congrArg (V c main_arg4) (idx_ext ?_ ?_)
  · exact same_place (win1_0.rect_emb_val t (ix2 (y 0) k) 0) (win1_3.rect_emb_val t y 0) h.1.1
  · exact win1_0.rect_emb_val_of_index_zero t 1 h.1.2 (ix2 (y 0) k)
  · exact win1_1.rect_emb_val_of_index_zero t 0 h.2.1.1 (ix2 k (y 1))
  · exact same_place (win1_1.rect_emb_val t (ix2 k (y 1)) 1) (win1_3.rect_emb_val t y 1) h.2.1.2

/-- and the stream's block there. -/
theorem stream1 (t : Fin cfg1.N) (y : S1024x512.Idx) : iblk1 V c 2 t y = V c main_arg0 (((cfg1.win 3).blk t).view.emb y) :=
  congrArg (V c main_arg0) (idx_ext (same_place (win1_2.rect_emb_val t y 0) (win1_3.rect_emb_val t y 0) (places1 t).2.2.1)
    (same_place (win1_2.rect_emb_val t y 1) (win1_3.rect_emb_val t y 1) (places1 t).2.2.2))

/-- The stream with the output projection added. -/
theorem final_x1 : (dat1 V c).arrAt 3 cfg1.N = plus (V c main_arg0) (nn (V c main_arg2) (V c main_arg4)) := by
  refine (dat1 V c).arrAt_eq_of_covers 3 _ (by decide +kernel) fun t hf y => ?_
  exact (congrFun ((after1_3 V c t).trans (leaves_x1 _ _ _)) y).trans (congrArg₂ (fun a b : EReal => a + b) (stream1 V c t y) (tile1 V c t y))

/-- The gradient of the output projection's input. -/
theorem final_dmerged : (dat2 V c).arrAt 2 cfg2.N = nt (V c main_arg5) (V c main_arg4) := by
  refine (dat2 V c).arrAt_eq_of_covers 2 _ (by decide +kernel) fun t hf y => ?_
  have h := places2 t
  refine (congrFun ((after2_2 V c t).trans (leaves_dmerged _ _)) y).trans
    (nt_tile (fun k => congrArg (V c main_arg5) (idx_ext ?_ ?_)) fun k => congrArg (V c main_arg4) (idx_ext ?_ ?_))
  · exact same_place (win2_0.rect_emb_val t (ix2 (y 0) k) 0) (win2_2.rect_emb_val t y 0) h.1.1
  · exact win2_0.rect_emb_val_of_index_zero t 1 h.1.2 (ix2 (y 0) k)
  · exact same_place (win2_1.rect_emb_val t (ix2 (y 1) k) 0) (win2_2.rect_emb_val t y 1) h.2.1
  · exact win2_1.rect_emb_val_of_index_zero t 1 h.2.2 (ix2 (y 1) k)

/-- The gradient of the output projection's weight. -/
theorem final_gout : (dat3 V c).arrAt 2 cfg3.N = tn (V c main_arg2) (V c main_arg5) := by
  refine (dat3 V c).arrAt_eq_of_covers 2 _ (by decide +kernel) fun t hf y => ?_
  have h := places3 t
  refine (congrFun ((after3_2 V c t).trans (leaves_gout _ _)) y).trans
    (tn_tile (fun k => congrArg (V c main_arg2) (idx_ext ?_ ?_)) fun k => congrArg (V c main_arg5) (idx_ext ?_ ?_))
  · exact win3_0.rect_emb_val_of_index_zero t 0 h.1.1 (ix2 k (y 0))
  · exact same_place (win3_0.rect_emb_val t (ix2 k (y 0)) 1) (win3_2.rect_emb_val t y 0) h.1.2
  · exact win3_1.rect_emb_val_of_index_zero t 0 h.2.1 (ix2 k (y 1))
  · exact same_place (win3_1.rect_emb_val t (ix2 k (y 1)) 1) (win3_2.rect_emb_val t y 1) h.2.2

/-- The gradient of the input projection's weight. -/
theorem final_gin : (dat4 V c).arrAt 2 cfg4.N = tn (V c main_arg1) (V c main_arg6) := by
  refine (dat4 V c).arrAt_eq_of_covers 2 _ (by decide +kernel) fun t hf y => ?_
  have h := places4 t
  refine (congrFun ((after4_2 V c t).trans (leaves_gin _ _)) y).trans
    (tn_tile (fun k => congrArg (V c main_arg1) (idx_ext ?_ ?_)) fun k => congrArg (V c main_arg6) (idx_ext ?_ ?_))
  · exact win4_0.rect_emb_val_of_index_zero t 0 h.1.1 (ix2 k (y 0))
  · exact same_place (win4_0.rect_emb_val t (ix2 k (y 0)) 1) (win4_2.rect_emb_val t y 0) h.1.2
  · exact win4_1.rect_emb_val_of_index_zero t 0 h.2.1 (ix2 k (y 1))
  · exact same_place (win4_1.rect_emb_val t (ix2 k (y 1)) 1) (win4_2.rect_emb_val t y 1) h.2.2

end Tiles

end Cert.Kernel4Ideal.Value
-- ==== Proof.ProjRun.lean ====
/-
  The projections' run: the five calls one after another, and what the five results hold at its end in terms of the
  arguments alone.
-/
module

public import proofs.«01_k».proof.Proof.ProjArrays

@[expose] public section

set_option maxRecDepth 16384

noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

namespace Cert.Kernel4Ideal.Value

open Cert.Kernel4Ideal Cert.Kernel4Ideal.Gen Cert.Dense

variable (m : (ℓ : Loc nD τ sig) → Buf (Elt Ideal) ℓ) (ρ : Dev nD → PrngReg)

set_option backward.isDefEq.respectTransparency.types false in
/-- Every run ends with each of the program's arrays at the contents the last call leaves. -/
theorem run_all : θ_run defs (onTc (τ := τ) (main (F := Ideal))) ⟨m, fun _ => 0, ρ⟩ (fun r => ∀ (c : Dev nD) (b : Ref sig .tc),
      ¬ (Proc.devRef .tc b : DevRef τ sig).isScoped → r.2.mem ((c.tc : Thread nD τ).loc b) = W5 m ρ c (Proc.devRef .tc b)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt Ideal) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt Ideal) ℕ (UR sig nD τ) ℕ)) ⊢ bigSep Finset.univ (fun _ : Dev nD => (BI.emp : sProp (MT nD τ sig Unit (Elt Ideal) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h hz c b hb => h c _ (mem_uc b hb))

/-! ## The results, the calls' outputs followed back to the arguments -/

section Results
variable (c : Dev nD)

/-- An argument as launched. -/
abbrev arg (b : Ref sig .tc) : Buf (Elt Ideal) ((c : Thread nD τ).loc b) := m ((c : Thread nD τ).loc b)

theorem result_z : W5 m ρ c (Proc.devRef .tc main_v0) = nn (arg m c main_arg1) (arg m c main_arg3) :=
  (W5_of m ρ c main_v0 (by decide)).trans <| (W4_of m ρ c main_v0 (by decide)).trans <| (W3_of m ρ c main_v0 (by decide)).trans <|
    (W2_of m ρ c main_v0 (by decide)).trans <| (W1_arr m ρ c 2).trans (final_z (V0 m ρ) c)

theorem result_x1 : W5 m ρ c (Proc.devRef .tc main_v1)
    = plus (arg m c main_arg0) (nn (arg m c main_arg2) (arg m c main_arg4)) := by
  refine (W5_of m ρ c main_v1 (by decide)).trans <| (W4_of m ρ c main_v1 (by decide)).trans <|
    (W3_of m ρ c main_v1 (by decide)).trans <| (W2_arr m ρ c 3).trans ((final_x1 (V1 m ρ) c).trans ?_)
  have h0 : V1 m ρ c main_arg0 = arg m c main_arg0 := W1_args m ρ c main_arg0 (by decide)
  have h2 : V1 m ρ c main_arg2 = arg m c main_arg2 := W1_args m ρ c main_arg2 (by decide)
  have h4 : V1 m ρ c main_arg4 = arg m c main_arg4 := W1_args m ρ c main_arg4 (by decide)
  rw [h0, h2, h4]

theorem result_dmerged : W5 m ρ c (Proc.devRef .tc main_v2) = nt (arg m c main_arg5) (arg m c main_arg4) := by
  refine (W5_of m ρ c main_v2 (by decide)).trans <| (W4_of m ρ c main_v2 (by decide)).trans <|
    (W3_arr m ρ c 2).trans ((final_dmerged (V2 m ρ) c).trans ?_)
  have h5 : V2 m ρ c main_arg5 = arg m c main_arg5 := W2_args m ρ c main_arg5 (by decide)
  have h4 : V2 m ρ c main_arg4 = arg m c main_arg4 := W2_args m ρ c main_arg4 (by decide)
  rw [h5, h4]

theorem result_gout : W5 m ρ c (Proc.devRef .tc main_v3) = tn (arg m c main_arg2) (arg m c main_arg5) := by
  refine (W5_of m ρ c main_v3 (by decide)).trans <| (W4_arr m ρ c 2).trans ((final_gout (V3 m ρ) c).trans ?_)
  have h2 : V3 m ρ c main_arg2 = arg m c main_arg2 := W3_args m ρ c main_arg2 (by decide)
  have h5 : V3 m ρ c main_arg5 = arg m c main_arg5 := W3_args m ρ c main_arg5 (by decide)
  rw [h2, h5]

theorem result_gin : W5 m ρ c (Proc.devRef .tc main_v4) = tn (arg m c main_arg1) (arg m c main_arg6) := by
  refine (W5_arr m ρ c 2).trans ((final_gin (V4 m ρ) c).trans ?_)
  have h1 : V4 m ρ c main_arg1 = arg m c main_arg1 := W4_args m ρ c main_arg1 (by decide)
  have h6 : V4 m ρ c main_arg6 = arg m c main_arg6 := W4_args m ρ c main_arg6 (by decide)
  rw [h1, h6]

end Results

end Cert.Kernel4Ideal.Value
-- ==== Proof.ProjPlain.lean ====
/-
  The plain projections and their gradients as the same matrix products.
-/
module

public import proofs.«01_k».proof.Proof.Dense
public import proofs.«01_k».proof.Proof.Gen.Reference4Ideal.Read

@[expose] public section

set_option maxRecDepth 16384

noncomputable section

open Idealize.ShloMosaic Idealize.ShloMosaic.ValueIdx

namespace Cert.Reference4Ideal.Read

open Cert.Reference4Ideal Cert.Dense

variable (x : (⟨S4096x1024, .f32⟩ : BufTy).Contents (Elt Ideal)) (h t : (⟨S4096x1024, .bf16⟩ : BufTy).Contents (Elt Ideal))
  (wi : (⟨S1024x8832, .bf16⟩ : BufTy).Contents (Elt Ideal)) (wo : (⟨S1024x1024, .bf16⟩ : BufTy).Contents (Elt Ideal))
  (g : (⟨S4096x1024, .f32⟩ : BufTy).Contents (Elt Ideal)) (gz : (⟨S4096x8832, .bf16⟩ : BufTy).Contents (Elt Ideal))

theorem result_z : val_main_v2 (F := Ideal) h wi = nn h wi := (dot_eq_matmul _ _ _).trans (matmul_nn _ _ _)

theorem result_x1 : val_main_v6 (F := Ideal) x t wo = plus x (nn t wo) :=
  funext fun e => congrArg (x e + ·) (congrFun ((dot_eq_matmul _ _ _).trans (matmul_nn _ _ _)) e)

theorem result_dmerged : val_main_v10 (F := Ideal) wo g = nt g wo := by
  unfold val_main_v10 val_main_v9
  rw [dot_eq_matmul]
  exact matmul_nt (φ₁ := .f32) (φ₂ := .f32) _ _ _

theorem result_gout : val_main_v8 (F := Ideal) t g = tn t g := by
  unfold val_main_v8 val_main_v7
  rw [dot_eq_matmul]
  exact (congrArg (fun q => transpose S1024x1024 [1, 0] q _) (matmul_tn _ _ _)).trans (transpose_tn _ _ _)

theorem result_gin : val_main_v13 (F := Ideal) h gz = tn h gz := by
  unfold val_main_v13 val_main_v12
  rw [dot_eq_matmul]
  exact (congrArg (fun q => transpose S1024x8832 [1, 0] q _) (matmul_tn _ _ _)).trans (transpose_tn _ _ _)

end Cert.Reference4Ideal.Read
-- ==== Proof.InputGrad.lean ====
/-
  The input projection's backward product for its input, whose contraction is cut into three stretches: the call's own
  buffer carries the sum of the first two, and the third is added to it before the result's tile is stored.
-/
module

public import proofs.«01_k».proof.Proof.Dense
public import proofs.«01_k».proof.Proof.Gen.Kernel5Ideal.Value
public import proofs.«01_k».proof.Proof.Gen.Reference5Ideal.Read
public import Idealize.ShloMosaic.Lib.Pipeline.ValueKit.Geometry
public import Idealize.ShloMosaic.Lib.Pipeline.ValueKit.Acc

@[expose] public section

set_option maxRecDepth 16384

noncomputable section

open Idealize.ShloMosaic Idealize.ShloMosaic.TcCoe Idealize.ShloMosaic.ValueIdx Idealize.SL.Sem
open Idealize.ShloMosaic.Pipeline (Dat Window)
open scoped BigOperators

namespace Cert.Kernel5Ideal.Value

open Cert.Kernel5Ideal Cert.Kernel5Ideal.Gen Cert.Dense

variable (m : (ℓ : Loc nD τ sig) → Buf (Elt Ideal) ℓ) (c : Dev nD)

theorem part (a b : Vec Ideal S1024x2944 .bf16) : k0_pay1 a b = nt a b := matmul_nt _ _ _

/-- A run's first point keeps its product, -/
theorem kept_first (t : Fin cfg0.N) (h : t.val % 3 = 0) :
    (outsAt0 m c t.val t.isLt).2 = nt (iblk m c 0 t) (iblk m c 1 t) := by
  rw [outsAt0_A m c t h (by omega) (by omega)]
  frame_out
  unfold k0_pay2
  rw [shapeCast_self, part]

/-- the second adds its own, -/
theorem kept_second (t : Fin cfg0.N) (h : t.val % 3 = 1) (y : S1024x1024.Idx) :
    (outsAt0 m c t.val t.isLt).2 y
      = (outsAt0 m c (t.val - 1) (Nat.lt_of_le_of_lt (Nat.sub_le _ _) t.isLt)).2 y + nt (iblk m c 0 t) (iblk m c 1 t) y := by
  rw [outsAt0_B m c t (by omega) (by omega) (by omega)]
  frame_out
  unfold k0_pay3
  rw [shapeCast_self, part, addf_apply]
  exact congrArg (· + _) (congrFun ((Memref.isWhole_whole cc0_scratch0).read_unread _) y)

/-- and the last stores the sum with its own. -/
theorem stored_last (t : Fin cfg0.N) (h : t.val % 3 = 2) (y : S1024x1024.Idx) :
    (outsAt0 m c t.val t.isLt).1 y
      = (outsAt0 m c (t.val - 1) (Nat.lt_of_le_of_lt (Nat.sub_le _ _) t.isLt)).2 y + nt (iblk m c 0 t) (iblk m c 1 t) y := by
  rw [outsAt0_C m c t (by omega) (by omega) h]
  frame_out
  unfold k0_pay3
  rw [shapeCast_self, part, addf_apply]
  exact congrArg (· + _) (congrFun ((Memref.isWhole_whole cc0_scratch0).read_unread _) y)

theorem places : ∀ t : Fin grid0.N,
    (win0_0.index t 0 = win0_2.index t 0 ∧ win0_0.index t 1 = t.val % 3)
    ∧ win0_1.index t 0 = win0_2.index t 1 ∧ win0_1.index t 1 = t.val % 3 := by decide +kernel

/-- Neighbouring points of a run have the same block of the result. -/
theorem same_run : ∀ t : Fin grid0.N, t.val % 3 ≠ 0 → ∀ h : t.val - 1 < grid0.N,
    win0_2.index ⟨t.val - 1, h⟩ 0 = win0_2.index t 0 ∧ win0_2.index ⟨t.val - 1, h⟩ 1 = win0_2.index t 1 := by decide +kernel

/-- The arrays the call reads. -/
abbrev left : Mat 4096 8832 := V m c main_arg0
abbrev right : Mat 1024 8832 := V m c main_arg1

/-- The terms of the result's entry `e`. -/
abbrev terms (e : S4096x1024.Idx) (k : Fin 8832) : EReal := left m c (ix2 (e 0) k) * right m c (ix2 (e 1) k)

/-- Where a point's tile entry lies in the result. -/
abbrev place (t : Fin cfg0.N) (y : S1024x1024.Idx) : S4096x1024.Idx := ((cfg0.win 2).blk t).view.emb y

theorem place_pred (t : Fin cfg0.N) (h : t.val % 3 ≠ 0) (hlt : t.val - 1 < cfg0.N) (y : S1024x1024.Idx) :
    place ⟨t.val - 1, hlt⟩ y = place t y :=
  idx_ext (same_place (win0_2.rect_emb_val ⟨t.val - 1, hlt⟩ y 0) (win0_2.rect_emb_val t y 0) (same_run t h hlt).1)
    (same_place (win0_2.rect_emb_val ⟨t.val - 1, hlt⟩ y 1) (win0_2.rect_emb_val t y 1) (same_run t h hlt).2)

/-- A point's product is its stretch of the terms of the entry where the tile's entry lies. -/
theorem stretch (t : Fin cfg0.N) (y : S1024x1024.Idx) (j : ℕ) (hj : t.val % 3 = j) :
    upTo (terms m c (place t y)) (j * 2944 + 2944) = upTo (terms m c (place t y)) (j * 2944) + nt (iblk m c 0 t) (iblk m c 1 t) y := by
  subst hj
  have h := places t
  refine upTo_add _ _ _ _ fun k => ⟨by have := k.isLt; omega, congrArg₂ (· * ·) ?_ ?_⟩
  · refine congrArg (V m c main_arg0) (idx_ext ?_ ?_)
    · exact same_place (win0_0.rect_emb_val t (ix2 (y 0) k) 0) (win0_2.rect_emb_val t y 0) h.1.1
    · exact (win0_0.rect_emb_val t (ix2 (y 0) k) 1).trans (congrArg (· * 2944 + k.val) h.1.2)
  · refine congrArg (V m c main_arg1) (idx_ext ?_ ?_)
    · exact same_place (win0_1.rect_emb_val t (ix2 (y 1) k) 0) (win0_2.rect_emb_val t y 1) h.2.1
    · exact (win0_1.rect_emb_val t (ix2 (y 1) k) 1).trans (congrArg (· * 2944 + k.val) h.2.2)

/-- What the buffer holds after a run's first point and after its second. -/
theorem held_first (t : Fin cfg0.N) (h : t.val % 3 = 0) (y : S1024x1024.Idx) :
    (outsAt0 m c t.val t.isLt).2 y = upTo (terms m c (place t y)) 2944 := by
  have s := stretch m c t y 0 h
  rw [Nat.zero_mul, Nat.zero_add, upTo_zero, zero_add] at s
  exact (congrFun (kept_first m c t h) y).trans s.symm

theorem held_second (t : Fin cfg0.N) (h : t.val % 3 = 1) (y : S1024x1024.Idx) :
    (outsAt0 m c t.val t.isLt).2 y = upTo (terms m c (place t y)) (2 * 2944) := by
  have hlt : t.val - 1 < cfg0.N := Nat.lt_of_le_of_lt (Nat.sub_le _ _) t.isLt
  have s := stretch m c t y 1 h
  rw [Nat.one_mul] at s
  rw [kept_second m c t h, held_first m c ⟨t.val - 1, hlt⟩ (by show (t.val - 1) % 3 = 0; omega), place_pred t (by omega) hlt, ← s]

/-- The call leaves the whole product. -/
theorem final : (dats m 0 c).arrAt 2 cfg0.N = nt (left m c) (right m c) := by
  refine (dats m 0 c).arrAt_eq_of_covers 2 _ (by decide +kernel) fun t hf y => ?_
  have ht : t.val % 3 = 2 := (flush0_2 t).mp hf
  have hlt : t.val - 1 < cfg0.N := Nat.lt_of_le_of_lt (Nat.sub_le _ _) t.isLt
  refine (congrFun (after0_2 m c t) y).trans ((stored_last m c t ht y).trans ?_)
  rw [held_second m c ⟨t.val - 1, hlt⟩ (by show (t.val - 1) % 3 = 1; omega), place_pred t (by omega) hlt, ← stretch m c t y 2 ht]
  exact upTo_all _

end Cert.Kernel5Ideal.Value

namespace Cert.Reference5Ideal.Read

open Cert.Reference5Ideal Cert.Dense

theorem result (g : (⟨S4096x8832, .bf16⟩ : BufTy).Contents (Elt Ideal)) (w : (⟨S1024x8832, .bf16⟩ : BufTy).Contents (Elt Ideal)) :
    val_main_v4 (F := Ideal) g w = nt g w :=
  (dot_eq_matmul _ _ _).trans (matmul_nt _ _ _)

end Cert.Reference5Ideal.Read
-- ==== Proof.MlpOut.lean ====
/-
  The feed-forward layer's second product forward, whose contraction is cut into two stretches and to which the layer's
  stream is added when the result's tile is stored.
-/
module

public import proofs.«01_k».proof.Proof.Dense
public import proofs.«01_k».proof.Proof.Gen.Kernel6Ideal.Value
public import proofs.«01_k».proof.Proof.Gen.Reference6Ideal.Read
public import Idealize.ShloMosaic.Lib.Pipeline.ValueKit.Geometry
public import Idealize.ShloMosaic.Lib.Pipeline.ValueKit.Acc

@[expose] public section

set_option maxRecDepth 16384

noncomputable section

open Idealize.ShloMosaic Idealize.ShloMosaic.TcCoe Idealize.ShloMosaic.ValueIdx Idealize.SL.Sem
open Idealize.ShloMosaic.Pipeline (Dat Window)
open scoped BigOperators

namespace Cert.Kernel6Ideal.Value

open Cert.Kernel6Ideal Cert.Kernel6Ideal.Gen Cert.Dense

variable (m : (ℓ : Loc nD τ sig) → Buf (Elt Ideal) ℓ) (c : Dev nD)

theorem part (a : Vec Ideal S1024x2048 .bf16) (b : Vec Ideal S2048x512 .bf16) : k0_pay1 a b = nn a b := matmul_nn _ _ _

/-- A run's first point keeps its product, -/
theorem kept_first (t : Fin cfg0.N) (h : t.val % 2 = 0) :
    (outsAt0 m c t.val t.isLt).2 = nn (iblk m c 0 t) (iblk m c 1 t) := by
  rw [outsAt0_A m c t h (by omega) (by omega)]
  frame_out
  unfold k0_pay2
  rw [shapeCast_self, part]

/-- and its last adds its own and the stream's block, and stores the sum. -/
theorem stored_last (t : Fin cfg0.N) (h : t.val % 2 = 1) (y : S1024x512.Idx) :
    (outsAt0 m c t.val t.isLt).1 y
      = (outsAt0 m c (t.val - 1) (Nat.lt_of_le_of_lt (Nat.sub_le _ _) t.isLt)).2 y + nn (iblk m c 0 t) (iblk m c 1 t) y
        + iblk m c 2 t y := by
  rw [outsAt0_B m c t (by omega) h h]
  frame_out
  unfold k0_pay4 k0_pay3
  dsimp only
  rw [shapeCast_self, part, addf_apply, addf_apply]
  exact congrArg (· + _ + _) (congrFun ((Memref.isWhole_whole cc0_scratch0).read_unread _) y)

theorem places : ∀ t : Fin grid0.N,
    (win0_0.index t 0 = win0_3.index t 0 ∧ win0_0.index t 1 = t.val % 2)
    ∧ (win0_1.index t 0 = t.val % 2 ∧ win0_1.index t 1 = win0_3.index t 1)
    ∧ win0_2.index t 0 = win0_3.index t 0 ∧ win0_2.index t 1 = win0_3.index t 1 := by decide +kernel

/-- The two points of a run have the same block of the result. -/
theorem same_run : ∀ t : Fin grid0.N, t.val % 2 = 1 → ∀ h : t.val - 1 < grid0.N,
    win0_3.index ⟨t.val - 1, h⟩ 0 = win0_3.index t 0 ∧ win0_3.index ⟨t.val - 1, h⟩ 1 = win0_3.index t 1 := by decide +kernel

/-- The arrays the call reads. -/
abbrev left : Mat 4096 4096 := V m c main_arg0
abbrev right : Mat 4096 1024 := V m c main_arg1
abbrev stream : Mat 4096 1024 := V m c main_arg2

/-- The terms of the product's entry `e`. -/
abbrev terms (e : S4096x1024.Idx) (k : Fin 4096) : EReal := left m c (ix2 (e 0) k) * right m c (ix2 k (e 1))

/-- A point's product is its stretch of the terms of the entry where the tile's entry lies. -/
theorem stretch (t : Fin cfg0.N) (y : S1024x512.Idx) (e : S4096x1024.Idx) (he : e = ((cfg0.win 3).blk t).view.emb y) :
    upTo (terms m c e) (t.val % 2 * 2048 + 2048) = upTo (terms m c e) (t.val % 2 * 2048) + nn (iblk m c 0 t) (iblk m c 1 t) y := by
  subst he
  have h := places t
  refine upTo_add _ _ _ _ fun k => ⟨by have := k.isLt; omega, congrArg₂ (· * ·) ?_ ?_⟩
  · refine congrArg (V m c main_arg0) (idx_ext ?_ ?_)
    · exact same_place (win0_0.rect_emb_val t (ix2 (y 0) k) 0) (win0_3.rect_emb_val t y 0) h.1.1
    · exact (win0_0.rect_emb_val t (ix2 (y 0) k) 1).trans (congrArg (· * 2048 + k.val) h.1.2)
  · refine congrArg (V m c main_arg1) (idx_ext ?_ ?_)
    · exact (win0_1.rect_emb_val t (ix2 k (y 1)) 0).trans (congrArg (· * 2048 + k.val) h.2.1.1)
    · exact same_place (win0_1.rect_emb_val t (ix2 k (y 1)) 1) (win0_3.rect_emb_val t y 1) h.2.1.2

/-- The call leaves the stream with the whole product added. -/
theorem final : (dats m 0 c).arrAt 3 cfg0.N = plus (stream m c) (nn (left m c) (right m c)) := by
  refine (dats m 0 c).arrAt_eq_of_covers 3 _ (by decide +kernel) fun t hf y => ?_
  have ht : t.val % 2 = 1 := (flush0_3 t).mp hf
  have hlt : t.val - 1 < cfg0.N := Nat.lt_of_le_of_lt (Nat.sub_le _ _) t.isLt
  have h0 : (t.val - 1) % 2 = 0 := by omega
  have hs := same_run t ht hlt
  have h := places t
  have e : ((cfg0.win 3).blk t).view.emb y = ((cfg0.win 3).blk ⟨t.val - 1, hlt⟩).view.emb y :=
    idx_ext (same_place (win0_3.rect_emb_val t y 0) (win0_3.rect_emb_val ⟨t.val - 1, hlt⟩ y 0) hs.1.symm)
      (same_place (win0_3.rect_emb_val t y 1) (win0_3.rect_emb_val ⟨t.val - 1, hlt⟩ y 1) hs.2.symm)
  have s0 := stretch m c ⟨t.val - 1, hlt⟩ y _ e
  have s1 := stretch m c t y _ rfl
  have sx : iblk m c 2 t y = stream m c (((cfg0.win 3).blk t).view.emb y) :=
    congrArg (V m c main_arg2) (idx_ext (same_place (win0_2.rect_emb_val t y 0) (win0_3.rect_emb_val t y 0) h.2.2.1)
      (same_place (win0_2.rect_emb_val t y 1) (win0_3.rect_emb_val t y 1) h.2.2.2))
  refine (congrFun (after0_3 m c t) y).trans ((stored_last m c t ht y).trans ?_)
  rw [kept_first m c ⟨t.val - 1, hlt⟩ h0, sx]
  simp only [h0, ht, Nat.zero_mul, Nat.zero_add, upTo_zero, zero_add, Nat.one_mul] at s0 s1
  rw [← s0, ← s1, add_comm]
  exact congrArg (_ + ·) (upTo_all _)

end Cert.Kernel6Ideal.Value

namespace Cert.Reference6Ideal.Read

open Cert.Reference6Ideal Cert.Dense

theorem result (r : (⟨S4096x4096, .bf16⟩ : BufTy).Contents (Elt Ideal)) (w : (⟨S4096x1024, .bf16⟩ : BufTy).Contents (Elt Ideal))
    (x : (⟨S4096x1024, .f32⟩ : BufTy).Contents (Elt Ideal)) : val_main_v3 (F := Ideal) r w x = plus x (nn r w) := by
  funext e
  exact congrArg (x e + ·) (congrFun ((dot_eq_matmul _ _ _).trans (matmul_nn _ _ _)) e)

end Cert.Reference6Ideal.Read
-- ==== Proof.ProjClaim.lean ====
/-
  The claims about the projections and the feed-forward layer's second product: the five projection calls that run one
  after another, the input projection's backward product, which contracts in three stretches, and the second product
  forward, which contracts in two.
-/
module

public import proofs.«01_k».proof.Defs
public import proofs.«01_k».proof.Proof.ProjRun
public import proofs.«01_k».proof.Proof.ProjPlain
public import proofs.«01_k».proof.Proof.InputGrad
public import proofs.«01_k».proof.Proof.MlpOut
public import proofs.«01_k».proof.Proof.Gen.Kernel4.Frame
public import proofs.«01_k».proof.Proof.Gen.Reference4Ideal.Run
public import proofs.«01_k».proof.Proof.Gen.Kernel5.Frame
public import proofs.«01_k».proof.Proof.Gen.Reference5Ideal.Run
public import proofs.«01_k».proof.Proof.Gen.Kernel6.Frame
public import proofs.«01_k».proof.Proof.Gen.Reference6Ideal.Run
public import Idealize.ShloMosaic.Adequacy
public import Idealize.ShloMosaic.Init

@[expose] public section

noncomputable section

namespace Cert.Proj

open Idealize.ShloMosaic Idealize.ShloMosaic.ValueIdx Idealize.SL.Sem

theorem kernel_frame4 : Cert.quiescent_Kernel4 (hKernel4 := Cert.Kernel4.Gen.facts) := fun m ρ _ => Cert.Kernel4.Gen.frame m ρ

theorem ideal_frame4 : Cert.quiescent_Kernel4Ideal (hKernel4Ideal := Cert.Kernel4Ideal.Gen.facts) :=
  fun m ρ _ => Cert.Kernel4Ideal.Gen.frame m ρ

theorem reference_frame4 : Cert.quiescent_Reference4Ideal (hReference4Ideal := Cert.Reference4Ideal.Gen.facts) := fun m ρ _ =>
  (θ_run Cert.Reference4Ideal.defs _ _).mono (fun r h => ⟨fun c => (h c).2.2.2.2.2, sem_eq_zero_of_no_sems (by decide) r.2⟩)
    (Cert.Reference4Ideal.Value.run (F := Ideal) m ρ)

theorem same_results4 : Cert.algebraic_Kernel4Ideal_Reference4Ideal (hKernel4Ideal := Cert.Kernel4Ideal.Gen.facts)
    (hReference4Ideal := Cert.Reference4Ideal.Gen.facts) := by
  intro m ρ m' ρ' _ hagree
  refine ⟨_, _, _, _, _, (θ_run Cert.Kernel4Ideal.defs _ _).mono (fun r h c => ⟨
      (h c Cert.Kernel4Ideal.main_v0 (by decide)).trans (Cert.Kernel4Ideal.Value.result_z m ρ c),
      (h c Cert.Kernel4Ideal.main_v1 (by decide)).trans (Cert.Kernel4Ideal.Value.result_x1 m ρ c),
      (h c Cert.Kernel4Ideal.main_v2 (by decide)).trans (Cert.Kernel4Ideal.Value.result_dmerged m ρ c),
      (h c Cert.Kernel4Ideal.main_v3 (by decide)).trans (Cert.Kernel4Ideal.Value.result_gout m ρ c),
      (h c Cert.Kernel4Ideal.main_v4 (by decide)).trans (Cert.Kernel4Ideal.Value.result_gin m ρ c),
      (h c Cert.Kernel4Ideal.main_arg0 (by decide)).trans (Cert.Kernel4Ideal.Gen.W5_main_arg0 m ρ c),
      (h c Cert.Kernel4Ideal.main_arg1 (by decide)).trans (Cert.Kernel4Ideal.Gen.W5_main_arg1 m ρ c),
      (h c Cert.Kernel4Ideal.main_arg2 (by decide)).trans (Cert.Kernel4Ideal.Gen.W5_main_arg2 m ρ c),
      (h c Cert.Kernel4Ideal.main_arg3 (by decide)).trans (Cert.Kernel4Ideal.Gen.W5_main_arg3 m ρ c),
      (h c Cert.Kernel4Ideal.main_arg4 (by decide)).trans (Cert.Kernel4Ideal.Gen.W5_main_arg4 m ρ c),
      (h c Cert.Kernel4Ideal.main_arg5 (by decide)).trans (Cert.Kernel4Ideal.Gen.W5_main_arg5 m ρ c),
      (h c Cert.Kernel4Ideal.main_arg6 (by decide)).trans (Cert.Kernel4Ideal.Gen.W5_main_arg6 m ρ c)⟩)
    (Cert.Kernel4Ideal.Value.run_all m ρ), ?_⟩
  refine (θ_run Cert.Reference4Ideal.defs _ _).mono (fun _ h c => ?_) (Cert.Reference4Ideal.Value.run (F := Ideal) m' ρ')
  obtain ⟨hz, hx, hd, ho, hi, hargs⟩ := h c
  obtain ⟨e0, e1, e2, e3, e4, e5, e6⟩ := hagree c
  refine ⟨hz.trans ?_, hx.trans ?_, hd.trans ?_, ho.trans ?_, hi.trans ?_, hargs⟩
  · rw [Cert.Reference4Ideal.Read.val_main_v2_eq, e1, e3]
    exact Cert.Reference4Ideal.Read.result_z _ _
  · rw [Cert.Reference4Ideal.Read.val_main_v6_eq, e0, e2, e4]
    exact Cert.Reference4Ideal.Read.result_x1 _ _ _
  · rw [Cert.Reference4Ideal.Read.val_main_v10_eq, e4, e5]
    exact Cert.Reference4Ideal.Read.result_dmerged _ _
  · rw [Cert.Reference4Ideal.Read.val_main_v8_eq, e2, e5]
    exact Cert.Reference4Ideal.Read.result_gout _ _
  · rw [Cert.Reference4Ideal.Read.val_main_v13_eq, e1, e6]
    exact Cert.Reference4Ideal.Read.result_gin _ _

theorem kernel_frame5 : Cert.quiescent_Kernel5 (hKernel5 := Cert.Kernel5.Gen.facts) := fun m ρ _ => Cert.Kernel5.Gen.frame m ρ

theorem ideal_frame5 : Cert.quiescent_Kernel5Ideal (hKernel5Ideal := Cert.Kernel5Ideal.Gen.facts) :=
  fun m ρ _ => Cert.Kernel5Ideal.Gen.frame m ρ

theorem reference_frame5 : Cert.quiescent_Reference5Ideal (hReference5Ideal := Cert.Reference5Ideal.Gen.facts) := fun m ρ _ =>
  (θ_run Cert.Reference5Ideal.defs _ _).mono (fun r h => ⟨fun c => (h c).2, sem_eq_zero_of_no_sems (by decide) r.2⟩)
    (Cert.Reference5Ideal.Value.run (F := Ideal) m ρ)

theorem same_results5 : Cert.algebraic_Kernel5Ideal_Reference5Ideal (hKernel5Ideal := Cert.Kernel5Ideal.Gen.facts)
    (hReference5Ideal := Cert.Reference5Ideal.Gen.facts) := by
  intro m ρ m' ρ' _ hagree
  refine ⟨_, Cert.Kernel5Ideal.Value.run_blocks (F := Ideal) m ρ, ?_⟩
  refine (θ_run Cert.Reference5Ideal.defs _ _).mono (fun _ h c => ?_) (Cert.Reference5Ideal.Value.run (F := Ideal) m' ρ')
  obtain ⟨hd, hargs⟩ := h c
  obtain ⟨e0, e1⟩ := hagree c
  refine ⟨hd.trans ?_, hargs⟩
  rw [Cert.Reference5Ideal.Read.val_main_v4_eq, e0, e1, Cert.Kernel5Ideal.Value.final m c]
  exact Cert.Reference5Ideal.Read.result _ _

theorem kernel_frame6 : Cert.quiescent_Kernel6 (hKernel6 := Cert.Kernel6.Gen.facts) := fun m ρ _ => Cert.Kernel6.Gen.frame m ρ

theorem ideal_frame6 : Cert.quiescent_Kernel6Ideal (hKernel6Ideal := Cert.Kernel6Ideal.Gen.facts) :=
  fun m ρ _ => Cert.Kernel6Ideal.Gen.frame m ρ

theorem reference_frame6 : Cert.quiescent_Reference6Ideal (hReference6Ideal := Cert.Reference6Ideal.Gen.facts) := fun m ρ _ =>
  (θ_run Cert.Reference6Ideal.defs _ _).mono (fun r h => ⟨fun c => (h c).2, sem_eq_zero_of_no_sems (by decide) r.2⟩)
    (Cert.Reference6Ideal.Value.run (F := Ideal) m ρ)

theorem same_results6 : Cert.algebraic_Kernel6Ideal_Reference6Ideal (hKernel6Ideal := Cert.Kernel6Ideal.Gen.facts)
    (hReference6Ideal := Cert.Reference6Ideal.Gen.facts) := by
  intro m ρ m' ρ' _ hagree
  refine ⟨_, Cert.Kernel6Ideal.Value.run_blocks (F := Ideal) m ρ, ?_⟩
  refine (θ_run Cert.Reference6Ideal.defs _ _).mono (fun _ h c => ?_) (Cert.Reference6Ideal.Value.run (F := Ideal) m' ρ')
  obtain ⟨hd, hargs⟩ := h c
  obtain ⟨e0, e1, e2⟩ := hagree c
  refine ⟨hd.trans ?_, hargs⟩
  rw [Cert.Reference6Ideal.Read.val_main_v3_eq, e0, e1, e2, Cert.Kernel6Ideal.Value.final m c]
  exact Cert.Reference6Ideal.Read.result _ _ _

end Cert.Proj

end
-- ==== Proof.Delta.lean ====
/-
  One chunk of one head of the gated delta rule, backwards, as plain mathematics over the extended reals.

  A chunk has 64 rows. Its head starts from a state `S` and its prepared rows `u, w, qd, kd, sc` and `a`:
  the value rows are `v = u - w S`, the output rows `o = qd S + a v`, and the state left behind is
  `sc ∘ S + kdᵀ v`, the factor `sc` written once for each of the 64 rows and used for both halves of the state.
  The output is normalised row by row, scaled by `ng` and gated by `x · sigmoid x`. `g` is the cotangent of the
  gated output, `dS` the cotangent of the state left behind. Below are the cotangents of everything else.
-/
module

public import proofs.«01_k».proof.Proof.Dense
public import proofs.«01_k».proof.Proof.GateMath

@[expose] public section

noncomputable section

open Idealize.ShloMosaic Idealize.ShloMosaic.ValueIdx Cert.Dense
open scoped BigOperators

namespace Cert.Delta

/-- What one head of one chunk is given. -/
structure Head where
  S : Mat 128 128
  u : Mat 64 128
  w : Mat 64 128
  qd : Mat 64 128
  kd : Mat 64 128
  sc : Mat 64 128
  gate : Mat 64 128
  g : Mat 64 128
  a : Mat 64 64
  ng : Mat 1 128
  dS : Mat 128 128

/-- The number of columns a mean is taken over, as both programs' constant. -/
def width : EReal := Ideal.ofBits .f32 0x43000000#32

/-- What is added to the mean square. -/
def eps : EReal := Ideal.ofBits .f32 0x358637BD#32

/-- Minus one half. -/
def neghalf : EReal := Ideal.ofBits .f32 0xBF000000#32

/-- Row `i` of the state's upper half, and of its lower. -/
def upper (i : Fin 64) : Fin 128 := ⟨i.val, by have := i.isLt; omega⟩
def lower (i : Fin 64) : Fin 128 := ⟨64 + i.val, by have := i.isLt; omega⟩

/-- The row of the factor that a row of the state has. -/
def half (i : Fin 128) : Fin 64 := ⟨i.val % 64, Nat.mod_lt _ (by omega)⟩

namespace Head

variable (H : Head)

/-! ## The chunk forwards -/

/-- The value rows. -/
def v : Mat 64 128 := fun e => H.u e - nn H.w H.S e

/-- The output rows. -/
def o : Mat 64 128 := plus (nn H.qd H.S) (nn H.a H.v)

/-- A row's mean square with `eps` added, and the reciprocal root of it. -/
def ms (r : Fin 64) : EReal := Ideal.div (∑ d : Fin 128, H.o (ix2 r d) * H.o (ix2 r d)) width + eps
def inv (r : Fin 64) : EReal := Ideal.rsqrt (H.ms r)

/-- The derivative of the reciprocal root. -/
def invSlope (r : Fin 64) : EReal := neghalf * Ideal.div (H.inv r) (H.ms r)

/-- The normalised rows, and the same scaled. -/
def normed : Mat 64 128 := fun e => H.o e * H.inv (e 0)
def scaled : Mat 64 128 := fun e => H.normed e * H.ng (ix2 0 (e 1))

/-- The gate. -/
def silu : Mat 64 128 := fun e => H.gate e * Merge.gate (H.gate e)

/-! ## The gate and the norm backwards -/

/-- The cotangent of the gate's input. -/
def dGate : Mat 64 128 := fun e =>
  H.scaled e * H.g e * Merge.gate (H.gate e)
    + H.gate e * (H.scaled e * H.g e) * (Merge.gate (H.gate e) * (1 - Merge.gate (H.gate e)))

/-- The cotangent of the scaled rows. -/
def dScaled : Mat 64 128 := fun e => H.g e * H.silu e

/-- The cotangent of the scale, over this chunk's rows. -/
def dNg (c : Fin 128) : EReal := ∑ r : Fin 64, H.normed (ix2 r c) * H.dScaled (ix2 r c)

/-- The cotangent of the normalised rows. -/
def dNormed : Mat 64 128 := fun e => H.dScaled e * H.ng (ix2 0 (e 1))

/-- What a row's mean square passes back to each entry, up to the entry itself twice. -/
def coef (r : Fin 64) : EReal := Ideal.div ((∑ d : Fin 128, H.o (ix2 r d) * H.dNormed (ix2 r d)) * H.invSlope r) width

/-- The cotangent of the output rows. -/
def dO : Mat 64 128 := fun e => H.dNormed e * H.inv (e 0) + H.o e * H.coef (e 0) + H.coef (e 0) * H.o e

/-! ## The recurrence backwards -/

/-- The cotangent of the value rows, which is that of `u`; and its negative. -/
def dU : Mat 64 128 := plus (nn H.kd H.dS) (tn H.a H.dO)
def negU : Mat 64 128 := fun e => -H.dU e

def dW : Mat 64 128 := nt H.negU H.S
def dQd : Mat 64 128 := nt H.dO H.S
def dKd : Mat 64 128 := nt H.v H.dS
def dA : Mat 64 64 := nt H.dO H.v

/-- The cotangent of the factor: both halves of the state. -/
def dSc : Mat 64 128 := fun e =>
  H.S (ix2 (upper (e 0)) (e 1)) * H.dS (ix2 (upper (e 0)) (e 1)) + H.S (ix2 (lower (e 0)) (e 1)) * H.dS (ix2 (lower (e 0)) (e 1))

/-- The cotangent of the state the chunk starts from. -/
def back : Mat 128 128 := fun e =>
  H.dS e * H.sc (ix2 (half (e 0)) (e 1)) + tn H.qd H.dO e + tn H.w H.negU e

end Head

end Cert.Delta
-- ==== Proof.DeltaBody.lean ====
/-
  The operations with which the kernel's body treats one head of a chunk, written once for any head, and what
  they compute: the cotangents of `Delta.lean`.

  The body takes `w S` and `qd S` in one product of 128 rows, `w` above `qd`, and likewise the cotangents of `w`
  and `qd` in one product, the negated cotangent of `u` above the cotangent of the output. The latter is formed by
  adding two arrays of 128 rows, each half zero.
-/
module

public import proofs.«01_k».proof.Proof.Gen.Kernel7Ideal.Skeleton
public import proofs.«01_k».proof.Proof.Delta
public import Idealize.ShloMosaic.Lib.ValueIdx
public import Idealize.ShloMosaic.Lib.ValueLayout
public import Idealize.ShloMosaic.Lib.ValueLayoutCasts
public import Idealize.ShloMosaic.Lib.Pipeline.Value
public import proofs.«01_k».proof.Proof.Tile

@[expose] public section

set_option maxRecDepth 16384

noncomputable section

open Idealize.ShloMosaic Idealize.ShloMosaic.TcCoe Idealize.ShloMosaic.Tactic Idealize.ShloMosaic.ValueIdx
open Cert.Kernel7Ideal Cert.Kernel7Ideal.Gen Cert.Dense
open scoped BigOperators

namespace Cert.Delta.Body

variable (H : Head)

/-! ## The operations -/

abbrev Rows := FVec Ideal S64x128 .f32
abbrev Full := FVec Ideal S128x128 .f32
abbrev Col := FVec Ideal S64x1 .f32

/-- One array of 64 rows above another. -/
def above (a b : Rows) : Full :=
  concatenate S128x128 0 [⟨S64x128, a⟩, ⟨S64x128, b⟩] concatenates_S64x128_S64x128_S128x128_d0

/-- The upper rows of an array, and the lower. -/
def top (x : Full) : Rows := extractStridedSlice S64x128 ![0, 0] x slices_S128x128_o0_0_S64x128
def bottom (x : Full) : Rows := extractStridedSlice S64x128 ![64, 0] x slices_S128x128_o64_0_S64x128

/-- A constant in every entry. -/
def fill (b : BitVec 32) : Rows := broadcast S64x128 (Scalar.ofBits .f32 b : Ideal .f32)
def fillCol (b : BitVec 32) : Col := broadcast S64x1 (Scalar.ofBits .f32 b : Ideal .f32)

/-- The sum of each row. -/
def rowSum (x : Rows) : Col :=
  shapeCast S64x1 (multiReduction .add [1] S64 x 0x00000000#32 reduces_S64x128_S64 (.inl rfl) rfl) shapeCasts_S64_S64x1

/-- A column repeated along the rows, and a row repeated down the columns. -/
def along (x : Col) : Rows := broadcastTo S64x128 x broadcasts_S64x1_S64x128
def down (x : FVec Ideal S1x128 .f32) : Rows := broadcastTo S64x128 x broadcasts_S1x128_S64x128

def onState : Full :=
  matmul (φ₁ := .bf16) (φ₂ := .bf16) dot_S128x128_S128x128_S128x128_1_0_0_1_n_n none (truncf .bf16 (above H.w H.qd) bitsLt_bf16_f32) (truncf (φ := .f32) .bf16 H.S bitsLt_bf16_f32)
    (constant S128x128 .f32 0x00000000#32)

def v : Rows := subf (φ := .f32) H.u (top (onState H))

def o : Rows :=
  addf (bottom (onState H)) (matmul dot_S64x64_S64x128_S64x128_1_0_0_1_n_n none (truncf (φ := .f32) .bf16 H.a bitsLt_bf16_f32)
    (truncf .bf16 (v H) bitsLt_bf16_f32) (constant S64x128 .f32 0x00000000#32))

def ms : Col := addf (divf (rowSum (mulf (o H) (o H))) (fillCol 0x43000000#32)) (fillCol 0x358637BD#32)
def inv : Col := rsqrt (ms H)
def invSlope : Col := mulf (fillCol 0xBF000000#32) (divf (inv H) (ms H))
def normed : Rows := mulf (o H) (along (inv H))
def scaled : Rows := mulf (normed H) (down H.ng)

def ex : Rows := exp (subf (φ := .f32) (fill 0x00000000#32) H.gate)
def onePlus : Rows := addf (fill 0x3F800000#32) (ex H)
def sig : Rows := divf (fill 0x3F800000#32) (onePlus H)
def sigSq : Rows := divf (fill 0x3F800000#32) (mulf (onePlus H) (onePlus H))
def silu : Rows := mulf (φ := .f32) H.gate (sig H)

def dScaled : Rows := mulf (φ := .f32) H.g (silu H)

def dGate : Rows :=
  addf (mulf (mulf (φ := .f32) (scaled H) H.g) (sig H))
    (subf (fill 0x00000000#32) (mulf (subf (fill 0x00000000#32)
      (mulf (mulf (mulf (φ := .f32) H.gate (mulf (φ := .f32) (scaled H) H.g)) (sigSq H)) (fill 0x3F800000#32))) (ex H)))

def dNg : FVec Ideal S1x128 .f32 :=
  shapeCast S1x128 (multiReduction .add [0] S128 (mulf (normed H) (dScaled H)) 0x00000000#32 reduces_S64x128_S128 (.inl rfl) rfl) shapeCasts_S128_S1x128

def dNormed : Rows := mulf (dScaled H) (down H.ng)

def coef : Rows :=
  along (shapeCast S64x1 (multiReduction .add [1] S64
    (divf (mulf (rowSum (mulf (o H) (dNormed H))) (invSlope H)) (fillCol 0x43000000#32)) 0x00000000#32 reduces_S64x1_S64 (.inl rfl) rfl) shapeCasts_S64_S64x1)

def dO : Rows := addf (addf (mulf (dNormed H) (along (inv H))) (mulf (o H) (coef H))) (mulf (coef H) (o H))

def dS : Full := shapeCast (α := Ideal .f32) S128x128 H.dS shapeCasts_S128x128_S128x128

def dKd : Rows :=
  matmul dot_S64x128_S128x128_S64x128_1_1_0_0_n_n none (truncf .bf16 (v H) bitsLt_bf16_f32) (truncf .bf16 (dS H) bitsLt_bf16_f32) (constant S64x128 .f32 0x00000000#32)

def dU : Rows :=
  addf (matmul dot_S64x128_S128x128_S64x128_1_0_0_1_n_n none (truncf (φ := .f32) .bf16 H.kd bitsLt_bf16_f32) (truncf .bf16 (dS H) bitsLt_bf16_f32) (constant S64x128 .f32 0x00000000#32))
    (matmul dot_S64x64_S64x128_S64x128_0_0_1_1_n_n none (truncf (φ := .f32) .bf16 H.a bitsLt_bf16_f32) (truncf .bf16 (dO H) bitsLt_bf16_f32) (constant S64x128 .f32 0x00000000#32))

def dSc : Rows := addf (top (mulf (φ := .f32) H.S (dS H))) (bottom (mulf (φ := .f32) H.S (dS H)))

def dA : FVec Ideal S64x64 .f32 :=
  matmul dot_S64x128_S64x128_S64x64_1_1_0_0_n_n none (truncf .bf16 (dO H) bitsLt_bf16_f32) (truncf .bf16 (v H) bitsLt_bf16_f32) (constant S64x64 .f32 0x00000000#32)

def both : Full :=
  addf (above (fill 0x00000000#32) (dO H)) (above (subf (fill 0x00000000#32) (dU H)) (fill 0x00000000#32))

def pull : Full :=
  matmul (φ₁ := .bf16) (φ₂ := .bf16) dot_S128x128_S128x128_S128x128_1_1_0_0_n_n none (truncf .bf16 (both H) bitsLt_bf16_f32) (truncf (φ := .f32) .bf16 H.S bitsLt_bf16_f32)
    (constant S128x128 .f32 0x00000000#32)

def dW : Rows := top (pull H)
def dQd : Rows := bottom (pull H)

def back : Full :=
  addf (mulf (dS H) (above H.sc H.sc))
    (matmul dot_S128x128_S128x128_S128x128_0_0_1_1_n_n none (truncf .bf16 (above H.w H.qd) bitsLt_bf16_f32) (truncf .bf16 (both H) bitsLt_bf16_f32)
      (constant S128x128 .f32 0x00000000#32))

/-! ## The two halves of 128 rows -/

theorem above_upper (a b : Rows) (i : Fin 64) (j : Fin 128) : above a b (ix2 (upper i) j) = a (ix2 i j) := by
  refine concatenate_pair_apply_left 0 a b _ (ix2 (upper i) j) rfl (ix2 i j) fun c => ?_
  match c with
  | ⟨0, _⟩ => rfl
  | ⟨1, _⟩ => rfl

theorem above_lower (a b : Rows) (i : Fin 64) (j : Fin 128) : above a b (ix2 (lower i) j) = b (ix2 i j) := by
  refine concatenate_pair_apply_right 0 a b _ (ix2 (lower i) j) rfl rfl (ix2 i j) (fun c hc => ?_) ?_
  · match c, hc with
    | ⟨0, _⟩, hc => exact absurd rfl hc
    | ⟨1, _⟩, _ => rfl
  · show i.val + 64 = 64 + i.val; omega

theorem top_apply (x : Full) (i : Fin 64) (j : Fin 128) : top x (ix2 i j) = x (ix2 (upper i) j) := by
  refine extractStridedSlice_apply _ x _ _ (ix2 (upper i) j) fun a => ?_
  match a with
  | ⟨0, _⟩ => show i.val = 0 + i.val; omega
  | ⟨1, _⟩ => show j.val = 0 + j.val; omega

theorem bottom_apply (x : Full) (i : Fin 64) (j : Fin 128) : bottom x (ix2 i j) = x (ix2 (lower i) j) := by
  refine extractStridedSlice_apply _ x _ _ (ix2 (lower i) j) fun a => ?_
  match a with
  | ⟨0, _⟩ => rfl
  | ⟨1, _⟩ => show j.val = 0 + j.val; omega

/-- A row of the state is one of the upper half or one of the lower. -/
theorem upper_or_lower (k : Fin 128) : (∃ i, k = upper i) ∨ ∃ i, k = lower i := by
  by_cases h : k.val < 64
  · exact .inl ⟨⟨k.val, h⟩, rfl⟩
  · exact .inr ⟨⟨k.val - 64, by have := k.isLt; omega⟩, Fin.ext (by show k.val = 64 + (k.val - 64); omega)⟩

theorem half_upper (i : Fin 64) : half (upper i) = i := Fin.ext (Nat.mod_eq_of_lt i.isLt)
theorem half_lower (i : Fin 64) : half (lower i) = i := Fin.ext (by
  show (64 + i.val) % 64 = i.val; have := i.isLt; omega)

/-- A sum over 128 rows, half by half. -/
theorem sum_halves (f : Fin 128 → EReal) : ∑ k, f k = (∑ i, f (upper i)) + ∑ i, f (lower i) :=
  (Fin.sum_univ_add (a := 64) (b := 64) f).trans rfl

/-! ## Constants, sums and repetitions -/

/-- Two arrays with the same entries. -/
theorem ext2 {M N : ℕ} {x y : Mat M N} (h : ∀ i j, x (ix2 i j) = y (ix2 i j)) : x = y :=
  funext fun e => by rw [eq_ix2 e]; exact h _ _

theorem fill_apply (b : BitVec 32) (y : S64x128.Idx) : fill b y = Ideal.ofBits .f32 b := rfl
theorem fillCol_apply (b : BitVec 32) (y : S64x1.Idx) : fillCol b y = Ideal.ofBits .f32 b := rfl

theorem rowSum_apply (x : Rows) (r : Fin 64) : rowSum x (ix2 r 0) = ∑ d : Fin 128, x (ix2 r d) := by
  refine (shapeCast_a_a1_apply _ _ _ _).trans ((Ideal.multiReduction_add_single x _ _ _ _ _).trans ?_)
  refine Finset.sum_congr rfl fun d _ => congrArg x (funext fun a => ?_)
  match a with
  | ⟨0, _⟩ => rfl
  | ⟨1, _⟩ => rfl

theorem along_apply (x : Col) (r : Fin 64) (d : Fin 128) : along x (ix2 r d) = x (ix2 r 0) := by
  refine broadcastTo_apply x _ (ix2 r d) (ix2 r 0) fun a => ?_
  match a with
  | ⟨0, _⟩ => rfl
  | ⟨1, _⟩ => rfl

theorem down_apply (x : FVec Ideal S1x128 .f32) (r : Fin 64) (d : Fin 128) : down x (ix2 r d) = x (ix2 0 d) :=
  broadcastTo_1b_ab_apply x _ r d

/-- The sum of a column of one entry per row, laid along the rows. -/
theorem along_one (x : Col) (r : Fin 64) (d : Fin 128) :
    along (shapeCast S64x1 (multiReduction .add [1] S64 x 0x00000000#32 reduces_S64x1_S64 (.inl rfl) rfl) shapeCasts_S64_S64x1) (ix2 r d)
      = x (ix2 r 0) := by
  refine (along_apply _ _ _).trans ((shapeCast_a_a1_apply _ _ _ _).trans ((Ideal.multiReduction_add_single x _ _ _ _ _).trans ?_))
  refine (Fin.sum_univ_one _).trans (congrArg x (funext fun a => ?_))
  match a with
  | ⟨0, _⟩ => rfl
  | ⟨1, _⟩ => rfl

/-- The sum of each column. -/
theorem colSum_apply (x : Rows) (c : Fin 128) :
    shapeCast S1x128 (multiReduction .add [0] S128 x 0x00000000#32 reduces_S64x128_S128 (.inl rfl) rfl) shapeCasts_S128_S1x128 (ix2 0 c)
      = ∑ r : Fin 64, x (ix2 r c) := by
  refine (shapeCast_a_1a_apply _ _ _ _).trans ((Ideal.multiReduction_add_single x _ _ _ _ _).trans ?_)
  refine Finset.sum_congr rfl fun d _ => congrArg x (funext fun a => ?_)
  match a with
  | ⟨0, _⟩ => rfl
  | ⟨1, _⟩ => rfl

/-! ## What they compute -/

theorem onState_eq : onState H = nn (above H.w H.qd) H.S := matmul_nn (φ₁ := .bf16) (φ₂ := .bf16) _ _ _

theorem v_eq : v H = H.v := ext2 fun r c => by
  unfold v Head.v
  rw [subf_apply, top_apply, onState_eq]
  refine congrArg (fun x : EReal => H.u (ix2 r c) - x) (Finset.sum_congr rfl fun k _ => ?_)
  exact congrArg (· * _) (above_upper _ _ r k)

theorem o_eq : o H = H.o := ext2 fun r c => by
  unfold o Head.o
  rw [addf_apply, bottom_apply, onState_eq, v_eq]
  refine congrArg₂ (fun a b : EReal => a + b) (Finset.sum_congr rfl fun k _ => ?_) (congrFun (matmul_nn (φ₁ := .bf16) (φ₂ := .bf16) _ _ _) _)
  exact congrArg (· * _) (above_lower _ _ r k)

theorem ms_apply (r : Fin 64) : ms H (ix2 r 0) = H.ms r := by
  unfold ms Head.ms
  rw [addf_apply, divf_apply, rowSum_apply, o_eq]
  rfl

theorem inv_apply (r : Fin 64) : inv H (ix2 r 0) = H.inv r := congrArg Ideal.rsqrt (ms_apply H r)

theorem invSlope_apply (r : Fin 64) : invSlope H (ix2 r 0) = H.invSlope r := by
  unfold invSlope Head.invSlope
  rw [mulf_apply, divf_apply, inv_apply, ms_apply]
  rfl

theorem normed_eq : normed H = H.normed := ext2 fun r c => by
  unfold normed Head.normed
  rw [mulf_apply, o_eq, along_apply, inv_apply]

theorem scaled_eq : scaled H = H.scaled := ext2 fun r c => by
  unfold scaled Head.scaled
  rw [mulf_apply, normed_eq, down_apply]

theorem ex_apply (e : S64x128.Idx) : ex H e = Ideal.exp (0 - H.gate e) := by
  have : ex H e = Ideal.exp (Ideal.ofBits .f32 0x00000000#32 - H.gate e) := rfl
  rw [this, Ideal.ofBits_zero_f32]

theorem onePlus_apply (e : S64x128.Idx) : onePlus H e = 1 + Ideal.exp (0 - H.gate e) := by
  have : onePlus H e = Ideal.ofBits .f32 0x3F800000#32 + Ideal.exp (Ideal.ofBits .f32 0x00000000#32 - H.gate e) := rfl
  rw [this, Merge.one_f32, Ideal.ofBits_zero_f32]

theorem sig_apply (e : S64x128.Idx) : sig H e = Merge.gate (H.gate e) := by
  unfold sig Merge.gate
  rw [divf_apply, onePlus_apply, fill_apply, Merge.one_f32, zero_sub]

theorem dScaled_eq : dScaled H = H.dScaled := funext fun e => by
  unfold dScaled silu Head.dScaled Head.silu
  rw [mulf_apply, mulf_apply, sig_apply]

theorem dGate_eq : dGate H = H.dGate := funext fun e => by
  unfold dGate sigSq Head.dGate
  rw [← Merge.chain]
  simp only [addf_apply, subf_apply, mulf_apply, divf_apply, onePlus_apply, ex_apply, sig_apply, scaled_eq, fill_apply, Merge.one_f32, Ideal.ofBits_zero_f32]

theorem dNg_apply (c : Fin 128) : dNg H (ix2 0 c) = H.dNg c := by
  unfold dNg Head.dNg
  rw [colSum_apply, normed_eq, dScaled_eq]; rfl

theorem dNormed_eq : dNormed H = H.dNormed := ext2 fun r c => by
  unfold dNormed Head.dNormed
  rw [mulf_apply, dScaled_eq, down_apply]

theorem coef_apply (r : Fin 64) (c : Fin 128) : coef H (ix2 r c) = H.coef r := by
  unfold coef Head.coef
  rw [along_one, divf_apply, mulf_apply, rowSum_apply, invSlope_apply, o_eq, dNormed_eq]
  rfl

theorem dO_eq : dO H = H.dO := ext2 fun r c => by
  unfold dO Head.dO
  rw [addf_apply, addf_apply, mulf_apply, mulf_apply, mulf_apply, along_apply, inv_apply, coef_apply, o_eq, dNormed_eq]

theorem dS_eq : dS H = H.dS := shapeCast_self _ _

theorem dKd_eq : dKd H = H.dKd := by
  unfold dKd Head.dKd
  rw [v_eq, dS_eq]
  exact matmul_nt (φ₁ := .bf16) (φ₂ := .bf16) _ _ _

theorem dU_eq : dU H = H.dU := funext fun e => by
  unfold dU Head.dU
  rw [addf_apply, dO_eq, dS_eq]
  exact congrArg₂ (fun a b : EReal => a + b) (congrFun (matmul_nn (φ₁ := .bf16) (φ₂ := .bf16) _ _ _) e)
    (congrFun (matmul_tn (φ₁ := .bf16) (φ₂ := .bf16) _ _ _) e)

theorem dSc_eq : dSc H = H.dSc := ext2 fun r c => by
  unfold dSc Head.dSc
  rw [addf_apply, top_apply, bottom_apply, dS_eq]; rfl

theorem dA_eq : dA H = H.dA := by
  unfold dA Head.dA
  rw [v_eq, dO_eq]
  exact matmul_nt (φ₁ := .bf16) (φ₂ := .bf16) _ _ _

theorem both_upper (i : Fin 64) (c : Fin 128) : both H (ix2 (upper i) c) = H.negU (ix2 i c) := by
  unfold both Head.negU
  rw [addf_apply, above_upper, above_upper, subf_apply, fill_apply, Ideal.ofBits_zero_f32, dU_eq]
  exact (zero_add _).trans (zero_sub _)

theorem both_lower (i : Fin 64) (c : Fin 128) : both H (ix2 (lower i) c) = H.dO (ix2 i c) := by
  unfold both
  rw [addf_apply, above_lower, above_lower, fill_apply, Ideal.ofBits_zero_f32, dO_eq]
  exact add_zero _

theorem pull_eq : pull H = nt (both H) H.S := matmul_nt (φ₁ := .bf16) (φ₂ := .bf16) _ _ _

theorem dW_eq : dW H = H.dW := ext2 fun r c => by
  unfold dW Head.dW
  rw [top_apply, pull_eq]
  exact Finset.sum_congr rfl fun k _ => congrArg (· * _) (both_upper H r k)

theorem dQd_eq : dQd H = H.dQd := ext2 fun r c => by
  unfold dQd Head.dQd
  rw [bottom_apply, pull_eq]
  exact Finset.sum_congr rfl fun k _ => congrArg (· * _) (both_lower H r k)

theorem above_same (x : Rows) (i : Fin 128) (c : Fin 128) : above x x (ix2 i c) = x (ix2 (half i) c) := by
  rcases upper_or_lower i with ⟨j, rfl⟩ | ⟨j, rfl⟩
  · rw [above_upper, half_upper]
  · rw [above_lower, half_lower]

theorem back_eq : back H = H.back := ext2 fun i c => by
  have hm : (matmul (φ₁ := .bf16) (φ₂ := .bf16) dot_S128x128_S128x128_S128x128_0_0_1_1_n_n none (truncf .bf16 (above H.w H.qd) bitsLt_bf16_f32)
      (truncf .bf16 (both H) bitsLt_bf16_f32) (constant S128x128 .f32 0x00000000#32) : Full) = tn (above H.w H.qd) (both H) :=
    matmul_tn (φ₁ := .bf16) (φ₂ := .bf16) _ _ _
  have hs : tn (above H.w H.qd) (both H) (ix2 i c) = tn H.w H.negU (ix2 i c) + tn H.qd H.dO (ix2 i c) := by
    refine (sum_halves _).trans (congrArg₂ (fun a b : EReal => a + b) (Finset.sum_congr rfl fun k _ => ?_) (Finset.sum_congr rfl fun k _ => ?_))
    · exact congrArg₂ (· * ·) (above_upper _ _ k i) (both_upper H k c)
    · exact congrArg₂ (· * ·) (above_lower _ _ k i) (both_lower H k c)
  unfold back Head.back
  rw [addf_apply, mulf_apply, hm, hs, dS_eq, above_same, add_comm (tn H.w _ _), ← add_assoc]

end Cert.Delta.Body
-- ==== Proof.DeltaPoint.lean ====
/-
  What the delta rule's backward body is given at a grid point, and what it leaves there, in terms of the
  operations of `DeltaBody.lean`: definitions shared by the first point, which starts from a state cotangent of
  zero, and the later ones, which start from what the point before left in the scratch.
-/
module

public import proofs.«01_k».proof.Proof.Gen.Kernel7Ideal.Value
public import proofs.«01_k».proof.Proof.DeltaBody
public import Idealize.ShloMosaic.Lib.ValueIdx
public import Idealize.ShloMosaic.Lib.Pipeline.ValueKit.Acc
public import Idealize.ShloMosaic.Lib.Pipeline.ValueKit.Geometry

@[expose] public section
set_option maxRecDepth 16384
noncomputable section
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel7Ideal Cert.Kernel7Ideal.Gen

namespace Cert.Delta.Run

variable (m : (ℓ : Loc nD τ sig) → Buf (Elt Ideal) ℓ) (c : Dev nD) (t : Fin cfg0.N)
/-- The head of columns `o` to `o + 128` of the point's blocks, given its state, its in-chunk scores and the
    cotangent of the state it leaves. -/
def headAt (o : ℕ) (h : S64x512.Slices ![0, o] S64x128) (S : Body.Full) (a : FVec Ideal S64x64 .f32) (dS : Body.Full) : Head where
  S := S
  u := extractStridedSlice S64x128 ![0, o] (iblk m c 0 t) h
  w := extractStridedSlice S64x128 ![0, o] (iblk m c 1 t) h
  qd := extractStridedSlice S64x128 ![0, o] (iblk m c 2 t) h
  kd := extractStridedSlice S64x128 ![0, o] (iblk m c 3 t) h
  sc := extractStridedSlice S64x128 ![0, o] (iblk m c 4 t) h
  gate := extractStridedSlice S64x128 ![0, o] (X0_6 m c t) h
  g := extractStridedSlice S64x128 ![0, o] (iblk m c 9 t) h
  a := a
  ng := iblk m c 7 t
  dS := dS

/-- The four heads, the cotangents of their states being the four layers `D` is read at. -/
def heads (D : Fin 4 → S1x128x128.Idx → EReal) : Fin 4 → Head :=
  ![headAt m c t 0 slices_S64x512_o0_0_S64x128
      (shapeCast S128x128 (View.ld (iblk m c 8 t) (Rect.unit ![0, 0, 0, 0] ![1, 1, 128, 128] inb_S1x4x128x128_S1x1x128x128_0_0_0_0)) shapeCasts_S1x1x128x128_S128x128)
      (shapeCast S64x64 (View.ld (iblk m c 5 t) (Rect.unit ![0, 0, 0] ![1, 64, 64] inb_S4x64x64_S1x64x64_0_0_0)) shapeCasts_S1x64x64_S64x64)
      (shapeCast S128x128 (D 0) shapeCasts_S1x128x128_S128x128),
    headAt m c t 128 slices_S64x512_o0_128_S64x128
      (shapeCast S128x128 (View.ld (iblk m c 8 t) (Rect.unit ![0, 1, 0, 0] ![1, 1, 128, 128] inb_S1x4x128x128_S1x1x128x128_0_1_0_0)) shapeCasts_S1x1x128x128_S128x128)
      (shapeCast S64x64 (View.ld (iblk m c 5 t) (Rect.unit ![1, 0, 0] ![1, 64, 64] inb_S4x64x64_S1x64x64_1_0_0)) shapeCasts_S1x64x64_S64x64)
      (shapeCast S128x128 (D 1) shapeCasts_S1x128x128_S128x128),
    headAt m c t 256 slices_S64x512_o0_256_S64x128
      (shapeCast S128x128 (View.ld (iblk m c 8 t) (Rect.unit ![0, 2, 0, 0] ![1, 1, 128, 128] inb_S1x4x128x128_S1x1x128x128_0_2_0_0)) shapeCasts_S1x1x128x128_S128x128)
      (shapeCast S64x64 (View.ld (iblk m c 5 t) (Rect.unit ![2, 0, 0] ![1, 64, 64] inb_S4x64x64_S1x64x64_2_0_0)) shapeCasts_S1x64x64_S64x64)
      (shapeCast S128x128 (D 2) shapeCasts_S1x128x128_S128x128),
    headAt m c t 384 slices_S64x512_o0_384_S64x128
      (shapeCast S128x128 (View.ld (iblk m c 8 t) (Rect.unit ![0, 3, 0, 0] ![1, 1, 128, 128] inb_S1x4x128x128_S1x1x128x128_0_3_0_0)) shapeCasts_S1x1x128x128_S128x128)
      (shapeCast S64x64 (View.ld (iblk m c 5 t) (Rect.unit ![3, 0, 0] ![1, 64, 64] inb_S4x64x64_S1x64x64_3_0_0)) shapeCasts_S1x64x64_S64x64)
      (shapeCast S128x128 (D 3) shapeCasts_S1x128x128_S128x128)]

/-- The layer at `off` of a scratch just filled with zeros. -/
def zeroLayer (off : Fin 3 → ℕ) (h : ∀ a, off a + S1x128x128.size a ≤ S4x128x128.size a) : S1x128x128.Idx → EReal := by
  exact (View.whole cc0_scratch0).readCov (Val := Elt Ideal) [⟨Rect.unit ![0, 0, 0] ![4, 128, 128] inb_S4x128x128_S4x128x128_0_0_0, k0_pay3 (F := Ideal)⟩]
      (Rect.unit off ![1, 128, 128] h).toLoadRect

/-- The layers read at a point that first fills the scratch with zeros. -/
def zeros : Fin 4 → S1x128x128.Idx → EReal :=
  ![zeroLayer ![0, 0, 0] inb_S4x128x128_S1x128x128_0_0_0, zeroLayer ![1, 0, 0] inb_S4x128x128_S1x128x128_1_0_0,
    zeroLayer ![2, 0, 0] inb_S4x128x128_S1x128x128_2_0_0, zeroLayer ![3, 0, 0] inb_S4x128x128_S1x128x128_3_0_0]

/-- The layers of what the point before left in the scratch. -/
def layers (X : S4x128x128.Idx → EReal) : Fin 4 → S1x128x128.Idx → EReal :=
  ![View.ld (Val := Elt Ideal) (S := S4x128x128) (e' := .f32) X (Rect.unit ![0, 0, 0] ![1, 128, 128] inb_S4x128x128_S1x128x128_0_0_0),
    View.ld (Val := Elt Ideal) (S := S4x128x128) (e' := .f32) X (Rect.unit ![1, 0, 0] ![1, 128, 128] inb_S4x128x128_S1x128x128_1_0_0),
    View.ld (Val := Elt Ideal) (S := S4x128x128) (e' := .f32) X (Rect.unit ![2, 0, 0] ![1, 128, 128] inb_S4x128x128_S1x128x128_2_0_0),
    View.ld (Val := Elt Ideal) (S := S4x128x128) (e' := .f32) X (Rect.unit ![3, 0, 0] ![1, 128, 128] inb_S4x128x128_S1x128x128_3_0_0)]

/-- What the point before left in the scratch. -/
def kept : S4x128x128.Idx → EReal := by
  exact View.read (Elt Ideal) (View.whole cc0_scratch0)
    ((Memref.isWhole_whole cc0_scratch0).unread (outsAt0 m c (t.val - 1) (by have := t.isLt; omega)).2.2.2.2.2.2.2.2)

/-- Four heads' arrays side by side, as the body adds them up. -/
def beside (x : Fin 4 → Body.Rows) : FVec Ideal S64x512 .f32 := k0_pay179 (F := Ideal) (x 3) (x 2) (x 1) (x 0)

/-- The sum of the four heads' rows, last head first. -/
def total (x : Fin 4 → FVec Ideal S1x128 .f32) : FVec Ideal S1x128 .f32 := addf (addf (addf (x 3) (x 2)) (x 1)) (x 0)

/-- An array stored as one layer of four. -/
def slab (off : Fin 3 → ℕ) (h : ∀ a, off a + S1x128x128.size a ≤ S4x128x128.size a) (x : Body.Full) : View.Piece (Elt Ideal) S4x128x128 .f32 := by
  exact ⟨Rect.unit off ![1, 128, 128] h, shapeCast (α := Ideal .f32) S1x128x128 x shapeCasts_S128x128_S1x128x128⟩

def slabA (off : Fin 3 → ℕ) (h : ∀ a, off a + S1x64x64.size a ≤ S4x64x64.size a) (x : FVec Ideal S64x64 .f32) : View.Piece (Elt Ideal) S4x64x64 .f32 := by
  exact ⟨Rect.unit off ![1, 64, 64] h, shapeCast (α := Ideal .f32) S1x64x64 x shapeCasts_S64x64_S1x64x64⟩

/-- Four arrays stored as the four layers of one, after the stores `T`. -/
def stack (T : List (View.Piece (Elt Ideal) S4x128x128 .f32)) (x : Fin 4 → Body.Full) : S4x128x128.Idx → EReal :=
  View.canon (Val := Elt Ideal) (e := .f32)
    (slab ![3, 0, 0] inb_S4x128x128_S1x128x128_3_0_0 (x 3) :: slab ![2, 0, 0] inb_S4x128x128_S1x128x128_2_0_0 (x 2) ::
     slab ![1, 0, 0] inb_S4x128x128_S1x128x128_1_0_0 (x 1) :: slab ![0, 0, 0] inb_S4x128x128_S1x128x128_0_0_0 (x 0) :: T)

/-- The first point's store before them: zero everywhere. -/
def blank : View.Piece (Elt Ideal) S4x128x128 .f32 := by
  exact ⟨Rect.unit ![0, 0, 0] ![4, 128, 128] inb_S4x128x128_S4x128x128_0_0_0, k0_pay3 (F := Ideal)⟩

def stackA (x : Fin 4 → FVec Ideal S64x64 .f32) : S4x64x64.Idx → EReal :=
  View.canon (Val := Elt Ideal) (e := .f32)
    [slabA ![3, 0, 0] inb_S4x64x64_S1x64x64_3_0_0 (x 3), slabA ![2, 0, 0] inb_S4x64x64_S1x64x64_2_0_0 (x 2),
     slabA ![1, 0, 0] inb_S4x64x64_S1x64x64_1_0_0 (x 1), slabA ![0, 0, 0] inb_S4x64x64_S1x64x64_0_0_0 (x 0)]

/-- The same sum, with the last head's array spread out beforehand. -/
theorem beside_spread (a b c d : FVec Ideal S64x128 .f32) :
    k0_pay177 (F := Ideal) b c d (k0_pay175 a) (FloatOps.ofBits .f32 0#32) k0_pay176 = k0_pay179 a b c d := rfl

/-- A function of four arguments at equal arguments. -/
theorem four_args {A B C D E : Type} (f : A → B → C → D → E) {a a' b b' c c' d d'} (h1 : a = a') (h2 : b = b') (h3 : c = c') (h4 : d = d') :
    f a b c d = f a' b' c' d' := by
  subst h1 h2 h3 h4; rfl

end Cert.Delta.Run
-- ==== Proof.Stacks.lean ====
/-
  A stack of matrices, and a host's operations over it, read one layer at a time: the batched products, the sums over
  the last axis and over the two leading ones, a chunk read out of a stack of stacks and one written into it.
-/
module

public import proofs.«01_k».proof.Proof.Dense
public import Idealize.ShloMosaic.Lib.ValueIdx
public import Idealize.ShloMosaic.Lib.ValueLayout
public import Idealize.ShloMosaic.Lib.DynamicIndex
public import Idealize.ShloMosaic.Lib.StackMember
public import Idealize.ShloMosaic.Lib.IdealHost

@[expose] public section

noncomputable section

open Idealize.ShloMosaic Idealize.ShloMosaic.ValueIdx Idealize.ShloMosaic.StackMember Cert.Dense
open scoped BigOperators

namespace Cert.Stacks

variable {T G M N K : ℕ} {α : Type}

/-- Layer `h` of a stack of matrices. -/
def layer (X : (⟨3, ![G, M, N]⟩ : Shape).Idx → EReal) (h : Fin G) : Mat M N := fun e => X (ix3 h (e 0) (e 1))

/-- Layer `h` of chunk `n` of a stack of stacks. -/
def chunk (X : (⟨4, ![T, G, M, N]⟩ : Shape).Idx → EReal) (n : Fin T) (h : Fin G) : Mat M N := fun e => X (ix4 n h (e 0) (e 1))

/-- Matrices with equal entries are equal. -/
theorem mat_ext {A B : Mat M N} (h : ∀ (i : Fin M) (j : Fin N), A (ix2 i j) = B (ix2 i j)) : A = B := by
  funext e
  rw [eq_ix2 e]
  exact h (e 0) (e 1)

/-! ## Batched products -/

section Products
variable {φ₁ φ₂ : FTy}

/-- Rows by columns. -/
theorem dot_nn (w : DotDims.WF ⟨3, ![G, M, K]⟩ ⟨3, ![G, K, N]⟩ ⟨3, ![G, M, N]⟩ [2] [1] [1] [2] [0] [0])
    (A : FVec Ideal ⟨3, ![G, M, K]⟩ φ₁) (B : FVec Ideal ⟨3, ![G, K, N]⟩ φ₂) (h : Fin G) :
    layer (Host.dotGeneral (⟨[2], [1], [1], [2], [0], [0], w⟩ : DotDims _ _ _) none A B) h = nn (layer A h) (layer B h) :=
  funext fun e => dotGeneral_stack_apply w none A B h (e 0) (e 1)

/-- Columns by columns. -/
theorem dot_tn_apply (w : DotDims.WF ⟨3, ![G, K, M]⟩ ⟨3, ![G, K, N]⟩ ⟨3, ![G, M, N]⟩ [1] [1] [2] [2] [0] [0])
    (A : FVec Ideal ⟨3, ![G, K, M]⟩ φ₁) (B : FVec Ideal ⟨3, ![G, K, N]⟩ φ₂) (g : Fin G) (a : Fin M) (b : Fin N) :
    Host.dotGeneral (⟨[1], [1], [2], [2], [0], [0], w⟩ : DotDims _ _ _) none A B (ix3 g a b)
      = ∑ c : Fin K, A (ix3 g c a) * B (ix3 g c b) := by
  show FloatOps.dotGeneral _ none _ A B (ix3 g a b) = _
  rw [Ideal.dotGeneral_apply,
    ← Equiv.sum_comp (contrEquiv1 (⟨[1], [1], [2], [2], [0], [0], w⟩ : DotDims _ _ _) K rfl rfl).symm]
  refine Finset.sum_congr rfl fun c _ => ?_
  have c3 := contrEquiv1_symm_val
    (⟨[1], [1], [2], [2], [0], [0], w⟩ : DotDims ⟨3, ![G, K, M]⟩ ⟨3, ![G, K, N]⟩ ⟨3, ![G, M, N]⟩) K rfl rfl c
  have l3 : (⟨[1], [1], [2], [2], [0], [0], w⟩ : DotDims ⟨3, ![G, K, M]⟩ ⟨3, ![G, K, N]⟩ ⟨3, ![G, M, N]⟩).lhsIdx (ix3 g a b)
      ((contrEquiv1 _ K rfl rfl).symm c) = ix3 g c a := by
    funext ax; apply Fin.ext
    match ax with
    | ⟨0, _⟩ => simp [DotDims.lhsIdx]; rfl
    | ⟨1, _⟩ => simp [DotDims.lhsIdx]; exact c3
    | ⟨2, _⟩ => simp [DotDims.lhsIdx]; rfl
  have r3 : (⟨[1], [1], [2], [2], [0], [0], w⟩ : DotDims ⟨3, ![G, K, M]⟩ ⟨3, ![G, K, N]⟩ ⟨3, ![G, M, N]⟩).rhsIdx (ix3 g a b)
      ((contrEquiv1 _ K rfl rfl).symm c) = ix3 g c b := by
    funext ax; apply Fin.ext
    match ax with
    | ⟨0, _⟩ => simp [DotDims.rhsIdx]; rfl
    | ⟨1, _⟩ => simp [DotDims.rhsIdx]; exact c3
    | ⟨2, _⟩ => simp [DotDims.rhsIdx]; rfl
  rw [l3, r3]

/-- Rows by rows. -/
theorem dot_nt_apply (w : DotDims.WF ⟨3, ![G, M, K]⟩ ⟨3, ![G, N, K]⟩ ⟨3, ![G, M, N]⟩ [2] [2] [1] [1] [0] [0])
    (A : FVec Ideal ⟨3, ![G, M, K]⟩ φ₁) (B : FVec Ideal ⟨3, ![G, N, K]⟩ φ₂) (g : Fin G) (a : Fin M) (b : Fin N) :
    Host.dotGeneral (⟨[2], [2], [1], [1], [0], [0], w⟩ : DotDims _ _ _) none A B (ix3 g a b)
      = ∑ c : Fin K, A (ix3 g a c) * B (ix3 g b c) := by
  show FloatOps.dotGeneral _ none _ A B (ix3 g a b) = _
  rw [Ideal.dotGeneral_apply,
    ← Equiv.sum_comp (contrEquiv1 (⟨[2], [2], [1], [1], [0], [0], w⟩ : DotDims _ _ _) K rfl rfl).symm]
  refine Finset.sum_congr rfl fun c _ => ?_
  have c3 := contrEquiv1_symm_val
    (⟨[2], [2], [1], [1], [0], [0], w⟩ : DotDims ⟨3, ![G, M, K]⟩ ⟨3, ![G, N, K]⟩ ⟨3, ![G, M, N]⟩) K rfl rfl c
  have l3 : (⟨[2], [2], [1], [1], [0], [0], w⟩ : DotDims ⟨3, ![G, M, K]⟩ ⟨3, ![G, N, K]⟩ ⟨3, ![G, M, N]⟩).lhsIdx (ix3 g a b)
      ((contrEquiv1 _ K rfl rfl).symm c) = ix3 g a c := by
    funext ax; apply Fin.ext
    match ax with
    | ⟨0, _⟩ => simp [DotDims.lhsIdx]; rfl
    | ⟨1, _⟩ => simp [DotDims.lhsIdx]; rfl
    | ⟨2, _⟩ => simp [DotDims.lhsIdx]; exact c3
  have r3 : (⟨[2], [2], [1], [1], [0], [0], w⟩ : DotDims ⟨3, ![G, M, K]⟩ ⟨3, ![G, N, K]⟩ ⟨3, ![G, M, N]⟩).rhsIdx (ix3 g a b)
      ((contrEquiv1 _ K rfl rfl).symm c) = ix3 g b c := by
    funext ax; apply Fin.ext
    match ax with
    | ⟨0, _⟩ => simp [DotDims.rhsIdx]; rfl
    | ⟨1, _⟩ => simp [DotDims.rhsIdx]; rfl
    | ⟨2, _⟩ => simp [DotDims.rhsIdx]; exact c3
  rw [l3, r3]

/-- Columns by rows. -/
theorem dot_tt_apply (w : DotDims.WF ⟨3, ![G, K, M]⟩ ⟨3, ![G, N, K]⟩ ⟨3, ![G, M, N]⟩ [1] [2] [2] [1] [0] [0])
    (A : FVec Ideal ⟨3, ![G, K, M]⟩ φ₁) (B : FVec Ideal ⟨3, ![G, N, K]⟩ φ₂) (g : Fin G) (a : Fin M) (b : Fin N) :
    Host.dotGeneral (⟨[1], [2], [2], [1], [0], [0], w⟩ : DotDims _ _ _) none A B (ix3 g a b)
      = ∑ c : Fin K, A (ix3 g c a) * B (ix3 g b c) := by
  show FloatOps.dotGeneral _ none _ A B (ix3 g a b) = _
  rw [Ideal.dotGeneral_apply,
    ← Equiv.sum_comp (contrEquiv1 (⟨[1], [2], [2], [1], [0], [0], w⟩ : DotDims _ _ _) K rfl rfl).symm]
  refine Finset.sum_congr rfl fun c _ => ?_
  have c3 := contrEquiv1_symm_val
    (⟨[1], [2], [2], [1], [0], [0], w⟩ : DotDims ⟨3, ![G, K, M]⟩ ⟨3, ![G, N, K]⟩ ⟨3, ![G, M, N]⟩) K rfl rfl c
  have l3 : (⟨[1], [2], [2], [1], [0], [0], w⟩ : DotDims ⟨3, ![G, K, M]⟩ ⟨3, ![G, N, K]⟩ ⟨3, ![G, M, N]⟩).lhsIdx (ix3 g a b)
      ((contrEquiv1 _ K rfl rfl).symm c) = ix3 g c a := by
    funext ax; apply Fin.ext
    match ax with
    | ⟨0, _⟩ => simp [DotDims.lhsIdx]; rfl
    | ⟨1, _⟩ => simp [DotDims.lhsIdx]; exact c3
    | ⟨2, _⟩ => simp [DotDims.lhsIdx]; rfl
  have r3 : (⟨[1], [2], [2], [1], [0], [0], w⟩ : DotDims ⟨3, ![G, K, M]⟩ ⟨3, ![G, N, K]⟩ ⟨3, ![G, M, N]⟩).rhsIdx (ix3 g a b)
      ((contrEquiv1 _ K rfl rfl).symm c) = ix3 g b c := by
    funext ax; apply Fin.ext
    match ax with
    | ⟨0, _⟩ => simp [DotDims.rhsIdx]; rfl
    | ⟨1, _⟩ => simp [DotDims.rhsIdx]; rfl
    | ⟨2, _⟩ => simp [DotDims.rhsIdx]; exact c3
  rw [l3, r3]

theorem dot_nt (w : DotDims.WF ⟨3, ![G, M, K]⟩ ⟨3, ![G, N, K]⟩ ⟨3, ![G, M, N]⟩ [2] [2] [1] [1] [0] [0])
    (A : FVec Ideal ⟨3, ![G, M, K]⟩ φ₁) (B : FVec Ideal ⟨3, ![G, N, K]⟩ φ₂) (h : Fin G) :
    layer (Host.dotGeneral (⟨[2], [2], [1], [1], [0], [0], w⟩ : DotDims _ _ _) none A B) h = nt (layer A h) (layer B h) :=
  funext fun e => dot_nt_apply w A B h (e 0) (e 1)

end Products

/-! ## The same with rows and columns exchanged afterwards -/

theorem swap_apply (X : (⟨3, ![G, M, N]⟩ : Shape).Idx → α) (h : (⟨3, ![G, M, N]⟩ : Shape).Transposes [0, 2, 1] ⟨3, ![G, N, M]⟩)
    (g : Fin G) (a : Fin N) (b : Fin M) : transpose ⟨3, ![G, N, M]⟩ [0, 2, 1] X h (ix3 g a b) = X (ix3 g b a) := by
  refine transpose_apply [0, 2, 1] X h (ix3 g a b) (ix3 g b a) fun c => ?_
  match c with
  | ⟨0, _⟩ => rfl
  | ⟨1, _⟩ => rfl
  | ⟨2, _⟩ => rfl

section Swapped
variable {φ₁ φ₂ : FTy}

theorem swap_tt (w : DotDims.WF ⟨3, ![G, K, M]⟩ ⟨3, ![G, N, K]⟩ ⟨3, ![G, M, N]⟩ [1] [2] [2] [1] [0] [0])
    (A : FVec Ideal ⟨3, ![G, K, M]⟩ φ₁) (B : FVec Ideal ⟨3, ![G, N, K]⟩ φ₂)
    (ht : (⟨3, ![G, M, N]⟩ : Shape).Transposes [0, 2, 1] ⟨3, ![G, N, M]⟩) (h : Fin G) :
    layer (transpose ⟨3, ![G, N, M]⟩ [0, 2, 1] (Host.dotGeneral (⟨[1], [2], [2], [1], [0], [0], w⟩ : DotDims _ _ _) none A B) ht) h
      = nn (layer B h) (layer A h) := by
  funext e
  refine (swap_apply _ ht h (e 0) (e 1)).trans ((dot_tt_apply w A B h (e 1) (e 0)).trans ?_)
  exact Finset.sum_congr rfl fun k _ => mul_comm _ _

theorem swap_nt (w : DotDims.WF ⟨3, ![G, M, K]⟩ ⟨3, ![G, N, K]⟩ ⟨3, ![G, M, N]⟩ [2] [2] [1] [1] [0] [0])
    (A : FVec Ideal ⟨3, ![G, M, K]⟩ φ₁) (B : FVec Ideal ⟨3, ![G, N, K]⟩ φ₂)
    (ht : (⟨3, ![G, M, N]⟩ : Shape).Transposes [0, 2, 1] ⟨3, ![G, N, M]⟩) (h : Fin G) :
    layer (transpose ⟨3, ![G, N, M]⟩ [0, 2, 1] (Host.dotGeneral (⟨[2], [2], [1], [1], [0], [0], w⟩ : DotDims _ _ _) none A B) ht) h
      = nt (layer B h) (layer A h) := by
  funext e
  refine (swap_apply _ ht h (e 0) (e 1)).trans ((dot_nt_apply w A B h (e 1) (e 0)).trans ?_)
  exact Finset.sum_congr rfl fun k _ => mul_comm _ _

theorem swap_tn (w : DotDims.WF ⟨3, ![G, K, M]⟩ ⟨3, ![G, K, N]⟩ ⟨3, ![G, M, N]⟩ [1] [1] [2] [2] [0] [0])
    (A : FVec Ideal ⟨3, ![G, K, M]⟩ φ₁) (B : FVec Ideal ⟨3, ![G, K, N]⟩ φ₂)
    (ht : (⟨3, ![G, M, N]⟩ : Shape).Transposes [0, 2, 1] ⟨3, ![G, N, M]⟩) (h : Fin G) :
    layer (transpose ⟨3, ![G, N, M]⟩ [0, 2, 1] (Host.dotGeneral (⟨[1], [1], [2], [2], [0], [0], w⟩ : DotDims _ _ _) none A B) ht) h
      = tn (layer B h) (layer A h) := by
  funext e
  refine (swap_apply _ ht h (e 0) (e 1)).trans ((dot_tn_apply w A B h (e 1) (e 0)).trans ?_)
  exact Finset.sum_congr rfl fun k _ => mul_comm _ _

end Swapped

/-! ## Sums -/

/-- Over the last axis. -/
theorem sum_last (x : FVec Ideal ⟨3, ![G, M, N]⟩ .f32) (h : (⟨3, ![G, M, N]⟩ : Shape).ReducesTo [2] ⟨2, ![G, M]⟩)
    (hu : 0 < (⟨0, ![]⟩ : Shape).numel) (g : Fin G) (a : Fin M) :
    Host.reduceAdd x (constant (F := Ideal) ⟨0, ![]⟩ .f32 0x00000000#32) h hu (ix2 g a) = ∑ d : Fin N, x (ix3 g a d) := by
  rw [hostReduceAdd_apply, constant_apply, Ideal.ofBits_zero_f32]
  have h' : (⟨3, ![G, M, N]⟩ : Shape).Reduces [2] ⟨2, ![G, M]⟩ := ⟨h.1, Nat.two_pos, h.2⟩
  refine (Ideal.hostReduceAdd_single h h' x 0 _).trans ((zero_add _).trans ?_)
  refine Finset.sum_congr rfl fun d _ => congrArg x ?_
  funext c
  match c with
  | ⟨0, _⟩ => rfl
  | ⟨1, _⟩ => rfl
  | ⟨2, _⟩ => rfl

/-- Over the first axis. -/
theorem sum_first (x : FVec Ideal ⟨3, ![G, M, N]⟩ .f32) (h : (⟨3, ![G, M, N]⟩ : Shape).ReducesTo [0] ⟨2, ![M, N]⟩)
    (hu : 0 < (⟨0, ![]⟩ : Shape).numel) (a : Fin M) (b : Fin N) :
    Host.reduceAdd x (constant (F := Ideal) ⟨0, ![]⟩ .f32 0x00000000#32) h hu (ix2 a b) = ∑ g : Fin G, x (ix3 g a b) := by
  rw [hostReduceAdd_apply, constant_apply, Ideal.ofBits_zero_f32]
  have h' : (⟨3, ![G, M, N]⟩ : Shape).Reduces [0] ⟨2, ![M, N]⟩ := ⟨h.1, Nat.two_pos, h.2⟩
  refine (Ideal.hostReduceAdd_single h h' x 0 _).trans ((zero_add _).trans ?_)
  refine Finset.sum_congr rfl fun d _ => congrArg x ?_
  funext c
  match c with
  | ⟨0, _⟩ => rfl
  | ⟨1, _⟩ => rfl
  | ⟨2, _⟩ => rfl

/-- Over the two leading axes. -/
theorem sum_leading (x : FVec Ideal ⟨3, ![G, M, N]⟩ .f32) (h : (⟨3, ![G, M, N]⟩ : Shape).ReducesTo [0, 1] ⟨1, ![N]⟩)
    (hu : 0 < (⟨0, ![]⟩ : Shape).numel) (b : Fin N) :
    Host.reduceAdd x (constant (F := Ideal) ⟨0, ![]⟩ .f32 0x00000000#32) h hu (ix1 b) = ∑ g : Fin G, ∑ a : Fin M, x (ix3 g a b) := by
  rw [hostReduceAdd_apply, constant_apply, Ideal.ofBits_zero_f32]
  unfold Ideal.hostReduceAdd
  rw [zero_add, ← Fintype.sum_prod_type']
  refine Finset.sum_nbij' (fun i => (i 0, i 1)) (fun p => ix3 p.1 p.2 b) (fun _ _ => Finset.mem_univ _) (fun p _ => ?_) (fun i hi => ?_)
    (fun _ _ => rfl) (fun i hi => ?_)
  · refine Finset.mem_filter.2 ⟨Finset.mem_univ _, ?_⟩
    funext c
    match c with
    | ⟨0, _⟩ => rfl
  all_goals
    have e : ix3 (i 0) (i 1) b = i := by
      have k := (Finset.mem_filter.1 hi).2
      funext c
      match c with
      | ⟨0, _⟩ => rfl
      | ⟨1, _⟩ => rfl
      | ⟨2, _⟩ => exact Fin.ext (congrArg Fin.val (congrFun k 0)).symm
  · exact e
  · exact congrArg x e.symm

/-! ## Chunks -/

/-- A chunk read out of a stack of stacks, -/
theorem read_chunk (X : (⟨4, ![T, G, M, N]⟩ : Shape).Idx → EReal) (start : Fin 4 → ℤ) (n : Fin T)
    (hs : ∀ a, start a = ((![n.val, 0, 0, 0] : Fin 4 → ℕ) a : ℤ))
    (h : (⟨4, ![T, G, M, N]⟩ : Shape).Slices (fun _ => 0) ⟨4, ![1, G, M, N]⟩)
    (hc : (⟨4, ![1, G, M, N]⟩ : Shape).ShapeCasts ⟨3, ![G, M, N]⟩) (g : Fin G) :
    layer (shapeCast ⟨3, ![G, M, N]⟩ (Host.dynamicSlice ⟨4, ![1, G, M, N]⟩ X start h) hc) g = chunk X n g := by
  have fits : (⟨4, ![T, G, M, N]⟩ : Shape).Slices ![n.val, 0, 0, 0] ⟨4, ![1, G, M, N]⟩ := by
    refine ⟨rfl, fun a => ?_⟩
    match a with
    | ⟨0, _⟩ => exact n.isLt
    | ⟨1, _⟩ => exact Nat.le_of_eq (Nat.zero_add _)
    | ⟨2, _⟩ => exact Nat.le_of_eq (Nat.zero_add _)
    | ⟨3, _⟩ => exact Nat.le_of_eq (Nat.zero_add _)
  funext e
  refine (shapeCast_1abc_abc_apply _ hc g (e 0) (e 1)).trans ?_
  rw [Host.dynamicSlice_eq_extractStridedSlice _ X start ![n.val, 0, 0, 0] h fits hs]
  refine extractStridedSlice_apply _ X fits _ (ix4 n g (e 0) (e 1)) fun a => ?_
  match a with
  | ⟨0, _⟩ => rfl
  | ⟨1, _⟩ => exact (Nat.zero_add _).symm
  | ⟨2, _⟩ => exact (Nat.zero_add _).symm
  | ⟨3, _⟩ => exact (Nat.zero_add _).symm

/-- and one written into it: the chunk written, -/
theorem write_chunk (X : (⟨4, ![T, G, M, N]⟩ : Shape).Idx → EReal) (y : (⟨3, ![G, M, N]⟩ : Shape).Idx → EReal) (start : Fin 4 → ℤ) (n : Fin T)
    (hs : ∀ a, start a = ((![n.val, 0, 0, 0] : Fin 4 → ℕ) a : ℤ)) (hG : G ≠ 1) (hM : M ≠ 1) (hN : N ≠ 1)
    (hb : (⟨3, ![G, M, N]⟩ : Shape).BroadcastsInDim ⟨4, ![1, G, M, N]⟩ ![1, 2, 3])
    (h : (⟨4, ![T, G, M, N]⟩ : Shape).Slices (fun _ => 0) ⟨4, ![1, G, M, N]⟩) (k : Fin T) (g : Fin G) :
    chunk (Host.dynamicUpdateSlice X (broadcastInDim ⟨4, ![1, G, M, N]⟩ ![1, 2, 3] hb y) start h) k g
      = if k = n then layer y g else chunk X k g := by
  have fits : (⟨4, ![T, G, M, N]⟩ : Shape).Slices ![n.val, 0, 0, 0] ⟨4, ![1, G, M, N]⟩ := by
    refine ⟨rfl, fun a => ?_⟩
    match a with
    | ⟨0, _⟩ => exact n.isLt
    | ⟨1, _⟩ => exact Nat.le_of_eq (Nat.zero_add _)
    | ⟨2, _⟩ => exact Nat.le_of_eq (Nat.zero_add _)
    | ⟨3, _⟩ => exact Nat.le_of_eq (Nat.zero_add _)
  rw [Host.dynamicUpdateSlice_eq_updateSlice X _ start h ![n.val, 0, 0, 0]
    (fun a => by have := fits.2 a; rw [hs a]; omega) fits]
  funext e
  unfold chunk updateSlice
  by_cases hk : k = n
  · rw [if_pos hk, dif_pos]
    · refine broadcastInDim_apply ![1, 2, 3] hb y _ (ix3 g (e 0) (e 1)) fun a => ?_
      match a with
      | ⟨0, _⟩ => exact (if_neg hG).symm
      | ⟨1, _⟩ => exact (if_neg hM).symm
      | ⟨2, _⟩ => exact (if_neg hN).symm
    · intro a
      match a with
      | ⟨0, _⟩ => exact ⟨Nat.le_of_eq (congrArg Fin.val hk).symm, by show k.val < n.val + 1; rw [hk]; omega⟩
      | ⟨1, _⟩ => exact ⟨Nat.zero_le _, by show g.val < 0 + G; omega⟩
      | ⟨2, _⟩ => exact ⟨Nat.zero_le _, by have := (e 0).isLt; show (e 0).val < 0 + M; simpa using this⟩
      | ⟨3, _⟩ => exact ⟨Nat.zero_le _, by have := (e 1).isLt; show (e 1).val < 0 + N; simpa using this⟩
  · rw [if_neg hk, dif_neg]
    intro hin
    have := hin (0 : Fin 4)
    have a1 : n.val ≤ k.val := this.1
    have a2 : k.val < n.val + 1 := this.2
    exact hk (Fin.ext (by omega))

/-- Likewise a row, in a stack of rows. -/
theorem write_row (X : (⟨3, ![T, 1, N]⟩ : Shape).Idx → EReal) (y : (⟨2, ![1, N]⟩ : Shape).Idx → EReal) (start : Fin 3 → ℤ) (n : Fin T)
    (hs : ∀ a, start a = ((![n.val, 0, 0] : Fin 3 → ℕ) a : ℤ)) (hN : N ≠ 1)
    (hb : (⟨2, ![1, N]⟩ : Shape).BroadcastsInDim ⟨3, ![1, 1, N]⟩ ![1, 2])
    (h : (⟨3, ![T, 1, N]⟩ : Shape).Slices (fun _ => 0) ⟨3, ![1, 1, N]⟩) (k : Fin T) (d : Fin N) :
    Host.dynamicUpdateSlice X (broadcastInDim ⟨3, ![1, 1, N]⟩ ![1, 2] hb y) start h (ix3 k 0 d)
      = if k = n then y (ix2 0 d) else X (ix3 k 0 d) := by
  have fits : (⟨3, ![T, 1, N]⟩ : Shape).Slices ![n.val, 0, 0] ⟨3, ![1, 1, N]⟩ := by
    refine ⟨rfl, fun a => ?_⟩
    match a with
    | ⟨0, _⟩ => exact n.isLt
    | ⟨1, _⟩ => exact Nat.le_of_eq (Nat.zero_add _)
    | ⟨2, _⟩ => exact Nat.le_of_eq (Nat.zero_add _)
  rw [Host.dynamicUpdateSlice_eq_updateSlice X _ start h ![n.val, 0, 0]
    (fun a => by have := fits.2 a; rw [hs a]; omega) fits]
  unfold updateSlice
  by_cases hk : k = n
  · rw [if_pos hk, dif_pos]
    · refine broadcastInDim_apply ![1, 2] hb y _ (ix2 0 d) fun a => ?_
      match a with
      | ⟨0, _⟩ => exact (if_pos rfl).symm
      | ⟨1, _⟩ => exact (if_neg hN).symm
    · intro a
      match a with
      | ⟨0, _⟩ => exact ⟨Nat.le_of_eq (congrArg Fin.val hk).symm, by show k.val < n.val + 1; rw [hk]; omega⟩
      | ⟨1, _⟩ => exact ⟨Nat.zero_le _, by show 0 < 0 + 1; omega⟩
      | ⟨2, _⟩ => exact ⟨Nat.zero_le _, by show d.val < 0 + N; omega⟩
  · rw [if_neg hk, dif_neg]
    intro hin
    have := hin (0 : Fin 3)
    have a1 : n.val ≤ k.val := this.1
    have a2 : k.val < n.val + 1 := this.2
    exact hk (Fin.ext (by omega))

end Cert.Stacks

end
-- ==== Proof.DeltaArrays.lean ====
/-
  The gated delta rule's backward pass over whole arrays: 64 chunks of 64 rows and four heads of 128 columns, the
  cotangent of the state carried from the last chunk to the first.
-/
module

public import proofs.«01_k».proof.Proof.Delta
public import proofs.«01_k».proof.Proof.Stacks

@[expose] public section

noncomputable section

open Idealize.ShloMosaic Idealize.ShloMosaic.ValueIdx Cert.Dense Cert.Stacks
open scoped BigOperators

namespace Cert.Delta

/-! ## Where a chunk's rows and a head's columns lie -/

def row (n i : Fin 64) : Fin 4096 := ⟨n.val * 64 + i.val, by have := n.isLt; have := i.isLt; omega⟩
def col (h : Fin 4) (d : Fin 128) : Fin 512 := ⟨h.val * 128 + d.val, by have := h.isLt; have := d.isLt; omega⟩

/-- The columns of the input projection's array that gate the heads. -/
def gateCol (d : Fin 512) : Fin 8832 := ⟨6656 + d.val, by have := d.isLt; omega⟩

def chunkOf (r : Fin 4096) : Fin 64 := ⟨r.val / 64, by have := r.isLt; omega⟩
def rowIn (r : Fin 4096) : Fin 64 := ⟨r.val % 64, Nat.mod_lt _ (by omega)⟩
def headOf (c : Fin 512) : Fin 4 := ⟨c.val / 128, by have := c.isLt; omega⟩
def colIn (c : Fin 512) : Fin 128 := ⟨c.val % 128, Nat.mod_lt _ (by omega)⟩

theorem row_split (r : Fin 4096) : row (chunkOf r) (rowIn r) = r :=
  Fin.ext (by show r.val / 64 * 64 + r.val % 64 = r.val; omega)

theorem col_split (c : Fin 512) : col (headOf c) (colIn c) = c :=
  Fin.ext (by show c.val / 128 * 128 + c.val % 128 = c.val; omega)

theorem chunkOf_row (n i : Fin 64) : chunkOf (row n i) = n :=
  Fin.ext (by show (n.val * 64 + i.val) / 64 = n.val; have := i.isLt; omega)

theorem rowIn_row (n i : Fin 64) : rowIn (row n i) = i :=
  Fin.ext (by show (n.val * 64 + i.val) % 64 = i.val; have := i.isLt; omega)

theorem headOf_col (h : Fin 4) (d : Fin 128) : headOf (col h d) = h :=
  Fin.ext (by show (h.val * 128 + d.val) / 128 = h.val; have := d.isLt; omega)

theorem colIn_col (h : Fin 4) (d : Fin 128) : colIn (col h d) = d :=
  Fin.ext (by show (h.val * 128 + d.val) % 128 = d.val; have := d.isLt; omega)

/-- The rows of chunk `n` and columns of head `h`. -/
def piece (X : Mat 4096 512) (n : Fin 64) (h : Fin 4) : Mat 64 128 := fun e => X (ix2 (row n (e 0)) (col h (e 1)))

/-! ## The backward pass -/

/-- What the pass is given. -/
structure Args where
  u : Mat 4096 512
  w : Mat 4096 512
  qd : Mat 4096 512
  kd : Mat 4096 512
  sc : Mat 4096 512
  a : (⟨3, ![4, 4096, 64]⟩ : Shape).Idx → EReal
  z : Mat 4096 8832
  ng : Mat 1 128
  S : (⟨4, ![64, 4, 128, 128]⟩ : Shape).Idx → EReal
  g : Mat 4096 512

namespace Args

variable (A : Args)

/-- The gates' columns of `z`. -/
def gate : Mat 4096 512 := fun e => A.z (ix2 (e 0) (gateCol (e 1)))

/-- Head `h` of chunk `n`, given the cotangent of the state it leaves. -/
def head (n : Fin 64) (h : Fin 4) (dS : Mat 128 128) : Head where
  S := chunk A.S n h
  u := piece A.u n h
  w := piece A.w n h
  qd := piece A.qd n h
  kd := piece A.kd n h
  sc := piece A.sc n h
  gate := piece A.gate n h
  g := piece A.g n h
  a := fun e => A.a (ix3 h (row n (e 0)) (e 1))
  ng := A.ng
  dS := dS

/-- The chunk `j` places before the last. -/
def fromLast (j : ℕ) : Fin 64 := ⟨63 - j, by omega⟩

/-- The cotangent carried into the chunk `j` places before the last: zero into the last. -/
def carry (h : Fin 4) : ℕ → Mat 128 128
  | 0 => fun _ => 0
  | j + 1 => (A.head (fromLast j) h (carry h j)).back

/-- Head `h` of chunk `n` with the cotangent carried to it. -/
def at_ (n : Fin 64) (h : Fin 4) : Head := A.head n h (A.carry h (63 - n.val))

theorem at_fromLast (n : Fin 64) (h : Fin 4) (j : ℕ) (hn : n.val + j = 63) : A.at_ n h = A.head n h (A.carry h j) := by
  unfold at_
  rw [show 63 - n.val = j by omega]

/-- A cotangent of 64 rows and 128 columns in each head of each chunk, over the whole array; -/
def whole (f : Head → Mat 64 128) : Mat 4096 512 := fun e =>
  f (A.at_ (chunkOf (e 0)) (headOf (e 1))) (ix2 (rowIn (e 0)) (colIn (e 1)))

/-- that of the in-chunk scores; -/
def scores : (⟨3, ![4, 4096, 64]⟩ : Shape).Idx → EReal := fun e =>
  (A.at_ (chunkOf (e 1)) (e 0)).dA (ix2 (rowIn (e 1)) (e 2))

/-- and that of the scale, summed over chunks and heads. -/
def scale : Mat 1 128 := fun e => ∑ n : Fin 64, ∑ h : Fin 4, (A.at_ n h).dNg (e 1)

theorem whole_apply (f : Head → Mat 64 128) (n i : Fin 64) (h : Fin 4) (d : Fin 128) :
    A.whole f (ix2 (row n i) (col h d)) = f (A.at_ n h) (ix2 i d) := by
  show f (A.at_ (chunkOf (row n i)) (headOf (col h d))) (ix2 (rowIn (row n i)) (colIn (col h d))) = _
  rw [chunkOf_row, headOf_col, rowIn_row, colIn_col]

theorem scores_apply (n i k : Fin 64) (h : Fin 4) : A.scores (ix3 h (row n i) k) = (A.at_ n h).dA (ix2 i k) := by
  show (A.at_ (chunkOf (row n i)) h).dA (ix2 (rowIn (row n i)) k) = _
  rw [chunkOf_row, rowIn_row]

end Args

/-- Arrays that agree in every chunk and head are equal. -/
theorem pieces_ext {X Y : Mat 4096 512} (h : ∀ (n i : Fin 64) (k : Fin 4) (d : Fin 128), X (ix2 (row n i) (col k d)) = Y (ix2 (row n i) (col k d))) :
    X = Y := by
  refine mat_ext fun r c => ?_
  have := h (chunkOf r) (rowIn r) (headOf c) (colIn c)
  rwa [row_split, col_split] at this

theorem scores_ext {X Y : (⟨3, ![4, 4096, 64]⟩ : Shape).Idx → EReal}
    (h : ∀ (n i k : Fin 64) (g : Fin 4), X (ix3 g (row n i) k) = Y (ix3 g (row n i) k)) : X = Y := by
  have all : ∀ (g : Fin 4) (r : Fin 4096) (k : Fin 64), X (ix3 g r k) = Y (ix3 g r k) := fun g r k => by
    have := h (chunkOf r) (rowIn r) k g
    rwa [row_split] at this
  funext e
  rw [eq_ix3 e]
  exact all _ _ _

/-! ## An array cut into its chunks and heads, and put together again -/

theorem cut (X : Mat 4096 512) (hc : (⟨2, ![4096, 512]⟩ : Shape).ShapeCasts ⟨4, ![64, 64, 4, 128]⟩)
    (ht : (⟨4, ![64, 64, 4, 128]⟩ : Shape).Transposes [0, 2, 1, 3] ⟨4, ![64, 4, 64, 128]⟩) (n : Fin 64) (h : Fin 4) :
    chunk (transpose ⟨4, ![64, 4, 64, 128]⟩ [0, 2, 1, 3] (shapeCast ⟨4, ![64, 64, 4, 128]⟩ X hc) ht) n h = piece X n h := by
  refine mat_ext fun i d => ?_
  refine (transpose_apply [0, 2, 1, 3] _ ht (ix4 n h i d) (ix4 n i h d) fun b => ?_).trans
    (shapeCast_apply X hc _ (ix2 (row n i) (col h d)) ?_)
  · match b with
    | ⟨0, _⟩ => rfl
    | ⟨1, _⟩ => rfl
    | ⟨2, _⟩ => rfl
    | ⟨3, _⟩ => rfl
  · rw [Shape.rowMajor_val_two, Shape.rowMajor_val_four]
    show (n.val * 64 + i.val) * 512 + (h.val * 128 + d.val) = ((n.val * 64 + i.val) * 4 + h.val) * 128 + d.val
    omega

theorem join (X : (⟨4, ![64, 4, 64, 128]⟩ : Shape).Idx → EReal)
    (ht : (⟨4, ![64, 4, 64, 128]⟩ : Shape).Transposes [0, 2, 1, 3] ⟨4, ![64, 64, 4, 128]⟩)
    (hc : (⟨4, ![64, 64, 4, 128]⟩ : Shape).ShapeCasts ⟨2, ![4096, 512]⟩) (n i : Fin 64) (h : Fin 4) (d : Fin 128) :
    shapeCast ⟨2, ![4096, 512]⟩ (transpose ⟨4, ![64, 64, 4, 128]⟩ [0, 2, 1, 3] X ht) hc (ix2 (row n i) (col h d)) = chunk X n h (ix2 i d) := by
  refine (shapeCast_apply _ hc _ (ix4 n i h d) ?_).trans (transpose_apply [0, 2, 1, 3] X ht (ix4 n i h d) (ix4 n h i d) fun b => ?_)
  · rw [Shape.rowMajor_val_two, Shape.rowMajor_val_four]
    show ((n.val * 64 + i.val) * 4 + h.val) * 128 + d.val = (n.val * 64 + i.val) * 512 + (h.val * 128 + d.val)
    omega
  · match b with
    | ⟨0, _⟩ => rfl
    | ⟨1, _⟩ => rfl
    | ⟨2, _⟩ => rfl
    | ⟨3, _⟩ => rfl

theorem cut_scores (X : (⟨3, ![4, 4096, 64]⟩ : Shape).Idx → EReal) (hc : (⟨3, ![4, 4096, 64]⟩ : Shape).ShapeCasts ⟨4, ![4, 64, 64, 64]⟩)
    (ht : (⟨4, ![4, 64, 64, 64]⟩ : Shape).Transposes [1, 0, 2, 3] ⟨4, ![64, 4, 64, 64]⟩) (n : Fin 64) (h : Fin 4) :
    chunk (transpose ⟨4, ![64, 4, 64, 64]⟩ [1, 0, 2, 3] (shapeCast ⟨4, ![4, 64, 64, 64]⟩ X hc) ht) n h
      = fun e => X (ix3 h (row n (e 0)) (e 1)) := by
  refine mat_ext fun i k => ?_
  refine (transpose_apply [1, 0, 2, 3] _ ht (ix4 n h i k) (ix4 h n i k) fun b => ?_).trans
    (shapeCast_apply X hc _ (ix3 h (row n i) k) ?_)
  · match b with
    | ⟨0, _⟩ => rfl
    | ⟨1, _⟩ => rfl
    | ⟨2, _⟩ => rfl
    | ⟨3, _⟩ => rfl
  · rw [Shape.rowMajor_val_three, Shape.rowMajor_val_four]
    show (h.val * 4096 + (n.val * 64 + i.val)) * 64 + k.val = ((h.val * 64 + n.val) * 64 + i.val) * 64 + k.val
    omega

theorem join_scores (X : (⟨4, ![64, 4, 64, 64]⟩ : Shape).Idx → EReal)
    (ht : (⟨4, ![64, 4, 64, 64]⟩ : Shape).Transposes [1, 0, 2, 3] ⟨4, ![4, 64, 64, 64]⟩)
    (hc : (⟨4, ![4, 64, 64, 64]⟩ : Shape).ShapeCasts ⟨3, ![4, 4096, 64]⟩) (n i k : Fin 64) (h : Fin 4) :
    shapeCast ⟨3, ![4, 4096, 64]⟩ (transpose ⟨4, ![4, 64, 64, 64]⟩ [1, 0, 2, 3] X ht) hc (ix3 h (row n i) k) = chunk X n h (ix2 i k) := by
  refine (shapeCast_apply _ hc _ (ix4 h n i k) ?_).trans (transpose_apply [1, 0, 2, 3] X ht (ix4 h n i k) (ix4 n h i k) fun b => ?_)
  · rw [Shape.rowMajor_val_three, Shape.rowMajor_val_four]
    show ((h.val * 64 + n.val) * 64 + i.val) * 64 + k.val = (h.val * 4096 + (n.val * 64 + i.val)) * 64 + k.val
    omega
  · match b with
    | ⟨0, _⟩ => rfl
    | ⟨1, _⟩ => rfl
    | ⟨2, _⟩ => rfl
    | ⟨3, _⟩ => rfl

end Cert.Delta

end
-- ==== Proof.DeltaBlocks.lean ====
/-
  The delta rule's backward body at a grid point: the four heads it works on are those of the chunk the point stands
  at, and what it stores is, entry by entry, the four heads' arrays.
-/
module

public import proofs.«01_k».proof.Proof.DeltaPoint
public import proofs.«01_k».proof.Proof.DeltaArrays
public import proofs.«01_k».proof.Proof.Padded
public import Idealize.ShloMosaic.Lib.Pipeline.ValueKit.Tiles

@[expose] public section

set_option maxRecDepth 16384

noncomputable section

open Idealize.ShloMosaic Idealize.ShloMosaic.TcCoe Idealize.ShloMosaic.ValueIdx Idealize.SL.Sem
open Cert.Kernel7Ideal Cert.Kernel7Ideal.Gen Cert.Dense Cert.Stacks Cert.Padded
open scoped BigOperators

namespace Cert.Delta.Run

/-! ## Stores of one layer each, read back -/

section Slabs

variable {G M N : ℕ}

/-- What is left where the last of several stores is one layer. -/
theorem last_layer (k : ℕ) (hk : k < G) (inb : ∀ a, (![k, 0, 0] : Fin 3 → ℕ) a + (⟨3, ![1, M, N]⟩ : Shape).size a ≤ (⟨3, ![G, M, N]⟩ : Shape).size a)
    (w : (⟨3, ![1, M, N]⟩ : Shape).Idx → EReal) (L : List (View.Piece (Elt Ideal) ⟨3, ![G, M, N]⟩ .f32)) (h : Fin G) (r : Fin M) (d : Fin N) :
    View.canon (Val := Elt Ideal) (e := .f32)
        ((⟨Rect.unit (s := ⟨3, ![G, M, N]⟩) ![k, 0, 0] ![1, M, N] inb, w⟩ : View.Piece (Elt Ideal) ⟨3, ![G, M, N]⟩ .f32) :: L) (ix3 h r d)
      = if h.val = k then w (ix3 0 r d) else View.canon (Val := Elt Ideal) (e := .f32) L (ix3 h r d) := by
  split_ifs with q
  · have e : (Rect.unit (s := ⟨3, ![G, M, N]⟩) ![k, 0, 0] ![1, M, N] inb).emb (ix3 0 r d) = ix3 h r d := by
      funext a
      refine Fin.ext ((Rect.emb_apply _ _ a).trans ?_)
      match a with
      | ⟨0, _⟩ => show k + 1 * 0 = h.val; omega
      | ⟨1, _⟩ => show 0 + 1 * r.val = r.val; omega
      | ⟨2, _⟩ => show 0 + 1 * d.val = d.val; omega
    rw [← e]
    exact View.canon_cons_emb (Val := Elt Ideal) (e := .f32) (Rect.unit (s := ⟨3, ![G, M, N]⟩) ![k, 0, 0] ![1, M, N] inb) w L (ix3 0 r d)
  · refine View.canon_cons_of_not_mem _ L fun hm => q ?_
    obtain ⟨x, hx⟩ := LoadRect.exists_idx_of_mem _ hm
    have e := congrArg Fin.val (congrFun hx (0 : Fin 3))
    have e' : k + 1 * (x (0 : Fin 3)).val = h.val := (Rect.emb_apply _ x (0 : Fin 3)).symm.trans e
    have : (x (0 : Fin 3)).val < 1 := (x (0 : Fin 3)).isLt
    omega

end Slabs

theorem stack_apply (T : List (View.Piece (Elt Ideal) S4x128x128 .f32)) (x : Fin 4 → Body.Full) (h : Fin 4) (r d : Fin 128) :
    stack T x (ix3 h r d) = x h (ix2 r d) := by
  unfold stack slab
  have e : ∀ k, shapeCast (α := Ideal .f32) S1x128x128 (x k) shapeCasts_S128x128_S1x128x128 (ix3 0 r d) = x k (ix2 r d) := fun k =>
    shapeCast_apply _ _ _ (ix2 r d) (by
      rw [Shape.rowMajor_val_two, Shape.rowMajor_val_three]
      show r.val * 128 + d.val = (0 * 128 + r.val) * 128 + d.val
      omega)
  refine (last_layer 3 (by decide) _ _ _ h r d).trans ?_
  rw [last_layer 2 (by decide), last_layer 1 (by decide), last_layer 0 (by decide)]
  match h with
  | ⟨0, _⟩ => exact e 0
  | ⟨1, _⟩ => exact e 1
  | ⟨2, _⟩ => exact e 2
  | ⟨3, _⟩ => exact e 3

theorem stackA_apply (x : Fin 4 → FVec Ideal S64x64 .f32) (h : Fin 4) (r d : Fin 64) : stackA x (ix3 h r d) = x h (ix2 r d) := by
  unfold stackA slabA
  have e : ∀ k, shapeCast (α := Ideal .f32) S1x64x64 (x k) shapeCasts_S64x64_S1x64x64 (ix3 0 r d) = x k (ix2 r d) := fun k =>
    shapeCast_apply _ _ _ (ix2 r d) (by
      rw [Shape.rowMajor_val_two, Shape.rowMajor_val_three]
      show r.val * 64 + d.val = (0 * 64 + r.val) * 64 + d.val
      omega)
  refine (last_layer 3 (by decide) _ _ _ h r d).trans ?_
  rw [last_layer 2 (by decide), last_layer 1 (by decide), last_layer 0 (by decide)]
  match h with
  | ⟨0, _⟩ => exact e 0
  | ⟨1, _⟩ => exact e 1
  | ⟨2, _⟩ => exact e 2
  | ⟨3, _⟩ => exact e 3

/-! ## Four heads side by side -/

theorem beside_apply (u : Fin 4 → Body.Rows) (r : Fin 64) (h : Fin 4) (d : Fin 128) : beside u (ix2 r (col h d)) = u h (ix2 r d) := by
  have z : (Scalar.ofBits .f32 0x00000000#32 : Ideal .f32) = 0 := Ideal.ofBits_zero_f32
  have z' : (FloatOps.ofBits .f32 0x00000000#32 : Ideal .f32) = 0 := Ideal.ofBits_zero_f32
  have hd := d.isLt
  obtain ⟨c, hc⟩ : ∃ c : Fin 512, c = col h d := ⟨_, rfl⟩
  have hv : c.val = h.val * 128 + d.val := congrArg Fin.val hc
  rw [← hc]
  unfold beside k0_pay179
  simp only [addf_apply, z]
  rw [cols_lead (A := 384) (B := 128) _ _ _ rfl, cols_trail (A := 384) (B := 128) _ _ _ rfl,
    cols_trail (A := 256) (B := 256) _ _ _ rfl, cols_trail (A := 128) (B := 384) _ _ _ rfl]
  simp only [cols_lead (R := 64) (A := 256) (B := 128) (T := 384) _ _ _ rfl, cols_lead (R := 64) (A := 128) (B := 128) (T := 256) _ _ _ rfl]
  have at_ : ∀ e : Fin 128, e.val = d.val → e = d := fun e h => Fin.ext h
  obtain ⟨n, hn'⟩ := h
  interval_cases n <;> dsimp only at hv
  · rw [dif_neg (by omega), dif_pos (by omega), dif_neg (by omega), dif_pos (by omega), dif_neg (by omega), dif_pos (by omega)]
    simp only [z', zero_add]; exact congrArg (fun e => u 0 (ix2 r e)) (at_ _ (by dsimp only; omega))
  · rw [dif_neg (by omega), dif_pos (by omega), dif_neg (by omega), dif_pos (by omega), dif_pos (by omega), dif_neg (by omega)]
    simp only [z', zero_add, add_zero]; exact congrArg (fun e => u 1 (ix2 r e)) (at_ _ (by dsimp only; omega))
  · rw [dif_neg (by omega), dif_pos (by omega), dif_pos (by omega), dif_neg (by omega), dif_neg (by omega)]
    rw [zero_add, add_zero, add_zero]; exact congrArg (fun e => u 2 (ix2 r e)) (at_ _ (by dsimp only; omega))
  · rw [dif_pos (by omega), dif_neg (by omega), dif_neg (by omega), dif_neg (by omega)]
    rw [add_zero, add_zero, add_zero]; exact congrArg (fun e => u 3 (ix2 r e)) (at_ _ (by dsimp only; omega))

/-! ## The layers read -/

theorem layers_eq (X : S4x128x128.Idx → EReal) (h : Fin 4) : shapeCast S128x128 (layers X h) shapeCasts_S1x128x128_S128x128 = layer X h := by
  refine mat_ext fun r d => ?_
  refine (shapeCast_apply _ _ _ (ix3 0 r d) ?_).trans ?_
  · rw [Shape.rowMajor_val_two, Shape.rowMajor_val_three]
    show (0 * 128 + r.val) * 128 + d.val = r.val * 128 + d.val
    omega
  · have e : ∀ (k : ℕ) (hk : k < 4) (inb : ∀ a, (![k, 0, 0] : Fin 3 → ℕ) a + S1x128x128.size a ≤ S4x128x128.size a),
        View.ld (Val := Elt Ideal) (S := S4x128x128) (e' := .f32) X (Rect.unit ![k, 0, 0] ![1, 128, 128] inb) (ix3 0 r d) = X (ix3 ⟨k, hk⟩ r d) :=
      fun k hk inb => congrArg X (funext fun a => Fin.ext ((Rect.idx_unit_val _ _ inb (ix3 0 r d) a).trans (by
        match a with
        | ⟨0, _⟩ => rfl
        | ⟨1, _⟩ => exact Nat.zero_add _
        | ⟨2, _⟩ => exact Nat.zero_add _)))
    match h with
    | ⟨0, _⟩ => exact e 0 _ _
    | ⟨1, _⟩ => exact e 1 _ _
    | ⟨2, _⟩ => exact e 2 _ _
    | ⟨3, _⟩ => exact e 3 _ _

theorem zeroLayer_apply (off : Fin 3 → ℕ) (inb : ∀ a, off a + S1x128x128.size a ≤ S4x128x128.size a) (x : S1x128x128.Idx) :
    zeroLayer off inb x = 0 := by
  unfold zeroLayer
  rw [View.readCov_eq_canon']
  refine (congrFun (View.canon_cons_unit_lit (Val := Elt Ideal) (e := .f32) (S := S4x128x128) inb_S4x128x128_S4x128x128_0_0_0 (k0_pay3 (F := Ideal)) [] (h := fun a => by
    match a with
    | ⟨0, _⟩ => rfl
    | ⟨1, _⟩ => rfl
    | ⟨2, _⟩ => rfl)) _).trans ?_
  exact Ideal.ofBits_zero_f32

theorem zeros_layer : ∀ h : Fin 4, ∃ off inb, zeros h = zeroLayer off inb
  | 0 => ⟨_, _, rfl⟩
  | 1 => ⟨_, _, rfl⟩
  | 2 => ⟨_, _, rfl⟩
  | 3 => ⟨_, _, rfl⟩

theorem zeros_eq (h : Fin 4) : shapeCast S128x128 (zeros h) shapeCasts_S1x128x128_S128x128 = fun _ => (0 : EReal) := by
  obtain ⟨off, inb, e⟩ := zeros_layer h
  rw [e]
  refine mat_ext fun r d => ?_
  refine (shapeCast_apply _ _ _ (ix3 0 r d) ?_).trans (zeroLayer_apply off inb _)
  rw [Shape.rowMajor_val_two, Shape.rowMajor_val_three]
  show (0 * 128 + r.val) * 128 + d.val = r.val * 128 + d.val
  omega

end Cert.Delta.Run

end
-- ==== Proof.DeltaRun.lean ====
/-
  The delta rule's backward call read off its arguments: the grid's point `t` stands at the chunk `t` places before the
  last, and works on that chunk's four heads.
-/
module

public import proofs.«01_k».proof.Proof.DeltaBlocks

@[expose] public section

set_option maxRecDepth 16384

noncomputable section

open Idealize.ShloMosaic Idealize.ShloMosaic.TcCoe Idealize.ShloMosaic.ValueIdx Idealize.SL.Sem
open Cert.Kernel7Ideal Cert.Kernel7Ideal.Gen Cert.Dense Cert.Stacks
open scoped BigOperators

namespace Cert.Delta.Run

variable (m : (ℓ : Loc nD τ sig) → Buf (Elt Ideal) ℓ) (c : Dev nD) (t : Fin cfg0.N)

/-- The call's arguments. -/
def args : Args where
  u := m ((c : Thread nD τ).loc main_arg0)
  w := m ((c : Thread nD τ).loc main_arg1)
  qd := m ((c : Thread nD τ).loc main_arg2)
  kd := m ((c : Thread nD τ).loc main_arg3)
  sc := m ((c : Thread nD τ).loc main_arg4)
  a := m ((c : Thread nD τ).loc main_arg5)
  z := m ((c : Thread nD τ).loc main_arg6)
  ng := m ((c : Thread nD τ).loc main_arg7)
  S := m ((c : Thread nD τ).loc main_arg8)
  g := m ((c : Thread nD τ).loc main_arg9)

/-- The chunk a point stands at. -/
abbrev here : Fin 64 := Args.fromLast t.val

theorem lt64 : t.val < 64 := lt_of_lt_of_eq t.isLt (show cfg0.N = 64 from N_0)

/-! ## Where the blocks lie -/

theorem places_in : ∀ t : Fin grid0.N,
    (win0_0.index t 0 = 63 - t.val ∧ win0_0.index t 1 = 0) ∧ (win0_1.index t 0 = 63 - t.val ∧ win0_1.index t 1 = 0)
    ∧ (win0_2.index t 0 = 63 - t.val ∧ win0_2.index t 1 = 0) ∧ (win0_3.index t 0 = 63 - t.val ∧ win0_3.index t 1 = 0)
    ∧ (win0_4.index t 0 = 63 - t.val ∧ win0_4.index t 1 = 0)
    ∧ (win0_5.index t 0 = 0 ∧ win0_5.index t 1 = 63 - t.val ∧ win0_5.index t 2 = 0)
    ∧ (win0_6.index t 0 = 63 - t.val ∧ win0_6.index t 1 = 13) ∧ (win0_7.index t 0 = 0 ∧ win0_7.index t 1 = 0)
    ∧ (win0_8.index t 0 = 63 - t.val ∧ win0_8.index t 1 = 0 ∧ win0_8.index t 2 = 0 ∧ win0_8.index t 3 = 0)
    ∧ (win0_9.index t 0 = 63 - t.val ∧ win0_9.index t 1 = 0) := by decide +kernel

theorem places_out : ∀ t : Fin grid0.N,
    (win0_10.index t 0 = 63 - t.val ∧ win0_10.index t 1 = 0) ∧ (win0_11.index t 0 = 63 - t.val ∧ win0_11.index t 1 = 0)
    ∧ (win0_12.index t 0 = 63 - t.val ∧ win0_12.index t 1 = 0) ∧ (win0_13.index t 0 = 63 - t.val ∧ win0_13.index t 1 = 0)
    ∧ (win0_14.index t 0 = 63 - t.val ∧ win0_14.index t 1 = 0)
    ∧ (win0_15.index t 0 = 0 ∧ win0_15.index t 1 = 63 - t.val ∧ win0_15.index t 2 = 0)
    ∧ (win0_16.index t 0 = 63 - t.val ∧ win0_16.index t 1 = 0) ∧ (win0_17.index t 0 = 0 ∧ win0_17.index t 1 = 0) := by decide +kernel

/-- An index whose row lies in the point's block, -/
theorem at_row {C : ℕ} (i : (⟨2, ![4096, C]⟩ : Shape).Idx) (q : ℕ) (r : Fin 64) (k : Fin C) (hq : q = 63 - t.val) (h0 : (i 0).val = q * 64 + r.val)
    (h1 : (i 1).val = k.val) : i = ix2 (row (here t) r) k := by
  subst hq
  exact idx_ext h0 h1

/-- and one of the in-chunk scores'. -/
theorem at_score (i : (⟨3, ![4, 4096, 64]⟩ : Shape).Idx) (q : ℕ) (h : Fin 4) (r k : Fin 64) (hq : q = 63 - t.val) (h0 : (i 0).val = h.val)
    (h1 : (i 1).val = q * 64 + r.val) (h2 : (i 2).val = k.val) : i = ix3 h (row (here t) r) k := by
  subst hq
  funext a
  match a with
  | ⟨0, _⟩ => exact Fin.ext h0
  | ⟨1, _⟩ => exact Fin.ext h1
  | ⟨2, _⟩ => exact Fin.ext h2

/-! ## The blocks of the arguments -/

theorem blk0 (r : Fin 64) (k : Fin 512) : iblk m c 0 t (ix2 r k) = (args m c).u (ix2 (row (here t) r) k) :=
  congrArg (m ((c : Thread nD τ).loc main_arg0)) (at_row t _ _ r k (places_in t).1.1 (win0_0.rect_emb_val t (ix2 r k) 0)
    (win0_0.rect_emb_val_of_index_zero t 1 (places_in t).1.2 (ix2 r k)))

theorem blk1 (r : Fin 64) (k : Fin 512) : iblk m c 1 t (ix2 r k) = (args m c).w (ix2 (row (here t) r) k) :=
  congrArg (m ((c : Thread nD τ).loc main_arg1)) (at_row t _ _ r k (places_in t).2.1.1 (win0_1.rect_emb_val t (ix2 r k) 0)
    (win0_1.rect_emb_val_of_index_zero t 1 (places_in t).2.1.2 (ix2 r k)))

theorem blk2 (r : Fin 64) (k : Fin 512) : iblk m c 2 t (ix2 r k) = (args m c).qd (ix2 (row (here t) r) k) :=
  congrArg (m ((c : Thread nD τ).loc main_arg2)) (at_row t _ _ r k (places_in t).2.2.1.1 (win0_2.rect_emb_val t (ix2 r k) 0)
    (win0_2.rect_emb_val_of_index_zero t 1 (places_in t).2.2.1.2 (ix2 r k)))

theorem blk3 (r : Fin 64) (k : Fin 512) : iblk m c 3 t (ix2 r k) = (args m c).kd (ix2 (row (here t) r) k) :=
  congrArg (m ((c : Thread nD τ).loc main_arg3)) (at_row t _ _ r k (places_in t).2.2.2.1.1 (win0_3.rect_emb_val t (ix2 r k) 0)
    (win0_3.rect_emb_val_of_index_zero t 1 (places_in t).2.2.2.1.2 (ix2 r k)))

theorem blk4 (r : Fin 64) (k : Fin 512) : iblk m c 4 t (ix2 r k) = (args m c).sc (ix2 (row (here t) r) k) :=
  congrArg (m ((c : Thread nD τ).loc main_arg4)) (at_row t _ _ r k (places_in t).2.2.2.2.1.1 (win0_4.rect_emb_val t (ix2 r k) 0)
    (win0_4.rect_emb_val_of_index_zero t 1 (places_in t).2.2.2.2.1.2 (ix2 r k)))

theorem blk5 (h : Fin 4) (r k : Fin 64) : iblk m c 5 t (ix3 h r k) = (args m c).a (ix3 h (row (here t) r) k) :=
  congrArg (m ((c : Thread nD τ).loc main_arg5)) (at_score t _ _ h r k (places_in t).2.2.2.2.2.1.2.1
    (win0_5.rect_emb_val_of_index_zero t 0 (places_in t).2.2.2.2.2.1.1 (ix3 h r k)) (win0_5.rect_emb_val t (ix3 h r k) 1)
    (win0_5.rect_emb_val_of_index_zero t 2 (places_in t).2.2.2.2.2.1.2.2 (ix3 h r k)))

/-- The window over the gates takes 512 of the wider array's columns. -/
theorem blk6 (r : Fin 64) (k : Fin 512) : X0_6 m c t (ix2 r k) = (args m c).gate (ix2 (row (here t) r) k) := by
  unfold X0_6 Pipeline.Window.fill
  rw [dif_pos (moved0_6 t _)]
  refine congrArg (m ((c : Thread nD τ).loc main_arg6)) (at_row t _ _ r (gateCol k) (places_in t).2.2.2.2.2.2.1.1 (win0_6.rect_emb_val t _ 0) ?_)
  refine (win0_6.rect_emb_val t _ 1).trans ?_
  rw [(places_in t).2.2.2.2.2.2.1.2]
  rfl

theorem blk7 (k : Fin 128) : iblk m c 7 t (ix2 0 k) = (args m c).ng (ix2 0 k) :=
  congrArg (m ((c : Thread nD τ).loc main_arg7)) (idx_ext (win0_7.rect_emb_val_of_index_zero t 0 (places_in t).2.2.2.2.2.2.2.1.1 (ix2 0 k))
    (win0_7.rect_emb_val_of_index_zero t 1 (places_in t).2.2.2.2.2.2.2.1.2 (ix2 0 k)))

theorem blk8 (h : Fin 4) (r d : Fin 128) : iblk m c 8 t (ix4 0 h r d) = (args m c).S (ix4 (here t) h r d) := by
  have p := (places_in t).2.2.2.2.2.2.2.2.1
  refine congrArg (m ((c : Thread nD τ).loc main_arg8)) (funext fun a => Fin.ext ?_)
  match a with
  | ⟨0, _⟩ => exact (win0_8.rect_emb_val t (ix4 0 h r d) 0).trans (by rw [p.1]; show (63 - t.val) * 1 + 0 = 63 - t.val; omega)
  | ⟨1, _⟩ => exact win0_8.rect_emb_val_of_index_zero t 1 p.2.1 (ix4 0 h r d)
  | ⟨2, _⟩ => exact win0_8.rect_emb_val_of_index_zero t 2 p.2.2.1 (ix4 0 h r d)
  | ⟨3, _⟩ => exact win0_8.rect_emb_val_of_index_zero t 3 p.2.2.2 (ix4 0 h r d)

theorem blk9 (r : Fin 64) (k : Fin 512) : iblk m c 9 t (ix2 r k) = (args m c).g (ix2 (row (here t) r) k) :=
  congrArg (m ((c : Thread nD τ).loc main_arg9)) (at_row t _ _ r k (places_in t).2.2.2.2.2.2.2.2.2.1 (win0_9.rect_emb_val t (ix2 r k) 0)
    (win0_9.rect_emb_val_of_index_zero t 1 (places_in t).2.2.2.2.2.2.2.2.2.2 (ix2 r k)))

/-! ## The heads -/

section Cuts

/-- A head's columns of a block of rows. -/
theorem cols {X : S64x512.Idx → EReal} {Y : Mat 4096 512} (e : ∀ r k, X (ix2 r k) = Y (ix2 (row (here t) r) k)) (h : Fin 4) (o : ℕ)
    (ho : o = h.val * 128) (hs : S64x512.Slices ![0, o] S64x128) : extractStridedSlice S64x128 ![0, o] X hs = piece Y (here t) h := by
  subst ho
  refine mat_ext fun r d => (extractStridedSlice_apply _ X hs _ (ix2 r (col h d)) fun a => ?_).trans (e r (col h d))
  match a with
  | ⟨0, _⟩ => exact (Nat.zero_add _).symm
  | ⟨1, _⟩ => rfl

theorem state_eq (h : Fin 4) (inb : ∀ a, (![0, h.val, 0, 0] : Fin 4 → ℕ) a + S1x1x128x128.size a ≤ S1x4x128x128.size a) :
    shapeCast S128x128 (View.ld (iblk m c 8 t) (Rect.unit ![0, h.val, 0, 0] ![1, 1, 128, 128] inb)) shapeCasts_S1x1x128x128_S128x128
      = chunk (args m c).S (here t) h := by
  refine mat_ext fun r d => (shapeCast_apply _ _ _ (ix4 0 0 r d) ?_).trans ((congrArg (iblk m c 8 t) (funext fun a => Fin.ext ?_)).trans (blk8 m c t h r d))
  · rw [Shape.rowMajor_val_two, Shape.rowMajor_val_four]
    show ((0 * 1 + 0) * 128 + r.val) * 128 + d.val = r.val * 128 + d.val
    omega
  · refine (Rect.idx_unit_val _ _ inb (ix4 0 0 r d) a).trans ?_
    match a with
    | ⟨0, _⟩ => rfl
    | ⟨1, _⟩ => rfl
    | ⟨2, _⟩ => exact Nat.zero_add _
    | ⟨3, _⟩ => exact Nat.zero_add _

theorem scores_eq (h : Fin 4) (inb : ∀ a, (![h.val, 0, 0] : Fin 3 → ℕ) a + S1x64x64.size a ≤ S4x64x64.size a) :
    shapeCast S64x64 (View.ld (iblk m c 5 t) (Rect.unit ![h.val, 0, 0] ![1, 64, 64] inb)) shapeCasts_S1x64x64_S64x64
      = fun e => (args m c).a (ix3 h (row (here t) (e 0)) (e 1)) := by
  refine mat_ext fun r d => (shapeCast_apply _ _ _ (ix3 0 r d) ?_).trans ((congrArg (iblk m c 5 t) (funext fun a => Fin.ext ?_)).trans (blk5 m c t h r d))
  · rw [Shape.rowMajor_val_two, Shape.rowMajor_val_three]
    show (0 * 64 + r.val) * 64 + d.val = r.val * 64 + d.val
    omega
  · refine (Rect.idx_unit_val _ _ inb (ix3 0 r d) a).trans ?_
    match a with
    | ⟨0, _⟩ => rfl
    | ⟨1, _⟩ => exact Nat.zero_add _
    | ⟨2, _⟩ => exact Nat.zero_add _

theorem ng_eq : iblk m c 7 t = (args m c).ng := by
  refine mat_ext fun r d => ?_
  obtain rfl : r = 0 := Subsingleton.elim _ _
  exact blk7 m c t d

theorem headAt_eq (h : Fin 4) (o : ℕ) (ho : o = h.val * 128) (hs : S64x512.Slices ![0, o] S64x128) {S : Body.Full} {a : FVec Ideal S64x64 .f32}
    {dS dS' : Body.Full} (eS : S = chunk (args m c).S (here t) h) (ea : a = fun e => (args m c).a (ix3 h (row (here t) (e 0)) (e 1))) (ed : dS = dS') :
    headAt m c t o hs S a dS = (args m c).head (here t) h dS' := by
  subst eS ea ed
  unfold headAt Args.head
  congr 1
  · exact cols t (blk0 m c t) h o ho hs
  · exact cols t (blk1 m c t) h o ho hs
  · exact cols t (blk2 m c t) h o ho hs
  · exact cols t (blk3 m c t) h o ho hs
  · exact cols t (blk4 m c t) h o ho hs
  · exact cols t (blk6 m c t) h o ho hs
  · exact cols t (blk9 m c t) h o ho hs
  · exact ng_eq m c t

end Cuts

/-- The point's heads are its chunk's. -/
theorem heads_eq (D : Fin 4 → S1x128x128.Idx → EReal) (dS : Fin 4 → Mat 128 128)
    (e : ∀ h, shapeCast S128x128 (D h) shapeCasts_S1x128x128_S128x128 = dS h) : ∀ h, heads m c t D h = (args m c).head (here t) h (dS h)
  | 0 => headAt_eq m c t 0 0 rfl _ (state_eq m c t 0 _) (scores_eq m c t 0 _) (e 0)
  | 1 => headAt_eq m c t 1 128 rfl _ (state_eq m c t 1 _) (scores_eq m c t 1 _) (e 1)
  | 2 => headAt_eq m c t 2 256 rfl _ (state_eq m c t 2 _) (scores_eq m c t 2 _) (e 2)
  | 3 => headAt_eq m c t 3 384 rfl _ (state_eq m c t 3 _) (scores_eq m c t 3 _) (e 3)

end Cert.Delta.Run

end
-- ==== Proof.DeltaFirst.lean ====
/-
  What the body leaves at the first grid point, whose state cotangents are zero.
-/
module

public import proofs.«01_k».proof.Proof.Gen.Kernel7Ideal.Value
public import proofs.«01_k».proof.Proof.DeltaPoint
public import Idealize.ShloMosaic.Lib.ValueIdx
public import Idealize.ShloMosaic.Lib.Pipeline.ValueKit.Acc
public import Idealize.ShloMosaic.Lib.Pipeline.ValueKit.Geometry

@[expose] public section
set_option maxRecDepth 16384
set_option maxHeartbeats 8000000
noncomputable section
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel7Ideal Cert.Kernel7Ideal.Gen

namespace Cert.Delta.Run

variable (m : (ℓ : Loc nD τ sig) → Buf (Elt Ideal) ℓ) (c : Dev nD) (t : Fin cfg0.N)

/-! ## The seven arrays of 64 rows -/

theorem du_first (h0 : t.val % 64 = 0) (h1 : t.val % 64 = 0) (h2 : ¬1 ≤ t.val) :
    (outsAt0 m c t.val t.isLt).1 = beside fun h => Body.dU (heads m c t zeros h) := by
  rw [outsAt0_A m c t h0 h1 h2]
  frame_out
  refine four_args (k0_pay179 (F := Ideal)) ?_ ?_ ?_ ?_ <;> rfl

theorem dw_first (h0 : t.val % 64 = 0) (h1 : t.val % 64 = 0) (h2 : ¬1 ≤ t.val) :
    (outsAt0 m c t.val t.isLt).2.1 = beside fun h => Body.dW (heads m c t zeros h) := by
  rw [outsAt0_A m c t h0 h1 h2]
  frame_out
  refine four_args (k0_pay178 (F := Ideal)) ?_ ?_ ?_ ?_ <;> rfl

theorem dqd_first (h0 : t.val % 64 = 0) (h1 : t.val % 64 = 0) (h2 : ¬1 ≤ t.val) :
    (outsAt0 m c t.val t.isLt).2.2.1 = beside fun h => Body.dQd (heads m c t zeros h) := by
  rw [outsAt0_A m c t h0 h1 h2]
  frame_out
  refine (beside_spread _ _ _ _).trans (four_args (k0_pay179 (F := Ideal)) ?_ ?_ ?_ ?_) <;> rfl

theorem dkd_first (h0 : t.val % 64 = 0) (h1 : t.val % 64 = 0) (h2 : ¬1 ≤ t.val) :
    (outsAt0 m c t.val t.isLt).2.2.2.1 = beside fun h => Body.dKd (heads m c t zeros h) := by
  rw [outsAt0_A m c t h0 h1 h2]
  frame_out
  refine four_args (k0_pay174 (F := Ideal)) ?_ ?_ ?_ ?_ <;> rfl

theorem dsc_first (h0 : t.val % 64 = 0) (h1 : t.val % 64 = 0) (h2 : ¬1 ≤ t.val) :
    (outsAt0 m c t.val t.isLt).2.2.2.2.1 = beside fun h => Body.dSc (heads m c t zeros h) := by
  rw [outsAt0_A m c t h0 h1 h2]
  frame_out
  refine four_args (k0_pay173 (F := Ideal)) ?_ ?_ ?_ ?_ <;> rfl

theorem dgate_first (h0 : t.val % 64 = 0) (h1 : t.val % 64 = 0) (h2 : ¬1 ≤ t.val) :
    (outsAt0 m c t.val t.isLt).2.2.2.2.2.2.1 = k0_pay1 (F := Ideal) (beside fun h => Body.dGate (heads m c t zeros h)) := by
  rw [outsAt0_A m c t h0 h1 h2]
  frame_out
  refine congrArg (k0_pay1 (F := Ideal)) (four_args (fun a b c d => k0_pay172 (F := Ideal) a b c d k0_pay171) ?_ ?_ ?_ ?_) <;> rfl

/-! ## The scale's gradient, the in-chunk scores' and the state's -/

theorem dng_first (h0 : t.val % 64 = 0) (h1 : t.val % 64 = 0) (h2 : ¬1 ≤ t.val) :
    (outsAt0 m c t.val t.isLt).2.2.2.2.2.2.2.1 = total fun h => Body.dNg (heads m c t zeros h) := by
  rw [outsAt0_A m c t h0 h1 h2]
  frame_out
  rfl

theorem dattn_first (h0 : t.val % 64 = 0) (h1 : t.val % 64 = 0) (h2 : ¬1 ≤ t.val) :
    (outsAt0 m c t.val t.isLt).2.2.2.2.2.1 = stackA fun h => Body.dA (heads m c t zeros h) := by
  rw [outsAt0_A m c t h0 h1 h2]
  frame_out
  rfl

theorem back_first (h0 : t.val % 64 = 0) (h1 : t.val % 64 = 0) (h2 : ¬1 ≤ t.val) :
    (outsAt0 m c t.val t.isLt).2.2.2.2.2.2.2.2 = stack [blank] fun h => Body.back (heads m c t zeros h) := by
  rw [outsAt0_A m c t h0 h1 h2]
  frame_out
  rfl

end Cert.Delta.Run
-- ==== Proof.DeltaLater.lean ====
/-
  What the body leaves at a later grid point, whose state cotangents are those the point before left.
-/
module

public import proofs.«01_k».proof.Proof.Gen.Kernel7Ideal.Value
public import proofs.«01_k».proof.Proof.DeltaPoint
public import Idealize.ShloMosaic.Lib.ValueIdx
public import Idealize.ShloMosaic.Lib.Pipeline.ValueKit.Acc
public import Idealize.ShloMosaic.Lib.Pipeline.ValueKit.Geometry

@[expose] public section
set_option maxRecDepth 16384
set_option maxHeartbeats 8000000
noncomputable section
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel7Ideal Cert.Kernel7Ideal.Gen

namespace Cert.Delta.Run

variable (m : (ℓ : Loc nD τ sig) → Buf (Elt Ideal) ℓ) (c : Dev nD) (t : Fin cfg0.N)

/-! ## The seven arrays of 64 rows -/

theorem du_later (h0 : ¬t.val % 64 = 0) (h1 : ¬t.val % 64 = 0) (h2 : 1 ≤ t.val) :
    (outsAt0 m c t.val t.isLt).1 = beside fun h => Body.dU (heads m c t (layers (kept m c t)) h) := by
  rw [outsAt0_B m c t h0 h1 h2]
  frame_out
  refine four_args (k0_pay179 (F := Ideal)) ?_ ?_ ?_ ?_ <;> rfl

theorem dw_later (h0 : ¬t.val % 64 = 0) (h1 : ¬t.val % 64 = 0) (h2 : 1 ≤ t.val) :
    (outsAt0 m c t.val t.isLt).2.1 = beside fun h => Body.dW (heads m c t (layers (kept m c t)) h) := by
  rw [outsAt0_B m c t h0 h1 h2]
  frame_out
  refine four_args (k0_pay178 (F := Ideal)) ?_ ?_ ?_ ?_ <;> rfl

theorem dqd_later (h0 : ¬t.val % 64 = 0) (h1 : ¬t.val % 64 = 0) (h2 : 1 ≤ t.val) :
    (outsAt0 m c t.val t.isLt).2.2.1 = beside fun h => Body.dQd (heads m c t (layers (kept m c t)) h) := by
  rw [outsAt0_B m c t h0 h1 h2]
  frame_out
  refine (beside_spread _ _ _ _).trans (four_args (k0_pay179 (F := Ideal)) ?_ ?_ ?_ ?_) <;> rfl

theorem dkd_later (h0 : ¬t.val % 64 = 0) (h1 : ¬t.val % 64 = 0) (h2 : 1 ≤ t.val) :
    (outsAt0 m c t.val t.isLt).2.2.2.1 = beside fun h => Body.dKd (heads m c t (layers (kept m c t)) h) := by
  rw [outsAt0_B m c t h0 h1 h2]
  frame_out
  refine four_args (k0_pay174 (F := Ideal)) ?_ ?_ ?_ ?_ <;> rfl

theorem dsc_later (h0 : ¬t.val % 64 = 0) (h1 : ¬t.val % 64 = 0) (h2 : 1 ≤ t.val) :
    (outsAt0 m c t.val t.isLt).2.2.2.2.1 = beside fun h => Body.dSc (heads m c t (layers (kept m c t)) h) := by
  rw [outsAt0_B m c t h0 h1 h2]
  frame_out
  refine four_args (k0_pay173 (F := Ideal)) ?_ ?_ ?_ ?_ <;> rfl

theorem dgate_later (h0 : ¬t.val % 64 = 0) (h1 : ¬t.val % 64 = 0) (h2 : 1 ≤ t.val) :
    (outsAt0 m c t.val t.isLt).2.2.2.2.2.2.1 = k0_pay1 (F := Ideal) (beside fun h => Body.dGate (heads m c t (layers (kept m c t)) h)) := by
  rw [outsAt0_B m c t h0 h1 h2]
  frame_out
  refine congrArg (k0_pay1 (F := Ideal)) (four_args (fun a b c d => k0_pay172 (F := Ideal) a b c d k0_pay171) ?_ ?_ ?_ ?_) <;> rfl

/-! ## The scale's gradient, the in-chunk scores' and the state's -/

theorem dng_later (h0 : ¬t.val % 64 = 0) (h1 : ¬t.val % 64 = 0) (h2 : 1 ≤ t.val) :
    (outsAt0 m c t.val t.isLt).2.2.2.2.2.2.2.1
      = k0_pay2 (F := Ideal) (total fun h => Body.dNg (heads m c t (layers (kept m c t)) h)) (outsAt0 m c (t.val - 1) (by have := t.isLt; omega)).2.2.2.2.2.2.2.1 := by
  rw [outsAt0_B m c t h0 h1 h2]
  frame_out
  rfl

theorem dattn_later (h0 : ¬t.val % 64 = 0) (h1 : ¬t.val % 64 = 0) (h2 : 1 ≤ t.val) :
    (outsAt0 m c t.val t.isLt).2.2.2.2.2.1 = stackA fun h => Body.dA (heads m c t (layers (kept m c t)) h) := by
  rw [outsAt0_B m c t h0 h1 h2]
  frame_out
  rfl

theorem back_later (h0 : ¬t.val % 64 = 0) (h1 : ¬t.val % 64 = 0) (h2 : 1 ≤ t.val) :
    (outsAt0 m c t.val t.isLt).2.2.2.2.2.2.2.2 = stack [] fun h => Body.back (heads m c t (layers (kept m c t)) h) := by
  rw [outsAt0_B m c t h0 h1 h2]
  frame_out
  rfl

end Cert.Delta.Run
-- ==== Proof.DeltaFinal.lean ====
/-
  The delta rule's backward call over the whole grid: the cotangent of the state, carried from point to point in the
  scratch, is the one `DeltaArrays.lean` carries from chunk to chunk, and the results are its gradients.
-/
module

public import proofs.«01_k».proof.Proof.DeltaRun
public import proofs.«01_k».proof.Proof.DeltaFirst
public import proofs.«01_k».proof.Proof.DeltaLater

@[expose] public section

set_option maxRecDepth 16384

noncomputable section

open Idealize.ShloMosaic Idealize.ShloMosaic.TcCoe Idealize.ShloMosaic.ValueIdx Idealize.SL.Sem
open Cert.Kernel7Ideal Cert.Kernel7Ideal.Gen Cert.Dense Cert.Stacks
open scoped BigOperators

namespace Cert.Delta.Run

variable (m : (ℓ : Loc nD τ sig) → Buf (Elt Ideal) ℓ) (c : Dev nD)

/-! ## From point to point -/

section Point
variable (t : Fin cfg0.N)

theorem at_here (h : Fin 4) : (args m c).at_ (here t) h = (args m c).head (here t) h ((args m c).carry h t.val) :=
  (args m c).at_fromLast (here t) h t.val (by have := lt64 t; show 63 - t.val + t.val = 63; omega)

theorem first_head (h2 : ¬1 ≤ t.val) (h : Fin 4) : heads m c t zeros h = (args m c).at_ (here t) h := by
  rw [at_here, show t.val = 0 by omega]
  exact heads_eq m c t zeros (fun h => (args m c).carry h 0) zeros_eq h

theorem kept_eq : kept m c t = (outsAt0 m c (t.val - 1) (by have := t.isLt; omega)).2.2.2.2.2.2.2.2 :=
  funext fun y => congrFun ((Memref.isWhole_whole cc0_scratch0).read_unread _) y

theorem later_head_of (e : ∀ h, layer (outsAt0 m c (t.val - 1) (by have := t.isLt; omega)).2.2.2.2.2.2.2.2 h = (args m c).carry h t.val) (h : Fin 4) :
    heads m c t (layers (kept m c t)) h = (args m c).at_ (here t) h := by
  rw [at_here, kept_eq]
  exact heads_eq m c t _ (fun h => (args m c).carry h t.val) (fun h => (layers_eq _ h).trans (e h)) h

theorem carry_next (h : Fin 4) : ((args m c).at_ (here t) h).back = (args m c).carry h (t.val + 1) := by
  rw [at_here]
  rfl

end Point

/-- After point `n` the scratch holds what is carried on to the chunk before. -/
theorem scratch : ∀ (n : ℕ) (hn : n < cfg0.N) (h : Fin 4), layer (outsAt0 m c n hn).2.2.2.2.2.2.2.2 h = (args m c).carry h (n + 1)
  | 0, hn, h => by
    refine mat_ext fun r d => ?_
    refine (congrFun (back_first m c ⟨0, hn⟩ rfl rfl (by show ¬1 ≤ 0; omega)) (ix3 h r d)).trans ((stack_apply _ _ h r d).trans ?_)
    rw [first_head m c ⟨0, hn⟩ (by show ¬1 ≤ 0; omega), Body.back_eq, carry_next]
  | n + 1, hn, h => by
    have lt : n + 1 < 64 := lt64 ⟨n + 1, hn⟩
    refine mat_ext fun r d => ?_
    refine (congrFun (back_later m c ⟨n + 1, hn⟩ (by show ¬(n + 1) % 64 = 0; omega) (by show ¬(n + 1) % 64 = 0; omega) (by show 1 ≤ n + 1; omega))
      (ix3 h r d)).trans ((stack_apply _ _ h r d).trans ?_)
    rw [later_head_of m c ⟨n + 1, hn⟩ (fun k => scratch n _ k), Body.back_eq, carry_next]

section Results
variable (t : Fin cfg0.N)

theorem later_head (h2 : 1 ≤ t.val) (h : Fin 4) : heads m c t (layers (kept m c t)) h = (args m c).at_ (here t) h :=
  later_head_of m c t (fun k => (scratch m c (t.val - 1) _ k).trans (by rw [Nat.sub_add_cancel h2])) h

/-- A point is the first, or comes after one. -/
theorem cases {P : Prop} (hf : t.val % 64 = 0 → t.val % 64 = 0 → ¬1 ≤ t.val → P) (hl : ¬t.val % 64 = 0 → ¬t.val % 64 = 0 → 1 ≤ t.val → P) : P := by
  have := lt64 t
  by_cases h : 1 ≤ t.val
  · exact hl (by omega) (by omega) h
  · exact hf (by omega) (by omega) h

/-! ## What each point leaves of the results -/

theorem left_du : (outsAt0 m c t.val t.isLt).1 = beside fun h => ((args m c).at_ (here t) h).dU :=
  cases t (fun h0 h1 h2 => (du_first m c t h0 h1 h2).trans (congrArg beside (funext fun h => by rw [first_head m c t h2, Body.dU_eq])))
    fun h0 h1 h2 => (du_later m c t h0 h1 h2).trans (congrArg beside (funext fun h => by rw [later_head m c t h2, Body.dU_eq]))

theorem left_dw : (outsAt0 m c t.val t.isLt).2.1 = beside fun h => ((args m c).at_ (here t) h).dW :=
  cases t (fun h0 h1 h2 => (dw_first m c t h0 h1 h2).trans (congrArg beside (funext fun h => by rw [first_head m c t h2, Body.dW_eq])))
    fun h0 h1 h2 => (dw_later m c t h0 h1 h2).trans (congrArg beside (funext fun h => by rw [later_head m c t h2, Body.dW_eq]))

theorem left_dqd : (outsAt0 m c t.val t.isLt).2.2.1 = beside fun h => ((args m c).at_ (here t) h).dQd :=
  cases t (fun h0 h1 h2 => (dqd_first m c t h0 h1 h2).trans (congrArg beside (funext fun h => by rw [first_head m c t h2, Body.dQd_eq])))
    fun h0 h1 h2 => (dqd_later m c t h0 h1 h2).trans (congrArg beside (funext fun h => by rw [later_head m c t h2, Body.dQd_eq]))

theorem left_dkd : (outsAt0 m c t.val t.isLt).2.2.2.1 = beside fun h => ((args m c).at_ (here t) h).dKd :=
  cases t (fun h0 h1 h2 => (dkd_first m c t h0 h1 h2).trans (congrArg beside (funext fun h => by rw [first_head m c t h2, Body.dKd_eq])))
    fun h0 h1 h2 => (dkd_later m c t h0 h1 h2).trans (congrArg beside (funext fun h => by rw [later_head m c t h2, Body.dKd_eq]))

theorem left_dsc : (outsAt0 m c t.val t.isLt).2.2.2.2.1 = beside fun h => ((args m c).at_ (here t) h).dSc :=
  cases t (fun h0 h1 h2 => (dsc_first m c t h0 h1 h2).trans (congrArg beside (funext fun h => by rw [first_head m c t h2, Body.dSc_eq])))
    fun h0 h1 h2 => (dsc_later m c t h0 h1 h2).trans (congrArg beside (funext fun h => by rw [later_head m c t h2, Body.dSc_eq]))

theorem left_dattn : (outsAt0 m c t.val t.isLt).2.2.2.2.2.1 = stackA fun h => ((args m c).at_ (here t) h).dA :=
  cases t (fun h0 h1 h2 => (dattn_first m c t h0 h1 h2).trans (congrArg stackA (funext fun h => by rw [first_head m c t h2, Body.dA_eq])))
    fun h0 h1 h2 => (dattn_later m c t h0 h1 h2).trans (congrArg stackA (funext fun h => by rw [later_head m c t h2, Body.dA_eq]))

theorem round_apply (x : FVec Ideal S64x512 .f32) (e : S64x512.Idx) : k0_pay1 (F := Ideal) x e = x e := by
  unfold k0_pay1
  rfl

theorem left_dgate (e : S64x512.Idx) : (outsAt0 m c t.val t.isLt).2.2.2.2.2.2.1 e = beside (fun h => ((args m c).at_ (here t) h).dGate) e :=
  cases t
    (fun h0 h1 h2 => (congrFun (dgate_first m c t h0 h1 h2) e).trans ((round_apply _ e).trans
      (congrFun (congrArg beside (funext fun h => by rw [first_head m c t h2, Body.dGate_eq])) e)))
    fun h0 h1 h2 => (congrFun (dgate_later m c t h0 h1 h2) e).trans ((round_apply _ e).trans
      (congrFun (congrArg beside (funext fun h => by rw [later_head m c t h2, Body.dGate_eq])) e))

/-- The scale's gradient over a point's four heads. -/
theorem total_eq {x : Fin 4 → FVec Ideal S1x128 .f32} (e : ∀ h d, x h (ix2 0 d) = ((args m c).at_ (here t) h).dNg d) (d : Fin 128) :
    total x (ix2 0 d) = ∑ h : Fin 4, ((args m c).at_ (here t) h).dNg d := by
  show x 3 (ix2 0 d) + x 2 (ix2 0 d) + x 1 (ix2 0 d) + x 0 (ix2 0 d) = _
  rw [Fin.sum_univ_four, e, e, e, e]
  generalize ((args m c).at_ (here t) 0).dNg d = a0
  generalize ((args m c).at_ (here t) 1).dNg d = a1
  rw [add_comm _ a0, add_comm _ a1, ← add_assoc, add_assoc, add_comm (((args m c).at_ (here t) 3).dNg d), add_assoc]
  simp only [add_assoc]

end Results

/-- After point `n` its buffer holds the sum over the chunks so far. -/
theorem summed (d : Fin 128) : ∀ (n : ℕ) (hn : n < cfg0.N),
    (outsAt0 m c n hn).2.2.2.2.2.2.2.1 (ix2 0 d) = ∑ i ∈ Finset.range (n + 1), ∑ h : Fin 4, ((args m c).at_ (Args.fromLast i) h).dNg d
  | 0, hn => by
    have h2 : ¬1 ≤ (⟨0, hn⟩ : Fin cfg0.N).val := by show ¬1 ≤ 0; omega
    rw [Finset.sum_range_one]
    refine (congrFun (dng_first m c ⟨0, hn⟩ rfl rfl h2) (ix2 0 d)).trans (total_eq m c ⟨0, hn⟩ (fun h d => ?_) d)
    rw [first_head m c ⟨0, hn⟩ h2, Body.dNg_apply]
  | n + 1, hn => by
    have lt : n + 1 < 64 := lt64 ⟨n + 1, hn⟩
    have h2 : 1 ≤ (⟨n + 1, hn⟩ : Fin cfg0.N).val := by show 1 ≤ n + 1; omega
    rw [Finset.sum_range_succ]
    refine (congrFun (dng_later m c ⟨n + 1, hn⟩ (by show ¬(n + 1) % 64 = 0; omega) (by show ¬(n + 1) % 64 = 0; omega) h2) (ix2 0 d)).trans ?_
    unfold k0_pay2
    rw [shapeCast_self, addf_apply]
    exact congrArg₂ (fun a b : EReal => a + b) (summed d n _) (total_eq m c ⟨n + 1, hn⟩ (fun h d => by
      rw [later_head m c ⟨n + 1, hn⟩ h2, Body.dNg_apply]) d)

/-! ## The results over the whole arrays -/

/-- An entry of a block of rows, by head and column. -/
theorem entry (f : Head → Mat 64 128) (t : Fin cfg0.N) (r : Fin 64) (k : Fin 512) :
    beside (fun h => f ((args m c).at_ (here t) h)) (ix2 r k) = (args m c).whole f (ix2 (row (here t) r) k) := by
  rw [← col_split k]
  exact (beside_apply _ r _ _).trans ((args m c).whole_apply f (here t) r _ _).symm

theorem final_du : (dats m 0 c).arrAt 10 cfg0.N = (args m c).whole Head.dU := by
  refine (dats m 0 c).arrAt_eq_of_covers 10 _ (by decide +kernel) fun t hf y => ?_
  obtain ⟨r, k, rfl⟩ : ∃ (r : Fin 64) (k : Fin 512), y = ix2 r k := ⟨_, _, eq_ix2 (n0 := 64) (n1 := 512) y⟩
  have p := (places_out t).1
  have hi : ((cfg0.win 10).blk t).view.emb (ix2 r k) = ix2 (row (here t) r) k :=
    at_row t _ _ r k p.1 (win0_10.rect_emb_val t (ix2 r k) 0) (win0_10.rect_emb_val_of_index_zero t 1 p.2 (ix2 r k))
  rw [hi]
  exact (congrFun ((after0_10 m c t).trans (left_du m c t)) (ix2 r k)).trans (entry m c Head.dU t r k)

theorem final_dw : (dats m 0 c).arrAt 11 cfg0.N = (args m c).whole Head.dW := by
  refine (dats m 0 c).arrAt_eq_of_covers 11 _ (by decide +kernel) fun t hf y => ?_
  obtain ⟨r, k, rfl⟩ : ∃ (r : Fin 64) (k : Fin 512), y = ix2 r k := ⟨_, _, eq_ix2 (n0 := 64) (n1 := 512) y⟩
  have p := (places_out t).2.1
  have hi : ((cfg0.win 11).blk t).view.emb (ix2 r k) = ix2 (row (here t) r) k :=
    at_row t _ _ r k p.1 (win0_11.rect_emb_val t (ix2 r k) 0) (win0_11.rect_emb_val_of_index_zero t 1 p.2 (ix2 r k))
  rw [hi]
  exact (congrFun ((after0_11 m c t).trans (left_dw m c t)) (ix2 r k)).trans (entry m c Head.dW t r k)

theorem final_dqd : (dats m 0 c).arrAt 12 cfg0.N = (args m c).whole Head.dQd := by
  refine (dats m 0 c).arrAt_eq_of_covers 12 _ (by decide +kernel) fun t hf y => ?_
  obtain ⟨r, k, rfl⟩ : ∃ (r : Fin 64) (k : Fin 512), y = ix2 r k := ⟨_, _, eq_ix2 (n0 := 64) (n1 := 512) y⟩
  have p := (places_out t).2.2.1
  have hi : ((cfg0.win 12).blk t).view.emb (ix2 r k) = ix2 (row (here t) r) k :=
    at_row t _ _ r k p.1 (win0_12.rect_emb_val t (ix2 r k) 0) (win0_12.rect_emb_val_of_index_zero t 1 p.2 (ix2 r k))
  rw [hi]
  exact (congrFun ((after0_12 m c t).trans (left_dqd m c t)) (ix2 r k)).trans (entry m c Head.dQd t r k)

theorem final_dkd : (dats m 0 c).arrAt 13 cfg0.N = (args m c).whole Head.dKd := by
  refine (dats m 0 c).arrAt_eq_of_covers 13 _ (by decide +kernel) fun t hf y => ?_
  obtain ⟨r, k, rfl⟩ : ∃ (r : Fin 64) (k : Fin 512), y = ix2 r k := ⟨_, _, eq_ix2 (n0 := 64) (n1 := 512) y⟩
  have p := (places_out t).2.2.2.1
  have hi : ((cfg0.win 13).blk t).view.emb (ix2 r k) = ix2 (row (here t) r) k :=
    at_row t _ _ r k p.1 (win0_13.rect_emb_val t (ix2 r k) 0) (win0_13.rect_emb_val_of_index_zero t 1 p.2 (ix2 r k))
  rw [hi]
  exact (congrFun ((after0_13 m c t).trans (left_dkd m c t)) (ix2 r k)).trans (entry m c Head.dKd t r k)

theorem final_dsc : (dats m 0 c).arrAt 14 cfg0.N = (args m c).whole Head.dSc := by
  refine (dats m 0 c).arrAt_eq_of_covers 14 _ (by decide +kernel) fun t hf y => ?_
  obtain ⟨r, k, rfl⟩ : ∃ (r : Fin 64) (k : Fin 512), y = ix2 r k := ⟨_, _, eq_ix2 (n0 := 64) (n1 := 512) y⟩
  have p := (places_out t).2.2.2.2.1
  have hi : ((cfg0.win 14).blk t).view.emb (ix2 r k) = ix2 (row (here t) r) k :=
    at_row t _ _ r k p.1 (win0_14.rect_emb_val t (ix2 r k) 0) (win0_14.rect_emb_val_of_index_zero t 1 p.2 (ix2 r k))
  rw [hi]
  exact (congrFun ((after0_14 m c t).trans (left_dsc m c t)) (ix2 r k)).trans (entry m c Head.dSc t r k)

theorem final_dattn : (dats m 0 c).arrAt 15 cfg0.N = (args m c).scores := by
  refine (dats m 0 c).arrAt_eq_of_covers 15 _ (by decide +kernel) fun t hf y => ?_
  obtain ⟨h, r, k, rfl⟩ : ∃ (h : Fin 4) (r k : Fin 64), y = ix3 h r k := ⟨_, _, _, eq_ix3 (n0 := 4) (n1 := 64) (n2 := 64) y⟩
  have p := (places_out t).2.2.2.2.2.1
  have hi : ((cfg0.win 15).blk t).view.emb (ix3 h r k) = ix3 h (row (here t) r) k :=
    at_score t _ _ h r k p.2.1 (win0_15.rect_emb_val_of_index_zero t 0 p.1 (ix3 h r k)) (win0_15.rect_emb_val t (ix3 h r k) 1)
      (win0_15.rect_emb_val_of_index_zero t 2 p.2.2 (ix3 h r k))
  rw [hi]
  exact (congrFun ((after0_15 m c t).trans (left_dattn m c t)) (ix3 h r k)).trans
    ((stackA_apply _ h r k).trans ((args m c).scores_apply (here t) r k h).symm)

theorem final_dgate : (dats m 0 c).arrAt 16 cfg0.N = (args m c).whole Head.dGate := by
  refine (dats m 0 c).arrAt_eq_of_covers 16 _ (by decide +kernel) fun t hf y => ?_
  obtain ⟨r, k, rfl⟩ : ∃ (r : Fin 64) (k : Fin 512), y = ix2 r k := ⟨_, _, eq_ix2 (n0 := 64) (n1 := 512) y⟩
  have p := (places_out t).2.2.2.2.2.2.1
  have hi : ((cfg0.win 16).blk t).view.emb (ix2 r k) = ix2 (row (here t) r) k :=
    at_row t _ _ r k p.1 (win0_16.rect_emb_val t (ix2 r k) 0) (win0_16.rect_emb_val_of_index_zero t 1 p.2 (ix2 r k))
  rw [hi]
  exact (congrFun (after0_16 m c t) (ix2 r k)).trans <| (left_dgate m c t (ix2 r k)).trans (entry m c Head.dGate t r k)

/-- The sum over the points is the sum over the chunks, last first. -/
theorem all_chunks (f : Fin 64 → EReal) : ∑ i ∈ Finset.range 64, f (Args.fromLast i) = ∑ n : Fin 64, f n := by
  rw [Finset.sum_range, ← Equiv.sum_comp Fin.revPerm]
  refine Finset.sum_congr rfl fun i _ => congrArg f (Fin.ext ?_)
  show 63 - (64 - (i.val + 1)) = i.val
  have := i.isLt
  omega

theorem final_dng : (dats m 0 c).arrAt 17 cfg0.N = (args m c).scale := by
  refine (dats m 0 c).arrAt_eq_of_covers 17 _ (by decide +kernel) fun t hf y => ?_
  have h63 : t.val = 63 := by
    have := (flush0_17 t).mp hf
    have := lt64 t
    omega
  obtain ⟨r, d, rfl⟩ : ∃ (r : Fin 1) (d : Fin 128), y = ix2 r d := ⟨_, _, eq_ix2 (n0 := 1) (n1 := 128) y⟩
  obtain rfl : r = 0 := Subsingleton.elim _ _
  have p := (places_out t).2.2.2.2.2.2.2
  have hi : ((cfg0.win 17).blk t).view.emb (ix2 0 d) = ix2 0 d :=
    idx_ext (win0_17.rect_emb_val_of_index_zero t 0 p.1 (ix2 0 d)) (win0_17.rect_emb_val_of_index_zero t 1 p.2 (ix2 0 d))
  rw [hi]
  refine (congrFun (after0_17 m c t) (ix2 0 d)).trans ((summed m c d t.val t.isLt).trans ?_)
  rw [h63]
  exact all_chunks fun n => ∑ h : Fin 4, ((args m c).at_ n h).dNg d

end Cert.Delta.Run

end
-- ==== Proof.DeltaPlain.lean ====
/-
  One trip of the reference's loop over the extended reals: what it computes of the chunk it reads, head by head, is
  what `Delta.lean` says of that head.
-/
module

public import proofs.«01_k».proof.Proof.Stacks
public import proofs.«01_k».proof.Proof.Delta
public import proofs.«01_k».proof.Proof.Tile
public import proofs.«01_k».proof.Proof.Gen.Reference7Ideal.Step

@[expose] public section

set_option maxRecDepth 16384

noncomputable section

open Idealize.ShloMosaic Idealize.ShloMosaic.ValueIdx Idealize.ShloMosaic.StackMember
open Cert.Reference7Ideal Cert.Reference7Ideal.Gen Cert.Reference7Ideal.Step Cert.Dense Cert.Stacks
open scoped BigOperators

namespace Cert.Delta.Plain

/-- The head a trip works on: chunk `n` of what it is given, and the cotangent it carries. -/
def given (s : State Ideal) (n : Fin 64) (h : Fin 4) : Head where
  S := chunk s.main_v26_0 n h
  u := chunk s.main_v26_1 n h
  w := chunk s.main_v26_2 n h
  qd := chunk s.main_v26_3 n h
  kd := chunk s.main_v26_4 n h
  sc := chunk s.main_v26_5 n h
  gate := chunk s.main_v26_7 n h
  g := chunk s.main_v26_8 n h
  a := chunk s.main_v26_6 n h
  ng := s.main_v26_9
  dS := layer s.main_v26_11 h

variable {j : ℕ} {n : Fin 64} (hn : n.val + j = 63) (s : State Ideal) (h : Fin 4)

/-- Trip `j` reads chunk `63 - j`. -/
theorem word (n : Fin 64) : (64#32 - BitVec.ofNat 32 (63 - n.val) - 1#32).toInt = (n.val : ℤ) := by
  revert n; decide +kernel

include hn in
theorem starts (a b c : (⟨S_, .i32⟩ : BufTy).Contents (Elt Ideal)) (ha : a = constantI S_ 32 0#32) (hb : b = constantI S_ 32 0#32)
    (hc : c = constantI S_ 32 0#32) (k : Fin 4) :
    ((![b3 j s, a, b, c] : Fin 4 → (⟨S_, .i32⟩ : BufTy).Contents (Elt Ideal)) k (Shape.Idx.first h_S_)).toInt
      = ((![n.val, 0, 0, 0] : Fin 4 → ℕ) k : ℤ) := by
  subst ha hb hc
  match k with
  | ⟨0, _⟩ =>
    obtain rfl : j = 63 - n.val := by omega
    exact word n
  | ⟨1, _⟩ => rfl
  | ⟨2, _⟩ => rfl
  | ⟨3, _⟩ => rfl

section Reads
include hn

theorem state : layer (b8 j s) h = (given s n h).S := read_chunk _ _ n (starts hn s _ _ _ rfl rfl rfl) _ _ h
theorem u : layer (b13 j s) h = (given s n h).u := read_chunk _ _ n (starts hn s _ _ _ rfl rfl rfl) _ _ h
theorem w : layer (b18 j s) h = (given s n h).w := read_chunk _ _ n (starts hn s _ _ _ rfl rfl rfl) _ _ h
theorem qd : layer (b23 j s) h = (given s n h).qd := read_chunk _ _ n (starts hn s _ _ _ rfl rfl rfl) _ _ h
theorem kd : layer (b28 j s) h = (given s n h).kd := read_chunk _ _ n (starts hn s _ _ _ rfl rfl rfl) _ _ h
theorem sc : layer (b33 j s) h = (given s n h).sc := read_chunk _ _ n (starts hn s _ _ _ rfl rfl rfl) _ _ h
theorem attn : layer (b38 j s) h = (given s n h).a := read_chunk _ _ n (starts hn s _ _ _ rfl rfl rfl) _ _ h
theorem gate : layer (b43 j s) h = (given s n h).gate := read_chunk _ _ n (starts hn s _ _ _ rfl rfl rfl) _ _ h
theorem g : layer (b48 j s) h = (given s n h).g := read_chunk _ _ n (starts hn s _ _ _ rfl rfl rfl) _ _ h

/-! ## The chunk forwards -/

theorem v : layer (b50 j s) h = (given s n h).v := by
  have e : layer (b49 j s) h = nn (given s n h).w (given s n h).S := by
    rw [← w hn s h, ← state hn s h]
    exact dot_nn _ _ _ h
  show (fun x => layer (b13 j s) h x - layer (b49 j s) h x) = _
  rw [u hn, e]
  rfl

theorem o : layer (b53 j s) h = (given s n h).o := by
  have e1 : layer (b51 j s) h = nn (given s n h).qd (given s n h).S := by
    rw [← qd hn s h, ← state hn s h]
    exact dot_nn _ _ _ h
  have e2 : layer (b52 j s) h = nn (given s n h).a (given s n h).v := by
    rw [← attn hn s h, ← v hn s h]
    exact dot_nn _ _ _ h
  show (fun x => layer (b51 j s) h x + layer (b52 j s) h x) = _
  rw [e1, e2]
  rfl

theorem o_apply (r : Fin 64) (d : Fin 128) : b53 j s (ix3 h r d) = (given s n h).o (ix2 r d) := congrFun (o hn s h) (ix2 r d)

theorem ms (r : Fin 64) : b67 j s (ix3 h r 0) = (given s n h).ms r := by
  have e : b61 j s (ix3 h r 0) = ∑ d : Fin 128, (given s n h).o (ix2 r d) * (given s n h).o (ix2 r d) := by
    refine (broadcastInDim_apply _ _ _ _ (ix2 h r) fun a => ?_).trans ((sum_last _ _ _ h r).trans ?_)
    · match a with
      | ⟨0, _⟩ => rfl
      | ⟨1, _⟩ => rfl
    · refine Finset.sum_congr rfl fun d _ => ?_
      show b53 j s (ix3 h r d) * b53 j s (ix3 h r d) = _
      rw [o_apply hn]
  show Ideal.div (b61 j s (ix3 h r 0)) width + eps = _
  rw [e]
  rfl

theorem inv (r : Fin 64) : b68 j s (ix3 h r 0) = (given s n h).inv r := congrArg Ideal.rsqrt (ms hn s h r)

theorem invSlope (r : Fin 64) : b72 j s (ix3 h r 0) = (given s n h).invSlope r :=
  congrArg₂ (fun a b : EReal => neghalf * Ideal.div a b) (inv hn s h r) (ms hn s h r)

theorem spread (x : (⟨S4x64x1, .f32⟩ : BufTy).Contents (Elt Ideal)) (r : Fin 64) (d : Fin 128) :
    broadcastInDim S4x64x128 ![0, 1, 2] bcast_S4x64x1_S4x64x128_0_1_2 x (ix3 h r d) = x (ix3 h r 0) := by
  refine broadcastInDim_apply _ _ _ _ (ix3 h r 0) fun a => ?_
  match a with
  | ⟨0, _⟩ => rfl
  | ⟨1, _⟩ => rfl
  | ⟨2, _⟩ => rfl

theorem normed : layer (b74 j s) h = (given s n h).normed := by
  refine mat_ext fun r d => ?_
  show b53 j s (ix3 h r d) * b73 j s (ix3 h r d) = _
  rw [o_apply hn, show b73 j s (ix3 h r d) = _ from spread hn h (b68 j s) r d, inv hn]
  rfl

theorem scale (r : Fin 64) (d : Fin 128) : b76 j s (ix3 h r d) = (given s n h).ng (ix2 0 d) := by
  refine (broadcastInDim_apply _ _ _ _ (ix3 0 0 d) fun a => ?_).trans (broadcastInDim_apply _ _ _ _ (ix2 0 d) fun a => ?_)
  · match a with
    | ⟨0, _⟩ => rfl
    | ⟨1, _⟩ => rfl
    | ⟨2, _⟩ => rfl
  · match a with
    | ⟨0, _⟩ => rfl
    | ⟨1, _⟩ => rfl

theorem scaled : layer (b77 j s) h = (given s n h).scaled := by
  refine mat_ext fun r d => ?_
  show layer (b74 j s) h (ix2 r d) * b76 j s (ix3 h r d) = _
  rw [normed hn, scale hn]
  rfl

theorem sig (e : (⟨2, ![64, 128]⟩ : Shape).Idx) : layer (b85 j s) h e = Merge.gate ((given s n h).gate e) := by
  show Ideal.div (Ideal.ofBits .f32 0x3F800000#32) (Ideal.ofBits .f32 0x3F800000#32 + Ideal.exp (-(layer (b43 j s) h e))) = _
  rw [gate hn, Merge.one_f32]
  rfl

theorem silu : layer (b90 j s) h = (given s n h).silu := by
  refine mat_ext fun r d => ?_
  show layer (b43 j s) h (ix2 r d) * layer (b85 j s) h (ix2 r d) = _
  rw [gate hn, sig hn]
  rfl

/-! ## The gate and the norm backwards -/

theorem dGate : layer (b97 j s) h = (given s n h).dGate := by
  refine mat_ext fun r d => ?_
  show layer (b77 j s) h (ix2 r d) * layer (b48 j s) h (ix2 r d) * layer (b85 j s) h (ix2 r d)
    + layer (b43 j s) h (ix2 r d) * (layer (b77 j s) h (ix2 r d) * layer (b48 j s) h (ix2 r d))
      * (layer (b85 j s) h (ix2 r d) * (Ideal.ofBits .f32 0x3F800000#32 - layer (b85 j s) h (ix2 r d))) = _
  rw [scaled hn, g hn, gate hn, sig hn, Merge.one_f32]
  rfl

theorem dScaled : layer (b93 j s) h = (given s n h).dScaled := by
  show (fun e => layer (b48 j s) h e * layer (b90 j s) h e) = _
  rw [g hn, silu hn]
  rfl

theorem dNormed : layer (b103 j s) h = (given s n h).dNormed := by
  refine mat_ext fun r d => ?_
  show layer (b93 j s) h (ix2 r d) * b76 j s (ix3 h r d) = _
  rw [dScaled hn, scale hn]
  rfl

/-- The scale's gradient over the four heads. -/
theorem dNg (d : Fin 128) : b106 j s (ix2 0 d) = ∑ k : Fin 4, (given s n k).dNg d := by
  refine (broadcastInDim_apply _ _ _ _ (ix1 d) fun a => ?_).trans ((sum_leading _ _ _ d).trans ?_)
  · match a with
    | ⟨0, _⟩ => rfl
  · rw [Fin.sum_univ_one, Fin.sum_univ_one]
    refine (shapeCast_apply _ _ _ (ix1 d) ?_).trans ((sum_leading _ _ _ d).trans ?_)
    · rw [Shape.rowMajor_val_one, Shape.rowMajor_val_three]
      show d.val = (0 * 1 + 0) * 128 + d.val
      omega
    · refine Finset.sum_congr rfl fun k _ => Finset.sum_congr rfl fun r _ => ?_
      show layer (b74 j s) k (ix2 r d) * layer (b93 j s) k (ix2 r d) = _
      rw [normed hn, dScaled hn]

theorem coef (r : Fin 64) (d : Fin 128) : b119 j s (ix3 h r d) = (given s n h).coef r := by
  have e : b110 j s (ix3 h r 0) = ∑ k : Fin 128, (given s n h).o (ix2 r k) * (given s n h).dNormed (ix2 r k) := by
    refine (shapeCast_apply _ _ _ (ix2 h r) ?_).trans ((sum_last _ _ _ h r).trans ?_)
    · rw [Shape.rowMajor_val_two, Shape.rowMajor_val_three]
      show h.val * 64 + r.val = (h.val * 64 + r.val) * 1 + 0
      omega
    · refine Finset.sum_congr rfl fun k _ => ?_
      show layer (b53 j s) h (ix2 r k) * layer (b103 j s) h (ix2 r k) = _
      rw [o hn, dNormed hn]
  refine (broadcastInDim_apply _ _ _ _ (ix2 h r) fun a => ?_).trans ((sum_last _ _ _ h r).trans ?_)
  · match a with
    | ⟨0, _⟩ => rfl
    | ⟨1, _⟩ => rfl
  · rw [Fin.sum_univ_one]
    show Ideal.div (b110 j s (ix3 h r 0) * b72 j s (ix3 h r 0)) width = _
    rw [e, invSlope hn]
    rfl

theorem dO : layer (b123 j s) h = (given s n h).dO := by
  refine mat_ext fun r d => ?_
  show layer (b103 j s) h (ix2 r d) * b111 j s (ix3 h r d) + layer (b53 j s) h (ix2 r d) * b119 j s (ix3 h r d)
    + b119 j s (ix3 h r d) * layer (b53 j s) h (ix2 r d) = _
  rw [dNormed hn, o hn, coef hn, show b111 j s (ix3 h r d) = _ from spread hn h (b68 j s) r d, inv hn]
  rfl

/-! ## The recurrence backwards -/

theorem dU : layer (b135 j s) h = (given s n h).dU := by
  have e1 : layer (b125 j s) h = nn (given s n h).kd (given s n h).dS := by
    rw [← kd hn s h]
    exact swap_tt _ _ _ _ h
  have e2 : layer (b134 j s) h = tn (given s n h).a (given s n h).dO := by
    rw [← attn hn s h, ← dO hn s h]
    exact swap_tn _ _ _ _ h
  show (fun x => layer (b125 j s) h x + layer (b134 j s) h x) = _
  rw [e1, e2]
  rfl

theorem negU : layer (b141 j s) h = (given s n h).negU := by
  show (fun x => -(layer (b135 j s) h x)) = _
  rw [dU hn]
  rfl

theorem dW : layer (b145 j s) h = (given s n h).dW := by
  unfold Head.dW
  rw [← negU hn s h, ← state hn s h]
  exact dot_nt _ _ _ h

theorem dQd : layer (b140 j s) h = (given s n h).dQd := by
  unfold Head.dQd
  rw [← dO hn s h, ← state hn s h]
  exact dot_nt _ _ _ h

theorem dKd : layer (b127 j s) h = (given s n h).dKd := by
  unfold Head.dKd
  rw [← v hn s h]
  exact swap_nt _ _ _ _ h

theorem dA : layer (b136 j s) h = (given s n h).dA := by
  unfold Head.dA
  rw [← dO hn s h, ← v hn s h]
  exact dot_nt _ _ _ h

theorem dSc : layer (b132 j s) h = (given s n h).dSc := by
  refine mat_ext fun r d => ?_
  have e1 : b130 j s (ix3 h r d) = layer (b8 j s) h (ix2 (upper r) d) * layer s.main_v26_11 h (ix2 (upper r) d) := by
    refine extractStridedSlice_apply _ (b128 j s) _ _ (ix3 h (upper r) d) fun a => ?_
    match a with
    | ⟨0, _⟩ => exact (Nat.zero_add _).symm
    | ⟨1, _⟩ => exact (Nat.zero_add _).symm
    | ⟨2, _⟩ => exact (Nat.zero_add _).symm
  have e2 : b131 j s (ix3 h r d) = layer (b8 j s) h (ix2 (lower r) d) * layer s.main_v26_11 h (ix2 (lower r) d) := by
    refine extractStridedSlice_apply _ (b128 j s) _ _ (ix3 h (lower r) d) fun a => ?_
    match a with
    | ⟨0, _⟩ => exact (Nat.zero_add _).symm
    | ⟨1, _⟩ => rfl
    | ⟨2, _⟩ => exact (Nat.zero_add _).symm
  show b130 j s (ix3 h r d) + b131 j s (ix3 h r d) = _
  rw [e1, e2, state hn]
  rfl

theorem doubled (x : FVec Ideal S4x64x128 .f32) (r c : Fin 128) :
    concatenate S4x128x128 1 [⟨S4x64x128, x⟩, ⟨S4x64x128, x⟩] concatenates_S4x64x128_S4x64x128_S4x128x128_d1 (ix3 h r c) = x (ix3 h (half r) c) := by
  by_cases hr : r.val < 64
  · refine concatenate_pair_apply_left (t := S4x128x128) 1 x x _ (ix3 h r c) rfl (ix3 h (half r) c) fun a => ?_
    match a with
    | ⟨0, _⟩ => rfl
    | ⟨1, _⟩ => exact Nat.mod_eq_of_lt hr
    | ⟨2, _⟩ => rfl
  · refine concatenate_pair_apply_right (t := S4x128x128) 1 x x _ (ix3 h r c) rfl rfl (ix3 h (half r) c) (fun a ha => ?_) ?_
    · match a with
      | ⟨0, _⟩ => rfl
      | ⟨1, _⟩ => exact absurd rfl ha
      | ⟨2, _⟩ => rfl
    · show r.val % 64 + 64 = r.val
      have := r.isLt
      omega

theorem factor (r c : Fin 128) : b54 j s (ix3 h r c) = (given s n h).sc (ix2 (half r) c) :=
  (doubled hn h (b33 j s) r c).trans (congrFun (sc hn s h) (ix2 (half r) c))

theorem back : layer (b144 j s) h = (given s n h).back := by
  have e1 : layer (b138 j s) h = tn (given s n h).qd (given s n h).dO := by
    rw [← qd hn s h, ← dO hn s h]
    exact swap_tn _ _ _ _ h
  have e2 : layer (b143 j s) h = tn (given s n h).w (given s n h).negU := by
    rw [← w hn s h, ← negU hn s h]
    exact swap_tn _ _ _ _ h
  refine mat_ext fun r d => ?_
  show layer s.main_v26_11 h (ix2 r d) * b54 j s (ix3 h r d) + layer (b138 j s) h (ix2 r d) + layer (b143 j s) h (ix2 r d) = _
  rw [e1, e2, factor hn]
  rfl

end Reads

end Cert.Delta.Plain

end
-- ==== Proof.DeltaTrip.lean ====
/-
  The reference of the gated delta rule walks over the chunks in a loop on the host. Here its results are said of the
  states the loop goes through: what one trip does to what the loop carries is `step`, and the results are read off
  the state after the last trip.
-/
module

public import proofs.«01_k».proof.Proof.Gen.Reference7Ideal.Run
public import proofs.«01_k».proof.Proof.Gen.Reference7Ideal.Step

@[expose] public section

noncomputable section

namespace Cert.Delta.Trip

open Idealize.ShloMosaic Idealize.ShloMosaic.TcCoe Idealize.SL.Sem Idealize.ShloMosaic.StableHlo
open Cert.Reference7Ideal Cert.Reference7Ideal.Gen Cert.Reference7Ideal.Value
open Cert.Reference7Ideal.Step hiding step_main_v26_11 step_main_v26_12 step_main_v26_13 step_main_v26_14 step_main_v26_15 step_main_v26_16 step_main_v26_17 step_main_v26_18 step_main_v26_19

variable {F : FTy → Type} [FloatOps F]

/-- What the loop carries, read off the memory. -/
def carried (V : Valuation τ sig (Elt F)) : State F where
  main_v26_11 := V (Proc.devRef .tc main_v26_11)
  main_v26_12 := V (Proc.devRef .tc main_v26_12)
  main_v26_13 := V (Proc.devRef .tc main_v26_13)
  main_v26_14 := V (Proc.devRef .tc main_v26_14)
  main_v26_15 := V (Proc.devRef .tc main_v26_15)
  main_v26_16 := V (Proc.devRef .tc main_v26_16)
  main_v26_17 := V (Proc.devRef .tc main_v26_17)
  main_v26_18 := V (Proc.devRef .tc main_v26_18)
  main_v26_19 := V (Proc.devRef .tc main_v26_19)
  main_v26_0 := V (Proc.devRef .tc main_v26_0)
  main_v26_1 := V (Proc.devRef .tc main_v26_1)
  main_v26_2 := V (Proc.devRef .tc main_v26_2)
  main_v26_3 := V (Proc.devRef .tc main_v26_3)
  main_v26_4 := V (Proc.devRef .tc main_v26_4)
  main_v26_5 := V (Proc.devRef .tc main_v26_5)
  main_v26_6 := V (Proc.devRef .tc main_v26_6)
  main_v26_7 := V (Proc.devRef .tc main_v26_7)
  main_v26_8 := V (Proc.devRef .tc main_v26_8)
  main_v26_9 := V (Proc.devRef .tc main_v26_9)

/-- The number of the trip, as the memory has it. -/
def Counts (V : Valuation τ sig (Elt F)) (j : ℕ) : Prop :=
  V (Proc.devRef .tc main_v26_10) = constantI S_ 32 (BitVec.ofNat 32 j)

section Trip
variable {V : Valuation τ sig (Elt F)} {j : ℕ}

theorem v44 (h : Counts V j) : res_main_while0b_v44 V = b3 j (carried V) := by
  unfold res_main_while0b_v44
  rw [h]
  rfl

theorem v45 (h : Counts V j) : res_main_while0b_v45 V = b8 j (carried V) := by
  unfold res_main_while0b_v45
  rw [v44 h]
  rfl

theorem v47 (h : Counts V j) : res_main_while0b_v47 V = b18 j (carried V) := by
  unfold res_main_while0b_v47
  rw [v44 h]
  rfl

theorem v48 (h : Counts V j) : res_main_while0b_v48 V = b23 j (carried V) := by
  unfold res_main_while0b_v48
  rw [v44 h]
  rfl

theorem v49 (h : Counts V j) : res_main_while0b_v49 V = b28 j (carried V) := by
  unfold res_main_while0b_v49
  rw [v44 h]
  rfl

theorem v50 (h : Counts V j) : res_main_while0b_v50 V = b33 j (carried V) := by
  unfold res_main_while0b_v50
  rw [v44 h]
  rfl

theorem v51 (h : Counts V j) : res_main_while0b_v51 V = b38 j (carried V) := by
  unfold res_main_while0b_v51
  rw [v44 h]
  rfl

theorem v52 (h : Counts V j) : res_main_while0b_v52 V = b43 j (carried V) := by
  unfold res_main_while0b_v52
  rw [v44 h]
  rfl

theorem v53 (h : Counts V j) : res_main_while0b_v53 V = b48 j (carried V) := by
  unfold res_main_while0b_v53
  rw [v44 h]
  rfl

theorem v55 (h : Counts V j) : res_main_while0b_v55 V = b50 j (carried V) := by
  unfold res_main_while0b_v55
  rw [v44 h, v47 h, v45 h]
  rfl

theorem v58 (h : Counts V j) : res_main_while0b_v58 V = b53 j (carried V) := by
  unfold res_main_while0b_v58
  rw [v48 h, v45 h, v51 h, v55 h]
  rfl

theorem v59 (h : Counts V j) : res_main_while0b_v59 V = b54 j (carried V) := by
  unfold res_main_while0b_v59
  rw [v50 h]
  rfl

theorem v69 (h : Counts V j) : res_main_while0b_v69 V = b67 j (carried V) := by
  unfold res_main_while0b_v69
  rw [v58 h]
  rfl

theorem v70 (h : Counts V j) : res_main_while0b_v70 V = b68 j (carried V) := by
  unfold res_main_while0b_v70
  rw [v69 h]
  rfl

theorem v75 (h : Counts V j) : res_main_while0b_v75 V = b74 j (carried V) := by
  unfold res_main_while0b_v75
  rw [v58 h, v70 h]
  rfl

theorem v76 (h : Counts V j) : res_main_while0b_v76 V = b75 j (carried V) := by
  unfold res_main_while0b_v76
  rfl

theorem v78 (h : Counts V j) : res_main_while0b_v78 V = b77 j (carried V) := by
  unfold res_main_while0b_v78
  rw [v75 h, v76 h]
  rfl

theorem v79_2 (h : Counts V j) : res_main_while0b_v79_2 V = b85 j (carried V) := by
  unfold res_main_while0b_v79_2
  rw [v52 h]
  rfl

theorem v79_0 (h : Counts V j) : res_main_while0b_v79_0 V = b90 j (carried V) := by
  unfold res_main_while0b_v79_0
  rw [v52 h, v79_2 h]
  rfl

theorem v81 (h : Counts V j) : res_main_while0b_v81 V = b92 j (carried V) := by
  unfold res_main_while0b_v81
  rw [v78 h, v53 h]
  rfl

theorem v82 (h : Counts V j) : res_main_while0b_v82 V = b93 j (carried V) := by
  unfold res_main_while0b_v82
  rw [v53 h, v79_0 h]
  rfl

theorem v88 (h : Counts V j) : res_main_while0b_v88 V = b103 j (carried V) := by
  unfold res_main_while0b_v88
  rw [v82 h, v76 h]
  rfl

theorem v100 (h : Counts V j) : res_main_while0b_v100 V = b119 j (carried V) := by
  unfold res_main_while0b_v100
  rw [v58 h, v88 h, v70 h, v69 h]
  rfl

theorem v104 (h : Counts V j) : res_main_while0b_v104 V = b123 j (carried V) := by
  unfold res_main_while0b_v104
  rw [v88 h, v70 h, v58 h, v100 h]
  rfl

theorem v109 (h : Counts V j) : res_main_while0b_v109 V = b128 j (carried V) := by
  unfold res_main_while0b_v109
  rw [v45 h]
  rfl

theorem v116 (h : Counts V j) : res_main_while0b_v116 V = b135 j (carried V) := by
  unfold res_main_while0b_v116
  rw [v49 h, v104 h, v51 h]
  rfl

theorem v122 (h : Counts V j) : res_main_while0b_v122 V = b141 j (carried V) := by
  unfold res_main_while0b_v122
  rw [v116 h]
  rfl

theorem s11 (h : Counts V j) : STEP V (Proc.devRef .tc main_v26_11) = b144 j (carried V) := by
  rw [STEP_main_v26_11]
  unfold step_main_v26_11
  rw [v59 h, v104 h, v48 h, v122 h, v47 h]
  rfl

theorem s12 (h : Counts V j) : STEP V (Proc.devRef .tc main_v26_12) = b150 j (carried V) := by
  rw [STEP_main_v26_12]
  unfold step_main_v26_12
  rw [v116 h, v44 h]
  rfl

theorem s13 (h : Counts V j) : STEP V (Proc.devRef .tc main_v26_13) = b155 j (carried V) := by
  rw [STEP_main_v26_13]
  unfold step_main_v26_13
  rw [v122 h, v45 h, v44 h]
  rfl

theorem s14 (h : Counts V j) : STEP V (Proc.devRef .tc main_v26_14) = b160 j (carried V) := by
  rw [STEP_main_v26_14]
  unfold step_main_v26_14
  rw [v104 h, v45 h, v44 h]
  rfl

theorem s15 (h : Counts V j) : STEP V (Proc.devRef .tc main_v26_15) = b165 j (carried V) := by
  rw [STEP_main_v26_15]
  unfold step_main_v26_15
  rw [v55 h, v44 h]
  rfl

theorem s16 (h : Counts V j) : STEP V (Proc.devRef .tc main_v26_16) = b170 j (carried V) := by
  rw [STEP_main_v26_16]
  unfold step_main_v26_16
  rw [v109 h, v44 h]
  rfl

theorem s17 (h : Counts V j) : STEP V (Proc.devRef .tc main_v26_17) = b175 j (carried V) := by
  rw [STEP_main_v26_17]
  unfold step_main_v26_17
  rw [v104 h, v55 h, v44 h]
  rfl

theorem s18 (h : Counts V j) : STEP V (Proc.devRef .tc main_v26_18) = b180 j (carried V) := by
  rw [STEP_main_v26_18]
  unfold step_main_v26_18
  rw [v81 h, v79_2 h, v52 h, v44 h]
  rfl

theorem s19 (h : Counts V j) : STEP V (Proc.devRef .tc main_v26_19) = b184 j (carried V) := by
  rw [STEP_main_v26_19]
  unfold step_main_v26_19
  rw [v75 h, v82 h, v44 h]
  rfl

/-- One trip takes what is carried on by `step`, -/
theorem carried_step (h : Counts V j) : carried (STEP V) = step j (carried V) := by
  unfold carried step
  simp only [s11 h, s12 h, s13 h, s14 h, s15 h, s16 h, s17 h, s18 h, s19 h, STEP_main_v26_0, STEP_main_v26_1, STEP_main_v26_2,
    STEP_main_v26_3, STEP_main_v26_4, STEP_main_v26_5, STEP_main_v26_6, STEP_main_v26_7, STEP_main_v26_8, STEP_main_v26_9]
  rfl

/-- and counts one further. -/
theorem counts_step (h : Counts V j) : Counts (STEP V) (j + 1) := by
  unfold Counts at *
  rw [STEP_main_v26_10]
  unfold step_main_v26_10
  rw [h]
  funext i
  show BitVec.ofNat 32 j + 1#32 = BitVec.ofNat 32 (j + 1)
  simp only [BitVec.ofNat_add]

end Trip

variable (m : (ℓ : Loc nD τ sig) → Buf (Elt F) ℓ) (c : Dev nD)

/-- The state before the first trip. -/
def start : State F :=
  init (m ((c.tc : Thread nD τ).loc main_arg8)) (m ((c.tc : Thread nD τ).loc main_arg7)) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg9))

/-- The state after `n` trips. -/
def after : ℕ → State F
  | 0 => start m c
  | n + 1 => step n (after n)

set_option maxRecDepth 65536 in
set_option maxHeartbeats 800000 in
theorem entry : carried (entryContents preI m c) = start m c ∧ Counts (entryContents preI m c) 0 := by
  unfold carried Counts start init
  simp only [entryContents, afterL_cons, afterL_nil]
  after_reads_simp
  exact ⟨rfl, rfl⟩

theorem trips : ∀ n, carried (STEP^[n] (entryContents preI m c)) = after m c n ∧ Counts (STEP^[n] (entryContents preI m c)) n
  | 0 => entry m c
  | n + 1 => by
    rw [Function.iterate_succ_apply']
    obtain ⟨e, k⟩ := trips n
    exact ⟨(carried_step k).trans (congrArg (step n) e), counts_step k⟩

theorem last_v30 {V : Valuation τ sig (Elt F)} {s : State F} (h : carried V = s) : out_main_v30 V = R_main_v30 s :=
  h ▸ rfl

theorem last_v32 {V : Valuation τ sig (Elt F)} {s : State F} (h : carried V = s) : out_main_v32 V = R_main_v32 s :=
  h ▸ rfl

theorem last_v34 {V : Valuation τ sig (Elt F)} {s : State F} (h : carried V = s) : out_main_v34 V = R_main_v34 s :=
  h ▸ rfl

theorem last_v36 {V : Valuation τ sig (Elt F)} {s : State F} (h : carried V = s) : out_main_v36 V = R_main_v36 s :=
  h ▸ rfl

theorem last_v38 {V : Valuation τ sig (Elt F)} {s : State F} (h : carried V = s) : out_main_v38 V = R_main_v38 s :=
  h ▸ rfl

theorem last_v28 {V : Valuation τ sig (Elt F)} {s : State F} (h : carried V = s) : out_main_v28 V = R_main_v28 s :=
  h ▸ rfl

theorem last_v41 {V : Valuation τ sig (Elt F)} {s : State F} (h : carried V = s) : out_main_v41 V = R_main_v41 s :=
  h ▸ rfl

theorem last_v42 {V : Valuation τ sig (Elt F)} {s : State F} (h : carried V = s) : out_main_v42 V = R_main_v42 s :=
  h ▸ rfl

/-- The results, of the state after the last trip; the arguments are unchanged. -/
theorem results (ρ : Dev nD → PrngReg) :
    θ_run (defs (F := F)) (onTc (τ := τ) (main (F := F))) ⟨m, fun _ => 0, ρ⟩ fun r => ∀ c : Dev nD,
      r.2.mem ((c.tc : Thread nD τ).loc main_v30) = R_main_v30 (after m c 64)
      ∧ r.2.mem ((c.tc : Thread nD τ).loc main_v32) = R_main_v32 (after m c 64)
      ∧ r.2.mem ((c.tc : Thread nD τ).loc main_v34) = R_main_v34 (after m c 64)
      ∧ r.2.mem ((c.tc : Thread nD τ).loc main_v36) = R_main_v36 (after m c 64)
      ∧ r.2.mem ((c.tc : Thread nD τ).loc main_v38) = R_main_v38 (after m c 64)
      ∧ r.2.mem ((c.tc : Thread nD τ).loc main_v28) = R_main_v28 (after m c 64)
      ∧ r.2.mem ((c.tc : Thread nD τ).loc main_v41) = R_main_v41 (after m c 64)
      ∧ r.2.mem ((c.tc : Thread nD τ).loc main_v42) = R_main_v42 (after m c 64)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) := by
  refine (θ_run defs _ _).mono (fun _ h c => ?_) (run m ρ)
  have e := (trips m c 64).1
  obtain ⟨h30, h32, h34, h36, h38, h28, h41, h42, hargs⟩ := h c
  exact ⟨h30.trans (last_v30 e), h32.trans (last_v32 e), h34.trans (last_v34 e), h36.trans (last_v36 e), h38.trans (last_v38 e), h28.trans (last_v28 e), h41.trans (last_v41 e), h42.trans (last_v42 e), hargs⟩

end Cert.Delta.Trip

end
-- ==== Proof.DeltaLoop.lean ====
/-
  The reference's loop from its first trip to its last: trip `j` works on the chunk `j` places before the last with the
  cotangent carried to it, and leaves that chunk's gradients in the stacks. The results are the gradients of
  `DeltaArrays.lean`.
-/
module

public import proofs.«01_k».proof.Proof.DeltaArrays
public import proofs.«01_k».proof.Proof.DeltaPlain
public import proofs.«01_k».proof.Proof.DeltaTrip

@[expose] public section

set_option maxRecDepth 16384

noncomputable section

open Idealize.ShloMosaic Idealize.ShloMosaic.ValueIdx Idealize.ShloMosaic.TcCoe
open Cert.Reference7Ideal Cert.Reference7Ideal.Gen Cert.Reference7Ideal.Step Cert.Dense Cert.Stacks
open scoped BigOperators

namespace Cert.Delta.Loop

/-- After `j` trips. -/
structure Holds (A : Args) (j : ℕ) (s : State Ideal) : Prop where
  given : ∀ n h, Plain.given s n h = A.head n h (layer s.main_v26_11 h)
  carried : ∀ h, layer s.main_v26_11 h = A.carry h j
  dU : ∀ (n : Fin 64) h, 64 ≤ n.val + j → chunk s.main_v26_12 n h = (A.at_ n h).dU
  dW : ∀ (n : Fin 64) h, 64 ≤ n.val + j → chunk s.main_v26_13 n h = (A.at_ n h).dW
  dQd : ∀ (n : Fin 64) h, 64 ≤ n.val + j → chunk s.main_v26_14 n h = (A.at_ n h).dQd
  dKd : ∀ (n : Fin 64) h, 64 ≤ n.val + j → chunk s.main_v26_15 n h = (A.at_ n h).dKd
  dSc : ∀ (n : Fin 64) h, 64 ≤ n.val + j → chunk s.main_v26_16 n h = (A.at_ n h).dSc
  dA : ∀ (n : Fin 64) h, 64 ≤ n.val + j → chunk s.main_v26_17 n h = (A.at_ n h).dA
  dGate : ∀ (n : Fin 64) h, 64 ≤ n.val + j → chunk s.main_v26_18 n h = (A.at_ n h).dGate
  dNg : ∀ (n : Fin 64) d, 64 ≤ n.val + j → s.main_v26_19 (ix3 n 0 d) = ∑ h : Fin 4, (A.at_ n h).dNg d

section Trip

variable {A : Args} {j : ℕ} {s : State Ideal} (H : Holds A j s) {n : Fin 64} (hn : n.val + j = 63)

include H hn in
/-- The head a trip works on. -/
theorem now (h : Fin 4) : Plain.given s n h = A.at_ n h := by
  rw [H.given n h, H.carried h, A.at_fromLast n h j hn]

include hn in
/-- What a stack holds after one more trip. -/
theorem written {f : Fin 64 → Fin 4 → Mat 64 128} {X Y : (⟨4, ![64, 4, 64, 128]⟩ : Shape).Idx → EReal} {y : (⟨3, ![4, 64, 128]⟩ : Shape).Idx → EReal}
    (e : ∀ k h, chunk Y k h = if k = n then layer y h else chunk X k h) (new : ∀ h, layer y h = f n h)
    (old : ∀ (k : Fin 64) h, 64 ≤ k.val + j → chunk X k h = f k h) (k : Fin 64) (h : Fin 4) (hk : 64 ≤ k.val + (j + 1)) :
    chunk Y k h = f k h := by
  rw [e]
  split_ifs with q
  · rw [new, q]
  · exact old k h (by
      have : k.val ≠ n.val := fun r => q (Fin.ext r)
      omega)

include hn in
theorem put (X : (⟨S64x4x64x128, .f32⟩ : BufTy).Contents (Elt Ideal)) (y : (⟨S4x64x128, .f32⟩ : BufTy).Contents (Elt Ideal))
    (a b c : (⟨S_, .i32⟩ : BufTy).Contents (Elt Ideal)) (ha : a = constantI S_ 32 0#32) (hb : b = constantI S_ 32 0#32)
    (hc : c = constantI S_ 32 0#32) (k : Fin 64) (h : Fin 4) :
    chunk (Host.dynamicUpdateSlice X (broadcastInDim S1x4x64x128 ![1, 2, 3] bcast_S4x64x128_S1x4x64x128_1_2_3 y)
      (fun k => ((![b3 j s, a, b, c] : Fin 4 → (⟨S_, .i32⟩ : BufTy).Contents (Elt Ideal)) k (Shape.Idx.first h_S_)).toInt)
      updateFits_S64x4x64x128_S1x4x64x128) k h = if k = n then layer y h else chunk X k h :=
  write_chunk X y _ n (Plain.starts hn s a b c ha hb hc) (by decide) (by decide) (by decide) _ _ k h

include H hn in
theorem next_dU : ∀ (k : Fin 64) h, 64 ≤ k.val + (j + 1) → chunk (b150 j s) k h = (A.at_ k h).dU :=
  written hn (f := fun k h => (A.at_ k h).dU) (y := b135 j s) (fun k h => put hn s.main_v26_12 (b135 j s) _ _ _ rfl rfl rfl k h)
    (fun h => (Plain.dU hn s h).trans (congrArg Head.dU (now H hn h))) H.dU

include H hn in
theorem next_dW : ∀ (k : Fin 64) h, 64 ≤ k.val + (j + 1) → chunk (b155 j s) k h = (A.at_ k h).dW :=
  written hn (f := fun k h => (A.at_ k h).dW) (y := b145 j s) (fun k h => put hn s.main_v26_13 (b145 j s) _ _ _ rfl rfl rfl k h)
    (fun h => (Plain.dW hn s h).trans (congrArg Head.dW (now H hn h))) H.dW

include H hn in
theorem next_dQd : ∀ (k : Fin 64) h, 64 ≤ k.val + (j + 1) → chunk (b160 j s) k h = (A.at_ k h).dQd :=
  written hn (f := fun k h => (A.at_ k h).dQd) (y := b140 j s) (fun k h => put hn s.main_v26_14 (b140 j s) _ _ _ rfl rfl rfl k h)
    (fun h => (Plain.dQd hn s h).trans (congrArg Head.dQd (now H hn h))) H.dQd

include H hn in
theorem next_dKd : ∀ (k : Fin 64) h, 64 ≤ k.val + (j + 1) → chunk (b165 j s) k h = (A.at_ k h).dKd :=
  written hn (f := fun k h => (A.at_ k h).dKd) (y := b127 j s) (fun k h => put hn s.main_v26_15 (b127 j s) _ _ _ rfl rfl rfl k h)
    (fun h => (Plain.dKd hn s h).trans (congrArg Head.dKd (now H hn h))) H.dKd

include H hn in
theorem next_dSc : ∀ (k : Fin 64) h, 64 ≤ k.val + (j + 1) → chunk (b170 j s) k h = (A.at_ k h).dSc :=
  written hn (f := fun k h => (A.at_ k h).dSc) (y := b132 j s) (fun k h => put hn s.main_v26_16 (b132 j s) _ _ _ rfl rfl rfl k h)
    (fun h => (Plain.dSc hn s h).trans (congrArg Head.dSc (now H hn h))) H.dSc

include H hn in
theorem next_dGate : ∀ (k : Fin 64) h, 64 ≤ k.val + (j + 1) → chunk (b180 j s) k h = (A.at_ k h).dGate :=
  written hn (f := fun k h => (A.at_ k h).dGate) (y := b97 j s) (fun k h => put hn s.main_v26_18 (b97 j s) _ _ _ rfl rfl rfl k h)
    (fun h => (Plain.dGate hn s h).trans (congrArg Head.dGate (now H hn h))) H.dGate

include H hn in
theorem next_dA (k : Fin 64) (h : Fin 4) (hk : 64 ≤ k.val + (j + 1)) : chunk (b175 j s) k h = (A.at_ k h).dA := by
  refine (write_chunk _ (b136 j s) _ n (Plain.starts hn s _ _ _ rfl rfl rfl) (by decide) (by decide) (by decide) _ _ k h).trans ?_
  split_ifs with q
  · rw [Plain.dA hn, now H hn, q]
  · exact H.dA k h (by
      have : k.val ≠ n.val := fun r => q (Fin.ext r)
      omega)

include H hn in
theorem next_dNg (k : Fin 64) (d : Fin 128) (hk : 64 ≤ k.val + (j + 1)) : b184 j s (ix3 k 0 d) = ∑ h : Fin 4, (A.at_ k h).dNg d := by
  refine (write_row _ (b106 j s) _ n (fun a => ?_) (by decide) _ _ k d).trans ?_
  · match a with
    | ⟨0, _⟩ => exact Plain.starts hn s _ _ _ rfl rfl rfl (0 : Fin 4)
    | ⟨1, _⟩ => rfl
    | ⟨2, _⟩ => rfl
  · split_ifs with q
    · rw [Plain.dNg hn s d, q]
      exact Finset.sum_congr rfl fun h _ => by rw [now H hn]
    · exact H.dNg k d (by
        have : k.val ≠ n.val := fun r => q (Fin.ext r)
        omega)

include H hn in
theorem next_carried (h : Fin 4) : layer (b144 j s) h = A.carry h (j + 1) := by
  show _ = (A.head (Args.fromLast j) h (A.carry h j)).back
  rw [Plain.back hn, now H hn, A.at_fromLast n h j hn, show Args.fromLast j = n from Fin.ext (by show 63 - j = n.val; omega)]

include H in
theorem next_given (k : Fin 64) (h : Fin 4) : Plain.given (step j s) k h = A.head k h (layer (b144 j s) h) :=
  congrArg (fun X : Head => { X with dS := layer (b144 j s) h }) (H.given k h)

include H hn in
theorem step_holds : Holds A (j + 1) (step j s) where
  given := next_given H
  carried h := (congrArg (fun X => layer X h) (step_main_v26_11 j s)).trans (next_carried H hn h)
  dU k h hk := (congrArg (fun X => chunk X k h) (step_main_v26_12 j s)).trans (next_dU H hn k h hk)
  dW k h hk := (congrArg (fun X => chunk X k h) (step_main_v26_13 j s)).trans (next_dW H hn k h hk)
  dQd k h hk := (congrArg (fun X => chunk X k h) (step_main_v26_14 j s)).trans (next_dQd H hn k h hk)
  dKd k h hk := (congrArg (fun X => chunk X k h) (step_main_v26_15 j s)).trans (next_dKd H hn k h hk)
  dSc k h hk := (congrArg (fun X => chunk X k h) (step_main_v26_16 j s)).trans (next_dSc H hn k h hk)
  dA k h hk := (congrArg (fun X => chunk X k h) (step_main_v26_17 j s)).trans (next_dA H hn k h hk)
  dGate k h hk := (congrArg (fun X => chunk X k h) (step_main_v26_18 j s)).trans (next_dGate H hn k h hk)
  dNg k d hk := (congrFun (step_main_v26_19 j s) (ix3 k 0 d)).trans (next_dNg H hn k d hk)

end Trip

variable (m : (ℓ : Loc nD τ sig) → Buf (Elt Ideal) ℓ) (c : Dev nD)

/-- The reference's arguments. -/
def args : Args where
  u := m ((c.tc : Thread nD τ).loc main_arg0)
  w := m ((c.tc : Thread nD τ).loc main_arg1)
  qd := m ((c.tc : Thread nD τ).loc main_arg2)
  kd := m ((c.tc : Thread nD τ).loc main_arg3)
  sc := m ((c.tc : Thread nD τ).loc main_arg4)
  a := m ((c.tc : Thread nD τ).loc main_arg5)
  z := m ((c.tc : Thread nD τ).loc main_arg6)
  ng := m ((c.tc : Thread nD τ).loc main_arg7)
  S := m ((c.tc : Thread nD τ).loc main_arg8)
  g := m ((c.tc : Thread nD τ).loc main_arg9)

theorem gateCols (Z : Mat 4096 8832) : extractStridedSlice S4096x512 ![0, 6656] Z slices_S4096x8832_S4096x512_0_6656
    = fun e => Z (ix2 (e 0) (gateCol (e 1))) := by
  refine mat_ext fun r d => extractStridedSlice_apply _ Z _ _ (ix2 r (gateCol d)) fun a => ?_
  match a with
  | ⟨0, _⟩ => exact (Nat.zero_add _).symm
  | ⟨1, _⟩ => rfl

theorem start_holds : Holds (args m c) 0 (Trip.start m c) where
  given n h := by
    show Head.mk _ _ _ _ _ _ _ _ _ _ _ = Head.mk _ _ _ _ _ _ _ _ _ _ _
    congr 1
    · exact cut _ _ _ n h
    · exact cut _ _ _ n h
    · exact cut _ _ _ n h
    · exact cut _ _ _ n h
    · exact cut _ _ _ n h
    · exact (cut _ _ _ n h).trans (congrArg (fun X => piece X n h) (gateCols _))
    · exact cut _ _ _ n h
    · exact cut_scores _ _ _ n h
  carried h := by
    refine mat_ext fun r d => ?_
    show Ideal.ofBits .f32 0x00000000#32 = 0
    exact Ideal.ofBits_zero_f32
  dU n h hk := absurd n.isLt (by omega)
  dW n h hk := absurd n.isLt (by omega)
  dQd n h hk := absurd n.isLt (by omega)
  dKd n h hk := absurd n.isLt (by omega)
  dSc n h hk := absurd n.isLt (by omega)
  dA n h hk := absurd n.isLt (by omega)
  dGate n h hk := absurd n.isLt (by omega)
  dNg n h hk := absurd n.isLt (by omega)

theorem after_holds : ∀ j, j ≤ 64 → Holds (args m c) j (Trip.after m c j)
  | 0, _ => start_holds m c
  | j + 1, hj => step_holds (after_holds j (by omega)) (n := ⟨63 - j, by omega⟩) (by show 63 - j + j = 63; omega)

/-! ## The results -/

section Results

variable {A : Args} {s : State Ideal} (H : Holds A 64 s)

include H

theorem du : R_main_v30 s = A.whole Head.dU :=
  pieces_ext fun n i h d => (join _ _ _ n i h d).trans ((congrFun (H.dU n h (by omega)) (ix2 i d)).trans (A.whole_apply _ n i h d).symm)

theorem dw : R_main_v32 s = A.whole Head.dW :=
  pieces_ext fun n i h d => (join _ _ _ n i h d).trans ((congrFun (H.dW n h (by omega)) (ix2 i d)).trans (A.whole_apply _ n i h d).symm)

theorem dqd : R_main_v34 s = A.whole Head.dQd :=
  pieces_ext fun n i h d => (join _ _ _ n i h d).trans ((congrFun (H.dQd n h (by omega)) (ix2 i d)).trans (A.whole_apply _ n i h d).symm)

theorem dkd : R_main_v36 s = A.whole Head.dKd :=
  pieces_ext fun n i h d => (join _ _ _ n i h d).trans ((congrFun (H.dKd n h (by omega)) (ix2 i d)).trans (A.whole_apply _ n i h d).symm)

theorem dsc : R_main_v38 s = A.whole Head.dSc :=
  pieces_ext fun n i h d => (join _ _ _ n i h d).trans ((congrFun (H.dSc n h (by omega)) (ix2 i d)).trans (A.whole_apply _ n i h d).symm)

theorem dgate : R_main_v41 s = A.whole Head.dGate :=
  pieces_ext fun n i h d => (join _ _ _ n i h d).trans ((congrFun (H.dGate n h (by omega)) (ix2 i d)).trans (A.whole_apply _ n i h d).symm)

theorem dattn : R_main_v28 s = A.scores :=
  scores_ext fun n i k h => (join_scores _ _ _ n i k h).trans ((congrFun (H.dA n h (by omega)) (ix2 i k)).trans (A.scores_apply n i k h).symm)

theorem dng : R_main_v42 s = A.scale := by
  refine mat_ext fun r d => ?_
  obtain rfl : r = 0 := Subsingleton.elim _ _
  exact (sum_first _ _ _ 0 d).trans (Finset.sum_congr rfl fun n _ => H.dNg n d (by omega))

end Results

end Cert.Delta.Loop

end
-- ==== Proof.DeltaClaim.lean ====
/-
  The claims about the delta rule's backward call: the programs run to their ends with their semaphores at zero, and
  over the extended reals the call's eight results are those of the plain program.
-/
module

public import proofs.«01_k».proof.Defs
public import proofs.«01_k».proof.Proof.DeltaFinal
public import proofs.«01_k».proof.Proof.DeltaLoop
public import proofs.«01_k».proof.Proof.Gen.Kernel7.Frame
public import proofs.«01_k».proof.Proof.Gen.Kernel7Ideal.Value
public import Idealize.ShloMosaic.Adequacy
public import Idealize.ShloMosaic.Init

@[expose] public section

noncomputable section

namespace Cert.Delta

open Idealize.ShloMosaic Idealize.ShloMosaic.ValueIdx Idealize.SL.Sem

theorem kernel_frame7 : Cert.quiescent_Kernel7 (hKernel7 := Cert.Kernel7.Gen.facts) := fun m ρ _ => Cert.Kernel7.Gen.frame m ρ

theorem ideal_frame7 : Cert.quiescent_Kernel7Ideal (hKernel7Ideal := Cert.Kernel7Ideal.Gen.facts) :=
  fun m ρ _ => Cert.Kernel7Ideal.Gen.frame m ρ

theorem reference_frame7 : Cert.quiescent_Reference7Ideal (hReference7Ideal := Cert.Reference7Ideal.Gen.facts) := fun m ρ _ =>
  (θ_run Cert.Reference7Ideal.defs _ _).mono (fun r h => ⟨fun c => (h c).2.2.2.2.2.2.2.2, sem_eq_zero_of_no_sems (by decide) r.2⟩)
    (Trip.results (F := Ideal) m ρ)

/-- The call and the plain program carry the same cotangent of the state through the same chunks. -/
theorem same_results7 : Cert.algebraic_Kernel7Ideal_Reference7Ideal (hKernel7Ideal := Cert.Kernel7Ideal.Gen.facts)
    (hReference7Ideal := Cert.Reference7Ideal.Gen.facts) := by
  intro m ρ m' ρ' _ hagree
  refine ⟨_, _, _, _, _, _, _, _, Cert.Kernel7Ideal.Value.run_blocks (F := Ideal) m ρ, ?_⟩
  refine (θ_run Cert.Reference7Ideal.defs _ _).mono (fun _ h c => ?_) (Trip.results (F := Ideal) m' ρ')
  obtain ⟨hu, hw, hq, hk, hs, ha, hg, hn, hargs⟩ := h c
  obtain ⟨e0, e1, e2, e3, e4, e5, e6, e7, e8, e9⟩ := hagree c
  have e : Loop.args m' c = Run.args m c := by
    unfold Loop.args Run.args
    rw [e0, e1, e2, e3, e4, e5, e6, e7, e8, e9]
  have H := e ▸ Loop.after_holds m' c 64 (Nat.le_refl 64)
  exact ⟨hu.trans ((Loop.du H).trans (Run.final_du m c).symm), hw.trans ((Loop.dw H).trans (Run.final_dw m c).symm),
    hq.trans ((Loop.dqd H).trans (Run.final_dqd m c).symm), hk.trans ((Loop.dkd H).trans (Run.final_dkd m c).symm),
    hs.trans ((Loop.dsc H).trans (Run.final_dsc m c).symm), ha.trans ((Loop.dattn H).trans (Run.final_dattn m c).symm),
    hg.trans ((Loop.dgate H).trans (Run.final_dgate m c).symm), hn.trans ((Loop.dng H).trans (Run.final_dng m c).symm), hargs⟩

end Cert.Delta

end
-- ==== Proof.DeltaFore.lean ====
/-
  The gated delta rule forwards: one chunk of one head, and the recurrence over whole arrays of 64 chunks and four
  heads, the state carried from the first chunk to the last.
-/
module

public import proofs.«01_k».proof.Proof.DeltaArrays

@[expose] public section

noncomputable section

open Idealize.ShloMosaic Idealize.ShloMosaic.ValueIdx Cert.Dense Cert.Stacks
open scoped BigOperators

namespace Cert.Delta

namespace Head

variable (H : Head)

/-- The state a chunk leaves behind. -/
def after : Mat 128 128 := fun e => H.S e * H.sc (ix2 (half (e 0)) (e 1)) + tn H.kd H.v e

/-- The normalised, scaled and gated output rows. -/
def out : Mat 64 128 := fun e => H.scaled e * H.silu e

end Head

namespace Args

variable (A : Args)

/-- Head `h` of chunk `n`, given the state it starts from. The forward pass has no cotangent. -/
def fore (n : Fin 64) (h : Fin 4) (S : Mat 128 128) : Head where
  S := S
  u := piece A.u n h
  w := piece A.w n h
  qd := piece A.qd n h
  kd := piece A.kd n h
  sc := piece A.sc n h
  gate := piece A.gate n h
  g := fun _ => 0
  a := fun e => A.a (ix3 h (row n (e 0)) (e 1))
  ng := A.ng
  dS := fun _ => 0

/-- The chunk numbered `j`. -/
def nth (j : ℕ) : Fin 64 := ⟨j % 64, Nat.mod_lt _ (by omega)⟩

theorem nth_val (n : Fin 64) : nth n.val = n := Fin.ext (Nat.mod_eq_of_lt n.isLt)

/-- The state before chunk `j`: zero before the first. -/
def before (h : Fin 4) : ℕ → Mat 128 128
  | 0 => fun _ => 0
  | j + 1 => (A.fore (nth j) h (before h j)).after

/-- Head `h` of chunk `n` with the state carried to it. -/
def on (n : Fin 64) (h : Fin 4) : Head := A.fore n h (A.before h n.val)

theorem on_after (n : Fin 64) (h : Fin 4) : (A.on n h).after = A.before h (n.val + 1) := by
  show _ = (A.fore (nth n.val) h (A.before h n.val)).after
  rw [nth_val]
  rfl

/-- The output rows over the whole array; -/
def outs : Mat 4096 512 := fun e => (A.on (chunkOf (e 0)) (headOf (e 1))).out (ix2 (rowIn (e 0)) (colIn (e 1)))

/-- and the states before each chunk. -/
def states : (⟨4, ![64, 4, 128, 128]⟩ : Shape).Idx → EReal := fun e => A.before (e 1) (e 0).val (ix2 (e 2) (e 3))

theorem outs_apply (n i : Fin 64) (h : Fin 4) (d : Fin 128) : A.outs (ix2 (row n i) (col h d)) = (A.on n h).out (ix2 i d) := by
  show (A.on (chunkOf (row n i)) (headOf (col h d))).out (ix2 (rowIn (row n i)) (colIn (col h d))) = _
  rw [chunkOf_row, headOf_col, rowIn_row, colIn_col]

end Args

end Cert.Delta

end
-- ==== Proof.DeltaForeBody.lean ====
/-
  The operations with which the forward body treats one head of a chunk, beyond those shared with the backward one,
  and what it is given at a grid point and leaves there. The first point starts from a state of zero, the later ones
  from what the point before left in the scratch.
-/
module

public import proofs.«01_k».proof.Proof.Gen.Kernel16Ideal.Value
public import proofs.«01_k».proof.Proof.DeltaBlocks
public import proofs.«01_k».proof.Proof.DeltaFore
public import Idealize.ShloMosaic.Lib.ValueIdx
public import Idealize.ShloMosaic.Lib.Pipeline.ValueKit.Acc
public import Idealize.ShloMosaic.Lib.Pipeline.ValueKit.Geometry

@[expose] public section
set_option maxRecDepth 16384
noncomputable section
open Idealize.ShloMosaic Idealize.ShloMosaic.TcCoe Idealize.ShloMosaic.Tactic Idealize.ShloMosaic.ValueIdx
open Idealize.SL.Sem
open Cert.Kernel16Ideal Cert.Kernel16Ideal.Gen Cert.Dense Cert.Stacks
open Cert.Delta.Run (layers stack slab blank)
open scoped BigOperators

namespace Cert.Delta.Fore

/-! ## One head -/

section Body
variable (H : Head)

def after : Body.Full :=
  addf (mulf (φ := .f32) H.S (Body.above H.sc H.sc))
    (matmul dot_S64x128_S64x128_S128x128_0_0_1_1_n_n none (truncf (φ := .f32) .bf16 H.kd bitsLt_bf16_f32) (truncf .bf16 (Body.v H) bitsLt_bf16_f32)
      (constant S128x128 .f32 0x00000000#32))

def out : Body.Rows := mulf (Body.scaled H) (Body.silu H)

theorem after_eq : after H = H.after := Body.ext2 fun i c => by
  have hm : (matmul (φ₁ := .bf16) (φ₂ := .bf16) dot_S64x128_S64x128_S128x128_0_0_1_1_n_n none (truncf (φ := .f32) .bf16 H.kd bitsLt_bf16_f32)
      (truncf .bf16 (Body.v H) bitsLt_bf16_f32) (constant S128x128 .f32 0x00000000#32) : Body.Full) = tn H.kd (Body.v H) :=
    matmul_tn (φ₁ := .bf16) (φ₂ := .bf16) _ _ _
  unfold after Head.after
  rw [addf_apply, mulf_apply, hm, Body.v_eq, Body.above_same]

theorem out_eq : out H = H.out := funext fun e => by
  unfold out Body.silu Head.out Head.silu
  rw [mulf_apply, mulf_apply, Body.sig_apply, Body.scaled_eq]

end Body

/-! ## A grid point -/

variable (m : (ℓ : Loc nD τ sig) → Buf (Elt Ideal) ℓ) (c : Dev nD) (t : Fin cfg0.N)

/-- The head of columns `o` to `o + 128` of the point's blocks, given its state and its in-chunk scores. -/
def headAt (o : ℕ) (h : S64x512.Slices ![0, o] S64x128) (S : Body.Full) (a : FVec Ideal S64x64 .f32) : Head where
  S := S
  u := extractStridedSlice S64x128 ![0, o] (iblk m c 0 t) h
  w := extractStridedSlice S64x128 ![0, o] (iblk m c 1 t) h
  qd := extractStridedSlice S64x128 ![0, o] (iblk m c 2 t) h
  kd := extractStridedSlice S64x128 ![0, o] (iblk m c 3 t) h
  sc := extractStridedSlice S64x128 ![0, o] (iblk m c 4 t) h
  gate := extractStridedSlice S64x128 ![0, o] (X0_6 m c t) h
  g := fun _ => 0
  a := a
  ng := iblk m c 7 t
  dS := fun _ => 0

/-- The four heads, their states being the four layers `D` is read at. -/
def heads (D : Fin 4 → S1x128x128.Idx → EReal) : Fin 4 → Head :=
  ![headAt m c t 0 slices_S64x512_o0_0_S64x128 (shapeCast S128x128 (D 0) shapeCasts_S1x128x128_S128x128)
      (shapeCast S64x64 (View.ld (iblk m c 5 t) (Rect.unit ![0, 0, 0] ![1, 64, 64] inb_S4x64x64_S1x64x64_0_0_0)) shapeCasts_S1x64x64_S64x64),
    headAt m c t 128 slices_S64x512_o0_128_S64x128 (shapeCast S128x128 (D 1) shapeCasts_S1x128x128_S128x128)
      (shapeCast S64x64 (View.ld (iblk m c 5 t) (Rect.unit ![1, 0, 0] ![1, 64, 64] inb_S4x64x64_S1x64x64_1_0_0)) shapeCasts_S1x64x64_S64x64),
    headAt m c t 256 slices_S64x512_o0_256_S64x128 (shapeCast S128x128 (D 2) shapeCasts_S1x128x128_S128x128)
      (shapeCast S64x64 (View.ld (iblk m c 5 t) (Rect.unit ![2, 0, 0] ![1, 64, 64] inb_S4x64x64_S1x64x64_2_0_0)) shapeCasts_S1x64x64_S64x64),
    headAt m c t 384 slices_S64x512_o0_384_S64x128 (shapeCast S128x128 (D 3) shapeCasts_S1x128x128_S128x128)
      (shapeCast S64x64 (View.ld (iblk m c 5 t) (Rect.unit ![3, 0, 0] ![1, 64, 64] inb_S4x64x64_S1x64x64_3_0_0)) shapeCasts_S1x64x64_S64x64)]

/-- The layer at `off` of a scratch just filled with zeros. -/
def zeroLayer (off : Fin 3 → ℕ) (h : ∀ a, off a + S1x128x128.size a ≤ S4x128x128.size a) : S1x128x128.Idx → EReal := by
  exact (View.whole cc0_scratch0).readCov (Val := Elt Ideal) [⟨Rect.unit ![0, 0, 0] ![4, 128, 128] inb_S4x128x128_S4x128x128_0_0_0, k0_pay6 (F := Ideal)⟩]
      (Rect.unit off ![1, 128, 128] h).toLoadRect

/-- The layers read at a point that first fills the scratch with zeros. -/
def zeros : Fin 4 → S1x128x128.Idx → EReal :=
  ![zeroLayer ![0, 0, 0] inb_S4x128x128_S1x128x128_0_0_0, zeroLayer ![1, 0, 0] inb_S4x128x128_S1x128x128_1_0_0,
    zeroLayer ![2, 0, 0] inb_S4x128x128_S1x128x128_2_0_0, zeroLayer ![3, 0, 0] inb_S4x128x128_S1x128x128_3_0_0]

/-- What the point before left in the scratch. -/
def kept : S4x128x128.Idx → EReal := by
  exact View.read (Elt Ideal) (View.whole cc0_scratch0)
    ((Memref.isWhole_whole cc0_scratch0).unread (outsAt0 m c (t.val - 1) (by have := t.isLt; omega)).2.2)

/-- Four heads' arrays side by side, stored in the narrower type. -/
def side (x : Fin 4 → Body.Rows) : FVec Ideal S64x512 .bf16 :=
  truncf .bf16 (concatenate S64x512 1 [⟨S64x128, x 0⟩, ⟨S64x128, x 1⟩, ⟨S64x128, x 2⟩, ⟨S64x128, x 3⟩]
    concatenates_S64x128_S64x128_S64x128_S64x128_S64x512_d1) bitsLt_bf16_f32

/-- An array stored as one of the four states of the chunk's block. -/
def plate (off : Fin 4 → ℕ) (h : ∀ a, off a + S1x1x128x128.size a ≤ S1x4x128x128.size a) (x : Body.Full) : View.Piece (Elt Ideal) S1x4x128x128 .f32 := by
  exact ⟨Rect.unit off ![1, 1, 128, 128] h, shapeCast (α := Ideal .f32) S1x1x128x128 x shapeCasts_S128x128_S1x1x128x128⟩

/-- The four states stored. -/
def pile (x : Fin 4 → Body.Full) : S1x4x128x128.Idx → EReal :=
  View.canon (Val := Elt Ideal) (e := .f32)
    [plate ![0, 3, 0, 0] inb_S1x4x128x128_S1x1x128x128_0_3_0_0 (x 3), plate ![0, 2, 0, 0] inb_S1x4x128x128_S1x1x128x128_0_2_0_0 (x 2),
     plate ![0, 1, 0, 0] inb_S1x4x128x128_S1x1x128x128_0_1_0_0 (x 1), plate ![0, 0, 0, 0] inb_S1x4x128x128_S1x1x128x128_0_0_0_0 (x 0)]

/-- The last head's gate is taken where the four are put together. -/
theorem pay_side (g a b d e : Body.Rows) :
    k0_pay5 (F := Ideal) g a b d e = side ![a, b, d, mulf e (mulf (φ := .f32) g (divf (Body.fill 0x3F800000#32)
      (addf (Body.fill 0x3F800000#32) (exp (subf (φ := .f32) (Body.fill 0x00000000#32) g)))))] := rfl

/-- The four heads' arrays, one by one. -/
theorem side_ext {a b d e : Body.Rows} (x : Fin 4 → Body.Rows) (h0 : a = x 0) (h1 : b = x 1) (h2 : d = x 2) (h3 : e = x 3) :
    side ![a, b, d, e] = side x := by
  subst h0 h1 h2 h3; rfl

end Cert.Delta.Fore
-- ==== Proof.DeltaForeRun.lean ====
/-
  The delta rule's forward call read off its arguments: the grid's point `t` stands at chunk `t`, works on that chunk's
  four heads, and what it stores is, entry by entry, the four heads' arrays.
-/
module

public import proofs.«01_k».proof.Proof.DeltaForeBody

@[expose] public section

set_option maxRecDepth 16384

noncomputable section

open Idealize.ShloMosaic Idealize.ShloMosaic.TcCoe Idealize.ShloMosaic.ValueIdx Idealize.SL.Sem
open Cert.Kernel16Ideal Cert.Kernel16Ideal.Gen Cert.Dense Cert.Stacks
open scoped BigOperators

namespace Cert.Delta.Fore

variable (m : (ℓ : Loc nD τ sig) → Buf (Elt Ideal) ℓ) (c : Dev nD) (t : Fin cfg0.N)

/-- The call's arguments. It has no cotangents and no states given. -/
def args : Args where
  u := m ((c : Thread nD τ).loc main_arg0)
  w := m ((c : Thread nD τ).loc main_arg1)
  qd := m ((c : Thread nD τ).loc main_arg2)
  kd := m ((c : Thread nD τ).loc main_arg3)
  sc := m ((c : Thread nD τ).loc main_arg4)
  a := m ((c : Thread nD τ).loc main_arg5)
  z := m ((c : Thread nD τ).loc main_arg6)
  ng := m ((c : Thread nD τ).loc main_arg7)
  S := fun _ => 0
  g := fun _ => 0

/-- The chunk a point stands at. -/
abbrev here : Fin 64 := Args.nth t.val

theorem lt64 : t.val < 64 := lt_of_lt_of_eq t.isLt (show cfg0.N = 64 from N_0)

theorem here_eq : here t = ⟨t.val, lt64 t⟩ := Fin.ext (Nat.mod_eq_of_lt (lt64 t))

/-! ## Where the blocks lie -/

theorem places : ∀ t : Fin grid0.N,
    (win0_0.index t 0 = t.val ∧ win0_0.index t 1 = 0) ∧ (win0_1.index t 0 = t.val ∧ win0_1.index t 1 = 0)
    ∧ (win0_2.index t 0 = t.val ∧ win0_2.index t 1 = 0) ∧ (win0_3.index t 0 = t.val ∧ win0_3.index t 1 = 0)
    ∧ (win0_4.index t 0 = t.val ∧ win0_4.index t 1 = 0)
    ∧ (win0_5.index t 0 = 0 ∧ win0_5.index t 1 = t.val ∧ win0_5.index t 2 = 0)
    ∧ (win0_6.index t 0 = t.val ∧ win0_6.index t 1 = 13) ∧ (win0_7.index t 0 = 0 ∧ win0_7.index t 1 = 0)
    ∧ (win0_8.index t 0 = t.val ∧ win0_8.index t 1 = 0)
    ∧ (win0_9.index t 0 = t.val ∧ win0_9.index t 1 = 0 ∧ win0_9.index t 2 = 0 ∧ win0_9.index t 3 = 0) := by decide +kernel

/-- An index whose row lies in the point's block, -/
theorem at_row {C : ℕ} (i : (⟨2, ![4096, C]⟩ : Shape).Idx) (q : ℕ) (r : Fin 64) (k : Fin C) (hq : q = t.val) (h0 : (i 0).val = q * 64 + r.val)
    (h1 : (i 1).val = k.val) : i = ix2 (row (here t) r) k := by
  subst hq
  rw [here_eq]
  exact idx_ext h0 h1

/-- and one of the in-chunk scores'. -/
theorem at_score (i : (⟨3, ![4, 4096, 64]⟩ : Shape).Idx) (q : ℕ) (h : Fin 4) (r k : Fin 64) (hq : q = t.val) (h0 : (i 0).val = h.val)
    (h1 : (i 1).val = q * 64 + r.val) (h2 : (i 2).val = k.val) : i = ix3 h (row (here t) r) k := by
  subst hq
  rw [here_eq]
  funext a
  match a with
  | ⟨0, _⟩ => exact Fin.ext h0
  | ⟨1, _⟩ => exact Fin.ext h1
  | ⟨2, _⟩ => exact Fin.ext h2

/-! ## The blocks of the arguments -/

theorem blk0 (r : Fin 64) (k : Fin 512) : iblk m c 0 t (ix2 r k) = (args m c).u (ix2 (row (here t) r) k) :=
  congrArg (m ((c : Thread nD τ).loc main_arg0)) (at_row t _ _ r k (places t).1.1 (win0_0.rect_emb_val t (ix2 r k) 0)
    (win0_0.rect_emb_val_of_index_zero t 1 (places t).1.2 (ix2 r k)))

theorem blk1 (r : Fin 64) (k : Fin 512) : iblk m c 1 t (ix2 r k) = (args m c).w (ix2 (row (here t) r) k) :=
  congrArg (m ((c : Thread nD τ).loc main_arg1)) (at_row t _ _ r k (places t).2.1.1 (win0_1.rect_emb_val t (ix2 r k) 0)
    (win0_1.rect_emb_val_of_index_zero t 1 (places t).2.1.2 (ix2 r k)))

theorem blk2 (r : Fin 64) (k : Fin 512) : iblk m c 2 t (ix2 r k) = (args m c).qd (ix2 (row (here t) r) k) :=
  congrArg (m ((c : Thread nD τ).loc main_arg2)) (at_row t _ _ r k (places t).2.2.1.1 (win0_2.rect_emb_val t (ix2 r k) 0)
    (win0_2.rect_emb_val_of_index_zero t 1 (places t).2.2.1.2 (ix2 r k)))

theorem blk3 (r : Fin 64) (k : Fin 512) : iblk m c 3 t (ix2 r k) = (args m c).kd (ix2 (row (here t) r) k) :=
  congrArg (m ((c : Thread nD τ).loc main_arg3)) (at_row t _ _ r k (places t).2.2.2.1.1 (win0_3.rect_emb_val t (ix2 r k) 0)
    (win0_3.rect_emb_val_of_index_zero t 1 (places t).2.2.2.1.2 (ix2 r k)))

theorem blk4 (r : Fin 64) (k : Fin 512) : iblk m c 4 t (ix2 r k) = (args m c).sc (ix2 (row (here t) r) k) :=
  congrArg (m ((c : Thread nD τ).loc main_arg4)) (at_row t _ _ r k (places t).2.2.2.2.1.1 (win0_4.rect_emb_val t (ix2 r k) 0)
    (win0_4.rect_emb_val_of_index_zero t 1 (places t).2.2.2.2.1.2 (ix2 r k)))

theorem blk5 (h : Fin 4) (r k : Fin 64) : iblk m c 5 t (ix3 h r k) = (args m c).a (ix3 h (row (here t) r) k) :=
  congrArg (m ((c : Thread nD τ).loc main_arg5)) (at_score t _ _ h r k (places t).2.2.2.2.2.1.2.1
    (win0_5.rect_emb_val_of_index_zero t 0 (places t).2.2.2.2.2.1.1 (ix3 h r k)) (win0_5.rect_emb_val t (ix3 h r k) 1)
    (win0_5.rect_emb_val_of_index_zero t 2 (places t).2.2.2.2.2.1.2.2 (ix3 h r k)))

/-- The window over the gates takes 512 of the wider array's columns. -/
theorem blk6 (r : Fin 64) (k : Fin 512) : X0_6 m c t (ix2 r k) = (args m c).gate (ix2 (row (here t) r) k) := by
  unfold X0_6 Pipeline.Window.fill
  rw [dif_pos (moved0_6 t _)]
  refine congrArg (m ((c : Thread nD τ).loc main_arg6)) (at_row t _ _ r (gateCol k) (places t).2.2.2.2.2.2.1.1 (win0_6.rect_emb_val t _ 0) ?_)
  refine (win0_6.rect_emb_val t _ 1).trans ?_
  rw [(places t).2.2.2.2.2.2.1.2]
  rfl

theorem blk7 (k : Fin 128) : iblk m c 7 t (ix2 0 k) = (args m c).ng (ix2 0 k) :=
  congrArg (m ((c : Thread nD τ).loc main_arg7)) (idx_ext (win0_7.rect_emb_val_of_index_zero t 0 (places t).2.2.2.2.2.2.2.1.1 (ix2 0 k))
    (win0_7.rect_emb_val_of_index_zero t 1 (places t).2.2.2.2.2.2.2.1.2 (ix2 0 k)))

/-! ## The heads -/

section Cuts

/-- A head's columns of a block of rows. -/
theorem cols {X : S64x512.Idx → EReal} {Y : Mat 4096 512} (e : ∀ r k, X (ix2 r k) = Y (ix2 (row (here t) r) k)) (h : Fin 4) (o : ℕ)
    (ho : o = h.val * 128) (hs : S64x512.Slices ![0, o] S64x128) : extractStridedSlice S64x128 ![0, o] X hs = piece Y (here t) h := by
  subst ho
  refine mat_ext fun r d => (extractStridedSlice_apply _ X hs _ (ix2 r (col h d)) fun a => ?_).trans (e r (col h d))
  match a with
  | ⟨0, _⟩ => exact (Nat.zero_add _).symm
  | ⟨1, _⟩ => rfl

theorem scores_eq (h : Fin 4) (inb : ∀ a, (![h.val, 0, 0] : Fin 3 → ℕ) a + S1x64x64.size a ≤ S4x64x64.size a) :
    shapeCast S64x64 (View.ld (iblk m c 5 t) (Rect.unit ![h.val, 0, 0] ![1, 64, 64] inb)) shapeCasts_S1x64x64_S64x64
      = fun e => (args m c).a (ix3 h (row (here t) (e 0)) (e 1)) := by
  refine mat_ext fun r d => (shapeCast_apply _ _ _ (ix3 0 r d) ?_).trans ((congrArg (iblk m c 5 t) (funext fun a => Fin.ext ?_)).trans (blk5 m c t h r d))
  · rw [Shape.rowMajor_val_two, Shape.rowMajor_val_three]
    show (0 * 64 + r.val) * 64 + d.val = r.val * 64 + d.val
    omega
  · refine (Rect.idx_unit_val _ _ inb (ix3 0 r d) a).trans ?_
    match a with
    | ⟨0, _⟩ => rfl
    | ⟨1, _⟩ => exact Nat.zero_add _
    | ⟨2, _⟩ => exact Nat.zero_add _

theorem ng_eq : iblk m c 7 t = (args m c).ng := by
  refine mat_ext fun r d => ?_
  obtain rfl : r = 0 := Subsingleton.elim _ _
  exact blk7 m c t d

theorem headAt_eq (h : Fin 4) (o : ℕ) (ho : o = h.val * 128) (hs : S64x512.Slices ![0, o] S64x128) {S S' : Body.Full} {a : FVec Ideal S64x64 .f32}
    (eS : S = S') (ea : a = fun e => (args m c).a (ix3 h (row (here t) (e 0)) (e 1))) :
    headAt m c t o hs S a = (args m c).fore (here t) h S' := by
  subst eS ea
  unfold headAt Args.fore
  congr 1
  · exact cols t (blk0 m c t) h o ho hs
  · exact cols t (blk1 m c t) h o ho hs
  · exact cols t (blk2 m c t) h o ho hs
  · exact cols t (blk3 m c t) h o ho hs
  · exact cols t (blk4 m c t) h o ho hs
  · exact cols t (blk6 m c t) h o ho hs
  · exact ng_eq m c t

end Cuts

/-- The point's heads are its chunk's. -/
theorem heads_eq (D : Fin 4 → S1x128x128.Idx → EReal) (S : Fin 4 → Mat 128 128)
    (e : ∀ h, shapeCast S128x128 (D h) shapeCasts_S1x128x128_S128x128 = S h) : ∀ h, heads m c t D h = (args m c).fore (here t) h (S h)
  | 0 => headAt_eq m c t 0 0 rfl _ (e 0) (scores_eq m c t 0 _)
  | 1 => headAt_eq m c t 1 128 rfl _ (e 1) (scores_eq m c t 1 _)
  | 2 => headAt_eq m c t 2 256 rfl _ (e 2) (scores_eq m c t 2 _)
  | 3 => headAt_eq m c t 3 384 rfl _ (e 3) (scores_eq m c t 3 _)

/-! ## What is stored, entry by entry -/

/-- Four heads side by side; -/
theorem side_apply (u : Fin 4 → Body.Rows) (r : Fin 64) (h : Fin 4) (d : Fin 128) : side u (ix2 r (col h d)) = u h (ix2 r d) := by
  have away : ∀ b : Fin 2, b ≠ 1 → ((ix2 r d : S64x128.Idx) b).val = ((ix2 r (col h d) : S64x512.Idx) b).val := by
    intro b hb
    match b with
    | ⟨0, _⟩ => rfl
    | ⟨1, _⟩ => exact absurd rfl hb
  have part : ∀ (n : Fin 4) (hn : h = n)
      (hy : [⟨S64x128, u 0⟩, ⟨S64x128, u 1⟩, ⟨S64x128, u 2⟩, (⟨S64x128, u 3⟩ : (s : Shape) × (s.Idx → EReal))][n.val]'n.isLt = ⟨S64x128, u n⟩)
      (hp : ((([⟨S64x128, u 0⟩, ⟨S64x128, u 1⟩, ⟨S64x128, u 2⟩, (⟨S64x128, u 3⟩ : (s : Shape) × (s.Idx → EReal))].take n.val).map (·.1)).map
          fun s => if h : s.rank = S64x512.rank then s.size ((1 : Fin 2).cast h.symm) else 0).sum = n.val * 128),
      concatenate S64x512 1 [⟨S64x128, u 0⟩, ⟨S64x128, u 1⟩, ⟨S64x128, u 2⟩, ⟨S64x128, u 3⟩]
        concatenates_S64x128_S64x128_S64x128_S64x128_S64x512_d1 (ix2 r (col h d)) = u n (ix2 r d) := by
    intro n hn hy hp
    refine concatenate_apply_piece (t := S64x512) 1 [⟨S64x128, u 0⟩, ⟨S64x128, u 1⟩, ⟨S64x128, u 2⟩, ⟨S64x128, u 3⟩] _ (ix2 r (col h d)) n.val n.isLt S64x128 (u n) hy rfl (n.val * 128) hp (ix2 r d) away ?_
    subst hn
    rfl
  unfold side
  rw [truncf_apply]
  clear away
  match h, part with
  | ⟨0, _⟩, part => exact part 0 rfl rfl rfl
  | ⟨1, _⟩, part => exact part 1 rfl rfl rfl
  | ⟨2, _⟩, part => exact part 2 rfl rfl rfl
  | ⟨3, _⟩, part => exact part 3 rfl rfl rfl

/-- what is left where the last of several stores is one state; -/
theorem last_state (k : ℕ) (hk : k < 4) (inb : ∀ a, (![0, k, 0, 0] : Fin 4 → ℕ) a + S1x1x128x128.size a ≤ S1x4x128x128.size a)
    (w : S1x1x128x128.Idx → EReal) (L : List (View.Piece (Elt Ideal) S1x4x128x128 .f32)) (h : Fin 4) (r d : Fin 128) :
    View.canon (Val := Elt Ideal) (e := .f32)
        ((⟨Rect.unit (s := S1x4x128x128) ![0, k, 0, 0] ![1, 1, 128, 128] inb, w⟩ : View.Piece (Elt Ideal) S1x4x128x128 .f32) :: L) (ix4 0 h r d)
      = if h.val = k then w (ix4 0 0 r d) else View.canon (Val := Elt Ideal) (e := .f32) L (ix4 0 h r d) := by
  split_ifs with q
  · have e : (Rect.unit (s := S1x4x128x128) ![0, k, 0, 0] ![1, 1, 128, 128] inb).emb (ix4 0 0 r d) = ix4 0 h r d := by
      funext a
      refine Fin.ext ((Rect.emb_apply _ _ a).trans ?_)
      match a with
      | ⟨0, _⟩ => rfl
      | ⟨1, _⟩ => show k + 1 * 0 = h.val; omega
      | ⟨2, _⟩ => show 0 + 1 * r.val = r.val; omega
      | ⟨3, _⟩ => show 0 + 1 * d.val = d.val; omega
    rw [← e]
    exact View.canon_cons_emb (Val := Elt Ideal) (e := .f32) (Rect.unit (s := S1x4x128x128) ![0, k, 0, 0] ![1, 1, 128, 128] inb) w L (ix4 0 0 r d)
  · refine View.canon_cons_of_not_mem _ L fun hm => q ?_
    obtain ⟨x, hx⟩ := LoadRect.exists_idx_of_mem _ hm
    have e := congrArg Fin.val (congrFun hx (1 : Fin 4))
    have e' : k + 1 * (x (1 : Fin 4)).val = h.val := (Rect.emb_apply _ x (1 : Fin 4)).symm.trans e
    have : (x (1 : Fin 4)).val < 1 := (x (1 : Fin 4)).isLt
    omega

/-- and the four states. -/
theorem pile_apply (x : Fin 4 → Body.Full) (h : Fin 4) (r d : Fin 128) : pile x (ix4 0 h r d) = x h (ix2 r d) := by
  unfold pile plate
  have e : ∀ k, shapeCast (α := Ideal .f32) S1x1x128x128 (x k) shapeCasts_S128x128_S1x1x128x128 (ix4 0 0 r d) = x k (ix2 r d) := fun k =>
    shapeCast_apply _ _ _ (ix2 r d) (by
      rw [Shape.rowMajor_val_two, Shape.rowMajor_val_four]
      show r.val * 128 + d.val = ((0 * 1 + 0) * 128 + r.val) * 128 + d.val
      omega)
  refine (last_state 3 (by decide) _ _ _ h r d).trans ?_
  rw [last_state 2 (by decide), last_state 1 (by decide), last_state 0 (by decide)]
  match h with
  | ⟨0, _⟩ => exact e 0
  | ⟨1, _⟩ => exact e 1
  | ⟨2, _⟩ => exact e 2
  | ⟨3, _⟩ => exact e 3

theorem zeroLayer_apply (off : Fin 3 → ℕ) (inb : ∀ a, off a + S1x128x128.size a ≤ S4x128x128.size a) (x : S1x128x128.Idx) :
    zeroLayer off inb x = 0 := by
  unfold zeroLayer
  rw [View.readCov_eq_canon']
  refine (congrFun (View.canon_cons_unit_lit (Val := Elt Ideal) (e := .f32) (S := S4x128x128) inb_S4x128x128_S4x128x128_0_0_0 (k0_pay6 (F := Ideal)) [] (h := fun a => by
    match a with
    | ⟨0, _⟩ => rfl
    | ⟨1, _⟩ => rfl
    | ⟨2, _⟩ => rfl)) _).trans ?_
  exact Ideal.ofBits_zero_f32

theorem zeros_layer : ∀ h : Fin 4, ∃ off inb, zeros h = zeroLayer off inb
  | 0 => ⟨_, _, rfl⟩
  | 1 => ⟨_, _, rfl⟩
  | 2 => ⟨_, _, rfl⟩
  | 3 => ⟨_, _, rfl⟩

theorem zeros_eq (h : Fin 4) : shapeCast S128x128 (zeros h) shapeCasts_S1x128x128_S128x128 = fun _ => (0 : EReal) := by
  obtain ⟨off, inb, e⟩ := zeros_layer h
  rw [e]
  refine mat_ext fun r d => ?_
  refine (shapeCast_apply _ _ _ (ix3 0 r d) ?_).trans (zeroLayer_apply off inb _)
  rw [Shape.rowMajor_val_two, Shape.rowMajor_val_three]
  show (0 * 128 + r.val) * 128 + d.val = r.val * 128 + d.val
  omega

end Cert.Delta.Fore

end
-- ==== Proof.DeltaForeLeaves.lean ====
/-
  What the forward body leaves at the first grid point, and at the later ones.
-/
module

public import proofs.«01_k».proof.Proof.DeltaForeBody

@[expose] public section
set_option maxRecDepth 16384
set_option maxHeartbeats 8000000
noncomputable section
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel16Ideal Cert.Kernel16Ideal.Gen
open Cert.Delta.Run (layers stack slab blank)

namespace Cert.Delta.Fore

variable (m : (ℓ : Loc nD τ sig) → Buf (Elt Ideal) ℓ) (c : Dev nD) (t : Fin cfg0.N)

theorem out_first (h0 : t.val % 64 = 0) :
    (outsAt0 m c t.val t.isLt).1 = side fun h => out (heads m c t zeros h) := by
  rw [outsAt0_A m c t h0]
  frame_out
  refine (pay_side _ _ _ _ _).trans (side_ext _ ?_ ?_ ?_ ?_) <;> rfl

theorem out_later (h0 : ¬t.val % 64 = 0) :
    (outsAt0 m c t.val t.isLt).1 = side fun h => out (heads m c t (layers (kept m c t)) h) := by
  rw [outsAt0_B m c t h0]
  frame_out
  refine (pay_side _ _ _ _ _).trans (side_ext _ ?_ ?_ ?_ ?_) <;> rfl

theorem states_first (h0 : t.val % 64 = 0) :
    (outsAt0 m c t.val t.isLt).2.1 = pile fun h => (heads m c t zeros h).S := by
  rw [outsAt0_A m c t h0]
  frame_out
  rfl

theorem states_later (h0 : ¬t.val % 64 = 0) :
    (outsAt0 m c t.val t.isLt).2.1 = pile fun h => (heads m c t (layers (kept m c t)) h).S := by
  rw [outsAt0_B m c t h0]
  frame_out
  rfl

theorem after_first (h0 : t.val % 64 = 0) :
    (outsAt0 m c t.val t.isLt).2.2 = stack [blank] fun h => after (heads m c t zeros h) := by
  rw [outsAt0_A m c t h0]
  frame_out
  rfl

theorem after_later (h0 : ¬t.val % 64 = 0) :
    (outsAt0 m c t.val t.isLt).2.2 = stack [] fun h => after (heads m c t (layers (kept m c t)) h) := by
  rw [outsAt0_B m c t h0]
  frame_out
  rfl

end Cert.Delta.Fore
-- ==== Proof.DeltaForeFinal.lean ====
/-
  The delta rule's forward call over the whole grid: the state, carried from point to point in the scratch, is the one
  `DeltaFore.lean` carries from chunk to chunk, and the results are the outputs and the states there.
-/
module

public import proofs.«01_k».proof.Proof.DeltaForeRun
public import proofs.«01_k».proof.Proof.DeltaForeLeaves

@[expose] public section

set_option maxRecDepth 16384

noncomputable section

open Idealize.ShloMosaic Idealize.ShloMosaic.TcCoe Idealize.ShloMosaic.ValueIdx Idealize.SL.Sem
open Cert.Kernel16Ideal Cert.Kernel16Ideal.Gen Cert.Dense Cert.Stacks
open Cert.Delta.Run (layers stack blank layers_eq stack_apply)
open scoped BigOperators

namespace Cert.Delta.Fore

variable (m : (ℓ : Loc nD τ sig) → Buf (Elt Ideal) ℓ) (c : Dev nD)

/-! ## From point to point -/

section Point
variable (t : Fin cfg0.N)

theorem on_here (h : Fin 4) : (args m c).on (here t) h = (args m c).fore (here t) h ((args m c).before h t.val) := by
  unfold Args.on
  rw [here_eq]

theorem first_head (h0 : t.val = 0) (h : Fin 4) : heads m c t zeros h = (args m c).on (here t) h := by
  rw [on_here, h0]
  exact heads_eq m c t zeros (fun h => (args m c).before h 0) zeros_eq h

theorem kept_eq : kept m c t = (outsAt0 m c (t.val - 1) (by have := t.isLt; omega)).2.2 :=
  funext fun y => congrFun ((Memref.isWhole_whole cc0_scratch0).read_unread _) y

theorem later_head_of (e : ∀ h, layer (outsAt0 m c (t.val - 1) (by have := t.isLt; omega)).2.2 h = (args m c).before h t.val) (h : Fin 4) :
    heads m c t (layers (kept m c t)) h = (args m c).on (here t) h := by
  rw [on_here, kept_eq]
  exact heads_eq m c t _ (fun h => (args m c).before h t.val) (fun h => (layers_eq _ h).trans (e h)) h

theorem state_next (h : Fin 4) : ((args m c).on (here t) h).after = (args m c).before h (t.val + 1) := by
  rw [(args m c).on_after, here_eq]

end Point

/-- After point `n` the scratch holds the state carried on to the next chunk. -/
theorem scratch : ∀ (n : ℕ) (hn : n < cfg0.N) (h : Fin 4), layer (outsAt0 m c n hn).2.2 h = (args m c).before h (n + 1)
  | 0, hn, h => by
    refine mat_ext fun r d => ?_
    refine (congrFun (after_first m c ⟨0, hn⟩ rfl) (ix3 h r d)).trans ((stack_apply _ _ h r d).trans ?_)
    rw [first_head m c ⟨0, hn⟩ rfl, after_eq, state_next]
  | n + 1, hn, h => by
    have lt : n + 1 < 64 := lt64 ⟨n + 1, hn⟩
    refine mat_ext fun r d => ?_
    refine (congrFun (after_later m c ⟨n + 1, hn⟩ (by show ¬(n + 1) % 64 = 0; omega)) (ix3 h r d)).trans ((stack_apply _ _ h r d).trans ?_)
    rw [later_head_of m c ⟨n + 1, hn⟩ (fun k => scratch n _ k), after_eq, state_next]

section Results
variable (t : Fin cfg0.N)

theorem later_head (h0 : 1 ≤ t.val) (h : Fin 4) : heads m c t (layers (kept m c t)) h = (args m c).on (here t) h :=
  later_head_of m c t (fun k => (scratch m c (t.val - 1) _ k).trans (by rw [Nat.sub_add_cancel h0])) h

/-- A point is the first, or comes after one. -/
theorem cases {P : Prop} (hf : t.val % 64 = 0 → t.val = 0 → P) (hl : ¬t.val % 64 = 0 → 1 ≤ t.val → P) : P := by
  have := lt64 t
  by_cases h : 1 ≤ t.val
  · exact hl (by omega) h
  · exact hf (by omega) (by omega)

/-! ## What each point leaves of the results -/

theorem left_out : (outsAt0 m c t.val t.isLt).1 = side fun h => ((args m c).on (here t) h).out :=
  cases t (fun h0 h1 => (out_first m c t h0).trans (congrArg side (funext fun h => by rw [first_head m c t h1, out_eq])))
    fun h0 h1 => (out_later m c t h0).trans (congrArg side (funext fun h => by rw [later_head m c t h1, out_eq]))

theorem left_states : (outsAt0 m c t.val t.isLt).2.1 = pile fun h => ((args m c).on (here t) h).S :=
  cases t (fun h0 h1 => (states_first m c t h0).trans (congrArg pile (funext fun h => by rw [first_head m c t h1])))
    fun h0 h1 => (states_later m c t h0).trans (congrArg pile (funext fun h => by rw [later_head m c t h1]))

end Results

/-! ## The results over the whole arrays -/

theorem final_out : (dats m 0 c).arrAt 8 cfg0.N = (args m c).outs := by
  refine (dats m 0 c).arrAt_eq_of_covers 8 _ (by decide +kernel) fun t hf y => ?_
  obtain ⟨r, k, rfl⟩ : ∃ (r : Fin 64) (k : Fin 512), y = ix2 r k := ⟨_, _, eq_ix2 (n0 := 64) (n1 := 512) y⟩
  have p := (places t).2.2.2.2.2.2.2.2.1
  have hi : ((cfg0.win 8).blk t).view.emb (ix2 r k) = ix2 (row (here t) r) k :=
    at_row t _ _ r k p.1 (win0_8.rect_emb_val t (ix2 r k) 0) (win0_8.rect_emb_val_of_index_zero t 1 p.2 (ix2 r k))
  rw [hi]
  refine (congrFun ((after0_8 m c t).trans (left_out m c t)) (ix2 r k)).trans ?_
  rw [← col_split k]
  exact (side_apply _ r _ _).trans ((args m c).outs_apply (here t) r _ _).symm

theorem final_states : (dats m 0 c).arrAt 9 cfg0.N = (args m c).states := by
  refine (dats m 0 c).arrAt_eq_of_covers 9 _ (by decide +kernel) fun t hf y => ?_
  obtain ⟨z, h, r, d, rfl⟩ : ∃ (z : Fin 1) (h : Fin 4) (r d : Fin 128), y = ix4 z h r d :=
    ⟨_, _, _, _, eq_ix4 (n0 := 1) (n1 := 4) (n2 := 128) (n3 := 128) y⟩
  obtain rfl : z = 0 := Subsingleton.elim _ _
  have p := (places t).2.2.2.2.2.2.2.2.2
  have hi : ((cfg0.win 9).blk t).view.emb (ix4 0 h r d) = ix4 (here t) h r d := by
    rw [here_eq]
    funext a
    match a with
    | ⟨0, _⟩ => exact Fin.ext ((win0_9.rect_emb_val t (ix4 0 h r d) 0).trans (by rw [p.1]; show t.val * 1 + 0 = t.val; omega))
    | ⟨1, _⟩ => exact Fin.ext (win0_9.rect_emb_val_of_index_zero t 1 p.2.1 (ix4 0 h r d))
    | ⟨2, _⟩ => exact Fin.ext (win0_9.rect_emb_val_of_index_zero t 2 p.2.2.1 (ix4 0 h r d))
    | ⟨3, _⟩ => exact Fin.ext (win0_9.rect_emb_val_of_index_zero t 3 p.2.2.2 (ix4 0 h r d))
  rw [hi]
  exact (congrFun ((after0_9 m c t).trans (left_states m c t)) (ix4 0 h r d)).trans (pile_apply _ h r d)

end Cert.Delta.Fore

end
-- ==== Proof.DeltaForePlain.lean ====
/-
  One trip of the forward reference's loop over the extended reals: what it computes of the chunk it reads, head by
  head, is what `Delta.lean` and `DeltaFore.lean` say of that head.
-/
module

public import proofs.«01_k».proof.Proof.Stacks
public import proofs.«01_k».proof.Proof.DeltaFore
public import proofs.«01_k».proof.Proof.Tile
public import proofs.«01_k».proof.Proof.Gen.Reference16Ideal.Step

@[expose] public section

set_option maxRecDepth 16384

noncomputable section

open Idealize.ShloMosaic Idealize.ShloMosaic.ValueIdx Idealize.ShloMosaic.StackMember
open Cert.Reference16Ideal Cert.Reference16Ideal.Gen Cert.Reference16Ideal.Step Cert.Dense Cert.Stacks
open scoped BigOperators

namespace Cert.Delta.ForePlain

/-- The head a trip works on: chunk `n` of what it is given, and the state it carries. -/
def given (s : State Ideal) (n : Fin 64) (h : Fin 4) : Head where
  S := layer s.main_v18_9 h
  u := chunk s.main_v18_0 n h
  w := chunk s.main_v18_1 n h
  qd := chunk s.main_v18_2 n h
  kd := chunk s.main_v18_3 n h
  sc := chunk s.main_v18_4 n h
  gate := chunk s.main_v18_6 n h
  g := fun _ => 0
  a := chunk s.main_v18_5 n h
  ng := s.main_v18_7
  dS := fun _ => 0

variable (n : Fin 64) (s : State Ideal) (h : Fin 4)

/-- Trip `n` reads chunk `n`. -/
theorem word (n : Fin 64) : (BitVec.ofNat 32 n.val).toInt = (n.val : ℤ) := by
  revert n; decide +kernel

theorem starts (a b c : (⟨S_, .i32⟩ : BufTy).Contents (Elt Ideal)) (ha : a = constantI S_ 32 0#32) (hb : b = constantI S_ 32 0#32)
    (hc : c = constantI S_ 32 0#32) (k : Fin 4) :
    ((![(constantI S_ 32 (BitVec.ofNat 32 n.val) : (⟨S_, .i32⟩ : BufTy).Contents (Elt Ideal)), a, b, c] :
        Fin 4 → (⟨S_, .i32⟩ : BufTy).Contents (Elt Ideal)) k (Shape.Idx.first h_S_)).toInt
      = ((![n.val, 0, 0, 0] : Fin 4 → ℕ) k : ℤ) := by
  subst ha hb hc
  match k with
  | ⟨0, _⟩ => exact word n
  | ⟨1, _⟩ => rfl
  | ⟨2, _⟩ => rfl
  | ⟨3, _⟩ => rfl

theorem u : layer (b4 n.val s) h = (given s n h).u := read_chunk _ _ n (starts n _ _ _ rfl rfl rfl) _ _ h
theorem w : layer (b9 n.val s) h = (given s n h).w := read_chunk _ _ n (starts n _ _ _ rfl rfl rfl) _ _ h
theorem qd : layer (b14 n.val s) h = (given s n h).qd := read_chunk _ _ n (starts n _ _ _ rfl rfl rfl) _ _ h
theorem kd : layer (b19 n.val s) h = (given s n h).kd := read_chunk _ _ n (starts n _ _ _ rfl rfl rfl) _ _ h
theorem sc : layer (b24 n.val s) h = (given s n h).sc := read_chunk _ _ n (starts n _ _ _ rfl rfl rfl) _ _ h
theorem attn : layer (b29 n.val s) h = (given s n h).a := read_chunk _ _ n (starts n _ _ _ rfl rfl rfl) _ _ h
theorem gate : layer (b34 n.val s) h = (given s n h).gate := read_chunk _ _ n (starts n _ _ _ rfl rfl rfl) _ _ h

theorem v : layer (b36 n.val s) h = (given s n h).v := by
  have e : layer (b35 n.val s) h = nn (given s n h).w (given s n h).S := by
    rw [← w n s h]
    exact dot_nn _ _ _ h
  show (fun x => layer (b4 n.val s) h x - layer (b35 n.val s) h x) = _
  rw [u n, e]
  rfl

theorem o : layer (b39 n.val s) h = (given s n h).o := by
  have e1 : layer (b37 n.val s) h = nn (given s n h).qd (given s n h).S := by
    rw [← qd n s h]
    exact dot_nn _ _ _ h
  have e2 : layer (b38 n.val s) h = nn (given s n h).a (given s n h).v := by
    rw [← attn n s h, ← v n s h]
    exact dot_nn _ _ _ h
  show (fun x => layer (b37 n.val s) h x + layer (b38 n.val s) h x) = _
  rw [e1, e2]
  rfl

theorem o_apply (r : Fin 64) (d : Fin 128) : b39 n.val s (ix3 h r d) = (given s n h).o (ix2 r d) := congrFun (o n s h) (ix2 r d)

theorem ms (r : Fin 64) : b53 n.val s (ix3 h r 0) = (given s n h).ms r := by
  have e : b47 n.val s (ix3 h r 0) = ∑ d : Fin 128, (given s n h).o (ix2 r d) * (given s n h).o (ix2 r d) := by
    refine (broadcastInDim_apply _ _ _ _ (ix2 h r) fun a => ?_).trans ((sum_last _ _ _ h r).trans ?_)
    · match a with
      | ⟨0, _⟩ => rfl
      | ⟨1, _⟩ => rfl
    · refine Finset.sum_congr rfl fun d _ => ?_
      show b39 n.val s (ix3 h r d) * b39 n.val s (ix3 h r d) = _
      rw [o_apply n]
  show Ideal.div (b47 n.val s (ix3 h r 0)) width + eps = _
  rw [e]
  rfl

theorem inv (r : Fin 64) : b54 n.val s (ix3 h r 0) = (given s n h).inv r := congrArg Ideal.rsqrt (ms n s h r)

theorem spread (x : (⟨S4x64x1, .f32⟩ : BufTy).Contents (Elt Ideal)) (r : Fin 64) (d : Fin 128) :
    broadcastInDim S4x64x128 ![0, 1, 2] bcast_S4x64x1_S4x64x128_0_1_2 x (ix3 h r d) = x (ix3 h r 0) := by
  refine broadcastInDim_apply _ _ _ _ (ix3 h r 0) fun a => ?_
  match a with
  | ⟨0, _⟩ => rfl
  | ⟨1, _⟩ => rfl
  | ⟨2, _⟩ => rfl

theorem normed : layer (b56 n.val s) h = (given s n h).normed := by
  refine mat_ext fun r d => ?_
  show b39 n.val s (ix3 h r d) * b55 n.val s (ix3 h r d) = _
  rw [o_apply n, show b55 n.val s (ix3 h r d) = _ from spread h (b54 n.val s) r d, inv n]
  rfl

theorem scale (r : Fin 64) (d : Fin 128) : b58 n.val s (ix3 h r d) = (given s n h).ng (ix2 0 d) := by
  refine (broadcastInDim_apply _ _ _ _ (ix3 0 0 d) fun a => ?_).trans (broadcastInDim_apply _ _ _ _ (ix2 0 d) fun a => ?_)
  · match a with
    | ⟨0, _⟩ => rfl
    | ⟨1, _⟩ => rfl
    | ⟨2, _⟩ => rfl
  · match a with
    | ⟨0, _⟩ => rfl
    | ⟨1, _⟩ => rfl

theorem scaled : layer (b59 n.val s) h = (given s n h).scaled := by
  refine mat_ext fun r d => ?_
  show layer (b56 n.val s) h (ix2 r d) * b58 n.val s (ix3 h r d) = _
  rw [normed n, scale n]
  rfl

theorem sig (e : (⟨2, ![64, 128]⟩ : Shape).Idx) : layer (b67 n.val s) h e = Merge.gate ((given s n h).gate e) := by
  show Ideal.div (Ideal.ofBits .f32 0x3F800000#32) (Ideal.ofBits .f32 0x3F800000#32 + Ideal.exp (-(layer (b34 n.val s) h e))) = _
  rw [gate n, Merge.one_f32]
  rfl

theorem silu : layer (b68 n.val s) h = (given s n h).silu := by
  refine mat_ext fun r d => ?_
  show layer (b34 n.val s) h (ix2 r d) * layer (b67 n.val s) h (ix2 r d) = _
  rw [gate n, sig n]
  rfl

/-- The output rows, -/
theorem out : layer (b69 n.val s) h = (given s n h).out := by
  show (fun e => layer (b59 n.val s) h e * layer (b68 n.val s) h e) = _
  rw [scaled n, silu n]
  rfl

/-- the decay, written twice one below the other, -/
theorem doubled (i j : Fin 128) : b40 n.val s (ix3 h i j) = (given s n h).sc (ix2 (half i) j) := by
  rw [← sc n s h]
  by_cases hi : i.val < 64
  · refine concatenate_pair_apply_left (t := S4x128x128) (s₁ := S4x64x128) (s₂ := S4x64x128) 1 _ _ _ (ix3 h i j) rfl (ix3 h (half i) j) fun a => ?_
    match a with
    | ⟨0, _⟩ => rfl
    | ⟨1, _⟩ => exact Nat.mod_eq_of_lt hi
    | ⟨2, _⟩ => rfl
  · refine concatenate_pair_apply_right (t := S4x128x128) (s₁ := S4x64x128) (s₂ := S4x64x128) 1 _ _ _ (ix3 h i j) rfl rfl (ix3 h (half i) j) (fun a ha => ?_) ?_
    · match a with
      | ⟨0, _⟩ => rfl
      | ⟨1, _⟩ => exact absurd rfl ha
      | ⟨2, _⟩ => rfl
    · have := i.isLt
      show i.val % 64 + 64 = i.val
      omega

/-- and the state left behind. -/
theorem next : layer (b43 n.val s) h = (given s n h).after := by
  refine mat_ext fun i j => ?_
  have e : b42 n.val s (ix3 h i j) = tn (given s n h).kd (given s n h).v (ix2 i j) := by
    rw [← kd n s h, ← v n s h]
    exact dot_tn_apply _ _ _ h i j
  show layer s.main_v18_9 h (ix2 i j) * b40 n.val s (ix3 h i j) + b42 n.val s (ix3 h i j) = _
  rw [doubled, e]
  rfl

end Cert.Delta.ForePlain

end
-- ==== Proof.DeltaForeTrip.lean ====
/-
  The forward reference walks over the chunks in a loop on the host, first to last. Here its results are said of the
  states the loop goes through: what one trip does to what the loop carries is `step`, and the results are read off
  the state after the last trip.
-/
module

public import proofs.«01_k».proof.Proof.Gen.Reference16Ideal.Run
public import proofs.«01_k».proof.Proof.Gen.Reference16Ideal.Step

@[expose] public section

noncomputable section

namespace Cert.Delta.ForeTrip

open Idealize.ShloMosaic Idealize.ShloMosaic.TcCoe Idealize.SL.Sem Idealize.ShloMosaic.StableHlo
open Cert.Reference16Ideal Cert.Reference16Ideal.Gen Cert.Reference16Ideal.Value
open Cert.Reference16Ideal.Step hiding step_main_v18_9 step_main_v18_10 step_main_v18_11

variable {F : FTy → Type} [FloatOps F]

/-- What the loop carries, read off the memory. -/
def carried (V : Valuation τ sig (Elt F)) : State F where
  main_v18_9 := V (Proc.devRef .tc main_v18_9)
  main_v18_10 := V (Proc.devRef .tc main_v18_10)
  main_v18_11 := V (Proc.devRef .tc main_v18_11)
  main_v18_0 := V (Proc.devRef .tc main_v18_0)
  main_v18_1 := V (Proc.devRef .tc main_v18_1)
  main_v18_2 := V (Proc.devRef .tc main_v18_2)
  main_v18_3 := V (Proc.devRef .tc main_v18_3)
  main_v18_4 := V (Proc.devRef .tc main_v18_4)
  main_v18_5 := V (Proc.devRef .tc main_v18_5)
  main_v18_6 := V (Proc.devRef .tc main_v18_6)
  main_v18_7 := V (Proc.devRef .tc main_v18_7)

/-- The number of the trip, as the memory has it. -/
def Counts (V : Valuation τ sig (Elt F)) (j : ℕ) : Prop :=
  V (Proc.devRef .tc main_v18_8) = constantI S_ 32 (BitVec.ofNat 32 j)

section Trip
variable {V : Valuation τ sig (Elt F)} {j : ℕ}

theorem v26 (h : Counts V j) : res_main_while0b_v26 V = b24 j (carried V) := by
  unfold res_main_while0b_v26
  rw [h]
  rfl

theorem v28 (h : Counts V j) : res_main_while0b_v28 V = b34 j (carried V) := by
  unfold res_main_while0b_v28
  rw [h]
  rfl

theorem v30 (h : Counts V j) : res_main_while0b_v30 V = b36 j (carried V) := by
  unfold res_main_while0b_v30
  rw [h]
  rfl

theorem v33 (h : Counts V j) : res_main_while0b_v33 V = b39 j (carried V) := by
  unfold res_main_while0b_v33
  rw [v30 h, h]
  rfl

theorem s9 (h : Counts V j) : STEP V (Proc.devRef .tc main_v18_9) = b43 j (carried V) := by
  rw [STEP_main_v18_9]
  unfold step_main_v18_9
  rw [v26 h, v30 h, h]
  rfl

theorem s10 (h : Counts V j) : STEP V (Proc.devRef .tc main_v18_10) = b74 j (carried V) := by
  rw [STEP_main_v18_10]
  unfold step_main_v18_10
  rw [v33 h, v28 h, h]
  rfl

theorem s11 (h : Counts V j) : STEP V (Proc.devRef .tc main_v18_11) = b79 j (carried V) := by
  rw [STEP_main_v18_11]
  unfold step_main_v18_11
  rw [h]
  rfl

/-- One trip takes what is carried on by `step`, -/
theorem carried_step (h : Counts V j) : carried (STEP V) = step j (carried V) := by
  unfold carried step
  simp only [s9 h, s10 h, s11 h, STEP_main_v18_0, STEP_main_v18_1, STEP_main_v18_2, STEP_main_v18_3, STEP_main_v18_4, STEP_main_v18_5,
    STEP_main_v18_6, STEP_main_v18_7]
  rfl

/-- and counts one further. -/
theorem counts_step (h : Counts V j) : Counts (STEP V) (j + 1) := by
  unfold Counts at *
  rw [STEP_main_v18_8]
  unfold step_main_v18_8
  rw [h]
  funext i
  show BitVec.ofNat 32 j + 1#32 = BitVec.ofNat 32 (j + 1)
  simp only [BitVec.ofNat_add]

end Trip

variable (m : (ℓ : Loc nD τ sig) → Buf (Elt F) ℓ) (c : Dev nD)

/-- The state before the first trip. -/
def start : State F :=
  init (m ((c.tc : Thread nD τ).loc main_arg7)) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))

/-- The state after `n` trips. -/
def after : ℕ → State F
  | 0 => start m c
  | n + 1 => step n (after n)

set_option maxRecDepth 65536 in
set_option maxHeartbeats 800000 in
theorem entry : carried (entryContents preI m c) = start m c ∧ Counts (entryContents preI m c) 0 := by
  unfold carried Counts start init
  simp only [entryContents, afterL_cons, afterL_nil]
  after_reads_simp
  exact ⟨rfl, rfl⟩

theorem trips : ∀ n, carried (STEP^[n] (entryContents preI m c)) = after m c n ∧ Counts (STEP^[n] (entryContents preI m c)) n
  | 0 => entry m c
  | n + 1 => by
    rw [Function.iterate_succ_apply']
    obtain ⟨e, k⟩ := trips n
    exact ⟨(carried_step k).trans (congrArg (step n) e), counts_step k⟩

theorem last_v21 {V : Valuation τ sig (Elt F)} {s : State F} (h : carried V = s) : out_main_v21 V = R_main_v21 s :=
  h ▸ rfl

theorem last_v18_11 {V : Valuation τ sig (Elt F)} {s : State F} (h : carried V = s) : V (Proc.devRef .tc main_v18_11) = s.main_v18_11 :=
  h ▸ rfl

/-- The results, of the state after the last trip; the arguments are unchanged. -/
theorem results (ρ : Dev nD → PrngReg) :
    θ_run (defs (F := F)) (onTc (τ := τ) (main (F := F))) ⟨m, fun _ => 0, ρ⟩ fun r => ∀ c : Dev nD,
      r.2.mem ((c.tc : Thread nD τ).loc main_v21) = R_main_v21 (after m c 64)
      ∧ r.2.mem ((c.tc : Thread nD τ).loc main_v18_11) = (after m c 64).main_v18_11
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) := by
  refine (θ_run defs _ _).mono (fun _ h c => ?_) (run m ρ)
  have e := (trips m c 64).1
  obtain ⟨ho, hs, hargs⟩ := h c
  exact ⟨ho.trans (last_v21 e), hs.trans (last_v18_11 e), hargs⟩

end Cert.Delta.ForeTrip

end
-- ==== Proof.DeltaForeLoop.lean ====
/-
  The forward reference's loop from its first trip to its last: trip `j` works on chunk `j` with the state carried to
  it, and leaves that chunk's output rows and that state in the stacks. The results are those of `DeltaFore.lean`.
-/
module

public import proofs.«01_k».proof.Proof.DeltaForePlain
public import proofs.«01_k».proof.Proof.DeltaForeTrip

@[expose] public section

set_option maxRecDepth 16384

noncomputable section

open Idealize.ShloMosaic Idealize.ShloMosaic.ValueIdx Idealize.ShloMosaic.TcCoe
open Cert.Reference16Ideal Cert.Reference16Ideal.Gen Cert.Reference16Ideal.Step Cert.Dense Cert.Stacks
open scoped BigOperators

namespace Cert.Delta.ForeLoop

/-- After `j` trips. -/
structure Holds (A : Args) (j : ℕ) (s : State Ideal) : Prop where
  given : ∀ n h, ForePlain.given s n h = A.fore n h (layer s.main_v18_9 h)
  carried : ∀ h, layer s.main_v18_9 h = A.before h j
  outs : ∀ (n : Fin 64) h, n.val < j → chunk s.main_v18_10 n h = (A.on n h).out
  states : ∀ (n : Fin 64) h, n.val < j → chunk s.main_v18_11 n h = A.before h n.val

section Trip

variable {A : Args} {s : State Ideal} {n : Fin 64} (H : Holds A n.val s)

include H

/-- The head a trip works on. -/
theorem now (h : Fin 4) : ForePlain.given s n h = A.on n h := by
  rw [H.given n h, H.carried h]
  rfl

theorem next_outs (k : Fin 64) (h : Fin 4) (hk : k.val < n.val + 1) : chunk (b74 n.val s) k h = (A.on k h).out := by
  refine (write_chunk _ (b69 n.val s) _ n (ForePlain.starts n _ _ _ rfl rfl rfl) (by decide) (by decide) (by decide) _ _ k h).trans ?_
  split_ifs with q
  · rw [ForePlain.out n, now H, q]
  · exact H.outs k h (by
      have : k.val ≠ n.val := fun r => q (Fin.ext r)
      omega)

theorem next_states (k : Fin 64) (h : Fin 4) (hk : k.val < n.val + 1) : chunk (b79 n.val s) k h = A.before h k.val := by
  refine (write_chunk _ s.main_v18_9 _ n (ForePlain.starts n _ _ _ rfl rfl rfl) (by decide) (by decide) (by decide) _ _ k h).trans ?_
  split_ifs with q
  · rw [H.carried, q]
  · exact H.states k h (by
      have : k.val ≠ n.val := fun r => q (Fin.ext r)
      omega)

theorem next_carried (h : Fin 4) : layer (b43 n.val s) h = A.before h (n.val + 1) := by
  rw [ForePlain.next n, now H, A.on_after]

theorem next_given (k : Fin 64) (h : Fin 4) : ForePlain.given (step n.val s) k h = A.fore k h (layer (b43 n.val s) h) :=
  congrArg (fun X : Head => { X with S := layer (b43 n.val s) h }) (H.given k h)

theorem step_holds : Holds A (n.val + 1) (step n.val s) where
  given := next_given H
  carried h := (congrArg (fun X => layer X h) (step_main_v18_9 n.val s)).trans (next_carried H h)
  outs k h hk := (congrArg (fun X => chunk X k h) (step_main_v18_10 n.val s)).trans (next_outs H k h hk)
  states k h hk := (congrArg (fun X => chunk X k h) (step_main_v18_11 n.val s)).trans (next_states H k h hk)

end Trip

variable (m : (ℓ : Loc nD τ sig) → Buf (Elt Ideal) ℓ) (c : Dev nD)

/-- The reference's arguments. It has no cotangents and no states given. -/
def args : Args where
  u := m ((c.tc : Thread nD τ).loc main_arg0)
  w := m ((c.tc : Thread nD τ).loc main_arg1)
  qd := m ((c.tc : Thread nD τ).loc main_arg2)
  kd := m ((c.tc : Thread nD τ).loc main_arg3)
  sc := m ((c.tc : Thread nD τ).loc main_arg4)
  a := m ((c.tc : Thread nD τ).loc main_arg5)
  z := m ((c.tc : Thread nD τ).loc main_arg6)
  ng := m ((c.tc : Thread nD τ).loc main_arg7)
  S := fun _ => 0
  g := fun _ => 0

theorem gateCols (Z : Mat 4096 8832) : extractStridedSlice S4096x512 ![0, 6656] Z slices_S4096x8832_S4096x512_0_6656
    = fun e => Z (ix2 (e 0) (gateCol (e 1))) := by
  refine mat_ext fun r d => extractStridedSlice_apply _ Z _ _ (ix2 r (gateCol d)) fun a => ?_
  match a with
  | ⟨0, _⟩ => exact (Nat.zero_add _).symm
  | ⟨1, _⟩ => rfl

theorem start_holds : Holds (args m c) 0 (ForeTrip.start m c) where
  given n h := by
    show Head.mk _ _ _ _ _ _ _ _ _ _ _ = Head.mk _ _ _ _ _ _ _ _ _ _ _
    congr 1
    · exact cut _ _ _ n h
    · exact cut _ _ _ n h
    · exact cut _ _ _ n h
    · exact cut _ _ _ n h
    · exact cut _ _ _ n h
    · exact (cut _ _ _ n h).trans (congrArg (fun X => piece X n h) (gateCols _))
    · exact cut_scores _ _ _ n h
  carried h := by
    refine mat_ext fun r d => ?_
    show Ideal.ofBits .f32 0x00000000#32 = 0
    exact Ideal.ofBits_zero_f32
  outs n h hk := absurd hk (Nat.not_lt_zero _)
  states n h hk := absurd hk (Nat.not_lt_zero _)

theorem after_holds : ∀ j, j ≤ 64 → Holds (args m c) j (ForeTrip.after m c j)
  | 0, _ => start_holds m c
  | j + 1, hj => step_holds (n := ⟨j, by omega⟩) (after_holds j (by omega))

/-! ## The results -/

section Results

variable {A : Args} {s : State Ideal} (H : Holds A 64 s)

include H

theorem out : R_main_v21 s = A.outs :=
  pieces_ext fun n i h d => (join _ _ _ n i h d).trans ((congrFun (H.outs n h n.isLt) (ix2 i d)).trans (A.outs_apply n i h d).symm)

theorem states : s.main_v18_11 = A.states := by
  funext e
  rw [eq_ix4 e]
  exact congrFun (H.states (e 0) (e 1) (e 0).isLt) (ix2 (e 2) (e 3))

end Results

end Cert.Delta.ForeLoop

end
-- ==== Proof.DeltaForeClaim.lean ====
/-
  The claims about the delta rule's forward call: the programs run to their ends with their semaphores at zero, and
  over the extended reals the call's two results are those of the plain program.
-/
module

public import proofs.«01_k».proof.Defs
public import proofs.«01_k».proof.Proof.DeltaForeFinal
public import proofs.«01_k».proof.Proof.DeltaForeLoop
public import proofs.«01_k».proof.Proof.Gen.Kernel16.Frame
public import proofs.«01_k».proof.Proof.Gen.Kernel16Ideal.Value
public import Idealize.ShloMosaic.Adequacy
public import Idealize.ShloMosaic.Init

@[expose] public section

noncomputable section

namespace Cert.Delta

open Idealize.ShloMosaic Idealize.ShloMosaic.ValueIdx Idealize.SL.Sem

theorem kernel_frame16 : Cert.quiescent_Kernel16 (hKernel16 := Cert.Kernel16.Gen.facts) := fun m ρ _ => Cert.Kernel16.Gen.frame m ρ

theorem ideal_frame16 : Cert.quiescent_Kernel16Ideal (hKernel16Ideal := Cert.Kernel16Ideal.Gen.facts) :=
  fun m ρ _ => Cert.Kernel16Ideal.Gen.frame m ρ

theorem reference_frame16 : Cert.quiescent_Reference16Ideal (hReference16Ideal := Cert.Reference16Ideal.Gen.facts) := fun m ρ _ =>
  (θ_run Cert.Reference16Ideal.defs _ _).mono (fun r h => ⟨fun c => (h c).2.2, sem_eq_zero_of_no_sems (by decide) r.2⟩)
    (ForeTrip.results (F := Ideal) m ρ)

/-- The call and the plain program carry the same state through the same chunks. -/
theorem same_results16 : Cert.algebraic_Kernel16Ideal_Reference16Ideal (hKernel16Ideal := Cert.Kernel16Ideal.Gen.facts)
    (hReference16Ideal := Cert.Reference16Ideal.Gen.facts) := by
  intro m ρ m' ρ' _ hagree
  refine ⟨_, _, Cert.Kernel16Ideal.Value.run_blocks (F := Ideal) m ρ, ?_⟩
  refine (θ_run Cert.Reference16Ideal.defs _ _).mono (fun _ h c => ?_) (ForeTrip.results (F := Ideal) m' ρ')
  obtain ⟨ho, hs, hargs⟩ := h c
  obtain ⟨e0, e1, e2, e3, e4, e5, e6, e7⟩ := hagree c
  have e : ForeLoop.args m' c = Fore.args m c := by
    unfold ForeLoop.args Fore.args
    rw [e0, e1, e2, e3, e4, e5, e6, e7]
  have H := e ▸ ForeLoop.after_holds m' c 64 (Nat.le_refl 64)
  exact ⟨ho.trans ((ForeLoop.out H).trans (Fore.final_out m c).symm), hs.trans ((ForeLoop.states H).trans (Fore.final_states m c).symm), hargs⟩

end Cert.Delta

end
-- ==== Proof.Merged.lean ====
/-
  The merge's forward call (program 8): each row of the result is the sum, over the four branches, of the gate
  times the branch's product with its weight. One tile of 256 rows first, then the sixteen tiles put together, then
  the plain program, whose steps up to the gates and the products are those that the backward program repeats.
-/
module

public import proofs.«01_k».proof.Proof.Arrays
public import proofs.«01_k».proof.Proof.Plain
public import proofs.«01_k».proof.Proof.Gen.Kernel8
public import proofs.«01_k».proof.Proof.Gen.Kernel8.Frame
public import proofs.«01_k».proof.Proof.Gen.Kernel8Ideal
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Reference8Ideal.Read
public import proofs.«01_k».proof.Defs

@[expose] public section

set_option maxRecDepth 16384

noncomputable section

open Idealize.ShloMosaic Idealize.ShloMosaic.TcCoe Idealize.ShloMosaic.ValueIdx Idealize.SL.Sem
open Idealize.ShloMosaic.Pipeline (Dat Window)
open scoped BigOperators

namespace Cert.Merge

/-- A merged row: the gated sum of the four branches' products. -/
def merged {ι : Type} (br : Fin 4 → ι → Fin 512 → EReal) (x : ι → Fin 4 → Fin 1024 → EReal) (w : Fin 4 → Fin 512 → Fin 1024 → EReal)
    (r : ι) (d : Fin 1024) : EReal :=
  ∑ n, gate (x r n d) * proj br w n r d

end Cert.Merge

namespace Cert.Kernel8Ideal.Value

open Cert.Kernel8Ideal Cert.Kernel8Ideal.Gen Cert.Merge Cert.Products
open Cert.KernelIdeal.Value (weight_read gate_read exp_apply ofBits_one ofBits_zero hz2 hz3 at_row)

/-! ## One tile -/

section Tile
variable (a o p q : Vec Ideal S256x512 .bf16) (x : Vec Ideal S256x4096 .f32) (w : Vec Ideal S4x512x1024 .bf16)

/-- What the body stores, as a function of the six tiles it loads. -/
def mergedTile : FVec Ideal S256x1024 .bf16 :=
  k0_pay1 x (k0_pay2 o w) (k0_pay3 p w) (k0_pay4 q w) (k0_pay5 a x w) (k0_pay6 x)

variable (r : Fin 256) (d : Fin 1024)

theorem proj1 : k0_pay2 o w (ix2 r d) = proj (brs a o p q) (ws w) 1 r d :=
  (rows_cols _ _ _ r d).trans (Finset.sum_congr rfl fun k _ => congrArg (o (ix2 r k) * ·) (weight_read w 1 _ _ k d))

theorem proj2 : k0_pay3 p w (ix2 r d) = proj (brs a o p q) (ws w) 2 r d :=
  (rows_cols _ _ _ r d).trans (Finset.sum_congr rfl fun k _ => congrArg (p (ix2 r k) * ·) (weight_read w 2 _ _ k d))

theorem proj3 : k0_pay4 q w (ix2 r d) = proj (brs a o p q) (ws w) 3 r d :=
  (rows_cols _ _ _ r d).trans (Finset.sum_congr rfl fun k _ => congrArg (q (ix2 r k) * ·) (weight_read w 3 _ _ k d))

/-- A gate as the body computes it. -/
theorem gate_at (n : Fin 4) (y : EReal) (hy : y = xs (le_refl 4096) x r n d) :
    Ideal.div 1 (1 + Ideal.exp (0 - y)) = gate (xs (le_refl 4096) x r n d) := by
  subst hy
  rw [zero_sub]; rfl

theorem first : k0_pay5 a x w (ix2 r d) = gate (xs (le_refl 4096) x r 0 d) * proj (brs a o p q) (ws w) 0 r d := by
  unfold k0_pay5
  simp only [mulf_apply, divf_apply, addf_apply, subf_apply, broadcast_apply, exp_apply, ofBits_zero, ofBits_one]
  exact congrArg₂ (fun a b : EReal => a * b) (gate_at x r d 0 _ (gate_read x 0 0 rfl _ r d))
    ((rows_cols _ _ _ r d).trans (Finset.sum_congr rfl fun k _ => congrArg (a (ix2 r k) * ·) (weight_read w 0 _ _ k d)))

theorem mergedTile_apply : mergedTile a o p q x w (ix2 r d) = merged (brs a o p q) (xs (le_refl 4096) x) (ws w) r d := by
  unfold mergedTile k0_pay1 k0_pay6 merged
  rw [Fin.sum_univ_four]
  simp only [truncf_apply, mulf_apply, divf_apply, addf_apply, subf_apply, broadcast_apply, exp_apply, ofBits_zero, ofBits_one,
    proj1 a o p q, proj2 a o p q, proj3 a o p q, first a o p q]
  exact congrArg₂ (fun a b : EReal => a + b) (congrArg₂ (fun a b : EReal => a + b) (congrArg₂ (fun a b : EReal => a + b) rfl
    (congrArg (fun a : EReal => a * _) (gate_at x r d 1 _ (gate_read x 1 1024 rfl _ r d))))
    (congrArg (fun a : EReal => a * _) (gate_at x r d 2 _ (gate_read x 2 2048 rfl _ r d))))
    (congrArg (fun a : EReal => a * _) (gate_at x r d 3 _ (gate_read x 3 3072 rfl _ r d)))

end Tile

/-! ## The sixteen tiles -/

variable (m : (ℓ : Loc nD τ sig) → Buf (Elt Ideal) ℓ)

theorem lt_N (t : Fin cfg0.N) : t.val < 16 := lt_of_lt_of_eq t.isLt N_0

theorem outs_eq (c : Dev nD) (t : Fin cfg0.N) : outsAt0 m c t
    = mergedTile (iblk m c 0 t) (iblk m c 1 t) (iblk m c 2 t) (iblk m c 3 t) (X0_4 m c t) (iblk m c 5 t) := by
  unfold outsAt0 out0_A_6
  refine (View.read_writes_eq_canon _ _ _ fun y => cover0_A_6 _ _ _ _ _ _ _ _ _ _ _ _ _ _ _ _ _ _ _ _ _ _ y).trans ?_
  unfold kernelRun0_A
  dsimp only
  sl_unfold_words
  simp only [mergedTile, View.canon_unit_zero (S := S256x1024) hz2, View.readAt_eq_ld, (hs0_0 t).read_unread, (hs0_1 t).read_unread,
    (hs0_2 t).read_unread, (hs0_3 t).read_unread, (hs0_4 t).read_unread, (hs0_5 t).read_unread,
    View.ld_unit_zero (S := S256x512) hz2, View.ld_unit_zero (S := S256x4096) hz2, View.ld_unit_zero (S := S4x512x1024) hz3]

theorem places : ∀ t : Fin grid0.N,
    ((win0_0.index t 0 = t.val ∧ win0_0.index t 1 = 0) ∧ (win0_1.index t 0 = t.val ∧ win0_1.index t 1 = 0)
    ∧ (win0_2.index t 0 = t.val ∧ win0_2.index t 1 = 0) ∧ (win0_3.index t 0 = t.val ∧ win0_3.index t 1 = 0))
    ∧ (win0_4.index t 0 = t.val ∧ win0_4.index t 1 = 0)
    ∧ (win0_5.index t 0 = 0 ∧ win0_5.index t 1 = 0 ∧ win0_5.index t 2 = 0)
    ∧ (win0_6.index t 0 = t.val ∧ win0_6.index t 1 = 0) := by decide +kernel

variable (c : Dev nD)

abbrev argBr : Fin 4 → Fin 4096 → Fin 512 → EReal :=
  brs (m ((c : Thread nD τ).loc main_arg0)) (m ((c : Thread nD τ).loc main_arg1))
    (m ((c : Thread nD τ).loc main_arg2)) (m ((c : Thread nD τ).loc main_arg3))
abbrev argX : Fin 4096 → Fin 4 → Fin 1024 → EReal := xs (by decide : 4096 ≤ 8832) (m ((c : Thread nD τ).loc main_arg4))
abbrev argW : Fin 4 → Fin 512 → Fin 1024 → EReal := ws (m ((c : Thread nD τ).loc main_arg5))

variable (t : Fin cfg0.N)

theorem tile_br : brs (iblk m c 0 t) (iblk m c 1 t) (iblk m c 2 t) (iblk m c 3 t)
    = fun n r => argBr m c n (row t.val (lt_N t) r) := by
  funext n r k
  fin_cases n
  · exact congrArg (m ((c : Thread nD τ).loc main_arg0)) (at_row t.val (lt_N t) _ r k
      ((win0_0.rect_emb_val t (ix2 r k) 0).trans (by rw [(places t).1.1.1]; rfl))
      (win0_0.rect_emb_val_of_index_zero t 1 (places t).1.1.2 (ix2 r k)))
  · exact congrArg (m ((c : Thread nD τ).loc main_arg1)) (at_row t.val (lt_N t) _ r k
      ((win0_1.rect_emb_val t (ix2 r k) 0).trans (by rw [(places t).1.2.1.1]; rfl))
      (win0_1.rect_emb_val_of_index_zero t 1 (places t).1.2.1.2 (ix2 r k)))
  · exact congrArg (m ((c : Thread nD τ).loc main_arg2)) (at_row t.val (lt_N t) _ r k
      ((win0_2.rect_emb_val t (ix2 r k) 0).trans (by rw [(places t).1.2.2.1.1]; rfl))
      (win0_2.rect_emb_val_of_index_zero t 1 (places t).1.2.2.1.2 (ix2 r k)))
  · exact congrArg (m ((c : Thread nD τ).loc main_arg3)) (at_row t.val (lt_N t) _ r k
      ((win0_3.rect_emb_val t (ix2 r k) 0).trans (by rw [(places t).1.2.2.2.1]; rfl))
      (win0_3.rect_emb_val_of_index_zero t 1 (places t).1.2.2.2.2 (ix2 r k)))

/-- The window over the gate inputs takes the first 4096 columns of the wider array. -/
theorem tile_x : xs (le_refl 4096) (X0_4 m c t) = fun r => argX m c (row t.val (lt_N t) r) := by
  funext r n d
  show X0_4 m c t (ix2 r (gcol (le_refl 4096) n d)) = _
  unfold X0_4 Pipeline.Window.fill
  rw [dif_pos (moved0_4 t _)]
  exact congrArg (m ((c : Thread nD τ).loc main_arg4)) (at_row t.val (lt_N t) _ r _
    ((win0_4.rect_emb_val t _ 0).trans (by rw [(places t).2.1.1]; rfl))
    (win0_4.rect_emb_val_of_index_zero t 1 (places t).2.1.2 _))

theorem tile_w : ws (iblk m c 5 t) = argW m c := by
  funext n k d
  refine congrArg (m ((c : Thread nD τ).loc main_arg5)) (funext fun a => Fin.ext ?_)
  match a with
  | ⟨0, _⟩ => exact win0_5.rect_emb_val_of_index_zero t 0 (places t).2.2.1.1 (ix3 n k d)
  | ⟨1, _⟩ => exact win0_5.rect_emb_val_of_index_zero t 1 (places t).2.2.1.2.1 (ix3 n k d)
  | ⟨2, _⟩ => exact win0_5.rect_emb_val_of_index_zero t 2 (places t).2.2.1.2.2 (ix3 n k d)

theorem final : (dats m 0 c).arrAt 6 cfg0.N
    = fun i : S4096x1024.Idx => merged (argBr m c) (argX m c) (argW m c) (i 0) (i 1) := by
  refine (dats m 0 c).arrAt_eq_of_covers 6 _ (by decide +kernel) fun t hf y => ?_
  obtain ⟨r, k, rfl⟩ : ∃ (r : Fin 256) (k : Fin 1024), y = ix2 r k := ⟨_, _, eq_ix2 (n0 := 256) (n1 := 1024) y⟩
  have hi : ((cfg0.win 6).blk t).view.emb (ix2 r k) = ix2 (row t.val (lt_N t) r) k :=
    at_row t.val (lt_N t) _ r k
      ((win0_6.rect_emb_val t (ix2 r k) 0).trans (by rw [(places t).2.2.2.1]; rfl))
      (win0_6.rect_emb_val_of_index_zero t 1 (places t).2.2.2.2 (ix2 r k))
  rw [hi]
  refine (congrFun ((after0_6 m c t).trans (outs_eq m c t)) (ix2 r k)).trans ((mergedTile_apply _ _ _ _ _ _ r k).trans ?_)
  rw [tile_br, tile_x, tile_w]
  rfl

end Cert.Kernel8Ideal.Value

/-! ## The plain program -/

namespace Cert.Reference8Ideal.Read

open Cert.Reference8Ideal Cert.Merge

variable (x0 x1 x2 x3 : FVec Ideal S4096x512 .bf16) (x4 : FVec Ideal S4096x8832 .f32) (x5 : FVec Ideal S4x512x1024 .bf16)

/-- The gates are those the backward program computes again. -/
theorem gates_eq : val_main_v12 (F := Ideal) x4 = Cert.ReferenceIdeal.Read.val_main_v15 (F := Ideal) x4 := rfl

/-- So are the products. -/
theorem products_eq : val_main_v19 (F := Ideal) x0 x1 x2 x3 x5 = Cert.ReferenceIdeal.Read.val_main_v22 (F := Ideal) x0 x1 x2 x3 x5 := rfl

theorem result : val_main_v22 (F := Ideal) x0 x1 x2 x3 x4 x5
    = fun i => merged (brs x0 x1 x2 x3) (xs (by decide : 4096 ≤ 8832) x4) (ws x5) (i 0) (i 1) := by
  funext i
  obtain ⟨s, d, rfl⟩ : ∃ (s : Fin 4096) (d : Fin 1024), i = ix2 s d := ⟨_, _, eq_ix2 (n0 := 4096) (n1 := 1024) i⟩
  rw [val_main_v22_apply, val_main_v21_apply]
  refine (congrArg₂ (fun a b : EReal => a + b) Cert.KernelIdeal.Value.ofBits_zero (Finset.sum_congr rfl fun n _ => ?_)).trans (zero_add _)
  have e : idx_main_v21 (ix2 s d) n = ix3 s n d := eq_ix3 _
  rw [val_main_v20_apply, gates_eq, products_eq, e]
  exact congrArg₂ (fun a b : EReal => a * b) (Cert.ReferenceIdeal.Read.gate_split x4 s n d)
    (Cert.ReferenceIdeal.Read.proj_at x0 x1 x2 x3 x5 s n d)

end Cert.Reference8Ideal.Read

/-! ## The claims -/

namespace Cert.Merge

theorem kernel_frame8 : Cert.quiescent_Kernel8 (hKernel8 := Cert.Kernel8.Gen.facts) := fun m ρ _ => Cert.Kernel8.Gen.frame m ρ

theorem ideal_frame8 : Cert.quiescent_Kernel8Ideal (hKernel8Ideal := Cert.Kernel8Ideal.Gen.facts) :=
  fun m ρ _ => Cert.Kernel8Ideal.Gen.frame m ρ

theorem reference_frame8 : Cert.quiescent_Reference8Ideal (hReference8Ideal := Cert.Reference8Ideal.Gen.facts) := fun m ρ _ =>
  (θ_run Cert.Reference8Ideal.defs _ _).mono (fun r h => ⟨fun c => (h c).2, sem_eq_zero_of_no_sems (by decide) r.2⟩)
    (Cert.Reference8Ideal.Value.run (F := Ideal) m ρ)

theorem same_results8 : Cert.algebraic_Kernel8Ideal_Reference8Ideal (hKernel8Ideal := Cert.Kernel8Ideal.Gen.facts)
    (hReference8Ideal := Cert.Reference8Ideal.Gen.facts) := by
  intro m ρ m' ρ' _ hagree
  refine ⟨_, Cert.Kernel8Ideal.Value.run_blocks (F := Ideal) m ρ, ?_⟩
  refine (θ_run Cert.Reference8Ideal.defs _ _).mono (fun _ h c => ?_) (Cert.Reference8Ideal.Value.run (F := Ideal) m' ρ')
  obtain ⟨hd, hargs⟩ := h c
  obtain ⟨e0, e1, e2, e3, e4, e5⟩ := hagree c
  refine ⟨hd.trans ?_, hargs⟩
  rw [Cert.Reference8Ideal.Read.val_main_v22_eq, e0, e1, e2, e3, e4, e5, Cert.Kernel8Ideal.Value.final m c]
  exact Cert.Reference8Ideal.Read.result _ _ _ _ _ _

end Cert.Merge
-- ==== Proof.Attend.lean ====
/-
  The cross-attention's forward call (program 9), one tile of 256 rows: the rows are normed and projected to queries,
  each of four heads scores them against the 256 memory rows, a softmax weighs the memory's values, and the heads, side
  by side, are projected and added to the rows.
-/
module

public import proofs.«01_k».proof.Proof.Tile
public import proofs.«01_k».proof.Proof.Gen.Kernel9Ideal.Skeleton
public import Idealize.ShloMosaic.Lib.ValueIdx
public import Idealize.ShloMosaic.Lib.ValueLayout
public import Idealize.ShloMosaic.Lib.ValueLayoutCasts
public import Idealize.ShloMosaic.Lib.Pipeline.Value

@[expose] public section

set_option maxRecDepth 16384

noncomputable section

open Idealize.ShloMosaic Idealize.ShloMosaic.ValueIdx
open scoped BigOperators

namespace Cert.Attend

/-! ## The mathematics -/

/-- Column `d` of head `h` among the queries. -/
def hcol (h : Fin 4) (d : Fin 256) : Fin 1024 := ⟨h.val * 256 + d.val, by have := h.isLt; have := d.isLt; omega⟩

/-- The memory rows hold the keys of all heads and then their values. -/
def kcol (h : Fin 4) (d : Fin 256) : Fin 2048 := ⟨h.val * 256 + d.val, by have := h.isLt; have := d.isLt; omega⟩
def vcol (h : Fin 4) (d : Fin 256) : Fin 2048 := ⟨1024 + (h.val * 256 + d.val), by have := h.isLt; have := d.isLt; omega⟩

/-- The head a column belongs to, and its place there. -/
def headOf (k : Fin 1024) : Fin 4 := ⟨k.val / 256, by have := k.isLt; omega⟩
def within (k : Fin 1024) : Fin 256 := ⟨k.val % 256, by omega⟩

def width : EReal := Ideal.ofBits .f32 0x44800000#32
def eps : EReal := Ideal.ofBits .f32 0x358637BD#32
def scale : EReal := Ideal.ofBits .f32 0x3D800000#32

/-- The greatest of a row of scores, and the softmax of the row. -/
def peak (s : Fin 256 → EReal) : EReal := (Finset.univ : Finset (Fin 256)).fold max (Ideal.ofBits .f32 0xFF800000#32) s
def soft (s : Fin 256 → EReal) (m : Fin 256) : EReal :=
  Ideal.div (Ideal.exp (s m - peak s)) (∑ n, Ideal.exp (s n - peak s))

variable {ι : Type} (x : ι → Fin 1024 → EReal) (kv : Fin 256 → Fin 2048 → EReal) (g : Fin 1024 → EReal)
  (wq wo : Fin 1024 → Fin 1024 → EReal)

/-- A row over the root of its mean square, scaled. -/
def normed (r : ι) (d : Fin 1024) : EReal :=
  x r d * Ideal.rsqrt (Ideal.div (∑ k, x r k * x r k) width + eps) * g d

def query (r : ι) (c : Fin 1024) : EReal := ∑ k, normed x g r k * wq k c

def score (h : Fin 4) (r : ι) (m : Fin 256) : EReal := (∑ d, query x g wq r (hcol h d) * kv m (kcol h d)) * scale

def head (h : Fin 4) (r : ι) (d : Fin 256) : EReal := ∑ m, soft (score x kv g wq h r) m * kv m (vcol h d)

def result (r : ι) (c : Fin 1024) : EReal := x r c + ∑ k, head x kv g wq (headOf k) r (within k) * wo k c

/-- An array of rank two as a family of entries. -/
def entries {M N : ℕ} (a : (⟨2, ![M, N]⟩ : Shape).Idx → EReal) : Fin M → Fin N → EReal := fun r c => a (ix2 r c)

end Cert.Attend

namespace Cert.Attend.Body

open Cert.Kernel9Ideal Cert.Kernel9Ideal.Gen Cert.Attend Cert.Products
open Cert.KernelIdeal.Value (exp_apply)

/-! ## The body's operations -/

abbrev Sq := FVec Ideal S256x256 .f32

/-- One number per row, repeated along the row. -/
theorem row_along (u : FVec Ideal S256 .f32) (h : S256.ShapeCasts S256x1) {t : ℕ}
    (h' : S256x1.Broadcasts ⟨2, ![256, t]⟩) (r : Fin 256) (c : Fin t) :
    broadcastTo ⟨2, ![256, t]⟩ (shapeCast S256x1 u h) h' (ix2 r c) = u (ix1 r) := by
  refine (broadcastTo_apply _ h' (ix2 r c) (ix2 r 0) fun a => ?_).trans (shapeCast_a_a1_apply u h r 0)
  match a with
  | ⟨0, _⟩ => rfl
  | ⟨1, _⟩ => rfl

theorem row_sum {t : ℕ} (x : FVec Ideal ⟨2, ![256, t]⟩ .f32) (h : (⟨2, ![256, t]⟩ : Shape).Reduces [1] S256)
    (h1 : FKind.Formats .f32) (h2 : (0x00000000#32 : BitVec 32) = FKind.add.neutral .f32 h1) (r : Fin 256) :
    multiReduction .add [1] S256 x 0x00000000#32 h h1 h2 (ix1 r) = ∑ k : Fin t, x (ix2 r k) := by
  refine (Ideal.multiReduction_add_single x _ _ _ _ _).trans (Finset.sum_congr rfl fun d _ => congrArg x (funext fun a => ?_))
  match a with
  | ⟨0, _⟩ => rfl
  | ⟨1, _⟩ => rfl

theorem row_max (x : Sq) (h : S256x256.Reduces [1] S256)
    (h1 : FKind.Formats .f32) (h2 : (0xFF800000#32 : BitVec 32) = FKind.maximumf.neutral .f32 h1) (r : Fin 256) :
    multiReduction .maximumf [1] S256 x 0xFF800000#32 h h1 h2 (ix1 r) = peak fun n => x (ix2 r n) := by
  refine (Ideal.multiReduction_maximumf_single x _ _ _ _ _).trans ?_
  refine congrArg (fun f : Fin 256 → EReal => (Finset.univ : Finset (Fin 256)).fold max (Ideal.ofBits .f32 0xFF800000#32) f)
    (funext fun n => congrArg x (funext fun a => ?_))
  match a with
  | ⟨0, _⟩ => rfl
  | ⟨1, _⟩ => rfl

/-- The body's softmax. -/
theorem soft_apply (s : Sq) (r m : Fin 256) : k0_pay7 s (ix2 r m) = soft (fun n => s (ix2 r n)) m := by
  have e : ∀ n, exp (φ := .f32) (subf (φ := .f32) s (broadcastTo S256x256 (shapeCast S256x1 (multiReduction (φ := .f32) .maximumf [1] S256 s
      0xFF800000#32 reduces_S256x256_S256 (.inl rfl) rfl) shapeCasts_S256_S256x1) broadcasts_S256x1_S256x256)) (ix2 r n)
      = Ideal.exp (s (ix2 r n) - peak fun n => s (ix2 r n)) := fun n =>
    congrArg (fun a : EReal => Ideal.exp (s (ix2 r n) - a)) ((row_along _ _ _ r n).trans (row_max s _ _ _ r))
  exact congrArg₂ Ideal.div (e m) ((row_along _ _ _ r m).trans ((row_sum _ _ _ _ r).trans (Finset.sum_congr rfl fun n _ => e n)))

/-- One head's scores: the head's columns of the queries against the same columns of the memory. -/
def scores (q : FVec Ideal S256x1024 .f32) (kv : FVec Ideal S256x2048 .f32) (o : ℕ) (h1 : S256x1024.Slices ![0, o] S256x256)
    (h2 : S256x2048.Slices ![0, o] S256x256) : Sq :=
  mulf (matmul dot_S256x256_S256x256_S256x256_1_1_0_0_n_n none
      (truncf .bf16 (extractStridedSlice S256x256 ![0, o] q h1) bitsLt_bf16_f32)
      (truncf .bf16 (extractStridedSlice S256x256 ![0, o] kv h2) bitsLt_bf16_f32) (constant S256x256 .f32 0x00000000#32))
    (broadcast S256x256 (Scalar.ofBits .f32 0x3D800000#32 : Ideal .f32))

/-- One head's weighted values. -/
def valued (p : Sq) (v : Sq) : Sq :=
  matmul dot_S256x256_S256x256_S256x256_1_0_0_1_n_n none (truncf .bf16 p bitsLt_bf16_f32) (truncf .bf16 v bitsLt_bf16_f32)
    (constant S256x256 .f32 0x00000000#32)

/-- 256 columns cut out. -/
theorem cut {C : ℕ} (a : FVec Ideal ⟨2, ![256, C]⟩ .f32) (o : ℕ) (h : (⟨2, ![256, C]⟩ : Shape).Slices ![0, o] S256x256)
    (r d : Fin 256) (c : Fin C) (hc : c.val = o + d.val) :
    extractStridedSlice S256x256 ![0, o] a h (ix2 r d) = a (ix2 r c) := by
  refine extractStridedSlice_apply _ a h _ (ix2 r c) fun b => ?_
  match b with
  | ⟨0, _⟩ => show r.val = 0 + r.val; omega
  | ⟨1, _⟩ => exact hc

theorem scores_apply (q : FVec Ideal S256x1024 .f32) (kv : FVec Ideal S256x2048 .f32) (o : ℕ) (h1 : S256x1024.Slices ![0, o] S256x256)
    (h2 : S256x2048.Slices ![0, o] S256x256) (h : Fin 4) (ho : o = h.val * 256) (r m : Fin 256) :
    scores q kv o h1 h2 (ix2 r m) = (∑ d, q (ix2 r (hcol h d)) * kv (ix2 m (kcol h d))) * scale := by
  subst ho
  exact congrArg (fun a : EReal => a * scale) ((rows_rows _ _ _ r m).trans (Finset.sum_congr rfl fun d _ =>
    congrArg₂ (fun a b : EReal => a * b) (cut q _ h1 r d (hcol h d) rfl) (cut kv _ h2 m d (kcol h d) rfl)))

theorem valued_apply (p v : Sq) (r d : Fin 256) : valued p v (ix2 r d) = ∑ m, p (ix2 r m) * v (ix2 m d) := rows_cols _ _ _ r d

/-- The four heads side by side. -/
theorem joined (u : Fin 4 → Sq) (r : Fin 256) (k : Fin 1024) :
    concatenate S256x1024 1 [⟨S256x256, u 0⟩, ⟨S256x256, u 1⟩, ⟨S256x256, u 2⟩, ⟨S256x256, u 3⟩]
      concatenates_S256x256_S256x256_S256x256_S256x256_S256x1024_d1 (ix2 r k) = u (headOf k) (ix2 r (within k)) := by
  have hk := k.isLt
  have side : ∀ b : Fin 2, b ≠ 1 → ((ix2 r (within k) : S256x256.Idx) b).val = ((ix2 r k : S256x1024.Idx) b).val := by
    intro b hb
    match b with
    | ⟨0, _⟩ => rfl
    | ⟨1, _⟩ => exact absurd rfl hb
  have piece : ∀ (n : Fin 4) (hn : headOf k = n)
      (hy : [⟨S256x256, u 0⟩, ⟨S256x256, u 1⟩, ⟨S256x256, u 2⟩, (⟨S256x256, u 3⟩ : (s : Shape) × (s.Idx → EReal))][n.val]'n.isLt
          = ⟨S256x256, u n⟩)
      (hp : ((([⟨S256x256, u 0⟩, ⟨S256x256, u 1⟩, ⟨S256x256, u 2⟩, (⟨S256x256, u 3⟩ : (s : Shape) × (s.Idx → EReal))].take n.val).map (·.1)).map
          fun s => if h : s.rank = S256x1024.rank then s.size ((1 : Fin 2).cast h.symm) else 0).sum = n.val * 256),
      concatenate S256x1024 1 [⟨S256x256, u 0⟩, ⟨S256x256, u 1⟩, ⟨S256x256, u 2⟩, ⟨S256x256, u 3⟩]
        concatenates_S256x256_S256x256_S256x256_S256x256_S256x1024_d1 (ix2 r k) = u n (ix2 r (within k)) := by
    intro n hn hy hp
    refine concatenate_apply_piece (t := S256x1024) 1 [⟨S256x256, u 0⟩, ⟨S256x256, u 1⟩, ⟨S256x256, u 2⟩, ⟨S256x256, u 3⟩] _ (ix2 r k) n.val n.isLt S256x256 (u n) hy rfl (n.val * 256) hp (ix2 r (within k)) side ?_
    have e : k.val / 256 = n.val := congrArg Fin.val hn
    show n.val * 256 + k.val % 256 = k.val
    omega
  generalize hh : headOf k = n
  fin_cases n
  · exact piece 0 hh rfl rfl
  · exact piece 1 hh rfl rfl
  · exact piece 2 hh rfl rfl
  · exact piece 3 hh rfl rfl

/-! ## The tile -/

section Tile
variable (x : Vec Ideal S256x1024 .f32) (kv : Vec Ideal S256x2048 .f32) (g : Vec Ideal S1x1024 .f32)
  (wq wo : Vec Ideal S1024x1024 .bf16)

/-- What the body stores, as a function of the five arrays it loads. -/
def tile : FVec Ideal S256x1024 .f32 :=
  k0_pay1 x kv wo (k0_pay7 (k0_pay4 x kv g wq)) (k0_pay8 (k0_pay5 x kv g wq) k0_pay6) (k0_pay9 kv (k0_pay2 x g wq))
    (k0_pay10 kv (k0_pay3 x kv g wq)) (k0_pay11 kv)

abbrev gain : Fin 1024 → EReal := fun d => g (ix2 0 d)

theorem query_apply (r : Fin 256) (c : Fin 1024) : k0_pay2 x g wq (ix2 r c) = query (entries x) (gain g) (entries wq) r c := by
  unfold k0_pay2
  refine (rows_cols (φ₂ := .bf16) _ _ _ r c).trans (Finset.sum_congr rfl fun k _ => congrArg (fun a : EReal => a * wq (ix2 k c)) ?_)
  have e1 := row_along (rsqrt (addf (divf (φ := .f32) (s := S256) (multiReduction .add [1] S256 (mulf (φ := .f32) x x) 0x00000000#32 reduces_S256x1024_S256 (.inl rfl) rfl)
    (broadcast S256 (Scalar.ofBits .f32 0x44800000#32 : Ideal .f32))) (broadcast S256 (Scalar.ofBits .f32 0x358637BD#32 : Ideal .f32))))
    shapeCasts_S256_S256x1 broadcasts_S256x1_S256x1024 r k
  refine congrArg₂ (fun a b : EReal => a * b) (congrArg (fun a : EReal => x (ix2 r k) * a) (e1.trans ?_)) (broadcastTo_1b_ab_apply g _ r k)
  exact congrArg (fun a : EReal => Ideal.rsqrt (Ideal.div a width + eps)) (row_sum (mulf (φ := .f32) x x) _ _ _ r)

/-- Where the heads' columns lie. -/
theorem at_query (h : Fin 4) : S256x1024.Slices ![0, h.val * 256] S256x256 := by
  fin_cases h
  exacts [slices_S256x1024_o0_0_S256x256, slices_S256x1024_o0_256_S256x256, slices_S256x1024_o0_512_S256x256,
    slices_S256x1024_o0_768_S256x256]

theorem at_key (h : Fin 4) : S256x2048.Slices ![0, h.val * 256] S256x256 := by
  fin_cases h
  exacts [slices_S256x2048_o0_0_S256x256, slices_S256x2048_o0_256_S256x256, slices_S256x2048_o0_512_S256x256,
    slices_S256x2048_o0_768_S256x256]

theorem at_value (h : Fin 4) : S256x2048.Slices ![0, 1024 + h.val * 256] S256x256 := by
  fin_cases h
  exacts [slices_S256x2048_o0_1024_S256x256, slices_S256x2048_o0_1280_S256x256, slices_S256x2048_o0_1536_S256x256,
    slices_S256x2048_o0_1792_S256x256]

/-- The scores of each head. -/
def scoresOf (h : Fin 4) : Sq := scores (k0_pay2 x g wq) kv (h.val * 256) (at_query h) (at_key h)

theorem scoresOf_apply (h : Fin 4) (r m : Fin 256) :
    scoresOf x kv g wq h (ix2 r m) = score (entries x) (entries kv) (gain g) (entries wq) h r m := by
  unfold scoresOf score
  rw [scores_apply _ _ _ _ _ h rfl]
  simp only [query_apply]
  rfl

/-- The values of each head. -/
def valuesOf (h : Fin 4) : Sq := extractStridedSlice S256x256 ![0, 1024 + h.val * 256] kv (at_value h)

theorem valuesOf_apply (h : Fin 4) (m d : Fin 256) : valuesOf kv h (ix2 m d) = entries kv m (vcol h d) :=
  cut kv _ _ m d (vcol h d) (by show 1024 + (h.val * 256 + d.val) = 1024 + h.val * 256 + d.val; omega)

/-- The body's last step over any head's scores. -/
theorem tile_eq : tile x kv g wq wo
    = addf (φ := .f32) x (matmul (φ₂ := .bf16) dot_S256x1024_S1024x1024_S256x1024_1_0_0_1_n_n none
        (truncf .bf16 (concatenate S256x1024 1 [⟨S256x256, valued (k0_pay7 (scoresOf x kv g wq 0)) (valuesOf kv 0)⟩,
          ⟨S256x256, valued (k0_pay7 (scoresOf x kv g wq 1)) (valuesOf kv 1)⟩,
          ⟨S256x256, valued (k0_pay7 (scoresOf x kv g wq 2)) (valuesOf kv 2)⟩,
          ⟨S256x256, valued (k0_pay7 (scoresOf x kv g wq 3)) (valuesOf kv 3)⟩]
          concatenates_S256x256_S256x256_S256x256_S256x256_S256x1024_d1) bitsLt_bf16_f32) wo (constant S256x1024 .f32 0x00000000#32)) := rfl

theorem tile_apply (r : Fin 256) (c : Fin 1024) :
    tile x kv g wq wo (ix2 r c) = result (entries x) (entries kv) (gain g) (entries wq) (entries wo) r c := by
  rw [tile_eq]
  refine congrArg (fun a : EReal => x (ix2 r c) + a) ((rows_cols (φ₂ := .bf16) _ _ _ r c).trans (Finset.sum_congr rfl fun k _ =>
    congrArg (fun a : EReal => a * wo (ix2 k c)) ((joined (fun h => valued (k0_pay7 (scoresOf x kv g wq h)) (valuesOf kv h)) r k).trans ?_)))
  refine (valued_apply _ _ r (within k)).trans (Finset.sum_congr rfl fun m _ => ?_)
  refine congrArg₂ (fun a b : EReal => a * b) ((soft_apply _ r m).trans ?_) (valuesOf_apply kv _ m (within k))
  exact congrArg (fun f => soft f m) (funext fun n => scoresOf_apply x kv g wq _ r n)

end Tile

end Cert.Attend.Body
-- ==== Proof.AttendPlain.lean ====
/-
  The cross-attention's plain program (program 9) read at an index: the same function of the arguments as the tiles
  compute, over all 4096 rows.
-/
module

public import proofs.«01_k».proof.Proof.Attend
public import proofs.«01_k».proof.Proof.Dense
public import proofs.«01_k».proof.Proof.Gen.Reference9Ideal
public import proofs.«01_k».proof.Proof.Gen.Reference9Ideal.Run
public import proofs.«01_k».proof.Proof.Gen.Reference9Ideal.Read
public import Idealize.ShloMosaic.Lib.KernelVsHost

@[expose] public section

set_option maxRecDepth 16384

noncomputable section

open Idealize.ShloMosaic Idealize.ShloMosaic.ValueIdx
open scoped BigOperators

namespace Cert.Reference9Ideal.Read

open Cert.Reference9Ideal Cert.Attend
open Cert.KernelIdeal.Value (ofBits_zero)
open Cert.Dense (idx_ext)

variable (x0 : FVec Ideal S4096x1024 .f32) (x1 : FVec Ideal S256x2048 .f32) (x2 : FVec Ideal S1x1024 .f32)
  (x3 x4 : FVec Ideal S1024x1024 .bf16)

/-- Indices of rank three are equal when their coordinates are. -/
theorem ext3 {s : Fin 3 → ℕ} {i j : (⟨3, s⟩ : Shape).Idx} (h0 : (i 0).val = (j 0).val) (h1 : (i 1).val = (j 1).val)
    (h2 : (i 2).val = (j 2).val) : i = j := by
  funext a
  match a with
  | ⟨0, _⟩ => exact Fin.ext h0
  | ⟨1, _⟩ => exact Fin.ext h1
  | ⟨2, _⟩ => exact Fin.ext h2

abbrev gains : Fin 1024 → EReal := fun d => x2 (ix2 0 d)

/-! ## Queries, keys and values -/

theorem normed_at (s : Fin 4096) (d : Fin 1024) : val_main_v11 (F := Ideal) x0 x2 (ix2 s d) = normed (entries x0) (gains x2) s d := by
  have e0 : idx_main_v2 (idx_main_v8 (ix2 s d)) = ix1 s := eq_ix1 _
  have e1 : ∀ k, idx_main_v1 (ix1 s) k = ix2 s k := fun k => eq_ix2 _
  have e2 : idx_main_v10 (ix2 s d) = ix2 0 d := eq_ix2 _
  have sum : val_main_v1 (F := Ideal) x0 (ix1 s) = ∑ k, entries x0 s k * entries x0 s k := by
    rw [val_main_v1_apply]
    refine (congrArg₂ (fun a b : EReal => a + b) ofBits_zero (Finset.sum_congr rfl fun k _ => ?_)).trans (zero_add _)
    rw [e1]
    rfl
  rw [val_main_v11_apply, val_main_v9_apply, val_main_v8_apply, val_main_v7_apply, val_main_v6_apply, val_main_v4_apply,
    val_main_v2_apply, e0, val_main_v10_apply, e2, sum, val_main_v3_apply, val_main_v5_apply]
  rfl

theorem query_at (s : Fin 4096) (c : Fin 1024) :
    val_main_v13 (F := Ideal) x0 x2 x3 (ix2 s c) = query (entries x0) (gains x2) (entries x3) s c := by
  rw [val_main_v13_apply]
  refine Finset.sum_congr rfl fun k _ => ?_
  have el : lidx_main_v13 (ix2 s c) k = ix2 s k := eq_ix2 _
  have er : ridx_main_v13 (ix2 s c) k = ix2 k c := eq_ix2 _
  rw [el, er, normed_at]
  rfl

theorem head_query (s : Fin 4096) (h : Fin 4) (d : Fin 256) :
    val_main_v14 (F := Ideal) x0 x2 x3 (ix3 s h d) = query (entries x0) (gains x2) (entries x3) s (hcol h d) := by
  have hh := h.isLt; have hd := d.isLt
  have e : idx_main_v14 (ix3 s h d) = ix2 s (hcol h d) := idx_ext
    (by show ((s.val * 4 + h.val) * 256 + d.val) / 1024 = s.val; omega)
    (by show ((s.val * 4 + h.val) * 256 + d.val) % 1024 = h.val * 256 + d.val; omega)
  rw [val_main_v14_apply, e, query_at]

theorem head_key (m : Fin 256) (h : Fin 4) (d : Fin 256) : val_main_v17 (F := Ideal) x1 (ix3 m h d) = entries x1 m (kcol h d) := by
  have hh := h.isLt; have hd := d.isLt
  have e : idx_main_v15 (idx_main_v17 (ix3 m h d)) = ix2 m (kcol h d) := idx_ext
    (by show ((m.val * 4 + h.val) * 256 + d.val) / 1024 = m.val; omega)
    (by show ((m.val * 4 + h.val) * 256 + d.val) % 1024 = h.val * 256 + d.val; omega)
  rw [val_main_v17_apply, val_main_v15_apply, e]
  rfl

theorem head_value (m : Fin 256) (h : Fin 4) (d : Fin 256) : val_main_v18 (F := Ideal) x1 (ix3 m h d) = entries x1 m (vcol h d) := by
  have hh := h.isLt; have hd := d.isLt
  have e : idx_main_v16 (idx_main_v18 (ix3 m h d)) = ix2 m (vcol h d) := idx_ext
    (by show ((m.val * 4 + h.val) * 256 + d.val) / 1024 = m.val; omega)
    (by show 1024 + ((m.val * 4 + h.val) * 256 + d.val) % 1024 = 1024 + (h.val * 256 + d.val); omega)
  rw [val_main_v18_apply, val_main_v16_apply, e]
  rfl

/-! ## Scores and their softmax -/

abbrev scoreAt (h : Fin 4) (s : Fin 4096) : Fin 256 → EReal := score (entries x0) (entries x1) (gains x2) (entries x3) h s

theorem score_at (h : Fin 4) (s : Fin 4096) (m : Fin 256) :
    val_main_v21 (F := Ideal) x0 x1 x2 x3 (ix3 h s m) = scoreAt x0 x1 x2 x3 h s m := by
  rw [val_main_v21_apply, val_main_v19_apply, val_main_v20_apply]
  refine congrArg (fun a : EReal => a * scale) (Finset.sum_congr rfl fun k _ => ?_)
  have el : lidx_main_v19 (ix3 h s m) k = ix3 s h k := eq_ix3 _
  have er : ridx_main_v19 (ix3 h s m) k = ix3 m h k := eq_ix3 _
  rw [el, er, head_query, head_key]

theorem max_last {G M N : ℕ} (x : FVec Ideal ⟨3, ![G, M, N]⟩ .f32) (h : (⟨3, ![G, M, N]⟩ : Shape).ReducesTo [2] ⟨2, ![G, M]⟩)
    (hu : 0 < (⟨0, ![]⟩ : Shape).numel) (g : Fin G) (a : Fin M) :
    Host.reduce FloatOps.maximumf x (constant (F := Ideal) ⟨0, ![]⟩ .f32 0xFF800000#32) h hu (ix2 g a)
      = (Finset.univ : Finset (Fin N)).fold max (Ideal.ofBits .f32 0xFF800000#32) fun d => x (ix3 g a d) := by
  have h' : (⟨3, ![G, M, N]⟩ : Shape).Reduces [2] ⟨2, ![G, M]⟩ := ⟨h.1, Nat.two_pos, h.2⟩
  rw [hostReduce_maximumf_eq_multiReduction x 0xFF800000#32 h hu h' (.inl rfl) rfl]
  refine (Ideal.multiReduction_maximumf_single x _ _ _ _ _).trans ?_
  refine congrArg (fun f : Fin N → EReal => (Finset.univ : Finset (Fin N)).fold max (Ideal.ofBits .f32 0xFF800000#32) f)
    (funext fun n => congrArg x (ext3 rfl rfl rfl))

/-- The plain program takes the greater of −∞ and the greatest score, which is that score's own fold again. -/
theorem peak_at (h : Fin 4) (s : Fin 4096) : val_main_v24 (F := Ideal) x0 x1 x2 x3 (ix2 h s) = peak (scoreAt x0 x1 x2 x3 h s) := by
  have e : val_main_v22 (F := Ideal) x0 x1 x2 x3 (ix2 h s) = peak (scoreAt x0 x1 x2 x3 h s) :=
    (max_last (val_main_v21 (F := Ideal) x0 x1 x2 x3) _ _ h s).trans (congrArg peak (funext fun m => score_at x0 x1 x2 x3 h s m))
  rw [val_main_v24_apply, e, val_main_v23_apply]
  exact max_eq_right ((Finset.le_fold_max _).mpr (Or.inl le_rfl))

theorem exp_at (h : Fin 4) (s : Fin 4096) (m : Fin 256) : val_main_v28 (F := Ideal) x0 x1 x2 x3 (ix3 h s m)
    = Ideal.exp (scoreAt x0 x1 x2 x3 h s m - peak (scoreAt x0 x1 x2 x3 h s)) := by
  have e : idx_main_v25 (idx_main_v26 (ix3 h s m)) = ix2 h s := eq_ix2 _
  rw [val_main_v28_apply, val_main_v27_apply, score_at, val_main_v26_apply, val_main_v25_apply, e, peak_at]
  rfl

theorem soft_at (h : Fin 4) (s : Fin 4096) (m : Fin 256) :
    val_main_v32 (F := Ideal) x0 x1 x2 x3 (ix3 h s m) = soft (scoreAt x0 x1 x2 x3 h s) m := by
  have e : idx_main_v30 (idx_main_v31 (ix3 h s m)) = ix2 h s := eq_ix2 _
  have ek : ∀ k, idx_main_v29 (ix2 h s) k = ix3 h s k := fun k => eq_ix3 _
  have sum : val_main_v29 (F := Ideal) x0 x1 x2 x3 (ix2 h s)
      = ∑ n, Ideal.exp (scoreAt x0 x1 x2 x3 h s n - peak (scoreAt x0 x1 x2 x3 h s)) := by
    rw [val_main_v29_apply]
    refine (congrArg₂ (fun a b : EReal => a + b) ofBits_zero (Finset.sum_congr rfl fun n _ => ?_)).trans (zero_add _)
    rw [ek, exp_at]
  rw [val_main_v32_apply, val_main_v31_apply, val_main_v30_apply, e, sum, exp_at]
  rfl

/-! ## The heads side by side, and the result -/

theorem head_at (s : Fin 4096) (k : Fin 1024) : val_main_v35 (F := Ideal) x0 x1 x2 x3 (ix2 s k)
    = head (entries x0) (entries x1) (gains x2) (entries x3) (headOf k) s (within k) := by
  have hk := k.isLt
  have e : idx_main_v34 (idx_main_v35 (ix2 s k)) = ix3 (headOf k) (within k) s := ext3
    (by show (s.val * 1024 + k.val) / 256 % 4 = k.val / 256; omega)
    (by show (s.val * 1024 + k.val) % 256 = k.val % 256; omega)
    (by show (s.val * 1024 + k.val) / 1024 = s.val; omega)
  rw [val_main_v35_apply, val_main_v34_apply, e, val_main_v33_apply]
  refine Finset.sum_congr rfl fun m _ => ?_
  have el : lidx_main_v33 (ix3 (headOf k) (within k) s) m = ix3 m (headOf k) (within k) := eq_ix3 _
  have er : ridx_main_v33 (ix3 (headOf k) (within k) s) m = ix3 (headOf k) s m := eq_ix3 _
  rw [el, er, head_value, soft_at]
  exact mul_comm (G := EReal) _ _

theorem result_at : val_main_v38 (F := Ideal) x0 x1 x2 x3 x4
    = fun i => result (entries x0) (entries x1) (gains x2) (entries x3) (entries x4) (i 0) (i 1) := by
  funext i
  obtain ⟨s, c, rfl⟩ : ∃ (s : Fin 4096) (c : Fin 1024), i = ix2 s c := ⟨_, _, eq_ix2 (n0 := 4096) (n1 := 1024) i⟩
  rw [val_main_v38_apply, val_main_v37_apply]
  refine congrArg (fun a : EReal => x0 (ix2 s c) + a) (Finset.sum_congr rfl fun k _ => ?_)
  have el : lidx_main_v37 (ix2 s c) k = ix2 s k := eq_ix2 _
  have er : ridx_main_v37 (ix2 s c) k = ix2 k c := eq_ix2 _
  rw [el, er, head_at]
  rfl

end Cert.Reference9Ideal.Read
-- ==== Proof.AttendClaim.lean ====
/-
  The cross-attention's forward call (program 9): its sixteen tiles put together, and the claims.
-/
module

public import proofs.«01_k».proof.Proof.Arrays
public import proofs.«01_k».proof.Proof.AttendPlain
public import proofs.«01_k».proof.Proof.Gen.Kernel9
public import proofs.«01_k».proof.Proof.Gen.Kernel9.Frame
public import proofs.«01_k».proof.Proof.Gen.Kernel9Ideal
public import proofs.«01_k».proof.Proof.Gen.Kernel9Ideal.Frame
public import proofs.«01_k».proof.Proof.Gen.Kernel9Ideal.Value
public import proofs.«01_k».proof.Defs

@[expose] public section

set_option maxRecDepth 16384

noncomputable section

open Idealize.ShloMosaic Idealize.ShloMosaic.TcCoe Idealize.ShloMosaic.ValueIdx Idealize.SL.Sem
open Idealize.ShloMosaic.Pipeline (Dat Window)
open scoped BigOperators

namespace Cert.Kernel9Ideal.Value

open Cert.Kernel9Ideal Cert.Kernel9Ideal.Gen Cert.Attend Cert.Attend.Body
open Cert.KernelIdeal.Value (hz2 at_row)
open Cert.Dense (idx_ext)
open Cert.Merge (row)

/-! ## The sixteen tiles -/

variable (m : (ℓ : Loc nD τ sig) → Buf (Elt Ideal) ℓ)

theorem lt_N (t : Fin cfg0.N) : t.val < 16 := lt_of_lt_of_eq t.isLt N_0

/-- What a point leaves in its window is the tile over its blocks. -/
theorem out_eq (x : Vec Ideal S256x1024 .f32) (kv : Vec Ideal S256x2048 .f32) (g : Vec Ideal S1x1024 .f32)
    (wq wo : Vec Ideal S1024x1024 .bf16) : out0_5 x kv g wq wo = tile x kv g wq wo := by
  unfold out0_5
  rw [View.canon_unit_zero (S := S256x1024) hz2, View.ld_unit_zero (S := S256x1024) hz2, View.ld_unit_zero (S := S256x2048) hz2,
    View.ld_unit_zero (S := S1x1024) hz2, View.ld_unit_zero (S := S1024x1024) hz2, View.ld_unit_zero (S := S1024x1024) hz2]
  rfl

theorem places : ∀ t : Fin grid0.N,
    (win0_0.index t 0 = t.val ∧ win0_0.index t 1 = 0) ∧ (win0_1.index t 0 = 0 ∧ win0_1.index t 1 = 0)
    ∧ (win0_2.index t 0 = 0 ∧ win0_2.index t 1 = 0) ∧ (win0_3.index t 0 = 0 ∧ win0_3.index t 1 = 0)
    ∧ (win0_4.index t 0 = 0 ∧ win0_4.index t 1 = 0) ∧ (win0_5.index t 0 = t.val ∧ win0_5.index t 1 = 0) := by decide +kernel

variable (c : Dev nD)

abbrev argX : Fin 4096 → Fin 1024 → EReal := entries (m ((c : Thread nD τ).loc main_arg0))
abbrev argKv : Fin 256 → Fin 2048 → EReal := entries (m ((c : Thread nD τ).loc main_arg1))
abbrev argGain : Fin 1024 → EReal := fun d => m ((c : Thread nD τ).loc main_arg2) (ix2 0 d)
abbrev argQ : Fin 1024 → Fin 1024 → EReal := entries (m ((c : Thread nD τ).loc main_arg3))
abbrev argO : Fin 1024 → Fin 1024 → EReal := entries (m ((c : Thread nD τ).loc main_arg4))

variable (t : Fin cfg0.N)

theorem tile_x : entries (iblk m c 0 t) = fun r => argX m c (row t.val (lt_N t) r) := by
  funext r k
  exact congrArg (m ((c : Thread nD τ).loc main_arg0)) (at_row t.val (lt_N t) _ r k
    ((win0_0.rect_emb_val t (ix2 r k) 0).trans (by rw [(places t).1.1]; rfl))
    (win0_0.rect_emb_val_of_index_zero t 1 (places t).1.2 (ix2 r k)))

/-- The other windows hold whole arrays at every point. -/
theorem tile_kv : entries (iblk m c 1 t) = argKv m c := by
  funext r k
  exact congrArg (m ((c : Thread nD τ).loc main_arg1)) (idx_ext
    (win0_1.rect_emb_val_of_index_zero t 0 (places t).2.1.1 (ix2 r k)) (win0_1.rect_emb_val_of_index_zero t 1 (places t).2.1.2 (ix2 r k)))

theorem tile_gain : gain (iblk m c 2 t) = argGain m c := by
  funext k
  exact congrArg (m ((c : Thread nD τ).loc main_arg2)) (idx_ext
    (win0_2.rect_emb_val_of_index_zero t 0 (places t).2.2.1.1 (ix2 0 k)) (win0_2.rect_emb_val_of_index_zero t 1 (places t).2.2.1.2 (ix2 0 k)))

theorem tile_q : entries (iblk m c 3 t) = argQ m c := by
  funext r k
  exact congrArg (m ((c : Thread nD τ).loc main_arg3)) (idx_ext
    (win0_3.rect_emb_val_of_index_zero t 0 (places t).2.2.2.1.1 (ix2 r k)) (win0_3.rect_emb_val_of_index_zero t 1 (places t).2.2.2.1.2 (ix2 r k)))

theorem tile_o : entries (iblk m c 4 t) = argO m c := by
  funext r k
  exact congrArg (m ((c : Thread nD τ).loc main_arg4)) (idx_ext
    (win0_4.rect_emb_val_of_index_zero t 0 (places t).2.2.2.2.1.1 (ix2 r k)) (win0_4.rect_emb_val_of_index_zero t 1 (places t).2.2.2.2.1.2 (ix2 r k)))

theorem final : (dats m 0 c).arrAt 5 cfg0.N
    = fun i : S4096x1024.Idx => result (argX m c) (argKv m c) (argGain m c) (argQ m c) (argO m c) (i 0) (i 1) := by
  refine (dats m 0 c).arrAt_eq_of_covers 5 _ (by decide +kernel) fun t hf y => ?_
  obtain ⟨r, k, rfl⟩ : ∃ (r : Fin 256) (k : Fin 1024), y = ix2 r k := ⟨_, _, eq_ix2 (n0 := 256) (n1 := 1024) y⟩
  have hi : ((cfg0.win 5).blk t).view.emb (ix2 r k) = ix2 (row t.val (lt_N t) r) k :=
    at_row t.val (lt_N t) _ r k
      ((win0_5.rect_emb_val t (ix2 r k) 0).trans (by rw [(places t).2.2.2.2.2.1]; rfl))
      (win0_5.rect_emb_val_of_index_zero t 1 (places t).2.2.2.2.2.2 (ix2 r k))
  rw [hi]
  refine (congrFun ((after0_5 m c t).trans (out_eq _ _ _ _ _)) (ix2 r k)).trans ((tile_apply _ _ _ _ _ r k).trans ?_)
  rw [tile_x, tile_kv, tile_gain, tile_q, tile_o]
  rfl

end Cert.Kernel9Ideal.Value

/-! ## The claims -/

namespace Cert.Attend

theorem kernel_frame9 : Cert.quiescent_Kernel9 (hKernel9 := Cert.Kernel9.Gen.facts) := fun m ρ _ => Cert.Kernel9.Gen.frame m ρ

theorem ideal_frame9 : Cert.quiescent_Kernel9Ideal (hKernel9Ideal := Cert.Kernel9Ideal.Gen.facts) :=
  fun m ρ _ => Cert.Kernel9Ideal.Gen.frame m ρ

theorem reference_frame9 : Cert.quiescent_Reference9Ideal (hReference9Ideal := Cert.Reference9Ideal.Gen.facts) := fun m ρ _ =>
  (θ_run Cert.Reference9Ideal.defs _ _).mono (fun r h => ⟨fun c => (h c).2, sem_eq_zero_of_no_sems (by decide) r.2⟩)
    (Cert.Reference9Ideal.Value.run (F := Ideal) m ρ)

theorem same_results9 : Cert.algebraic_Kernel9Ideal_Reference9Ideal (hKernel9Ideal := Cert.Kernel9Ideal.Gen.facts)
    (hReference9Ideal := Cert.Reference9Ideal.Gen.facts) := by
  intro m ρ m' ρ' _ hagree
  refine ⟨_, Cert.Kernel9Ideal.Value.run_blocks (F := Ideal) m ρ, ?_⟩
  refine (θ_run Cert.Reference9Ideal.defs _ _).mono (fun _ h c => ?_) (Cert.Reference9Ideal.Value.run (F := Ideal) m' ρ')
  obtain ⟨hd, hargs⟩ := h c
  obtain ⟨e0, e1, e2, e3, e4⟩ := hagree c
  refine ⟨hd.trans ?_, hargs⟩
  rw [Cert.Reference9Ideal.Read.val_main_v38_eq, e0, e1, e2, e3, e4, Cert.Kernel9Ideal.Value.final m c]
  exact Cert.Reference9Ideal.Read.result_at _ _ _ _ _

end Cert.Attend
-- ==== Proof.CrossMath.lean ====
/-
  The mathematics of the cross-attention's backward call (program 10). The body differentiates the softmax through
  the row's greatest score too: it adds, at the scores that attain it, the negated sum of the row's gradients. Where
  the gradients of the softmax's weights are finite that sum is zero, so the gradient is the plain softmax's.
-/
module

public import proofs.«01_k».proof.Proof.Attend

@[expose] public section

set_option maxRecDepth 16384

noncomputable section

open Idealize.ShloMosaic Idealize.ShloMosaic.ValueIdx
open scoped BigOperators

namespace Cert.Cross

open Cert.Attend

/-! ## Finite values -/

def IsReal (a : EReal) : Prop := ∃ r : ℝ, a = (r : EReal)

theorem IsReal.add {a b : EReal} : IsReal a → IsReal b → IsReal (a + b) := by
  rintro ⟨x, rfl⟩ ⟨y, rfl⟩
  exact ⟨x + y, (EReal.coe_add x y).symm⟩

theorem IsReal.mul {a b : EReal} : IsReal a → IsReal b → IsReal (a * b) := by
  rintro ⟨x, rfl⟩ ⟨y, rfl⟩
  exact ⟨x * y, (EReal.coe_mul x y).symm⟩

theorem coe_sum {n : ℕ} (f : Fin n → ℝ) : ((∑ i, f i : ℝ) : EReal) = ∑ i, (f i : EReal) := by
  classical
  refine Finset.induction_on (Finset.univ : Finset (Fin n)) (by simp) fun a s ha ih => ?_
  rw [Finset.sum_insert ha, Finset.sum_insert ha, EReal.coe_add, ih]

theorem IsReal.sum {n : ℕ} {f : Fin n → EReal} (h : ∀ i, IsReal (f i)) : IsReal (∑ i, f i) := by
  choose g hg using h
  exact ⟨∑ i, g i, by rw [coe_sum]; exact Finset.sum_congr rfl fun i _ => hg i⟩

theorem div_real (a b : ℝ) (h : b ≠ 0) : Ideal.div a b = ((a / b : ℝ) : EReal) := by
  unfold Ideal.div
  rw [if_neg (by exact_mod_cast h), ← EReal.coe_inv, ← EReal.coe_mul, div_eq_mul_inv]

theorem zero_f32 : Ideal.ofBits .f32 0x00000000#32 = 0 := Ideal.ofBits_zero_f32

theorem one_f32 : Ideal.ofBits .f32 0x3F800000#32 = 1 := by
  simp [Ideal.ofBits, Ideal.ieee, -EReal.coe_mul]; norm_num

theorem least_f32 : Ideal.ofBits .f32 0xFF800000#32 = ⊥ := by
  simp [Ideal.ofBits, Ideal.ieee]

theorem greatest_f32 : Ideal.ofBits .f32 0x7F800000#32 = ⊤ := by
  simp [Ideal.ofBits, Ideal.ieee]

/-! ## The softmax's gradient -/

/-- The row's exponentials, and their sum. -/
def expo (s : Fin 256 → EReal) (m : Fin 256) : EReal := Ideal.exp (s m - peak s)
def total (s : Fin 256 → EReal) : EReal := ∑ n, expo s n

/-- The gradient of the scores less their greatest, from the gradient `D` of the weights. -/
def back (s D : Fin 256 → EReal) (m : Fin 256) : EReal :=
  (Ideal.div (D m) (total s) + -∑ n, D n * Ideal.div 1 (total s * total s) * expo s n) * expo s m

theorem sum_back (e D : Fin 256 → ℝ) (hT : ∑ n, e n ≠ 0) :
    ∑ m, (D m / (∑ n, e n) + -∑ n, D n * (1 / ((∑ n, e n) * ∑ n, e n)) * e n) * e m = 0 := by
  set T := ∑ n, e n with hTdef
  have h1 : ∑ n, D n * (1 / (T * T)) * e n = (∑ n, D n * e n) / (T * T) := by
    rw [Finset.sum_div]
    exact Finset.sum_congr rfl fun n _ => by ring
  have h2 : ∀ m, (D m / T + -∑ n, D n * (1 / (T * T)) * e n) * e m = D m * e m / T - (∑ n, D n * e n) / (T * T) * e m := by
    intro m
    rw [h1]
    ring
  simp only [h2]
  rw [Finset.sum_sub_distrib, ← Finset.sum_div, ← Finset.mul_sum, ← hTdef]
  field_simp
  ring

/-- The greatest of the scores is one of them. -/
theorem peak_attained (s : Fin 256 → EReal) : ∃ n, peak s = s n := by
  obtain ⟨n, -, hn⟩ := Finset.exists_max_image (Finset.univ : Finset (Fin 256)) s ⟨0, Finset.mem_univ _⟩
  refine ⟨n, le_antisymm ?_ ?_⟩
  · exact Finset.fold_max_le _ |>.mpr ⟨by rw [least_f32]; exact bot_le, fun m hm => hn m hm⟩
  · exact Finset.le_fold_max _ |>.mpr (Or.inr ⟨n, Finset.mem_univ _, le_rfl⟩)

theorem le_peak (s : Fin 256 → EReal) (n : Fin 256) : s n ≤ peak s :=
  Finset.le_fold_max _ |>.mpr (Or.inr ⟨n, Finset.mem_univ _, le_rfl⟩)

/-- Where the greatest score is infinite, every exponential of the row is zero. -/
theorem expo_top (s : Fin 256 → EReal) (h : peak s = ⊤) (n : Fin 256) : expo s n = 0 := by
  unfold expo
  rw [h, sub_eq_add_neg, EReal.neg_top, EReal.add_bot, Ideal.exp_bot]

theorem expo_bot (s : Fin 256 → EReal) (h : peak s = ⊥) (n : Fin 256) : expo s n = 0 := by
  have hn : s n = ⊥ := le_bot_iff.mp (h ▸ le_peak s n)
  unfold expo
  rw [hn, sub_eq_add_neg, EReal.bot_add, Ideal.exp_bot]

/-- Elsewhere the exponentials are real numbers, none negative. -/
theorem expo_real (s : Fin 256 → EReal) (p : ℝ) (h : peak s = (p : EReal)) (n : Fin 256) :
    ∃ e : ℝ, 0 ≤ e ∧ expo s n = (e : EReal) := by
  have hle := le_peak s n
  unfold expo
  rw [h] at hle ⊢
  induction hs : s n with
  | bot => exact ⟨0, le_rfl, by rw [sub_eq_add_neg, EReal.bot_add, Ideal.exp_bot, EReal.coe_zero]⟩
  | coe a => exact ⟨Real.exp (a - p), (Real.exp_pos _).le, by rw [← EReal.coe_sub, Ideal.exp_coe]⟩
  | top => rw [hs] at hle; exact absurd hle (by simp)

theorem neg_back_zero (s D : Fin 256 → EReal) (h : ∀ n, expo s n = 0) : ∑ m, (0 - back s D m) = 0 := by
  refine Finset.sum_eq_zero fun m _ => ?_
  unfold back
  rw [h m, mul_zero, sub_zero]

/-- The gradients of a row's scores sum to zero. -/
theorem neg_back_real (s D : Fin 256 → EReal) (p : ℝ) (hp : peak s = (p : EReal)) (hD : ∀ n, IsReal (D n)) :
    ∑ m, (0 - back s D m) = 0 := by
  choose e hpos he using expo_real s p hp
  choose d hd using hD
  obtain ⟨k, hk⟩ := peak_attained s
  have hone : e k = 1 := by
    have h1 : expo s k = 1 := by
      unfold expo
      rw [← hk, hp, ← EReal.coe_sub, sub_self, Ideal.exp_coe, Real.exp_zero, EReal.coe_one]
    exact EReal.coe_eq_one.mp ((he k).symm.trans h1)
  have hT : total s = ((∑ n, e n : ℝ) : EReal) := by
    unfold total
    rw [coe_sum]
    exact Finset.sum_congr rfl fun n _ => he n
  have hT0 : ∑ n, e n ≠ 0 :=
    (lt_of_lt_of_le zero_lt_one (hone ▸ Finset.single_le_sum (f := e) (fun n _ => hpos n) (Finset.mem_univ k))).ne'
  have hb : ∀ m, back s D m = (((d m / (∑ n, e n) + -∑ n, d n * (1 / ((∑ n, e n) * ∑ n, e n)) * e n) * e m : ℝ) : EReal) := by
    intro m
    unfold back
    rw [hT, he m, hd m, div_real _ _ hT0, ← EReal.coe_mul, ← EReal.coe_one, div_real _ _ (mul_ne_zero hT0 hT0)]
    have : ∑ n, D n * (((1 / ((∑ n, e n) * ∑ n, e n) : ℝ)) : EReal) * expo s n
        = ((∑ n, d n * (1 / ((∑ n, e n) * ∑ n, e n)) * e n : ℝ) : EReal) := by
      rw [coe_sum]
      refine Finset.sum_congr rfl fun n _ => ?_
      rw [he n, hd n, EReal.coe_mul, EReal.coe_mul]
    rw [this, ← EReal.coe_neg, ← EReal.coe_add, ← EReal.coe_mul]
  have h0 : ∀ m, 0 - back s D m = ((-((d m / (∑ n, e n) + -∑ n, d n * (1 / ((∑ n, e n) * ∑ n, e n)) * e n) * e m) : ℝ) : EReal) := by
    intro m
    rw [hb m, zero_sub, ← EReal.coe_neg]
  simp only [h0]
  rw [← coe_sum, Finset.sum_neg_distrib, sum_back e d hT0, neg_zero, EReal.coe_zero]

theorem neg_back_sum (s D : Fin 256 → EReal) (hD : ∀ n, IsReal (D n)) : ∑ m, (0 - back s D m) = 0 := by
  induction hp : peak s with
  | bot => exact neg_back_zero s D (expo_bot s hp)
  | coe p => exact neg_back_real s D p hp hD
  | top => exact neg_back_zero s D (expo_top s hp)

/-- Which scores attain the row's greatest, as the body counts them. -/
def tie (s : Fin 256 → EReal) (m : Fin 256) : EReal := if s m = peak s then 1 else 0

theorem ties_pos (s : Fin 256 → EReal) : ∑ n, tie s n ≠ 0 := by
  obtain ⟨k, hk⟩ := peak_attained s
  have h0 : ∀ n, 0 ≤ tie s n := fun n => by unfold tie; split <;> simp
  have h1 : tie s k = 1 := if_pos hk.symm
  have : (1 : EReal) ≤ ∑ n, tie s n := h1 ▸ Finset.single_le_sum (f := tie s) (fun n _ => h0 n) (Finset.mem_univ k)
  exact (lt_of_lt_of_le zero_lt_one this).ne'

/-- The body's gradient, with its correction at the greatest scores, is the plain one. -/
theorem corrected (s D : Fin 256 → EReal) (hD : ∀ n, IsReal (D n)) (m : Fin 256) :
    back s D m + Ideal.div (∑ n, (0 - back s D n)) (∑ n, tie s n) * tie s m = back s D m := by
  rw [neg_back_sum s D hD]
  have : Ideal.div 0 (∑ n, tie s n) = 0 := by
    unfold Ideal.div
    rw [if_neg (ties_pos s), zero_mul]
  rw [this, zero_mul, add_zero]

/-! ## The gradients -/

section Grads
variable {ι : Type} (x : ι → Fin 1024 → EReal) (kv : Fin 256 → Fin 2048 → EReal) (g : Fin 1024 → EReal)
  (wq wo : Fin 1024 → Fin 1024 → EReal) (dy : ι → Fin 1024 → EReal)

def half : EReal := Ideal.ofBits .f32 0xBF000000#32

/-- A row's mean square, kept off zero; the reciprocal of its root; the row over that root. -/
def square (r : ι) : EReal := Ideal.div (∑ k, x r k * x r k) width + eps
def root (r : ι) : EReal := Ideal.rsqrt (square x r)
def unit (r : ι) (d : Fin 1024) : EReal := x r d * root x r

theorem normed_eq (r : ι) (d : Fin 1024) : normed x g r d = unit x r d * g d := rfl

def dHead (r : ι) (k : Fin 1024) : EReal := ∑ c, dy r c * wo k c

def dSoft (h : Fin 4) (r : ι) (m : Fin 256) : EReal := ∑ d, dHead wo dy r (hcol h d) * kv m (vcol h d)

/-- The gradient of the scores before their scale. -/
def dScore (h : Fin 4) (r : ι) (m : Fin 256) : EReal := back (score x kv g wq h r) (dSoft kv wo dy h r) m * scale

def dQuery (r : ι) (j : Fin 1024) : EReal :=
  ∑ m, dScore x kv g wq wo dy (headOf j) r m * kv m (kcol (headOf j) (within j))

def dNormed (r : ι) (i : Fin 1024) : EReal := ∑ j, dQuery x kv g wq wo dy r j * wq i j

/-- What one row adds to the gradients of the keys, the values, the gains and the two weights. -/
def keyTerm (h : Fin 4) (m d : Fin 256) (r : ι) : EReal := dScore x kv g wq wo dy h r m * query x g wq r (hcol h d)
def valueTerm (h : Fin 4) (m d : Fin 256) (r : ι) : EReal := soft (score x kv g wq h r) m * dHead wo dy r (hcol h d)

/-- One row's part of the memory's gradient: the keys' columns, then the values'. -/
def memoryTerm (m : Fin 256) (c : Fin 2048) (r : ι) : EReal :=
  if hc : c.val < 1024 then keyTerm x kv g wq wo dy (headOf ⟨c.val, hc⟩) m (within ⟨c.val, hc⟩) r
  else valueTerm x kv g wq wo dy (headOf ⟨c.val - 1024, by have := c.isLt; omega⟩) m
    (within ⟨c.val - 1024, by have := c.isLt; omega⟩) r

def gainTerm (i : Fin 1024) (r : ι) : EReal := unit x r i * dNormed x kv g wq wo dy r i
def queryTerm (i j : Fin 1024) (r : ι) : EReal := normed x g r i * dQuery x kv g wq wo dy r j
def outTerm (k c : Fin 1024) (r : ι) : EReal := head x kv g wq (headOf k) r (within k) * dy r c

/-- The mean square's share of a row's gradient. -/
def spread (r : ι) : EReal :=
  Ideal.div ((∑ i, x r i * (dNormed x kv g wq wo dy r i * g i)) * (half * Ideal.div (root x r) (square x r))) width

/-- The rows' gradient. -/
def dRow (r : ι) (d : Fin 1024) : EReal :=
  dy r d + dNormed x kv g wq wo dy r d * g d * root x r + x r d * spread x kv g wq wo dy r + spread x kv g wq wo dy r * x r d

/-! ## Finiteness -/

variable (hv : ∀ m h d, IsReal (kv m (vcol h d))) (hwo : ∀ i j, IsReal (wo i j)) (hdy : ∀ r d, IsReal (dy r d))

include hv hwo hdy in
theorem dSoft_real (h : Fin 4) (r : ι) (m : Fin 256) : IsReal (dSoft kv wo dy h r m) :=
  IsReal.sum fun d => (IsReal.sum fun c => (hdy r c).mul (hwo _ c)).mul (hv m h d)

end Grads

end Cert.Cross
-- ==== Proof.CrossBody.lean ====
/-
  The body of the cross-attention's backward call (program 10) as functions of the six blocks it loads: each step is
  the same for the four heads, and the five tiles it stores put the heads' parts together.
-/
module

public import proofs.«01_k».proof.Proof.CrossMath
public import proofs.«01_k».proof.Proof.Gen.Kernel10Ideal.Skeleton

@[expose] public section

set_option maxRecDepth 16384

noncomputable section

open Idealize.ShloMosaic

namespace Cert.Cross.Body

open Cert.Kernel10Ideal Cert.Kernel10Ideal.Gen
open Cert.Attend.Body (at_query at_key at_value)

abbrev Sq := FVec Ideal S256x256 .f32
abbrev Col := FVec Ideal S256x1 .f32

/-! ## Products of square arrays -/

def byRows (a b : Sq) : Sq :=
  matmul dot_S256x256_S256x256_S256x256_1_1_0_0_n_n none (truncf .bf16 a bitsLt_bf16_f32) (truncf .bf16 b bitsLt_bf16_f32)
    (constant S256x256 .f32 0x00000000#32)
def byRowCol (a b : Sq) : Sq :=
  matmul dot_S256x256_S256x256_S256x256_1_0_0_1_n_n none (truncf .bf16 a bitsLt_bf16_f32) (truncf .bf16 b bitsLt_bf16_f32)
    (constant S256x256 .f32 0x00000000#32)
def byCols (a b : Sq) : Sq :=
  matmul dot_S256x256_S256x256_S256x256_0_0_1_1_n_n none (truncf .bf16 a bitsLt_bf16_f32) (truncf .bf16 b bitsLt_bf16_f32)
    (constant S256x256 .f32 0x00000000#32)

/-! ## One head -/

section Head
variable (x : Vec Ideal S256x1024 .f32) (kv : Vec Ideal S256x2048 .f32) (g : Vec Ideal S1x1024 .f32)
  (wq wo : Vec Ideal S1024x1024 .bf16) (dy : Vec Ideal S256x1024 .f32)

def queryOf (h : Fin 4) : Sq := extractStridedSlice S256x256 ![0, h.val * 256] (k0_pay7 x g wq) (at_query h)
def keyOf (h : Fin 4) : Sq := extractStridedSlice S256x256 ![0, h.val * 256] kv (at_key h)
def valueOf (h : Fin 4) : Sq := extractStridedSlice S256x256 ![0, 1024 + h.val * 256] kv (at_value h)
def upOf (h : Fin 4) : Sq := extractStridedSlice S256x256 ![0, h.val * 256] (k0_pay57 wo dy) (at_query h)

def scoreOf (h : Fin 4) : Sq :=
  mulf (byRows (queryOf x g wq h) (keyOf kv h)) (broadcast S256x256 (Scalar.ofBits .f32 0x3D800000#32 : Ideal .f32))

/-- The exponentials of the scores less their greatest. -/
def expOf (h : Fin 4) : Sq := k0_pay23 (scoreOf x kv g wq h)
def softOf (h : Fin 4) : Sq := k0_pay38 (expOf x kv g wq h)
def headOut (h : Fin 4) : Sq := byRowCol (softOf x kv g wq h) (valueOf kv h)

/-- The gradient of the softmax's weights. -/
def dSoftOf (h : Fin 4) : Sq := byRows (upOf wo dy h) (valueOf kv h)

/-- The gradient of an exponential over the exponential, before the correction. -/
def innerOf (h : Fin 4) : Sq :=
  k0_pay71 (expOf x kv g wq h) (k0_pay37 (expOf x kv g wq h)) (k0_pay39 (expOf x kv g wq h)) (dSoftOf kv wo dy h)

/-- The gradient of the scores less their greatest, corrected at the greatest ones. -/
def dExpOf (h : Fin 4) : Sq :=
  k0_pay75 (k0_pay21 (scoreOf x kv g wq h)) (k0_pay22 (scoreOf x kv g wq h)) (expOf x kv g wq h) (innerOf x kv g wq wo dy h)

def dScoreOf (h : Fin 4) : Sq := k0_pay81 (dExpOf x kv g wq wo dy h)

/-! ## The tiles -/

/-- The heads' gradients of the queries, all but the first two heads'. -/
def lastTwo : FVec Ideal S256x1024 .f32 :=
  k0_pay84 (keyOf kv 2) (keyOf kv 3) (dExpOf x kv g wq wo dy 3) (dExpOf x kv g wq wo dy 2)

abbrev first : FVec Ideal S256x256 .bf16 := k0_pay86 (dExpOf x kv g wq wo dy 1)
abbrev zeros : Sq := constant S256x256 .f32 0x00000000#32

/-- The gradient of the queries; of the normed rows; of the rows over the root of their mean square. -/
def dQueryTile : FVec Ideal S256x1024 .f32 :=
  k0_pay90 (keyOf kv 0) (dExpOf x kv g wq wo dy 0) (lastTwo x kv g wq wo dy) (first x kv g wq wo dy) (k0_pay87 (keyOf kv 1)) zeros
def dNormedTile : FVec Ideal S256x1024 .f32 :=
  k0_pay91 wq (keyOf kv 0) (dExpOf x kv g wq wo dy 0) (lastTwo x kv g wq wo dy) (first x kv g wq wo dy) (k0_pay87 (keyOf kv 1)) zeros
def throughTile : FVec Ideal S256x1024 .f32 :=
  k0_pay94 g wq (keyOf kv 0) (dExpOf x kv g wq wo dy 0) (lastTwo x kv g wq wo dy) (first x kv g wq wo dy) (k0_pay87 (keyOf kv 1)) zeros
def spreadTile : Col :=
  k0_pay96 x g wq (k0_pay4 x) (keyOf kv 0) (dExpOf x kv g wq wo dy 0) (lastTwo x kv g wq wo dy) (first x kv g wq wo dy)
    (k0_pay87 (keyOf kv 1)) zeros

/-- What the body stores in its five outputs. -/
def rowTile : FVec Ideal S256x1024 .f32 :=
  k0_pay97 x (k0_pay95 g wq dy (k0_pay3 x) (keyOf kv 0) (dExpOf x kv g wq wo dy 0) (lastTwo x kv g wq wo dy) (first x kv g wq wo dy)
    (k0_pay87 (keyOf kv 1)) zeros) (spreadTile x kv g wq wo dy)

/-- The values' part of the memory's gradient, and all of it. -/
def valuesTile : FVec Ideal S256x2048 .f32 :=
  k0_pay70 (softOf x kv g wq 0) (upOf wo dy 0) (k0_pay66 wo dy (softOf x kv g wq 1) (softOf x kv g wq 2) (softOf x kv g wq 3))
def memoryTile : FVec Ideal S256x2048 .f32 :=
  k0_pay89 (queryOf x g wq 0) (queryOf x g wq 1) (dExpOf x kv g wq wo dy 0)
    (k0_pay83 (queryOf x g wq 2) (queryOf x g wq 3) (valuesTile x kv g wq wo dy) (dExpOf x kv g wq wo dy 3) (dExpOf x kv g wq wo dy 2))
    (k0_pay85 (dExpOf x kv g wq wo dy 1))

def gainTile : FVec Ideal S1x1024 .f32 :=
  k0_pay93 wq (k0_pay5 x) (keyOf kv 0) (dExpOf x kv g wq wo dy 0) (lastTwo x kv g wq wo dy) (first x kv g wq wo dy)
    (k0_pay87 (keyOf kv 1)) zeros
def queryTile : FVec Ideal S1024x1024 .f32 :=
  k0_pay92 (k0_pay6 x g) (keyOf kv 0) (dExpOf x kv g wq wo dy 0) (lastTwo x kv g wq wo dy) (first x kv g wq wo dy)
    (k0_pay87 (keyOf kv 1)) zeros
def outTile : FVec Ideal S1024x1024 .f32 :=
  k0_pay58 kv dy (softOf x kv g wq 3) (headOut x kv g wq 0) (headOut x kv g wq 1) (headOut x kv g wq 2)

end Head

end Cert.Cross.Body
-- ==== Proof.CrossLeaves.lean ====
/-
  What one grid point of the cross-attention's backward call leaves in its five output buffers. The first point stores
  its tiles; a later point adds its tiles of the memory's, gains' and weights' gradients to what the buffers hold.
-/
module

public import proofs.«01_k».proof.Proof.CrossBody
public import proofs.«01_k».proof.Proof.Opened
public import proofs.«01_k».proof.Proof.Gen.Kernel10Ideal.Frame

@[expose] public section

set_option maxRecDepth 16384
set_option maxHeartbeats 2000000

noncomputable section

open Idealize.ShloMosaic Idealize.ShloMosaic.TcCoe Idealize.SL.Sem

namespace Cert.Cross.Leaves

open Cert.Kernel10Ideal Cert.Kernel10Ideal.Gen Cert.Cross.Body
open Cert.KernelIdeal.Value (hz2)

variable (m : (ℓ : Loc nD τ sig) → Buf (Elt Ideal) ℓ)

theorem lt_N (t : Fin cfg0.N) : t.val < 16 := lt_of_lt_of_eq t.isLt N_0

/-- The point's tiles. -/
abbrev rowsAt (c : Dev nD) (t : Fin cfg0.N) : FVec Ideal S256x1024 .f32 :=
  rowTile (iblk m c 0 t) (iblk m c 1 t) (iblk m c 2 t) (iblk m c 3 t) (iblk m c 4 t) (iblk m c 5 t)
abbrev memoryAt (c : Dev nD) (t : Fin cfg0.N) : FVec Ideal S256x2048 .f32 :=
  memoryTile (iblk m c 0 t) (iblk m c 1 t) (iblk m c 2 t) (iblk m c 3 t) (iblk m c 4 t) (iblk m c 5 t)
abbrev gainAt (c : Dev nD) (t : Fin cfg0.N) : FVec Ideal S1x1024 .f32 :=
  gainTile (iblk m c 0 t) (iblk m c 1 t) (iblk m c 2 t) (iblk m c 3 t) (iblk m c 4 t) (iblk m c 5 t)
abbrev queryAt (c : Dev nD) (t : Fin cfg0.N) : FVec Ideal S1024x1024 .f32 :=
  queryTile (iblk m c 0 t) (iblk m c 1 t) (iblk m c 2 t) (iblk m c 3 t) (iblk m c 4 t) (iblk m c 5 t)
abbrev outAt (c : Dev nD) (t : Fin cfg0.N) : FVec Ideal S1024x1024 .f32 :=
  outTile (iblk m c 0 t) (iblk m c 1 t) (iblk m c 2 t) (iblk m c 3 t) (iblk m c 5 t)

theorem outs_first (c : Dev nD) (t : Fin cfg0.N) (h : t.val = 0) :
    outsAt0 m c t.val t.isLt = (rowsAt m c t, memoryAt m c t, gainAt m c t, queryAt m c t, outAt m c t) := by
  rw [outsAt0_A m c t (by omega) (by omega) (by omega) (by omega) (by omega) (by omega) (by omega) (by omega)]
  refine congrArg₂ Prod.mk ((View.read_writes_eq_canon _ _ _ fun y => cover0_A_6 _ _ _ _ _ _ _ _ _ _ _ _ _ _ _ _ _ _ _ _ _ _ _ _ _ _ _ _ _ _ _ _ _ _ _ _ _ _ y).trans ?_)
    (congrArg₂ Prod.mk ((View.read_writes_eq_canon _ _ _ fun y => cover0_A_7 _ _ _ _ _ _ _ _ _ _ _ _ _ _ _ _ _ _ _ _ _ _ _ _ _ _ _ _ _ _ _ _ _ _ _ _ _ _ y).trans ?_)
    (congrArg₂ Prod.mk ((View.read_writes_eq_canon _ _ _ fun y => cover0_A_8 _ _ _ _ _ _ _ _ _ _ _ _ _ _ _ _ _ _ _ _ _ _ _ _ _ _ _ _ _ _ _ _ _ _ _ _ _ _ y).trans ?_)
    (congrArg₂ Prod.mk ((View.read_writes_eq_canon _ _ _ fun y => cover0_A_9 _ _ _ _ _ _ _ _ _ _ _ _ _ _ _ _ _ _ _ _ _ _ _ _ _ _ _ _ _ _ _ _ _ _ _ _ _ _ y).trans ?_)
    ((View.read_writes_eq_canon _ _ _ fun y => cover0_A_10 _ _ _ _ _ _ _ _ _ _ _ _ _ _ _ _ _ _ _ _ _ _ _ _ _ _ _ _ _ _ _ _ _ _ _ _ _ _ y).trans ?_))))
  all_goals
    unfold kernelRun0_A
    dsimp only
    sl_unfold_words
    simp only [View.canon_unit_zero (S := S256x1024) hz2, View.canon_unit_zero (S := S256x2048) hz2, View.canon_unit_zero (S := S1x1024) hz2,
      View.canon_unit_zero (S := S1024x1024) hz2, View.readAt_eq_ld, (hs0_0 t).read_unread, (hs0_1 t).read_unread,
      (hs0_2 t).read_unread, (hs0_3 t).read_unread, (hs0_4 t).read_unread, (hs0_5 t).read_unread,
      View.ld_unit_zero (S := S256x1024) hz2, View.ld_unit_zero (S := S256x2048) hz2, View.ld_unit_zero (S := S1x1024) hz2,
      View.ld_unit_zero (S := S1024x1024) hz2]
    rfl

theorem outs_later (c : Dev nD) (t : Fin cfg0.N) (h : t.val ≠ 0) :
    outsAt0 m c t.val t.isLt = (rowsAt m c t,
      k0_pay98 (memoryAt m c t) (outsAt0 m c (t.val - 1) (Nat.lt_of_le_of_lt (Nat.sub_le _ _) t.isLt)).2.1,
      k0_pay99 (gainAt m c t) (outsAt0 m c (t.val - 1) (Nat.lt_of_le_of_lt (Nat.sub_le _ _) t.isLt)).2.2.1,
      k0_pay100 (queryAt m c t) (outsAt0 m c (t.val - 1) (Nat.lt_of_le_of_lt (Nat.sub_le _ _) t.isLt)).2.2.2.1,
      k0_pay1 (outAt m c t) (outsAt0 m c (t.val - 1) (Nat.lt_of_le_of_lt (Nat.sub_le _ _) t.isLt)).2.2.2.2) := by
  have hN := lt_N t
  rw [outsAt0_B m c t (by omega) (by omega) (by omega) (by omega) (by omega) (by omega) (by omega) (by omega)]
  refine congrArg₂ Prod.mk ((View.read_writes_eq_canon _ _ _ fun y => cover0_B_6 _ _ _ _ _ _ _ _ _ _ _ _ _ _ _ _ _ _ _ _ _ _ _ _ _ _ _ _ _ _ _ _ _ _ _ _ _ _ _ _ _ _ y).trans ?_)
    (congrArg₂ Prod.mk ((View.read_writes_eq_canon _ _ _ fun y => cover0_B_7 _ _ _ _ _ _ _ _ _ _ _ _ _ _ _ _ _ _ _ _ _ _ _ _ _ _ _ _ _ _ _ _ _ _ _ _ _ _ _ _ _ _ y).trans ?_)
    (congrArg₂ Prod.mk ((View.read_writes_eq_canon _ _ _ fun y => cover0_B_8 _ _ _ _ _ _ _ _ _ _ _ _ _ _ _ _ _ _ _ _ _ _ _ _ _ _ _ _ _ _ _ _ _ _ _ _ _ _ _ _ _ _ y).trans ?_)
    (congrArg₂ Prod.mk ((View.read_writes_eq_canon _ _ _ fun y => cover0_B_9 _ _ _ _ _ _ _ _ _ _ _ _ _ _ _ _ _ _ _ _ _ _ _ _ _ _ _ _ _ _ _ _ _ _ _ _ _ _ _ _ _ _ y).trans ?_)
    ((View.read_writes_eq_canon _ _ _ fun y => cover0_B_10 _ _ _ _ _ _ _ _ _ _ _ _ _ _ _ _ _ _ _ _ _ _ _ _ _ _ _ _ _ _ _ _ _ _ _ _ _ _ _ _ _ _ y).trans ?_))))
  all_goals
    unfold kernelRun0_B
    dsimp only
    sl_unfold_words
    simp only [View.canon_unit_zero (S := S256x1024) hz2, View.canon_unit_zero (S := S256x2048) hz2, View.canon_unit_zero (S := S1x1024) hz2,
      View.canon_unit_zero (S := S1024x1024) hz2, View.readAt_eq_ld, (hs0_0 t).read_unread, (hs0_1 t).read_unread,
      (hs0_2 t).read_unread, (hs0_3 t).read_unread, (hs0_4 t).read_unread, (hs0_5 t).read_unread,
      (hs0_7 t).read_unread, (hs0_8 t).read_unread, (hs0_9 t).read_unread, (hs0_10 t).read_unread,
      View.ld_unit_zero (S := S256x1024) hz2, View.ld_unit_zero (S := S256x2048) hz2, View.ld_unit_zero (S := S1x1024) hz2,
      View.ld_unit_zero (S := S1024x1024) hz2]
    rfl

end Cert.Cross.Leaves
-- ==== Proof.CrossSteps.lean ====
/-
  The steps of the cross-attention's backward body (program 10), each read at an entry: the softmax and its gradient
  over any square of scores, then the same over one head's blocks.
-/
module

public import proofs.«01_k».proof.Proof.CrossBody
public import proofs.«01_k».proof.Proof.Products
public import proofs.«01_k».proof.Proof.Padded

@[expose] public section

set_option maxRecDepth 16384

noncomputable section

open Idealize.ShloMosaic Idealize.ShloMosaic.ValueIdx
open scoped BigOperators

namespace Cert.Cross.Body

open Cert.Kernel10Ideal Cert.Kernel10Ideal.Gen Cert.Attend Cert.Products
open Cert.Attend.Body (at_query at_key at_value row_along row_sum row_max cut gain)
open Cert.KernelIdeal.Value (ofBits_zero)

/-! ## Columns of one number per row -/

theorem col_along (u : Col) {t : ℕ} (h : S256x1.Broadcasts ⟨2, ![256, t]⟩) (r : Fin 256) (c : Fin t) :
    broadcastTo ⟨2, ![256, t]⟩ u h (ix2 r c) = u (ix2 r 0) := by
  refine broadcastTo_apply _ h (ix2 r c) (ix2 r 0) fun a => ?_
  match a with
  | ⟨0, _⟩ => rfl
  | ⟨1, _⟩ => rfl

theorem col_cast (u : FVec Ideal S256 .f32) (h : S256.ShapeCasts S256x1) (r : Fin 256) : shapeCast S256x1 u h (ix2 r 0) = u (ix1 r) :=
  shapeCast_a_a1_apply u h r 0

theorem thin_sum (u : Col) (h : S256x1.Reduces [1] S256) (h1 : FKind.Formats .f32)
    (h2 : (0x00000000#32 : BitVec 32) = FKind.add.neutral .f32 h1) (r : Fin 256) :
    multiReduction .add [1] S256 u 0x00000000#32 h h1 h2 (ix1 r) = u (ix2 r 0) :=
  (row_sum u h h1 h2 r).trans (Fin.sum_univ_one _)

/-! ## The softmax's steps -/

section Steps
variable (s e d b k : Sq) (t i : Col) (n : FVec Ideal S256 .f32) (r m : Fin 256)

abbrev rowOf : Fin 256 → EReal := fun q => s (ix2 r q)

theorem peak_step : k0_pay20 s (ix1 r) = peak (rowOf s r) := row_max s _ (.inl rfl) rfl r

theorem expo_step : k0_pay23 s (ix2 r m) = expo (rowOf s r) m :=
  congrArg (fun a : EReal => Ideal.exp (s (ix2 r m) - a)) ((row_along _ _ _ r m).trans (peak_step s r))

/-- A score compared with the row's greatest, as a number. -/
theorem tie_step : k0_pay21 s (ix2 r m) = tie (rowOf s r) m := by
  have h1 : broadcastTo S256x256 (shapeCast S256x1 (k0_pay20 s) shapeCasts_S256_S256x1) broadcasts_S256x1_S256x256 (ix2 r m)
      = peak (rowOf s r) := (row_along _ _ _ r m).trans (peak_step s r)
  have h2 : k0_pay21 s (ix2 r m) = (((((Ideal.cmp .oeq (s (ix2 r m)) (broadcastTo S256x256
      (shapeCast S256x1 (k0_pay20 s) shapeCasts_S256_S256x1) broadcasts_S256x1_S256x256 (ix2 r m))).setWidth 32).toInt : ℤ) : ℝ) : EReal) := rfl
  rw [h2, h1]
  show (((((BitVec.ofBool (decide (s (ix2 r m) = peak (rowOf s r)))).setWidth 32).toInt : ℤ) : ℝ) : EReal)
    = if s (ix2 r m) = peak (rowOf s r) then 1 else 0
  by_cases h : s (ix2 r m) = peak (rowOf s r)
  · rw [if_pos h, decide_eq_true h, show ((BitVec.ofBool true).setWidth 32).toInt = 1 by decide]
    simp
  · rw [if_neg h, decide_eq_false h, show ((BitVec.ofBool false).setWidth 32).toInt = 0 by decide]
    simp

theorem count_step : k0_pay22 s (ix1 r) = ∑ q, tie (rowOf s r) q :=
  (row_sum (k0_pay21 s) _ (.inl rfl) rfl r).trans (Finset.sum_congr rfl fun q _ => tie_step s r q)

theorem total_step : k0_pay37 e (ix2 r 0) = ∑ q, e (ix2 r q) := (col_cast _ _ r).trans (row_sum _ _ _ _ r)

theorem weight_step : k0_pay38 e (ix2 r m) = Ideal.div (e (ix2 r m)) (∑ q, e (ix2 r q)) :=
  congrArg (Ideal.div (e (ix2 r m))) ((col_along _ _ r m).trans (total_step e r))

theorem inverse_step : k0_pay39 e (ix2 r 0) = Ideal.div 1 ((∑ q, e (ix2 r q)) * ∑ q, e (ix2 r q)) :=
  congrArg₂ Ideal.div one_f32 (congrArg₂ (fun a b : EReal => a * b) (total_step e r) (total_step e r))

theorem inner_step : k0_pay71 e t i d (ix2 r m)
    = Ideal.div (d (ix2 r m)) (t (ix2 r 0)) + -∑ q, d (ix2 r q) * i (ix2 r 0) * e (ix2 r q) := by
  refine congrArg₂ (fun a b : EReal => a + b) (congrArg (Ideal.div (d (ix2 r m))) (col_along t _ r m))
    ((row_along _ _ _ r m).trans ((thin_sum _ _ _ _ r).trans ?_))
  refine (congrArg₂ (fun a b : EReal => a - b) ofBits_zero ((col_cast _ _ r).trans ((row_sum _ _ _ _ r).trans
    (Finset.sum_congr rfl fun q _ => ?_)))).trans (zero_sub _)
  exact congrArg (fun a : EReal => d (ix2 r q) * a * e (ix2 r q)) (col_along i _ r q)

theorem corrected_step : k0_pay75 k n e b (ix2 r m)
    = b (ix2 r m) * e (ix2 r m) + Ideal.div (∑ q, (0 - b (ix2 r q) * e (ix2 r q))) (n (ix1 r)) * k (ix2 r m) :=
  congrArg (fun a : EReal => b (ix2 r m) * e (ix2 r m) + a * k (ix2 r m)) ((row_along _ _ _ r m).trans
    (congrArg (fun a : EReal => Ideal.div a (n (ix1 r))) ((thin_sum _ _ _ _ r).trans ((col_cast _ _ r).trans
      ((row_sum _ _ _ _ r).trans (Finset.sum_congr rfl fun q _ =>
        congrArg (fun a : EReal => a - b (ix2 r q) * e (ix2 r q)) ofBits_zero))))))

end Steps

/-! ## One head -/

section Head
variable (x : Vec Ideal S256x1024 .f32) (kv : Vec Ideal S256x2048 .f32) (g : Vec Ideal S1x1024 .f32)
  (wq wo : Vec Ideal S1024x1024 .bf16) (dy : Vec Ideal S256x1024 .f32)

theorem square_at (r : Fin 256) : k0_pay2 x (ix2 r 0) = square (entries x) r :=
  congrArg (fun a : EReal => Ideal.div a width + eps) ((col_cast _ _ r).trans (row_sum (mulf (φ := .f32) x x) _ _ _ r))

theorem root_at (r : Fin 256) : k0_pay3 x (ix2 r 0) = root (entries x) r := congrArg Ideal.rsqrt (square_at x r)

theorem half_at (r : Fin 256) : k0_pay4 x (ix2 r 0) = half * Ideal.div (root (entries x) r) (square (entries x) r) :=
  congrArg₂ (fun a b : EReal => half * Ideal.div a b) (root_at x r) (square_at x r)

theorem unit_at (r : Fin 256) (d : Fin 1024) : k0_pay5 x (ix2 r d) = unit (entries x) r d :=
  congrArg (fun a : EReal => x (ix2 r d) * a) ((col_along _ _ r d).trans (root_at x r))

theorem normed_at (r : Fin 256) (d : Fin 1024) : k0_pay6 x g (ix2 r d) = normed (entries x) (gain g) r d :=
  congrArg₂ (fun a b : EReal => a * b) (unit_at x r d) (broadcastTo_1b_ab_apply g _ r d)

theorem query_all (r : Fin 256) (c : Fin 1024) : k0_pay7 x g wq (ix2 r c) = query (entries x) (gain g) (entries wq) r c :=
  (rows_cols (φ₂ := .bf16) _ _ _ r c).trans (Finset.sum_congr rfl fun k _ =>
    congrArg (fun a : EReal => a * wq (ix2 k c)) (normed_at x g r k))

variable (h : Fin 4) (r m d : Fin 256)

theorem query_at : queryOf x g wq h (ix2 r d) = query (entries x) (gain g) (entries wq) r (hcol h d) :=
  (cut _ _ _ r d (hcol h d) rfl).trans (query_all x g wq r _)

theorem key_at : keyOf kv h (ix2 m d) = entries kv m (kcol h d) := cut kv _ _ m d (kcol h d) rfl

theorem value_at : valueOf kv h (ix2 m d) = entries kv m (vcol h d) :=
  cut kv _ _ m d (vcol h d) (by show 1024 + (h.val * 256 + d.val) = 1024 + h.val * 256 + d.val; omega)

theorem score_at : scoreOf x kv g wq h (ix2 r m) = score (entries x) (entries kv) (gain g) (entries wq) h r m :=
  congrArg (fun a : EReal => a * scale) ((rows_rows _ _ _ r m).trans (Finset.sum_congr rfl fun d _ =>
    congrArg₂ (fun a b : EReal => a * b) (query_at x g wq h r d) (key_at kv h m d)))

theorem score_row : rowOf (scoreOf x kv g wq h) r = score (entries x) (entries kv) (gain g) (entries wq) h r :=
  funext fun q => score_at x kv g wq h r q

theorem expo_at : expOf x kv g wq h (ix2 r m) = expo (score (entries x) (entries kv) (gain g) (entries wq) h r) m :=
  (expo_step _ r m).trans (congrArg (fun f => expo f m) (score_row x kv g wq h r))

theorem total_at : ∑ q, expOf x kv g wq h (ix2 r q) = total (score (entries x) (entries kv) (gain g) (entries wq) h r) :=
  Finset.sum_congr rfl fun q _ => expo_at x kv g wq h r q

theorem soft_at : softOf x kv g wq h (ix2 r m) = soft (score (entries x) (entries kv) (gain g) (entries wq) h r) m :=
  (weight_step _ r m).trans (congrArg₂ Ideal.div (expo_at x kv g wq h r m) (total_at x kv g wq h r))

theorem head_at : headOut x kv g wq h (ix2 r d) = head (entries x) (entries kv) (gain g) (entries wq) h r d :=
  (rows_cols _ _ _ r d).trans (Finset.sum_congr rfl fun m _ =>
    congrArg₂ (fun a b : EReal => a * b) (soft_at x kv g wq h r m) (value_at kv h m d))

theorem dHead_all (k : Fin 1024) : k0_pay57 wo dy (ix2 r k) = dHead (entries wo) (entries dy) r k :=
  (rows_rows (φ₂ := .bf16) _ _ _ r k).trans (Finset.sum_congr rfl fun c _ =>
    congrArg (fun a : EReal => a * wo (ix2 k c)) (congrFun (shapeCast_self dy _) (ix2 r c)))

theorem up_at : upOf wo dy h (ix2 r d) = dHead (entries wo) (entries dy) r (hcol h d) :=
  (cut _ _ _ r d (hcol h d) rfl).trans (dHead_all wo dy r _)

theorem dSoft_at : dSoftOf kv wo dy h (ix2 r m) = dSoft (entries kv) (entries wo) (entries dy) h r m :=
  (rows_rows _ _ _ r m).trans (Finset.sum_congr rfl fun d _ =>
    congrArg₂ (fun a b : EReal => a * b) (up_at wo dy h r d) (value_at kv h m d))

theorem inner_at : innerOf x kv g wq wo dy h (ix2 r m) * expOf x kv g wq h (ix2 r m)
    = back (score (entries x) (entries kv) (gain g) (entries wq) h r) (dSoft (entries kv) (entries wo) (entries dy) h r) m := by
  unfold innerOf
  rw [inner_step, total_step, inverse_step, total_at]
  simp only [dSoft_at, expo_at]
  rfl

/-- Finite values, output weights and incoming gradients. -/
structure Finite : Prop where
  values : ∀ m h d, IsReal (entries kv m (vcol h d))
  outs : ∀ i j, IsReal (entries wo i j)
  grads : ∀ r d, IsReal (entries dy r d)

variable (F : Finite kv wo dy)

include F in
theorem dExp_at : dExpOf x kv g wq wo dy h (ix2 r m)
    = back (score (entries x) (entries kv) (gain g) (entries wq) h r) (dSoft (entries kv) (entries wo) (entries dy) h r) m := by
  unfold dExpOf
  rw [corrected_step, count_step, tie_step, score_row]
  simp only [inner_at]
  exact corrected _ _ (fun q => dSoft_real _ _ _ F.values F.outs F.grads h r q) m

include F in
theorem dScore_at : dScoreOf x kv g wq wo dy h (ix2 r m)
    = dScore (entries x) (entries kv) (gain g) (entries wq) (entries wo) (entries dy) h r m :=
  congrArg (fun a : EReal => a * scale) (dExp_at x kv g wq wo dy h r m F)

end Head

end Cert.Cross.Body
-- ==== Proof.CrossTile.lean ====
/-
  The five tiles that the cross-attention's backward body stores (program 10), read at an entry. The body sets the
  heads' 256-column parts side by side by adding arrays padded with zeros.
-/
module

public import proofs.«01_k».proof.Proof.CrossSteps

@[expose] public section

set_option maxRecDepth 16384

noncomputable section

open Idealize.ShloMosaic Idealize.ShloMosaic.ValueIdx
open scoped BigOperators

namespace Cert.Cross.Body

open Cert.Kernel10Ideal Cert.Kernel10Ideal.Gen Cert.Attend Cert.Products Cert.Padded
open Cert.Attend.Body (row_along row_sum joined gain)
open Cert.KernelIdeal.Value (ofBits_zero)

/-! ## Padded parts -/

/-- 256 columns at place `n`, zero elsewhere. -/
def piece (n : ℕ) (v : Sq) (r : Fin 256) (c : ℕ) : EReal :=
  if c / 256 = n then v (ix2 r ⟨c % 256, Nat.mod_lt _ (by decide)⟩) else 0

theorem lead {A T : ℕ} (v : Sq) (h : Shape.Concatenates [⟨2, ![256, A]⟩, S256x256] ⟨2, ![256, T]⟩ 1) (n : ℕ) (hA : A = n * 256)
    (hT : T = A + 256) (r : Fin 256) (c : Fin T) :
    concatenate ⟨2, ![256, T]⟩ 1 [⟨⟨2, ![256, A]⟩, broadcast ⟨2, ![256, A]⟩ (Scalar.ofBits .f32 0x00000000#32 : Ideal .f32)⟩,
      ⟨S256x256, v⟩] h (ix2 r c) = piece n v r c.val := by
  have hc := c.isLt
  refine (cols_lead (A := A) (B := 256) _ v h hT r c).trans ?_
  unfold piece
  by_cases hl : A ≤ c.val
  · rw [dif_pos hl, if_pos (by omega)]
    exact congrArg (fun e => v (ix2 r e)) (Fin.ext (by show c.val - A = c.val % 256; omega))
  · rw [dif_neg hl, if_neg (by omega)]
    exact ofBits_zero

theorem middle {A P B T : ℕ} (v : Sq) (h' : Shape.Concatenates [⟨2, ![256, A]⟩, S256x256] ⟨2, ![256, P]⟩ 1)
    (h : Shape.Concatenates [⟨2, ![256, P]⟩, ⟨2, ![256, B]⟩] ⟨2, ![256, T]⟩ 1) (n : ℕ) (hA : A = n * 256)
    (hP : P = A + 256) (hT : T = P + B) (r : Fin 256) (c : Fin T) :
    concatenate ⟨2, ![256, T]⟩ 1 [⟨⟨2, ![256, P]⟩, concatenate ⟨2, ![256, P]⟩ 1 [⟨⟨2, ![256, A]⟩,
        broadcast ⟨2, ![256, A]⟩ (Scalar.ofBits .f32 0x00000000#32 : Ideal .f32)⟩, ⟨S256x256, v⟩] h'⟩,
      ⟨⟨2, ![256, B]⟩, broadcast ⟨2, ![256, B]⟩ (Scalar.ofBits .f32 0x00000000#32 : Ideal .f32)⟩] h (ix2 r c) = piece n v r c.val := by
  have hc := c.isLt
  refine (cols_trail (A := P) (B := B) _ _ h hT r c).trans ?_
  by_cases hl : c.val < P
  · rw [dif_pos hl]
    exact lead v h' n hA hP r ⟨c.val, hl⟩
  · rw [dif_neg hl]
    unfold piece
    rw [if_neg (by omega)]
    exact ofBits_zero

theorem trail {B T : ℕ} (v : Sq) (h : Shape.Concatenates [S256x256, ⟨2, ![256, B]⟩] ⟨2, ![256, T]⟩ 1) (hT : T = 256 + B)
    (r : Fin 256) (c : Fin T) :
    concatenate ⟨2, ![256, T]⟩ 1 [⟨S256x256, v⟩,
      ⟨⟨2, ![256, B]⟩, broadcast ⟨2, ![256, B]⟩ (Scalar.ofBits .f32 0x00000000#32 : Ideal .f32)⟩] h (ix2 r c) = piece 0 v r c.val := by
  have hc := c.isLt
  refine (cols_trail (A := 256) (B := B) _ v h hT r c).trans ?_
  unfold piece
  by_cases hl : c.val < 256
  · rw [dif_pos hl, if_pos (by omega)]
    exact congrArg (fun e => v (ix2 r e)) (Fin.ext (by show c.val = c.val % 256; omega))
  · rw [dif_neg hl, if_neg (by omega)]
    exact ofBits_zero

/-- Four parts fill 1024 columns. -/
theorem four (u : Fin 4 → Sq) (r : Fin 256) (c : Fin 1024) :
    piece 3 (u 3) r c.val + piece 2 (u 2) r c.val + piece 1 (u 1) r c.val + piece 0 (u 0) r c.val = u (headOf c) (ix2 r (within c)) := by
  have hc := c.isLt
  obtain ⟨q, hq⟩ : ∃ q, c.val / 256 = q := ⟨_, rfl⟩
  have hh : headOf c = ⟨q, by omega⟩ := Fin.ext hq
  rw [hh]
  unfold piece
  simp only [hq]
  obtain rfl | rfl | rfl | rfl : q = 0 ∨ q = 1 ∨ q = 2 ∨ q = 3 := by omega
  all_goals
    simp
    try rfl

/-- Eight parts fill 2048 columns. -/
theorem eight (k v : Fin 4 → Sq) (m : Fin 256) (c : Fin 2048) :
    piece 7 (v 3) m c.val + piece 6 (v 2) m c.val + piece 5 (v 1) m c.val + piece 4 (v 0) m c.val + piece 3 (k 3) m c.val
      + piece 2 (k 2) m c.val + piece 1 (k 1) m c.val + piece 0 (k 0) m c.val
      = if hc : c.val < 1024 then k (headOf ⟨c.val, hc⟩) (ix2 m (within ⟨c.val, hc⟩))
        else v (headOf ⟨c.val - 1024, by have := c.isLt; omega⟩) (ix2 m (within ⟨c.val - 1024, by have := c.isLt; omega⟩)) := by
  have hc := c.isLt
  obtain ⟨q, hq⟩ : ∃ q, c.val / 256 = q := ⟨_, rfl⟩
  unfold piece
  simp only [hq]
  by_cases hl : c.val < 1024
  · have hh : headOf ⟨c.val, hl⟩ = ⟨q, by omega⟩ := Fin.ext hq
    rw [dif_pos hl, hh]
    obtain rfl | rfl | rfl | rfl : q = 0 ∨ q = 1 ∨ q = 2 ∨ q = 3 := by omega
    all_goals
      simp
      try rfl
  · have hh : headOf ⟨c.val - 1024, by omega⟩ = ⟨q - 4, by omega⟩ := Fin.ext (by show (c.val - 1024) / 256 = q - 4; omega)
    have hw : within ⟨c.val - 1024, by omega⟩ = ⟨c.val % 256, Nat.mod_lt _ (by decide)⟩ :=
      Fin.ext (by show (c.val - 1024) % 256 = c.val % 256; omega)
    rw [dif_neg hl, hh, hw]
    obtain rfl | rfl | rfl | rfl : q = 4 ∨ q = 5 ∨ q = 6 ∨ q = 7 := by omega
    all_goals
      simp
      try rfl

section Sums
variable (wo : Vec Ideal S1024x1024 .bf16) (dy : Vec Ideal S256x1024 .f32) (p0 p1 p2 p3 q0 q1 q2 q3 e0 e1 e2 e3 u0 : Sq) (m : Fin 256)

theorem sum66 (c : Fin 2048) : k0_pay66 wo dy p1 p2 p3 (ix2 m c)
    = piece 7 (byCols p3 (k0_pay62 wo dy)) m c.val + piece 6 (byCols p2 (k0_pay61 wo dy)) m c.val
      + piece 5 (byCols p1 (k0_pay60 wo dy)) m c.val :=
  congrArg₂ (fun a b : EReal => a + b) (congrArg₂ (fun a b : EReal => a + b) (lead (A := 1792) (T := 2048) _ _ 7 rfl rfl m c) (middle (A := 1536) (P := 1792) (B := 256) (T := 2048) _ _ _ 6 rfl rfl rfl m c))
    (middle (A := 1280) (P := 1536) (B := 512) (T := 2048) _ _ _ 5 rfl rfl rfl m c)

theorem sum70 (acc : FVec Ideal S256x2048 .f32) (c : Fin 2048) :
    k0_pay70 p0 u0 acc (ix2 m c) = acc (ix2 m c) + piece 4 (byCols p0 u0) m c.val :=
  congrArg (fun a : EReal => acc (ix2 m c) + a) (middle (A := 1024) (P := 1280) (B := 768) (T := 2048) _ _ _ 4 rfl rfl rfl m c)

theorem sum83 (acc : FVec Ideal S256x2048 .f32) (c : Fin 2048) : k0_pay83 q2 q3 acc e3 e2 (ix2 m c)
    = acc (ix2 m c) + piece 3 (byCols (k0_pay81 e3) q3) m c.val + piece 2 (byCols (k0_pay82 e2) q2) m c.val :=
  congrArg₂ (fun a b : EReal => a + b) (congrArg (fun a : EReal => acc (ix2 m c) + a) (middle (A := 768) (P := 1024) (B := 1024) (T := 2048) _ _ _ 3 rfl rfl rfl m c))
    (middle (A := 512) (P := 768) (B := 1280) (T := 2048) _ _ _ 2 rfl rfl rfl m c)

theorem sum89 (acc : FVec Ideal S256x2048 .f32) (c : Fin 2048) : k0_pay89 q0 q1 e0 acc e1 (ix2 m c)
    = acc (ix2 m c) + piece 1 (byCols e1 q1) m c.val + piece 0 (byCols (k0_pay88 e0) q0) m c.val :=
  congrArg₂ (fun a b : EReal => a + b) (congrArg (fun a : EReal => acc (ix2 m c) + a) (middle (A := 256) (P := 512) (B := 1536) (T := 2048) _ _ _ 1 rfl rfl rfl m c))
    (trail (B := 1792) (T := 2048) _ _ rfl m c)

theorem sum84 (c : Fin 1024) : k0_pay84 q2 q3 e3 e2 (ix2 m c)
    = piece 3 (byRowCol (k0_pay81 e3) q3) m c.val + piece 2 (byRowCol (k0_pay82 e2) q2) m c.val :=
  congrArg₂ (fun a b : EReal => a + b) (lead (A := 768) (T := 1024) _ _ 3 rfl rfl m c) (middle (A := 512) (P := 768) (B := 256) (T := 1024) _ _ _ 2 rfl rfl rfl m c)

theorem sum90 (acc : FVec Ideal S256x1024 .f32) (c : Fin 1024) : k0_pay90 q0 e0 acc (k0_pay86 e1) (k0_pay87 q1) zeros (ix2 m c)
    = acc (ix2 m c) + piece 1 (byRowCol (k0_pay85 e1) q1) m c.val + piece 0 (byRowCol (k0_pay88 e0) q0) m c.val :=
  congrArg₂ (fun a b : EReal => a + b) (congrArg (fun a : EReal => acc (ix2 m c) + a) (middle (A := 256) (P := 512) (B := 512) (T := 1024) _ _ _ 1 rfl rfl rfl m c))
    (trail (B := 768) (T := 1024) _ _ rfl m c)

end Sums

/-- A sum over the rows. -/
theorem column_sum (u : FVec Ideal S256x1024 .f32) (h : S256x1024.Reduces [0] S1024) (h' : S1024.ShapeCasts S1x1024)
    (h1 : FKind.Formats .f32) (h2 : (0x00000000#32 : BitVec 32) = FKind.add.neutral .f32 h1) (i : Fin 1024) :
    shapeCast S1x1024 (multiReduction .add [0] S1024 u 0x00000000#32 h h1 h2) h' (ix2 0 i) = ∑ r : Fin 256, u (ix2 r i) := by
  refine (shapeCast_a_1a_apply _ h' 0 i).trans ((Ideal.multiReduction_add_single u _ h h1 h2 (ix1 i)).trans
    (Finset.sum_congr rfl fun r _ => congrArg u (funext fun a => ?_)))
  match a with
  | ⟨0, _⟩ => rfl
  | ⟨1, _⟩ => rfl

/-! ## The tiles -/

section Tiles
variable (x : Vec Ideal S256x1024 .f32) (kv : Vec Ideal S256x2048 .f32) (g : Vec Ideal S1x1024 .f32)
  (wq wo : Vec Ideal S1024x1024 .bf16) (dy : Vec Ideal S256x1024 .f32)

/-- One head's part of the values' gradient, of the keys' and of the queries'. -/
def valuePart (h : Fin 4) : Sq := byCols (softOf x kv g wq h) (upOf wo dy h)
def keyPart (h : Fin 4) : Sq := byCols (dScoreOf x kv g wq wo dy h) (queryOf x g wq h)
def queryPart (h : Fin 4) : Sq := byRowCol (dScoreOf x kv g wq wo dy h) (keyOf kv h)

theorem memory_parts (m : Fin 256) (c : Fin 2048) : memoryTile x kv g wq wo dy (ix2 m c)
    = if hc : c.val < 1024 then keyPart x kv g wq wo dy (headOf ⟨c.val, hc⟩) (ix2 m (within ⟨c.val, hc⟩))
      else valuePart x kv g wq wo dy (headOf ⟨c.val - 1024, by have := c.isLt; omega⟩)
        (ix2 m (within ⟨c.val - 1024, by have := c.isLt; omega⟩)) := by
  refine Eq.trans ?_ (eight (keyPart x kv g wq wo dy) (valuePart x kv g wq wo dy) m c)
  unfold memoryTile valuesTile
  rw [sum89, sum83, sum70, sum66]
  rfl

theorem query_parts (r : Fin 256) (j : Fin 1024) :
    dQueryTile x kv g wq wo dy (ix2 r j) = queryPart x kv g wq wo dy (headOf j) (ix2 r (within j)) := by
  refine Eq.trans ?_ (four (queryPart x kv g wq wo dy) r j)
  unfold dQueryTile lastTwo
  rw [sum90, sum84]
  rfl

theorem out_at (k c : Fin 1024) : outTile x kv g wq dy (ix2 k c)
    = ∑ r, outTerm (entries x) (entries kv) (gain g) (entries wq) (entries dy) k c r :=
  (cols_cols _ _ _ k c).trans (Finset.sum_congr rfl fun r _ => congrArg₂ (fun a b : EReal => a * b)
    ((joined (headOut x kv g wq) r k).trans (head_at x kv g wq _ r _)) (congrFun (shapeCast_self dy _) (ix2 r c)))

theorem valuePart_at (h : Fin 4) (m d : Fin 256) : valuePart x kv g wq wo dy h (ix2 m d)
    = ∑ r, valueTerm (entries x) (entries kv) (gain g) (entries wq) (entries wo) (entries dy) h m d r :=
  (cols_cols _ _ _ m d).trans (Finset.sum_congr rfl fun r _ =>
    congrArg₂ (fun a b : EReal => a * b) (soft_at x kv g wq h r m) (up_at wo dy h r d))

variable (F : Finite kv wo dy)

include F in
theorem keyPart_at (h : Fin 4) (m d : Fin 256) : keyPart x kv g wq wo dy h (ix2 m d)
    = ∑ r, keyTerm (entries x) (entries kv) (gain g) (entries wq) (entries wo) (entries dy) h m d r :=
  (cols_cols _ _ _ m d).trans (Finset.sum_congr rfl fun r _ =>
    congrArg₂ (fun a b : EReal => a * b) (dScore_at x kv g wq wo dy h r m F) (query_at x g wq h r d))

include F in
theorem memory_at (m : Fin 256) (c : Fin 2048) : memoryTile x kv g wq wo dy (ix2 m c)
    = ∑ r, memoryTerm (entries x) (entries kv) (gain g) (entries wq) (entries wo) (entries dy) m c r := by
  rw [memory_parts]
  by_cases hc : c.val < 1024
  · rw [dif_pos hc, keyPart_at x kv g wq wo dy F]
    exact Finset.sum_congr rfl fun r _ => by unfold memoryTerm; rw [dif_pos hc]
  · rw [dif_neg hc, valuePart_at]
    exact Finset.sum_congr rfl fun r _ => by unfold memoryTerm; rw [dif_neg hc]

include F in
theorem dQuery_at (r : Fin 256) (j : Fin 1024) : dQueryTile x kv g wq wo dy (ix2 r j)
    = dQuery (entries x) (entries kv) (gain g) (entries wq) (entries wo) (entries dy) r j :=
  (query_parts x kv g wq wo dy r j).trans ((rows_cols _ _ _ r (within j)).trans (Finset.sum_congr rfl fun m _ =>
    congrArg₂ (fun a b : EReal => a * b) (dScore_at x kv g wq wo dy _ r m F) (key_at kv _ m _)))

include F in
theorem dNormed_at (r : Fin 256) (i : Fin 1024) : dNormedTile x kv g wq wo dy (ix2 r i)
    = dNormed (entries x) (entries kv) (gain g) (entries wq) (entries wo) (entries dy) r i :=
  (rows_rows (φ₂ := .bf16) _ _ _ r i).trans (Finset.sum_congr rfl fun j _ =>
    congrArg (fun a : EReal => a * wq (ix2 i j)) (dQuery_at x kv g wq wo dy F r j))

include F in
theorem through_at (r : Fin 256) (i : Fin 1024) : throughTile x kv g wq wo dy (ix2 r i)
    = dNormed (entries x) (entries kv) (gain g) (entries wq) (entries wo) (entries dy) r i * gain g i :=
  congrArg₂ (fun a b : EReal => a * b) (dNormed_at x kv g wq wo dy F r i) (broadcastTo_1b_ab_apply g _ r i)

include F in
theorem spread_at (r : Fin 256) : spreadTile x kv g wq wo dy (ix2 r 0)
    = spread (entries x) (entries kv) (gain g) (entries wq) (entries wo) (entries dy) r :=
  congrArg₂ (fun a b : EReal => Ideal.div (a * b) width) ((col_cast _ _ r).trans ((row_sum _ _ _ _ r).trans
    (Finset.sum_congr rfl fun i _ => congrArg (fun a : EReal => x (ix2 r i) * a) (through_at x kv g wq wo dy F r i)))) (half_at x r)

include F in
theorem row_at (r : Fin 256) (d : Fin 1024) : rowTile x kv g wq wo dy (ix2 r d)
    = dRow (entries x) (entries kv) (gain g) (entries wq) (entries wo) (entries dy) r d := by
  have along := fun (h : S256.ShapeCasts S256x1) (h' : S256x1.Broadcasts S256x1024) (h0 : S256x1.Reduces [1] S256) (h1 : FKind.Formats .f32)
      (h2 : (0x00000000#32 : BitVec 32) = FKind.add.neutral .f32 h1) =>
    (row_along (multiReduction .add [1] S256 (spreadTile x kv g wq wo dy) 0x00000000#32 h0 h1 h2) h h' r d).trans
      ((thin_sum _ h0 h1 h2 r).trans (spread_at x kv g wq wo dy F r))
  exact congrArg₂ (fun a b : EReal => a + b) (congrArg₂ (fun a b : EReal => a + b)
    (congrArg₂ (fun a b : EReal => dy (ix2 r d) + a * b) (through_at x kv g wq wo dy F r d) ((col_along _ _ r d).trans (root_at x r)))
    (congrArg (fun a : EReal => x (ix2 r d) * a) (along _ _ _ _ _))) (congrArg (fun a : EReal => a * x (ix2 r d)) (along _ _ _ _ _))

include F in
theorem gain_at (i : Fin 1024) : gainTile x kv g wq wo dy (ix2 0 i)
    = ∑ r, gainTerm (entries x) (entries kv) (gain g) (entries wq) (entries wo) (entries dy) i r := by
  refine (column_sum (mulf (φ := .f32) (k0_pay5 x) (dNormedTile x kv g wq wo dy)) _ _ (.inl rfl) rfl i).trans
    (Finset.sum_congr rfl fun r _ => ?_)
  exact congrArg₂ (fun a b : EReal => a * b) (unit_at x r i) (dNormed_at x kv g wq wo dy F r i)

include F in
theorem weight_at (i j : Fin 1024) : queryTile x kv g wq wo dy (ix2 i j)
    = ∑ r, queryTerm (entries x) (entries kv) (gain g) (entries wq) (entries wo) (entries dy) i j r :=
  (cols_cols _ _ _ i j).trans (Finset.sum_congr rfl fun r _ => congrArg₂ (fun a b : EReal => a * b) (normed_at x g r i)
    (dQuery_at x kv g wq wo dy F r j))

end Tiles

end Cert.Cross.Body
-- ==== Proof.CrossArrays.lean ====
/-
  The cross-attention's backward call (program 10): its sixteen tiles put together. The rows' gradient is stored tile by
  tile; the gradients of the memory, the gains and the two weights are summed over the tiles.
-/
module

public import proofs.«01_k».proof.Proof.Arrays
public import proofs.«01_k».proof.Proof.Dense
public import proofs.«01_k».proof.Proof.CrossLeaves
public import proofs.«01_k».proof.Proof.CrossTile
public import proofs.«01_k».proof.Proof.Gen.Kernel10Ideal.Value

@[expose] public section

set_option maxRecDepth 16384
set_option maxHeartbeats 2000000

noncomputable section

open Idealize.ShloMosaic Idealize.ShloMosaic.TcCoe Idealize.ShloMosaic.ValueIdx Idealize.SL.Sem
open Idealize.ShloMosaic.Pipeline (Dat Window)
open scoped BigOperators

namespace Cert.Cross.Arrays

open Cert.Kernel10Ideal Cert.Kernel10Ideal.Gen Cert.Kernel10Ideal.Value Cert.Attend Cert.Cross Cert.Cross.Body Cert.Cross.Leaves
open Cert.Attend.Body (gain)
open Cert.KernelIdeal.Value (hz2 at_row)
open Cert.Dense (idx_ext)
open Cert.Merge (row upTo upTo_succ upTo_all)

variable (m : (ℓ : Loc nD τ sig) → Buf (Elt Ideal) ℓ)

/-- Where the windows lie: those of the rows at the point's tile, the others at the origin. -/
theorem places_rows : ∀ t : Fin grid0.N,
    (win0_0.index t 0 = t.val ∧ win0_0.index t 1 = 0) ∧ (win0_5.index t 0 = t.val ∧ win0_5.index t 1 = 0)
    ∧ (win0_6.index t 0 = t.val ∧ win0_6.index t 1 = 0) := by decide +kernel

theorem places_read : ∀ t : Fin grid0.N,
    (win0_1.index t 0 = 0 ∧ win0_1.index t 1 = 0) ∧ (win0_2.index t 0 = 0 ∧ win0_2.index t 1 = 0)
    ∧ (win0_3.index t 0 = 0 ∧ win0_3.index t 1 = 0) ∧ (win0_4.index t 0 = 0 ∧ win0_4.index t 1 = 0) := by decide +kernel

theorem places_summed : ∀ t : Fin grid0.N,
    (win0_7.index t 0 = 0 ∧ win0_7.index t 1 = 0) ∧ (win0_8.index t 0 = 0 ∧ win0_8.index t 1 = 0)
    ∧ (win0_9.index t 0 = 0 ∧ win0_9.index t 1 = 0) ∧ (win0_10.index t 0 = 0 ∧ win0_10.index t 1 = 0) := by decide +kernel

variable (c : Dev nD)

abbrev argX : Fin 4096 → Fin 1024 → EReal := entries (m ((c : Thread nD τ).loc main_arg0))
abbrev argKv : Fin 256 → Fin 2048 → EReal := entries (m ((c : Thread nD τ).loc main_arg1))
abbrev argGain : Fin 1024 → EReal := fun d => m ((c : Thread nD τ).loc main_arg2) (ix2 0 d)
abbrev argQ : Fin 1024 → Fin 1024 → EReal := entries (m ((c : Thread nD τ).loc main_arg3))
abbrev argO : Fin 1024 → Fin 1024 → EReal := entries (m ((c : Thread nD τ).loc main_arg4))
abbrev argDy : Fin 4096 → Fin 1024 → EReal := entries (m ((c : Thread nD τ).loc main_arg5))

/-! ## The blocks a point reads -/

section
variable (t : Fin cfg0.N)

theorem tile_x : entries (iblk m c 0 t) = fun r => argX m c (row t.val (lt_N t) r) := by
  funext r k
  exact congrArg (m ((c : Thread nD τ).loc main_arg0)) (at_row t.val (lt_N t) _ r k
    ((win0_0.rect_emb_val t (ix2 r k) 0).trans (by rw [(places_rows t).1.1]; rfl))
    (win0_0.rect_emb_val_of_index_zero t 1 (places_rows t).1.2 (ix2 r k)))

theorem tile_dy : entries (iblk m c 5 t) = fun r => argDy m c (row t.val (lt_N t) r) := by
  funext r k
  exact congrArg (m ((c : Thread nD τ).loc main_arg5)) (at_row t.val (lt_N t) _ r k
    ((win0_5.rect_emb_val t (ix2 r k) 0).trans (by rw [(places_rows t).2.1.1]; rfl))
    (win0_5.rect_emb_val_of_index_zero t 1 (places_rows t).2.1.2 (ix2 r k)))

theorem tile_kv : entries (iblk m c 1 t) = argKv m c := by
  funext r k
  exact congrArg (m ((c : Thread nD τ).loc main_arg1)) (idx_ext
    (win0_1.rect_emb_val_of_index_zero t 0 (places_read t).1.1 (ix2 r k))
    (win0_1.rect_emb_val_of_index_zero t 1 (places_read t).1.2 (ix2 r k)))

theorem tile_gain : gain (iblk m c 2 t) = argGain m c := by
  funext k
  exact congrArg (m ((c : Thread nD τ).loc main_arg2)) (idx_ext
    (win0_2.rect_emb_val_of_index_zero t 0 (places_read t).2.1.1 (ix2 0 k))
    (win0_2.rect_emb_val_of_index_zero t 1 (places_read t).2.1.2 (ix2 0 k)))

theorem tile_q : entries (iblk m c 3 t) = argQ m c := by
  funext r k
  exact congrArg (m ((c : Thread nD τ).loc main_arg3)) (idx_ext
    (win0_3.rect_emb_val_of_index_zero t 0 (places_read t).2.2.1.1 (ix2 r k))
    (win0_3.rect_emb_val_of_index_zero t 1 (places_read t).2.2.1.2 (ix2 r k)))

theorem tile_o : entries (iblk m c 4 t) = argO m c := by
  funext r k
  exact congrArg (m ((c : Thread nD τ).loc main_arg4)) (idx_ext
    (win0_4.rect_emb_val_of_index_zero t 0 (places_read t).2.2.2.1 (ix2 r k))
    (win0_4.rect_emb_val_of_index_zero t 1 (places_read t).2.2.2.2 (ix2 r k)))

end

/-- Finite values, output weights and incoming gradients. -/
structure FiniteArgs : Prop where
  values : ∀ n h d, IsReal (argKv m c n (vcol h d))
  outs : ∀ i j, IsReal (argO m c i j)
  grads : ∀ r d, IsReal (argDy m c r d)

variable {m c} in
/-- The blocks of finite arguments are finite. -/
theorem FiniteArgs.blocks (A : FiniteArgs m c) (t : Fin cfg0.N) :
    Finite (iblk m c 1 t) (iblk m c 4 t) (iblk m c 5 t) where
  values n h d := by rw [tile_kv]; exact A.values n h d
  outs i j := by rw [tile_o]; exact A.outs i j
  grads r d := by rw [tile_dy]; exact A.grads _ d

/-! ## The rows' gradient -/

theorem left_rows (t : Fin cfg0.N) : (outsAt0 m c t.val t.isLt).1 = rowsAt m c t := by
  by_cases h : t.val = 0
  · rw [outs_first m c t h]
  · rw [outs_later m c t h]

theorem final_rows (A : FiniteArgs m c) : (dats m 0 c).arrAt 6 cfg0.N = fun i : S4096x1024.Idx =>
    dRow (argX m c) (argKv m c) (argGain m c) (argQ m c) (argO m c) (argDy m c) (i 0) (i 1) := by
  refine (dats m 0 c).arrAt_eq_of_covers 6 _ (by decide +kernel) fun t hf y => ?_
  obtain ⟨r, k, rfl⟩ : ∃ (r : Fin 256) (k : Fin 1024), y = ix2 r k := ⟨_, _, eq_ix2 (n0 := 256) (n1 := 1024) y⟩
  have hi : ((cfg0.win 6).blk t).view.emb (ix2 r k) = ix2 (row t.val (lt_N t) r) k :=
    at_row t.val (lt_N t) _ r k
      ((win0_6.rect_emb_val t (ix2 r k) 0).trans (by rw [(places_rows t).2.2.1]; rfl))
      (win0_6.rect_emb_val_of_index_zero t 1 (places_rows t).2.2.2 (ix2 r k))
  have hv : (dats m 0 c).after 6 t = rowsAt m c t := by rw [after0_6]; exact left_rows m c t
  rw [hi]
  refine (congrFun hv (ix2 r k)).trans ((row_at _ _ _ _ _ _ (A.blocks t) r k).trans ?_)
  rw [tile_x, tile_kv, tile_gain, tile_q, tile_o, tile_dy]
  rfl

/-! ## The gradients summed over the tiles

Each in four steps: one row's part, a tile's sum, the buffer after a point, the array at the end. -/

/-- One row's part in the memory's gradient. -/
def memoryPart (i : Fin 256) (j : Fin 2048) (s : Fin 4096) : EReal :=
  memoryTerm (argX m c) (argKv m c) (argGain m c) (argQ m c) (argO m c) (argDy m c) i j s

theorem memory_tile (A : FiniteArgs m c) (i : Fin 256) (j : Fin 2048) (t : Fin cfg0.N) :
    memoryAt m c t (ix2 i j) = ∑ r, memoryPart m c i j (row t.val (lt_N t) r) := by
  refine (memory_at _ _ _ _ _ _ (A.blocks t) i j).trans ?_
  rw [tile_x, tile_kv, tile_gain, tile_q, tile_o, tile_dy]
  rfl

theorem memory_carried (A : FiniteArgs m c) (i : Fin 256) (j : Fin 2048) : ∀ (t : ℕ) (ht : t < cfg0.N),
    (outsAt0 m c t ht).2.1 (ix2 i j) = upTo (memoryPart m c i j) (t + 1)
  | 0, ht => by
    rw [upTo_succ _ 0 (by decide)]
    have e := outs_first m c ⟨0, ht⟩ rfl
    refine (congrFun (congrArg (fun q => q.2.1) e) (ix2 i j)).trans ((memory_tile m c A i j ⟨0, ht⟩).trans ?_)
    exact (zero_add _).symm
  | t + 1, ht => by
    rw [upTo_succ _ (t + 1) (lt_N ⟨t + 1, ht⟩)]
    have e := outs_later m c ⟨t + 1, ht⟩ (Nat.succ_ne_zero t)
    refine (congrFun (congrArg (fun q => q.2.1) e) (ix2 i j)).trans ?_
    show k0_pay98 (memoryAt m c ⟨t + 1, ht⟩) (outsAt0 m c t _).2.1 (ix2 i j) = _
    unfold k0_pay98
    rw [shapeCast_self, addf_apply]
    exact congrArg₂ (· + ·) (memory_carried A i j t _) (memory_tile m c A i j ⟨t + 1, ht⟩)

theorem final_memory (A : FiniteArgs m c) : (dats m 0 c).arrAt 7 cfg0.N = fun i : S256x2048.Idx =>
    ∑ s, memoryTerm (argX m c) (argKv m c) (argGain m c) (argQ m c) (argO m c) (argDy m c) (i 0) (i 1) s := by
  refine (dats m 0 c).arrAt_eq_of_covers 7 _ (by decide +kernel) fun t hf y => ?_
  have h15 : t.val = 15 := by
    have := (flush0_7 t).mp hf
    have := lt_N t
    omega
  obtain ⟨i, j, rfl⟩ : ∃ (i : Fin 256) (j : Fin 2048), y = ix2 i j := ⟨_, _, eq_ix2 (n0 := 256) (n1 := 2048) y⟩
  have hi : ((cfg0.win 7).blk t).view.emb (ix2 i j) = ix2 i j := idx_ext
    (win0_7.rect_emb_val_of_index_zero t 0 (places_summed t).1.1 (ix2 i j))
    (win0_7.rect_emb_val_of_index_zero t 1 (places_summed t).1.2 (ix2 i j))
  have hv : (dats m 0 c).after 7 t = (outsAt0 m c t.val t.isLt).2.1 := by rw [after0_7]
  rw [hi]
  refine (congrFun hv (ix2 i j)).trans ((memory_carried m c A i j t.val t.isLt).trans ?_)
  rw [h15, upTo_all]
  rfl

/-- One row's part in the gains' gradient. -/
def gainPart (j : Fin 1024) (s : Fin 4096) : EReal :=
  gainTerm (argX m c) (argKv m c) (argGain m c) (argQ m c) (argO m c) (argDy m c) j s

theorem gain_tile (A : FiniteArgs m c) (j : Fin 1024) (t : Fin cfg0.N) :
    gainAt m c t (ix2 0 j) = ∑ r, gainPart m c j (row t.val (lt_N t) r) := by
  refine (gain_at _ _ _ _ _ _ (A.blocks t) j).trans ?_
  rw [tile_x, tile_kv, tile_gain, tile_q, tile_o, tile_dy]
  rfl

theorem gain_carried (A : FiniteArgs m c) (j : Fin 1024) : ∀ (t : ℕ) (ht : t < cfg0.N),
    (outsAt0 m c t ht).2.2.1 (ix2 0 j) = upTo (gainPart m c j) (t + 1)
  | 0, ht => by
    rw [upTo_succ _ 0 (by decide)]
    have e := outs_first m c ⟨0, ht⟩ rfl
    refine (congrFun (congrArg (fun q => q.2.2.1) e) (ix2 0 j)).trans ((gain_tile m c A j ⟨0, ht⟩).trans ?_)
    exact (zero_add _).symm
  | t + 1, ht => by
    rw [upTo_succ _ (t + 1) (lt_N ⟨t + 1, ht⟩)]
    have e := outs_later m c ⟨t + 1, ht⟩ (Nat.succ_ne_zero t)
    refine (congrFun (congrArg (fun q => q.2.2.1) e) (ix2 0 j)).trans ?_
    show k0_pay99 (gainAt m c ⟨t + 1, ht⟩) (outsAt0 m c t _).2.2.1 (ix2 0 j) = _
    unfold k0_pay99
    rw [shapeCast_self, addf_apply]
    exact congrArg₂ (· + ·) (gain_carried A j t _) (gain_tile m c A j ⟨t + 1, ht⟩)

theorem final_gain (A : FiniteArgs m c) : (dats m 0 c).arrAt 8 cfg0.N = fun i : S1x1024.Idx =>
    ∑ s, gainTerm (argX m c) (argKv m c) (argGain m c) (argQ m c) (argO m c) (argDy m c) (i 1) s := by
  refine (dats m 0 c).arrAt_eq_of_covers 8 _ (by decide +kernel) fun t hf y => ?_
  have h15 : t.val = 15 := by
    have := (flush0_8 t).mp hf
    have := lt_N t
    omega
  obtain ⟨z, j, rfl⟩ : ∃ (z : Fin 1) (j : Fin 1024), y = ix2 z j := ⟨_, _, eq_ix2 (n0 := 1) (n1 := 1024) y⟩
  obtain rfl := Subsingleton.elim z 0
  have hi : ((cfg0.win 8).blk t).view.emb (ix2 0 j) = ix2 0 j := idx_ext
    (win0_8.rect_emb_val_of_index_zero t 0 (places_summed t).2.1.1 (ix2 0 j))
    (win0_8.rect_emb_val_of_index_zero t 1 (places_summed t).2.1.2 (ix2 0 j))
  have hv : (dats m 0 c).after 8 t = (outsAt0 m c t.val t.isLt).2.2.1 := by rw [after0_8]
  rw [hi]
  refine (congrFun hv (ix2 0 j)).trans ((gain_carried m c A j t.val t.isLt).trans ?_)
  rw [h15, upTo_all]
  rfl

/-- One row's part in the query weight's gradient. -/
def queryPart (i : Fin 1024) (j : Fin 1024) (s : Fin 4096) : EReal :=
  queryTerm (argX m c) (argKv m c) (argGain m c) (argQ m c) (argO m c) (argDy m c) i j s

theorem query_tile (A : FiniteArgs m c) (i : Fin 1024) (j : Fin 1024) (t : Fin cfg0.N) :
    queryAt m c t (ix2 i j) = ∑ r, queryPart m c i j (row t.val (lt_N t) r) := by
  refine (weight_at _ _ _ _ _ _ (A.blocks t) i j).trans ?_
  rw [tile_x, tile_kv, tile_gain, tile_q, tile_o, tile_dy]
  rfl

theorem query_carried (A : FiniteArgs m c) (i : Fin 1024) (j : Fin 1024) : ∀ (t : ℕ) (ht : t < cfg0.N),
    (outsAt0 m c t ht).2.2.2.1 (ix2 i j) = upTo (queryPart m c i j) (t + 1)
  | 0, ht => by
    rw [upTo_succ _ 0 (by decide)]
    have e := outs_first m c ⟨0, ht⟩ rfl
    refine (congrFun (congrArg (fun q => q.2.2.2.1) e) (ix2 i j)).trans ((query_tile m c A i j ⟨0, ht⟩).trans ?_)
    exact (zero_add _).symm
  | t + 1, ht => by
    rw [upTo_succ _ (t + 1) (lt_N ⟨t + 1, ht⟩)]
    have e := outs_later m c ⟨t + 1, ht⟩ (Nat.succ_ne_zero t)
    refine (congrFun (congrArg (fun q => q.2.2.2.1) e) (ix2 i j)).trans ?_
    show k0_pay100 (queryAt m c ⟨t + 1, ht⟩) (outsAt0 m c t _).2.2.2.1 (ix2 i j) = _
    unfold k0_pay100
    rw [shapeCast_self, addf_apply]
    exact congrArg₂ (· + ·) (query_carried A i j t _) (query_tile m c A i j ⟨t + 1, ht⟩)

theorem final_query (A : FiniteArgs m c) : (dats m 0 c).arrAt 9 cfg0.N = fun i : S1024x1024.Idx =>
    ∑ s, queryTerm (argX m c) (argKv m c) (argGain m c) (argQ m c) (argO m c) (argDy m c) (i 0) (i 1) s := by
  refine (dats m 0 c).arrAt_eq_of_covers 9 _ (by decide +kernel) fun t hf y => ?_
  have h15 : t.val = 15 := by
    have := (flush0_9 t).mp hf
    have := lt_N t
    omega
  obtain ⟨i, j, rfl⟩ : ∃ (i : Fin 1024) (j : Fin 1024), y = ix2 i j := ⟨_, _, eq_ix2 (n0 := 1024) (n1 := 1024) y⟩
  have hi : ((cfg0.win 9).blk t).view.emb (ix2 i j) = ix2 i j := idx_ext
    (win0_9.rect_emb_val_of_index_zero t 0 (places_summed t).2.2.1.1 (ix2 i j))
    (win0_9.rect_emb_val_of_index_zero t 1 (places_summed t).2.2.1.2 (ix2 i j))
  have hv : (dats m 0 c).after 9 t = (outsAt0 m c t.val t.isLt).2.2.2.1 := by rw [after0_9]
  rw [hi]
  refine (congrFun hv (ix2 i j)).trans ((query_carried m c A i j t.val t.isLt).trans ?_)
  rw [h15, upTo_all]
  rfl

/-- One row's part in the output weight's gradient. -/
def outPart (i : Fin 1024) (j : Fin 1024) (s : Fin 4096) : EReal :=
  outTerm (argX m c) (argKv m c) (argGain m c) (argQ m c) (argDy m c) i j s

theorem out_tile (i : Fin 1024) (j : Fin 1024) (t : Fin cfg0.N) :
    outAt m c t (ix2 i j) = ∑ r, outPart m c i j (row t.val (lt_N t) r) := by
  refine (out_at _ _ _ _ _ i j).trans ?_
  rw [tile_x, tile_kv, tile_gain, tile_q, tile_dy]
  rfl

theorem out_carried (i : Fin 1024) (j : Fin 1024) : ∀ (t : ℕ) (ht : t < cfg0.N),
    (outsAt0 m c t ht).2.2.2.2 (ix2 i j) = upTo (outPart m c i j) (t + 1)
  | 0, ht => by
    rw [upTo_succ _ 0 (by decide)]
    have e := outs_first m c ⟨0, ht⟩ rfl
    refine (congrFun (congrArg (fun q => q.2.2.2.2) e) (ix2 i j)).trans ((out_tile m c i j ⟨0, ht⟩).trans ?_)
    exact (zero_add _).symm
  | t + 1, ht => by
    rw [upTo_succ _ (t + 1) (lt_N ⟨t + 1, ht⟩)]
    have e := outs_later m c ⟨t + 1, ht⟩ (Nat.succ_ne_zero t)
    refine (congrFun (congrArg (fun q => q.2.2.2.2) e) (ix2 i j)).trans ?_
    show k0_pay1 (outAt m c ⟨t + 1, ht⟩) (outsAt0 m c t _).2.2.2.2 (ix2 i j) = _
    unfold k0_pay1
    rw [shapeCast_self, addf_apply]
    exact congrArg₂ (· + ·) (out_carried i j t _) (out_tile m c i j ⟨t + 1, ht⟩)

theorem final_out : (dats m 0 c).arrAt 10 cfg0.N = fun i : S1024x1024.Idx =>
    ∑ s, outTerm (argX m c) (argKv m c) (argGain m c) (argQ m c) (argDy m c) (i 0) (i 1) s := by
  refine (dats m 0 c).arrAt_eq_of_covers 10 _ (by decide +kernel) fun t hf y => ?_
  have h15 : t.val = 15 := by
    have := (flush0_10 t).mp hf
    have := lt_N t
    omega
  obtain ⟨i, j, rfl⟩ : ∃ (i : Fin 1024) (j : Fin 1024), y = ix2 i j := ⟨_, _, eq_ix2 (n0 := 1024) (n1 := 1024) y⟩
  have hi : ((cfg0.win 10).blk t).view.emb (ix2 i j) = ix2 i j := idx_ext
    (win0_10.rect_emb_val_of_index_zero t 0 (places_summed t).2.2.2.1 (ix2 i j))
    (win0_10.rect_emb_val_of_index_zero t 1 (places_summed t).2.2.2.2 (ix2 i j))
  have hv : (dats m 0 c).after 10 t = (outsAt0 m c t.val t.isLt).2.2.2.2 := by rw [after0_10]
  rw [hi]
  refine (congrFun hv (ix2 i j)).trans ((out_carried m c i j t.val t.isLt).trans ?_)
  rw [h15, upTo_all]
  rfl

end Cert.Cross.Arrays
-- ==== Proof.CrossPlain.lean ====
/-
  The plain program of the cross-attention's gradients (program 10) read at an index: each of its five results as the
  mathematics of `Cert.Cross`, over all 4096 rows.
-/
module

public import proofs.«01_k».proof.Proof.CrossMath
public import proofs.«01_k».proof.Proof.AttendPlain
public import proofs.«01_k».proof.Proof.Gen.Reference10Ideal
public import proofs.«01_k».proof.Proof.Gen.Reference10Ideal.Run
public import proofs.«01_k».proof.Proof.Gen.Reference10Ideal.Read

@[expose] public section

set_option maxRecDepth 16384

noncomputable section

open Idealize.ShloMosaic Idealize.ShloMosaic.ValueIdx
open scoped BigOperators

namespace Cert.Reference10Ideal.Read

open Cert.Reference10Ideal Cert.Attend Cert.Cross
open Cert.KernelIdeal.Value (ofBits_zero)
open Cert.Dense (idx_ext)
open Cert.Reference9Ideal.Read (ext3 max_last)

variable (x0 : FVec Ideal S4096x1024 .f32) (x1 : FVec Ideal S256x2048 .f32) (x2 : FVec Ideal S1x1024 .f32)
  (x3 x4 : FVec Ideal S1024x1024 .bf16) (x5 : FVec Ideal S4096x1024 .f32)

abbrev gains : Fin 1024 → EReal := fun d => x2 (ix2 0 d)

/-! ## The normed rows -/

theorem square_at (s : Fin 4096) : val_main_v8 (F := Ideal) x0 (ix2 s 0) = square (entries x0) s := by
  have e0 : idx_main_v4 (ix2 s 0) = ix1 s := eq_ix1 _
  have e1 : ∀ k, idx_main_v3 (ix1 s) k = ix2 s k := fun k => eq_ix2 _
  have sum : val_main_v3 (F := Ideal) x0 (ix1 s) = ∑ k, entries x0 s k * entries x0 s k := by
    rw [val_main_v3_apply]
    refine (congrArg₂ (fun a b : EReal => a + b) ofBits_zero (Finset.sum_congr rfl fun k _ => ?_)).trans (zero_add _)
    rw [e1]
    rfl
  rw [val_main_v8_apply, val_main_v6_apply, val_main_v4_apply, e0, sum, val_main_v5_apply, val_main_v7_apply]
  rfl

theorem root_at (s : Fin 4096) : val_main_v9 (F := Ideal) x0 (ix2 s 0) = root (entries x0) s := by
  rw [val_main_v9_apply, square_at]
  rfl

theorem unit_at (s : Fin 4096) (d : Fin 1024) : val_main_v14 (F := Ideal) x0 (ix2 s d) = unit (entries x0) s d := by
  have e : idx_main_v13 (ix2 s d) = ix2 s 0 := eq_ix2 _
  rw [val_main_v14_apply, val_main_v13_apply, e, root_at]
  rfl

theorem normed_at (s : Fin 4096) (d : Fin 1024) : val_main_v16 (F := Ideal) x0 x2 (ix2 s d) = normed (entries x0) (gains x2) s d := by
  have e : idx_main_v15 (ix2 s d) = ix2 0 d := eq_ix2 _
  rw [val_main_v16_apply, unit_at, val_main_v15_apply, e]
  rfl

theorem query_at (s : Fin 4096) (c : Fin 1024) :
    val_main_v17 (F := Ideal) x0 x2 x3 (ix2 s c) = query (entries x0) (gains x2) (entries x3) s c := by
  rw [val_main_v17_apply]
  refine Finset.sum_congr rfl fun k _ => ?_
  have el : lidx_main_v17 (ix2 s c) k = ix2 s k := eq_ix2 _
  have er : ridx_main_v17 (ix2 s c) k = ix2 k c := eq_ix2 _
  rw [el, er, normed_at]
  rfl

theorem head_query (s : Fin 4096) (h : Fin 4) (d : Fin 256) :
    val_main_v18 (F := Ideal) x0 x2 x3 (ix3 s h d) = query (entries x0) (gains x2) (entries x3) s (hcol h d) := by
  have hh := h.isLt; have hd := d.isLt
  have e : idx_main_v18 (ix3 s h d) = ix2 s (hcol h d) := idx_ext
    (by show ((s.val * 4 + h.val) * 256 + d.val) / 1024 = s.val; omega)
    (by show ((s.val * 4 + h.val) * 256 + d.val) % 1024 = h.val * 256 + d.val; omega)
  rw [val_main_v18_apply, e, query_at]

theorem head_key (m : Fin 256) (h : Fin 4) (d : Fin 256) : val_main_v21 (F := Ideal) x1 (ix3 m h d) = entries x1 m (kcol h d) := by
  have hh := h.isLt; have hd := d.isLt
  have e : idx_main_v19 (idx_main_v21 (ix3 m h d)) = ix2 m (kcol h d) := idx_ext
    (by show ((m.val * 4 + h.val) * 256 + d.val) / 1024 = m.val; omega)
    (by show ((m.val * 4 + h.val) * 256 + d.val) % 1024 = h.val * 256 + d.val; omega)
  rw [val_main_v21_apply, val_main_v19_apply, e]
  rfl

theorem head_value (m : Fin 256) (h : Fin 4) (d : Fin 256) : val_main_v22 (F := Ideal) x1 (ix3 m h d) = entries x1 m (vcol h d) := by
  have hh := h.isLt; have hd := d.isLt
  have e : idx_main_v20 (idx_main_v22 (ix3 m h d)) = ix2 m (vcol h d) := idx_ext
    (by show ((m.val * 4 + h.val) * 256 + d.val) / 1024 = m.val; omega)
    (by show 1024 + ((m.val * 4 + h.val) * 256 + d.val) % 1024 = 1024 + (h.val * 256 + d.val); omega)
  rw [val_main_v22_apply, val_main_v20_apply, e]
  rfl

/-! ## Scores and their softmax -/

abbrev scoreAt (h : Fin 4) (s : Fin 4096) : Fin 256 → EReal := score (entries x0) (entries x1) (gains x2) (entries x3) h s

theorem score_at (h : Fin 4) (s : Fin 4096) (m : Fin 256) :
    val_main_v25 (F := Ideal) x0 x1 x2 x3 (ix3 h s m) = scoreAt x0 x1 x2 x3 h s m := by
  rw [val_main_v25_apply, val_main_v23_apply, val_main_v24_apply]
  refine congrArg (fun a : EReal => a * scale) (Finset.sum_congr rfl fun k _ => ?_)
  have el : lidx_main_v23 (ix3 h s m) k = ix3 s h k := eq_ix3 _
  have er : ridx_main_v23 (ix3 h s m) k = ix3 m h k := eq_ix3 _
  rw [el, er, head_query, head_key]

theorem peak_at (h : Fin 4) (s : Fin 4096) : val_main_v33 (F := Ideal) x0 x1 x2 x3 (ix2 h s) = peak (scoreAt x0 x1 x2 x3 h s) := by
  have e : val_main_v26 (F := Ideal) x0 x1 x2 x3 (ix2 h s) = peak (scoreAt x0 x1 x2 x3 h s) :=
    (max_last (val_main_v25 (F := Ideal) x0 x1 x2 x3) _ _ h s).trans (congrArg peak (funext fun m => score_at x0 x1 x2 x3 h s m))
  rw [val_main_v33_apply, e, val_main_v32_apply]
  exact max_eq_right ((Finset.le_fold_max _).mpr (Or.inl le_rfl))

theorem exp_at (h : Fin 4) (s : Fin 4096) (m : Fin 256) :
    val_main_v46 (F := Ideal) x0 x1 x2 x3 (ix3 h s m) = expo (scoreAt x0 x1 x2 x3 h s) m := by
  have e : idx_main_v43 (idx_main_v44 (ix3 h s m)) = ix2 h s := eq_ix2 _
  rw [val_main_v46_apply, val_main_v45_apply, score_at, val_main_v44_apply, val_main_v43_apply, e, peak_at]
  rfl

theorem total_at (h : Fin 4) (s : Fin 4096) : val_main_v48 (F := Ideal) x0 x1 x2 x3 (ix3 h s 0) = total (scoreAt x0 x1 x2 x3 h s) := by
  have e : idx_main_v48 (ix3 h s 0) = ix2 h s := eq_ix2 _
  have ek : ∀ k, idx_main_v47 (ix2 h s) k = ix3 h s k := fun k => eq_ix3 _
  rw [val_main_v48_apply, e, val_main_v47_apply]
  refine (congrArg₂ (fun a b : EReal => a + b) ofBits_zero (Finset.sum_congr rfl fun n _ => ?_)).trans (zero_add _)
  rw [ek, exp_at]

theorem soft_at (h : Fin 4) (s : Fin 4096) (m : Fin 256) :
    val_main_v50 (F := Ideal) x0 x1 x2 x3 (ix3 h s m) = soft (scoreAt x0 x1 x2 x3 h s) m := by
  have e : idx_main_v49 (ix3 h s m) = ix3 h s 0 := eq_ix3 _
  rw [val_main_v50_apply, val_main_v49_apply, e, total_at, exp_at]
  rfl

theorem inverse_at (h : Fin 4) (s : Fin 4096) : val_main_v53 (F := Ideal) x0 x1 x2 x3 (ix3 h s 0)
    = Ideal.div 1 (total (scoreAt x0 x1 x2 x3 h s) * total (scoreAt x0 x1 x2 x3 h s)) := by
  rw [val_main_v53_apply, val_main_v51_apply, total_at, val_main_v52_apply]
  exact congrArg (fun a : EReal => Ideal.div a (total (scoreAt x0 x1 x2 x3 h s) * total (scoreAt x0 x1 x2 x3 h s))) one_f32

theorem head_at (s : Fin 4096) (k : Fin 1024) : val_main_v56 (F := Ideal) x0 x1 x2 x3 (ix2 s k)
    = head (entries x0) (entries x1) (gains x2) (entries x3) (headOf k) s (within k) := by
  have hk := k.isLt
  have e : idx_main_v55 (idx_main_v56 (ix2 s k)) = ix3 (headOf k) (within k) s := ext3
    (by show (s.val * 1024 + k.val) / 256 % 4 = k.val / 256; omega)
    (by show (s.val * 1024 + k.val) % 256 = k.val % 256; omega)
    (by show (s.val * 1024 + k.val) / 1024 = s.val; omega)
  rw [val_main_v56_apply, val_main_v55_apply, e, val_main_v54_apply]
  refine Finset.sum_congr rfl fun m _ => ?_
  have el : lidx_main_v54 (ix3 (headOf k) (within k) s) m = ix3 m (headOf k) (within k) := eq_ix3 _
  have er : ridx_main_v54 (ix3 (headOf k) (within k) s) m = ix3 (headOf k) s m := eq_ix3 _
  rw [el, er, head_value, soft_at]
  exact mul_comm (G := EReal) _ _

/-! ## From the result's gradient to the scores' -/

theorem same_at (s : Fin 4096) (c : Fin 1024) : val_main_v59 (F := Ideal) x5 (ix2 s c) = entries x5 s c := by
  have hs := s.isLt; have hc := c.isLt
  have e : idx_main_v59 (ix2 s c) = ix2 s c := idx_ext
    (by show (s.val * 1024 + c.val) / 1024 = s.val; omega)
    (by show (s.val * 1024 + c.val) % 1024 = c.val; omega)
  rw [val_main_v59_apply, e]
  rfl

theorem out_at (k c : Fin 1024) : val_main_v61 (F := Ideal) x0 x1 x2 x3 x5 (ix2 k c)
    = ∑ r, outTerm (entries x0) (entries x1) (gains x2) (entries x3) (entries x5) k c r := by
  have e : idx_main_v61 (ix2 k c) = ix2 c k := eq_ix2 _
  rw [val_main_v61_apply, e, val_main_v60_apply]
  refine Finset.sum_congr rfl fun r _ => ?_
  have el : lidx_main_v60 (ix2 c k) r = ix2 r c := eq_ix2 _
  have er : ridx_main_v60 (ix2 c k) r = ix2 r k := eq_ix2 _
  rw [el, er, same_at, head_at]
  exact mul_comm (G := EReal) _ _

theorem dHead_at (s : Fin 4096) (h : Fin 4) (d : Fin 256) :
    val_main_v64 (F := Ideal) x4 x5 (ix3 h d s) = dHead (entries x4) (entries x5) s (hcol h d) := by
  have hh := h.isLt; have hd := d.isLt
  have e : idx_main_v63 (idx_main_v64 (ix3 h d s)) = ix2 s (hcol h d) := idx_ext
    (by show ((s.val * 4 + h.val) * 256 + d.val) / 1024 = s.val; omega)
    (by show ((s.val * 4 + h.val) * 256 + d.val) % 1024 = h.val * 256 + d.val; omega)
  rw [val_main_v64_apply, val_main_v63_apply, e, val_main_v62_apply]
  refine Finset.sum_congr rfl fun k _ => ?_
  have el : lidx_main_v62 (ix2 s (hcol h d)) k = ix2 s k := eq_ix2 _
  have er : ridx_main_v62 (ix2 s (hcol h d)) k = ix2 (hcol h d) k := eq_ix2 _
  rw [el, er, same_at]
  rfl

theorem dSoft_at (h : Fin 4) (s : Fin 4096) (m : Fin 256) :
    val_main_v65 (F := Ideal) x1 x4 x5 (ix3 h s m) = dSoft (entries x1) (entries x4) (entries x5) h s m := by
  rw [val_main_v65_apply]
  refine Finset.sum_congr rfl fun d _ => ?_
  have el : lidx_main_v65 (ix3 h s m) d = ix3 h d s := eq_ix3 _
  have er : ridx_main_v65 (ix3 h s m) d = ix3 m h d := eq_ix3 _
  rw [el, er, dHead_at, head_value]

theorem value_at (m : Fin 256) (h : Fin 4) (d : Fin 256) : val_main_v67 (F := Ideal) x0 x1 x2 x3 x4 x5 (ix3 m h d)
    = ∑ r, valueTerm (entries x0) (entries x1) (gains x2) (entries x3) (entries x4) (entries x5) h m d r := by
  have e : idx_main_v67 (ix3 m h d) = ix3 h d m := eq_ix3 _
  rw [val_main_v67_apply, e, val_main_v66_apply]
  refine Finset.sum_congr rfl fun r _ => ?_
  have el : lidx_main_v66 (ix3 h d m) r = ix3 h d r := eq_ix3 _
  have er : ridx_main_v66 (ix3 h d m) r = ix3 h r m := eq_ix3 _
  rw [el, er, dHead_at, soft_at]
  exact mul_comm (G := EReal) _ _

abbrev softGrad (h : Fin 4) (s : Fin 4096) : Fin 256 → EReal := dSoft (entries x1) (entries x4) (entries x5) h s

theorem flow_at (h : Fin 4) (s : Fin 4096) : val_main_v76 (F := Ideal) x0 x1 x2 x3 x4 x5 (ix2 h s)
    = -∑ n, softGrad x1 x4 x5 h s n * Ideal.div 1 (total (scoreAt x0 x1 x2 x3 h s) * total (scoreAt x0 x1 x2 x3 h s))
        * expo (scoreAt x0 x1 x2 x3 h s) n := by
  have hh := h.isLt; have hs := s.isLt
  have e1 : idx_main_v76 (ix2 h s) 0 = ix3 h s 0 := eq_ix3 _
  have e2 : idx_main_v72 (ix3 h s 0) = ix2 h s := idx_ext
    (by show ((h.val * 4096 + s.val) * 1 + 0) / 4096 = h.val; omega)
    (by show ((h.val * 4096 + s.val) * 1 + 0) % 4096 = s.val; omega)
  have sum : val_main_v71 (F := Ideal) x0 x1 x2 x3 x4 x5 (ix2 h s)
      = ∑ n, softGrad x1 x4 x5 h s n * Ideal.div 1 (total (scoreAt x0 x1 x2 x3 h s) * total (scoreAt x0 x1 x2 x3 h s))
        * expo (scoreAt x0 x1 x2 x3 h s) n := by
    rw [val_main_v71_apply]
    refine (congrArg₂ (fun a b : EReal => a + b) ofBits_zero (Finset.sum_congr rfl fun n _ => ?_)).trans (zero_add _)
    have ek : idx_main_v71 (ix2 h s) n = ix3 h s n := eq_ix3 _
    have e3 : idx_main_v68 (ix3 h s n) = ix3 h s 0 := eq_ix3 _
    rw [ek, val_main_v70_apply, val_main_v69_apply, dSoft_at, val_main_v68_apply, e3, inverse_at, exp_at]
    rfl
  rw [val_main_v76_apply, Fin.sum_univ_one, e1, val_main_v73_apply, val_main_v72_apply, e2, sum]
  exact (congrArg (fun a : EReal => a + _) ofBits_zero).trans (zero_add _)

theorem dScore_at (h : Fin 4) (s : Fin 4096) (m : Fin 256) : val_main_v81 (F := Ideal) x0 x1 x2 x3 x4 x5 (ix3 h s m)
    = dScore (entries x0) (entries x1) (gains x2) (entries x3) (entries x4) (entries x5) h s m := by
  have e1 : idx_main_v74 (ix3 h s m) = ix3 h s 0 := eq_ix3 _
  have e2 : idx_main_v77 (ix3 h s m) = ix2 h s := eq_ix2 _
  rw [val_main_v81_apply, val_main_v80_apply, val_main_v79_apply, val_main_v78_apply, val_main_v75_apply, val_main_v74_apply, e1,
    total_at, dSoft_at, val_main_v77_apply, e2, flow_at, exp_at]
  rfl

/-! ## The memory's gradient -/

theorem key_at (m : Fin 256) (h : Fin 4) (d : Fin 256) : val_main_v83 (F := Ideal) x0 x1 x2 x3 x4 x5 (ix3 m h d)
    = ∑ r, keyTerm (entries x0) (entries x1) (gains x2) (entries x3) (entries x4) (entries x5) h m d r := by
  have e : idx_main_v83 (ix3 m h d) = ix3 h m d := eq_ix3 _
  rw [val_main_v83_apply, e, val_main_v82_apply]
  refine Finset.sum_congr rfl fun r _ => ?_
  have el : lidx_main_v82 (ix3 h m d) r = ix3 h r m := eq_ix3 _
  have er : ridx_main_v82 (ix3 h m d) r = ix3 r h d := eq_ix3 _
  rw [el, er, dScore_at, head_query]
  rfl

theorem keys_at (m : Fin 256) (k : Fin 1024) : val_main_v87 (F := Ideal) x0 x1 x2 x3 x4 x5 (ix2 m k)
    = ∑ r, keyTerm (entries x0) (entries x1) (gains x2) (entries x3) (entries x4) (entries x5) (headOf k) m (within k) r := by
  have hk := k.isLt
  have e : idx_main_v87 (ix2 m k) = ix3 m (headOf k) (within k) := ext3
    (by show (m.val * 1024 + k.val) / 1024 = m.val; omega)
    (by show (m.val * 1024 + k.val) / 256 % 4 = k.val / 256; omega)
    (by show (m.val * 1024 + k.val) % 256 = k.val % 256; omega)
  rw [val_main_v87_apply, e, key_at]

theorem values_at (m : Fin 256) (k : Fin 1024) : val_main_v86 (F := Ideal) x0 x1 x2 x3 x4 x5 (ix2 m k)
    = ∑ r, valueTerm (entries x0) (entries x1) (gains x2) (entries x3) (entries x4) (entries x5) (headOf k) m (within k) r := by
  have hk := k.isLt
  have e : idx_main_v86 (ix2 m k) = ix3 m (headOf k) (within k) := ext3
    (by show (m.val * 1024 + k.val) / 1024 = m.val; omega)
    (by show (m.val * 1024 + k.val) / 256 % 4 = k.val / 256; omega)
    (by show (m.val * 1024 + k.val) % 256 = k.val % 256; omega)
  rw [val_main_v86_apply, e, value_at]

theorem memory_at (m : Fin 256) (c : Fin 2048) : val_main_v88 (F := Ideal) x0 x1 x2 x3 x4 x5 (ix2 m c)
    = ∑ r, memoryTerm (entries x0) (entries x1) (gains x2) (entries x3) (entries x4) (entries x5) m c r := by
  have hc := c.isLt
  unfold val_main_v88
  by_cases hl : c.val < 1024
  · have e : ∀ h : Shape.Concatenates [S256x1024, S256x1024] S256x2048 1, concatenate S256x2048 1 [⟨S256x1024, val_main_v87 (F := Ideal) x0 x1 x2 x3 x4 x5⟩,
        ⟨S256x1024, val_main_v86 (F := Ideal) x0 x1 x2 x3 x4 x5⟩] h (ix2 m c)
        = val_main_v87 (F := Ideal) x0 x1 x2 x3 x4 x5 (ix2 m ⟨c.val, hl⟩) := fun h =>
      concatenate_pair_apply_left (t := S256x2048) (s₁ := S256x1024) (s₂ := S256x1024) 1 _ _ h (ix2 m c) rfl (ix2 m ⟨c.val, hl⟩) fun b => by
        match b with
        | ⟨0, _⟩ => rfl
        | ⟨1, _⟩ => rfl
    rw [e, keys_at]
    exact Finset.sum_congr rfl fun r _ => by unfold memoryTerm; rw [dif_pos hl]
  · have e : ∀ h : Shape.Concatenates [S256x1024, S256x1024] S256x2048 1, concatenate S256x2048 1 [⟨S256x1024, val_main_v87 (F := Ideal) x0 x1 x2 x3 x4 x5⟩,
        ⟨S256x1024, val_main_v86 (F := Ideal) x0 x1 x2 x3 x4 x5⟩] h (ix2 m c)
        = val_main_v86 (F := Ideal) x0 x1 x2 x3 x4 x5 (ix2 m ⟨c.val - 1024, by omega⟩) := fun h =>
      concatenate_pair_apply_right (t := S256x2048) (s₁ := S256x1024) (s₂ := S256x1024) 1 _ _ h (ix2 m c) rfl rfl (ix2 m ⟨c.val - 1024, by omega⟩)
        (fun b hb => by
          match b, hb with
          | ⟨0, _⟩, _ => rfl
          | ⟨1, _⟩, hb => exact absurd rfl hb)
        (by show c.val - 1024 + 1024 = c.val; omega)
    rw [e, values_at]
    exact Finset.sum_congr rfl fun r _ => by unfold memoryTerm; rw [dif_neg hl]

/-! ## The queries' gradient, and what follows from it -/

theorem dQuery_at (s : Fin 4096) (j : Fin 1024) : val_main_v89 (F := Ideal) x0 x1 x2 x3 x4 x5 (ix2 s j)
    = dQuery (entries x0) (entries x1) (gains x2) (entries x3) (entries x4) (entries x5) s j := by
  have hj := j.isLt
  have e : idx_main_v85 (idx_main_v89 (ix2 s j)) = ix3 (headOf j) s (within j) := ext3
    (by show (s.val * 1024 + j.val) / 256 % 4 = j.val / 256; omega)
    (by show (s.val * 1024 + j.val) / 1024 = s.val; omega)
    (by show (s.val * 1024 + j.val) % 256 = j.val % 256; omega)
  rw [val_main_v89_apply, val_main_v85_apply, e, val_main_v84_apply]
  refine Finset.sum_congr rfl fun m _ => ?_
  have el : lidx_main_v84 (ix3 (headOf j) s (within j)) m = ix3 (headOf j) s m := eq_ix3 _
  have er : ridx_main_v84 (ix3 (headOf j) s (within j)) m = ix3 m (headOf j) (within j) := eq_ix3 _
  rw [el, er, dScore_at, head_key]

theorem weight_at (i j : Fin 1024) : val_main_v91 (F := Ideal) x0 x1 x2 x3 x4 x5 (ix2 i j)
    = ∑ r, queryTerm (entries x0) (entries x1) (gains x2) (entries x3) (entries x4) (entries x5) i j r := by
  have e : idx_main_v91 (ix2 i j) = ix2 j i := eq_ix2 _
  rw [val_main_v91_apply, e, val_main_v90_apply]
  refine Finset.sum_congr rfl fun r _ => ?_
  have el : lidx_main_v90 (ix2 j i) r = ix2 r j := eq_ix2 _
  have er : ridx_main_v90 (ix2 j i) r = ix2 r i := eq_ix2 _
  rw [el, er, dQuery_at, normed_at]
  exact mul_comm (G := EReal) _ _

abbrev through (s : Fin 4096) (i : Fin 1024) : EReal :=
  dNormed (entries x0) (entries x1) (gains x2) (entries x3) (entries x4) (entries x5) s i

theorem dNormed_at (s : Fin 4096) (i : Fin 1024) :
    val_main_v92 (F := Ideal) x0 x1 x2 x3 x4 x5 (ix2 s i) = through x0 x1 x2 x3 x4 x5 s i := by
  rw [val_main_v92_apply]
  refine Finset.sum_congr rfl fun k _ => ?_
  have el : lidx_main_v92 (ix2 s i) k = ix2 s k := eq_ix2 _
  have er : ridx_main_v92 (ix2 s i) k = ix2 i k := eq_ix2 _
  rw [el, er, dQuery_at]
  rfl

theorem gain_at (i : Fin 1024) : val_main_v95 (F := Ideal) x0 x1 x2 x3 x4 x5 (ix2 0 i)
    = ∑ r, gainTerm (entries x0) (entries x1) (gains x2) (entries x3) (entries x4) (entries x5) i r := by
  have e : idx_main_v95 (ix2 0 i) = ix1 i := by
    funext a
    match a with
    | ⟨0, _⟩ => exact Fin.ext (by show 0 * 1024 + i.val = i.val; omega)
  rw [val_main_v95_apply, e, val_main_v94_apply]
  refine (congrArg₂ (fun a b : EReal => a + b) ofBits_zero (Finset.sum_congr rfl fun r _ => ?_)).trans (zero_add _)
  have ek : idx_main_v94 (ix1 i) r = ix2 r i := eq_ix2 _
  rw [ek, val_main_v93_apply, unit_at, dNormed_at]
  rfl

theorem scaled_at (s : Fin 4096) (i : Fin 1024) :
    val_main_v97 (F := Ideal) x0 x1 x2 x3 x4 x5 (ix2 s i) = through x0 x1 x2 x3 x4 x5 s i * gains x2 i := by
  have e : idx_main_v96 (ix2 s i) = ix2 0 i := eq_ix2 _
  rw [val_main_v97_apply, dNormed_at, val_main_v96_apply, e]
  rfl

theorem spread_at (s : Fin 4096) : val_main_v107 (F := Ideal) x0 x1 x2 x3 x4 x5 (ix1 s)
    = spread (entries x0) (entries x1) (gains x2) (entries x3) (entries x4) (entries x5) s := by
  have e1 : idx_main_v107 (ix1 s) 0 = ix2 s 0 := eq_ix2 _
  have e2 : idx_main_v100 (ix2 s 0) = ix1 s := by
    funext a
    match a with
    | ⟨0, _⟩ => exact Fin.ext (by show s.val * 1 + 0 = s.val; omega)
  have sum : val_main_v99 (F := Ideal) x0 x1 x2 x3 x4 x5 (ix1 s)
      = ∑ i, entries x0 s i * (through x0 x1 x2 x3 x4 x5 s i * gains x2 i) := by
    rw [val_main_v99_apply]
    refine (congrArg₂ (fun a b : EReal => a + b) ofBits_zero (Finset.sum_congr rfl fun i _ => ?_)).trans (zero_add _)
    have ek : idx_main_v99 (ix1 s) i = ix2 s i := eq_ix2 _
    rw [ek, val_main_v98_apply, scaled_at]
    rfl
  rw [val_main_v107_apply, Fin.sum_univ_one, e1, val_main_v106_apply, val_main_v104_apply, val_main_v100_apply, e2, sum,
    val_main_v12_apply, val_main_v11_apply, val_main_v10_apply, root_at, square_at, val_main_v105_apply]
  exact (congrArg (fun a : EReal => a + _) ofBits_zero).trans (zero_add _)

theorem row_at (s : Fin 4096) (d : Fin 1024) : val_main_v112 (F := Ideal) x0 x1 x2 x3 x4 x5 (ix2 s d)
    = dRow (entries x0) (entries x1) (gains x2) (entries x3) (entries x4) (entries x5) s d := by
  have e1 : idx_main_v108 (ix2 s d) = ix1 s := eq_ix1 _
  have e2 : idx_main_v101 (ix2 s d) = ix2 s 0 := eq_ix2 _
  rw [val_main_v112_apply, val_main_v110_apply, val_main_v111_apply, val_main_v109_apply, val_main_v108_apply, e1, spread_at,
    val_main_v103_apply, val_main_v102_apply, scaled_at, val_main_v101_apply, e2, root_at]
  rfl

end Cert.Reference10Ideal.Read
-- ==== Proof.CrossClaim.lean ====
/-
  The claims about the cross-attention's backward call (program 10). Its gradients are the plain program's where the
  values, the output weights and the incoming gradient are finite.
-/
module

public import proofs.«01_k».proof.Proof.CrossArrays
public import proofs.«01_k».proof.Proof.CrossPlain
public import proofs.«01_k».proof.Proof.Gen.Kernel10
public import proofs.«01_k».proof.Proof.Gen.Kernel10.Frame
public import proofs.«01_k».proof.Proof.Gen.Kernel10Ideal
public import proofs.«01_k».proof.Proof.Gen.Kernel10Ideal.Frame
public import proofs.«01_k».proof.Proof.Gen.Kernel10Ideal.Value
public import proofs.«01_k».proof.Proof.Gen.Kernel10Ideal.Skeleton
public import proofs.«01_k».proof.Proof.Gen.Reference10Ideal
public import proofs.«01_k».proof.Proof.Gen.Reference10Ideal.Run
public import proofs.«01_k».proof.Proof.Gen.Reference10Ideal.Read
public import proofs.«01_k».proof.Defs

@[expose] public section

set_option maxRecDepth 16384

noncomputable section

open Idealize.ShloMosaic Idealize.ShloMosaic.TcCoe Idealize.ShloMosaic.ValueIdx Idealize.SL.Sem
open scoped BigOperators

namespace Cert.Cross

/-! ## The precondition -/

theorem finite_facts : Cert.Pre_finite.Facts where
  slices_S256x2048_S256x1024_0_1024 := by decide
  bcast_S_S256x1024 := by decide
  bitsLt_bf16_f32 := by decide
  bcast_S_S1024x1024 := by decide
  bcast_S_S4096x1024 := by decide

/-- A value whose absolute value lies below the greatest one is a real number. -/
theorem real_of_lt {a : EReal} (h : Ideal.cmp .olt (max a (-a)) (Ideal.ofBits .f32 0x7F800000#32) = 1#1) : IsReal a := by
  rw [greatest_f32] at h
  have hlt : max a (-a) < ⊤ := by
    by_contra hn
    have e : Ideal.cmp .olt (max a (-a)) ⊤ = BitVec.ofBool (decide (max a (-a) < ⊤)) := rfl
    rw [e, decide_eq_false hn] at h
    exact absurd h (by decide)
  have ht : a ≠ ⊤ := fun e => by rw [e] at hlt; simp at hlt
  have hb : a ≠ ⊥ := fun e => by rw [e] at hlt; simp at hlt
  exact ⟨a.toReal, (EReal.coe_toReal ht hb).symm⟩

section
open Cert.Kernel10Ideal Cert.Cross.Arrays Cert.Attend
open Cert.Dense (idx_ext)

/-- The precondition: the values, the output weights and the incoming gradient are real numbers. -/
theorem finite_args (m : (ℓ : Loc nD τ sig) → Buf (Elt Ideal) ℓ) (c : Dev nD)
    (h : Cert.Pre_Kernel10Ideal_finite (hPre_finite := finite_facts) m) : FiniteArgs m c := by
  obtain ⟨hv, ho, hd⟩ := h c
  refine ⟨fun n h d => ?_, fun i j => real_of_lt (congrFun ho (ix2 i j)), fun r d => real_of_lt (congrFun hd (ix2 r d))⟩
  have e := congrFun hv (ix2 n (hcol h d))
  have hs : ∀ (x : FVec Ideal S256x2048 .f32) (w : S256x2048.Slices ![0, 1024] Cert.Pre_finite.S256x1024),
      extractStridedSlice Cert.Pre_finite.S256x1024 ![0, 1024] x w (ix2 n (hcol h d)) = x (ix2 n (vcol h d)) := fun x w =>
    congrArg x (idx_ext (Nat.zero_add _) rfl)
  refine real_of_lt (Eq.trans (congrArg (fun a : EReal => Ideal.cmp .olt (max a (-a)) _) (hs _ _).symm) e)

end

/-! ## The claims -/

theorem kernel_frame10 : Cert.quiescent_Kernel10 (hKernel10 := Cert.Kernel10.Gen.facts) := fun m ρ _ => Cert.Kernel10.Gen.frame m ρ

theorem ideal_frame10 : Cert.quiescent_Kernel10Ideal (hKernel10Ideal := Cert.Kernel10Ideal.Gen.facts) :=
  fun m ρ _ => Cert.Kernel10Ideal.Gen.frame m ρ

theorem ideal_frame10_finite : Cert.quiescent_Kernel10Ideal_pre_finite (hKernel10Ideal := Cert.Kernel10Ideal.Gen.facts)
    (hPre_finite := finite_facts) :=
  fun m ρ _ => Cert.Kernel10Ideal.Gen.frame m ρ

theorem reference_frame10 : Cert.quiescent_Reference10Ideal (hReference10Ideal := Cert.Reference10Ideal.Gen.facts) := fun m ρ _ =>
  (θ_run Cert.Reference10Ideal.defs _ _).mono (fun r h => ⟨fun c => (h c).2.2.2.2.2, sem_eq_zero_of_no_sems (by decide) r.2⟩)
    (Cert.Reference10Ideal.Value.run (F := Ideal) m ρ)

theorem reference_frame10_finite : Cert.quiescent_Reference10Ideal_pre_finite
    (hReference10Ideal := Cert.Reference10Ideal.Gen.facts) (hPre_finite := finite_facts) :=
  fun m ρ _ => reference_frame10 m ρ trivial

theorem same_results10 : Cert.algebraic_Kernel10Ideal_Reference10Ideal_pre_finite
    (hKernel10Ideal := Cert.Kernel10Ideal.Gen.facts) (hReference10Ideal := Cert.Reference10Ideal.Gen.facts)
    (hPre_finite := finite_facts) := by
  intro m ρ m' ρ' hpre hagree
  refine ⟨_, _, _, _, _, Cert.Kernel10Ideal.Value.run_blocks (F := Ideal) m ρ, ?_⟩
  refine (θ_run Cert.Reference10Ideal.defs _ _).mono (fun _ h c => ?_) (Cert.Reference10Ideal.Value.run (F := Ideal) m' ρ')
  obtain ⟨hr, hm, hg, hq, ho, hargs⟩ := h c
  obtain ⟨e0, e1, e2, e3, e4, e5⟩ := hagree c
  have A := finite_args m c hpre
  refine ⟨hr.trans ?_, hm.trans ?_, hg.trans ?_, hq.trans ?_, ho.trans ?_, hargs⟩
  · rw [Cert.Reference10Ideal.Read.val_main_v112_eq, e0, e1, e2, e3, e4, e5, Arrays.final_rows m c A]
    exact funext fun i => (congrArg _ (eq_ix2 i)).trans (Cert.Reference10Ideal.Read.row_at _ _ _ _ _ _ _ _)
  · rw [Cert.Reference10Ideal.Read.val_main_v88_eq, e0, e1, e2, e3, e4, e5, Arrays.final_memory m c A]
    exact funext fun i => (congrArg _ (eq_ix2 i)).trans (Cert.Reference10Ideal.Read.memory_at _ _ _ _ _ _ _ _)
  · rw [Cert.Reference10Ideal.Read.val_main_v95_eq, e0, e1, e2, e3, e4, e5, Arrays.final_gain m c A]
    refine funext fun i => ?_
    have e : i = ix2 0 (i 1) := (eq_ix2 i).trans (congrArg (fun z => ix2 z (i 1)) (Subsingleton.elim (α := Fin 1) _ _))
    exact (congrArg _ e).trans (Cert.Reference10Ideal.Read.gain_at _ _ _ _ _ _ _)
  · rw [Cert.Reference10Ideal.Read.val_main_v91_eq, e0, e1, e2, e3, e4, e5, Arrays.final_query m c A]
    exact funext fun i => (congrArg _ (eq_ix2 i)).trans (Cert.Reference10Ideal.Read.weight_at _ _ _ _ _ _ _ _)
  · rw [Cert.Reference10Ideal.Read.val_main_v61_eq, e0, e1, e2, e3, e5, Arrays.final_out m c]
    exact funext fun i => (congrArg _ (eq_ix2 i)).trans (Cert.Reference10Ideal.Read.out_at _ _ _ _ _ _ _)

end Cert.Cross
-- ==== Proof.NormMath.lean ====
/-
  The mathematics of the root-mean-square norm's gradients and of the loss head: a row's gradient, a row's part in the
  gains' gradient, and the squared error's sum, which may be halved tile by tile.
-/
module

public import proofs.«01_k».proof.Proof.CrossMath

@[expose] public section

set_option maxRecDepth 16384

noncomputable section

open Idealize.ShloMosaic Idealize.ShloMosaic.ValueIdx
open scoped BigOperators

namespace Cert.Norm

open Cert.Attend Cert.Cross

section Grads
variable {ι : Type} (x : ι → Fin 1024 → EReal) (g : Fin 1024 → EReal) (dh : ι → Fin 1024 → EReal)

/-- The mean square's share of a row's gradient. -/
def share (r : ι) : EReal :=
  Ideal.div ((∑ i, x r i * (dh r i * g i)) * (half * Ideal.div (root x r) (square x r))) width

/-- The gradient of a row through the norm, and with another gradient `dx` of the row added before it. -/
def dNorm (r : ι) (d : Fin 1024) : EReal := dh r d * g d * root x r + x r d * share x g dh r + share x g dh r * x r d
def dStream (dx : ι → Fin 1024 → EReal) (r : ι) (d : Fin 1024) : EReal :=
  dx r d + dh r d * g d * root x r + x r d * share x g dh r + share x g dh r * x r d

/-- One row's part in the gains' gradient. -/
def gainPart (i : Fin 1024) (r : ι) : EReal := unit x r i * dh r i

/-- The normed row times a weight, and one row's part in the weight's gradient; the normed row's gradient. -/
def through {n : ℕ} (w : Fin 1024 → Fin n → EReal) (r : ι) (c : Fin n) : EReal := ∑ k, normed x g r k * w k c
def weightPart {n : ℕ} (dy : ι → Fin n → EReal) (k : Fin 1024) (c : Fin n) (r : ι) : EReal := normed x g r k * dy r c
def back {n : ℕ} (w : Fin 1024 → Fin n → EReal) (dy : ι → Fin n → EReal) (r : ι) (i : Fin 1024) : EReal := ∑ c, dy r c * w i c

end Grads

/-! ## The loss -/

def oneHalf : EReal := Ideal.ofBits .f32 0x3F000000#32
def two : EReal := Ideal.ofBits .f32 0x40000000#32
def one : EReal := Ideal.ofBits .f32 0x3F800000#32

theorem oneHalf_eq : oneHalf = ((1 / 2 : ℝ) : EReal) := by
  unfold oneHalf
  simp [Ideal.ofBits, Ideal.ieee, -EReal.coe_mul]; norm_num

theorem two_eq : two = ((2 : ℝ) : EReal) := by
  unfold two
  simp [Ideal.ofBits, Ideal.ieee, -EReal.coe_mul]; norm_num

/-- Half a sum is the sum of the halves. -/
theorem half_sum {n : ℕ} (f : Fin n → EReal) : oneHalf * ∑ i, f i = ∑ i, oneHalf * f i := by
  classical
  have h0 : (0 : EReal) ≤ oneHalf := by rw [oneHalf_eq]; exact_mod_cast (by norm_num : (0 : ℝ) ≤ 1 / 2)
  have ht : oneHalf ≠ ⊤ := by rw [oneHalf_eq]; exact EReal.coe_ne_top _
  refine Finset.induction_on (Finset.univ : Finset (Fin n)) (by simp) fun a s ha ih => ?_
  rw [Finset.sum_insert ha, Finset.sum_insert ha, EReal.left_distrib_of_nonneg_of_ne_top h0 ht, ih]

theorem two_mul_eq (a : EReal) : two * a = a + a := by
  rw [two_eq]
  induction a with
  | bot => rw [EReal.coe_mul_bot_of_pos (by norm_num)]; rfl
  | coe r => rw [← EReal.coe_mul, ← EReal.coe_add, two_mul]
  | top => rw [EReal.coe_mul_top_of_pos (by norm_num)]; rfl

theorem doubled (c e : EReal) : c * (two * e) = e * c + c * e := by
  rw [mul_left_comm, two_mul_eq, mul_comm e c]

section Loss
variable {ι : Type} (x tgt : ι → Fin 1024 → EReal) (g : Fin 1024 → EReal)

def err (r : ι) (d : Fin 1024) : EReal := normed x g r d - tgt r d

/-- A row's mean squared error, and half of it. -/
def rowLoss (r : ι) : EReal := Ideal.div (∑ d, err x tgt g r d * err x tgt g r d) width
def lossPart (r : ι) : EReal := oneHalf * rowLoss x tgt g r

/-- The gradient of the normed rows. -/
def perEntry : EReal := Ideal.div (oneHalf * one) width
def dErr (r : ι) (d : Fin 1024) : EReal := err x tgt g r d * perEntry + perEntry * err x tgt g r d

end Loss

end Cert.Norm
-- ==== Proof.NormBody.lean ====
/-
  The bodies of the memory's projection (programs 11 and 12), of the norm (13 and 14) and of the loss head (15), each
  read at an entry. Their norms are the cross-attention's, step by step.
-/
module

public import proofs.«01_k».proof.Proof.NormMath
public import proofs.«01_k».proof.Proof.CrossTile
public import proofs.«01_k».proof.Proof.Gen.Kernel11Ideal.Skeleton
public import proofs.«01_k».proof.Proof.Gen.Kernel12Ideal.Skeleton
public import proofs.«01_k».proof.Proof.Gen.Kernel13Ideal.Skeleton
public import proofs.«01_k».proof.Proof.Gen.Kernel14Ideal.Skeleton

@[expose] public section

set_option maxRecDepth 16384

noncomputable section

open Idealize.ShloMosaic Idealize.ShloMosaic.ValueIdx
open scoped BigOperators

/-! ## The memory's projection -/

namespace Cert.Norm.Forward

open Cert.Kernel11Ideal Cert.Kernel11Ideal.Gen Cert.Attend Cert.Products Cert.Norm
open Cert.Attend.Body (gain)

variable (x : Vec Ideal S256x1024 .f32) (g : Vec Ideal S1x1024 .f32) (w : Vec Ideal S1024x2048 .bf16)

theorem tile_at (r : Fin 256) (c : Fin 2048) : k0_pay1 x g w (ix2 r c) = through (entries x) (gain g) (entries w) r c :=
  (rows_cols (φ₂ := .bf16) _ _ _ r c).trans (Finset.sum_congr rfl fun k _ =>
    congrArg (fun a : EReal => a * w (ix2 k c)) (Cert.Cross.Body.normed_at x g r k))

end Cert.Norm.Forward

namespace Cert.Norm.Backward

open Cert.Kernel12Ideal Cert.Kernel12Ideal.Gen Cert.Attend Cert.Cross Cert.Products Cert.Norm
open Cert.Attend.Body (gain)

variable (x : Vec Ideal S256x1024 .f32) (g : Vec Ideal S1x1024 .f32) (w : Vec Ideal S1024x2048 .bf16) (dy : Vec Ideal S256x2048 .f32)

theorem weight_at (k : Fin 1024) (c : Fin 2048) : k0_pay3 x g dy (ix2 k c)
    = ∑ r, weightPart (entries x) (gain g) (entries dy) k c r :=
  (cols_cols (φ₁ := .bf16) (φ₂ := .bf16) _ _ _ k c).trans (Finset.sum_congr rfl fun r _ =>
    congrArg (fun a : EReal => a * dy (ix2 r c)) (Cert.Cross.Body.normed_at x g r k))

theorem gain_at (i : Fin 1024) : k0_pay4 x w dy (ix2 0 i)
    = ∑ r, gainPart (entries x) (back (entries w) (entries dy)) i r := by
  refine (Cert.Cross.Body.column_sum (mulf (φ := .f32) (k0_pay2 x) (matmul (φ₁ := .bf16) (φ₂ := .bf16)
    dot_S256x2048_S1024x2048_S256x1024_1_1_0_0_n_n none (truncf .bf16 dy bitsLt_bf16_f32) w (constant S256x1024 .f32 0x00000000#32)))
    _ _ (.inl rfl) rfl i).trans (Finset.sum_congr rfl fun r _ => ?_)
  exact congrArg₂ (fun a b : EReal => a * b) (Cert.Cross.Body.unit_at x r i) (rows_rows (φ₁ := .bf16) (φ₂ := .bf16) _ _ _ r i)

end Cert.Norm.Backward

/-! ## The norm -/

namespace Cert.Norm.Rows

open Cert.Kernel13Ideal Cert.Kernel13Ideal.Gen Cert.Attend
open Cert.Attend.Body (gain)

theorem tile_at (x : Vec Ideal S256x1024 .f32) (g : Vec Ideal S1x1024 .f32) (r : Fin 256) (d : Fin 1024) :
    k0_pay1 x g (ix2 r d) = normed (entries x) (gain g) r d := Cert.Cross.Body.normed_at x g r d

end Cert.Norm.Rows

namespace Cert.Norm.Stream

open Cert.Kernel14Ideal Cert.Kernel14Ideal.Gen Cert.Attend Cert.Cross Cert.Norm
open Cert.Attend.Body (gain row_along row_sum)
open Cert.Cross.Body (col_along col_cast thin_sum)

variable (x : Vec Ideal S256x1024 .f32) (g : Vec Ideal S1x1024 .f32) (dh dx : Vec Ideal S256x1024 .f32)

/-- The gradient of the normed rows times the gains. -/
abbrev scaled : FVec Ideal S256x1024 .f32 := mulf (φ := .f32) dh (broadcastTo S256x1024 g broadcasts_S1x1024_S256x1024)

theorem scaled_at (r : Fin 256) (d : Fin 1024) : scaled g dh (ix2 r d) = entries dh r d * gain g d :=
  congrArg (fun a : EReal => dh (ix2 r d) * a) (broadcastTo_1b_ab_apply g _ r d)

/-- The mean square's share, a column. -/
abbrev shareTile : FVec Ideal S256x1 .f32 :=
  divf (φ := .f32) (mulf (φ := .f32) (shapeCast S256x1 (multiReduction .add [1] S256 (mulf (φ := .f32) x (scaled g dh)) 0x00000000#32
      reduces_S256x1024_S256 (.inl rfl) rfl) shapeCasts_S256_S256x1)
    (mulf (φ := .f32) (broadcast S256x1 (Scalar.ofBits .f32 0xBF000000#32 : Ideal .f32)) (divf (φ := .f32) (k0_pay3 x) (k0_pay2 x))))
    (broadcast S256x1 (Scalar.ofBits .f32 0x44800000#32 : Ideal .f32))

theorem share_at (r : Fin 256) : shareTile x g dh (ix2 r 0) = share (entries x) (gain g) (entries dh) r :=
  congrArg₂ (fun a b : EReal => Ideal.div (a * b) width) ((col_cast _ _ r).trans ((row_sum _ _ _ _ r).trans
    (Finset.sum_congr rfl fun i _ => congrArg (fun a : EReal => x (ix2 r i) * a) (scaled_at g dh r i)))) (Cert.Cross.Body.half_at x r)

theorem row_at (r : Fin 256) (d : Fin 1024) : k0_pay5 x g dh dx (ix2 r d)
    = dStream (entries x) (gain g) (entries dh) (entries dx) r d := by
  have along := fun (h : S256.ShapeCasts S256x1) (h' : S256x1.Broadcasts S256x1024) (h0 : S256x1.Reduces [1] S256) (h1 : FKind.Formats .f32)
      (h2 : (0x00000000#32 : BitVec 32) = FKind.add.neutral .f32 h1) =>
    (row_along (multiReduction .add [1] S256 (shareTile x g dh) 0x00000000#32 h0 h1 h2) h h' r d).trans
      ((thin_sum _ h0 h1 h2 r).trans (share_at x g dh r))
  exact congrArg₂ (fun a b : EReal => a + b) (congrArg₂ (fun a b : EReal => a + b)
    (congrArg₂ (fun a b : EReal => dx (ix2 r d) + a * b) (scaled_at g dh r d) ((col_along _ _ r d).trans (Cert.Cross.Body.root_at x r)))
    (congrArg (fun a : EReal => x (ix2 r d) * a) (along _ _ _ _ _))) (congrArg (fun a : EReal => a * x (ix2 r d)) (along _ _ _ _ _))

theorem gain_at (i : Fin 1024) : k0_pay4 x dh (ix2 0 i) = ∑ r, gainPart (entries x) (entries dh) i r :=
  (Cert.Cross.Body.column_sum (mulf (φ := .f32) (Cert.Kernel10Ideal.Gen.k0_pay5 x) dh) _ _ (.inl rfl) rfl i).trans
    (Finset.sum_congr rfl fun r _ => congrArg (fun a : EReal => a * dh (ix2 r i)) (Cert.Cross.Body.unit_at x r i))

end Cert.Norm.Stream
-- ==== Proof.NormLeaves.lean ====
/-
  What one grid point of the memory's backward call (program 12), of the norm's (14) and of the loss head (15) leaves
  in its output buffers. The first point stores its tiles; a later point adds to the buffers that are summed.
-/
module

public import proofs.«01_k».proof.Proof.NormMath
public import proofs.«01_k».proof.Proof.Opened
public import proofs.«01_k».proof.Proof.Gen.Kernel12Ideal.Frame
public import proofs.«01_k».proof.Proof.Gen.Kernel14Ideal.Frame
public import proofs.«01_k».proof.Proof.Gen.Kernel15Ideal.Frame

@[expose] public section

set_option maxRecDepth 16384
set_option maxHeartbeats 2000000

noncomputable section

open Idealize.ShloMosaic Idealize.ShloMosaic.TcCoe Idealize.SL.Sem

namespace Cert.Norm.Backward

open Cert.Kernel12Ideal Cert.Kernel12Ideal.Gen
open Cert.KernelIdeal.Value (hz2)

variable (m : (ℓ : Loc nD τ sig) → Buf (Elt Ideal) ℓ)

theorem outs_only (c : Dev nD) (t : Fin cfg0.N) : outsAt0 m c t
    = (k0_pay4 (iblk m c 0 t) (iblk m c 2 t) (iblk m c 3 t), k0_pay3 (iblk m c 0 t) (iblk m c 1 t) (iblk m c 3 t)) := by
  refine congrArg₂ Prod.mk ((View.read_writes_eq_canon _ _ _ fun y => cover0_A_4 _ _ _ _ _ _ _ _ _ _ _ _ _ _ _ _ _ _ _ _ _ _ y).trans ?_)
    ((View.read_writes_eq_canon _ _ _ fun y => cover0_A_5 _ _ _ _ _ _ _ _ _ _ _ _ _ _ _ _ _ _ _ _ _ _ y).trans ?_)
  all_goals
    unfold kernelRun0_A
    dsimp only
    sl_unfold_words
    simp only [View.canon_unit_zero (S := S1x1024) hz2, View.canon_unit_zero (S := S1024x2048) hz2,
      View.readAt_eq_ld, (hs0_0 t).read_unread, (hs0_1 t).read_unread, (hs0_2 t).read_unread, (hs0_3 t).read_unread,
      View.ld_unit_zero (S := S256x1024) hz2, View.ld_unit_zero (S := S1x1024) hz2, View.ld_unit_zero (S := S1024x2048) hz2, View.ld_unit_zero (S := S256x2048) hz2]

end Cert.Norm.Backward

namespace Cert.Norm.Stream

open Cert.Kernel14Ideal Cert.Kernel14Ideal.Gen
open Cert.KernelIdeal.Value (hz2)

variable (m : (ℓ : Loc nD τ sig) → Buf (Elt Ideal) ℓ)

theorem lt_N (t : Fin cfg0.N) : t.val < 16 := lt_of_lt_of_eq t.isLt N_0

/-- The point's tiles. -/
abbrev rowsAt (c : Dev nD) (t : Fin cfg0.N) : FVec Ideal S256x1024 .f32 :=
  k0_pay5 (iblk m c 0 t) (iblk m c 1 t) (iblk m c 2 t) (iblk m c 3 t)
abbrev gainAt (c : Dev nD) (t : Fin cfg0.N) : FVec Ideal S1x1024 .f32 := k0_pay4 (iblk m c 0 t) (iblk m c 2 t)

theorem outs_first (c : Dev nD) (t : Fin cfg0.N) (h : t.val = 0) : outsAt0 m c t.val t.isLt = (rowsAt m c t, gainAt m c t) := by
  rw [outsAt0_A m c t (by omega) (by omega)]
  refine congrArg₂ Prod.mk ((View.read_writes_eq_canon _ _ _ fun y => cover0_A_4 _ _ _ _ _ _ _ _ _ _ _ _ _ _ _ _ _ _ _ _ y).trans ?_)
    ((View.read_writes_eq_canon _ _ _ fun y => cover0_A_5 _ _ _ _ _ _ _ _ _ _ _ _ _ _ _ _ _ _ _ _ y).trans ?_)
  all_goals
    unfold kernelRun0_A
    dsimp only
    sl_unfold_words
    simp only [View.canon_unit_zero (S := S256x1024) hz2, View.canon_unit_zero (S := S1x1024) hz2,
      View.readAt_eq_ld, (hs0_0 t).read_unread, (hs0_1 t).read_unread, (hs0_2 t).read_unread, (hs0_3 t).read_unread,
      View.ld_unit_zero (S := S256x1024) hz2, View.ld_unit_zero (S := S1x1024) hz2]

theorem outs_later (c : Dev nD) (t : Fin cfg0.N) (h : t.val ≠ 0) : outsAt0 m c t.val t.isLt = (rowsAt m c t,
    k0_pay1 (gainAt m c t) (outsAt0 m c (t.val - 1) (Nat.lt_of_le_of_lt (Nat.sub_le _ _) t.isLt)).2) := by
  have hN := lt_N t
  rw [outsAt0_B m c t (by omega) (by omega)]
  refine congrArg₂ Prod.mk ((View.read_writes_eq_canon _ _ _ fun y => cover0_B_4 _ _ _ _ _ _ _ _ _ _ _ _ _ _ _ _ _ _ _ _ _ y).trans ?_)
    ((View.read_writes_eq_canon _ _ _ fun y => cover0_B_5 _ _ _ _ _ _ _ _ _ _ _ _ _ _ _ _ _ _ _ _ _ y).trans ?_)
  all_goals
    unfold kernelRun0_B
    dsimp only
    sl_unfold_words
    simp only [View.canon_unit_zero (S := S256x1024) hz2, View.canon_unit_zero (S := S1x1024) hz2,
      View.readAt_eq_ld, (hs0_0 t).read_unread, (hs0_1 t).read_unread, (hs0_2 t).read_unread, (hs0_3 t).read_unread, (hs0_5 t).read_unread,
      View.ld_unit_zero (S := S256x1024) hz2, View.ld_unit_zero (S := S1x1024) hz2]

end Cert.Norm.Stream

namespace Cert.Norm.Loss

open Cert.Kernel15Ideal Cert.Kernel15Ideal.Gen
open Cert.KernelIdeal.Value (hz2)

variable (m : (ℓ : Loc nD τ sig) → Buf (Elt Ideal) ℓ)

theorem lt_N (t : Fin cfg0.N) : t.val < 16 := lt_of_lt_of_eq t.isLt N_0

section Tiles
variable (x tgt : Vec Ideal S256x1024 .f32) (g : Vec Ideal S1x1024 .f32)

/-- A tile's half of the squared error, in one entry; the rows' gradient; the gains'. -/
abbrev lossTile : FVec Ideal S1x1 .f32 := k0_pay12 x tgt g
abbrev rowTile : FVec Ideal S256x1024 .f32 := k0_pay3 x g (k0_pay8 x) (k0_pay9 x) (k0_pay11 x tgt g) k0_pay13
abbrev gainTile : FVec Ideal S1x1024 .f32 := k0_pay2 (k0_pay10 x) (k0_pay11 x tgt g) k0_pay13

end Tiles

/-- The point's tiles. -/
abbrev lossAt (c : Dev nD) (t : Fin cfg0.N) : FVec Ideal S1x1 .f32 := lossTile (iblk m c 0 t) (iblk m c 1 t) (iblk m c 2 t)
abbrev rowsAt (c : Dev nD) (t : Fin cfg0.N) : FVec Ideal S256x1024 .f32 := rowTile (iblk m c 0 t) (iblk m c 1 t) (iblk m c 2 t)
abbrev gainAt (c : Dev nD) (t : Fin cfg0.N) : FVec Ideal S1x1024 .f32 := gainTile (iblk m c 0 t) (iblk m c 1 t) (iblk m c 2 t)

theorem outs_first (c : Dev nD) (t : Fin cfg0.N) (h : t.val = 0) :
    outsAt0 m c t.val t.isLt = (k0_pay4 (lossAt m c t), rowsAt m c t, gainAt m c t) := by
  rw [outsAt0_A m c t (by omega) (by omega)]
  refine congrArg₂ Prod.mk ((View.read_writes_eq_canon _ _ _ fun y => cover0_A_3 _ _ _ _ _ _ _ _ _ _ _ _ _ _ _ _ _ _ _ y).trans ?_)
    (congrArg₂ Prod.mk ((View.read_writes_eq_canon _ _ _ fun y => cover0_A_4 _ _ _ _ _ _ _ _ _ _ _ _ _ _ _ _ _ _ _ y).trans ?_)
    ((View.read_writes_eq_canon _ _ _ fun y => cover0_A_5 _ _ _ _ _ _ _ _ _ _ _ _ _ _ _ _ _ _ _ y).trans ?_))
  all_goals
    unfold kernelRun0_A
    dsimp only
    sl_unfold_words
    simp only [View.canon_unit_zero (S := S1x128) hz2, View.canon_unit_zero (S := S256x1024) hz2, View.canon_unit_zero (S := S1x1024) hz2,
      View.readAt_eq_ld, (hs0_0 t).read_unread, (hs0_1 t).read_unread, (hs0_2 t).read_unread,
      View.ld_unit_zero (S := S256x1024) hz2, View.ld_unit_zero (S := S1x1024) hz2]

theorem outs_later (c : Dev nD) (t : Fin cfg0.N) (h : t.val ≠ 0) : outsAt0 m c t.val t.isLt
    = (k0_pay5 (lossAt m c t) (outsAt0 m c (t.val - 1) (Nat.lt_of_le_of_lt (Nat.sub_le _ _) t.isLt)).1, rowsAt m c t,
      k0_pay6 (k0_pay10 (iblk m c 0 t)) (k0_pay11 (iblk m c 0 t) (iblk m c 1 t) (iblk m c 2 t)) k0_pay13
        (outsAt0 m c (t.val - 1) (Nat.lt_of_le_of_lt (Nat.sub_le _ _) t.isLt)).2.2) := by
  have hN := lt_N t
  rw [outsAt0_B m c t (by omega) (by omega)]
  refine congrArg₂ Prod.mk ((View.read_writes_eq_canon _ _ _ fun y => cover0_B_3 _ _ _ _ _ _ _ _ _ _ _ _ _ _ _ _ _ _ _ _ _ y).trans ?_)
    (congrArg₂ Prod.mk ((View.read_writes_eq_canon _ _ _ fun y => cover0_B_4 _ _ _ _ _ _ _ _ _ _ _ _ _ _ _ _ _ _ _ _ _ y).trans ?_)
    ((View.read_writes_eq_canon _ _ _ fun y => cover0_B_5 _ _ _ _ _ _ _ _ _ _ _ _ _ _ _ _ _ _ _ _ _ y).trans ?_))
  all_goals
    unfold kernelRun0_B
    dsimp only
    sl_unfold_words
    simp only [View.canon_unit_zero (S := S1x128) hz2, View.canon_unit_zero (S := S256x1024) hz2, View.canon_unit_zero (S := S1x1024) hz2,
      View.readAt_eq_ld, (hs0_0 t).read_unread, (hs0_1 t).read_unread, (hs0_2 t).read_unread, (hs0_3 t).read_unread, (hs0_5 t).read_unread,
      View.ld_unit_zero (S := S256x1024) hz2, View.ld_unit_zero (S := S1x1024) hz2, View.ld_unit_zero (S := S1x128) hz2]

end Cert.Norm.Loss
-- ==== Proof.LossBody.lean ====
/-
  The body of the loss head (program 15), read at an entry: half the mean squared error of the normed rows, its
  gradient, and the norm's gradients from it.
-/
module

public import proofs.«01_k».proof.Proof.NormMath
public import proofs.«01_k».proof.Proof.CrossTile
public import proofs.«01_k».proof.Proof.NormLeaves
public import proofs.«01_k».proof.Proof.Gen.Kernel15Ideal.Skeleton

@[expose] public section

set_option maxRecDepth 16384

noncomputable section

open Idealize.ShloMosaic Idealize.ShloMosaic.ValueIdx
open scoped BigOperators

namespace Cert.Norm.Loss

open Cert.Kernel15Ideal Cert.Kernel15Ideal.Gen Cert.Attend Cert.Cross Cert.Norm
open Cert.Attend.Body (gain row_along row_sum)
open Cert.Cross.Body (col_along col_cast thin_sum)

variable (x tgt : Vec Ideal S256x1024 .f32) (g : Vec Ideal S1x1024 .f32)

theorem err_at (r : Fin 256) (d : Fin 1024) : k0_pay11 x tgt g (ix2 r d) = err (entries x) (entries tgt) (gain g) r d :=
  congrArg (fun a : EReal => a - tgt (ix2 r d)) (Cert.Cross.Body.normed_at x g r d)

/-- A sum over a single entry's two inner axes is that entry. -/
theorem single_sum (u : FVec Ideal S1x1x1 .f32) (h : S1x1x1.Reduces [1, 2] S1) (h1 : FKind.Formats .f32)
    (h2 : (0x00000000#32 : BitVec 32) = FKind.add.neutral .f32 h1) (j : S1.Idx) :
    multiReduction .add [1, 2] S1 u 0x00000000#32 h h1 h2 j = u (ix3 0 0 0) := by
  refine (Ideal.multiReduction_add_total u _ h (fun b => by match b with | ⟨0, _⟩ => rfl) h1 h2 j).trans ?_
  have hall : ∀ i : S1x1x1.Idx, i = ix3 0 0 0 := fun i => funext fun a => by
    match a with
    | ⟨0, _⟩ => exact Subsingleton.elim (α := Fin 1) _ _
    | ⟨1, _⟩ => exact Subsingleton.elim (α := Fin 1) _ _
    | ⟨2, _⟩ => exact Subsingleton.elim (α := Fin 1) _ _
  rw [Finset.sum_congr rfl fun i _ => congrArg u (hall i), Finset.sum_const, Finset.card_univ, Shape.card_idx]
  exact one_nsmul _

theorem perEntry_at (r : Fin 256) : (k0_pay13 : FVec Ideal S256x1 .f32) (ix2 r 0) = perEntry := by
  refine congrArg (fun a : EReal => Ideal.div a width) ?_
  exact single_sum _ _ (.inl rfl) rfl _

theorem dErr_at (r : Fin 256) (d : Fin 1024) :
    k0_pay1 (k0_pay11 x tgt g) k0_pay13 (ix2 r d) = dErr (entries x) (entries tgt) (gain g) r d := by
  have along := fun (h : S256.ShapeCasts S256x1) (h' : S256x1.Broadcasts S256x1024) (h0 : S256x1.Reduces [1] S256) (h1 : FKind.Formats .f32)
      (h2 : (0x00000000#32 : BitVec 32) = FKind.add.neutral .f32 h1) =>
    (row_along (multiReduction .add [1] S256 (k0_pay13 : FVec Ideal S256x1 .f32) 0x00000000#32 h0 h1 h2) h h' r d).trans
      ((thin_sum _ h0 h1 h2 r).trans (perEntry_at r))
  exact congrArg₂ (fun a b : EReal => a + b) (congrArg₂ (fun a b : EReal => a * b) (err_at x tgt g r d) (along _ _ _ _ _))
    (congrArg₂ (fun a b : EReal => a * b) (along _ _ _ _ _) (err_at x tgt g r d))

theorem loss_at : lossTile x tgt g (ix2 0 0) = ∑ r, lossPart (entries x) (entries tgt) (gain g) r := by
  refine Eq.trans ?_ (half_sum (rowLoss (entries x) (entries tgt) (gain g)))
  refine congrArg (fun a : EReal => oneHalf * a) ((shapeCast_a_1a_apply _ _ 0 0).trans
    ((Ideal.multiReduction_add_single _ _ _ _ _ _).trans (Finset.sum_congr rfl fun r _ => ?_)))
  refine congrArg (fun a : EReal => Ideal.div a width) (Eq.trans (congrArg _ (funext fun a => ?_)) ((col_cast _ shapeCasts_S256_S256x1 r).trans
    ((row_sum (mulf (φ := .f32) (k0_pay11 x tgt g) (k0_pay11 x tgt g)) reduces_S256x1024_S256 (.inl rfl) rfl r).trans
      (Finset.sum_congr rfl fun d _ => congrArg₂ (fun a b : EReal => a * b) (err_at x tgt g r d) (err_at x tgt g r d)))))
  match a with
  | ⟨0, _⟩ => rfl
  | ⟨1, _⟩ => rfl

/-- The tile's loss, along the buffer's 128 entries. -/
theorem spread_loss (l : FVec Ideal S1x1 .f32) (j : Fin 128) : k0_pay4 l (ix2 0 j) = l (ix2 0 0) := by
  unfold k0_pay4
  refine (broadcastTo_apply _ _ (ix2 0 j) (ix2 0 0) fun a => ?_).trans (congrFun (shapeCast_self l _) _)
  match a with
  | ⟨0, _⟩ => rfl
  | ⟨1, _⟩ => rfl

abbrev lossGrad : Fin 256 → Fin 1024 → EReal := dErr (entries x) (entries tgt) (gain g)

theorem gain_at (i : Fin 1024) : gainTile x tgt g (ix2 0 i) = ∑ r, gainPart (entries x) (lossGrad x tgt g) i r :=
  (Cert.Cross.Body.column_sum (mulf (φ := .f32) (k0_pay10 x) (k0_pay1 (k0_pay11 x tgt g) k0_pay13)) _ _ (.inl rfl) rfl i).trans
    (Finset.sum_congr rfl fun r _ => congrArg₂ (fun a b : EReal => a * b) (Cert.Cross.Body.unit_at x r i) (dErr_at x tgt g r i))

/-- The gradient of the normed rows times the gains; the mean square's share. -/
abbrev scaled : FVec Ideal S256x1024 .f32 :=
  mulf (φ := .f32) (k0_pay1 (k0_pay11 x tgt g) k0_pay13) (broadcastTo S256x1024 g broadcasts_S1x1024_S256x1024)

theorem scaled_at (r : Fin 256) (d : Fin 1024) : scaled x tgt g (ix2 r d) = lossGrad x tgt g r d * gain g d :=
  congrArg₂ (fun a b : EReal => a * b) (dErr_at x tgt g r d) (broadcastTo_1b_ab_apply g _ r d)

abbrev shareTile : FVec Ideal S256x1 .f32 :=
  divf (φ := .f32) (mulf (φ := .f32) (shapeCast S256x1 (multiReduction .add [1] S256 (mulf (φ := .f32) x (scaled x tgt g)) 0x00000000#32
      reduces_S256x1024_S256 (.inl rfl) rfl) shapeCasts_S256_S256x1) (k0_pay9 x))
    (broadcast S256x1 (Scalar.ofBits .f32 0x44800000#32 : Ideal .f32))

theorem share_at (r : Fin 256) : shareTile x tgt g (ix2 r 0) = share (entries x) (gain g) (lossGrad x tgt g) r :=
  congrArg₂ (fun a b : EReal => Ideal.div (a * b) width) ((col_cast _ _ r).trans ((row_sum _ _ _ _ r).trans
    (Finset.sum_congr rfl fun i _ => congrArg (fun a : EReal => x (ix2 r i) * a) (scaled_at x tgt g r i)))) (Cert.Cross.Body.half_at x r)

theorem row_at (r : Fin 256) (d : Fin 1024) : rowTile x tgt g (ix2 r d) = dNorm (entries x) (gain g) (lossGrad x tgt g) r d := by
  have along := fun (h : S256.ShapeCasts S256x1) (h' : S256x1.Broadcasts S256x1024) (h0 : S256x1.Reduces [1] S256) (h1 : FKind.Formats .f32)
      (h2 : (0x00000000#32 : BitVec 32) = FKind.add.neutral .f32 h1) =>
    (row_along (multiReduction .add [1] S256 (shareTile x tgt g) 0x00000000#32 h0 h1 h2) h h' r d).trans
      ((thin_sum _ h0 h1 h2 r).trans (share_at x tgt g r))
  exact congrArg₂ (fun a b : EReal => a + b) (congrArg₂ (fun a b : EReal => a + b)
    (congrArg₂ (fun a b : EReal => a * b) (scaled_at x tgt g r d) ((col_along _ _ r d).trans (Cert.Cross.Body.root_at x r)))
    (congrArg (fun a : EReal => x (ix2 r d) * a) (along _ _ _ _ _))) (congrArg (fun a : EReal => a * x (ix2 r d)) (along _ _ _ _ _))

end Cert.Norm.Loss
-- ==== Proof.NormArrays.lean ====
/-
  The memory's projection (11, 12), the norm (13, 14) and the loss head (15): their tiles put together. What belongs to
  the rows is stored tile by tile; the loss and the gradients of gains and weights are summed over the tiles.
-/
module

public import proofs.«01_k».proof.Proof.Arrays
public import proofs.«01_k».proof.Proof.Dense
public import proofs.«01_k».proof.Proof.NormBody
public import proofs.«01_k».proof.Proof.LossBody
public import proofs.«01_k».proof.Proof.NormLeaves
public import proofs.«01_k».proof.Proof.Gen.Kernel11Ideal.Frame
public import proofs.«01_k».proof.Proof.Gen.Kernel13Ideal.Frame
public import proofs.«01_k».proof.Proof.Gen.Kernel11Ideal.Value
public import proofs.«01_k».proof.Proof.Gen.Kernel12Ideal.Value
public import proofs.«01_k».proof.Proof.Gen.Kernel13Ideal.Value
public import proofs.«01_k».proof.Proof.Gen.Kernel14Ideal.Value
public import proofs.«01_k».proof.Proof.Gen.Kernel15Ideal.Value

@[expose] public section

set_option maxRecDepth 16384
set_option maxHeartbeats 2000000

noncomputable section

open Idealize.ShloMosaic Idealize.ShloMosaic.TcCoe Idealize.ShloMosaic.ValueIdx Idealize.SL.Sem
open Idealize.ShloMosaic.Pipeline (Dat Window)
open scoped BigOperators

namespace Cert.Norm.Forward

open Cert.Kernel11Ideal Cert.Kernel11Ideal.Gen Cert.Kernel11Ideal.Value Cert.Attend Cert.Cross Cert.Norm
open Cert.Attend.Body (gain)
open Cert.KernelIdeal.Value (at_row)
open Cert.Dense (idx_ext)
open Cert.Merge (row upTo upTo_succ upTo_all)

variable (m : (ℓ : Loc nD τ sig) → Buf (Elt Ideal) ℓ)

theorem place_0 : ∀ t : Fin grid0.N, win0_0.index t 0 = 0 ∧ win0_0.index t 1 = 0 := by decide +kernel

theorem place_1 : ∀ t : Fin grid0.N, win0_1.index t 0 = 0 ∧ win0_1.index t 1 = 0 := by decide +kernel

theorem place_2 : ∀ t : Fin grid0.N, win0_2.index t 0 = 0 ∧ win0_2.index t 1 = 0 := by decide +kernel

theorem place_3 : ∀ t : Fin grid0.N, win0_3.index t 0 = 0 ∧ win0_3.index t 1 = 0 := by decide +kernel

variable (c : Dev nD)

abbrev argX : Fin 256 → Fin 1024 → EReal := entries (m ((c : Thread nD τ).loc main_arg0))
abbrev argGain : Fin 1024 → EReal := fun d => m ((c : Thread nD τ).loc main_arg1) (ix2 0 d)
abbrev argW : Fin 1024 → Fin 2048 → EReal := entries (m ((c : Thread nD τ).loc main_arg2))

section
variable (t : Fin cfg0.N)

theorem tile_0 : entries (iblk m c 0 t) = argX m c := by
  funext r k
  exact congrArg (m ((c : Thread nD τ).loc main_arg0)) (idx_ext
    (win0_0.rect_emb_val_of_index_zero t 0 (place_0 t).1 (ix2 r k)) (win0_0.rect_emb_val_of_index_zero t 1 (place_0 t).2 (ix2 r k)))

theorem tile_1 : gain (iblk m c 1 t) = argGain m c := by
  funext k
  exact congrArg (m ((c : Thread nD τ).loc main_arg1)) (idx_ext
    (win0_1.rect_emb_val_of_index_zero t 0 (place_1 t).1 (ix2 0 k)) (win0_1.rect_emb_val_of_index_zero t 1 (place_1 t).2 (ix2 0 k)))

theorem tile_2 : entries (iblk m c 2 t) = argW m c := by
  funext r k
  exact congrArg (m ((c : Thread nD τ).loc main_arg2)) (idx_ext
    (win0_2.rect_emb_val_of_index_zero t 0 (place_2 t).1 (ix2 r k)) (win0_2.rect_emb_val_of_index_zero t 1 (place_2 t).2 (ix2 r k)))

end

/-- What the point leaves in its window is the tile over its blocks. -/
theorem out_eq (x : Vec Ideal S256x1024 .f32) (g : Vec Ideal S1x1024 .f32) (w : Vec Ideal S1024x2048 .bf16) :
    out0_3 x g w = k0_pay1 x g w := by
  unfold out0_3
  rw [View.canon_unit_zero (S := S256x2048) hz2, View.ld_unit_zero (S := S256x1024) hz2, View.ld_unit_zero (S := S1x1024) hz2,
    View.ld_unit_zero (S := S1024x2048) hz2]

theorem final_result : (dats m 0 c).arrAt 3 cfg0.N = fun i : S256x2048.Idx => through (argX m c) (argGain m c) (argW m c) (i 0) (i 1) := by
  refine (dats m 0 c).arrAt_eq_of_covers 3 _ (by decide +kernel) fun t hf y => ?_
  obtain ⟨i, j, rfl⟩ : ∃ (i : Fin 256) (j : Fin 2048), y = ix2 i j := ⟨_, _, eq_ix2 (n0 := 256) (n1 := 2048) y⟩
  have hi : ((cfg0.win 3).blk t).view.emb (ix2 i j) = ix2 i j := idx_ext
    (win0_3.rect_emb_val_of_index_zero t 0 (place_3 t).1 (ix2 i j)) (win0_3.rect_emb_val_of_index_zero t 1 (place_3 t).2 (ix2 i j))
  have hv : (dats m 0 c).after 3 t = k0_pay1 (iblk m c 0 t) (iblk m c 1 t) (iblk m c 2 t) := (after0_3 m c t).trans (out_eq _ _ _)
  rw [hi]
  refine (congrFun hv (ix2 i j)).trans ((tile_at _ _ _ i j).trans ?_)
  rw [tile_0, tile_1, tile_2]

end Cert.Norm.Forward

namespace Cert.Norm.Backward

open Cert.Kernel12Ideal Cert.Kernel12Ideal.Gen Cert.Kernel12Ideal.Value Cert.Attend Cert.Cross Cert.Norm
open Cert.Attend.Body (gain)
open Cert.KernelIdeal.Value (hz2 at_row)
open Cert.Dense (idx_ext)
open Cert.Merge (row upTo upTo_succ upTo_all)

variable (m : (ℓ : Loc nD τ sig) → Buf (Elt Ideal) ℓ)

theorem place_0 : ∀ t : Fin grid0.N, win0_0.index t 0 = 0 ∧ win0_0.index t 1 = 0 := by decide +kernel

theorem place_1 : ∀ t : Fin grid0.N, win0_1.index t 0 = 0 ∧ win0_1.index t 1 = 0 := by decide +kernel

theorem place_2 : ∀ t : Fin grid0.N, win0_2.index t 0 = 0 ∧ win0_2.index t 1 = 0 := by decide +kernel

theorem place_3 : ∀ t : Fin grid0.N, win0_3.index t 0 = 0 ∧ win0_3.index t 1 = 0 := by decide +kernel

theorem place_4 : ∀ t : Fin grid0.N, win0_4.index t 0 = 0 ∧ win0_4.index t 1 = 0 := by decide +kernel

theorem place_5 : ∀ t : Fin grid0.N, win0_5.index t 0 = 0 ∧ win0_5.index t 1 = 0 := by decide +kernel

variable (c : Dev nD)

abbrev argX : Fin 256 → Fin 1024 → EReal := entries (m ((c : Thread nD τ).loc main_arg0))
abbrev argGain : Fin 1024 → EReal := fun d => m ((c : Thread nD τ).loc main_arg1) (ix2 0 d)
abbrev argW : Fin 1024 → Fin 2048 → EReal := entries (m ((c : Thread nD τ).loc main_arg2))
abbrev argDy : Fin 256 → Fin 2048 → EReal := entries (m ((c : Thread nD τ).loc main_arg3))

section
variable (t : Fin cfg0.N)

theorem tile_0 : entries (iblk m c 0 t) = argX m c := by
  funext r k
  exact congrArg (m ((c : Thread nD τ).loc main_arg0)) (idx_ext
    (win0_0.rect_emb_val_of_index_zero t 0 (place_0 t).1 (ix2 r k)) (win0_0.rect_emb_val_of_index_zero t 1 (place_0 t).2 (ix2 r k)))

theorem tile_1 : gain (iblk m c 1 t) = argGain m c := by
  funext k
  exact congrArg (m ((c : Thread nD τ).loc main_arg1)) (idx_ext
    (win0_1.rect_emb_val_of_index_zero t 0 (place_1 t).1 (ix2 0 k)) (win0_1.rect_emb_val_of_index_zero t 1 (place_1 t).2 (ix2 0 k)))

theorem tile_2 : entries (iblk m c 2 t) = argW m c := by
  funext r k
  exact congrArg (m ((c : Thread nD τ).loc main_arg2)) (idx_ext
    (win0_2.rect_emb_val_of_index_zero t 0 (place_2 t).1 (ix2 r k)) (win0_2.rect_emb_val_of_index_zero t 1 (place_2 t).2 (ix2 r k)))

theorem tile_3 : entries (iblk m c 3 t) = argDy m c := by
  funext r k
  exact congrArg (m ((c : Thread nD τ).loc main_arg3)) (idx_ext
    (win0_3.rect_emb_val_of_index_zero t 0 (place_3 t).1 (ix2 r k)) (win0_3.rect_emb_val_of_index_zero t 1 (place_3 t).2 (ix2 r k)))

end

theorem final_gain : (dats m 0 c).arrAt 4 cfg0.N = fun i : S1x1024.Idx => ∑ r, gainPart (argX m c) (back (argW m c) (argDy m c)) (i 1) r := by
  refine (dats m 0 c).arrAt_eq_of_covers 4 _ (by decide +kernel) fun t hf y => ?_
  obtain ⟨i, j, rfl⟩ : ∃ (i : Fin 1) (j : Fin 1024), y = ix2 i j := ⟨_, _, eq_ix2 (n0 := 1) (n1 := 1024) y⟩
  obtain rfl := Subsingleton.elim i 0
  have hi : ((cfg0.win 4).blk t).view.emb (ix2 0 j) = ix2 0 j := idx_ext
    (win0_4.rect_emb_val_of_index_zero t 0 (place_4 t).1 (ix2 0 j)) (win0_4.rect_emb_val_of_index_zero t 1 (place_4 t).2 (ix2 0 j))
  have hv : (dats m 0 c).after 4 t = k0_pay4 (iblk m c 0 t) (iblk m c 2 t) (iblk m c 3 t) := by rw [after0_4, outs_only]
  rw [hi]
  refine (congrFun hv (ix2 0 j)).trans ((gain_at _ _ _ j).trans ?_)
  rw [tile_0, tile_2, tile_3]

theorem final_weight : (dats m 0 c).arrAt 5 cfg0.N = fun i : S1024x2048.Idx => ∑ r, weightPart (argX m c) (argGain m c) (argDy m c) (i 0) (i 1) r := by
  refine (dats m 0 c).arrAt_eq_of_covers 5 _ (by decide +kernel) fun t hf y => ?_
  obtain ⟨i, j, rfl⟩ : ∃ (i : Fin 1024) (j : Fin 2048), y = ix2 i j := ⟨_, _, eq_ix2 (n0 := 1024) (n1 := 2048) y⟩
  have hi : ((cfg0.win 5).blk t).view.emb (ix2 i j) = ix2 i j := idx_ext
    (win0_5.rect_emb_val_of_index_zero t 0 (place_5 t).1 (ix2 i j)) (win0_5.rect_emb_val_of_index_zero t 1 (place_5 t).2 (ix2 i j))
  have hv : (dats m 0 c).after 5 t = k0_pay3 (iblk m c 0 t) (iblk m c 1 t) (iblk m c 3 t) := by rw [after0_5, outs_only]
  rw [hi]
  refine (congrFun hv (ix2 i j)).trans ((weight_at _ _ _ i j).trans ?_)
  rw [tile_0, tile_1, tile_3]

end Cert.Norm.Backward

namespace Cert.Norm.Rows

open Cert.Kernel13Ideal Cert.Kernel13Ideal.Gen Cert.Kernel13Ideal.Value Cert.Attend Cert.Cross Cert.Norm
open Cert.Attend.Body (gain)
open Cert.KernelIdeal.Value (hz2 at_row)
open Cert.Dense (idx_ext)
open Cert.Merge (row upTo upTo_succ upTo_all)

variable (m : (ℓ : Loc nD τ sig) → Buf (Elt Ideal) ℓ)

theorem lt_N (t : Fin cfg0.N) : t.val < 16 := lt_of_lt_of_eq t.isLt N_0

theorem place_0 : ∀ t : Fin grid0.N, win0_0.index t 0 = t.val ∧ win0_0.index t 1 = 0 := by decide +kernel

theorem place_1 : ∀ t : Fin grid0.N, win0_1.index t 0 = 0 ∧ win0_1.index t 1 = 0 := by decide +kernel

theorem place_2 : ∀ t : Fin grid0.N, win0_2.index t 0 = t.val ∧ win0_2.index t 1 = 0 := by decide +kernel

variable (c : Dev nD)

abbrev argX : Fin 4096 → Fin 1024 → EReal := entries (m ((c : Thread nD τ).loc main_arg0))
abbrev argGain : Fin 1024 → EReal := fun d => m ((c : Thread nD τ).loc main_arg1) (ix2 0 d)

section
variable (t : Fin cfg0.N)

theorem tile_0 : entries (iblk m c 0 t) = fun r => argX m c (row t.val (lt_N t) r) := by
  funext r k
  exact congrArg (m ((c : Thread nD τ).loc main_arg0)) (at_row t.val (lt_N t) _ r k
    ((win0_0.rect_emb_val t (ix2 r k) 0).trans (by rw [(place_0 t).1]; rfl))
    (win0_0.rect_emb_val_of_index_zero t 1 (place_0 t).2 (ix2 r k)))

theorem tile_1 : gain (iblk m c 1 t) = argGain m c := by
  funext k
  exact congrArg (m ((c : Thread nD τ).loc main_arg1)) (idx_ext
    (win0_1.rect_emb_val_of_index_zero t 0 (place_1 t).1 (ix2 0 k)) (win0_1.rect_emb_val_of_index_zero t 1 (place_1 t).2 (ix2 0 k)))

end

/-- What a point leaves in its window is the tile over its blocks. -/
theorem out_eq (x : Vec Ideal S256x1024 .f32) (g : Vec Ideal S1x1024 .f32) : out0_2 x g = k0_pay1 x g := by
  unfold out0_2
  rw [View.canon_unit_zero (S := S256x1024) hz2, View.ld_unit_zero (S := S256x1024) hz2, View.ld_unit_zero (S := S1x1024) hz2]

theorem final_rows : (dats m 0 c).arrAt 2 cfg0.N = fun i : S4096x1024.Idx => normed (argX m c) (argGain m c) (i 0) (i 1) := by
  refine (dats m 0 c).arrAt_eq_of_covers 2 _ (by decide +kernel) fun t hf y => ?_
  obtain ⟨r, k, rfl⟩ : ∃ (r : Fin 256) (k : Fin 1024), y = ix2 r k := ⟨_, _, eq_ix2 (n0 := 256) (n1 := 1024) y⟩
  have hi : ((cfg0.win 2).blk t).view.emb (ix2 r k) = ix2 (row t.val (lt_N t) r) k :=
    at_row t.val (lt_N t) _ r k ((win0_2.rect_emb_val t (ix2 r k) 0).trans (by rw [(place_2 t).1]; rfl))
      (win0_2.rect_emb_val_of_index_zero t 1 (place_2 t).2 (ix2 r k))
  have hv : (dats m 0 c).after 2 t = k0_pay1 (iblk m c 0 t) (iblk m c 1 t) := (after0_2 m c t).trans (out_eq _ _)
  rw [hi]
  refine (congrFun hv (ix2 r k)).trans ((tile_at _ _ r k).trans ?_)
  rw [tile_0, tile_1]
  rfl

end Cert.Norm.Rows

namespace Cert.Norm.Stream

open Cert.Kernel14Ideal Cert.Kernel14Ideal.Gen Cert.Kernel14Ideal.Value Cert.Attend Cert.Cross Cert.Norm
open Cert.Attend.Body (gain)
open Cert.KernelIdeal.Value (hz2 at_row)
open Cert.Dense (idx_ext)
open Cert.Merge (row upTo upTo_succ upTo_all)

variable (m : (ℓ : Loc nD τ sig) → Buf (Elt Ideal) ℓ)

theorem place_0 : ∀ t : Fin grid0.N, win0_0.index t 0 = t.val ∧ win0_0.index t 1 = 0 := by decide +kernel

theorem place_1 : ∀ t : Fin grid0.N, win0_1.index t 0 = 0 ∧ win0_1.index t 1 = 0 := by decide +kernel

theorem place_2 : ∀ t : Fin grid0.N, win0_2.index t 0 = t.val ∧ win0_2.index t 1 = 0 := by decide +kernel

theorem place_3 : ∀ t : Fin grid0.N, win0_3.index t 0 = t.val ∧ win0_3.index t 1 = 0 := by decide +kernel

theorem place_4 : ∀ t : Fin grid0.N, win0_4.index t 0 = t.val ∧ win0_4.index t 1 = 0 := by decide +kernel

theorem place_5 : ∀ t : Fin grid0.N, win0_5.index t 0 = 0 ∧ win0_5.index t 1 = 0 := by decide +kernel

variable (c : Dev nD)

abbrev argX : Fin 4096 → Fin 1024 → EReal := entries (m ((c : Thread nD τ).loc main_arg0))
abbrev argGain : Fin 1024 → EReal := fun d => m ((c : Thread nD τ).loc main_arg1) (ix2 0 d)
abbrev argDh : Fin 4096 → Fin 1024 → EReal := entries (m ((c : Thread nD τ).loc main_arg2))
abbrev argDx : Fin 4096 → Fin 1024 → EReal := entries (m ((c : Thread nD τ).loc main_arg3))

section
variable (t : Fin cfg0.N)

theorem tile_0 : entries (iblk m c 0 t) = fun r => argX m c (row t.val (lt_N t) r) := by
  funext r k
  exact congrArg (m ((c : Thread nD τ).loc main_arg0)) (at_row t.val (lt_N t) _ r k
    ((win0_0.rect_emb_val t (ix2 r k) 0).trans (by rw [(place_0 t).1]; rfl))
    (win0_0.rect_emb_val_of_index_zero t 1 (place_0 t).2 (ix2 r k)))

theorem tile_1 : gain (iblk m c 1 t) = argGain m c := by
  funext k
  exact congrArg (m ((c : Thread nD τ).loc main_arg1)) (idx_ext
    (win0_1.rect_emb_val_of_index_zero t 0 (place_1 t).1 (ix2 0 k)) (win0_1.rect_emb_val_of_index_zero t 1 (place_1 t).2 (ix2 0 k)))

theorem tile_2 : entries (iblk m c 2 t) = fun r => argDh m c (row t.val (lt_N t) r) := by
  funext r k
  exact congrArg (m ((c : Thread nD τ).loc main_arg2)) (at_row t.val (lt_N t) _ r k
    ((win0_2.rect_emb_val t (ix2 r k) 0).trans (by rw [(place_2 t).1]; rfl))
    (win0_2.rect_emb_val_of_index_zero t 1 (place_2 t).2 (ix2 r k)))

theorem tile_3 : entries (iblk m c 3 t) = fun r => argDx m c (row t.val (lt_N t) r) := by
  funext r k
  exact congrArg (m ((c : Thread nD τ).loc main_arg3)) (at_row t.val (lt_N t) _ r k
    ((win0_3.rect_emb_val t (ix2 r k) 0).trans (by rw [(place_3 t).1]; rfl))
    (win0_3.rect_emb_val_of_index_zero t 1 (place_3 t).2 (ix2 r k)))

end

theorem left_rows (t : Fin cfg0.N) : (outsAt0 m c t.val t.isLt).1 = rowsAt m c t := by
  by_cases h : t.val = 0
  · rw [outs_first m c t h]
  · rw [outs_later m c t h]

theorem final_rows : (dats m 0 c).arrAt 4 cfg0.N = fun i : S4096x1024.Idx => dStream (argX m c) (argGain m c) (argDh m c) (argDx m c) (i 0) (i 1) := by
  refine (dats m 0 c).arrAt_eq_of_covers 4 _ (by decide +kernel) fun t hf y => ?_
  obtain ⟨r, k, rfl⟩ : ∃ (r : Fin 256) (k : Fin 1024), y = ix2 r k := ⟨_, _, eq_ix2 (n0 := 256) (n1 := 1024) y⟩
  have hi : ((cfg0.win 4).blk t).view.emb (ix2 r k) = ix2 (row t.val (lt_N t) r) k :=
    at_row t.val (lt_N t) _ r k ((win0_4.rect_emb_val t (ix2 r k) 0).trans (by rw [(place_4 t).1]; rfl))
      (win0_4.rect_emb_val_of_index_zero t 1 (place_4 t).2 (ix2 r k))
  have hv : (dats m 0 c).after 4 t = rowsAt m c t := by rw [after0_4]; exact left_rows m c t
  rw [hi]
  refine (congrFun hv (ix2 r k)).trans ((row_at _ _ _ _ r k).trans ?_)
  rw [tile_0, tile_1, tile_2, tile_3]
  rfl

/-- One row's part in the gains' gradient. -/
def part (j : Fin 1024) (s : Fin 4096) : EReal := gainPart (argX m c) (argDh m c) j s

theorem gain_tile (j : Fin 1024) (t : Fin cfg0.N) : gainAt m c t (ix2 0 j) = ∑ r, part m c j (row t.val (lt_N t) r) := by
  refine (gain_at _ _ j).trans ?_
  rw [tile_0, tile_2]
  rfl

theorem gain_carried (j : Fin 1024) : ∀ (t : ℕ) (ht : t < cfg0.N), (outsAt0 m c t ht).2 (ix2 0 j) = upTo (part m c j) (t + 1)
  | 0, ht => by
    rw [upTo_succ _ 0 (by decide)]
    have e := outs_first m c ⟨0, ht⟩ rfl
    refine (congrFun (congrArg (fun q => q.2) e) (ix2 0 j)).trans ((gain_tile m c j ⟨0, ht⟩).trans ?_)
    exact (zero_add _).symm
  | t + 1, ht => by
    rw [upTo_succ _ (t + 1) (lt_N ⟨t + 1, ht⟩)]
    have e := outs_later m c ⟨t + 1, ht⟩ (Nat.succ_ne_zero t)
    refine (congrFun (congrArg (fun q => q.2) e) (ix2 0 j)).trans ?_
    show k0_pay1 (gainAt m c ⟨t + 1, ht⟩) (outsAt0 m c t _).2 (ix2 0 j) = _
    unfold k0_pay1
    rw [shapeCast_self, addf_apply]
    exact congrArg₂ (· + ·) (gain_carried j t _) (gain_tile m c j ⟨t + 1, ht⟩)

theorem final_gain : (dats m 0 c).arrAt 5 cfg0.N = fun i : S1x1024.Idx => ∑ s, part m c (i 1) s := by
  refine (dats m 0 c).arrAt_eq_of_covers 5 _ (by decide +kernel) fun t hf y => ?_
  have h15 : t.val = 15 := by
    have := (flush0_5 t).mp hf
    have := lt_N t
    omega
  obtain ⟨z, j, rfl⟩ : ∃ (z : Fin 1) (j : Fin 1024), y = ix2 z j := ⟨_, _, eq_ix2 (n0 := 1) (n1 := 1024) y⟩
  obtain rfl := Subsingleton.elim z 0
  have hi : ((cfg0.win 5).blk t).view.emb (ix2 0 j) = ix2 0 j := idx_ext
    (win0_5.rect_emb_val_of_index_zero t 0 (place_5 t).1 (ix2 0 j)) (win0_5.rect_emb_val_of_index_zero t 1 (place_5 t).2 (ix2 0 j))
  have hv : (dats m 0 c).after 5 t = (outsAt0 m c t.val t.isLt).2 := by rw [after0_5]
  rw [hi]
  refine (congrFun hv (ix2 0 j)).trans ((gain_carried m c j t.val t.isLt).trans ?_)
  rw [h15, upTo_all]

end Cert.Norm.Stream

namespace Cert.Norm.Loss

open Cert.Kernel15Ideal Cert.Kernel15Ideal.Gen Cert.Kernel15Ideal.Value Cert.Attend Cert.Cross Cert.Norm
open Cert.Attend.Body (gain)
open Cert.KernelIdeal.Value (hz2 at_row)
open Cert.Dense (idx_ext)
open Cert.Merge (row upTo upTo_succ upTo_all)

variable (m : (ℓ : Loc nD τ sig) → Buf (Elt Ideal) ℓ)

theorem place_0 : ∀ t : Fin grid0.N, win0_0.index t 0 = t.val ∧ win0_0.index t 1 = 0 := by decide +kernel

theorem place_1 : ∀ t : Fin grid0.N, win0_1.index t 0 = t.val ∧ win0_1.index t 1 = 0 := by decide +kernel

theorem place_2 : ∀ t : Fin grid0.N, win0_2.index t 0 = 0 ∧ win0_2.index t 1 = 0 := by decide +kernel

theorem place_3 : ∀ t : Fin grid0.N, win0_3.index t 0 = 0 ∧ win0_3.index t 1 = 0 := by decide +kernel

theorem place_4 : ∀ t : Fin grid0.N, win0_4.index t 0 = t.val ∧ win0_4.index t 1 = 0 := by decide +kernel

theorem place_5 : ∀ t : Fin grid0.N, win0_5.index t 0 = 0 ∧ win0_5.index t 1 = 0 := by decide +kernel

variable (c : Dev nD)

abbrev argX : Fin 4096 → Fin 1024 → EReal := entries (m ((c : Thread nD τ).loc main_arg0))
abbrev argTgt : Fin 4096 → Fin 1024 → EReal := entries (m ((c : Thread nD τ).loc main_arg1))
abbrev argGain : Fin 1024 → EReal := fun d => m ((c : Thread nD τ).loc main_arg2) (ix2 0 d)

section
variable (t : Fin cfg0.N)

theorem tile_0 : entries (iblk m c 0 t) = fun r => argX m c (row t.val (lt_N t) r) := by
  funext r k
  exact congrArg (m ((c : Thread nD τ).loc main_arg0)) (at_row t.val (lt_N t) _ r k
    ((win0_0.rect_emb_val t (ix2 r k) 0).trans (by rw [(place_0 t).1]; rfl))
    (win0_0.rect_emb_val_of_index_zero t 1 (place_0 t).2 (ix2 r k)))

theorem tile_1 : entries (iblk m c 1 t) = fun r => argTgt m c (row t.val (lt_N t) r) := by
  funext r k
  exact congrArg (m ((c : Thread nD τ).loc main_arg1)) (at_row t.val (lt_N t) _ r k
    ((win0_1.rect_emb_val t (ix2 r k) 0).trans (by rw [(place_1 t).1]; rfl))
    (win0_1.rect_emb_val_of_index_zero t 1 (place_1 t).2 (ix2 r k)))

theorem tile_2 : gain (iblk m c 2 t) = argGain m c := by
  funext k
  exact congrArg (m ((c : Thread nD τ).loc main_arg2)) (idx_ext
    (win0_2.rect_emb_val_of_index_zero t 0 (place_2 t).1 (ix2 0 k)) (win0_2.rect_emb_val_of_index_zero t 1 (place_2 t).2 (ix2 0 k)))

end

abbrev argGrad : Fin 4096 → Fin 1024 → EReal := dErr (argX m c) (argTgt m c) (argGain m c)

theorem left_rows (t : Fin cfg0.N) : (outsAt0 m c t.val t.isLt).2.1 = rowsAt m c t := by
  by_cases h : t.val = 0
  · rw [outs_first m c t h]
  · rw [outs_later m c t h]

theorem final_rows : (dats m 0 c).arrAt 4 cfg0.N = fun i : S4096x1024.Idx => dNorm (argX m c) (argGain m c) (argGrad m c) (i 0) (i 1) := by
  refine (dats m 0 c).arrAt_eq_of_covers 4 _ (by decide +kernel) fun t hf y => ?_
  obtain ⟨r, k, rfl⟩ : ∃ (r : Fin 256) (k : Fin 1024), y = ix2 r k := ⟨_, _, eq_ix2 (n0 := 256) (n1 := 1024) y⟩
  have hi : ((cfg0.win 4).blk t).view.emb (ix2 r k) = ix2 (row t.val (lt_N t) r) k :=
    at_row t.val (lt_N t) _ r k ((win0_4.rect_emb_val t (ix2 r k) 0).trans (by rw [(place_4 t).1]; rfl))
      (win0_4.rect_emb_val_of_index_zero t 1 (place_4 t).2 (ix2 r k))
  have hv : (dats m 0 c).after 4 t = rowsAt m c t := by rw [after0_4]; exact left_rows m c t
  rw [hi]
  refine (congrFun hv (ix2 r k)).trans ((row_at _ _ _ r k).trans ?_)
  rw [lossGrad, tile_0, tile_1, tile_2]
  rfl

/-- One row's part in the gains' gradient. -/
def part (j : Fin 1024) (s : Fin 4096) : EReal := gainPart (argX m c) (argGrad m c) j s

theorem gain_tile (j : Fin 1024) (t : Fin cfg0.N) : gainAt m c t (ix2 0 j) = ∑ r, part m c j (row t.val (lt_N t) r) := by
  refine (gain_at _ _ _ j).trans ?_
  rw [lossGrad, tile_0, tile_1, tile_2]
  rfl

theorem gain_carried (j : Fin 1024) : ∀ (t : ℕ) (ht : t < cfg0.N), (outsAt0 m c t ht).2.2 (ix2 0 j) = upTo (part m c j) (t + 1)
  | 0, ht => by
    rw [upTo_succ _ 0 (by decide)]
    have e := outs_first m c ⟨0, ht⟩ rfl
    refine (congrFun (congrArg (fun q => q.2.2) e) (ix2 0 j)).trans ((gain_tile m c j ⟨0, ht⟩).trans ?_)
    exact (zero_add _).symm
  | t + 1, ht => by
    rw [upTo_succ _ (t + 1) (lt_N ⟨t + 1, ht⟩)]
    have e := outs_later m c ⟨t + 1, ht⟩ (Nat.succ_ne_zero t)
    refine (congrFun (congrArg (fun q => q.2.2) e) (ix2 0 j)).trans ?_
    show addf (φ := .f32) (shapeCast S1x1024 (outsAt0 m c t _).2.2 _) (gainAt m c ⟨t + 1, ht⟩) (ix2 0 j) = _
    rw [shapeCast_self, addf_apply]
    exact congrArg₂ (· + ·) (gain_carried j t _) (gain_tile m c j ⟨t + 1, ht⟩)

theorem final_gain : (dats m 0 c).arrAt 5 cfg0.N = fun i : S1x1024.Idx => ∑ s, part m c (i 1) s := by
  refine (dats m 0 c).arrAt_eq_of_covers 5 _ (by decide +kernel) fun t hf y => ?_
  have h15 : t.val = 15 := by
    have := (flush0_5 t).mp hf
    have := lt_N t
    omega
  obtain ⟨z, j, rfl⟩ : ∃ (z : Fin 1) (j : Fin 1024), y = ix2 z j := ⟨_, _, eq_ix2 (n0 := 1) (n1 := 1024) y⟩
  obtain rfl := Subsingleton.elim z 0
  have hi : ((cfg0.win 5).blk t).view.emb (ix2 0 j) = ix2 0 j := idx_ext
    (win0_5.rect_emb_val_of_index_zero t 0 (place_5 t).1 (ix2 0 j)) (win0_5.rect_emb_val_of_index_zero t 1 (place_5 t).2 (ix2 0 j))
  have hv : (dats m 0 c).after 5 t = (outsAt0 m c t.val t.isLt).2.2 := by rw [after0_5]
  rw [hi]
  refine (congrFun hv (ix2 0 j)).trans ((gain_carried m c j t.val t.isLt).trans ?_)
  rw [h15, upTo_all]

/-- One row's part in the loss. -/
def lossRow (s : Fin 4096) : EReal := lossPart (argX m c) (argTgt m c) (argGain m c) s

theorem loss_tile (t : Fin cfg0.N) : lossAt m c t (ix2 0 0) = ∑ r, lossRow m c (row t.val (lt_N t) r) := by
  refine (loss_at _ _ _).trans ?_
  rw [tile_0, tile_1, tile_2]
  rfl

theorem loss_carried (j : Fin 128) : ∀ (t : ℕ) (ht : t < cfg0.N), (outsAt0 m c t ht).1 (ix2 0 j) = upTo (lossRow m c) (t + 1)
  | 0, ht => by
    rw [upTo_succ _ 0 (by decide)]
    have e := outs_first m c ⟨0, ht⟩ rfl
    refine (congrFun (congrArg (fun q => q.1) e) (ix2 0 j)).trans ((spread_loss _ j).trans ((loss_tile m c ⟨0, ht⟩).trans ?_))
    exact (zero_add _).symm
  | t + 1, ht => by
    rw [upTo_succ _ (t + 1) (lt_N ⟨t + 1, ht⟩)]
    have e := outs_later m c ⟨t + 1, ht⟩ (Nat.succ_ne_zero t)
    refine (congrFun (congrArg (fun q => q.1) e) (ix2 0 j)).trans ?_
    show k0_pay5 (lossAt m c ⟨t + 1, ht⟩) (outsAt0 m c t _).1 (ix2 0 j) = _
    unfold k0_pay5
    rw [shapeCast_self, addf_apply]
    exact congrArg₂ (· + ·) (loss_carried j t _) ((spread_loss _ j).trans (loss_tile m c ⟨t + 1, ht⟩))

theorem final_loss : (dats m 0 c).arrAt 3 cfg0.N = fun _ : S1x128.Idx => ∑ s, lossRow m c s := by
  refine (dats m 0 c).arrAt_eq_of_covers 3 _ (by decide +kernel) fun t hf y => ?_
  have h15 : t.val = 15 := by
    have := (flush0_3 t).mp hf
    have := lt_N t
    omega
  obtain ⟨z, j, rfl⟩ : ∃ (z : Fin 1) (j : Fin 128), y = ix2 z j := ⟨_, _, eq_ix2 (n0 := 1) (n1 := 128) y⟩
  obtain rfl := Subsingleton.elim z 0
  have hv : (dats m 0 c).after 3 t = (outsAt0 m c t.val t.isLt).1 := by rw [after0_3]
  refine (congrFun hv (ix2 0 j)).trans ((loss_carried m c j t.val t.isLt).trans ?_)
  rw [h15, upTo_all]

end Cert.Norm.Loss
-- ==== Proof.NormPlain.lean ====
/-
  The plain programs of the memory's projection (11, 12), the norm (13, 14) and the loss head (15) read at an index: the
  same functions of the arguments as the tiles compute, over all rows.
-/
module

public import proofs.«01_k».proof.Proof.NormMath
public import proofs.«01_k».proof.Proof.Dense
public import proofs.«01_k».proof.Proof.Gen.Reference11Ideal
public import proofs.«01_k».proof.Proof.Gen.Reference11Ideal.Run
public import proofs.«01_k».proof.Proof.Gen.Reference11Ideal.Read
public import proofs.«01_k».proof.Proof.Gen.Reference12Ideal
public import proofs.«01_k».proof.Proof.Gen.Reference12Ideal.Run
public import proofs.«01_k».proof.Proof.Gen.Reference12Ideal.Read
public import proofs.«01_k».proof.Proof.Gen.Reference13Ideal
public import proofs.«01_k».proof.Proof.Gen.Reference13Ideal.Run
public import proofs.«01_k».proof.Proof.Gen.Reference13Ideal.Read
public import proofs.«01_k».proof.Proof.Gen.Reference14Ideal
public import proofs.«01_k».proof.Proof.Gen.Reference14Ideal.Run
public import proofs.«01_k».proof.Proof.Gen.Reference14Ideal.Read
public import proofs.«01_k».proof.Proof.Gen.Reference15Ideal
public import proofs.«01_k».proof.Proof.Gen.Reference15Ideal.Run
public import proofs.«01_k».proof.Proof.Gen.Reference15Ideal.Read
public import Idealize.ShloMosaic.Lib.KernelVsHost

@[expose] public section

set_option maxRecDepth 16384

noncomputable section

open Idealize.ShloMosaic Idealize.ShloMosaic.ValueIdx
open scoped BigOperators

namespace Cert.Reference11Ideal.Read

open Cert.Reference11Ideal Cert.Attend Cert.Cross Cert.Norm
open Cert.KernelIdeal.Value (ofBits_zero)
open Cert.Dense (idx_ext)

variable (x0 : FVec Ideal S256x1024 .f32) (x1 : FVec Ideal S1x1024 .f32) (x2 : FVec Ideal S1024x2048 .bf16)

abbrev gains : Fin 1024 → EReal := fun d => x1 (ix2 0 d)

theorem square_at (s : Fin 256) : val_main_v6 (F := Ideal) x0 (ix2 s 0) = square (entries x0) s := by
  have e0 : idx_main_v2 (ix2 s 0) = ix1 s := eq_ix1 _
  have e1 : ∀ k, idx_main_v1 (ix1 s) k = ix2 s k := fun k => eq_ix2 _
  have sum : val_main_v1 (F := Ideal) x0 (ix1 s) = ∑ k, entries x0 s k * entries x0 s k := by
    rw [val_main_v1_apply]
    refine (congrArg₂ (fun a b : EReal => a + b) ofBits_zero (Finset.sum_congr rfl fun k _ => ?_)).trans (zero_add _)
    rw [e1]
    rfl
  rw [val_main_v6_apply, val_main_v4_apply, val_main_v2_apply, e0, sum, val_main_v3_apply, val_main_v5_apply]
  rfl

theorem root_at (s : Fin 256) : val_main_v7 (F := Ideal) x0 (ix2 s 0) = root (entries x0) s := by
  rw [val_main_v7_apply, square_at]
  rfl

theorem unit_at (s : Fin 256) (d : Fin 1024) : val_main_v9 (F := Ideal) x0 (ix2 s d) = unit (entries x0) s d := by
  have e : idx_main_v8 (ix2 s d) = ix2 s 0 := eq_ix2 _
  rw [val_main_v9_apply, val_main_v8_apply, e, root_at]
  rfl

theorem normed_at (s : Fin 256) (d : Fin 1024) : val_main_v11 (F := Ideal) x0 x1 (ix2 s d) = normed (entries x0) (gains x1) s d := by
  have e : idx_main_v10 (ix2 s d) = ix2 0 d := eq_ix2 _
  rw [val_main_v11_apply, unit_at, val_main_v10_apply, e]
  rfl

theorem result_at (s : Fin 256) (c : Fin 2048) :
    val_main_v13 (F := Ideal) x0 x1 x2 (ix2 s c) = through (entries x0) (gains x1) (entries x2) s c := by
  rw [val_main_v13_apply]
  refine Finset.sum_congr rfl fun k _ => ?_
  have el : lidx_main_v13 (ix2 s c) k = ix2 s k := eq_ix2 _
  have er : ridx_main_v13 (ix2 s c) k = ix2 k c := eq_ix2 _
  rw [el, er, normed_at]
  rfl

end Cert.Reference11Ideal.Read

namespace Cert.Reference12Ideal.Read

open Cert.Reference12Ideal Cert.Attend Cert.Cross Cert.Norm
open Cert.KernelIdeal.Value (ofBits_zero)
open Cert.Dense (idx_ext)

variable (x0 : FVec Ideal S256x1024 .f32) (x1 : FVec Ideal S1x1024 .f32) (x2 : FVec Ideal S1024x2048 .bf16) (x3 : FVec Ideal S256x2048 .f32)

abbrev gains : Fin 1024 → EReal := fun d => x1 (ix2 0 d)

theorem square_at (s : Fin 256) : val_main_v7 (F := Ideal) x0 (ix2 s 0) = square (entries x0) s := by
  have e0 : idx_main_v3 (ix2 s 0) = ix1 s := eq_ix1 _
  have e1 : ∀ k, idx_main_v2 (ix1 s) k = ix2 s k := fun k => eq_ix2 _
  have sum : val_main_v2 (F := Ideal) x0 (ix1 s) = ∑ k, entries x0 s k * entries x0 s k := by
    rw [val_main_v2_apply]
    refine (congrArg₂ (fun a b : EReal => a + b) ofBits_zero (Finset.sum_congr rfl fun k _ => ?_)).trans (zero_add _)
    rw [e1]
    rfl
  rw [val_main_v7_apply, val_main_v5_apply, val_main_v3_apply, e0, sum, val_main_v4_apply, val_main_v6_apply]
  rfl

theorem root_at (s : Fin 256) : val_main_v8 (F := Ideal) x0 (ix2 s 0) = root (entries x0) s := by
  rw [val_main_v8_apply, square_at]
  rfl

theorem unit_at (s : Fin 256) (d : Fin 1024) : val_main_v10 (F := Ideal) x0 (ix2 s d) = unit (entries x0) s d := by
  have e : idx_main_v9 (ix2 s d) = ix2 s 0 := eq_ix2 _
  rw [val_main_v10_apply, val_main_v9_apply, e, root_at]
  rfl

theorem normed_at (s : Fin 256) (d : Fin 1024) : val_main_v12 (F := Ideal) x0 x1 (ix2 s d) = normed (entries x0) (gains x1) s d := by
  have e : idx_main_v11 (ix2 s d) = ix2 0 d := eq_ix2 _
  rw [val_main_v12_apply, unit_at, val_main_v11_apply, e]
  rfl

theorem weight_at (k : Fin 1024) (c : Fin 2048) : val_main_v15 (F := Ideal) x0 x1 x3 (ix2 k c)
    = ∑ r, weightPart (entries x0) (gains x1) (entries x3) k c r := by
  have e : idx_main_v15 (ix2 k c) = ix2 c k := eq_ix2 _
  rw [val_main_v15_apply, e, val_main_v14_apply]
  refine Finset.sum_congr rfl fun r _ => ?_
  have el : lidx_main_v14 (ix2 c k) r = ix2 r c := eq_ix2 _
  have er : ridx_main_v14 (ix2 c k) r = ix2 r k := eq_ix2 _
  rw [el, er, normed_at]
  exact mul_comm _ _

theorem back_at (s : Fin 256) (i : Fin 1024) :
    val_main_v16 (F := Ideal) x2 x3 (ix2 s i) = back (entries x2) (entries x3) s i := by
  rw [val_main_v16_apply]
  refine Finset.sum_congr rfl fun c _ => ?_
  have el : lidx_main_v16 (ix2 s i) c = ix2 s c := eq_ix2 _
  have er : ridx_main_v16 (ix2 s i) c = ix2 i c := eq_ix2 _
  rw [el, er]
  rfl

theorem gain_at (i : Fin 1024) : val_main_v19 (F := Ideal) x0 x2 x3 (ix2 0 i)
    = ∑ r, gainPart (entries x0) (back (entries x2) (entries x3)) i r := by
  have e : idx_main_v19 (ix2 0 i) = ix1 i := by
    funext a
    match a with
    | ⟨0, _⟩ => exact Fin.ext (by show 0 * 1024 + i.val = i.val; omega)
  rw [val_main_v19_apply, e, val_main_v18_apply]
  refine (congrArg₂ (fun a b : EReal => a + b) ofBits_zero (Finset.sum_congr rfl fun r _ => ?_)).trans (zero_add _)
  have ek : idx_main_v18 (ix1 i) r = ix2 r i := eq_ix2 _
  rw [ek, val_main_v17_apply, unit_at, back_at]
  rfl

end Cert.Reference12Ideal.Read

namespace Cert.Reference13Ideal.Read

open Cert.Reference13Ideal Cert.Attend Cert.Cross Cert.Norm
open Cert.KernelIdeal.Value (ofBits_zero)
open Cert.Dense (idx_ext)

variable (x0 : FVec Ideal S4096x1024 .f32) (x1 : FVec Ideal S1x1024 .f32)

abbrev gains : Fin 1024 → EReal := fun d => x1 (ix2 0 d)

theorem square_at (s : Fin 4096) : val_main_v6 (F := Ideal) x0 (ix2 s 0) = square (entries x0) s := by
  have e0 : idx_main_v2 (ix2 s 0) = ix1 s := eq_ix1 _
  have e1 : ∀ k, idx_main_v1 (ix1 s) k = ix2 s k := fun k => eq_ix2 _
  have sum : val_main_v1 (F := Ideal) x0 (ix1 s) = ∑ k, entries x0 s k * entries x0 s k := by
    rw [val_main_v1_apply]
    refine (congrArg₂ (fun a b : EReal => a + b) ofBits_zero (Finset.sum_congr rfl fun k _ => ?_)).trans (zero_add _)
    rw [e1]
    rfl
  rw [val_main_v6_apply, val_main_v4_apply, val_main_v2_apply, e0, sum, val_main_v3_apply, val_main_v5_apply]
  rfl

theorem root_at (s : Fin 4096) : val_main_v7 (F := Ideal) x0 (ix2 s 0) = root (entries x0) s := by
  rw [val_main_v7_apply, square_at]
  rfl

theorem unit_at (s : Fin 4096) (d : Fin 1024) : val_main_v9 (F := Ideal) x0 (ix2 s d) = unit (entries x0) s d := by
  have e : idx_main_v8 (ix2 s d) = ix2 s 0 := eq_ix2 _
  rw [val_main_v9_apply, val_main_v8_apply, e, root_at]
  rfl

theorem normed_at (s : Fin 4096) (d : Fin 1024) : val_main_v11 (F := Ideal) x0 x1 (ix2 s d) = normed (entries x0) (gains x1) s d := by
  have e : idx_main_v10 (ix2 s d) = ix2 0 d := eq_ix2 _
  rw [val_main_v11_apply, unit_at, val_main_v10_apply, e]
  rfl

theorem result_at (s : Fin 4096) (d : Fin 1024) : val_main_v12 (F := Ideal) x0 x1 (ix2 s d) = normed (entries x0) (gains x1) s d := by
  rw [val_main_v12_apply, normed_at]
  rfl

end Cert.Reference13Ideal.Read

namespace Cert.Reference14Ideal.Read

open Cert.Reference14Ideal Cert.Attend Cert.Cross Cert.Norm
open Cert.KernelIdeal.Value (ofBits_zero)
open Cert.Dense (idx_ext)

variable (x0 : FVec Ideal S4096x1024 .f32) (x1 : FVec Ideal S1x1024 .f32) (x2 x3 : FVec Ideal S4096x1024 .f32)

abbrev gains : Fin 1024 → EReal := fun d => x1 (ix2 0 d)

theorem square_at (s : Fin 4096) : val_main_v6 (F := Ideal) x0 (ix2 s 0) = square (entries x0) s := by
  have e0 : idx_main_v2 (ix2 s 0) = ix1 s := eq_ix1 _
  have e1 : ∀ k, idx_main_v1 (ix1 s) k = ix2 s k := fun k => eq_ix2 _
  have sum : val_main_v1 (F := Ideal) x0 (ix1 s) = ∑ k, entries x0 s k * entries x0 s k := by
    rw [val_main_v1_apply]
    refine (congrArg₂ (fun a b : EReal => a + b) ofBits_zero (Finset.sum_congr rfl fun k _ => ?_)).trans (zero_add _)
    rw [e1]
    rfl
  rw [val_main_v6_apply, val_main_v4_apply, val_main_v2_apply, e0, sum, val_main_v3_apply, val_main_v5_apply]
  rfl

theorem root_at (s : Fin 4096) : val_main_v7 (F := Ideal) x0 (ix2 s 0) = root (entries x0) s := by
  rw [val_main_v7_apply, square_at]
  rfl

theorem unit_at (s : Fin 4096) (d : Fin 1024) : val_main_v12 (F := Ideal) x0 (ix2 s d) = unit (entries x0) s d := by
  have e : idx_main_v11 (ix2 s d) = ix2 s 0 := eq_ix2 _
  rw [val_main_v12_apply, val_main_v11_apply, e, root_at]
  rfl

theorem gain_at (i : Fin 1024) : val_main_v17 (F := Ideal) x0 x2 (ix2 0 i) = ∑ r, gainPart (entries x0) (entries x2) i r := by
  have e : idx_main_v17 (ix2 0 i) = ix1 i := by
    funext a
    match a with
    | ⟨0, _⟩ => exact Fin.ext (by show 0 * 1024 + i.val = i.val; omega)
  rw [val_main_v17_apply, e, val_main_v16_apply]
  refine (congrArg₂ (fun a b : EReal => a + b) ofBits_zero (Finset.sum_congr rfl fun r _ => ?_)).trans (zero_add _)
  have ek : idx_main_v16 (ix1 i) r = ix2 r i := eq_ix2 _
  rw [ek, val_main_v15_apply, unit_at]
  rfl

theorem scaled_at (s : Fin 4096) (i : Fin 1024) : val_main_v19 (F := Ideal) x1 x2 (ix2 s i) = entries x2 s i * gains x1 i := by
  have e : idx_main_v18 (ix2 s i) = ix2 0 i := eq_ix2 _
  rw [val_main_v19_apply, val_main_v18_apply, e]
  rfl

theorem half_at (s : Fin 4096) : val_main_v10 (F := Ideal) x0 (ix2 s 0)
    = half * Ideal.div (root (entries x0) s) (square (entries x0) s) := by
  rw [val_main_v10_apply, val_main_v9_apply, val_main_v8_apply, root_at, square_at]
  rfl

theorem share_at (s : Fin 4096) : val_main_v29 (F := Ideal) x0 x1 x2 (ix1 s) = share (entries x0) (gains x1) (entries x2) s := by
  have e1 : idx_main_v29 (ix1 s) 0 = ix2 s 0 := eq_ix2 _
  have e2 : idx_main_v22 (ix2 s 0) = ix1 s := by
    funext a
    match a with
    | ⟨0, _⟩ => exact Fin.ext (by show s.val * 1 + 0 = s.val; omega)
  have sum : val_main_v21 (F := Ideal) x0 x1 x2 (ix1 s) = ∑ i, entries x0 s i * (entries x2 s i * gains x1 i) := by
    rw [val_main_v21_apply]
    refine (congrArg₂ (fun a b : EReal => a + b) ofBits_zero (Finset.sum_congr rfl fun i _ => ?_)).trans (zero_add _)
    have ek : idx_main_v21 (ix1 s) i = ix2 s i := eq_ix2 _
    rw [ek, val_main_v20_apply, scaled_at]
    rfl
  rw [val_main_v29_apply, Fin.sum_univ_one, e1, val_main_v28_apply, val_main_v26_apply, val_main_v22_apply, e2, sum,
    half_at, val_main_v27_apply]
  exact (congrArg (fun a : EReal => a + _) ofBits_zero).trans (zero_add _)

theorem row_at (s : Fin 4096) (d : Fin 1024) : val_main_v34 (F := Ideal) x0 x1 x2 x3 (ix2 s d)
    = dStream (entries x0) (gains x1) (entries x2) (entries x3) s d := by
  have e1 : idx_main_v30 (ix2 s d) = ix1 s := eq_ix1 _
  have e2 : idx_main_v23 (ix2 s d) = ix2 s 0 := eq_ix2 _
  rw [val_main_v34_apply, val_main_v32_apply, val_main_v33_apply, val_main_v31_apply, val_main_v30_apply, e1, share_at,
    val_main_v25_apply, val_main_v24_apply, scaled_at, val_main_v23_apply, e2, root_at]
  rfl

end Cert.Reference14Ideal.Read

namespace Cert.Reference15Ideal.Read

open Cert.Reference15Ideal Cert.Attend Cert.Cross Cert.Norm
open Cert.KernelIdeal.Value (ofBits_zero)
open Cert.Dense (idx_ext)

variable (x0 x1 : FVec Ideal S4096x1024 .f32) (x2 : FVec Ideal S1x1024 .f32)

abbrev gains : Fin 1024 → EReal := fun d => x2 (ix2 0 d)

theorem square_at (s : Fin 4096) : val_main_v6 (F := Ideal) x0 (ix2 s 0) = square (entries x0) s := by
  have e0 : idx_main_v2 (ix2 s 0) = ix1 s := eq_ix1 _
  have e1 : ∀ k, idx_main_v1 (ix1 s) k = ix2 s k := fun k => eq_ix2 _
  have sum : val_main_v1 (F := Ideal) x0 (ix1 s) = ∑ k, entries x0 s k * entries x0 s k := by
    rw [val_main_v1_apply]
    refine (congrArg₂ (fun a b : EReal => a + b) ofBits_zero (Finset.sum_congr rfl fun k _ => ?_)).trans (zero_add _)
    rw [e1]
    rfl
  rw [val_main_v6_apply, val_main_v4_apply, val_main_v2_apply, e0, sum, val_main_v3_apply, val_main_v5_apply]
  rfl

theorem root_at (s : Fin 4096) : val_main_v7 (F := Ideal) x0 (ix2 s 0) = root (entries x0) s := by
  rw [val_main_v7_apply, square_at]
  rfl

theorem unit_at (s : Fin 4096) (d : Fin 1024) : val_main_v12 (F := Ideal) x0 (ix2 s d) = unit (entries x0) s d := by
  have e : idx_main_v11 (ix2 s d) = ix2 s 0 := eq_ix2 _
  rw [val_main_v12_apply, val_main_v11_apply, e, root_at]
  rfl

theorem normed_at (s : Fin 4096) (d : Fin 1024) : val_main_v14 (F := Ideal) x0 x2 (ix2 s d) = normed (entries x0) (gains x2) s d := by
  have e : idx_main_v13 (ix2 s d) = ix2 0 d := eq_ix2 _
  rw [val_main_v14_apply, unit_at, val_main_v13_apply, e]
  rfl

theorem err_at (s : Fin 4096) (d : Fin 1024) :
    val_main_v15 (F := Ideal) x0 x1 x2 (ix2 s d) = err (entries x0) (entries x1) (gains x2) s d := by
  rw [val_main_v15_apply, normed_at]
  rfl

theorem rowLoss_at (s : Fin 4096) : val_main_v21 (F := Ideal) x0 x1 x2 (ix1 s) = rowLoss (entries x0) (entries x1) (gains x2) s := by
  have sum : val_main_v19 (F := Ideal) x0 x1 x2 (ix1 s)
      = ∑ d, err (entries x0) (entries x1) (gains x2) s d * err (entries x0) (entries x1) (gains x2) s d := by
    rw [val_main_v19_apply]
    refine (congrArg₂ (fun a b : EReal => a + b) ofBits_zero (Finset.sum_congr rfl fun d _ => ?_)).trans (zero_add _)
    have ek : idx_main_v19 (ix1 s) d = ix2 s d := eq_ix2 _
    rw [ek, val_main_v16_apply, err_at]
    rfl
  rw [val_main_v21_apply, sum, val_main_v20_apply]
  rfl

theorem loss_at (j : Fin 128) : val_main_v49 (F := Ideal) x0 x1 x2 (ix2 0 j)
    = ∑ s, lossPart (entries x0) (entries x1) (gains x2) s := by
  have sum : ∀ i, val_main_v22 (F := Ideal) x0 x1 x2 i = ∑ s, rowLoss (entries x0) (entries x1) (gains x2) s := fun i => by
    rw [val_main_v22_apply]
    refine (congrArg₂ (fun a b : EReal => a + b) ofBits_zero ?_).trans (zero_add _)
    refine (Fintype.sum_equiv ⟨fun s : Fin 4096 => (ix1 s : S4096.Idx), fun q => q 0, fun s => rfl, fun q => (eq_ix1 q).symm⟩ _ _
      fun s => ?_).symm
    exact (rowLoss_at x0 x1 x2 s).symm
  rw [val_main_v49_apply, val_main_v23_apply, sum]
  exact half_sum _

abbrev lossGrad : Fin 4096 → Fin 1024 → EReal := dErr (entries x0) (entries x1) (gains x2)

theorem dErr_at (s : Fin 4096) (d : Fin 1024) : val_main_v29 (F := Ideal) x0 x1 x2 (ix2 s d) = lossGrad x0 x1 x2 s d := by
  rw [val_main_v29_apply, val_main_v18_apply, err_at, val_main_v17_apply, val_main_v28_apply, val_main_v27_apply,
    val_main_v25_apply, val_main_v26_apply, val_main_v24_apply]
  exact doubled perEntry (err (entries x0) (entries x1) (gains x2) s d)

theorem gain_at (i : Fin 1024) : val_main_v32 (F := Ideal) x0 x1 x2 (ix2 0 i) = ∑ r, gainPart (entries x0) (lossGrad x0 x1 x2) i r := by
  have e : idx_main_v32 (ix2 0 i) = ix1 i := by
    funext a
    match a with
    | ⟨0, _⟩ => exact Fin.ext (by show 0 * 1024 + i.val = i.val; omega)
  rw [val_main_v32_apply, e, val_main_v31_apply]
  refine (congrArg₂ (fun a b : EReal => a + b) ofBits_zero (Finset.sum_congr rfl fun r _ => ?_)).trans (zero_add _)
  have ek : idx_main_v31 (ix1 i) r = ix2 r i := eq_ix2 _
  rw [ek, val_main_v30_apply, unit_at, dErr_at]
  rfl

theorem scaled_at (s : Fin 4096) (i : Fin 1024) : val_main_v34 (F := Ideal) x0 x1 x2 (ix2 s i) = lossGrad x0 x1 x2 s i * gains x2 i := by
  have e : idx_main_v33 (ix2 s i) = ix2 0 i := eq_ix2 _
  rw [val_main_v34_apply, dErr_at, val_main_v33_apply, e]
  rfl

theorem half_at (s : Fin 4096) : val_main_v10 (F := Ideal) x0 (ix2 s 0)
    = half * Ideal.div (root (entries x0) s) (square (entries x0) s) := by
  rw [val_main_v10_apply, val_main_v9_apply, val_main_v8_apply, root_at, square_at]
  rfl

theorem share_at (s : Fin 4096) : val_main_v43 (F := Ideal) x0 x1 x2 (ix1 s) = share (entries x0) (gains x2) (lossGrad x0 x1 x2) s := by
  have e1 : idx_main_v43 (ix1 s) 0 = ix2 s 0 := eq_ix2 _
  have e2 : idx_main_v37 (ix2 s 0) = ix1 s := by
    funext a
    match a with
    | ⟨0, _⟩ => exact Fin.ext (by show s.val * 1 + 0 = s.val; omega)
  have sum : val_main_v36 (F := Ideal) x0 x1 x2 (ix1 s) = ∑ i, entries x0 s i * (lossGrad x0 x1 x2 s i * gains x2 i) := by
    rw [val_main_v36_apply]
    refine (congrArg₂ (fun a b : EReal => a + b) ofBits_zero (Finset.sum_congr rfl fun i _ => ?_)).trans (zero_add _)
    have ek : idx_main_v36 (ix1 s) i = ix2 s i := eq_ix2 _
    rw [ek, val_main_v35_apply, scaled_at]
    rfl
  rw [val_main_v43_apply, Fin.sum_univ_one, e1, val_main_v42_apply, val_main_v40_apply, val_main_v37_apply, e2, sum,
    half_at, val_main_v41_apply]
  exact (congrArg (fun a : EReal => a + _) ofBits_zero).trans (zero_add _)

theorem row_at (s : Fin 4096) (d : Fin 1024) : val_main_v48 (F := Ideal) x0 x1 x2 (ix2 s d)
    = dNorm (entries x0) (gains x2) (lossGrad x0 x1 x2) s d := by
  have e1 : idx_main_v44 (ix2 s d) = ix1 s := eq_ix1 _
  have e2 : idx_main_v38 (ix2 s d) = ix2 s 0 := eq_ix2 _
  rw [val_main_v48_apply, val_main_v46_apply, val_main_v47_apply, val_main_v45_apply, val_main_v44_apply, e1, share_at,
    val_main_v39_apply, scaled_at, val_main_v38_apply, e2, root_at]
  rfl

end Cert.Reference15Ideal.Read
-- ==== Proof.NormClaim.lean ====
/-
  The claims about the memory's projection (11, 12), the norm (13, 14) and the loss head (15).
-/
module

public import proofs.«01_k».proof.Proof.NormArrays
public import proofs.«01_k».proof.Proof.NormPlain
public import proofs.«01_k».proof.Proof.Gen.Kernel11
public import proofs.«01_k».proof.Proof.Gen.Kernel11.Frame
public import proofs.«01_k».proof.Proof.Gen.Kernel11Ideal
public import proofs.«01_k».proof.Proof.Gen.Kernel12
public import proofs.«01_k».proof.Proof.Gen.Kernel12.Frame
public import proofs.«01_k».proof.Proof.Gen.Kernel12Ideal
public import proofs.«01_k».proof.Proof.Gen.Kernel13
public import proofs.«01_k».proof.Proof.Gen.Kernel13.Frame
public import proofs.«01_k».proof.Proof.Gen.Kernel13Ideal
public import proofs.«01_k».proof.Proof.Gen.Kernel14
public import proofs.«01_k».proof.Proof.Gen.Kernel14.Frame
public import proofs.«01_k».proof.Proof.Gen.Kernel14Ideal
public import proofs.«01_k».proof.Proof.Gen.Kernel15
public import proofs.«01_k».proof.Proof.Gen.Kernel15.Frame
public import proofs.«01_k».proof.Proof.Gen.Kernel15Ideal
public import proofs.«01_k».proof.Defs

@[expose] public section

set_option maxRecDepth 16384

noncomputable section

open Idealize.ShloMosaic Idealize.ShloMosaic.TcCoe Idealize.ShloMosaic.ValueIdx Idealize.SL.Sem
open scoped BigOperators

namespace Cert.Norm

theorem kernel_frame11 : Cert.quiescent_Kernel11 (hKernel11 := Cert.Kernel11.Gen.facts) := fun m ρ _ => Cert.Kernel11.Gen.frame m ρ

theorem ideal_frame11 : Cert.quiescent_Kernel11Ideal (hKernel11Ideal := Cert.Kernel11Ideal.Gen.facts) :=
  fun m ρ _ => Cert.Kernel11Ideal.Gen.frame m ρ

theorem reference_frame11 : Cert.quiescent_Reference11Ideal (hReference11Ideal := Cert.Reference11Ideal.Gen.facts) := fun m ρ _ =>
  (θ_run Cert.Reference11Ideal.defs _ _).mono (fun r h => ⟨fun c => (h c).2, sem_eq_zero_of_no_sems (by decide) r.2⟩)
    (Cert.Reference11Ideal.Value.run (F := Ideal) m ρ)

theorem same_results11 : Cert.algebraic_Kernel11Ideal_Reference11Ideal (hKernel11Ideal := Cert.Kernel11Ideal.Gen.facts)
    (hReference11Ideal := Cert.Reference11Ideal.Gen.facts) := by
  intro m ρ m' ρ' _ hagree
  refine ⟨_, Cert.Kernel11Ideal.Value.run_blocks (F := Ideal) m ρ, ?_⟩
  refine (θ_run Cert.Reference11Ideal.defs _ _).mono (fun _ h c => ?_) (Cert.Reference11Ideal.Value.run (F := Ideal) m' ρ')
  obtain ⟨h0, hargs⟩ := h c
  obtain ⟨e0, e1, e2⟩ := hagree c
  refine ⟨h0.trans ?_, hargs⟩
  rw [Cert.Reference11Ideal.Read.val_main_v13_eq, e0, e1, e2, Forward.final_result m c]
  exact funext fun i => (congrArg _ (eq_ix2 i)).trans (Cert.Reference11Ideal.Read.result_at _ _ _ _ _)

theorem kernel_frame12 : Cert.quiescent_Kernel12 (hKernel12 := Cert.Kernel12.Gen.facts) := fun m ρ _ => Cert.Kernel12.Gen.frame m ρ

theorem ideal_frame12 : Cert.quiescent_Kernel12Ideal (hKernel12Ideal := Cert.Kernel12Ideal.Gen.facts) :=
  fun m ρ _ => Cert.Kernel12Ideal.Gen.frame m ρ

theorem reference_frame12 : Cert.quiescent_Reference12Ideal (hReference12Ideal := Cert.Reference12Ideal.Gen.facts) := fun m ρ _ =>
  (θ_run Cert.Reference12Ideal.defs _ _).mono (fun r h => ⟨fun c => (h c).2.2, sem_eq_zero_of_no_sems (by decide) r.2⟩)
    (Cert.Reference12Ideal.Value.run (F := Ideal) m ρ)

theorem same_results12 : Cert.algebraic_Kernel12Ideal_Reference12Ideal (hKernel12Ideal := Cert.Kernel12Ideal.Gen.facts)
    (hReference12Ideal := Cert.Reference12Ideal.Gen.facts) := by
  intro m ρ m' ρ' _ hagree
  refine ⟨_, _, Cert.Kernel12Ideal.Value.run_blocks (F := Ideal) m ρ, ?_⟩
  refine (θ_run Cert.Reference12Ideal.defs _ _).mono (fun _ h c => ?_) (Cert.Reference12Ideal.Value.run (F := Ideal) m' ρ')
  obtain ⟨h0, h1, hargs⟩ := h c
  obtain ⟨e0, e1, e2, e3⟩ := hagree c
  refine ⟨h0.trans ?_, h1.trans ?_, hargs⟩
  · rw [Cert.Reference12Ideal.Read.val_main_v19_eq, e0, e2, e3, Backward.final_gain m c]
    refine funext fun i => ?_
    have e : i = ix2 0 (i 1) := (eq_ix2 i).trans (congrArg (fun z => ix2 z (i 1)) (Subsingleton.elim (α := Fin 1) _ _))
    exact (congrArg _ e).trans (Cert.Reference12Ideal.Read.gain_at _ _ _ _)
  · rw [Cert.Reference12Ideal.Read.val_main_v15_eq, e0, e1, e3, Backward.final_weight m c]
    exact funext fun i => (congrArg _ (eq_ix2 i)).trans (Cert.Reference12Ideal.Read.weight_at _ _ _ _ _)

theorem kernel_frame13 : Cert.quiescent_Kernel13 (hKernel13 := Cert.Kernel13.Gen.facts) := fun m ρ _ => Cert.Kernel13.Gen.frame m ρ

theorem ideal_frame13 : Cert.quiescent_Kernel13Ideal (hKernel13Ideal := Cert.Kernel13Ideal.Gen.facts) :=
  fun m ρ _ => Cert.Kernel13Ideal.Gen.frame m ρ

theorem reference_frame13 : Cert.quiescent_Reference13Ideal (hReference13Ideal := Cert.Reference13Ideal.Gen.facts) := fun m ρ _ =>
  (θ_run Cert.Reference13Ideal.defs _ _).mono (fun r h => ⟨fun c => (h c).2, sem_eq_zero_of_no_sems (by decide) r.2⟩)
    (Cert.Reference13Ideal.Value.run (F := Ideal) m ρ)

theorem same_results13 : Cert.algebraic_Kernel13Ideal_Reference13Ideal (hKernel13Ideal := Cert.Kernel13Ideal.Gen.facts)
    (hReference13Ideal := Cert.Reference13Ideal.Gen.facts) := by
  intro m ρ m' ρ' _ hagree
  refine ⟨_, Cert.Kernel13Ideal.Value.run_blocks (F := Ideal) m ρ, ?_⟩
  refine (θ_run Cert.Reference13Ideal.defs _ _).mono (fun _ h c => ?_) (Cert.Reference13Ideal.Value.run (F := Ideal) m' ρ')
  obtain ⟨h0, hargs⟩ := h c
  obtain ⟨e0, e1⟩ := hagree c
  refine ⟨h0.trans ?_, hargs⟩
  rw [Cert.Reference13Ideal.Read.val_main_v12_eq, e0, e1, Rows.final_rows m c]
  exact funext fun i => (congrArg _ (eq_ix2 i)).trans (Cert.Reference13Ideal.Read.result_at _ _ _ _)

theorem kernel_frame14 : Cert.quiescent_Kernel14 (hKernel14 := Cert.Kernel14.Gen.facts) := fun m ρ _ => Cert.Kernel14.Gen.frame m ρ

theorem ideal_frame14 : Cert.quiescent_Kernel14Ideal (hKernel14Ideal := Cert.Kernel14Ideal.Gen.facts) :=
  fun m ρ _ => Cert.Kernel14Ideal.Gen.frame m ρ

theorem reference_frame14 : Cert.quiescent_Reference14Ideal (hReference14Ideal := Cert.Reference14Ideal.Gen.facts) := fun m ρ _ =>
  (θ_run Cert.Reference14Ideal.defs _ _).mono (fun r h => ⟨fun c => (h c).2.2, sem_eq_zero_of_no_sems (by decide) r.2⟩)
    (Cert.Reference14Ideal.Value.run (F := Ideal) m ρ)

theorem same_results14 : Cert.algebraic_Kernel14Ideal_Reference14Ideal (hKernel14Ideal := Cert.Kernel14Ideal.Gen.facts)
    (hReference14Ideal := Cert.Reference14Ideal.Gen.facts) := by
  intro m ρ m' ρ' _ hagree
  refine ⟨_, _, Cert.Kernel14Ideal.Value.run_blocks (F := Ideal) m ρ, ?_⟩
  refine (θ_run Cert.Reference14Ideal.defs _ _).mono (fun _ h c => ?_) (Cert.Reference14Ideal.Value.run (F := Ideal) m' ρ')
  obtain ⟨h0, h1, hargs⟩ := h c
  obtain ⟨e0, e1, e2, e3⟩ := hagree c
  refine ⟨h0.trans ?_, h1.trans ?_, hargs⟩
  · rw [Cert.Reference14Ideal.Read.val_main_v34_eq, e0, e1, e2, e3, Stream.final_rows m c]
    exact funext fun i => (congrArg _ (eq_ix2 i)).trans (Cert.Reference14Ideal.Read.row_at _ _ _ _ _ _)
  · rw [Cert.Reference14Ideal.Read.val_main_v17_eq, e0, e2, Stream.final_gain m c]
    refine funext fun i => ?_
    have e : i = ix2 0 (i 1) := (eq_ix2 i).trans (congrArg (fun z => ix2 z (i 1)) (Subsingleton.elim (α := Fin 1) _ _))
    exact (congrArg _ e).trans (Cert.Reference14Ideal.Read.gain_at _ _ _)

theorem kernel_frame15 : Cert.quiescent_Kernel15 (hKernel15 := Cert.Kernel15.Gen.facts) := fun m ρ _ => Cert.Kernel15.Gen.frame m ρ

theorem ideal_frame15 : Cert.quiescent_Kernel15Ideal (hKernel15Ideal := Cert.Kernel15Ideal.Gen.facts) :=
  fun m ρ _ => Cert.Kernel15Ideal.Gen.frame m ρ

theorem reference_frame15 : Cert.quiescent_Reference15Ideal (hReference15Ideal := Cert.Reference15Ideal.Gen.facts) := fun m ρ _ =>
  (θ_run Cert.Reference15Ideal.defs _ _).mono (fun r h => ⟨fun c => (h c).2.2.2, sem_eq_zero_of_no_sems (by decide) r.2⟩)
    (Cert.Reference15Ideal.Value.run (F := Ideal) m ρ)

theorem same_results15 : Cert.algebraic_Kernel15Ideal_Reference15Ideal (hKernel15Ideal := Cert.Kernel15Ideal.Gen.facts)
    (hReference15Ideal := Cert.Reference15Ideal.Gen.facts) := by
  intro m ρ m' ρ' _ hagree
  refine ⟨_, _, _, Cert.Kernel15Ideal.Value.run_blocks (F := Ideal) m ρ, ?_⟩
  refine (θ_run Cert.Reference15Ideal.defs _ _).mono (fun _ h c => ?_) (Cert.Reference15Ideal.Value.run (F := Ideal) m' ρ')
  obtain ⟨h0, h1, h2, hargs⟩ := h c
  obtain ⟨e0, e1, e2⟩ := hagree c
  refine ⟨h0.trans ?_, h1.trans ?_, h2.trans ?_, hargs⟩
  · rw [Cert.Reference15Ideal.Read.val_main_v49_eq, e0, e1, e2, Loss.final_loss m c]
    refine funext fun i => ?_
    have e : i = ix2 0 (i 1) := (eq_ix2 i).trans (congrArg (fun z => ix2 z (i 1)) (Subsingleton.elim (α := Fin 1) _ _))
    exact (congrArg _ e).trans (Cert.Reference15Ideal.Read.loss_at _ _ _ _)
  · rw [Cert.Reference15Ideal.Read.val_main_v48_eq, e0, e1, e2, Loss.final_rows m c]
    exact funext fun i => (congrArg _ (eq_ix2 i)).trans (Cert.Reference15Ideal.Read.row_at _ _ _ _ _)
  · rw [Cert.Reference15Ideal.Read.val_main_v32_eq, e0, e1, e2, Loss.final_gain m c]
    refine funext fun i => ?_
    have e : i = ix2 0 (i 1) := (eq_ix2 i).trans (congrArg (fun z => ix2 z (i 1)) (Subsingleton.elim (α := Fin 1) _ _))
    exact (congrArg _ e).trans (Cert.Reference15Ideal.Read.gain_at _ _ _ _)

end Cert.Norm
-- ==== Proof.lean ====
/-
  The claims about the gated merge's backward call, and all programs' claims put together: every program runs to its
  end with its semaphores at zero, and over the extended reals a call's results are those of the plain program.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.Arrays
public import proofs.«01_k».proof.Proof.Plain
public import proofs.«01_k».proof.Proof.MlpClaim
public import proofs.«01_k».proof.Proof.ProjClaim
public import proofs.«01_k».proof.Proof.DeltaClaim
public import proofs.«01_k».proof.Proof.DeltaForeClaim
public import proofs.«01_k».proof.Proof.Merged
public import proofs.«01_k».proof.Proof.AttendClaim
public import proofs.«01_k».proof.Proof.CrossClaim
public import proofs.«01_k».proof.Proof.NormClaim
public import proofs.«01_k».proof.Proof.Gen.Kernel16
public import proofs.«01_k».proof.Proof.Gen.Kernel16.Frame
public import proofs.«01_k».proof.Proof.Gen.Kernel16Ideal
public import proofs.«01_k».proof.Proof.Gen.Kernel16Ideal.Skeleton
public import proofs.«01_k».proof.Proof.Gen.Kernel16Ideal.Frame
public import proofs.«01_k».proof.Proof.Gen.Kernel16Ideal.Value
public import proofs.«01_k».proof.Proof.Gen.Reference16Ideal
public import proofs.«01_k».proof.Proof.Gen.Reference16Ideal.Run
public import proofs.«01_k».proof.Proof.Gen.Reference16Ideal.Step
public import proofs.«01_k».proof.Proof.Gen.Kernel9
public import proofs.«01_k».proof.Proof.Gen.Kernel9.Frame
public import proofs.«01_k».proof.Proof.Gen.Kernel9Ideal
public import proofs.«01_k».proof.Proof.Gen.Kernel9Ideal.Frame
public import proofs.«01_k».proof.Proof.Gen.Kernel9Ideal.Value
public import proofs.«01_k».proof.Proof.Gen.Kernel9Ideal.Skeleton
public import proofs.«01_k».proof.Proof.Gen.Reference9Ideal
public import proofs.«01_k».proof.Proof.Gen.Reference9Ideal.Run
public import proofs.«01_k».proof.Proof.Gen.Reference9Ideal.Read
public import proofs.«01_k».proof.Proof.Gen.Kernel2
public import proofs.«01_k».proof.Proof.Gen.Kernel2.Frame
public import proofs.«01_k».proof.Proof.Gen.Kernel2.Launch
public import proofs.«01_k».proof.Proof.Gen.Kernel2.Skeleton
public import proofs.«01_k».proof.Proof.Gen.Kernel2Ideal
public import proofs.«01_k».proof.Proof.Gen.Kernel2Ideal.Frame
public import proofs.«01_k».proof.Proof.Gen.Kernel2Ideal.Launch
public import proofs.«01_k».proof.Proof.Gen.Kernel2Ideal.Skeleton
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Frame
public import proofs.«01_k».proof.Proof.Gen.Kernel3.Launch
public import proofs.«01_k».proof.Proof.Gen.Kernel3.Skeleton
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Kernel3Ideal.Launch
public import proofs.«01_k».proof.Proof.Gen.Kernel3Ideal.Skeleton
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Frame
public import proofs.«01_k».proof.Proof.Gen.Kernel4.Launch
public import proofs.«01_k».proof.Proof.Gen.Kernel4.Skeleton
public import proofs.«01_k».proof.Proof.Gen.Kernel4Ideal
public import proofs.«01_k».proof.Proof.Gen.Kernel4Ideal.Frame
public import proofs.«01_k».proof.Proof.Gen.Kernel4Ideal.Launch
public import proofs.«01_k».proof.Proof.Gen.Kernel4Ideal.Skeleton
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Frame
public import proofs.«01_k».proof.Proof.Gen.Kernel5.Launch
public import proofs.«01_k».proof.Proof.Gen.Kernel5.Skeleton
public import proofs.«01_k».proof.Proof.Gen.Kernel5Ideal
public import proofs.«01_k».proof.Proof.Gen.Kernel5Ideal.Frame
public import proofs.«01_k».proof.Proof.Gen.Kernel5Ideal.Value
public import proofs.«01_k».proof.Proof.Gen.Kernel5Ideal.Launch
public import proofs.«01_k».proof.Proof.Gen.Kernel5Ideal.Skeleton
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Frame
public import proofs.«01_k».proof.Proof.Gen.Kernel6.Launch
public import proofs.«01_k».proof.Proof.Gen.Kernel6.Skeleton
public import proofs.«01_k».proof.Proof.Gen.Kernel6Ideal
public import proofs.«01_k».proof.Proof.Gen.Kernel6Ideal.Frame
public import proofs.«01_k».proof.Proof.Gen.Kernel6Ideal.Value
public import proofs.«01_k».proof.Proof.Gen.Kernel6Ideal.Launch
public import proofs.«01_k».proof.Proof.Gen.Kernel6Ideal.Skeleton
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Frame
public import proofs.«01_k».proof.Proof.Gen.Kernel7Ideal
public import proofs.«01_k».proof.Proof.Gen.Kernel7Ideal.Frame
public import proofs.«01_k».proof.Proof.Gen.Kernel7Ideal.Value
public import proofs.«01_k».proof.Proof.Gen.Kernel7Ideal.Skeleton
public import proofs.«01_k».proof.Proof.Gen.Reference7Ideal
public import proofs.«01_k».proof.Proof.Gen.Reference7Ideal.Run
public import proofs.«01_k».proof.Proof.Gen.Reference7Ideal.Step
public import Idealize.ShloMosaic.Adequacy
public import Idealize.ShloMosaic.Init

@[expose] public section

noncomputable section

namespace Cert.Proof

open Idealize.ShloMosaic Idealize.ShloMosaic.ValueIdx Idealize.SL.Sem Cert.Merge

theorem kernel_frame : Cert.quiescent_Kernel (hKernel := Cert.Kernel.Gen.facts) := fun m ρ _ => Cert.Kernel.Gen.frame m ρ

theorem ideal_frame : Cert.quiescent_KernelIdeal (hKernelIdeal := Cert.KernelIdeal.Gen.facts) :=
  fun m ρ _ => Cert.KernelIdeal.Gen.frame m ρ

theorem reference_frame : Cert.quiescent_ReferenceIdeal (hReferenceIdeal := Cert.ReferenceIdeal.Gen.facts) := fun m ρ _ =>
  (θ_run Cert.ReferenceIdeal.defs _ _).mono (fun r h => ⟨fun c => (h c).2.2.2.2.2.2,
      Idealize.ShloMosaic.sem_eq_zero_of_no_sems (by decide) r.2⟩)
    (Cert.ReferenceIdeal.Value.run (F := Ideal) m ρ)

/-- The call's results and the plain program's are the same gradients of arguments that agree. -/
theorem same_results : Cert.algebraic_KernelIdeal_ReferenceIdeal (hKernelIdeal := Cert.KernelIdeal.Gen.facts)
    (hReferenceIdeal := Cert.ReferenceIdeal.Gen.facts) := by
  intro m ρ m' ρ' _ hagree
  refine ⟨_, _, _, _, _, _, Cert.KernelIdeal.Value.run_blocks (F := Ideal) m ρ, ?_⟩
  refine (θ_run Cert.ReferenceIdeal.defs _ _).mono (fun _ h c => ?_) (Cert.ReferenceIdeal.Value.run (F := Ideal) m' ρ')
  obtain ⟨ha, ho, hc, hp, hg, hw, hargs⟩ := h c
  obtain ⟨e0, e1, e2, e3, e4, e5, e6⟩ := hagree c
  refine ⟨ha.trans ?_, ho.trans ?_, hc.trans ?_, hp.trans ?_, hg.trans ?_, hw.trans ?_, hargs⟩
  · rw [Cert.ReferenceIdeal.Read.val_main_v35_eq, e4, e5, e6, Cert.KernelIdeal.Value.final_a m c]
    exact Cert.ReferenceIdeal.Read.result_a _ _ _
  · rw [Cert.ReferenceIdeal.Read.val_main_v37_eq, e4, e5, e6, Cert.KernelIdeal.Value.final_o m c]
    exact Cert.ReferenceIdeal.Read.result_o _ _ _
  · rw [Cert.ReferenceIdeal.Read.val_main_v39_eq, e4, e5, e6, Cert.KernelIdeal.Value.final_c m c]
    exact Cert.ReferenceIdeal.Read.result_c _ _ _
  · rw [Cert.ReferenceIdeal.Read.val_main_v41_eq, e4, e5, e6, Cert.KernelIdeal.Value.final_p m c]
    exact Cert.ReferenceIdeal.Read.result_p _ _ _
  · rw [Cert.ReferenceIdeal.Read.val_main_v44_eq, e0, e1, e2, e3, e4, e5, e6]
    exact (Cert.KernelIdeal.Value.final_gate m c _ fun s n d => Cert.ReferenceIdeal.Read.result_gate _ _ _ _ _ _ _ s n d).symm
  · rw [Cert.ReferenceIdeal.Read.val_main_v33_eq, e0, e1, e2, e3, e4, e6, Cert.KernelIdeal.Value.final_w m c]
    exact Cert.ReferenceIdeal.Read.result_w _ _ _ _ _ _

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Kernel10.Gen.facts, Cert.Kernel10Ideal.Gen.facts, Cert.Reference10Ideal.Gen.facts,
    Cert.Kernel11.Gen.facts, Cert.Kernel11Ideal.Gen.facts, Cert.Reference11Ideal.Gen.facts,
    Cert.Kernel12.Gen.facts, Cert.Kernel12Ideal.Gen.facts, Cert.Reference12Ideal.Gen.facts,
    Cert.Kernel13.Gen.facts, Cert.Kernel13Ideal.Gen.facts, Cert.Reference13Ideal.Gen.facts,
    Cert.Kernel14.Gen.facts, Cert.Kernel14Ideal.Gen.facts, Cert.Reference14Ideal.Gen.facts,
    Cert.Kernel15.Gen.facts, Cert.Kernel15Ideal.Gen.facts, Cert.Reference15Ideal.Gen.facts,
    Cert.Kernel16.Gen.facts, Cert.Kernel16Ideal.Gen.facts, Cert.Reference16Ideal.Gen.facts,
    Cross.finite_facts,
    kernel_frame, ideal_frame, reference_frame, Mlp.kernel_frame, Mlp.ideal_frame, Mlp.reference_frame,
    Mlp.kernel_frame3, Mlp.ideal_frame3, Mlp.reference_frame3,
    Proj.kernel_frame4, Proj.ideal_frame4, Proj.reference_frame4,
    Proj.kernel_frame5, Proj.ideal_frame5, Proj.reference_frame5,
    Proj.kernel_frame6, Proj.ideal_frame6, Proj.reference_frame6,
    Delta.kernel_frame7, Delta.ideal_frame7, Delta.reference_frame7,
    Cert.Merge.kernel_frame8, Cert.Merge.ideal_frame8, Cert.Merge.reference_frame8,
    Attend.kernel_frame9, Attend.ideal_frame9, Attend.reference_frame9,
    Cross.kernel_frame10, Cross.ideal_frame10, Cross.ideal_frame10_finite, Cross.reference_frame10, Cross.reference_frame10_finite,
    Cert.Norm.kernel_frame11, Cert.Norm.ideal_frame11, Cert.Norm.reference_frame11,
    Cert.Norm.kernel_frame12, Cert.Norm.ideal_frame12, Cert.Norm.reference_frame12,
    Cert.Norm.kernel_frame13, Cert.Norm.ideal_frame13, Cert.Norm.reference_frame13,
    Cert.Norm.kernel_frame14, Cert.Norm.ideal_frame14, Cert.Norm.reference_frame14,
    Cert.Norm.kernel_frame15, Cert.Norm.ideal_frame15, Cert.Norm.reference_frame15,
    Delta.kernel_frame16, Delta.ideal_frame16, Delta.reference_frame16,
    trivial, same_results, trivial, Mlp.same_results, trivial, Mlp.same_results3,
    trivial, Proj.same_results4, trivial, Proj.same_results5, trivial, Proj.same_results6,
    trivial, Delta.same_results7, trivial, Cert.Merge.same_results8, trivial, Attend.same_results9,
    trivial, Cross.same_results10, trivial, Cert.Norm.same_results11, trivial, Cert.Norm.same_results12,
    trivial, Cert.Norm.same_results13, trivial, Cert.Norm.same_results14, trivial, Cert.Norm.same_results15,
    trivial, Delta.same_results16⟩

end Cert.Proof

end
